-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDxAdd (m : (ℓ : Loc Cert.UpDxAdd.nD Cert.UpDxAdd.τ Cert.UpDxAdd.sig) → Buf (Elt Bits) ℓ) : Prop :=
  True

def Pre_UpDxAddIdeal (m : (ℓ : Loc Cert.UpDxAddIdeal.nD Cert.UpDxAddIdeal.τ Cert.UpDxAddIdeal.sig) → Buf (Elt Ideal) ℓ) : Prop :=
  True

def Pre_UpDxAddReferenceIdeal (m : (ℓ : Loc Cert.UpDxAddReferenceIdeal.nD Cert.UpDxAddReferenceIdeal.τ Cert.UpDxAddReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwReferenceIdeal (m : (ℓ : Loc Cert.QkvDwReferenceIdeal.nD Cert.QkvDwReferenceIdeal.τ Cert.QkvDwReferenceIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxReferenceIdeal (m : (ℓ : Loc Cert.QkvDxReferenceIdeal.nD Cert.QkvDxReferenceIdeal.τ Cert.QkvDxReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdReferenceIdeal (m : (ℓ : Loc Cert.QkvFwdReferenceIdeal.nD Cert.QkvFwdReferenceIdeal.τ Cert.QkvFwdReferenceIdeal.sig) → Buf (Elt Ideal) ℓ) : Prop :=
  True

def Pre_GbrFwd (m : (ℓ : Loc Cert.GbrFwd.nD Cert.GbrFwd.τ Cert.GbrFwd.sig) → Buf (Elt Bits) ℓ) : Prop :=
  True

def Pre_GbrFwdIdeal (m : (ℓ : Loc Cert.GbrFwdIdeal.nD Cert.GbrFwdIdeal.τ Cert.GbrFwdIdeal.sig) → Buf (Elt Ideal) ℓ) : Prop :=
  True

def Pre_GbrFwdReferenceIdeal (m : (ℓ : Loc Cert.GbrFwdReferenceIdeal.nD Cert.GbrFwdReferenceIdeal.τ Cert.GbrFwdReferenceIdeal.sig) → Buf (Elt Ideal) ℓ) : Prop :=
  True

def Pre_GbrDw (m : (ℓ : Loc Cert.GbrDw.nD Cert.GbrDw.τ Cert.GbrDw.sig) → Buf (Elt Bits) ℓ) : Prop :=
  True

def Pre_GbrDwIdeal (m : (ℓ : Loc Cert.GbrDwIdeal.nD Cert.GbrDwIdeal.τ Cert.GbrDwIdeal.sig) → Buf (Elt Ideal) ℓ) : Prop :=
  True

def Pre_GbrDwReferenceIdeal (m : (ℓ : Loc Cert.GbrDwReferenceIdeal.nD Cert.GbrDwReferenceIdeal.τ Cert.GbrDwReferenceIdeal.sig) → Buf (Elt Ideal) ℓ) : Prop :=
  True

def Pre_GbrDx (m : (ℓ : Loc Cert.GbrDx.nD Cert.GbrDx.τ Cert.GbrDx.sig) → Buf (Elt Bits) ℓ) : Prop :=
  True

def Pre_GbrDxIdeal (m : (ℓ : Loc Cert.GbrDxIdeal.nD Cert.GbrDxIdeal.τ Cert.GbrDxIdeal.sig) → Buf (Elt Ideal) ℓ) : Prop :=
  True

def Pre_GbrDxReferenceIdeal (m : (ℓ : Loc Cert.GbrDxReferenceIdeal.nD Cert.GbrDxReferenceIdeal.τ Cert.GbrDxReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_GaFwd (m : (ℓ : Loc Cert.GaFwd.nD Cert.GaFwd.τ Cert.GaFwd.sig) → Buf (Elt Bits) ℓ) : Prop :=
  True

def Pre_GaFwdIdeal (m : (ℓ : Loc Cert.GaFwdIdeal.nD Cert.GaFwdIdeal.τ Cert.GaFwdIdeal.sig) → Buf (Elt Ideal) ℓ) : Prop :=
  True

def Pre_GaFwdReferenceIdeal (m : (ℓ : Loc Cert.GaFwdReferenceIdeal.nD Cert.GaFwdReferenceIdeal.τ Cert.GaFwdReferenceIdeal.sig) → Buf (Elt Ideal) ℓ) : Prop :=
  True

def Pre_GaDx (m : (ℓ : Loc Cert.GaDx.nD Cert.GaDx.τ Cert.GaDx.sig) → Buf (Elt Bits) ℓ) : Prop :=
  True

def Pre_GaDxIdeal (m : (ℓ : Loc Cert.GaDxIdeal.nD Cert.GaDxIdeal.τ Cert.GaDxIdeal.sig) → Buf (Elt Ideal) ℓ) : Prop :=
  True

def Pre_GaDxReferenceIdeal (m : (ℓ : Loc Cert.GaDxReferenceIdeal.nD Cert.GaDxReferenceIdeal.τ Cert.GaDxReferenceIdeal.sig) → Buf (Elt Ideal) ℓ) : Prop :=
  True

def Pre_SmallFwd (m : (ℓ : Loc Cert.SmallFwd.nD Cert.SmallFwd.τ Cert.SmallFwd.sig) → Buf (Elt Bits) ℓ) : Prop :=
  True

def Pre_SmallFwdIdeal (m : (ℓ : Loc Cert.SmallFwdIdeal.nD Cert.SmallFwdIdeal.τ Cert.SmallFwdIdeal.sig) → Buf (Elt Ideal) ℓ) : Prop :=
  True

def Pre_SmallFwdReferenceIdeal (m : (ℓ : Loc Cert.SmallFwdReferenceIdeal.nD Cert.SmallFwdReferenceIdeal.τ Cert.SmallFwdReferenceIdeal.sig) → Buf (Elt Ideal) ℓ) : Prop :=
  True

def Pre_SmallDw (m : (ℓ : Loc Cert.SmallDw.nD Cert.SmallDw.τ Cert.SmallDw.sig) → Buf (Elt Bits) ℓ) : Prop :=
  True

def Pre_SmallDwIdeal (m : (ℓ : Loc Cert.SmallDwIdeal.nD Cert.SmallDwIdeal.τ Cert.SmallDwIdeal.sig) → Buf (Elt Ideal) ℓ) : Prop :=
  True

def Pre_SmallDwReferenceIdeal (m : (ℓ : Loc Cert.SmallDwReferenceIdeal.nD Cert.SmallDwReferenceIdeal.τ Cert.SmallDwReferenceIdeal.sig) → Buf (Elt Ideal) ℓ) : Prop :=
  True

def Pre_SmallDx (m : (ℓ : Loc Cert.SmallDx.nD Cert.SmallDx.τ Cert.SmallDx.sig) → Buf (Elt Bits) ℓ) : Prop :=
  True

def Pre_SmallDxIdeal (m : (ℓ : Loc Cert.SmallDxIdeal.nD Cert.SmallDxIdeal.τ Cert.SmallDxIdeal.sig) → Buf (Elt Ideal) ℓ) : Prop :=
  True

def Pre_SmallDxReferenceIdeal (m : (ℓ : Loc Cert.SmallDxReferenceIdeal.nD Cert.SmallDxReferenceIdeal.τ Cert.SmallDxReferenceIdeal.sig) → Buf (Elt Ideal) ℓ) : Prop :=
  True

def Pre_UqFwd (m : (ℓ : Loc Cert.UqFwd.nD Cert.UqFwd.τ Cert.UqFwd.sig) → Buf (Elt Bits) ℓ) : Prop :=
  True

def Pre_UqFwdIdeal (m : (ℓ : Loc Cert.UqFwdIdeal.nD Cert.UqFwdIdeal.τ Cert.UqFwdIdeal.sig) → Buf (Elt Ideal) ℓ) : Prop :=
  True

def Pre_UqFwdReferenceIdeal (m : (ℓ : Loc Cert.UqFwdReferenceIdeal.nD Cert.UqFwdReferenceIdeal.τ Cert.UqFwdReferenceIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwReferenceIdeal (m : (ℓ : Loc Cert.UqDwReferenceIdeal.nD Cert.UqDwReferenceIdeal.τ Cert.UqDwReferenceIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxReferenceIdeal (m : (ℓ : Loc Cert.UqDxReferenceIdeal.nD Cert.UqDxReferenceIdeal.τ Cert.UqDxReferenceIdeal.sig) → Buf (Elt Ideal) ℓ) : Prop :=
  True

def Pre_UkvFwd (m : (ℓ : Loc Cert.UkvFwd.nD Cert.UkvFwd.τ Cert.UkvFwd.sig) → Buf (Elt Bits) ℓ) : Prop :=
  True

def Pre_UkvFwdIdeal (m : (ℓ : Loc Cert.UkvFwdIdeal.nD Cert.UkvFwdIdeal.τ Cert.UkvFwdIdeal.sig) → Buf (Elt Ideal) ℓ) : Prop :=
  True

def Pre_UkvFwdReferenceIdeal (m : (ℓ : Loc Cert.UkvFwdReferenceIdeal.nD Cert.UkvFwdReferenceIdeal.τ Cert.UkvFwdReferenceIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxReferenceIdeal (m : (ℓ : Loc Cert.UkvDxReferenceIdeal.nD Cert.UkvDxReferenceIdeal.τ Cert.UkvDxReferenceIdeal.sig) → Buf (Elt Ideal) ℓ) : Prop :=
  True

def Pre_UkvDxAdd (m : (ℓ : Loc Cert.UkvDxAdd.nD Cert.UkvDxAdd.τ Cert.UkvDxAdd.sig) → Buf (Elt Bits) ℓ) : Prop :=
  True

def Pre_UkvDxAddIdeal (m : (ℓ : Loc Cert.UkvDxAddIdeal.nD Cert.UkvDxAddIdeal.τ Cert.UkvDxAddIdeal.sig) → Buf (Elt Ideal) ℓ) : Prop :=
  True

def Pre_UkvDxAddReferenceIdeal (m : (ℓ : Loc Cert.UkvDxAddReferenceIdeal.nD Cert.UkvDxAddReferenceIdeal.τ Cert.UkvDxAddReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_AbFwd (m : (ℓ : Loc Cert.AbFwd.nD Cert.AbFwd.τ Cert.AbFwd.sig) → Buf (Elt Bits) ℓ) : Prop :=
  True

def Pre_AbFwdIdeal (m : (ℓ : Loc Cert.AbFwdIdeal.nD Cert.AbFwdIdeal.τ Cert.AbFwdIdeal.sig) → Buf (Elt Ideal) ℓ) : Prop :=
  True

def Pre_AbFwdReferenceIdeal (m : (ℓ : Loc Cert.AbFwdReferenceIdeal.nD Cert.AbFwdReferenceIdeal.τ Cert.AbFwdReferenceIdeal.sig) → Buf (Elt Ideal) ℓ) : Prop :=
  True

def Pre_AbDw (m : (ℓ : Loc Cert.AbDw.nD Cert.AbDw.τ Cert.AbDw.sig) → Buf (Elt Bits) ℓ) : Prop :=
  True

def Pre_AbDwIdeal (m : (ℓ : Loc Cert.AbDwIdeal.nD Cert.AbDwIdeal.τ Cert.AbDwIdeal.sig) → Buf (Elt Ideal) ℓ) : Prop :=
  True

def Pre_AbDwReferenceIdeal (m : (ℓ : Loc Cert.AbDwReferenceIdeal.nD Cert.AbDwReferenceIdeal.τ Cert.AbDwReferenceIdeal.sig) → Buf (Elt Ideal) ℓ) : Prop :=
  True

def Pre_AbDx (m : (ℓ : Loc Cert.AbDx.nD Cert.AbDx.τ Cert.AbDx.sig) → Buf (Elt Bits) ℓ) : Prop :=
  True

def Pre_AbDxIdeal (m : (ℓ : Loc Cert.AbDxIdeal.nD Cert.AbDxIdeal.τ Cert.AbDxIdeal.sig) → Buf (Elt Ideal) ℓ) : Prop :=
  True

def Pre_AbDxReferenceIdeal (m : (ℓ : Loc Cert.AbDxReferenceIdeal.nD Cert.AbDxReferenceIdeal.τ Cert.AbDxReferenceIdeal.sig) → Buf (Elt Ideal) ℓ) : Prop :=
  True

def Pre_QpFwd (m : (ℓ : Loc Cert.QpFwd.nD Cert.QpFwd.τ Cert.QpFwd.sig) → Buf (Elt Bits) ℓ) : Prop :=
  True

def Pre_QpFwdIdeal (m : (ℓ : Loc Cert.QpFwdIdeal.nD Cert.QpFwdIdeal.τ Cert.QpFwdIdeal.sig) → Buf (Elt Ideal) ℓ) : Prop :=
  True

def Pre_QpFwdReferenceIdeal (m : (ℓ : Loc Cert.QpFwdReferenceIdeal.nD Cert.QpFwdReferenceIdeal.τ Cert.QpFwdReferenceIdeal.sig) → Buf (Elt Ideal) ℓ) : Prop :=
  True

def Pre_UqDxAdd (m : (ℓ : Loc Cert.UqDxAdd.nD Cert.UqDxAdd.τ Cert.UqDxAdd.sig) → Buf (Elt Bits) ℓ) : Prop :=
  True

def Pre_UqDxAddIdeal (m : (ℓ : Loc Cert.UqDxAddIdeal.nD Cert.UqDxAddIdeal.τ Cert.UqDxAddIdeal.sig) → Buf (Elt Ideal) ℓ) : Prop :=
  True

def Pre_UqDxAddReferenceIdeal (m : (ℓ : Loc Cert.UqDxAddReferenceIdeal.nD Cert.UqDxAddReferenceIdeal.τ Cert.UqDxAddReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQReferenceIdeal (m : (ℓ : Loc Cert.AdamQReferenceIdeal.nD Cert.AdamQReferenceIdeal.τ Cert.AdamQReferenceIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCReferenceIdeal (m : (ℓ : Loc Cert.AdamCReferenceIdeal.nD Cert.AdamCReferenceIdeal.τ Cert.AdamCReferenceIdeal.sig) → Buf (Elt Ideal) ℓ) : Prop :=
  True

def Pre_AdamV (m : (ℓ : Loc Cert.AdamV.nD Cert.AdamV.τ Cert.AdamV.sig) → Buf (Elt Bits) ℓ) : Prop :=
  True

def Pre_AdamVIdeal (m : (ℓ : Loc Cert.AdamVIdeal.nD Cert.AdamVIdeal.τ Cert.AdamVIdeal.sig) → Buf (Elt Ideal) ℓ) : Prop :=
  True

def Pre_AdamVReferenceIdeal (m : (ℓ : Loc Cert.AdamVReferenceIdeal.nD Cert.AdamVReferenceIdeal.τ Cert.AdamVReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_RopeFwd (m : (ℓ : Loc Cert.RopeFwd.nD Cert.RopeFwd.τ Cert.RopeFwd.sig) → Buf (Elt Bits) ℓ) : Prop :=
  True

def Pre_RopeFwdIdeal (m : (ℓ : Loc Cert.RopeFwdIdeal.nD Cert.RopeFwdIdeal.τ Cert.RopeFwdIdeal.sig) → Buf (Elt Ideal) ℓ) : Prop :=
  True

def Pre_RopeFwdReferenceIdeal (m : (ℓ : Loc Cert.RopeFwdReferenceIdeal.nD Cert.RopeFwdReferenceIdeal.τ Cert.RopeFwdReferenceIdeal.sig) → Buf (Elt Ideal) ℓ) : Prop :=
  True

def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdReferenceIdeal (m : (ℓ : Loc Cert.RopeBwdReferenceIdeal.nD Cert.RopeBwdReferenceIdeal.τ Cert.RopeBwdReferenceIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdReferenceIdeal (m : (ℓ : Loc Cert.PrepFwdReferenceIdeal.nD Cert.PrepFwdReferenceIdeal.τ Cert.PrepFwdReferenceIdeal.sig) → Buf (Elt Ideal) ℓ) : Prop :=
  True

def Pre_GdnOutFwd (m : (ℓ : Loc Cert.GdnOutFwd.nD Cert.GdnOutFwd.τ Cert.GdnOutFwd.sig) → Buf (Elt Bits) ℓ) : Prop :=
  True

def Pre_GdnOutFwdIdeal (m : (ℓ : Loc Cert.GdnOutFwdIdeal.nD Cert.GdnOutFwdIdeal.τ Cert.GdnOutFwdIdeal.sig) → Buf (Elt Ideal) ℓ) : Prop :=
  True

def Pre_GdnOutFwdReferenceIdeal (m : (ℓ : Loc Cert.GdnOutFwdReferenceIdeal.nD Cert.GdnOutFwdReferenceIdeal.τ Cert.GdnOutFwdReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_UpDxAdd [hUpDxAdd : Cert.UpDxAdd.Facts] : Prop :=
  ∀ (m : (ℓ : Loc Cert.UpDxAdd.nD Cert.UpDxAdd.τ Cert.UpDxAdd.sig) → Buf (Elt Bits) ℓ) (g : Dev Cert.UpDxAdd.nD → PrngReg), Pre_UpDxAdd m →
    θ_run (Cert.UpDxAdd.defs (F := Bits)) (onTc (τ := Cert.UpDxAdd.τ) (Cert.UpDxAdd.main (F := Bits))) ⟨m, fun _ => 0, g⟩ (fun r => (∀ c : Dev Cert.UpDxAdd.nD,
      r.2.mem ((c.tc : Thread Cert.UpDxAdd.nD Cert.UpDxAdd.τ).loc Cert.UpDxAdd.main_arg0) = m ((c.tc : Thread Cert.UpDxAdd.nD Cert.UpDxAdd.τ).loc Cert.UpDxAdd.main_arg0)
      ∧ r.2.mem ((c.tc : Thread Cert.UpDxAdd.nD Cert.UpDxAdd.τ).loc Cert.UpDxAdd.main_arg1) = m ((c.tc : Thread Cert.UpDxAdd.nD Cert.UpDxAdd.τ).loc Cert.UpDxAdd.main_arg1)
      ∧ r.2.mem ((c.tc : Thread Cert.UpDxAdd.nD Cert.UpDxAdd.τ).loc Cert.UpDxAdd.main_arg2) = m ((c.tc : Thread Cert.UpDxAdd.nD Cert.UpDxAdd.τ).loc Cert.UpDxAdd.main_arg2)
      ∧ r.2.mem ((c.tc : Thread Cert.UpDxAdd.nD Cert.UpDxAdd.τ).loc Cert.UpDxAdd.main_arg3) = m ((c.tc : Thread Cert.UpDxAdd.nD Cert.UpDxAdd.τ).loc Cert.UpDxAdd.main_arg3))
      ∧ r.2.sem = fun _ => 0)

def quiescent_UpDxAddIdeal [hUpDxAddIdeal : Cert.UpDxAddIdeal.Facts] : Prop :=
  ∀ (m : (ℓ : Loc Cert.UpDxAddIdeal.nD Cert.UpDxAddIdeal.τ Cert.UpDxAddIdeal.sig) → Buf (Elt Ideal) ℓ) (g : Dev Cert.UpDxAddIdeal.nD → PrngReg), Pre_UpDxAddIdeal m →
    θ_run (Cert.UpDxAddIdeal.defs (F := Ideal)) (onTc (τ := Cert.UpDxAddIdeal.τ) (Cert.UpDxAddIdeal.main (F := Ideal))) ⟨m, fun _ => 0, g⟩ (fun r => (∀ c : Dev Cert.UpDxAddIdeal.nD,
      r.2.mem ((c.tc : Thread Cert.UpDxAddIdeal.nD Cert.UpDxAddIdeal.τ).loc Cert.UpDxAddIdeal.main_arg0) = m ((c.tc : Thread Cert.UpDxAddIdeal.nD Cert.UpDxAddIdeal.τ).loc Cert.UpDxAddIdeal.main_arg0)
      ∧ r.2.mem ((c.tc : Thread Cert.UpDxAddIdeal.nD Cert.UpDxAddIdeal.τ).loc Cert.UpDxAddIdeal.main_arg1) = m ((c.tc : Thread Cert.UpDxAddIdeal.nD Cert.UpDxAddIdeal.τ).loc Cert.UpDxAddIdeal.main_arg1)
      ∧ r.2.mem ((c.tc : Thread Cert.UpDxAddIdeal.nD Cert.UpDxAddIdeal.τ).loc Cert.UpDxAddIdeal.main_arg2) = m ((c.tc : Thread Cert.UpDxAddIdeal.nD Cert.UpDxAddIdeal.τ).loc Cert.UpDxAddIdeal.main_arg2)
      ∧ r.2.mem ((c.tc : Thread Cert.UpDxAddIdeal.nD Cert.UpDxAddIdeal.τ).loc Cert.UpDxAddIdeal.main_arg3) = m ((c.tc : Thread Cert.UpDxAddIdeal.nD Cert.UpDxAddIdeal.τ).loc Cert.UpDxAddIdeal.main_arg3))
      ∧ r.2.sem = fun _ => 0)

def quiescent_UpDxAddReferenceIdeal [hUpDxAddReferenceIdeal : Cert.UpDxAddReferenceIdeal.Facts] : Prop :=
  ∀ (m : (ℓ : Loc Cert.UpDxAddReferenceIdeal.nD Cert.UpDxAddReferenceIdeal.τ Cert.UpDxAddReferenceIdeal.sig) → Buf (Elt Ideal) ℓ) (g : Dev Cert.UpDxAddReferenceIdeal.nD → PrngReg), Pre_UpDxAddReferenceIdeal m →
    θ_run (Cert.UpDxAddReferenceIdeal.defs (F := Ideal)) (onTc (τ := Cert.UpDxAddReferenceIdeal.τ) (Cert.UpDxAddReferenceIdeal.main (F := Ideal))) ⟨m, fun _ => 0, g⟩ (fun r => (∀ c : Dev Cert.UpDxAddReferenceIdeal.nD,
      r.2.mem ((c.tc : Thread Cert.UpDxAddReferenceIdeal.nD Cert.UpDxAddReferenceIdeal.τ).loc Cert.UpDxAddReferenceIdeal.main_arg0) = m ((c.tc : Thread Cert.UpDxAddReferenceIdeal.nD Cert.UpDxAddReferenceIdeal.τ).loc Cert.UpDxAddReferenceIdeal.main_arg0)
      ∧ r.2.mem ((c.tc : Thread Cert.UpDxAddReferenceIdeal.nD Cert.UpDxAddReferenceIdeal.τ).loc Cert.UpDxAddReferenceIdeal.main_arg1) = m ((c.tc : Thread Cert.UpDxAddReferenceIdeal.nD Cert.UpDxAddReferenceIdeal.τ).loc Cert.UpDxAddReferenceIdeal.main_arg1)
      ∧ r.2.mem ((c.tc : Thread Cert.UpDxAddReferenceIdeal.nD Cert.UpDxAddReferenceIdeal.τ).loc Cert.UpDxAddReferenceIdeal.main_arg2) = m ((c.tc : Thread Cert.UpDxAddReferenceIdeal.nD Cert.UpDxAddReferenceIdeal.τ).loc Cert.UpDxAddReferenceIdeal.main_arg2)
      ∧ r.2.mem ((c.tc : Thread Cert.UpDxAddReferenceIdeal.nD Cert.UpDxAddReferenceIdeal.τ).loc Cert.UpDxAddReferenceIdeal.main_arg3) = m ((c.tc : Thread Cert.UpDxAddReferenceIdeal.nD Cert.UpDxAddReferenceIdeal.τ).loc Cert.UpDxAddReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ r.2.sem = fun _ => 0)

def quiescent_QkvDwReferenceIdeal [hQkvDwReferenceIdeal : Cert.QkvDwReferenceIdeal.Facts] : Prop :=
  ∀ (m : (ℓ : Loc Cert.QkvDwReferenceIdeal.nD Cert.QkvDwReferenceIdeal.τ Cert.QkvDwReferenceIdeal.sig) → Buf (Elt Ideal) ℓ) (g : Dev Cert.QkvDwReferenceIdeal.nD → PrngReg), Pre_QkvDwReferenceIdeal m →
    θ_run (Cert.QkvDwReferenceIdeal.defs (F := Ideal)) (onTc (τ := Cert.QkvDwReferenceIdeal.τ) (Cert.QkvDwReferenceIdeal.main (F := Ideal))) ⟨m, fun _ => 0, g⟩ (fun r => (∀ c : Dev Cert.QkvDwReferenceIdeal.nD,
      r.2.mem ((c.tc : Thread Cert.QkvDwReferenceIdeal.nD Cert.QkvDwReferenceIdeal.τ).loc Cert.QkvDwReferenceIdeal.main_arg0) = m ((c.tc : Thread Cert.QkvDwReferenceIdeal.nD Cert.QkvDwReferenceIdeal.τ).loc Cert.QkvDwReferenceIdeal.main_arg0)
      ∧ r.2.mem ((c.tc : Thread Cert.QkvDwReferenceIdeal.nD Cert.QkvDwReferenceIdeal.τ).loc Cert.QkvDwReferenceIdeal.main_arg1) = m ((c.tc : Thread Cert.QkvDwReferenceIdeal.nD Cert.QkvDwReferenceIdeal.τ).loc Cert.QkvDwReferenceIdeal.main_arg1)
      ∧ r.2.mem ((c.tc : Thread Cert.QkvDwReferenceIdeal.nD Cert.QkvDwReferenceIdeal.τ).loc Cert.QkvDwReferenceIdeal.main_arg2) = m ((c.tc : Thread Cert.QkvDwReferenceIdeal.nD Cert.QkvDwReferenceIdeal.τ).loc Cert.QkvDwReferenceIdeal.main_arg2))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ r.2.sem = fun _ => 0)

def quiescent_QkvDxReferenceIdeal [hQkvDxReferenceIdeal : Cert.QkvDxReferenceIdeal.Facts] : Prop :=
  ∀ (m : (ℓ : Loc Cert.QkvDxReferenceIdeal.nD Cert.QkvDxReferenceIdeal.τ Cert.QkvDxReferenceIdeal.sig) → Buf (Elt Ideal) ℓ) (g : Dev Cert.QkvDxReferenceIdeal.nD → PrngReg), Pre_QkvDxReferenceIdeal m →
    θ_run (Cert.QkvDxReferenceIdeal.defs (F := Ideal)) (onTc (τ := Cert.QkvDxReferenceIdeal.τ) (Cert.QkvDxReferenceIdeal.main (F := Ideal))) ⟨m, fun _ => 0, g⟩ (fun r => (∀ c : Dev Cert.QkvDxReferenceIdeal.nD,
      r.2.mem ((c.tc : Thread Cert.QkvDxReferenceIdeal.nD Cert.QkvDxReferenceIdeal.τ).loc Cert.QkvDxReferenceIdeal.main_arg0) = m ((c.tc : Thread Cert.QkvDxReferenceIdeal.nD Cert.QkvDxReferenceIdeal.τ).loc Cert.QkvDxReferenceIdeal.main_arg0)
      ∧ r.2.mem ((c.tc : Thread Cert.QkvDxReferenceIdeal.nD Cert.QkvDxReferenceIdeal.τ).loc Cert.QkvDxReferenceIdeal.main_arg1) = m ((c.tc : Thread Cert.QkvDxReferenceIdeal.nD Cert.QkvDxReferenceIdeal.τ).loc Cert.QkvDxReferenceIdeal.main_arg1)
      ∧ r.2.mem ((c.tc : Thread Cert.QkvDxReferenceIdeal.nD Cert.QkvDxReferenceIdeal.τ).loc Cert.QkvDxReferenceIdeal.main_arg2) = m ((c.tc : Thread Cert.QkvDxReferenceIdeal.nD Cert.QkvDxReferenceIdeal.τ).loc Cert.QkvDxReferenceIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ r.2.sem = fun _ => 0)

def quiescent_QkvFwdReferenceIdeal [hQkvFwdReferenceIdeal : Cert.QkvFwdReferenceIdeal.Facts] : Prop :=
  ∀ (m : (ℓ : Loc Cert.QkvFwdReferenceIdeal.nD Cert.QkvFwdReferenceIdeal.τ Cert.QkvFwdReferenceIdeal.sig) → Buf (Elt Ideal) ℓ) (g : Dev Cert.QkvFwdReferenceIdeal.nD → PrngReg), Pre_QkvFwdReferenceIdeal m →
    θ_run (Cert.QkvFwdReferenceIdeal.defs (F := Ideal)) (onTc (τ := Cert.QkvFwdReferenceIdeal.τ) (Cert.QkvFwdReferenceIdeal.main (F := Ideal))) ⟨m, fun _ => 0, g⟩ (fun r => (∀ c : Dev Cert.QkvFwdReferenceIdeal.nD,
      r.2.mem ((c.tc : Thread Cert.QkvFwdReferenceIdeal.nD Cert.QkvFwdReferenceIdeal.τ).loc Cert.QkvFwdReferenceIdeal.main_arg0) = m ((c.tc : Thread Cert.QkvFwdReferenceIdeal.nD Cert.QkvFwdReferenceIdeal.τ).loc Cert.QkvFwdReferenceIdeal.main_arg0)
      ∧ r.2.mem ((c.tc : Thread Cert.QkvFwdReferenceIdeal.nD Cert.QkvFwdReferenceIdeal.τ).loc Cert.QkvFwdReferenceIdeal.main_arg1) = m ((c.tc : Thread Cert.QkvFwdReferenceIdeal.nD Cert.QkvFwdReferenceIdeal.τ).loc Cert.QkvFwdReferenceIdeal.main_arg1))
      ∧ r.2.sem = fun _ => 0)

def quiescent_GbrFwd [hGbrFwd : Cert.GbrFwd.Facts] : Prop :=
  ∀ (m : (ℓ : Loc Cert.GbrFwd.nD Cert.GbrFwd.τ Cert.GbrFwd.sig) → Buf (Elt Bits) ℓ) (g : Dev Cert.GbrFwd.nD → PrngReg), Pre_GbrFwd m →
    θ_run (Cert.GbrFwd.defs (F := Bits)) (onTc (τ := Cert.GbrFwd.τ) (Cert.GbrFwd.main (F := Bits))) ⟨m, fun _ => 0, g⟩ (fun r => (∀ c : Dev Cert.GbrFwd.nD,
      r.2.mem ((c.tc : Thread Cert.GbrFwd.nD Cert.GbrFwd.τ).loc Cert.GbrFwd.main_arg0) = m ((c.tc : Thread Cert.GbrFwd.nD Cert.GbrFwd.τ).loc Cert.GbrFwd.main_arg0)
      ∧ r.2.mem ((c.tc : Thread Cert.GbrFwd.nD Cert.GbrFwd.τ).loc Cert.GbrFwd.main_arg1) = m ((c.tc : Thread Cert.GbrFwd.nD Cert.GbrFwd.τ).loc Cert.GbrFwd.main_arg1))
      ∧ r.2.sem = fun _ => 0)

def quiescent_GbrFwdIdeal [hGbrFwdIdeal : Cert.GbrFwdIdeal.Facts] : Prop :=
  ∀ (m : (ℓ : Loc Cert.GbrFwdIdeal.nD Cert.GbrFwdIdeal.τ Cert.GbrFwdIdeal.sig) → Buf (Elt Ideal) ℓ) (g : Dev Cert.GbrFwdIdeal.nD → PrngReg), Pre_GbrFwdIdeal m →
    θ_run (Cert.GbrFwdIdeal.defs (F := Ideal)) (onTc (τ := Cert.GbrFwdIdeal.τ) (Cert.GbrFwdIdeal.main (F := Ideal))) ⟨m, fun _ => 0, g⟩ (fun r => (∀ c : Dev Cert.GbrFwdIdeal.nD,
      r.2.mem ((c.tc : Thread Cert.GbrFwdIdeal.nD Cert.GbrFwdIdeal.τ).loc Cert.GbrFwdIdeal.main_arg0) = m ((c.tc : Thread Cert.GbrFwdIdeal.nD Cert.GbrFwdIdeal.τ).loc Cert.GbrFwdIdeal.main_arg0)
      ∧ r.2.mem ((c.tc : Thread Cert.GbrFwdIdeal.nD Cert.GbrFwdIdeal.τ).loc Cert.GbrFwdIdeal.main_arg1) = m ((c.tc : Thread Cert.GbrFwdIdeal.nD Cert.GbrFwdIdeal.τ).loc Cert.GbrFwdIdeal.main_arg1))
      ∧ r.2.sem = fun _ => 0)

def quiescent_GbrFwdReferenceIdeal [hGbrFwdReferenceIdeal : Cert.GbrFwdReferenceIdeal.Facts] : Prop :=
  ∀ (m : (ℓ : Loc Cert.GbrFwdReferenceIdeal.nD Cert.GbrFwdReferenceIdeal.τ Cert.GbrFwdReferenceIdeal.sig) → Buf (Elt Ideal) ℓ) (g : Dev Cert.GbrFwdReferenceIdeal.nD → PrngReg), Pre_GbrFwdReferenceIdeal m →
    θ_run (Cert.GbrFwdReferenceIdeal.defs (F := Ideal)) (onTc (τ := Cert.GbrFwdReferenceIdeal.τ) (Cert.GbrFwdReferenceIdeal.main (F := Ideal))) ⟨m, fun _ => 0, g⟩ (fun r => (∀ c : Dev Cert.GbrFwdReferenceIdeal.nD,
      r.2.mem ((c.tc : Thread Cert.GbrFwdReferenceIdeal.nD Cert.GbrFwdReferenceIdeal.τ).loc Cert.GbrFwdReferenceIdeal.main_arg0) = m ((c.tc : Thread Cert.GbrFwdReferenceIdeal.nD Cert.GbrFwdReferenceIdeal.τ).loc Cert.GbrFwdReferenceIdeal.main_arg0)
      ∧ r.2.mem ((c.tc : Thread Cert.GbrFwdReferenceIdeal.nD Cert.GbrFwdReferenceIdeal.τ).loc Cert.GbrFwdReferenceIdeal.main_arg1) = m ((c.tc : Thread Cert.GbrFwdReferenceIdeal.nD Cert.GbrFwdReferenceIdeal.τ).loc Cert.GbrFwdReferenceIdeal.main_arg1))
      ∧ r.2.sem = fun _ => 0)

def quiescent_GbrDw [hGbrDw : Cert.GbrDw.Facts] : Prop :=
  ∀ (m : (ℓ : Loc Cert.GbrDw.nD Cert.GbrDw.τ Cert.GbrDw.sig) → Buf (Elt Bits) ℓ) (g : Dev Cert.GbrDw.nD → PrngReg), Pre_GbrDw m →
    θ_run (Cert.GbrDw.defs (F := Bits)) (onTc (τ := Cert.GbrDw.τ) (Cert.GbrDw.main (F := Bits))) ⟨m, fun _ => 0, g⟩ (fun r => (∀ c : Dev Cert.GbrDw.nD,
      r.2.mem ((c.tc : Thread Cert.GbrDw.nD Cert.GbrDw.τ).loc Cert.GbrDw.main_arg0) = m ((c.tc : Thread Cert.GbrDw.nD Cert.GbrDw.τ).loc Cert.GbrDw.main_arg0)
      ∧ r.2.mem ((c.tc : Thread Cert.GbrDw.nD Cert.GbrDw.τ).loc Cert.GbrDw.main_arg1) = m ((c.tc : Thread Cert.GbrDw.nD Cert.GbrDw.τ).loc Cert.GbrDw.main_arg1)
      ∧ r.2.mem ((c.tc : Thread Cert.GbrDw.nD Cert.GbrDw.τ).loc Cert.GbrDw.main_arg2) = m ((c.tc : Thread Cert.GbrDw.nD Cert.GbrDw.τ).loc Cert.GbrDw.main_arg2))
      ∧ r.2.sem = fun _ => 0)

def quiescent_GbrDwIdeal [hGbrDwIdeal : Cert.GbrDwIdeal.Facts] : Prop :=
  ∀ (m : (ℓ : Loc Cert.GbrDwIdeal.nD Cert.GbrDwIdeal.τ Cert.GbrDwIdeal.sig) → Buf (Elt Ideal) ℓ) (g : Dev Cert.GbrDwIdeal.nD → PrngReg), Pre_GbrDwIdeal m →
    θ_run (Cert.GbrDwIdeal.defs (F := Ideal)) (onTc (τ := Cert.GbrDwIdeal.τ) (Cert.GbrDwIdeal.main (F := Ideal))) ⟨m, fun _ => 0, g⟩ (fun r => (∀ c : Dev Cert.GbrDwIdeal.nD,
      r.2.mem ((c.tc : Thread Cert.GbrDwIdeal.nD Cert.GbrDwIdeal.τ).loc Cert.GbrDwIdeal.main_arg0) = m ((c.tc : Thread Cert.GbrDwIdeal.nD Cert.GbrDwIdeal.τ).loc Cert.GbrDwIdeal.main_arg0)
      ∧ r.2.mem ((c.tc : Thread Cert.GbrDwIdeal.nD Cert.GbrDwIdeal.τ).loc Cert.GbrDwIdeal.main_arg1) = m ((c.tc : Thread Cert.GbrDwIdeal.nD Cert.GbrDwIdeal.τ).loc Cert.GbrDwIdeal.main_arg1)
      ∧ r.2.mem ((c.tc : Thread Cert.GbrDwIdeal.nD Cert.GbrDwIdeal.τ).loc Cert.GbrDwIdeal.main_arg2) = m ((c.tc : Thread Cert.GbrDwIdeal.nD Cert.GbrDwIdeal.τ).loc Cert.GbrDwIdeal.main_arg2))
      ∧ r.2.sem = fun _ => 0)

def quiescent_GbrDwReferenceIdeal [hGbrDwReferenceIdeal : Cert.GbrDwReferenceIdeal.Facts] : Prop :=
  ∀ (m : (ℓ : Loc Cert.GbrDwReferenceIdeal.nD Cert.GbrDwReferenceIdeal.τ Cert.GbrDwReferenceIdeal.sig) → Buf (Elt Ideal) ℓ) (g : Dev Cert.GbrDwReferenceIdeal.nD → PrngReg), Pre_GbrDwReferenceIdeal m →
    θ_run (Cert.GbrDwReferenceIdeal.defs (F := Ideal)) (onTc (τ := Cert.GbrDwReferenceIdeal.τ) (Cert.GbrDwReferenceIdeal.main (F := Ideal))) ⟨m, fun _ => 0, g⟩ (fun r => (∀ c : Dev Cert.GbrDwReferenceIdeal.nD,
      r.2.mem ((c.tc : Thread Cert.GbrDwReferenceIdeal.nD Cert.GbrDwReferenceIdeal.τ).loc Cert.GbrDwReferenceIdeal.main_arg0) = m ((c.tc : Thread Cert.GbrDwReferenceIdeal.nD Cert.GbrDwReferenceIdeal.τ).loc Cert.GbrDwReferenceIdeal.main_arg0)
      ∧ r.2.mem ((c.tc : Thread Cert.GbrDwReferenceIdeal.nD Cert.GbrDwReferenceIdeal.τ).loc Cert.GbrDwReferenceIdeal.main_arg1) = m ((c.tc : Thread Cert.GbrDwReferenceIdeal.nD Cert.GbrDwReferenceIdeal.τ).loc Cert.GbrDwReferenceIdeal.main_arg1)
      ∧ r.2.mem ((c.tc : Thread Cert.GbrDwReferenceIdeal.nD Cert.GbrDwReferenceIdeal.τ).loc Cert.GbrDwReferenceIdeal.main_arg2) = m ((c.tc : Thread Cert.GbrDwReferenceIdeal.nD Cert.GbrDwReferenceIdeal.τ).loc Cert.GbrDwReferenceIdeal.main_arg2))
      ∧ r.2.sem = fun _ => 0)

def quiescent_GbrDx [hGbrDx : Cert.GbrDx.Facts] : Prop :=
  ∀ (m : (ℓ : Loc Cert.GbrDx.nD Cert.GbrDx.τ Cert.GbrDx.sig) → Buf (Elt Bits) ℓ) (g : Dev Cert.GbrDx.nD → PrngReg), Pre_GbrDx m →
    θ_run (Cert.GbrDx.defs (F := Bits)) (onTc (τ := Cert.GbrDx.τ) (Cert.GbrDx.main (F := Bits))) ⟨m, fun _ => 0, g⟩ (fun r => (∀ c : Dev Cert.GbrDx.nD,
      r.2.mem ((c.tc : Thread Cert.GbrDx.nD Cert.GbrDx.τ).loc Cert.GbrDx.main_arg0) = m ((c.tc : Thread Cert.GbrDx.nD Cert.GbrDx.τ).loc Cert.GbrDx.main_arg0)
      ∧ r.2.mem ((c.tc : Thread Cert.GbrDx.nD Cert.GbrDx.τ).loc Cert.GbrDx.main_arg1) = m ((c.tc : Thread Cert.GbrDx.nD Cert.GbrDx.τ).loc Cert.GbrDx.main_arg1)
      ∧ r.2.mem ((c.tc : Thread Cert.GbrDx.nD Cert.GbrDx.τ).loc Cert.GbrDx.main_arg2) = m ((c.tc : Thread Cert.GbrDx.nD Cert.GbrDx.τ).loc Cert.GbrDx.main_arg2)
      ∧ r.2.mem ((c.tc : Thread Cert.GbrDx.nD Cert.GbrDx.τ).loc Cert.GbrDx.main_arg3) = m ((c.tc : Thread Cert.GbrDx.nD Cert.GbrDx.τ).loc Cert.GbrDx.main_arg3))
      ∧ r.2.sem = fun _ => 0)

def quiescent_GbrDxIdeal [hGbrDxIdeal : Cert.GbrDxIdeal.Facts] : Prop :=
  ∀ (m : (ℓ : Loc Cert.GbrDxIdeal.nD Cert.GbrDxIdeal.τ Cert.GbrDxIdeal.sig) → Buf (Elt Ideal) ℓ) (g : Dev Cert.GbrDxIdeal.nD → PrngReg), Pre_GbrDxIdeal m →
    θ_run (Cert.GbrDxIdeal.defs (F := Ideal)) (onTc (τ := Cert.GbrDxIdeal.τ) (Cert.GbrDxIdeal.main (F := Ideal))) ⟨m, fun _ => 0, g⟩ (fun r => (∀ c : Dev Cert.GbrDxIdeal.nD,
      r.2.mem ((c.tc : Thread Cert.GbrDxIdeal.nD Cert.GbrDxIdeal.τ).loc Cert.GbrDxIdeal.main_arg0) = m ((c.tc : Thread Cert.GbrDxIdeal.nD Cert.GbrDxIdeal.τ).loc Cert.GbrDxIdeal.main_arg0)
      ∧ r.2.mem ((c.tc : Thread Cert.GbrDxIdeal.nD Cert.GbrDxIdeal.τ).loc Cert.GbrDxIdeal.main_arg1) = m ((c.tc : Thread Cert.GbrDxIdeal.nD Cert.GbrDxIdeal.τ).loc Cert.GbrDxIdeal.main_arg1)
      ∧ r.2.mem ((c.tc : Thread Cert.GbrDxIdeal.nD Cert.GbrDxIdeal.τ).loc Cert.GbrDxIdeal.main_arg2) = m ((c.tc : Thread Cert.GbrDxIdeal.nD Cert.GbrDxIdeal.τ).loc Cert.GbrDxIdeal.main_arg2)
      ∧ r.2.mem ((c.tc : Thread Cert.GbrDxIdeal.nD Cert.GbrDxIdeal.τ).loc Cert.GbrDxIdeal.main_arg3) = m ((c.tc : Thread Cert.GbrDxIdeal.nD Cert.GbrDxIdeal.τ).loc Cert.GbrDxIdeal.main_arg3))
      ∧ r.2.sem = fun _ => 0)

def quiescent_GbrDxReferenceIdeal [hGbrDxReferenceIdeal : Cert.GbrDxReferenceIdeal.Facts] : Prop :=
  ∀ (m : (ℓ : Loc Cert.GbrDxReferenceIdeal.nD Cert.GbrDxReferenceIdeal.τ Cert.GbrDxReferenceIdeal.sig) → Buf (Elt Ideal) ℓ) (g : Dev Cert.GbrDxReferenceIdeal.nD → PrngReg), Pre_GbrDxReferenceIdeal m →
    θ_run (Cert.GbrDxReferenceIdeal.defs (F := Ideal)) (onTc (τ := Cert.GbrDxReferenceIdeal.τ) (Cert.GbrDxReferenceIdeal.main (F := Ideal))) ⟨m, fun _ => 0, g⟩ (fun r => (∀ c : Dev Cert.GbrDxReferenceIdeal.nD,
      r.2.mem ((c.tc : Thread Cert.GbrDxReferenceIdeal.nD Cert.GbrDxReferenceIdeal.τ).loc Cert.GbrDxReferenceIdeal.main_arg0) = m ((c.tc : Thread Cert.GbrDxReferenceIdeal.nD Cert.GbrDxReferenceIdeal.τ).loc Cert.GbrDxReferenceIdeal.main_arg0)
      ∧ r.2.mem ((c.tc : Thread Cert.GbrDxReferenceIdeal.nD Cert.GbrDxReferenceIdeal.τ).loc Cert.GbrDxReferenceIdeal.main_arg1) = m ((c.tc : Thread Cert.GbrDxReferenceIdeal.nD Cert.GbrDxReferenceIdeal.τ).loc Cert.GbrDxReferenceIdeal.main_arg1)
      ∧ r.2.mem ((c.tc : Thread Cert.GbrDxReferenceIdeal.nD Cert.GbrDxReferenceIdeal.τ).loc Cert.GbrDxReferenceIdeal.main_arg2) = m ((c.tc : Thread Cert.GbrDxReferenceIdeal.nD Cert.GbrDxReferenceIdeal.τ).loc Cert.GbrDxReferenceIdeal.main_arg2)
      ∧ r.2.mem ((c.tc : Thread Cert.GbrDxReferenceIdeal.nD Cert.GbrDxReferenceIdeal.τ).loc Cert.GbrDxReferenceIdeal.main_arg3) = m ((c.tc : Thread Cert.GbrDxReferenceIdeal.nD Cert.GbrDxReferenceIdeal.τ).loc Cert.GbrDxReferenceIdeal.main_arg3))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1)
      ∧ r.2.mem ((c.tc : Thread Cert.MixDwReferenceIdeal.nD Cert.MixDwReferenceIdeal.τ).loc Cert.MixDwReferenceIdeal.main_arg2) = m ((c.tc : Thread Cert.MixDwReferenceIdeal.nD Cert.MixDwReferenceIdeal.τ).loc Cert.MixDwReferenceIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1)
      ∧ r.2.mem ((c.tc : Thread Cert.MixDxReferenceIdeal.nD Cert.MixDxReferenceIdeal.τ).loc Cert.MixDxReferenceIdeal.main_arg2) = m ((c.tc : Thread Cert.MixDxReferenceIdeal.nD Cert.MixDxReferenceIdeal.τ).loc Cert.MixDxReferenceIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_GaFwd [hGaFwd : Cert.GaFwd.Facts] : Prop :=
  ∀ (m : (ℓ : Loc Cert.GaFwd.nD Cert.GaFwd.τ Cert.GaFwd.sig) → Buf (Elt Bits) ℓ) (g : Dev Cert.GaFwd.nD → PrngReg), Pre_GaFwd m →
    θ_run (Cert.GaFwd.defs (F := Bits)) (onTc (τ := Cert.GaFwd.τ) (Cert.GaFwd.main (F := Bits))) ⟨m, fun _ => 0, g⟩ (fun r => (∀ c : Dev Cert.GaFwd.nD,
      r.2.mem ((c.tc : Thread Cert.GaFwd.nD Cert.GaFwd.τ).loc Cert.GaFwd.main_arg0) = m ((c.tc : Thread Cert.GaFwd.nD Cert.GaFwd.τ).loc Cert.GaFwd.main_arg0)
      ∧ r.2.mem ((c.tc : Thread Cert.GaFwd.nD Cert.GaFwd.τ).loc Cert.GaFwd.main_arg1) = m ((c.tc : Thread Cert.GaFwd.nD Cert.GaFwd.τ).loc Cert.GaFwd.main_arg1))
      ∧ r.2.sem = fun _ => 0)

def quiescent_GaFwdIdeal [hGaFwdIdeal : Cert.GaFwdIdeal.Facts] : Prop :=
  ∀ (m : (ℓ : Loc Cert.GaFwdIdeal.nD Cert.GaFwdIdeal.τ Cert.GaFwdIdeal.sig) → Buf (Elt Ideal) ℓ) (g : Dev Cert.GaFwdIdeal.nD → PrngReg), Pre_GaFwdIdeal m →
    θ_run (Cert.GaFwdIdeal.defs (F := Ideal)) (onTc (τ := Cert.GaFwdIdeal.τ) (Cert.GaFwdIdeal.main (F := Ideal))) ⟨m, fun _ => 0, g⟩ (fun r => (∀ c : Dev Cert.GaFwdIdeal.nD,
      r.2.mem ((c.tc : Thread Cert.GaFwdIdeal.nD Cert.GaFwdIdeal.τ).loc Cert.GaFwdIdeal.main_arg0) = m ((c.tc : Thread Cert.GaFwdIdeal.nD Cert.GaFwdIdeal.τ).loc Cert.GaFwdIdeal.main_arg0)
      ∧ r.2.mem ((c.tc : Thread Cert.GaFwdIdeal.nD Cert.GaFwdIdeal.τ).loc Cert.GaFwdIdeal.main_arg1) = m ((c.tc : Thread Cert.GaFwdIdeal.nD Cert.GaFwdIdeal.τ).loc Cert.GaFwdIdeal.main_arg1))
      ∧ r.2.sem = fun _ => 0)

def quiescent_GaFwdReferenceIdeal [hGaFwdReferenceIdeal : Cert.GaFwdReferenceIdeal.Facts] : Prop :=
  ∀ (m : (ℓ : Loc Cert.GaFwdReferenceIdeal.nD Cert.GaFwdReferenceIdeal.τ Cert.GaFwdReferenceIdeal.sig) → Buf (Elt Ideal) ℓ) (g : Dev Cert.GaFwdReferenceIdeal.nD → PrngReg), Pre_GaFwdReferenceIdeal m →
    θ_run (Cert.GaFwdReferenceIdeal.defs (F := Ideal)) (onTc (τ := Cert.GaFwdReferenceIdeal.τ) (Cert.GaFwdReferenceIdeal.main (F := Ideal))) ⟨m, fun _ => 0, g⟩ (fun r => (∀ c : Dev Cert.GaFwdReferenceIdeal.nD,
      r.2.mem ((c.tc : Thread Cert.GaFwdReferenceIdeal.nD Cert.GaFwdReferenceIdeal.τ).loc Cert.GaFwdReferenceIdeal.main_arg0) = m ((c.tc : Thread Cert.GaFwdReferenceIdeal.nD Cert.GaFwdReferenceIdeal.τ).loc Cert.GaFwdReferenceIdeal.main_arg0)
      ∧ r.2.mem ((c.tc : Thread Cert.GaFwdReferenceIdeal.nD Cert.GaFwdReferenceIdeal.τ).loc Cert.GaFwdReferenceIdeal.main_arg1) = m ((c.tc : Thread Cert.GaFwdReferenceIdeal.nD Cert.GaFwdReferenceIdeal.τ).loc Cert.GaFwdReferenceIdeal.main_arg1))
      ∧ r.2.sem = fun _ => 0)

def quiescent_GaDx [hGaDx : Cert.GaDx.Facts] : Prop :=
  ∀ (m : (ℓ : Loc Cert.GaDx.nD Cert.GaDx.τ Cert.GaDx.sig) → Buf (Elt Bits) ℓ) (g : Dev Cert.GaDx.nD → PrngReg), Pre_GaDx m →
    θ_run (Cert.GaDx.defs (F := Bits)) (onTc (τ := Cert.GaDx.τ) (Cert.GaDx.main (F := Bits))) ⟨m, fun _ => 0, g⟩ (fun r => (∀ c : Dev Cert.GaDx.nD,
      r.2.mem ((c.tc : Thread Cert.GaDx.nD Cert.GaDx.τ).loc Cert.GaDx.main_arg0) = m ((c.tc : Thread Cert.GaDx.nD Cert.GaDx.τ).loc Cert.GaDx.main_arg0)
      ∧ r.2.mem ((c.tc : Thread Cert.GaDx.nD Cert.GaDx.τ).loc Cert.GaDx.main_arg1) = m ((c.tc : Thread Cert.GaDx.nD Cert.GaDx.τ).loc Cert.GaDx.main_arg1)
      ∧ r.2.mem ((c.tc : Thread Cert.GaDx.nD Cert.GaDx.τ).loc Cert.GaDx.main_arg2) = m ((c.tc : Thread Cert.GaDx.nD Cert.GaDx.τ).loc Cert.GaDx.main_arg2)
      ∧ r.2.mem ((c.tc : Thread Cert.GaDx.nD Cert.GaDx.τ).loc Cert.GaDx.main_arg3) = m ((c.tc : Thread Cert.GaDx.nD Cert.GaDx.τ).loc Cert.GaDx.main_arg3))
      ∧ r.2.sem = fun _ => 0)

def quiescent_GaDxIdeal [hGaDxIdeal : Cert.GaDxIdeal.Facts] : Prop :=
  ∀ (m : (ℓ : Loc Cert.GaDxIdeal.nD Cert.GaDxIdeal.τ Cert.GaDxIdeal.sig) → Buf (Elt Ideal) ℓ) (g : Dev Cert.GaDxIdeal.nD → PrngReg), Pre_GaDxIdeal m →
    θ_run (Cert.GaDxIdeal.defs (F := Ideal)) (onTc (τ := Cert.GaDxIdeal.τ) (Cert.GaDxIdeal.main (F := Ideal))) ⟨m, fun _ => 0, g⟩ (fun r => (∀ c : Dev Cert.GaDxIdeal.nD,
      r.2.mem ((c.tc : Thread Cert.GaDxIdeal.nD Cert.GaDxIdeal.τ).loc Cert.GaDxIdeal.main_arg0) = m ((c.tc : Thread Cert.GaDxIdeal.nD Cert.GaDxIdeal.τ).loc Cert.GaDxIdeal.main_arg0)
      ∧ r.2.mem ((c.tc : Thread Cert.GaDxIdeal.nD Cert.GaDxIdeal.τ).loc Cert.GaDxIdeal.main_arg1) = m ((c.tc : Thread Cert.GaDxIdeal.nD Cert.GaDxIdeal.τ).loc Cert.GaDxIdeal.main_arg1)
      ∧ r.2.mem ((c.tc : Thread Cert.GaDxIdeal.nD Cert.GaDxIdeal.τ).loc Cert.GaDxIdeal.main_arg2) = m ((c.tc : Thread Cert.GaDxIdeal.nD Cert.GaDxIdeal.τ).loc Cert.GaDxIdeal.main_arg2)
      ∧ r.2.mem ((c.tc : Thread Cert.GaDxIdeal.nD Cert.GaDxIdeal.τ).loc Cert.GaDxIdeal.main_arg3) = m ((c.tc : Thread Cert.GaDxIdeal.nD Cert.GaDxIdeal.τ).loc Cert.GaDxIdeal.main_arg3))
      ∧ r.2.sem = fun _ => 0)

def quiescent_GaDxReferenceIdeal [hGaDxReferenceIdeal : Cert.GaDxReferenceIdeal.Facts] : Prop :=
  ∀ (m : (ℓ : Loc Cert.GaDxReferenceIdeal.nD Cert.GaDxReferenceIdeal.τ Cert.GaDxReferenceIdeal.sig) → Buf (Elt Ideal) ℓ) (g : Dev Cert.GaDxReferenceIdeal.nD → PrngReg), Pre_GaDxReferenceIdeal m →
    θ_run (Cert.GaDxReferenceIdeal.defs (F := Ideal)) (onTc (τ := Cert.GaDxReferenceIdeal.τ) (Cert.GaDxReferenceIdeal.main (F := Ideal))) ⟨m, fun _ => 0, g⟩ (fun r => (∀ c : Dev Cert.GaDxReferenceIdeal.nD,
      r.2.mem ((c.tc : Thread Cert.GaDxReferenceIdeal.nD Cert.GaDxReferenceIdeal.τ).loc Cert.GaDxReferenceIdeal.main_arg0) = m ((c.tc : Thread Cert.GaDxReferenceIdeal.nD Cert.GaDxReferenceIdeal.τ).loc Cert.GaDxReferenceIdeal.main_arg0)
      ∧ r.2.mem ((c.tc : Thread Cert.GaDxReferenceIdeal.nD Cert.GaDxReferenceIdeal.τ).loc Cert.GaDxReferenceIdeal.main_arg1) = m ((c.tc : Thread Cert.GaDxReferenceIdeal.nD Cert.GaDxReferenceIdeal.τ).loc Cert.GaDxReferenceIdeal.main_arg1)
      ∧ r.2.mem ((c.tc : Thread Cert.GaDxReferenceIdeal.nD Cert.GaDxReferenceIdeal.τ).loc Cert.GaDxReferenceIdeal.main_arg2) = m ((c.tc : Thread Cert.GaDxReferenceIdeal.nD Cert.GaDxReferenceIdeal.τ).loc Cert.GaDxReferenceIdeal.main_arg2)
      ∧ r.2.mem ((c.tc : Thread Cert.GaDxReferenceIdeal.nD Cert.GaDxReferenceIdeal.τ).loc Cert.GaDxReferenceIdeal.main_arg3) = m ((c.tc : Thread Cert.GaDxReferenceIdeal.nD Cert.GaDxReferenceIdeal.τ).loc Cert.GaDxReferenceIdeal.main_arg3))
      ∧ r.2.sem = fun _ => 0)

def quiescent_SmallFwd [hSmallFwd : Cert.SmallFwd.Facts] : Prop :=
  ∀ (m : (ℓ : Loc Cert.SmallFwd.nD Cert.SmallFwd.τ Cert.SmallFwd.sig) → Buf (Elt Bits) ℓ) (g : Dev Cert.SmallFwd.nD → PrngReg), Pre_SmallFwd m →
    θ_run (Cert.SmallFwd.defs (F := Bits)) (onTc (τ := Cert.SmallFwd.τ) (Cert.SmallFwd.main (F := Bits))) ⟨m, fun _ => 0, g⟩ (fun r => (∀ c : Dev Cert.SmallFwd.nD,
      r.2.mem ((c.tc : Thread Cert.SmallFwd.nD Cert.SmallFwd.τ).loc Cert.SmallFwd.main_arg0) = m ((c.tc : Thread Cert.SmallFwd.nD Cert.SmallFwd.τ).loc Cert.SmallFwd.main_arg0)
      ∧ r.2.mem ((c.tc : Thread Cert.SmallFwd.nD Cert.SmallFwd.τ).loc Cert.SmallFwd.main_arg1) = m ((c.tc : Thread Cert.SmallFwd.nD Cert.SmallFwd.τ).loc Cert.SmallFwd.main_arg1))
      ∧ r.2.sem = fun _ => 0)

def quiescent_SmallFwdIdeal [hSmallFwdIdeal : Cert.SmallFwdIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg), Pre_SmallFwdIdeal m →
    θ_run (Cert.SmallFwdIdeal.defs (F := Ideal)) (onTc (τ := Cert.SmallFwdIdeal.τ) (Cert.SmallFwdIdeal.main (F := Ideal))) ⟨m, fun _ => 0, g⟩ (fun r => (∀ c : Dev Cert.SmallFwdIdeal.nD,
      r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
      ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ r.2.sem = fun _ => 0)

def quiescent_SmallFwdReferenceIdeal [hSmallFwdReferenceIdeal : Cert.SmallFwdReferenceIdeal.Facts] : Prop :=
  ∀ (m : (ℓ : Loc Cert.SmallFwdReferenceIdeal.nD Cert.SmallFwdReferenceIdeal.τ Cert.SmallFwdReferenceIdeal.sig) → Buf (Elt Ideal) ℓ) (g : Dev Cert.SmallFwdReferenceIdeal.nD → PrngReg), Pre_SmallFwdReferenceIdeal m →
    θ_run (Cert.SmallFwdReferenceIdeal.defs (F := Ideal)) (onTc (τ := Cert.SmallFwdReferenceIdeal.τ) (Cert.SmallFwdReferenceIdeal.main (F := Ideal))) ⟨m, fun _ => 0, g⟩ (fun r => (∀ c : Dev Cert.SmallFwdReferenceIdeal.nD,
      r.2.mem ((c.tc : Thread Cert.SmallFwdReferenceIdeal.nD Cert.SmallFwdReferenceIdeal.τ).loc Cert.SmallFwdReferenceIdeal.main_arg0) = m ((c.tc : Thread Cert.SmallFwdReferenceIdeal.nD Cert.SmallFwdReferenceIdeal.τ).loc Cert.SmallFwdReferenceIdeal.main_arg0)
      ∧ r.2.mem ((c.tc : Thread Cert.SmallFwdReferenceIdeal.nD Cert.SmallFwdReferenceIdeal.τ).loc Cert.SmallFwdReferenceIdeal.main_arg1) = m ((c.tc : Thread Cert.SmallFwdReferenceIdeal.nD Cert.SmallFwdReferenceIdeal.τ).loc Cert.SmallFwdReferenceIdeal.main_arg1))
      ∧ r.2.sem = fun _ => 0)

def quiescent_SmallDw [hSmallDw : Cert.SmallDw.Facts] : Prop :=
  ∀ (m : (ℓ : Loc Cert.SmallDw.nD Cert.SmallDw.τ Cert.SmallDw.sig) → Buf (Elt Bits) ℓ) (g : Dev Cert.SmallDw.nD → PrngReg), Pre_SmallDw m →
    θ_run (Cert.SmallDw.defs (F := Bits)) (onTc (τ := Cert.SmallDw.τ) (Cert.SmallDw.main (F := Bits))) ⟨m, fun _ => 0, g⟩ (fun r => (∀ c : Dev Cert.SmallDw.nD,
      r.2.mem ((c.tc : Thread Cert.SmallDw.nD Cert.SmallDw.τ).loc Cert.SmallDw.main_arg0) = m ((c.tc : Thread Cert.SmallDw.nD Cert.SmallDw.τ).loc Cert.SmallDw.main_arg0)
      ∧ r.2.mem ((c.tc : Thread Cert.SmallDw.nD Cert.SmallDw.τ).loc Cert.SmallDw.main_arg1) = m ((c.tc : Thread Cert.SmallDw.nD Cert.SmallDw.τ).loc Cert.SmallDw.main_arg1)
      ∧ r.2.mem ((c.tc : Thread Cert.SmallDw.nD Cert.SmallDw.τ).loc Cert.SmallDw.main_arg2) = m ((c.tc : Thread Cert.SmallDw.nD Cert.SmallDw.τ).loc Cert.SmallDw.main_arg2))
      ∧ r.2.sem = fun _ => 0)

def quiescent_SmallDwIdeal [hSmallDwIdeal : Cert.SmallDwIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg), Pre_SmallDwIdeal m →
    θ_run (Cert.SmallDwIdeal.defs (F := Ideal)) (onTc (τ := Cert.SmallDwIdeal.τ) (Cert.SmallDwIdeal.main (F := Ideal))) ⟨m, fun _ => 0, g⟩ (fun r => (∀ c : Dev Cert.SmallDwIdeal.nD,
      r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
      ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1)
      ∧ r.2.mem ((c.tc : Thread Cert.SmallDwIdeal.nD Cert.SmallDwIdeal.τ).loc Cert.SmallDwIdeal.main_arg2) = m ((c.tc : Thread Cert.SmallDwIdeal.nD Cert.SmallDwIdeal.τ).loc Cert.SmallDwIdeal.main_arg2))
      ∧ r.2.sem = fun _ => 0)

def quiescent_SmallDwReferenceIdeal [hSmallDwReferenceIdeal : Cert.SmallDwReferenceIdeal.Facts] : Prop :=
  ∀ (m : (ℓ : Loc Cert.SmallDwReferenceIdeal.nD Cert.SmallDwReferenceIdeal.τ Cert.SmallDwReferenceIdeal.sig) → Buf (Elt Ideal) ℓ) (g : Dev Cert.SmallDwReferenceIdeal.nD → PrngReg), Pre_SmallDwReferenceIdeal m →
    θ_run (Cert.SmallDwReferenceIdeal.defs (F := Ideal)) (onTc (τ := Cert.SmallDwReferenceIdeal.τ) (Cert.SmallDwReferenceIdeal.main (F := Ideal))) ⟨m, fun _ => 0, g⟩ (fun r => (∀ c : Dev Cert.SmallDwReferenceIdeal.nD,
      r.2.mem ((c.tc : Thread Cert.SmallDwReferenceIdeal.nD Cert.SmallDwReferenceIdeal.τ).loc Cert.SmallDwReferenceIdeal.main_arg0) = m ((c.tc : Thread Cert.SmallDwReferenceIdeal.nD Cert.SmallDwReferenceIdeal.τ).loc Cert.SmallDwReferenceIdeal.main_arg0)
      ∧ r.2.mem ((c.tc : Thread Cert.SmallDwReferenceIdeal.nD Cert.SmallDwReferenceIdeal.τ).loc Cert.SmallDwReferenceIdeal.main_arg1) = m ((c.tc : Thread Cert.SmallDwReferenceIdeal.nD Cert.SmallDwReferenceIdeal.τ).loc Cert.SmallDwReferenceIdeal.main_arg1)
      ∧ r.2.mem ((c.tc : Thread Cert.SmallDwReferenceIdeal.nD Cert.SmallDwReferenceIdeal.τ).loc Cert.SmallDwReferenceIdeal.main_arg2) = m ((c.tc : Thread Cert.SmallDwReferenceIdeal.nD Cert.SmallDwReferenceIdeal.τ).loc Cert.SmallDwReferenceIdeal.main_arg2))
      ∧ r.2.sem = fun _ => 0)

def quiescent_SmallDx [hSmallDx : Cert.SmallDx.Facts] : Prop :=
  ∀ (m : (ℓ : Loc Cert.SmallDx.nD Cert.SmallDx.τ Cert.SmallDx.sig) → Buf (Elt Bits) ℓ) (g : Dev Cert.SmallDx.nD → PrngReg), Pre_SmallDx m →
    θ_run (Cert.SmallDx.defs (F := Bits)) (onTc (τ := Cert.SmallDx.τ) (Cert.SmallDx.main (F := Bits))) ⟨m, fun _ => 0, g⟩ (fun r => (∀ c : Dev Cert.SmallDx.nD,
      r.2.mem ((c.tc : Thread Cert.SmallDx.nD Cert.SmallDx.τ).loc Cert.SmallDx.main_arg0) = m ((c.tc : Thread Cert.SmallDx.nD Cert.SmallDx.τ).loc Cert.SmallDx.main_arg0)
      ∧ r.2.mem ((c.tc : Thread Cert.SmallDx.nD Cert.SmallDx.τ).loc Cert.SmallDx.main_arg1) = m ((c.tc : Thread Cert.SmallDx.nD Cert.SmallDx.τ).loc Cert.SmallDx.main_arg1)
      ∧ r.2.mem ((c.tc : Thread Cert.SmallDx.nD Cert.SmallDx.τ).loc Cert.SmallDx.main_arg2) = m ((c.tc : Thread Cert.SmallDx.nD Cert.SmallDx.τ).loc Cert.SmallDx.main_arg2)
      ∧ r.2.mem ((c.tc : Thread Cert.SmallDx.nD Cert.SmallDx.τ).loc Cert.SmallDx.main_arg3) = m ((c.tc : Thread Cert.SmallDx.nD Cert.SmallDx.τ).loc Cert.SmallDx.main_arg3))
      ∧ r.2.sem = fun _ => 0)

def quiescent_SmallDxIdeal [hSmallDxIdeal : Cert.SmallDxIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg), Pre_SmallDxIdeal m →
    θ_run (Cert.SmallDxIdeal.defs (F := Ideal)) (onTc (τ := Cert.SmallDxIdeal.τ) (Cert.SmallDxIdeal.main (F := Ideal))) ⟨m, fun _ => 0, g⟩ (fun r => (∀ c : Dev Cert.SmallDxIdeal.nD,
      r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
      ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1)
      ∧ r.2.mem ((c.tc : Thread Cert.SmallDxIdeal.nD Cert.SmallDxIdeal.τ).loc Cert.SmallDxIdeal.main_arg2) = m ((c.tc : Thread Cert.SmallDxIdeal.nD Cert.SmallDxIdeal.τ).loc Cert.SmallDxIdeal.main_arg2)
      ∧ r.2.mem ((c.tc : Thread Cert.SmallDxIdeal.nD Cert.SmallDxIdeal.τ).loc Cert.SmallDxIdeal.main_arg3) = m ((c.tc : Thread Cert.SmallDxIdeal.nD Cert.SmallDxIdeal.τ).loc Cert.SmallDxIdeal.main_arg3))
      ∧ r.2.sem = fun _ => 0)

def quiescent_SmallDxReferenceIdeal [hSmallDxReferenceIdeal : Cert.SmallDxReferenceIdeal.Facts] : Prop :=
  ∀ (m : (ℓ : Loc Cert.SmallDxReferenceIdeal.nD Cert.SmallDxReferenceIdeal.τ Cert.SmallDxReferenceIdeal.sig) → Buf (Elt Ideal) ℓ) (g : Dev Cert.SmallDxReferenceIdeal.nD → PrngReg), Pre_SmallDxReferenceIdeal m →
    θ_run (Cert.SmallDxReferenceIdeal.defs (F := Ideal)) (onTc (τ := Cert.SmallDxReferenceIdeal.τ) (Cert.SmallDxReferenceIdeal.main (F := Ideal))) ⟨m, fun _ => 0, g⟩ (fun r => (∀ c : Dev Cert.SmallDxReferenceIdeal.nD,
      r.2.mem ((c.tc : Thread Cert.SmallDxReferenceIdeal.nD Cert.SmallDxReferenceIdeal.τ).loc Cert.SmallDxReferenceIdeal.main_arg0) = m ((c.tc : Thread Cert.SmallDxReferenceIdeal.nD Cert.SmallDxReferenceIdeal.τ).loc Cert.SmallDxReferenceIdeal.main_arg0)
      ∧ r.2.mem ((c.tc : Thread Cert.SmallDxReferenceIdeal.nD Cert.SmallDxReferenceIdeal.τ).loc Cert.SmallDxReferenceIdeal.main_arg1) = m ((c.tc : Thread Cert.SmallDxReferenceIdeal.nD Cert.SmallDxReferenceIdeal.τ).loc Cert.SmallDxReferenceIdeal.main_arg1)
      ∧ r.2.mem ((c.tc : Thread Cert.SmallDxReferenceIdeal.nD Cert.SmallDxReferenceIdeal.τ).loc Cert.SmallDxReferenceIdeal.main_arg2) = m ((c.tc : Thread Cert.SmallDxReferenceIdeal.nD Cert.SmallDxReferenceIdeal.τ).loc Cert.SmallDxReferenceIdeal.main_arg2)
      ∧ r.2.mem ((c.tc : Thread Cert.SmallDxReferenceIdeal.nD Cert.SmallDxReferenceIdeal.τ).loc Cert.SmallDxReferenceIdeal.main_arg3) = m ((c.tc : Thread Cert.SmallDxReferenceIdeal.nD Cert.SmallDxReferenceIdeal.τ).loc Cert.SmallDxReferenceIdeal.main_arg3))
      ∧ r.2.sem = fun _ => 0)

def quiescent_UqFwd [hUqFwd : Cert.UqFwd.Facts] : Prop :=
  ∀ (m : (ℓ : Loc Cert.UqFwd.nD Cert.UqFwd.τ Cert.UqFwd.sig) → Buf (Elt Bits) ℓ) (g : Dev Cert.UqFwd.nD → PrngReg), Pre_UqFwd m →
    θ_run (Cert.UqFwd.defs (F := Bits)) (onTc (τ := Cert.UqFwd.τ) (Cert.UqFwd.main (F := Bits))) ⟨m, fun _ => 0, g⟩ (fun r => (∀ c : Dev Cert.UqFwd.nD,
      r.2.mem ((c.tc : Thread Cert.UqFwd.nD Cert.UqFwd.τ).loc Cert.UqFwd.main_arg0) = m ((c.tc : Thread Cert.UqFwd.nD Cert.UqFwd.τ).loc Cert.UqFwd.main_arg0)
      ∧ r.2.mem ((c.tc : Thread Cert.UqFwd.nD Cert.UqFwd.τ).loc Cert.UqFwd.main_arg1) = m ((c.tc : Thread Cert.UqFwd.nD Cert.UqFwd.τ).loc Cert.UqFwd.main_arg1))
      ∧ r.2.sem = fun _ => 0)

def quiescent_UqFwdIdeal [hUqFwdIdeal : Cert.UqFwdIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg), Pre_UqFwdIdeal m →
    θ_run (Cert.UqFwdIdeal.defs (F := Ideal)) (onTc (τ := Cert.UqFwdIdeal.τ) (Cert.UqFwdIdeal.main (F := Ideal))) ⟨m, fun _ => 0, g⟩ (fun r => (∀ c : Dev Cert.UqFwdIdeal.nD,
      r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
      ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ r.2.sem = fun _ => 0)

def quiescent_UqFwdReferenceIdeal [hUqFwdReferenceIdeal : Cert.UqFwdReferenceIdeal.Facts] : Prop :=
  ∀ (m : (ℓ : Loc Cert.UqFwdReferenceIdeal.nD Cert.UqFwdReferenceIdeal.τ Cert.UqFwdReferenceIdeal.sig) → Buf (Elt Ideal) ℓ) (g : Dev Cert.UqFwdReferenceIdeal.nD → PrngReg), Pre_UqFwdReferenceIdeal m →
    θ_run (Cert.UqFwdReferenceIdeal.defs (F := Ideal)) (onTc (τ := Cert.UqFwdReferenceIdeal.τ) (Cert.UqFwdReferenceIdeal.main (F := Ideal))) ⟨m, fun _ => 0, g⟩ (fun r => (∀ c : Dev Cert.UqFwdReferenceIdeal.nD,
      r.2.mem ((c.tc : Thread Cert.UqFwdReferenceIdeal.nD Cert.UqFwdReferenceIdeal.τ).loc Cert.UqFwdReferenceIdeal.main_arg0) = m ((c.tc : Thread Cert.UqFwdReferenceIdeal.nD Cert.UqFwdReferenceIdeal.τ).loc Cert.UqFwdReferenceIdeal.main_arg0)
      ∧ r.2.mem ((c.tc : Thread Cert.UqFwdReferenceIdeal.nD Cert.UqFwdReferenceIdeal.τ).loc Cert.UqFwdReferenceIdeal.main_arg1) = m ((c.tc : Thread Cert.UqFwdReferenceIdeal.nD Cert.UqFwdReferenceIdeal.τ).loc Cert.UqFwdReferenceIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwReferenceIdeal [hUqDwReferenceIdeal : Cert.UqDwReferenceIdeal.Facts] : Prop :=
  ∀ (m : (ℓ : Loc Cert.UqDwReferenceIdeal.nD Cert.UqDwReferenceIdeal.τ Cert.UqDwReferenceIdeal.sig) → Buf (Elt Ideal) ℓ) (g : Dev Cert.UqDwReferenceIdeal.nD → PrngReg), Pre_UqDwReferenceIdeal m →
    θ_run (Cert.UqDwReferenceIdeal.defs (F := Ideal)) (onTc (τ := Cert.UqDwReferenceIdeal.τ) (Cert.UqDwReferenceIdeal.main (F := Ideal))) ⟨m, fun _ => 0, g⟩ (fun r => (∀ c : Dev Cert.UqDwReferenceIdeal.nD,
      r.2.mem ((c.tc : Thread Cert.UqDwReferenceIdeal.nD Cert.UqDwReferenceIdeal.τ).loc Cert.UqDwReferenceIdeal.main_arg0) = m ((c.tc : Thread Cert.UqDwReferenceIdeal.nD Cert.UqDwReferenceIdeal.τ).loc Cert.UqDwReferenceIdeal.main_arg0)
      ∧ r.2.mem ((c.tc : Thread Cert.UqDwReferenceIdeal.nD Cert.UqDwReferenceIdeal.τ).loc Cert.UqDwReferenceIdeal.main_arg1) = m ((c.tc : Thread Cert.UqDwReferenceIdeal.nD Cert.UqDwReferenceIdeal.τ).loc Cert.UqDwReferenceIdeal.main_arg1)
      ∧ r.2.mem ((c.tc : Thread Cert.UqDwReferenceIdeal.nD Cert.UqDwReferenceIdeal.τ).loc Cert.UqDwReferenceIdeal.main_arg2) = m ((c.tc : Thread Cert.UqDwReferenceIdeal.nD Cert.UqDwReferenceIdeal.τ).loc Cert.UqDwReferenceIdeal.main_arg2))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1)
      ∧ r.2.mem ((c.tc : Thread Cert.UqDx.nD Cert.UqDx.τ).loc Cert.UqDx.main_arg2) = m ((c.tc : Thread Cert.UqDx.nD Cert.UqDx.τ).loc Cert.UqDx.main_arg2))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
      ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ r.2.sem = fun _ => 0)

def quiescent_UqDxReferenceIdeal [hUqDxReferenceIdeal : Cert.UqDxReferenceIdeal.Facts] : Prop :=
  ∀ (m : (ℓ : Loc Cert.UqDxReferenceIdeal.nD Cert.UqDxReferenceIdeal.τ Cert.UqDxReferenceIdeal.sig) → Buf (Elt Ideal) ℓ) (g : Dev Cert.UqDxReferenceIdeal.nD → PrngReg), Pre_UqDxReferenceIdeal m →
    θ_run (Cert.UqDxReferenceIdeal.defs (F := Ideal)) (onTc (τ := Cert.UqDxReferenceIdeal.τ) (Cert.UqDxReferenceIdeal.main (F := Ideal))) ⟨m, fun _ => 0, g⟩ (fun r => (∀ c : Dev Cert.UqDxReferenceIdeal.nD,
      r.2.mem ((c.tc : Thread Cert.UqDxReferenceIdeal.nD Cert.UqDxReferenceIdeal.τ).loc Cert.UqDxReferenceIdeal.main_arg0) = m ((c.tc : Thread Cert.UqDxReferenceIdeal.nD Cert.UqDxReferenceIdeal.τ).loc Cert.UqDxReferenceIdeal.main_arg0)
      ∧ r.2.mem ((c.tc : Thread Cert.UqDxReferenceIdeal.nD Cert.UqDxReferenceIdeal.τ).loc Cert.UqDxReferenceIdeal.main_arg1) = m ((c.tc : Thread Cert.UqDxReferenceIdeal.nD Cert.UqDxReferenceIdeal.τ).loc Cert.UqDxReferenceIdeal.main_arg1)
      ∧ r.2.mem ((c.tc : Thread Cert.UqDxReferenceIdeal.nD Cert.UqDxReferenceIdeal.τ).loc Cert.UqDxReferenceIdeal.main_arg2) = m ((c.tc : Thread Cert.UqDxReferenceIdeal.nD Cert.UqDxReferenceIdeal.τ).loc Cert.UqDxReferenceIdeal.main_arg2))
      ∧ r.2.sem = fun _ => 0)

def quiescent_UkvFwd [hUkvFwd : Cert.UkvFwd.Facts] : Prop :=
  ∀ (m : (ℓ : Loc Cert.UkvFwd.nD Cert.UkvFwd.τ Cert.UkvFwd.sig) → Buf (Elt Bits) ℓ) (g : Dev Cert.UkvFwd.nD → PrngReg), Pre_UkvFwd m →
    θ_run (Cert.UkvFwd.defs (F := Bits)) (onTc (τ := Cert.UkvFwd.τ) (Cert.UkvFwd.main (F := Bits))) ⟨m, fun _ => 0, g⟩ (fun r => (∀ c : Dev Cert.UkvFwd.nD,
      r.2.mem ((c.tc : Thread Cert.UkvFwd.nD Cert.UkvFwd.τ).loc Cert.UkvFwd.main_arg0) = m ((c.tc : Thread Cert.UkvFwd.nD Cert.UkvFwd.τ).loc Cert.UkvFwd.main_arg0)
      ∧ r.2.mem ((c.tc : Thread Cert.UkvFwd.nD Cert.UkvFwd.τ).loc Cert.UkvFwd.main_arg1) = m ((c.tc : Thread Cert.UkvFwd.nD Cert.UkvFwd.τ).loc Cert.UkvFwd.main_arg1))
      ∧ r.2.sem = fun _ => 0)

def quiescent_UkvFwdIdeal [hUkvFwdIdeal : Cert.UkvFwdIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg), Pre_UkvFwdIdeal m →
    θ_run (Cert.UkvFwdIdeal.defs (F := Ideal)) (onTc (τ := Cert.UkvFwdIdeal.τ) (Cert.UkvFwdIdeal.main (F := Ideal))) ⟨m, fun _ => 0, g⟩ (fun r => (∀ c : Dev Cert.UkvFwdIdeal.nD,
      r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
      ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ r.2.sem = fun _ => 0)

def quiescent_UkvFwdReferenceIdeal [hUkvFwdReferenceIdeal : Cert.UkvFwdReferenceIdeal.Facts] : Prop :=
  ∀ (m : (ℓ : Loc Cert.UkvFwdReferenceIdeal.nD Cert.UkvFwdReferenceIdeal.τ Cert.UkvFwdReferenceIdeal.sig) → Buf (Elt Ideal) ℓ) (g : Dev Cert.UkvFwdReferenceIdeal.nD → PrngReg), Pre_UkvFwdReferenceIdeal m →
    θ_run (Cert.UkvFwdReferenceIdeal.defs (F := Ideal)) (onTc (τ := Cert.UkvFwdReferenceIdeal.τ) (Cert.UkvFwdReferenceIdeal.main (F := Ideal))) ⟨m, fun _ => 0, g⟩ (fun r => (∀ c : Dev Cert.UkvFwdReferenceIdeal.nD,
      r.2.mem ((c.tc : Thread Cert.UkvFwdReferenceIdeal.nD Cert.UkvFwdReferenceIdeal.τ).loc Cert.UkvFwdReferenceIdeal.main_arg0) = m ((c.tc : Thread Cert.UkvFwdReferenceIdeal.nD Cert.UkvFwdReferenceIdeal.τ).loc Cert.UkvFwdReferenceIdeal.main_arg0)
      ∧ r.2.mem ((c.tc : Thread Cert.UkvFwdReferenceIdeal.nD Cert.UkvFwdReferenceIdeal.τ).loc Cert.UkvFwdReferenceIdeal.main_arg1) = m ((c.tc : Thread Cert.UkvFwdReferenceIdeal.nD Cert.UkvFwdReferenceIdeal.τ).loc Cert.UkvFwdReferenceIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1)
      ∧ r.2.mem ((c.tc : Thread Cert.UkvDwReferenceIdeal.nD Cert.UkvDwReferenceIdeal.τ).loc Cert.UkvDwReferenceIdeal.main_arg2) = m ((c.tc : Thread Cert.UkvDwReferenceIdeal.nD Cert.UkvDwReferenceIdeal.τ).loc Cert.UkvDwReferenceIdeal.main_arg2))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1)
      ∧ r.2.mem ((c.tc : Thread Cert.UkvDx.nD Cert.UkvDx.τ).loc Cert.UkvDx.main_arg2) = m ((c.tc : Thread Cert.UkvDx.nD Cert.UkvDx.τ).loc Cert.UkvDx.main_arg2))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
      ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ r.2.sem = fun _ => 0)

def quiescent_UkvDxReferenceIdeal [hUkvDxReferenceIdeal : Cert.UkvDxReferenceIdeal.Facts] : Prop :=
  ∀ (m : (ℓ : Loc Cert.UkvDxReferenceIdeal.nD Cert.UkvDxReferenceIdeal.τ Cert.UkvDxReferenceIdeal.sig) → Buf (Elt Ideal) ℓ) (g : Dev Cert.UkvDxReferenceIdeal.nD → PrngReg), Pre_UkvDxReferenceIdeal m →
    θ_run (Cert.UkvDxReferenceIdeal.defs (F := Ideal)) (onTc (τ := Cert.UkvDxReferenceIdeal.τ) (Cert.UkvDxReferenceIdeal.main (F := Ideal))) ⟨m, fun _ => 0, g⟩ (fun r => (∀ c : Dev Cert.UkvDxReferenceIdeal.nD,
      r.2.mem ((c.tc : Thread Cert.UkvDxReferenceIdeal.nD Cert.UkvDxReferenceIdeal.τ).loc Cert.UkvDxReferenceIdeal.main_arg0) = m ((c.tc : Thread Cert.UkvDxReferenceIdeal.nD Cert.UkvDxReferenceIdeal.τ).loc Cert.UkvDxReferenceIdeal.main_arg0)
      ∧ r.2.mem ((c.tc : Thread Cert.UkvDxReferenceIdeal.nD Cert.UkvDxReferenceIdeal.τ).loc Cert.UkvDxReferenceIdeal.main_arg1) = m ((c.tc : Thread Cert.UkvDxReferenceIdeal.nD Cert.UkvDxReferenceIdeal.τ).loc Cert.UkvDxReferenceIdeal.main_arg1)
      ∧ r.2.mem ((c.tc : Thread Cert.UkvDxReferenceIdeal.nD Cert.UkvDxReferenceIdeal.τ).loc Cert.UkvDxReferenceIdeal.main_arg2) = m ((c.tc : Thread Cert.UkvDxReferenceIdeal.nD Cert.UkvDxReferenceIdeal.τ).loc Cert.UkvDxReferenceIdeal.main_arg2))
      ∧ r.2.sem = fun _ => 0)

def quiescent_UkvDxAdd [hUkvDxAdd : Cert.UkvDxAdd.Facts] : Prop :=
  ∀ (m : (ℓ : Loc Cert.UkvDxAdd.nD Cert.UkvDxAdd.τ Cert.UkvDxAdd.sig) → Buf (Elt Bits) ℓ) (g : Dev Cert.UkvDxAdd.nD → PrngReg), Pre_UkvDxAdd m →
    θ_run (Cert.UkvDxAdd.defs (F := Bits)) (onTc (τ := Cert.UkvDxAdd.τ) (Cert.UkvDxAdd.main (F := Bits))) ⟨m, fun _ => 0, g⟩ (fun r => (∀ c : Dev Cert.UkvDxAdd.nD,
      r.2.mem ((c.tc : Thread Cert.UkvDxAdd.nD Cert.UkvDxAdd.τ).loc Cert.UkvDxAdd.main_arg0) = m ((c.tc : Thread Cert.UkvDxAdd.nD Cert.UkvDxAdd.τ).loc Cert.UkvDxAdd.main_arg0)
      ∧ r.2.mem ((c.tc : Thread Cert.UkvDxAdd.nD Cert.UkvDxAdd.τ).loc Cert.UkvDxAdd.main_arg1) = m ((c.tc : Thread Cert.UkvDxAdd.nD Cert.UkvDxAdd.τ).loc Cert.UkvDxAdd.main_arg1)
      ∧ r.2.mem ((c.tc : Thread Cert.UkvDxAdd.nD Cert.UkvDxAdd.τ).loc Cert.UkvDxAdd.main_arg2) = m ((c.tc : Thread Cert.UkvDxAdd.nD Cert.UkvDxAdd.τ).loc Cert.UkvDxAdd.main_arg2)
      ∧ r.2.mem ((c.tc : Thread Cert.UkvDxAdd.nD Cert.UkvDxAdd.τ).loc Cert.UkvDxAdd.main_arg3) = m ((c.tc : Thread Cert.UkvDxAdd.nD Cert.UkvDxAdd.τ).loc Cert.UkvDxAdd.main_arg3))
      ∧ r.2.sem = fun _ => 0)

def quiescent_UkvDxAddIdeal [hUkvDxAddIdeal : Cert.UkvDxAddIdeal.Facts] : Prop :=
  ∀ (m : (ℓ : Loc Cert.UkvDxAddIdeal.nD Cert.UkvDxAddIdeal.τ Cert.UkvDxAddIdeal.sig) → Buf (Elt Ideal) ℓ) (g : Dev Cert.UkvDxAddIdeal.nD → PrngReg), Pre_UkvDxAddIdeal m →
    θ_run (Cert.UkvDxAddIdeal.defs (F := Ideal)) (onTc (τ := Cert.UkvDxAddIdeal.τ) (Cert.UkvDxAddIdeal.main (F := Ideal))) ⟨m, fun _ => 0, g⟩ (fun r => (∀ c : Dev Cert.UkvDxAddIdeal.nD,
      r.2.mem ((c.tc : Thread Cert.UkvDxAddIdeal.nD Cert.UkvDxAddIdeal.τ).loc Cert.UkvDxAddIdeal.main_arg0) = m ((c.tc : Thread Cert.UkvDxAddIdeal.nD Cert.UkvDxAddIdeal.τ).loc Cert.UkvDxAddIdeal.main_arg0)
      ∧ r.2.mem ((c.tc : Thread Cert.UkvDxAddIdeal.nD Cert.UkvDxAddIdeal.τ).loc Cert.UkvDxAddIdeal.main_arg1) = m ((c.tc : Thread Cert.UkvDxAddIdeal.nD Cert.UkvDxAddIdeal.τ).loc Cert.UkvDxAddIdeal.main_arg1)
      ∧ r.2.mem ((c.tc : Thread Cert.UkvDxAddIdeal.nD Cert.UkvDxAddIdeal.τ).loc Cert.UkvDxAddIdeal.main_arg2) = m ((c.tc : Thread Cert.UkvDxAddIdeal.nD Cert.UkvDxAddIdeal.τ).loc Cert.UkvDxAddIdeal.main_arg2)
      ∧ r.2.mem ((c.tc : Thread Cert.UkvDxAddIdeal.nD Cert.UkvDxAddIdeal.τ).loc Cert.UkvDxAddIdeal.main_arg3) = m ((c.tc : Thread Cert.UkvDxAddIdeal.nD Cert.UkvDxAddIdeal.τ).loc Cert.UkvDxAddIdeal.main_arg3))
      ∧ r.2.sem = fun _ => 0)

def quiescent_UkvDxAddReferenceIdeal [hUkvDxAddReferenceIdeal : Cert.UkvDxAddReferenceIdeal.Facts] : Prop :=
  ∀ (m : (ℓ : Loc Cert.UkvDxAddReferenceIdeal.nD Cert.UkvDxAddReferenceIdeal.τ Cert.UkvDxAddReferenceIdeal.sig) → Buf (Elt Ideal) ℓ) (g : Dev Cert.UkvDxAddReferenceIdeal.nD → PrngReg), Pre_UkvDxAddReferenceIdeal m →
    θ_run (Cert.UkvDxAddReferenceIdeal.defs (F := Ideal)) (onTc (τ := Cert.UkvDxAddReferenceIdeal.τ) (Cert.UkvDxAddReferenceIdeal.main (F := Ideal))) ⟨m, fun _ => 0, g⟩ (fun r => (∀ c : Dev Cert.UkvDxAddReferenceIdeal.nD,
      r.2.mem ((c.tc : Thread Cert.UkvDxAddReferenceIdeal.nD Cert.UkvDxAddReferenceIdeal.τ).loc Cert.UkvDxAddReferenceIdeal.main_arg0) = m ((c.tc : Thread Cert.UkvDxAddReferenceIdeal.nD Cert.UkvDxAddReferenceIdeal.τ).loc Cert.UkvDxAddReferenceIdeal.main_arg0)
      ∧ r.2.mem ((c.tc : Thread Cert.UkvDxAddReferenceIdeal.nD Cert.UkvDxAddReferenceIdeal.τ).loc Cert.UkvDxAddReferenceIdeal.main_arg1) = m ((c.tc : Thread Cert.UkvDxAddReferenceIdeal.nD Cert.UkvDxAddReferenceIdeal.τ).loc Cert.UkvDxAddReferenceIdeal.main_arg1)
      ∧ r.2.mem ((c.tc : Thread Cert.UkvDxAddReferenceIdeal.nD Cert.UkvDxAddReferenceIdeal.τ).loc Cert.UkvDxAddReferenceIdeal.main_arg2) = m ((c.tc : Thread Cert.UkvDxAddReferenceIdeal.nD Cert.UkvDxAddReferenceIdeal.τ).loc Cert.UkvDxAddReferenceIdeal.main_arg2)
      ∧ r.2.mem ((c.tc : Thread Cert.UkvDxAddReferenceIdeal.nD Cert.UkvDxAddReferenceIdeal.τ).loc Cert.UkvDxAddReferenceIdeal.main_arg3) = m ((c.tc : Thread Cert.UkvDxAddReferenceIdeal.nD Cert.UkvDxAddReferenceIdeal.τ).loc Cert.UkvDxAddReferenceIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_AbFwd [hAbFwd : Cert.AbFwd.Facts] : Prop :=
  ∀ (m : (ℓ : Loc Cert.AbFwd.nD Cert.AbFwd.τ Cert.AbFwd.sig) → Buf (Elt Bits) ℓ) (g : Dev Cert.AbFwd.nD → PrngReg), Pre_AbFwd m →
    θ_run (Cert.AbFwd.defs (F := Bits)) (onTc (τ := Cert.AbFwd.τ) (Cert.AbFwd.main (F := Bits))) ⟨m, fun _ => 0, g⟩ (fun r => (∀ c : Dev Cert.AbFwd.nD,
      r.2.mem ((c.tc : Thread Cert.AbFwd.nD Cert.AbFwd.τ).loc Cert.AbFwd.main_arg0) = m ((c.tc : Thread Cert.AbFwd.nD Cert.AbFwd.τ).loc Cert.AbFwd.main_arg0)
      ∧ r.2.mem ((c.tc : Thread Cert.AbFwd.nD Cert.AbFwd.τ).loc Cert.AbFwd.main_arg1) = m ((c.tc : Thread Cert.AbFwd.nD Cert.AbFwd.τ).loc Cert.AbFwd.main_arg1))
      ∧ r.2.sem = fun _ => 0)

def quiescent_AbFwdIdeal [hAbFwdIdeal : Cert.AbFwdIdeal.Facts] : Prop :=
  ∀ (m : (ℓ : Loc Cert.AbFwdIdeal.nD Cert.AbFwdIdeal.τ Cert.AbFwdIdeal.sig) → Buf (Elt Ideal) ℓ) (g : Dev Cert.AbFwdIdeal.nD → PrngReg), Pre_AbFwdIdeal m →
    θ_run (Cert.AbFwdIdeal.defs (F := Ideal)) (onTc (τ := Cert.AbFwdIdeal.τ) (Cert.AbFwdIdeal.main (F := Ideal))) ⟨m, fun _ => 0, g⟩ (fun r => (∀ c : Dev Cert.AbFwdIdeal.nD,
      r.2.mem ((c.tc : Thread Cert.AbFwdIdeal.nD Cert.AbFwdIdeal.τ).loc Cert.AbFwdIdeal.main_arg0) = m ((c.tc : Thread Cert.AbFwdIdeal.nD Cert.AbFwdIdeal.τ).loc Cert.AbFwdIdeal.main_arg0)
      ∧ r.2.mem ((c.tc : Thread Cert.AbFwdIdeal.nD Cert.AbFwdIdeal.τ).loc Cert.AbFwdIdeal.main_arg1) = m ((c.tc : Thread Cert.AbFwdIdeal.nD Cert.AbFwdIdeal.τ).loc Cert.AbFwdIdeal.main_arg1))
      ∧ r.2.sem = fun _ => 0)

def quiescent_AbFwdReferenceIdeal [hAbFwdReferenceIdeal : Cert.AbFwdReferenceIdeal.Facts] : Prop :=
  ∀ (m : (ℓ : Loc Cert.AbFwdReferenceIdeal.nD Cert.AbFwdReferenceIdeal.τ Cert.AbFwdReferenceIdeal.sig) → Buf (Elt Ideal) ℓ) (g : Dev Cert.AbFwdReferenceIdeal.nD → PrngReg), Pre_AbFwdReferenceIdeal m →
    θ_run (Cert.AbFwdReferenceIdeal.defs (F := Ideal)) (onTc (τ := Cert.AbFwdReferenceIdeal.τ) (Cert.AbFwdReferenceIdeal.main (F := Ideal))) ⟨m, fun _ => 0, g⟩ (fun r => (∀ c : Dev Cert.AbFwdReferenceIdeal.nD,
      r.2.mem ((c.tc : Thread Cert.AbFwdReferenceIdeal.nD Cert.AbFwdReferenceIdeal.τ).loc Cert.AbFwdReferenceIdeal.main_arg0) = m ((c.tc : Thread Cert.AbFwdReferenceIdeal.nD Cert.AbFwdReferenceIdeal.τ).loc Cert.AbFwdReferenceIdeal.main_arg0)
      ∧ r.2.mem ((c.tc : Thread Cert.AbFwdReferenceIdeal.nD Cert.AbFwdReferenceIdeal.τ).loc Cert.AbFwdReferenceIdeal.main_arg1) = m ((c.tc : Thread Cert.AbFwdReferenceIdeal.nD Cert.AbFwdReferenceIdeal.τ).loc Cert.AbFwdReferenceIdeal.main_arg1))
      ∧ r.2.sem = fun _ => 0)

def quiescent_AbDw [hAbDw : Cert.AbDw.Facts] : Prop :=
  ∀ (m : (ℓ : Loc Cert.AbDw.nD Cert.AbDw.τ Cert.AbDw.sig) → Buf (Elt Bits) ℓ) (g : Dev Cert.AbDw.nD → PrngReg), Pre_AbDw m →
    θ_run (Cert.AbDw.defs (F := Bits)) (onTc (τ := Cert.AbDw.τ) (Cert.AbDw.main (F := Bits))) ⟨m, fun _ => 0, g⟩ (fun r => (∀ c : Dev Cert.AbDw.nD,
      r.2.mem ((c.tc : Thread Cert.AbDw.nD Cert.AbDw.τ).loc Cert.AbDw.main_arg0) = m ((c.tc : Thread Cert.AbDw.nD Cert.AbDw.τ).loc Cert.AbDw.main_arg0)
      ∧ r.2.mem ((c.tc : Thread Cert.AbDw.nD Cert.AbDw.τ).loc Cert.AbDw.main_arg1) = m ((c.tc : Thread Cert.AbDw.nD Cert.AbDw.τ).loc Cert.AbDw.main_arg1)
      ∧ r.2.mem ((c.tc : Thread Cert.AbDw.nD Cert.AbDw.τ).loc Cert.AbDw.main_arg2) = m ((c.tc : Thread Cert.AbDw.nD Cert.AbDw.τ).loc Cert.AbDw.main_arg2))
      ∧ r.2.sem = fun _ => 0)

def quiescent_AbDwIdeal [hAbDwIdeal : Cert.AbDwIdeal.Facts] : Prop :=
  ∀ (m : (ℓ : Loc Cert.AbDwIdeal.nD Cert.AbDwIdeal.τ Cert.AbDwIdeal.sig) → Buf (Elt Ideal) ℓ) (g : Dev Cert.AbDwIdeal.nD → PrngReg), Pre_AbDwIdeal m →
    θ_run (Cert.AbDwIdeal.defs (F := Ideal)) (onTc (τ := Cert.AbDwIdeal.τ) (Cert.AbDwIdeal.main (F := Ideal))) ⟨m, fun _ => 0, g⟩ (fun r => (∀ c : Dev Cert.AbDwIdeal.nD,
      r.2.mem ((c.tc : Thread Cert.AbDwIdeal.nD Cert.AbDwIdeal.τ).loc Cert.AbDwIdeal.main_arg0) = m ((c.tc : Thread Cert.AbDwIdeal.nD Cert.AbDwIdeal.τ).loc Cert.AbDwIdeal.main_arg0)
      ∧ r.2.mem ((c.tc : Thread Cert.AbDwIdeal.nD Cert.AbDwIdeal.τ).loc Cert.AbDwIdeal.main_arg1) = m ((c.tc : Thread Cert.AbDwIdeal.nD Cert.AbDwIdeal.τ).loc Cert.AbDwIdeal.main_arg1)
      ∧ r.2.mem ((c.tc : Thread Cert.AbDwIdeal.nD Cert.AbDwIdeal.τ).loc Cert.AbDwIdeal.main_arg2) = m ((c.tc : Thread Cert.AbDwIdeal.nD Cert.AbDwIdeal.τ).loc Cert.AbDwIdeal.main_arg2))
      ∧ r.2.sem = fun _ => 0)

def quiescent_AbDwReferenceIdeal [hAbDwReferenceIdeal : Cert.AbDwReferenceIdeal.Facts] : Prop :=
  ∀ (m : (ℓ : Loc Cert.AbDwReferenceIdeal.nD Cert.AbDwReferenceIdeal.τ Cert.AbDwReferenceIdeal.sig) → Buf (Elt Ideal) ℓ) (g : Dev Cert.AbDwReferenceIdeal.nD → PrngReg), Pre_AbDwReferenceIdeal m →
    θ_run (Cert.AbDwReferenceIdeal.defs (F := Ideal)) (onTc (τ := Cert.AbDwReferenceIdeal.τ) (Cert.AbDwReferenceIdeal.main (F := Ideal))) ⟨m, fun _ => 0, g⟩ (fun r => (∀ c : Dev Cert.AbDwReferenceIdeal.nD,
      r.2.mem ((c.tc : Thread Cert.AbDwReferenceIdeal.nD Cert.AbDwReferenceIdeal.τ).loc Cert.AbDwReferenceIdeal.main_arg0) = m ((c.tc : Thread Cert.AbDwReferenceIdeal.nD Cert.AbDwReferenceIdeal.τ).loc Cert.AbDwReferenceIdeal.main_arg0)
      ∧ r.2.mem ((c.tc : Thread Cert.AbDwReferenceIdeal.nD Cert.AbDwReferenceIdeal.τ).loc Cert.AbDwReferenceIdeal.main_arg1) = m ((c.tc : Thread Cert.AbDwReferenceIdeal.nD Cert.AbDwReferenceIdeal.τ).loc Cert.AbDwReferenceIdeal.main_arg1)
      ∧ r.2.mem ((c.tc : Thread Cert.AbDwReferenceIdeal.nD Cert.AbDwReferenceIdeal.τ).loc Cert.AbDwReferenceIdeal.main_arg2) = m ((c.tc : Thread Cert.AbDwReferenceIdeal.nD Cert.AbDwReferenceIdeal.τ).loc Cert.AbDwReferenceIdeal.main_arg2))
      ∧ r.2.sem = fun _ => 0)

def quiescent_AbDx [hAbDx : Cert.AbDx.Facts] : Prop :=
  ∀ (m : (ℓ : Loc Cert.AbDx.nD Cert.AbDx.τ Cert.AbDx.sig) → Buf (Elt Bits) ℓ) (g : Dev Cert.AbDx.nD → PrngReg), Pre_AbDx m →
    θ_run (Cert.AbDx.defs (F := Bits)) (onTc (τ := Cert.AbDx.τ) (Cert.AbDx.main (F := Bits))) ⟨m, fun _ => 0, g⟩ (fun r => (∀ c : Dev Cert.AbDx.nD,
      r.2.mem ((c.tc : Thread Cert.AbDx.nD Cert.AbDx.τ).loc Cert.AbDx.main_arg0) = m ((c.tc : Thread Cert.AbDx.nD Cert.AbDx.τ).loc Cert.AbDx.main_arg0)
      ∧ r.2.mem ((c.tc : Thread Cert.AbDx.nD Cert.AbDx.τ).loc Cert.AbDx.main_arg1) = m ((c.tc : Thread Cert.AbDx.nD Cert.AbDx.τ).loc Cert.AbDx.main_arg1)
      ∧ r.2.mem ((c.tc : Thread Cert.AbDx.nD Cert.AbDx.τ).loc Cert.AbDx.main_arg2) = m ((c.tc : Thread Cert.AbDx.nD Cert.AbDx.τ).loc Cert.AbDx.main_arg2)
      ∧ r.2.mem ((c.tc : Thread Cert.AbDx.nD Cert.AbDx.τ).loc Cert.AbDx.main_arg3) = m ((c.tc : Thread Cert.AbDx.nD Cert.AbDx.τ).loc Cert.AbDx.main_arg3))
      ∧ r.2.sem = fun _ => 0)

def quiescent_AbDxIdeal [hAbDxIdeal : Cert.AbDxIdeal.Facts] : Prop :=
  ∀ (m : (ℓ : Loc Cert.AbDxIdeal.nD Cert.AbDxIdeal.τ Cert.AbDxIdeal.sig) → Buf (Elt Ideal) ℓ) (g : Dev Cert.AbDxIdeal.nD → PrngReg), Pre_AbDxIdeal m →
    θ_run (Cert.AbDxIdeal.defs (F := Ideal)) (onTc (τ := Cert.AbDxIdeal.τ) (Cert.AbDxIdeal.main (F := Ideal))) ⟨m, fun _ => 0, g⟩ (fun r => (∀ c : Dev Cert.AbDxIdeal.nD,
      r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
      ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1)
      ∧ r.2.mem ((c.tc : Thread Cert.AbDxIdeal.nD Cert.AbDxIdeal.τ).loc Cert.AbDxIdeal.main_arg2) = m ((c.tc : Thread Cert.AbDxIdeal.nD Cert.AbDxIdeal.τ).loc Cert.AbDxIdeal.main_arg2)
      ∧ r.2.mem ((c.tc : Thread Cert.AbDxIdeal.nD Cert.AbDxIdeal.τ).loc Cert.AbDxIdeal.main_arg3) = m ((c.tc : Thread Cert.AbDxIdeal.nD Cert.AbDxIdeal.τ).loc Cert.AbDxIdeal.main_arg3))
      ∧ r.2.sem = fun _ => 0)

def quiescent_AbDxReferenceIdeal [hAbDxReferenceIdeal : Cert.AbDxReferenceIdeal.Facts] : Prop :=
  ∀ (m : (ℓ : Loc Cert.AbDxReferenceIdeal.nD Cert.AbDxReferenceIdeal.τ Cert.AbDxReferenceIdeal.sig) → Buf (Elt Ideal) ℓ) (g : Dev Cert.AbDxReferenceIdeal.nD → PrngReg), Pre_AbDxReferenceIdeal m →
    θ_run (Cert.AbDxReferenceIdeal.defs (F := Ideal)) (onTc (τ := Cert.AbDxReferenceIdeal.τ) (Cert.AbDxReferenceIdeal.main (F := Ideal))) ⟨m, fun _ => 0, g⟩ (fun r => (∀ c : Dev Cert.AbDxReferenceIdeal.nD,
      r.2.mem ((c.tc : Thread Cert.AbDxReferenceIdeal.nD Cert.AbDxReferenceIdeal.τ).loc Cert.AbDxReferenceIdeal.main_arg0) = m ((c.tc : Thread Cert.AbDxReferenceIdeal.nD Cert.AbDxReferenceIdeal.τ).loc Cert.AbDxReferenceIdeal.main_arg0)
      ∧ r.2.mem ((c.tc : Thread Cert.AbDxReferenceIdeal.nD Cert.AbDxReferenceIdeal.τ).loc Cert.AbDxReferenceIdeal.main_arg1) = m ((c.tc : Thread Cert.AbDxReferenceIdeal.nD Cert.AbDxReferenceIdeal.τ).loc Cert.AbDxReferenceIdeal.main_arg1)
      ∧ r.2.mem ((c.tc : Thread Cert.AbDxReferenceIdeal.nD Cert.AbDxReferenceIdeal.τ).loc Cert.AbDxReferenceIdeal.main_arg2) = m ((c.tc : Thread Cert.AbDxReferenceIdeal.nD Cert.AbDxReferenceIdeal.τ).loc Cert.AbDxReferenceIdeal.main_arg2)
      ∧ r.2.mem ((c.tc : Thread Cert.AbDxReferenceIdeal.nD Cert.AbDxReferenceIdeal.τ).loc Cert.AbDxReferenceIdeal.main_arg3) = m ((c.tc : Thread Cert.AbDxReferenceIdeal.nD Cert.AbDxReferenceIdeal.τ).loc Cert.AbDxReferenceIdeal.main_arg3))
      ∧ r.2.sem = fun _ => 0)

def quiescent_QpFwd [hQpFwd : Cert.QpFwd.Facts] : Prop :=
  ∀ (m : (ℓ : Loc Cert.QpFwd.nD Cert.QpFwd.τ Cert.QpFwd.sig) → Buf (Elt Bits) ℓ) (g : Dev Cert.QpFwd.nD → PrngReg), Pre_QpFwd m →
    θ_run (Cert.QpFwd.defs (F := Bits)) (onTc (τ := Cert.QpFwd.τ) (Cert.QpFwd.main (F := Bits))) ⟨m, fun _ => 0, g⟩ (fun r => (∀ c : Dev Cert.QpFwd.nD,
      r.2.mem ((c.tc : Thread Cert.QpFwd.nD Cert.QpFwd.τ).loc Cert.QpFwd.main_arg0) = m ((c.tc : Thread Cert.QpFwd.nD Cert.QpFwd.τ).loc Cert.QpFwd.main_arg0)
      ∧ r.2.mem ((c.tc : Thread Cert.QpFwd.nD Cert.QpFwd.τ).loc Cert.QpFwd.main_arg1) = m ((c.tc : Thread Cert.QpFwd.nD Cert.QpFwd.τ).loc Cert.QpFwd.main_arg1))
      ∧ r.2.sem = fun _ => 0)

def quiescent_QpFwdIdeal [hQpFwdIdeal : Cert.QpFwdIdeal.Facts] : Prop :=
  ∀ (m : (ℓ : Loc Cert.QpFwdIdeal.nD Cert.QpFwdIdeal.τ Cert.QpFwdIdeal.sig) → Buf (Elt Ideal) ℓ) (g : Dev Cert.QpFwdIdeal.nD → PrngReg), Pre_QpFwdIdeal m →
    θ_run (Cert.QpFwdIdeal.defs (F := Ideal)) (onTc (τ := Cert.QpFwdIdeal.τ) (Cert.QpFwdIdeal.main (F := Ideal))) ⟨m, fun _ => 0, g⟩ (fun r => (∀ c : Dev Cert.QpFwdIdeal.nD,
      r.2.mem ((c.tc : Thread Cert.QpFwdIdeal.nD Cert.QpFwdIdeal.τ).loc Cert.QpFwdIdeal.main_arg0) = m ((c.tc : Thread Cert.QpFwdIdeal.nD Cert.QpFwdIdeal.τ).loc Cert.QpFwdIdeal.main_arg0)
      ∧ r.2.mem ((c.tc : Thread Cert.QpFwdIdeal.nD Cert.QpFwdIdeal.τ).loc Cert.QpFwdIdeal.main_arg1) = m ((c.tc : Thread Cert.QpFwdIdeal.nD Cert.QpFwdIdeal.τ).loc Cert.QpFwdIdeal.main_arg1))
      ∧ r.2.sem = fun _ => 0)

def quiescent_QpFwdReferenceIdeal [hQpFwdReferenceIdeal : Cert.QpFwdReferenceIdeal.Facts] : Prop :=
  ∀ (m : (ℓ : Loc Cert.QpFwdReferenceIdeal.nD Cert.QpFwdReferenceIdeal.τ Cert.QpFwdReferenceIdeal.sig) → Buf (Elt Ideal) ℓ) (g : Dev Cert.QpFwdReferenceIdeal.nD → PrngReg), Pre_QpFwdReferenceIdeal m →
    θ_run (Cert.QpFwdReferenceIdeal.defs (F := Ideal)) (onTc (τ := Cert.QpFwdReferenceIdeal.τ) (Cert.QpFwdReferenceIdeal.main (F := Ideal))) ⟨m, fun _ => 0, g⟩ (fun r => (∀ c : Dev Cert.QpFwdReferenceIdeal.nD,
      r.2.mem ((c.tc : Thread Cert.QpFwdReferenceIdeal.nD Cert.QpFwdReferenceIdeal.τ).loc Cert.QpFwdReferenceIdeal.main_arg0) = m ((c.tc : Thread Cert.QpFwdReferenceIdeal.nD Cert.QpFwdReferenceIdeal.τ).loc Cert.QpFwdReferenceIdeal.main_arg0)
      ∧ r.2.mem ((c.tc : Thread Cert.QpFwdReferenceIdeal.nD Cert.QpFwdReferenceIdeal.τ).loc Cert.QpFwdReferenceIdeal.main_arg1) = m ((c.tc : Thread Cert.QpFwdReferenceIdeal.nD Cert.QpFwdReferenceIdeal.τ).loc Cert.QpFwdReferenceIdeal.main_arg1))
      ∧ r.2.sem = fun _ => 0)

def quiescent_UqDxAdd [hUqDxAdd : Cert.UqDxAdd.Facts] : Prop :=
  ∀ (m : (ℓ : Loc Cert.UqDxAdd.nD Cert.UqDxAdd.τ Cert.UqDxAdd.sig) → Buf (Elt Bits) ℓ) (g : Dev Cert.UqDxAdd.nD → PrngReg), Pre_UqDxAdd m →
    θ_run (Cert.UqDxAdd.defs (F := Bits)) (onTc (τ := Cert.UqDxAdd.τ) (Cert.UqDxAdd.main (F := Bits))) ⟨m, fun _ => 0, g⟩ (fun r => (∀ c : Dev Cert.UqDxAdd.nD,
      r.2.mem ((c.tc : Thread Cert.UqDxAdd.nD Cert.UqDxAdd.τ).loc Cert.UqDxAdd.main_arg0) = m ((c.tc : Thread Cert.UqDxAdd.nD Cert.UqDxAdd.τ).loc Cert.UqDxAdd.main_arg0)
      ∧ r.2.mem ((c.tc : Thread Cert.UqDxAdd.nD Cert.UqDxAdd.τ).loc Cert.UqDxAdd.main_arg1) = m ((c.tc : Thread Cert.UqDxAdd.nD Cert.UqDxAdd.τ).loc Cert.UqDxAdd.main_arg1)
      ∧ r.2.mem ((c.tc : Thread Cert.UqDxAdd.nD Cert.UqDxAdd.τ).loc Cert.UqDxAdd.main_arg2) = m ((c.tc : Thread Cert.UqDxAdd.nD Cert.UqDxAdd.τ).loc Cert.UqDxAdd.main_arg2)
      ∧ r.2.mem ((c.tc : Thread Cert.UqDxAdd.nD Cert.UqDxAdd.τ).loc Cert.UqDxAdd.main_arg3) = m ((c.tc : Thread Cert.UqDxAdd.nD Cert.UqDxAdd.τ).loc Cert.UqDxAdd.main_arg3))
      ∧ r.2.sem = fun _ => 0)

def quiescent_UqDxAddIdeal [hUqDxAddIdeal : Cert.UqDxAddIdeal.Facts] : Prop :=
  ∀ (m : (ℓ : Loc Cert.UqDxAddIdeal.nD Cert.UqDxAddIdeal.τ Cert.UqDxAddIdeal.sig) → Buf (Elt Ideal) ℓ) (g : Dev Cert.UqDxAddIdeal.nD → PrngReg), Pre_UqDxAddIdeal m →
    θ_run (Cert.UqDxAddIdeal.defs (F := Ideal)) (onTc (τ := Cert.UqDxAddIdeal.τ) (Cert.UqDxAddIdeal.main (F := Ideal))) ⟨m, fun _ => 0, g⟩ (fun r => (∀ c : Dev Cert.UqDxAddIdeal.nD,
      r.2.mem ((c.tc : Thread Cert.UqDxAddIdeal.nD Cert.UqDxAddIdeal.τ).loc Cert.UqDxAddIdeal.main_arg0) = m ((c.tc : Thread Cert.UqDxAddIdeal.nD Cert.UqDxAddIdeal.τ).loc Cert.UqDxAddIdeal.main_arg0)
      ∧ r.2.mem ((c.tc : Thread Cert.UqDxAddIdeal.nD Cert.UqDxAddIdeal.τ).loc Cert.UqDxAddIdeal.main_arg1) = m ((c.tc : Thread Cert.UqDxAddIdeal.nD Cert.UqDxAddIdeal.τ).loc Cert.UqDxAddIdeal.main_arg1)
      ∧ r.2.mem ((c.tc : Thread Cert.UqDxAddIdeal.nD Cert.UqDxAddIdeal.τ).loc Cert.UqDxAddIdeal.main_arg2) = m ((c.tc : Thread Cert.UqDxAddIdeal.nD Cert.UqDxAddIdeal.τ).loc Cert.UqDxAddIdeal.main_arg2)
      ∧ r.2.mem ((c.tc : Thread Cert.UqDxAddIdeal.nD Cert.UqDxAddIdeal.τ).loc Cert.UqDxAddIdeal.main_arg3) = m ((c.tc : Thread Cert.UqDxAddIdeal.nD Cert.UqDxAddIdeal.τ).loc Cert.UqDxAddIdeal.main_arg3))
      ∧ r.2.sem = fun _ => 0)

def quiescent_UqDxAddReferenceIdeal [hUqDxAddReferenceIdeal : Cert.UqDxAddReferenceIdeal.Facts] : Prop :=
  ∀ (m : (ℓ : Loc Cert.UqDxAddReferenceIdeal.nD Cert.UqDxAddReferenceIdeal.τ Cert.UqDxAddReferenceIdeal.sig) → Buf (Elt Ideal) ℓ) (g : Dev Cert.UqDxAddReferenceIdeal.nD → PrngReg), Pre_UqDxAddReferenceIdeal m →
    θ_run (Cert.UqDxAddReferenceIdeal.defs (F := Ideal)) (onTc (τ := Cert.UqDxAddReferenceIdeal.τ) (Cert.UqDxAddReferenceIdeal.main (F := Ideal))) ⟨m, fun _ => 0, g⟩ (fun r => (∀ c : Dev Cert.UqDxAddReferenceIdeal.nD,
      r.2.mem ((c.tc : Thread Cert.UqDxAddReferenceIdeal.nD Cert.UqDxAddReferenceIdeal.τ).loc Cert.UqDxAddReferenceIdeal.main_arg0) = m ((c.tc : Thread Cert.UqDxAddReferenceIdeal.nD Cert.UqDxAddReferenceIdeal.τ).loc Cert.UqDxAddReferenceIdeal.main_arg0)
      ∧ r.2.mem ((c.tc : Thread Cert.UqDxAddReferenceIdeal.nD Cert.UqDxAddReferenceIdeal.τ).loc Cert.UqDxAddReferenceIdeal.main_arg1) = m ((c.tc : Thread Cert.UqDxAddReferenceIdeal.nD Cert.UqDxAddReferenceIdeal.τ).loc Cert.UqDxAddReferenceIdeal.main_arg1)
      ∧ r.2.mem ((c.tc : Thread Cert.UqDxAddReferenceIdeal.nD Cert.UqDxAddReferenceIdeal.τ).loc Cert.UqDxAddReferenceIdeal.main_arg2) = m ((c.tc : Thread Cert.UqDxAddReferenceIdeal.nD Cert.UqDxAddReferenceIdeal.τ).loc Cert.UqDxAddReferenceIdeal.main_arg2)
      ∧ r.2.mem ((c.tc : Thread Cert.UqDxAddReferenceIdeal.nD Cert.UqDxAddReferenceIdeal.τ).loc Cert.UqDxAddReferenceIdeal.main_arg3) = m ((c.tc : Thread Cert.UqDxAddReferenceIdeal.nD Cert.UqDxAddReferenceIdeal.τ).loc Cert.UqDxAddReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQReferenceIdeal [hAdamQReferenceIdeal : Cert.AdamQReferenceIdeal.Facts] : Prop :=
  ∀ (m : (ℓ : Loc Cert.AdamQReferenceIdeal.nD Cert.AdamQReferenceIdeal.τ Cert.AdamQReferenceIdeal.sig) → Buf (Elt Ideal) ℓ) (g : Dev Cert.AdamQReferenceIdeal.nD → PrngReg), Pre_AdamQReferenceIdeal m →
    θ_run (Cert.AdamQReferenceIdeal.defs (F := Ideal)) (onTc (τ := Cert.AdamQReferenceIdeal.τ) (Cert.AdamQReferenceIdeal.main (F := Ideal))) ⟨m, fun _ => 0, g⟩ (fun r => (∀ c : Dev Cert.AdamQReferenceIdeal.nD,
      r.2.mem ((c.tc : Thread Cert.AdamQReferenceIdeal.nD Cert.AdamQReferenceIdeal.τ).loc Cert.AdamQReferenceIdeal.main_arg0) = m ((c.tc : Thread Cert.AdamQReferenceIdeal.nD Cert.AdamQReferenceIdeal.τ).loc Cert.AdamQReferenceIdeal.main_arg0)
      ∧ r.2.mem ((c.tc : Thread Cert.AdamQReferenceIdeal.nD Cert.AdamQReferenceIdeal.τ).loc Cert.AdamQReferenceIdeal.main_arg1) = m ((c.tc : Thread Cert.AdamQReferenceIdeal.nD Cert.AdamQReferenceIdeal.τ).loc Cert.AdamQReferenceIdeal.main_arg1)
      ∧ r.2.mem ((c.tc : Thread Cert.AdamQReferenceIdeal.nD Cert.AdamQReferenceIdeal.τ).loc Cert.AdamQReferenceIdeal.main_arg2) = m ((c.tc : Thread Cert.AdamQReferenceIdeal.nD Cert.AdamQReferenceIdeal.τ).loc Cert.AdamQReferenceIdeal.main_arg2)
      ∧ r.2.mem ((c.tc : Thread Cert.AdamQReferenceIdeal.nD Cert.AdamQReferenceIdeal.τ).loc Cert.AdamQReferenceIdeal.main_arg3) = m ((c.tc : Thread Cert.AdamQReferenceIdeal.nD Cert.AdamQReferenceIdeal.τ).loc Cert.AdamQReferenceIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCReferenceIdeal [hAdamCReferenceIdeal : Cert.AdamCReferenceIdeal.Facts] : Prop :=
  ∀ (m : (ℓ : Loc Cert.AdamCReferenceIdeal.nD Cert.AdamCReferenceIdeal.τ Cert.AdamCReferenceIdeal.sig) → Buf (Elt Ideal) ℓ) (g : Dev Cert.AdamCReferenceIdeal.nD → PrngReg), Pre_AdamCReferenceIdeal m →
    θ_run (Cert.AdamCReferenceIdeal.defs (F := Ideal)) (onTc (τ := Cert.AdamCReferenceIdeal.τ) (Cert.AdamCReferenceIdeal.main (F := Ideal))) ⟨m, fun _ => 0, g⟩ (fun r => (∀ c : Dev Cert.AdamCReferenceIdeal.nD,
      r.2.mem ((c.tc : Thread Cert.AdamCReferenceIdeal.nD Cert.AdamCReferenceIdeal.τ).loc Cert.AdamCReferenceIdeal.main_arg0) = m ((c.tc : Thread Cert.AdamCReferenceIdeal.nD Cert.AdamCReferenceIdeal.τ).loc Cert.AdamCReferenceIdeal.main_arg0)
      ∧ r.2.mem ((c.tc : Thread Cert.AdamCReferenceIdeal.nD Cert.AdamCReferenceIdeal.τ).loc Cert.AdamCReferenceIdeal.main_arg1) = m ((c.tc : Thread Cert.AdamCReferenceIdeal.nD Cert.AdamCReferenceIdeal.τ).loc Cert.AdamCReferenceIdeal.main_arg1)
      ∧ r.2.mem ((c.tc : Thread Cert.AdamCReferenceIdeal.nD Cert.AdamCReferenceIdeal.τ).loc Cert.AdamCReferenceIdeal.main_arg2) = m ((c.tc : Thread Cert.AdamCReferenceIdeal.nD Cert.AdamCReferenceIdeal.τ).loc Cert.AdamCReferenceIdeal.main_arg2)
      ∧ r.2.mem ((c.tc : Thread Cert.AdamCReferenceIdeal.nD Cert.AdamCReferenceIdeal.τ).loc Cert.AdamCReferenceIdeal.main_arg3) = m ((c.tc : Thread Cert.AdamCReferenceIdeal.nD Cert.AdamCReferenceIdeal.τ).loc Cert.AdamCReferenceIdeal.main_arg3))
      ∧ r.2.sem = fun _ => 0)

def quiescent_AdamV [hAdamV : Cert.AdamV.Facts] : Prop :=
  ∀ (m : (ℓ : Loc Cert.AdamV.nD Cert.AdamV.τ Cert.AdamV.sig) → Buf (Elt Bits) ℓ) (g : Dev Cert.AdamV.nD → PrngReg), Pre_AdamV m →
    θ_run (Cert.AdamV.defs (F := Bits)) (onTc (τ := Cert.AdamV.τ) (Cert.AdamV.main (F := Bits))) ⟨m, fun _ => 0, g⟩ (fun r => (∀ c : Dev Cert.AdamV.nD,
      r.2.mem ((c.tc : Thread Cert.AdamV.nD Cert.AdamV.τ).loc Cert.AdamV.main_arg0) = m ((c.tc : Thread Cert.AdamV.nD Cert.AdamV.τ).loc Cert.AdamV.main_arg0)
      ∧ r.2.mem ((c.tc : Thread Cert.AdamV.nD Cert.AdamV.τ).loc Cert.AdamV.main_arg1) = m ((c.tc : Thread Cert.AdamV.nD Cert.AdamV.τ).loc Cert.AdamV.main_arg1)
      ∧ r.2.mem ((c.tc : Thread Cert.AdamV.nD Cert.AdamV.τ).loc Cert.AdamV.main_arg2) = m ((c.tc : Thread Cert.AdamV.nD Cert.AdamV.τ).loc Cert.AdamV.main_arg2)
      ∧ r.2.mem ((c.tc : Thread Cert.AdamV.nD Cert.AdamV.τ).loc Cert.AdamV.main_arg3) = m ((c.tc : Thread Cert.AdamV.nD Cert.AdamV.τ).loc Cert.AdamV.main_arg3))
      ∧ r.2.sem = fun _ => 0)

def quiescent_AdamVIdeal [hAdamVIdeal : Cert.AdamVIdeal.Facts] : Prop :=
  ∀ (m : (ℓ : Loc Cert.AdamVIdeal.nD Cert.AdamVIdeal.τ Cert.AdamVIdeal.sig) → Buf (Elt Ideal) ℓ) (g : Dev Cert.AdamVIdeal.nD → PrngReg), Pre_AdamVIdeal m →
    θ_run (Cert.AdamVIdeal.defs (F := Ideal)) (onTc (τ := Cert.AdamVIdeal.τ) (Cert.AdamVIdeal.main (F := Ideal))) ⟨m, fun _ => 0, g⟩ (fun r => (∀ c : Dev Cert.AdamVIdeal.nD,
      r.2.mem ((c.tc : Thread Cert.AdamVIdeal.nD Cert.AdamVIdeal.τ).loc Cert.AdamVIdeal.main_arg0) = m ((c.tc : Thread Cert.AdamVIdeal.nD Cert.AdamVIdeal.τ).loc Cert.AdamVIdeal.main_arg0)
      ∧ r.2.mem ((c.tc : Thread Cert.AdamVIdeal.nD Cert.AdamVIdeal.τ).loc Cert.AdamVIdeal.main_arg1) = m ((c.tc : Thread Cert.AdamVIdeal.nD Cert.AdamVIdeal.τ).loc Cert.AdamVIdeal.main_arg1)
      ∧ r.2.mem ((c.tc : Thread Cert.AdamVIdeal.nD Cert.AdamVIdeal.τ).loc Cert.AdamVIdeal.main_arg2) = m ((c.tc : Thread Cert.AdamVIdeal.nD Cert.AdamVIdeal.τ).loc Cert.AdamVIdeal.main_arg2)
      ∧ r.2.mem ((c.tc : Thread Cert.AdamVIdeal.nD Cert.AdamVIdeal.τ).loc Cert.AdamVIdeal.main_arg3) = m ((c.tc : Thread Cert.AdamVIdeal.nD Cert.AdamVIdeal.τ).loc Cert.AdamVIdeal.main_arg3))
      ∧ r.2.sem = fun _ => 0)

def quiescent_AdamVReferenceIdeal [hAdamVReferenceIdeal : Cert.AdamVReferenceIdeal.Facts] : Prop :=
  ∀ (m : (ℓ : Loc Cert.AdamVReferenceIdeal.nD Cert.AdamVReferenceIdeal.τ Cert.AdamVReferenceIdeal.sig) → Buf (Elt Ideal) ℓ) (g : Dev Cert.AdamVReferenceIdeal.nD → PrngReg), Pre_AdamVReferenceIdeal m →
    θ_run (Cert.AdamVReferenceIdeal.defs (F := Ideal)) (onTc (τ := Cert.AdamVReferenceIdeal.τ) (Cert.AdamVReferenceIdeal.main (F := Ideal))) ⟨m, fun _ => 0, g⟩ (fun r => (∀ c : Dev Cert.AdamVReferenceIdeal.nD,
      r.2.mem ((c.tc : Thread Cert.AdamVReferenceIdeal.nD Cert.AdamVReferenceIdeal.τ).loc Cert.AdamVReferenceIdeal.main_arg0) = m ((c.tc : Thread Cert.AdamVReferenceIdeal.nD Cert.AdamVReferenceIdeal.τ).loc Cert.AdamVReferenceIdeal.main_arg0)
      ∧ r.2.mem ((c.tc : Thread Cert.AdamVReferenceIdeal.nD Cert.AdamVReferenceIdeal.τ).loc Cert.AdamVReferenceIdeal.main_arg1) = m ((c.tc : Thread Cert.AdamVReferenceIdeal.nD Cert.AdamVReferenceIdeal.τ).loc Cert.AdamVReferenceIdeal.main_arg1)
      ∧ r.2.mem ((c.tc : Thread Cert.AdamVReferenceIdeal.nD Cert.AdamVReferenceIdeal.τ).loc Cert.AdamVReferenceIdeal.main_arg2) = m ((c.tc : Thread Cert.AdamVReferenceIdeal.nD Cert.AdamVReferenceIdeal.τ).loc Cert.AdamVReferenceIdeal.main_arg2)
      ∧ r.2.mem ((c.tc : Thread Cert.AdamVReferenceIdeal.nD Cert.AdamVReferenceIdeal.τ).loc Cert.AdamVReferenceIdeal.main_arg3) = m ((c.tc : Thread Cert.AdamVReferenceIdeal.nD Cert.AdamVReferenceIdeal.τ).loc Cert.AdamVReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_RopeFwd [hRopeFwd : Cert.RopeFwd.Facts] : Prop :=
  ∀ (m : (ℓ : Loc Cert.RopeFwd.nD Cert.RopeFwd.τ Cert.RopeFwd.sig) → Buf (Elt Bits) ℓ) (g : Dev Cert.RopeFwd.nD → PrngReg), Pre_RopeFwd m →
    θ_run (Cert.RopeFwd.defs (F := Bits)) (onTc (τ := Cert.RopeFwd.τ) (Cert.RopeFwd.main (F := Bits))) ⟨m, fun _ => 0, g⟩ (fun r => (∀ c : Dev Cert.RopeFwd.nD,
      r.2.mem ((c.tc : Thread Cert.RopeFwd.nD Cert.RopeFwd.τ).loc Cert.RopeFwd.main_arg0) = m ((c.tc : Thread Cert.RopeFwd.nD Cert.RopeFwd.τ).loc Cert.RopeFwd.main_arg0)
      ∧ r.2.mem ((c.tc : Thread Cert.RopeFwd.nD Cert.RopeFwd.τ).loc Cert.RopeFwd.main_arg1) = m ((c.tc : Thread Cert.RopeFwd.nD Cert.RopeFwd.τ).loc Cert.RopeFwd.main_arg1)
      ∧ r.2.mem ((c.tc : Thread Cert.RopeFwd.nD Cert.RopeFwd.τ).loc Cert.RopeFwd.main_arg2) = m ((c.tc : Thread Cert.RopeFwd.nD Cert.RopeFwd.τ).loc Cert.RopeFwd.main_arg2))
      ∧ r.2.sem = fun _ => 0)

def quiescent_RopeFwdIdeal [hRopeFwdIdeal : Cert.RopeFwdIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg), Pre_RopeFwdIdeal m →
    θ_run (Cert.RopeFwdIdeal.defs (F := Ideal)) (onTc (τ := Cert.RopeFwdIdeal.τ) (Cert.RopeFwdIdeal.main (F := Ideal))) ⟨m, fun _ => 0, g⟩ (fun r => (∀ c : Dev Cert.RopeFwdIdeal.nD,
      r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
      ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
      ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ r.2.sem = fun _ => 0)

def quiescent_RopeFwdReferenceIdeal [hRopeFwdReferenceIdeal : Cert.RopeFwdReferenceIdeal.Facts] : Prop :=
  ∀ (m : (ℓ : Loc Cert.RopeFwdReferenceIdeal.nD Cert.RopeFwdReferenceIdeal.τ Cert.RopeFwdReferenceIdeal.sig) → Buf (Elt Ideal) ℓ) (g : Dev Cert.RopeFwdReferenceIdeal.nD → PrngReg), Pre_RopeFwdReferenceIdeal m →
    θ_run (Cert.RopeFwdReferenceIdeal.defs (F := Ideal)) (onTc (τ := Cert.RopeFwdReferenceIdeal.τ) (Cert.RopeFwdReferenceIdeal.main (F := Ideal))) ⟨m, fun _ => 0, g⟩ (fun r => (∀ c : Dev Cert.RopeFwdReferenceIdeal.nD,
      r.2.mem ((c.tc : Thread Cert.RopeFwdReferenceIdeal.nD Cert.RopeFwdReferenceIdeal.τ).loc Cert.RopeFwdReferenceIdeal.main_arg0) = m ((c.tc : Thread Cert.RopeFwdReferenceIdeal.nD Cert.RopeFwdReferenceIdeal.τ).loc Cert.RopeFwdReferenceIdeal.main_arg0)
      ∧ r.2.mem ((c.tc : Thread Cert.RopeFwdReferenceIdeal.nD Cert.RopeFwdReferenceIdeal.τ).loc Cert.RopeFwdReferenceIdeal.main_arg1) = m ((c.tc : Thread Cert.RopeFwdReferenceIdeal.nD Cert.RopeFwdReferenceIdeal.τ).loc Cert.RopeFwdReferenceIdeal.main_arg1)
      ∧ r.2.mem ((c.tc : Thread Cert.RopeFwdReferenceIdeal.nD Cert.RopeFwdReferenceIdeal.τ).loc Cert.RopeFwdReferenceIdeal.main_arg2) = m ((c.tc : Thread Cert.RopeFwdReferenceIdeal.nD Cert.RopeFwdReferenceIdeal.τ).loc Cert.RopeFwdReferenceIdeal.main_arg2))
      ∧ r.2.sem = fun _ => 0)

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3)
      ∧ r.2.mem ((c.tc : Thread Cert.RopeBwd.nD Cert.RopeBwd.τ).loc Cert.RopeBwd.main_arg4) = m ((c.tc : Thread Cert.RopeBwd.nD Cert.RopeBwd.τ).loc Cert.RopeBwd.main_arg4))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3)
      ∧ r.2.mem ((c.tc : Thread Cert.RopeBwdIdeal.nD Cert.RopeBwdIdeal.τ).loc Cert.RopeBwdIdeal.main_arg4) = m ((c.tc : Thread Cert.RopeBwdIdeal.nD Cert.RopeBwdIdeal.τ).loc Cert.RopeBwdIdeal.main_arg4))
      ∧ r.2.sem = fun _ => 0)

def quiescent_RopeBwdReferenceIdeal [hRopeBwdReferenceIdeal : Cert.RopeBwdReferenceIdeal.Facts] : Prop :=
  ∀ (m : (ℓ : Loc Cert.RopeBwdReferenceIdeal.nD Cert.RopeBwdReferenceIdeal.τ Cert.RopeBwdReferenceIdeal.sig) → Buf (Elt Ideal) ℓ) (g : Dev Cert.RopeBwdReferenceIdeal.nD → PrngReg), Pre_RopeBwdReferenceIdeal m →
    θ_run (Cert.RopeBwdReferenceIdeal.defs (F := Ideal)) (onTc (τ := Cert.RopeBwdReferenceIdeal.τ) (Cert.RopeBwdReferenceIdeal.main (F := Ideal))) ⟨m, fun _ => 0, g⟩ (fun r => (∀ c : Dev Cert.RopeBwdReferenceIdeal.nD,
      r.2.mem ((c.tc : Thread Cert.RopeBwdReferenceIdeal.nD Cert.RopeBwdReferenceIdeal.τ).loc Cert.RopeBwdReferenceIdeal.main_arg0) = m ((c.tc : Thread Cert.RopeBwdReferenceIdeal.nD Cert.RopeBwdReferenceIdeal.τ).loc Cert.RopeBwdReferenceIdeal.main_arg0)
      ∧ r.2.mem ((c.tc : Thread Cert.RopeBwdReferenceIdeal.nD Cert.RopeBwdReferenceIdeal.τ).loc Cert.RopeBwdReferenceIdeal.main_arg1) = m ((c.tc : Thread Cert.RopeBwdReferenceIdeal.nD Cert.RopeBwdReferenceIdeal.τ).loc Cert.RopeBwdReferenceIdeal.main_arg1)
      ∧ r.2.mem ((c.tc : Thread Cert.RopeBwdReferenceIdeal.nD Cert.RopeBwdReferenceIdeal.τ).loc Cert.RopeBwdReferenceIdeal.main_arg2) = m ((c.tc : Thread Cert.RopeBwdReferenceIdeal.nD Cert.RopeBwdReferenceIdeal.τ).loc Cert.RopeBwdReferenceIdeal.main_arg2)
      ∧ r.2.mem ((c.tc : Thread Cert.RopeBwdReferenceIdeal.nD Cert.RopeBwdReferenceIdeal.τ).loc Cert.RopeBwdReferenceIdeal.main_arg3) = m ((c.tc : Thread Cert.RopeBwdReferenceIdeal.nD Cert.RopeBwdReferenceIdeal.τ).loc Cert.RopeBwdReferenceIdeal.main_arg3)
      ∧ r.2.mem ((c.tc : Thread Cert.RopeBwdReferenceIdeal.nD Cert.RopeBwdReferenceIdeal.τ).loc Cert.RopeBwdReferenceIdeal.main_arg4) = m ((c.tc : Thread Cert.RopeBwdReferenceIdeal.nD Cert.RopeBwdReferenceIdeal.τ).loc Cert.RopeBwdReferenceIdeal.main_arg4))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdReferenceIdeal [hPrepFwdReferenceIdeal : Cert.PrepFwdReferenceIdeal.Facts] : Prop :=
  ∀ (m : (ℓ : Loc Cert.PrepFwdReferenceIdeal.nD Cert.PrepFwdReferenceIdeal.τ Cert.PrepFwdReferenceIdeal.sig) → Buf (Elt Ideal) ℓ) (g : Dev Cert.PrepFwdReferenceIdeal.nD → PrngReg), Pre_PrepFwdReferenceIdeal m →
    θ_run (Cert.PrepFwdReferenceIdeal.defs (F := Ideal)) (onTc (τ := Cert.PrepFwdReferenceIdeal.τ) (Cert.PrepFwdReferenceIdeal.main (F := Ideal))) ⟨m, fun _ => 0, g⟩ (fun r => (∀ c : Dev Cert.PrepFwdReferenceIdeal.nD,
      r.2.mem ((c.tc : Thread Cert.PrepFwdReferenceIdeal.nD Cert.PrepFwdReferenceIdeal.τ).loc Cert.PrepFwdReferenceIdeal.main_arg0) = m ((c.tc : Thread Cert.PrepFwdReferenceIdeal.nD Cert.PrepFwdReferenceIdeal.τ).loc Cert.PrepFwdReferenceIdeal.main_arg0)
      ∧ r.2.mem ((c.tc : Thread Cert.PrepFwdReferenceIdeal.nD Cert.PrepFwdReferenceIdeal.τ).loc Cert.PrepFwdReferenceIdeal.main_arg1) = m ((c.tc : Thread Cert.PrepFwdReferenceIdeal.nD Cert.PrepFwdReferenceIdeal.τ).loc Cert.PrepFwdReferenceIdeal.main_arg1)
      ∧ r.2.mem ((c.tc : Thread Cert.PrepFwdReferenceIdeal.nD Cert.PrepFwdReferenceIdeal.τ).loc Cert.PrepFwdReferenceIdeal.main_arg2) = m ((c.tc : Thread Cert.PrepFwdReferenceIdeal.nD Cert.PrepFwdReferenceIdeal.τ).loc Cert.PrepFwdReferenceIdeal.main_arg2)
      ∧ r.2.mem ((c.tc : Thread Cert.PrepFwdReferenceIdeal.nD Cert.PrepFwdReferenceIdeal.τ).loc Cert.PrepFwdReferenceIdeal.main_arg3) = m ((c.tc : Thread Cert.PrepFwdReferenceIdeal.nD Cert.PrepFwdReferenceIdeal.τ).loc Cert.PrepFwdReferenceIdeal.main_arg3)
      ∧ r.2.mem ((c.tc : Thread Cert.PrepFwdReferenceIdeal.nD Cert.PrepFwdReferenceIdeal.τ).loc Cert.PrepFwdReferenceIdeal.main_arg4) = m ((c.tc : Thread Cert.PrepFwdReferenceIdeal.nD Cert.PrepFwdReferenceIdeal.τ).loc Cert.PrepFwdReferenceIdeal.main_arg4))
      ∧ r.2.sem = fun _ => 0)

def quiescent_GdnOutFwd [hGdnOutFwd : Cert.GdnOutFwd.Facts] : Prop :=
  ∀ (m : (ℓ : Loc Cert.GdnOutFwd.nD Cert.GdnOutFwd.τ Cert.GdnOutFwd.sig) → Buf (Elt Bits) ℓ) (g : Dev Cert.GdnOutFwd.nD → PrngReg), Pre_GdnOutFwd m →
    θ_run (Cert.GdnOutFwd.defs (F := Bits)) (onTc (τ := Cert.GdnOutFwd.τ) (Cert.GdnOutFwd.main (F := Bits))) ⟨m, fun _ => 0, g⟩ (fun r => (∀ c : Dev Cert.GdnOutFwd.nD,
      r.2.mem ((c.tc : Thread Cert.GdnOutFwd.nD Cert.GdnOutFwd.τ).loc Cert.GdnOutFwd.main_arg0) = m ((c.tc : Thread Cert.GdnOutFwd.nD Cert.GdnOutFwd.τ).loc Cert.GdnOutFwd.main_arg0)
      ∧ r.2.mem ((c.tc : Thread Cert.GdnOutFwd.nD Cert.GdnOutFwd.τ).loc Cert.GdnOutFwd.main_arg1) = m ((c.tc : Thread Cert.GdnOutFwd.nD Cert.GdnOutFwd.τ).loc Cert.GdnOutFwd.main_arg1)
      ∧ r.2.mem ((c.tc : Thread Cert.GdnOutFwd.nD Cert.GdnOutFwd.τ).loc Cert.GdnOutFwd.main_arg2) = m ((c.tc : Thread Cert.GdnOutFwd.nD Cert.GdnOutFwd.τ).loc Cert.GdnOutFwd.main_arg2))
      ∧ r.2.sem = fun _ => 0)

def quiescent_GdnOutFwdIdeal [hGdnOutFwdIdeal : Cert.GdnOutFwdIdeal.Facts] : Prop :=
  ∀ (m : (ℓ : Loc Cert.GdnOutFwdIdeal.nD Cert.GdnOutFwdIdeal.τ Cert.GdnOutFwdIdeal.sig) → Buf (Elt Ideal) ℓ) (g : Dev Cert.GdnOutFwdIdeal.nD → PrngReg), Pre_GdnOutFwdIdeal m →
    θ_run (Cert.GdnOutFwdIdeal.defs (F := Ideal)) (onTc (τ := Cert.GdnOutFwdIdeal.τ) (Cert.GdnOutFwdIdeal.main (F := Ideal))) ⟨m, fun _ => 0, g⟩ (fun r => (∀ c : Dev Cert.GdnOutFwdIdeal.nD,
      r.2.mem ((c.tc : Thread Cert.GdnOutFwdIdeal.nD Cert.GdnOutFwdIdeal.τ).loc Cert.GdnOutFwdIdeal.main_arg0) = m ((c.tc : Thread Cert.GdnOutFwdIdeal.nD Cert.GdnOutFwdIdeal.τ).loc Cert.GdnOutFwdIdeal.main_arg0)
      ∧ r.2.mem ((c.tc : Thread Cert.GdnOutFwdIdeal.nD Cert.GdnOutFwdIdeal.τ).loc Cert.GdnOutFwdIdeal.main_arg1) = m ((c.tc : Thread Cert.GdnOutFwdIdeal.nD Cert.GdnOutFwdIdeal.τ).loc Cert.GdnOutFwdIdeal.main_arg1)
      ∧ r.2.mem ((c.tc : Thread Cert.GdnOutFwdIdeal.nD Cert.GdnOutFwdIdeal.τ).loc Cert.GdnOutFwdIdeal.main_arg2) = m ((c.tc : Thread Cert.GdnOutFwdIdeal.nD Cert.GdnOutFwdIdeal.τ).loc Cert.GdnOutFwdIdeal.main_arg2))
      ∧ r.2.sem = fun _ => 0)

def quiescent_GdnOutFwdReferenceIdeal [hGdnOutFwdReferenceIdeal : Cert.GdnOutFwdReferenceIdeal.Facts] : Prop :=
  ∀ (m : (ℓ : Loc Cert.GdnOutFwdReferenceIdeal.nD Cert.GdnOutFwdReferenceIdeal.τ Cert.GdnOutFwdReferenceIdeal.sig) → Buf (Elt Ideal) ℓ) (g : Dev Cert.GdnOutFwdReferenceIdeal.nD → PrngReg), Pre_GdnOutFwdReferenceIdeal m →
    θ_run (Cert.GdnOutFwdReferenceIdeal.defs (F := Ideal)) (onTc (τ := Cert.GdnOutFwdReferenceIdeal.τ) (Cert.GdnOutFwdReferenceIdeal.main (F := Ideal))) ⟨m, fun _ => 0, g⟩ (fun r => (∀ c : Dev Cert.GdnOutFwdReferenceIdeal.nD,
      r.2.mem ((c.tc : Thread Cert.GdnOutFwdReferenceIdeal.nD Cert.GdnOutFwdReferenceIdeal.τ).loc Cert.GdnOutFwdReferenceIdeal.main_arg0) = m ((c.tc : Thread Cert.GdnOutFwdReferenceIdeal.nD Cert.GdnOutFwdReferenceIdeal.τ).loc Cert.GdnOutFwdReferenceIdeal.main_arg0)
      ∧ r.2.mem ((c.tc : Thread Cert.GdnOutFwdReferenceIdeal.nD Cert.GdnOutFwdReferenceIdeal.τ).loc Cert.GdnOutFwdReferenceIdeal.main_arg1) = m ((c.tc : Thread Cert.GdnOutFwdReferenceIdeal.nD Cert.GdnOutFwdReferenceIdeal.τ).loc Cert.GdnOutFwdReferenceIdeal.main_arg1)
      ∧ r.2.mem ((c.tc : Thread Cert.GdnOutFwdReferenceIdeal.nD Cert.GdnOutFwdReferenceIdeal.τ).loc Cert.GdnOutFwdReferenceIdeal.main_arg2) = m ((c.tc : Thread Cert.GdnOutFwdReferenceIdeal.nD Cert.GdnOutFwdReferenceIdeal.τ).loc Cert.GdnOutFwdReferenceIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v2) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v3) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_UpDxAdd_UpDxAddIdeal : Prop :=
  True

def algebraic_UpDxAddIdeal_UpDxAddReferenceIdeal [hUpDxAddIdeal : Cert.UpDxAddIdeal.Facts] [hUpDxAddReferenceIdeal : Cert.UpDxAddReferenceIdeal.Facts] : Prop :=
  ∀ (m : (ℓ : Loc Cert.UpDxAddIdeal.nD Cert.UpDxAddIdeal.τ Cert.UpDxAddIdeal.sig) → Buf (Elt Ideal) ℓ) (g : Dev Cert.UpDxAddIdeal.nD → PrngReg)
    (m' : (ℓ : Loc Cert.UpDxAddReferenceIdeal.nD Cert.UpDxAddReferenceIdeal.τ Cert.UpDxAddReferenceIdeal.sig) → Buf (Elt Ideal) ℓ) (g' : Dev Cert.UpDxAddReferenceIdeal.nD → PrngReg), Pre_UpDxAddIdeal m →
    (∀ c : Dev Cert.UpDxAddIdeal.nD,
      m' ((c.tc : Thread Cert.UpDxAddReferenceIdeal.nD Cert.UpDxAddReferenceIdeal.τ).loc Cert.UpDxAddReferenceIdeal.main_arg0) = m ((c.tc : Thread Cert.UpDxAddIdeal.nD Cert.UpDxAddIdeal.τ).loc Cert.UpDxAddIdeal.main_arg0)
      ∧ m' ((c.tc : Thread Cert.UpDxAddReferenceIdeal.nD Cert.UpDxAddReferenceIdeal.τ).loc Cert.UpDxAddReferenceIdeal.main_arg1) = m ((c.tc : Thread Cert.UpDxAddIdeal.nD Cert.UpDxAddIdeal.τ).loc Cert.UpDxAddIdeal.main_arg1)
      ∧ m' ((c.tc : Thread Cert.UpDxAddReferenceIdeal.nD Cert.UpDxAddReferenceIdeal.τ).loc Cert.UpDxAddReferenceIdeal.main_arg2) = m ((c.tc : Thread Cert.UpDxAddIdeal.nD Cert.UpDxAddIdeal.τ).loc Cert.UpDxAddIdeal.main_arg2)
      ∧ m' ((c.tc : Thread Cert.UpDxAddReferenceIdeal.nD Cert.UpDxAddReferenceIdeal.τ).loc Cert.UpDxAddReferenceIdeal.main_arg3) = m ((c.tc : Thread Cert.UpDxAddIdeal.nD Cert.UpDxAddIdeal.τ).loc Cert.UpDxAddIdeal.main_arg3)) →
    ∃ (v0 : (c : Dev Cert.UpDxAddIdeal.nD) → Buf (Elt Ideal) ((c.tc : Thread Cert.UpDxAddIdeal.nD Cert.UpDxAddIdeal.τ).loc Cert.UpDxAddIdeal.main_v2)),
      θ_run (Cert.UpDxAddIdeal.defs (F := Ideal)) (onTc (τ := Cert.UpDxAddIdeal.τ) (Cert.UpDxAddIdeal.main (F := Ideal))) ⟨m, fun _ => 0, g⟩ (fun r => ∀ c : Dev Cert.UpDxAddIdeal.nD,
          r.2.mem ((c.tc : Thread Cert.UpDxAddIdeal.nD Cert.UpDxAddIdeal.τ).loc Cert.UpDxAddIdeal.main_v2) = v0 c
          ∧ r.2.mem ((c.tc : Thread Cert.UpDxAddIdeal.nD Cert.UpDxAddIdeal.τ).loc Cert.UpDxAddIdeal.main_arg0) = m ((c.tc : Thread Cert.UpDxAddIdeal.nD Cert.UpDxAddIdeal.τ).loc Cert.UpDxAddIdeal.main_arg0)
          ∧ r.2.mem ((c.tc : Thread Cert.UpDxAddIdeal.nD Cert.UpDxAddIdeal.τ).loc Cert.UpDxAddIdeal.main_arg1) = m ((c.tc : Thread Cert.UpDxAddIdeal.nD Cert.UpDxAddIdeal.τ).loc Cert.UpDxAddIdeal.main_arg1)
          ∧ r.2.mem ((c.tc : Thread Cert.UpDxAddIdeal.nD Cert.UpDxAddIdeal.τ).loc Cert.UpDxAddIdeal.main_arg2) = m ((c.tc : Thread Cert.UpDxAddIdeal.nD Cert.UpDxAddIdeal.τ).loc Cert.UpDxAddIdeal.main_arg2)
          ∧ r.2.mem ((c.tc : Thread Cert.UpDxAddIdeal.nD Cert.UpDxAddIdeal.τ).loc Cert.UpDxAddIdeal.main_arg3) = m ((c.tc : Thread Cert.UpDxAddIdeal.nD Cert.UpDxAddIdeal.τ).loc Cert.UpDxAddIdeal.main_arg3))
      ∧ θ_run (Cert.UpDxAddReferenceIdeal.defs (F := Ideal)) (onTc (τ := Cert.UpDxAddReferenceIdeal.τ) (Cert.UpDxAddReferenceIdeal.main (F := Ideal))) ⟨m', fun _ => 0, g'⟩ (fun r => ∀ c : Dev Cert.UpDxAddReferenceIdeal.nD,
          r.2.mem ((c.tc : Thread Cert.UpDxAddReferenceIdeal.nD Cert.UpDxAddReferenceIdeal.τ).loc Cert.UpDxAddReferenceIdeal.main_v5) = v0 c
          ∧ r.2.mem ((c.tc : Thread Cert.UpDxAddReferenceIdeal.nD Cert.UpDxAddReferenceIdeal.τ).loc Cert.UpDxAddReferenceIdeal.main_arg0) = m' ((c.tc : Thread Cert.UpDxAddReferenceIdeal.nD Cert.UpDxAddReferenceIdeal.τ).loc Cert.UpDxAddReferenceIdeal.main_arg0)
          ∧ r.2.mem ((c.tc : Thread Cert.UpDxAddReferenceIdeal.nD Cert.UpDxAddReferenceIdeal.τ).loc Cert.UpDxAddReferenceIdeal.main_arg1) = m' ((c.tc : Thread Cert.UpDxAddReferenceIdeal.nD Cert.UpDxAddReferenceIdeal.τ).loc Cert.UpDxAddReferenceIdeal.main_arg1)
          ∧ r.2.mem ((c.tc : Thread Cert.UpDxAddReferenceIdeal.nD Cert.UpDxAddReferenceIdeal.τ).loc Cert.UpDxAddReferenceIdeal.main_arg2) = m' ((c.tc : Thread Cert.UpDxAddReferenceIdeal.nD Cert.UpDxAddReferenceIdeal.τ).loc Cert.UpDxAddReferenceIdeal.main_arg2)
          ∧ r.2.mem ((c.tc : Thread Cert.UpDxAddReferenceIdeal.nD Cert.UpDxAddReferenceIdeal.τ).loc Cert.UpDxAddReferenceIdeal.main_arg3) = m' ((c.tc : Thread Cert.UpDxAddReferenceIdeal.nD Cert.UpDxAddReferenceIdeal.τ).loc Cert.UpDxAddReferenceIdeal.main_arg3))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v2) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_QkvDw_QkvDwIdeal : Prop :=
  True

def algebraic_QkvDwIdeal_QkvDwReferenceIdeal [hQkvDwIdeal : Cert.QkvDwIdeal.Facts] [hQkvDwReferenceIdeal : Cert.QkvDwReferenceIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwReferenceIdeal.nD Cert.QkvDwReferenceIdeal.τ Cert.QkvDwReferenceIdeal.sig) → Buf (Elt Ideal) ℓ) (g' : Dev Cert.QkvDwReferenceIdeal.nD → PrngReg), Pre_QkvDwIdeal m →
    (∀ c : Dev Cert.QkvDwIdeal.nD,
      m' ((c.tc : Thread Cert.QkvDwReferenceIdeal.nD Cert.QkvDwReferenceIdeal.τ).loc Cert.QkvDwReferenceIdeal.main_arg0) = m ((c.tc : Thread Cert.QkvDwIdeal.nD Cert.QkvDwIdeal.τ).loc Cert.QkvDwIdeal.main_arg0)
      ∧ m' ((c.tc : Thread Cert.QkvDwReferenceIdeal.nD Cert.QkvDwReferenceIdeal.τ).loc Cert.QkvDwReferenceIdeal.main_arg1) = m ((c.tc : Thread Cert.QkvDwIdeal.nD Cert.QkvDwIdeal.τ).loc Cert.QkvDwIdeal.main_arg1)
      ∧ m' ((c.tc : Thread Cert.QkvDwReferenceIdeal.nD Cert.QkvDwReferenceIdeal.τ).loc Cert.QkvDwReferenceIdeal.main_arg2) = m ((c.tc : Thread Cert.QkvDwIdeal.nD Cert.QkvDwIdeal.τ).loc Cert.QkvDwIdeal.main_arg2)) →
    ∃ (v0 : (c : Dev Cert.QkvDwIdeal.nD) → Buf (Elt Ideal) ((c.tc : Thread Cert.QkvDwIdeal.nD Cert.QkvDwIdeal.τ).loc Cert.QkvDwIdeal.main_v2)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v2) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ θ_run (Cert.QkvDwReferenceIdeal.defs (F := Ideal)) (onTc (τ := Cert.QkvDwReferenceIdeal.τ) (Cert.QkvDwReferenceIdeal.main (F := Ideal))) ⟨m', fun _ => 0, g'⟩ (fun r => ∀ c : Dev Cert.QkvDwReferenceIdeal.nD,
          r.2.mem ((c.tc : Thread Cert.QkvDwReferenceIdeal.nD Cert.QkvDwReferenceIdeal.τ).loc Cert.QkvDwReferenceIdeal.main_v2) = v0 c
          ∧ r.2.mem ((c.tc : Thread Cert.QkvDwReferenceIdeal.nD Cert.QkvDwReferenceIdeal.τ).loc Cert.QkvDwReferenceIdeal.main_arg0) = m' ((c.tc : Thread Cert.QkvDwReferenceIdeal.nD Cert.QkvDwReferenceIdeal.τ).loc Cert.QkvDwReferenceIdeal.main_arg0)
          ∧ r.2.mem ((c.tc : Thread Cert.QkvDwReferenceIdeal.nD Cert.QkvDwReferenceIdeal.τ).loc Cert.QkvDwReferenceIdeal.main_arg1) = m' ((c.tc : Thread Cert.QkvDwReferenceIdeal.nD Cert.QkvDwReferenceIdeal.τ).loc Cert.QkvDwReferenceIdeal.main_arg1)
          ∧ r.2.mem ((c.tc : Thread Cert.QkvDwReferenceIdeal.nD Cert.QkvDwReferenceIdeal.τ).loc Cert.QkvDwReferenceIdeal.main_arg2) = m' ((c.tc : Thread Cert.QkvDwReferenceIdeal.nD Cert.QkvDwReferenceIdeal.τ).loc Cert.QkvDwReferenceIdeal.main_arg2))

def preserves_QkvDx_QkvDxIdeal : Prop :=
  True

def algebraic_QkvDxIdeal_QkvDxReferenceIdeal [hQkvDxIdeal : Cert.QkvDxIdeal.Facts] [hQkvDxReferenceIdeal : Cert.QkvDxReferenceIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxReferenceIdeal.nD Cert.QkvDxReferenceIdeal.τ Cert.QkvDxReferenceIdeal.sig) → Buf (Elt Ideal) ℓ) (g' : Dev Cert.QkvDxReferenceIdeal.nD → PrngReg), Pre_QkvDxIdeal m →
    (∀ c : Dev Cert.QkvDxIdeal.nD,
      m' ((c.tc : Thread Cert.QkvDxReferenceIdeal.nD Cert.QkvDxReferenceIdeal.τ).loc Cert.QkvDxReferenceIdeal.main_arg0) = m ((c.tc : Thread Cert.QkvDxIdeal.nD Cert.QkvDxIdeal.τ).loc Cert.QkvDxIdeal.main_arg0)
      ∧ m' ((c.tc : Thread Cert.QkvDxReferenceIdeal.nD Cert.QkvDxReferenceIdeal.τ).loc Cert.QkvDxReferenceIdeal.main_arg1) = m ((c.tc : Thread Cert.QkvDxIdeal.nD Cert.QkvDxIdeal.τ).loc Cert.QkvDxIdeal.main_arg1)
      ∧ m' ((c.tc : Thread Cert.QkvDxReferenceIdeal.nD Cert.QkvDxReferenceIdeal.τ).loc Cert.QkvDxReferenceIdeal.main_arg2) = m ((c.tc : Thread Cert.QkvDxIdeal.nD Cert.QkvDxIdeal.τ).loc Cert.QkvDxIdeal.main_arg2)) →
    ∃ (v0 : (c : Dev Cert.QkvDxIdeal.nD) → Buf (Elt Ideal) ((c.tc : Thread Cert.QkvDxIdeal.nD Cert.QkvDxIdeal.τ).loc Cert.QkvDxIdeal.main_v2)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v2) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ θ_run (Cert.QkvDxReferenceIdeal.defs (F := Ideal)) (onTc (τ := Cert.QkvDxReferenceIdeal.τ) (Cert.QkvDxReferenceIdeal.main (F := Ideal))) ⟨m', fun _ => 0, g'⟩ (fun r => ∀ c : Dev Cert.QkvDxReferenceIdeal.nD,
          r.2.mem ((c.tc : Thread Cert.QkvDxReferenceIdeal.nD Cert.QkvDxReferenceIdeal.τ).loc Cert.QkvDxReferenceIdeal.main_v3) = v0 c
          ∧ r.2.mem ((c.tc : Thread Cert.QkvDxReferenceIdeal.nD Cert.QkvDxReferenceIdeal.τ).loc Cert.QkvDxReferenceIdeal.main_arg0) = m' ((c.tc : Thread Cert.QkvDxReferenceIdeal.nD Cert.QkvDxReferenceIdeal.τ).loc Cert.QkvDxReferenceIdeal.main_arg0)
          ∧ r.2.mem ((c.tc : Thread Cert.QkvDxReferenceIdeal.nD Cert.QkvDxReferenceIdeal.τ).loc Cert.QkvDxReferenceIdeal.main_arg1) = m' ((c.tc : Thread Cert.QkvDxReferenceIdeal.nD Cert.QkvDxReferenceIdeal.τ).loc Cert.QkvDxReferenceIdeal.main_arg1)
          ∧ r.2.mem ((c.tc : Thread Cert.QkvDxReferenceIdeal.nD Cert.QkvDxReferenceIdeal.τ).loc Cert.QkvDxReferenceIdeal.main_arg2) = m' ((c.tc : Thread Cert.QkvDxReferenceIdeal.nD Cert.QkvDxReferenceIdeal.τ).loc Cert.QkvDxReferenceIdeal.main_arg2))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v1) = v0 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)
      ∧ m' ((c.tc : Thread Cert.DownFwdReferenceIdeal.nD Cert.DownFwdReferenceIdeal.τ).loc Cert.DownFwdReferenceIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v1) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2))

def preserves_QkvFwd_QkvFwdIdeal : Prop :=
  True

def algebraic_QkvFwdIdeal_QkvFwdReferenceIdeal [hQkvFwdIdeal : Cert.QkvFwdIdeal.Facts] [hQkvFwdReferenceIdeal : Cert.QkvFwdReferenceIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdReferenceIdeal.nD Cert.QkvFwdReferenceIdeal.τ Cert.QkvFwdReferenceIdeal.sig) → Buf (Elt Ideal) ℓ) (g' : Dev Cert.QkvFwdReferenceIdeal.nD → PrngReg), Pre_QkvFwdIdeal m →
    (∀ c : Dev Cert.QkvFwdIdeal.nD,
      m' ((c.tc : Thread Cert.QkvFwdReferenceIdeal.nD Cert.QkvFwdReferenceIdeal.τ).loc Cert.QkvFwdReferenceIdeal.main_arg0) = m ((c.tc : Thread Cert.QkvFwdIdeal.nD Cert.QkvFwdIdeal.τ).loc Cert.QkvFwdIdeal.main_arg0)
      ∧ m' ((c.tc : Thread Cert.QkvFwdReferenceIdeal.nD Cert.QkvFwdReferenceIdeal.τ).loc Cert.QkvFwdReferenceIdeal.main_arg1) = m ((c.tc : Thread Cert.QkvFwdIdeal.nD Cert.QkvFwdIdeal.τ).loc Cert.QkvFwdIdeal.main_arg1)) →
    ∃ (v0 : (c : Dev Cert.QkvFwdIdeal.nD) → Buf (Elt Ideal) ((c.tc : Thread Cert.QkvFwdIdeal.nD Cert.QkvFwdIdeal.τ).loc Cert.QkvFwdIdeal.main_v2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v2) = v0 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1))
      ∧ θ_run (Cert.QkvFwdReferenceIdeal.defs (F := Ideal)) (onTc (τ := Cert.QkvFwdReferenceIdeal.τ) (Cert.QkvFwdReferenceIdeal.main (F := Ideal))) ⟨m', fun _ => 0, g'⟩ (fun r => ∀ c : Dev Cert.QkvFwdReferenceIdeal.nD,
          r.2.mem ((c.tc : Thread Cert.QkvFwdReferenceIdeal.nD Cert.QkvFwdReferenceIdeal.τ).loc Cert.QkvFwdReferenceIdeal.main_v1) = v0 c
          ∧ r.2.mem ((c.tc : Thread Cert.QkvFwdReferenceIdeal.nD Cert.QkvFwdReferenceIdeal.τ).loc Cert.QkvFwdReferenceIdeal.main_arg0) = m' ((c.tc : Thread Cert.QkvFwdReferenceIdeal.nD Cert.QkvFwdReferenceIdeal.τ).loc Cert.QkvFwdReferenceIdeal.main_arg0)
          ∧ r.2.mem ((c.tc : Thread Cert.QkvFwdReferenceIdeal.nD Cert.QkvFwdReferenceIdeal.τ).loc Cert.QkvFwdReferenceIdeal.main_arg1) = m' ((c.tc : Thread Cert.QkvFwdReferenceIdeal.nD Cert.QkvFwdReferenceIdeal.τ).loc Cert.QkvFwdReferenceIdeal.main_arg1))

def preserves_GbrFwd_GbrFwdIdeal : Prop :=
  True

def algebraic_GbrFwdIdeal_GbrFwdReferenceIdeal [hGbrFwdIdeal : Cert.GbrFwdIdeal.Facts] [hGbrFwdReferenceIdeal : Cert.GbrFwdReferenceIdeal.Facts] : Prop :=
  ∀ (m : (ℓ : Loc Cert.GbrFwdIdeal.nD Cert.GbrFwdIdeal.τ Cert.GbrFwdIdeal.sig) → Buf (Elt Ideal) ℓ) (g : Dev Cert.GbrFwdIdeal.nD → PrngReg)
    (m' : (ℓ : Loc Cert.GbrFwdReferenceIdeal.nD Cert.GbrFwdReferenceIdeal.τ Cert.GbrFwdReferenceIdeal.sig) → Buf (Elt Ideal) ℓ) (g' : Dev Cert.GbrFwdReferenceIdeal.nD → PrngReg), Pre_GbrFwdIdeal m →
    (∀ c : Dev Cert.GbrFwdIdeal.nD,
      m' ((c.tc : Thread Cert.GbrFwdReferenceIdeal.nD Cert.GbrFwdReferenceIdeal.τ).loc Cert.GbrFwdReferenceIdeal.main_arg0) = m ((c.tc : Thread Cert.GbrFwdIdeal.nD Cert.GbrFwdIdeal.τ).loc Cert.GbrFwdIdeal.main_arg0)
      ∧ m' ((c.tc : Thread Cert.GbrFwdReferenceIdeal.nD Cert.GbrFwdReferenceIdeal.τ).loc Cert.GbrFwdReferenceIdeal.main_arg1) = m ((c.tc : Thread Cert.GbrFwdIdeal.nD Cert.GbrFwdIdeal.τ).loc Cert.GbrFwdIdeal.main_arg1)) →
    ∃ (v0 : (c : Dev Cert.GbrFwdIdeal.nD) → Buf (Elt Ideal) ((c.tc : Thread Cert.GbrFwdIdeal.nD Cert.GbrFwdIdeal.τ).loc Cert.GbrFwdIdeal.main_v2)),
      θ_run (Cert.GbrFwdIdeal.defs (F := Ideal)) (onTc (τ := Cert.GbrFwdIdeal.τ) (Cert.GbrFwdIdeal.main (F := Ideal))) ⟨m, fun _ => 0, g⟩ (fun r => ∀ c : Dev Cert.GbrFwdIdeal.nD,
          r.2.mem ((c.tc : Thread Cert.GbrFwdIdeal.nD Cert.GbrFwdIdeal.τ).loc Cert.GbrFwdIdeal.main_v2) = v0 c
          ∧ r.2.mem ((c.tc : Thread Cert.GbrFwdIdeal.nD Cert.GbrFwdIdeal.τ).loc Cert.GbrFwdIdeal.main_arg0) = m ((c.tc : Thread Cert.GbrFwdIdeal.nD Cert.GbrFwdIdeal.τ).loc Cert.GbrFwdIdeal.main_arg0)
          ∧ r.2.mem ((c.tc : Thread Cert.GbrFwdIdeal.nD Cert.GbrFwdIdeal.τ).loc Cert.GbrFwdIdeal.main_arg1) = m ((c.tc : Thread Cert.GbrFwdIdeal.nD Cert.GbrFwdIdeal.τ).loc Cert.GbrFwdIdeal.main_arg1))
      ∧ θ_run (Cert.GbrFwdReferenceIdeal.defs (F := Ideal)) (onTc (τ := Cert.GbrFwdReferenceIdeal.τ) (Cert.GbrFwdReferenceIdeal.main (F := Ideal))) ⟨m', fun _ => 0, g'⟩ (fun r => ∀ c : Dev Cert.GbrFwdReferenceIdeal.nD,
          r.2.mem ((c.tc : Thread Cert.GbrFwdReferenceIdeal.nD Cert.GbrFwdReferenceIdeal.τ).loc Cert.GbrFwdReferenceIdeal.main_v1) = v0 c
          ∧ r.2.mem ((c.tc : Thread Cert.GbrFwdReferenceIdeal.nD Cert.GbrFwdReferenceIdeal.τ).loc Cert.GbrFwdReferenceIdeal.main_arg0) = m' ((c.tc : Thread Cert.GbrFwdReferenceIdeal.nD Cert.GbrFwdReferenceIdeal.τ).loc Cert.GbrFwdReferenceIdeal.main_arg0)
          ∧ r.2.mem ((c.tc : Thread Cert.GbrFwdReferenceIdeal.nD Cert.GbrFwdReferenceIdeal.τ).loc Cert.GbrFwdReferenceIdeal.main_arg1) = m' ((c.tc : Thread Cert.GbrFwdReferenceIdeal.nD Cert.GbrFwdReferenceIdeal.τ).loc Cert.GbrFwdReferenceIdeal.main_arg1))

def preserves_GbrDw_GbrDwIdeal : Prop :=
  True

def algebraic_GbrDwIdeal_GbrDwReferenceIdeal [hGbrDwIdeal : Cert.GbrDwIdeal.Facts] [hGbrDwReferenceIdeal : Cert.GbrDwReferenceIdeal.Facts] : Prop :=
  ∀ (m : (ℓ : Loc Cert.GbrDwIdeal.nD Cert.GbrDwIdeal.τ Cert.GbrDwIdeal.sig) → Buf (Elt Ideal) ℓ) (g : Dev Cert.GbrDwIdeal.nD → PrngReg)
    (m' : (ℓ : Loc Cert.GbrDwReferenceIdeal.nD Cert.GbrDwReferenceIdeal.τ Cert.GbrDwReferenceIdeal.sig) → Buf (Elt Ideal) ℓ) (g' : Dev Cert.GbrDwReferenceIdeal.nD → PrngReg), Pre_GbrDwIdeal m →
    (∀ c : Dev Cert.GbrDwIdeal.nD,
      m' ((c.tc : Thread Cert.GbrDwReferenceIdeal.nD Cert.GbrDwReferenceIdeal.τ).loc Cert.GbrDwReferenceIdeal.main_arg0) = m ((c.tc : Thread Cert.GbrDwIdeal.nD Cert.GbrDwIdeal.τ).loc Cert.GbrDwIdeal.main_arg0)
      ∧ m' ((c.tc : Thread Cert.GbrDwReferenceIdeal.nD Cert.GbrDwReferenceIdeal.τ).loc Cert.GbrDwReferenceIdeal.main_arg1) = m ((c.tc : Thread Cert.GbrDwIdeal.nD Cert.GbrDwIdeal.τ).loc Cert.GbrDwIdeal.main_arg1)
      ∧ m' ((c.tc : Thread Cert.GbrDwReferenceIdeal.nD Cert.GbrDwReferenceIdeal.τ).loc Cert.GbrDwReferenceIdeal.main_arg2) = m ((c.tc : Thread Cert.GbrDwIdeal.nD Cert.GbrDwIdeal.τ).loc Cert.GbrDwIdeal.main_arg2)) →
    ∃ (v0 : (c : Dev Cert.GbrDwIdeal.nD) → Buf (Elt Ideal) ((c.tc : Thread Cert.GbrDwIdeal.nD Cert.GbrDwIdeal.τ).loc Cert.GbrDwIdeal.main_v2)),
      θ_run (Cert.GbrDwIdeal.defs (F := Ideal)) (onTc (τ := Cert.GbrDwIdeal.τ) (Cert.GbrDwIdeal.main (F := Ideal))) ⟨m, fun _ => 0, g⟩ (fun r => ∀ c : Dev Cert.GbrDwIdeal.nD,
          r.2.mem ((c.tc : Thread Cert.GbrDwIdeal.nD Cert.GbrDwIdeal.τ).loc Cert.GbrDwIdeal.main_v2) = v0 c
          ∧ r.2.mem ((c.tc : Thread Cert.GbrDwIdeal.nD Cert.GbrDwIdeal.τ).loc Cert.GbrDwIdeal.main_arg0) = m ((c.tc : Thread Cert.GbrDwIdeal.nD Cert.GbrDwIdeal.τ).loc Cert.GbrDwIdeal.main_arg0)
          ∧ r.2.mem ((c.tc : Thread Cert.GbrDwIdeal.nD Cert.GbrDwIdeal.τ).loc Cert.GbrDwIdeal.main_arg1) = m ((c.tc : Thread Cert.GbrDwIdeal.nD Cert.GbrDwIdeal.τ).loc Cert.GbrDwIdeal.main_arg1)
          ∧ r.2.mem ((c.tc : Thread Cert.GbrDwIdeal.nD Cert.GbrDwIdeal.τ).loc Cert.GbrDwIdeal.main_arg2) = m ((c.tc : Thread Cert.GbrDwIdeal.nD Cert.GbrDwIdeal.τ).loc Cert.GbrDwIdeal.main_arg2))
      ∧ θ_run (Cert.GbrDwReferenceIdeal.defs (F := Ideal)) (onTc (τ := Cert.GbrDwReferenceIdeal.τ) (Cert.GbrDwReferenceIdeal.main (F := Ideal))) ⟨m', fun _ => 0, g'⟩ (fun r => ∀ c : Dev Cert.GbrDwReferenceIdeal.nD,
          r.2.mem ((c.tc : Thread Cert.GbrDwReferenceIdeal.nD Cert.GbrDwReferenceIdeal.τ).loc Cert.GbrDwReferenceIdeal.main_v2) = v0 c
          ∧ r.2.mem ((c.tc : Thread Cert.GbrDwReferenceIdeal.nD Cert.GbrDwReferenceIdeal.τ).loc Cert.GbrDwReferenceIdeal.main_arg0) = m' ((c.tc : Thread Cert.GbrDwReferenceIdeal.nD Cert.GbrDwReferenceIdeal.τ).loc Cert.GbrDwReferenceIdeal.main_arg0)
          ∧ r.2.mem ((c.tc : Thread Cert.GbrDwReferenceIdeal.nD Cert.GbrDwReferenceIdeal.τ).loc Cert.GbrDwReferenceIdeal.main_arg1) = m' ((c.tc : Thread Cert.GbrDwReferenceIdeal.nD Cert.GbrDwReferenceIdeal.τ).loc Cert.GbrDwReferenceIdeal.main_arg1)
          ∧ r.2.mem ((c.tc : Thread Cert.GbrDwReferenceIdeal.nD Cert.GbrDwReferenceIdeal.τ).loc Cert.GbrDwReferenceIdeal.main_arg2) = m' ((c.tc : Thread Cert.GbrDwReferenceIdeal.nD Cert.GbrDwReferenceIdeal.τ).loc Cert.GbrDwReferenceIdeal.main_arg2))

def preserves_GbrDx_GbrDxIdeal : Prop :=
  True

def algebraic_GbrDxIdeal_GbrDxReferenceIdeal [hGbrDxIdeal : Cert.GbrDxIdeal.Facts] [hGbrDxReferenceIdeal : Cert.GbrDxReferenceIdeal.Facts] : Prop :=
  ∀ (m : (ℓ : Loc Cert.GbrDxIdeal.nD Cert.GbrDxIdeal.τ Cert.GbrDxIdeal.sig) → Buf (Elt Ideal) ℓ) (g : Dev Cert.GbrDxIdeal.nD → PrngReg)
    (m' : (ℓ : Loc Cert.GbrDxReferenceIdeal.nD Cert.GbrDxReferenceIdeal.τ Cert.GbrDxReferenceIdeal.sig) → Buf (Elt Ideal) ℓ) (g' : Dev Cert.GbrDxReferenceIdeal.nD → PrngReg), Pre_GbrDxIdeal m →
    (∀ c : Dev Cert.GbrDxIdeal.nD,
      m' ((c.tc : Thread Cert.GbrDxReferenceIdeal.nD Cert.GbrDxReferenceIdeal.τ).loc Cert.GbrDxReferenceIdeal.main_arg0) = m ((c.tc : Thread Cert.GbrDxIdeal.nD Cert.GbrDxIdeal.τ).loc Cert.GbrDxIdeal.main_arg0)
      ∧ m' ((c.tc : Thread Cert.GbrDxReferenceIdeal.nD Cert.GbrDxReferenceIdeal.τ).loc Cert.GbrDxReferenceIdeal.main_arg1) = m ((c.tc : Thread Cert.GbrDxIdeal.nD Cert.GbrDxIdeal.τ).loc Cert.GbrDxIdeal.main_arg1)
      ∧ m' ((c.tc : Thread Cert.GbrDxReferenceIdeal.nD Cert.GbrDxReferenceIdeal.τ).loc Cert.GbrDxReferenceIdeal.main_arg2) = m ((c.tc : Thread Cert.GbrDxIdeal.nD Cert.GbrDxIdeal.τ).loc Cert.GbrDxIdeal.main_arg2)
      ∧ m' ((c.tc : Thread Cert.GbrDxReferenceIdeal.nD Cert.GbrDxReferenceIdeal.τ).loc Cert.GbrDxReferenceIdeal.main_arg3) = m ((c.tc : Thread Cert.GbrDxIdeal.nD Cert.GbrDxIdeal.τ).loc Cert.GbrDxIdeal.main_arg3)) →
    ∃ (v0 : (c : Dev Cert.GbrDxIdeal.nD) → Buf (Elt Ideal) ((c.tc : Thread Cert.GbrDxIdeal.nD Cert.GbrDxIdeal.τ).loc Cert.GbrDxIdeal.main_v2)),
      θ_run (Cert.GbrDxIdeal.defs (F := Ideal)) (onTc (τ := Cert.GbrDxIdeal.τ) (Cert.GbrDxIdeal.main (F := Ideal))) ⟨m, fun _ => 0, g⟩ (fun r => ∀ c : Dev Cert.GbrDxIdeal.nD,
          r.2.mem ((c.tc : Thread Cert.GbrDxIdeal.nD Cert.GbrDxIdeal.τ).loc Cert.GbrDxIdeal.main_v2) = v0 c
          ∧ r.2.mem ((c.tc : Thread Cert.GbrDxIdeal.nD Cert.GbrDxIdeal.τ).loc Cert.GbrDxIdeal.main_arg0) = m ((c.tc : Thread Cert.GbrDxIdeal.nD Cert.GbrDxIdeal.τ).loc Cert.GbrDxIdeal.main_arg0)
          ∧ r.2.mem ((c.tc : Thread Cert.GbrDxIdeal.nD Cert.GbrDxIdeal.τ).loc Cert.GbrDxIdeal.main_arg1) = m ((c.tc : Thread Cert.GbrDxIdeal.nD Cert.GbrDxIdeal.τ).loc Cert.GbrDxIdeal.main_arg1)
          ∧ r.2.mem ((c.tc : Thread Cert.GbrDxIdeal.nD Cert.GbrDxIdeal.τ).loc Cert.GbrDxIdeal.main_arg2) = m ((c.tc : Thread Cert.GbrDxIdeal.nD Cert.GbrDxIdeal.τ).loc Cert.GbrDxIdeal.main_arg2)
          ∧ r.2.mem ((c.tc : Thread Cert.GbrDxIdeal.nD Cert.GbrDxIdeal.τ).loc Cert.GbrDxIdeal.main_arg3) = m ((c.tc : Thread Cert.GbrDxIdeal.nD Cert.GbrDxIdeal.τ).loc Cert.GbrDxIdeal.main_arg3))
      ∧ θ_run (Cert.GbrDxReferenceIdeal.defs (F := Ideal)) (onTc (τ := Cert.GbrDxReferenceIdeal.τ) (Cert.GbrDxReferenceIdeal.main (F := Ideal))) ⟨m', fun _ => 0, g'⟩ (fun r => ∀ c : Dev Cert.GbrDxReferenceIdeal.nD,
          r.2.mem ((c.tc : Thread Cert.GbrDxReferenceIdeal.nD Cert.GbrDxReferenceIdeal.τ).loc Cert.GbrDxReferenceIdeal.main_v5) = v0 c
          ∧ r.2.mem ((c.tc : Thread Cert.GbrDxReferenceIdeal.nD Cert.GbrDxReferenceIdeal.τ).loc Cert.GbrDxReferenceIdeal.main_arg0) = m' ((c.tc : Thread Cert.GbrDxReferenceIdeal.nD Cert.GbrDxReferenceIdeal.τ).loc Cert.GbrDxReferenceIdeal.main_arg0)
          ∧ r.2.mem ((c.tc : Thread Cert.GbrDxReferenceIdeal.nD Cert.GbrDxReferenceIdeal.τ).loc Cert.GbrDxReferenceIdeal.main_arg1) = m' ((c.tc : Thread Cert.GbrDxReferenceIdeal.nD Cert.GbrDxReferenceIdeal.τ).loc Cert.GbrDxReferenceIdeal.main_arg1)
          ∧ r.2.mem ((c.tc : Thread Cert.GbrDxReferenceIdeal.nD Cert.GbrDxReferenceIdeal.τ).loc Cert.GbrDxReferenceIdeal.main_arg2) = m' ((c.tc : Thread Cert.GbrDxReferenceIdeal.nD Cert.GbrDxReferenceIdeal.τ).loc Cert.GbrDxReferenceIdeal.main_arg2)
          ∧ r.2.mem ((c.tc : Thread Cert.GbrDxReferenceIdeal.nD Cert.GbrDxReferenceIdeal.τ).loc Cert.GbrDxReferenceIdeal.main_arg3) = m' ((c.tc : Thread Cert.GbrDxReferenceIdeal.nD Cert.GbrDxReferenceIdeal.τ).loc Cert.GbrDxReferenceIdeal.main_arg3))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)
      ∧ m' ((c.tc : Thread Cert.MixDwReferenceIdeal.nD Cert.MixDwReferenceIdeal.τ).loc Cert.MixDwReferenceIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v2) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1)
          ∧ r.2.mem ((c.tc : Thread Cert.MixDwReferenceIdeal.nD Cert.MixDwReferenceIdeal.τ).loc Cert.MixDwReferenceIdeal.main_arg2) = m' ((c.tc : Thread Cert.MixDwReferenceIdeal.nD Cert.MixDwReferenceIdeal.τ).loc Cert.MixDwReferenceIdeal.main_arg2))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)
      ∧ m' ((c.tc : Thread Cert.MixDxReferenceIdeal.nD Cert.MixDxReferenceIdeal.τ).loc Cert.MixDxReferenceIdeal.main_arg2) = m ((c.tc : Thread Cert.MixDxIdeal.nD Cert.MixDxIdeal.τ).loc Cert.MixDxIdeal.main_arg2)) →
    ∃ (v0 : (c : Dev Cert.MixDxIdeal.nD) → Buf (Elt Ideal) ((c.tc : Thread Cert.MixDxIdeal.nD Cert.MixDxIdeal.τ).loc Cert.MixDxIdeal.main_v2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v2) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v4) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1)
          ∧ r.2.mem ((c.tc : Thread Cert.MixDxReferenceIdeal.nD Cert.MixDxReferenceIdeal.τ).loc Cert.MixDxReferenceIdeal.main_arg2) = m' ((c.tc : Thread Cert.MixDxReferenceIdeal.nD Cert.MixDxReferenceIdeal.τ).loc Cert.MixDxReferenceIdeal.main_arg2))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v1) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v2) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_GaFwd_GaFwdIdeal : Prop :=
  True

def algebraic_GaFwdIdeal_GaFwdReferenceIdeal [hGaFwdIdeal : Cert.GaFwdIdeal.Facts] [hGaFwdReferenceIdeal : Cert.GaFwdReferenceIdeal.Facts] : Prop :=
  ∀ (m : (ℓ : Loc Cert.GaFwdIdeal.nD Cert.GaFwdIdeal.τ Cert.GaFwdIdeal.sig) → Buf (Elt Ideal) ℓ) (g : Dev Cert.GaFwdIdeal.nD → PrngReg)
    (m' : (ℓ : Loc Cert.GaFwdReferenceIdeal.nD Cert.GaFwdReferenceIdeal.τ Cert.GaFwdReferenceIdeal.sig) → Buf (Elt Ideal) ℓ) (g' : Dev Cert.GaFwdReferenceIdeal.nD → PrngReg), Pre_GaFwdIdeal m →
    (∀ c : Dev Cert.GaFwdIdeal.nD,
      m' ((c.tc : Thread Cert.GaFwdReferenceIdeal.nD Cert.GaFwdReferenceIdeal.τ).loc Cert.GaFwdReferenceIdeal.main_arg0) = m ((c.tc : Thread Cert.GaFwdIdeal.nD Cert.GaFwdIdeal.τ).loc Cert.GaFwdIdeal.main_arg0)
      ∧ m' ((c.tc : Thread Cert.GaFwdReferenceIdeal.nD Cert.GaFwdReferenceIdeal.τ).loc Cert.GaFwdReferenceIdeal.main_arg1) = m ((c.tc : Thread Cert.GaFwdIdeal.nD Cert.GaFwdIdeal.τ).loc Cert.GaFwdIdeal.main_arg1)) →
    ∃ (v0 : (c : Dev Cert.GaFwdIdeal.nD) → Buf (Elt Ideal) ((c.tc : Thread Cert.GaFwdIdeal.nD Cert.GaFwdIdeal.τ).loc Cert.GaFwdIdeal.main_v2)),
      θ_run (Cert.GaFwdIdeal.defs (F := Ideal)) (onTc (τ := Cert.GaFwdIdeal.τ) (Cert.GaFwdIdeal.main (F := Ideal))) ⟨m, fun _ => 0, g⟩ (fun r => ∀ c : Dev Cert.GaFwdIdeal.nD,
          r.2.mem ((c.tc : Thread Cert.GaFwdIdeal.nD Cert.GaFwdIdeal.τ).loc Cert.GaFwdIdeal.main_v2) = v0 c
          ∧ r.2.mem ((c.tc : Thread Cert.GaFwdIdeal.nD Cert.GaFwdIdeal.τ).loc Cert.GaFwdIdeal.main_arg0) = m ((c.tc : Thread Cert.GaFwdIdeal.nD Cert.GaFwdIdeal.τ).loc Cert.GaFwdIdeal.main_arg0)
          ∧ r.2.mem ((c.tc : Thread Cert.GaFwdIdeal.nD Cert.GaFwdIdeal.τ).loc Cert.GaFwdIdeal.main_arg1) = m ((c.tc : Thread Cert.GaFwdIdeal.nD Cert.GaFwdIdeal.τ).loc Cert.GaFwdIdeal.main_arg1))
      ∧ θ_run (Cert.GaFwdReferenceIdeal.defs (F := Ideal)) (onTc (τ := Cert.GaFwdReferenceIdeal.τ) (Cert.GaFwdReferenceIdeal.main (F := Ideal))) ⟨m', fun _ => 0, g'⟩ (fun r => ∀ c : Dev Cert.GaFwdReferenceIdeal.nD,
          r.2.mem ((c.tc : Thread Cert.GaFwdReferenceIdeal.nD Cert.GaFwdReferenceIdeal.τ).loc Cert.GaFwdReferenceIdeal.main_v1) = v0 c
          ∧ r.2.mem ((c.tc : Thread Cert.GaFwdReferenceIdeal.nD Cert.GaFwdReferenceIdeal.τ).loc Cert.GaFwdReferenceIdeal.main_arg0) = m' ((c.tc : Thread Cert.GaFwdReferenceIdeal.nD Cert.GaFwdReferenceIdeal.τ).loc Cert.GaFwdReferenceIdeal.main_arg0)
          ∧ r.2.mem ((c.tc : Thread Cert.GaFwdReferenceIdeal.nD Cert.GaFwdReferenceIdeal.τ).loc Cert.GaFwdReferenceIdeal.main_arg1) = m' ((c.tc : Thread Cert.GaFwdReferenceIdeal.nD Cert.GaFwdReferenceIdeal.τ).loc Cert.GaFwdReferenceIdeal.main_arg1))

def preserves_GaDx_GaDxIdeal : Prop :=
  True

def algebraic_GaDxIdeal_GaDxReferenceIdeal [hGaDxIdeal : Cert.GaDxIdeal.Facts] [hGaDxReferenceIdeal : Cert.GaDxReferenceIdeal.Facts] : Prop :=
  ∀ (m : (ℓ : Loc Cert.GaDxIdeal.nD Cert.GaDxIdeal.τ Cert.GaDxIdeal.sig) → Buf (Elt Ideal) ℓ) (g : Dev Cert.GaDxIdeal.nD → PrngReg)
    (m' : (ℓ : Loc Cert.GaDxReferenceIdeal.nD Cert.GaDxReferenceIdeal.τ Cert.GaDxReferenceIdeal.sig) → Buf (Elt Ideal) ℓ) (g' : Dev Cert.GaDxReferenceIdeal.nD → PrngReg), Pre_GaDxIdeal m →
    (∀ c : Dev Cert.GaDxIdeal.nD,
      m' ((c.tc : Thread Cert.GaDxReferenceIdeal.nD Cert.GaDxReferenceIdeal.τ).loc Cert.GaDxReferenceIdeal.main_arg0) = m ((c.tc : Thread Cert.GaDxIdeal.nD Cert.GaDxIdeal.τ).loc Cert.GaDxIdeal.main_arg0)
      ∧ m' ((c.tc : Thread Cert.GaDxReferenceIdeal.nD Cert.GaDxReferenceIdeal.τ).loc Cert.GaDxReferenceIdeal.main_arg1) = m ((c.tc : Thread Cert.GaDxIdeal.nD Cert.GaDxIdeal.τ).loc Cert.GaDxIdeal.main_arg1)
      ∧ m' ((c.tc : Thread Cert.GaDxReferenceIdeal.nD Cert.GaDxReferenceIdeal.τ).loc Cert.GaDxReferenceIdeal.main_arg2) = m ((c.tc : Thread Cert.GaDxIdeal.nD Cert.GaDxIdeal.τ).loc Cert.GaDxIdeal.main_arg2)
      ∧ m' ((c.tc : Thread Cert.GaDxReferenceIdeal.nD Cert.GaDxReferenceIdeal.τ).loc Cert.GaDxReferenceIdeal.main_arg3) = m ((c.tc : Thread Cert.GaDxIdeal.nD Cert.GaDxIdeal.τ).loc Cert.GaDxIdeal.main_arg3)) →
    ∃ (v0 : (c : Dev Cert.GaDxIdeal.nD) → Buf (Elt Ideal) ((c.tc : Thread Cert.GaDxIdeal.nD Cert.GaDxIdeal.τ).loc Cert.GaDxIdeal.main_v2)),
      θ_run (Cert.GaDxIdeal.defs (F := Ideal)) (onTc (τ := Cert.GaDxIdeal.τ) (Cert.GaDxIdeal.main (F := Ideal))) ⟨m, fun _ => 0, g⟩ (fun r => ∀ c : Dev Cert.GaDxIdeal.nD,
          r.2.mem ((c.tc : Thread Cert.GaDxIdeal.nD Cert.GaDxIdeal.τ).loc Cert.GaDxIdeal.main_v2) = v0 c
          ∧ r.2.mem ((c.tc : Thread Cert.GaDxIdeal.nD Cert.GaDxIdeal.τ).loc Cert.GaDxIdeal.main_arg0) = m ((c.tc : Thread Cert.GaDxIdeal.nD Cert.GaDxIdeal.τ).loc Cert.GaDxIdeal.main_arg0)
          ∧ r.2.mem ((c.tc : Thread Cert.GaDxIdeal.nD Cert.GaDxIdeal.τ).loc Cert.GaDxIdeal.main_arg1) = m ((c.tc : Thread Cert.GaDxIdeal.nD Cert.GaDxIdeal.τ).loc Cert.GaDxIdeal.main_arg1)
          ∧ r.2.mem ((c.tc : Thread Cert.GaDxIdeal.nD Cert.GaDxIdeal.τ).loc Cert.GaDxIdeal.main_arg2) = m ((c.tc : Thread Cert.GaDxIdeal.nD Cert.GaDxIdeal.τ).loc Cert.GaDxIdeal.main_arg2)
          ∧ r.2.mem ((c.tc : Thread Cert.GaDxIdeal.nD Cert.GaDxIdeal.τ).loc Cert.GaDxIdeal.main_arg3) = m ((c.tc : Thread Cert.GaDxIdeal.nD Cert.GaDxIdeal.τ).loc Cert.GaDxIdeal.main_arg3))
      ∧ θ_run (Cert.GaDxReferenceIdeal.defs (F := Ideal)) (onTc (τ := Cert.GaDxReferenceIdeal.τ) (Cert.GaDxReferenceIdeal.main (F := Ideal))) ⟨m', fun _ => 0, g'⟩ (fun r => ∀ c : Dev Cert.GaDxReferenceIdeal.nD,
          r.2.mem ((c.tc : Thread Cert.GaDxReferenceIdeal.nD Cert.GaDxReferenceIdeal.τ).loc Cert.GaDxReferenceIdeal.main_v4) = v0 c
          ∧ r.2.mem ((c.tc : Thread Cert.GaDxReferenceIdeal.nD Cert.GaDxReferenceIdeal.τ).loc Cert.GaDxReferenceIdeal.main_arg0) = m' ((c.tc : Thread Cert.GaDxReferenceIdeal.nD Cert.GaDxReferenceIdeal.τ).loc Cert.GaDxReferenceIdeal.main_arg0)
          ∧ r.2.mem ((c.tc : Thread Cert.GaDxReferenceIdeal.nD Cert.GaDxReferenceIdeal.τ).loc Cert.GaDxReferenceIdeal.main_arg1) = m' ((c.tc : Thread Cert.GaDxReferenceIdeal.nD Cert.GaDxReferenceIdeal.τ).loc Cert.GaDxReferenceIdeal.main_arg1)
          ∧ r.2.mem ((c.tc : Thread Cert.GaDxReferenceIdeal.nD Cert.GaDxReferenceIdeal.τ).loc Cert.GaDxReferenceIdeal.main_arg2) = m' ((c.tc : Thread Cert.GaDxReferenceIdeal.nD Cert.GaDxReferenceIdeal.τ).loc Cert.GaDxReferenceIdeal.main_arg2)
          ∧ r.2.mem ((c.tc : Thread Cert.GaDxReferenceIdeal.nD Cert.GaDxReferenceIdeal.τ).loc Cert.GaDxReferenceIdeal.main_arg3) = m' ((c.tc : Thread Cert.GaDxReferenceIdeal.nD Cert.GaDxReferenceIdeal.τ).loc Cert.GaDxReferenceIdeal.main_arg3))

def preserves_SmallFwd_SmallFwdIdeal : Prop :=
  True

def algebraic_SmallFwdIdeal_SmallFwdReferenceIdeal [hSmallFwdIdeal : Cert.SmallFwdIdeal.Facts] [hSmallFwdReferenceIdeal : Cert.SmallFwdReferenceIdeal.Facts] : Prop :=
  ∀ (m : (ℓ : Loc Cert.SmallFwdIdeal.nD Cert.SmallFwdIdeal.τ Cert.SmallFwdIdeal.sig) → Buf (Elt Ideal) ℓ) (g : Dev Cert.SmallFwdIdeal.nD → PrngReg)
    (m' : (ℓ : Loc Cert.SmallFwdReferenceIdeal.nD Cert.SmallFwdReferenceIdeal.τ Cert.SmallFwdReferenceIdeal.sig) → Buf (Elt Ideal) ℓ) (g' : Dev Cert.SmallFwdReferenceIdeal.nD → PrngReg), Pre_SmallFwdIdeal m →
    (∀ c : Dev Cert.SmallFwdIdeal.nD,
      m' ((c.tc : Thread Cert.SmallFwdReferenceIdeal.nD Cert.SmallFwdReferenceIdeal.τ).loc Cert.SmallFwdReferenceIdeal.main_arg0) = m ((c.tc : Thread Cert.SmallFwdIdeal.nD Cert.SmallFwdIdeal.τ).loc Cert.SmallFwdIdeal.main_arg0)
      ∧ m' ((c.tc : Thread Cert.SmallFwdReferenceIdeal.nD Cert.SmallFwdReferenceIdeal.τ).loc Cert.SmallFwdReferenceIdeal.main_arg1) = m ((c.tc : Thread Cert.SmallFwdIdeal.nD Cert.SmallFwdIdeal.τ).loc Cert.SmallFwdIdeal.main_arg1)) →
    ∃ (v0 : (c : Dev Cert.SmallFwdIdeal.nD) → Buf (Elt Ideal) ((c.tc : Thread Cert.SmallFwdIdeal.nD Cert.SmallFwdIdeal.τ).loc Cert.SmallFwdIdeal.main_v2)),
      θ_run (Cert.SmallFwdIdeal.defs (F := Ideal)) (onTc (τ := Cert.SmallFwdIdeal.τ) (Cert.SmallFwdIdeal.main (F := Ideal))) ⟨m, fun _ => 0, g⟩ (fun r => ∀ c : Dev Cert.SmallFwdIdeal.nD,
          r.2.mem ((c.tc : Thread Cert.SmallFwdIdeal.nD Cert.SmallFwdIdeal.τ).loc Cert.SmallFwdIdeal.main_v2) = v0 c
          ∧ r.2.mem ((c.tc : Thread Cert.SmallFwdIdeal.nD Cert.SmallFwdIdeal.τ).loc Cert.SmallFwdIdeal.main_arg0) = m ((c.tc : Thread Cert.SmallFwdIdeal.nD Cert.SmallFwdIdeal.τ).loc Cert.SmallFwdIdeal.main_arg0)
          ∧ r.2.mem ((c.tc : Thread Cert.SmallFwdIdeal.nD Cert.SmallFwdIdeal.τ).loc Cert.SmallFwdIdeal.main_arg1) = m ((c.tc : Thread Cert.SmallFwdIdeal.nD Cert.SmallFwdIdeal.τ).loc Cert.SmallFwdIdeal.main_arg1))
      ∧ θ_run (Cert.SmallFwdReferenceIdeal.defs (F := Ideal)) (onTc (τ := Cert.SmallFwdReferenceIdeal.τ) (Cert.SmallFwdReferenceIdeal.main (F := Ideal))) ⟨m', fun _ => 0, g'⟩ (fun r => ∀ c : Dev Cert.SmallFwdReferenceIdeal.nD,
          r.2.mem ((c.tc : Thread Cert.SmallFwdReferenceIdeal.nD Cert.SmallFwdReferenceIdeal.τ).loc Cert.SmallFwdReferenceIdeal.main_v1) = v0 c
          ∧ r.2.mem ((c.tc : Thread Cert.SmallFwdReferenceIdeal.nD Cert.SmallFwdReferenceIdeal.τ).loc Cert.SmallFwdReferenceIdeal.main_arg0) = m' ((c.tc : Thread Cert.SmallFwdReferenceIdeal.nD Cert.SmallFwdReferenceIdeal.τ).loc Cert.SmallFwdReferenceIdeal.main_arg0)
          ∧ r.2.mem ((c.tc : Thread Cert.SmallFwdReferenceIdeal.nD Cert.SmallFwdReferenceIdeal.τ).loc Cert.SmallFwdReferenceIdeal.main_arg1) = m' ((c.tc : Thread Cert.SmallFwdReferenceIdeal.nD Cert.SmallFwdReferenceIdeal.τ).loc Cert.SmallFwdReferenceIdeal.main_arg1))

def preserves_SmallDw_SmallDwIdeal : Prop :=
  True

def algebraic_SmallDwIdeal_SmallDwReferenceIdeal [hSmallDwIdeal : Cert.SmallDwIdeal.Facts] [hSmallDwReferenceIdeal : Cert.SmallDwReferenceIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg)
    (m' : (ℓ : Loc Cert.SmallDwReferenceIdeal.nD Cert.SmallDwReferenceIdeal.τ Cert.SmallDwReferenceIdeal.sig) → Buf (Elt Ideal) ℓ) (g' : Dev Cert.SmallDwReferenceIdeal.nD → PrngReg), Pre_SmallDwIdeal m →
    (∀ c : Dev Cert.SmallDwIdeal.nD,
      m' ((c.tc : Thread Cert.SmallDwReferenceIdeal.nD Cert.SmallDwReferenceIdeal.τ).loc Cert.SmallDwReferenceIdeal.main_arg0) = m ((c.tc : Thread Cert.SmallDwIdeal.nD Cert.SmallDwIdeal.τ).loc Cert.SmallDwIdeal.main_arg0)
      ∧ m' ((c.tc : Thread Cert.SmallDwReferenceIdeal.nD Cert.SmallDwReferenceIdeal.τ).loc Cert.SmallDwReferenceIdeal.main_arg1) = m ((c.tc : Thread Cert.SmallDwIdeal.nD Cert.SmallDwIdeal.τ).loc Cert.SmallDwIdeal.main_arg1)
      ∧ m' ((c.tc : Thread Cert.SmallDwReferenceIdeal.nD Cert.SmallDwReferenceIdeal.τ).loc Cert.SmallDwReferenceIdeal.main_arg2) = m ((c.tc : Thread Cert.SmallDwIdeal.nD Cert.SmallDwIdeal.τ).loc Cert.SmallDwIdeal.main_arg2)) →
    ∃ (v0 : (c : Dev Cert.SmallDwIdeal.nD) → Buf (Elt Ideal) ((c.tc : Thread Cert.SmallDwIdeal.nD Cert.SmallDwIdeal.τ).loc Cert.SmallDwIdeal.main_v2)),
      θ_run (Cert.SmallDwIdeal.defs (F := Ideal)) (onTc (τ := Cert.SmallDwIdeal.τ) (Cert.SmallDwIdeal.main (F := Ideal))) ⟨m, fun _ => 0, g⟩ (fun r => ∀ c : Dev Cert.SmallDwIdeal.nD,
          r.2.mem ((c.tc : Thread Cert.SmallDwIdeal.nD Cert.SmallDwIdeal.τ).loc Cert.SmallDwIdeal.main_v2) = v0 c
          ∧ r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
          ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1)
          ∧ r.2.mem ((c.tc : Thread Cert.SmallDwIdeal.nD Cert.SmallDwIdeal.τ).loc Cert.SmallDwIdeal.main_arg2) = m ((c.tc : Thread Cert.SmallDwIdeal.nD Cert.SmallDwIdeal.τ).loc Cert.SmallDwIdeal.main_arg2))
      ∧ θ_run (Cert.SmallDwReferenceIdeal.defs (F := Ideal)) (onTc (τ := Cert.SmallDwReferenceIdeal.τ) (Cert.SmallDwReferenceIdeal.main (F := Ideal))) ⟨m', fun _ => 0, g'⟩ (fun r => ∀ c : Dev Cert.SmallDwReferenceIdeal.nD,
          r.2.mem ((c.tc : Thread Cert.SmallDwReferenceIdeal.nD Cert.SmallDwReferenceIdeal.τ).loc Cert.SmallDwReferenceIdeal.main_v2) = v0 c
          ∧ r.2.mem ((c.tc : Thread Cert.SmallDwReferenceIdeal.nD Cert.SmallDwReferenceIdeal.τ).loc Cert.SmallDwReferenceIdeal.main_arg0) = m' ((c.tc : Thread Cert.SmallDwReferenceIdeal.nD Cert.SmallDwReferenceIdeal.τ).loc Cert.SmallDwReferenceIdeal.main_arg0)
          ∧ r.2.mem ((c.tc : Thread Cert.SmallDwReferenceIdeal.nD Cert.SmallDwReferenceIdeal.τ).loc Cert.SmallDwReferenceIdeal.main_arg1) = m' ((c.tc : Thread Cert.SmallDwReferenceIdeal.nD Cert.SmallDwReferenceIdeal.τ).loc Cert.SmallDwReferenceIdeal.main_arg1)
          ∧ r.2.mem ((c.tc : Thread Cert.SmallDwReferenceIdeal.nD Cert.SmallDwReferenceIdeal.τ).loc Cert.SmallDwReferenceIdeal.main_arg2) = m' ((c.tc : Thread Cert.SmallDwReferenceIdeal.nD Cert.SmallDwReferenceIdeal.τ).loc Cert.SmallDwReferenceIdeal.main_arg2))

def preserves_SmallDx_SmallDxIdeal : Prop :=
  True

def algebraic_SmallDxIdeal_SmallDxReferenceIdeal [hSmallDxIdeal : Cert.SmallDxIdeal.Facts] [hSmallDxReferenceIdeal : Cert.SmallDxReferenceIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg)
    (m' : (ℓ : Loc Cert.SmallDxReferenceIdeal.nD Cert.SmallDxReferenceIdeal.τ Cert.SmallDxReferenceIdeal.sig) → Buf (Elt Ideal) ℓ) (g' : Dev Cert.SmallDxReferenceIdeal.nD → PrngReg), Pre_SmallDxIdeal m →
    (∀ c : Dev Cert.SmallDxIdeal.nD,
      m' ((c.tc : Thread Cert.SmallDxReferenceIdeal.nD Cert.SmallDxReferenceIdeal.τ).loc Cert.SmallDxReferenceIdeal.main_arg0) = m ((c.tc : Thread Cert.SmallDxIdeal.nD Cert.SmallDxIdeal.τ).loc Cert.SmallDxIdeal.main_arg0)
      ∧ m' ((c.tc : Thread Cert.SmallDxReferenceIdeal.nD Cert.SmallDxReferenceIdeal.τ).loc Cert.SmallDxReferenceIdeal.main_arg1) = m ((c.tc : Thread Cert.SmallDxIdeal.nD Cert.SmallDxIdeal.τ).loc Cert.SmallDxIdeal.main_arg1)
      ∧ m' ((c.tc : Thread Cert.SmallDxReferenceIdeal.nD Cert.SmallDxReferenceIdeal.τ).loc Cert.SmallDxReferenceIdeal.main_arg2) = m ((c.tc : Thread Cert.SmallDxIdeal.nD Cert.SmallDxIdeal.τ).loc Cert.SmallDxIdeal.main_arg2)
      ∧ m' ((c.tc : Thread Cert.SmallDxReferenceIdeal.nD Cert.SmallDxReferenceIdeal.τ).loc Cert.SmallDxReferenceIdeal.main_arg3) = m ((c.tc : Thread Cert.SmallDxIdeal.nD Cert.SmallDxIdeal.τ).loc Cert.SmallDxIdeal.main_arg3)) →
    ∃ (v0 : (c : Dev Cert.SmallDxIdeal.nD) → Buf (Elt Ideal) ((c.tc : Thread Cert.SmallDxIdeal.nD Cert.SmallDxIdeal.τ).loc Cert.SmallDxIdeal.main_v2)),
      θ_run (Cert.SmallDxIdeal.defs (F := Ideal)) (onTc (τ := Cert.SmallDxIdeal.τ) (Cert.SmallDxIdeal.main (F := Ideal))) ⟨m, fun _ => 0, g⟩ (fun r => ∀ c : Dev Cert.SmallDxIdeal.nD,
          r.2.mem ((c.tc : Thread Cert.SmallDxIdeal.nD Cert.SmallDxIdeal.τ).loc Cert.SmallDxIdeal.main_v2) = v0 c
          ∧ r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
          ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1)
          ∧ r.2.mem ((c.tc : Thread Cert.SmallDxIdeal.nD Cert.SmallDxIdeal.τ).loc Cert.SmallDxIdeal.main_arg2) = m ((c.tc : Thread Cert.SmallDxIdeal.nD Cert.SmallDxIdeal.τ).loc Cert.SmallDxIdeal.main_arg2)
          ∧ r.2.mem ((c.tc : Thread Cert.SmallDxIdeal.nD Cert.SmallDxIdeal.τ).loc Cert.SmallDxIdeal.main_arg3) = m ((c.tc : Thread Cert.SmallDxIdeal.nD Cert.SmallDxIdeal.τ).loc Cert.SmallDxIdeal.main_arg3))
      ∧ θ_run (Cert.SmallDxReferenceIdeal.defs (F := Ideal)) (onTc (τ := Cert.SmallDxReferenceIdeal.τ) (Cert.SmallDxReferenceIdeal.main (F := Ideal))) ⟨m', fun _ => 0, g'⟩ (fun r => ∀ c : Dev Cert.SmallDxReferenceIdeal.nD,
          r.2.mem ((c.tc : Thread Cert.SmallDxReferenceIdeal.nD Cert.SmallDxReferenceIdeal.τ).loc Cert.SmallDxReferenceIdeal.main_v4) = v0 c
          ∧ r.2.mem ((c.tc : Thread Cert.SmallDxReferenceIdeal.nD Cert.SmallDxReferenceIdeal.τ).loc Cert.SmallDxReferenceIdeal.main_arg0) = m' ((c.tc : Thread Cert.SmallDxReferenceIdeal.nD Cert.SmallDxReferenceIdeal.τ).loc Cert.SmallDxReferenceIdeal.main_arg0)
          ∧ r.2.mem ((c.tc : Thread Cert.SmallDxReferenceIdeal.nD Cert.SmallDxReferenceIdeal.τ).loc Cert.SmallDxReferenceIdeal.main_arg1) = m' ((c.tc : Thread Cert.SmallDxReferenceIdeal.nD Cert.SmallDxReferenceIdeal.τ).loc Cert.SmallDxReferenceIdeal.main_arg1)
          ∧ r.2.mem ((c.tc : Thread Cert.SmallDxReferenceIdeal.nD Cert.SmallDxReferenceIdeal.τ).loc Cert.SmallDxReferenceIdeal.main_arg2) = m' ((c.tc : Thread Cert.SmallDxReferenceIdeal.nD Cert.SmallDxReferenceIdeal.τ).loc Cert.SmallDxReferenceIdeal.main_arg2)
          ∧ r.2.mem ((c.tc : Thread Cert.SmallDxReferenceIdeal.nD Cert.SmallDxReferenceIdeal.τ).loc Cert.SmallDxReferenceIdeal.main_arg3) = m' ((c.tc : Thread Cert.SmallDxReferenceIdeal.nD Cert.SmallDxReferenceIdeal.τ).loc Cert.SmallDxReferenceIdeal.main_arg3))

def preserves_UqFwd_UqFwdIdeal : Prop :=
  True

def algebraic_UqFwdIdeal_UqFwdReferenceIdeal [hUqFwdIdeal : Cert.UqFwdIdeal.Facts] [hUqFwdReferenceIdeal : Cert.UqFwdReferenceIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg)
    (m' : (ℓ : Loc Cert.UqFwdReferenceIdeal.nD Cert.UqFwdReferenceIdeal.τ Cert.UqFwdReferenceIdeal.sig) → Buf (Elt Ideal) ℓ) (g' : Dev Cert.UqFwdReferenceIdeal.nD → PrngReg), Pre_UqFwdIdeal m →
    (∀ c : Dev Cert.UqFwdIdeal.nD,
      m' ((c.tc : Thread Cert.UqFwdReferenceIdeal.nD Cert.UqFwdReferenceIdeal.τ).loc Cert.UqFwdReferenceIdeal.main_arg0) = m ((c.tc : Thread Cert.UqFwdIdeal.nD Cert.UqFwdIdeal.τ).loc Cert.UqFwdIdeal.main_arg0)
      ∧ m' ((c.tc : Thread Cert.UqFwdReferenceIdeal.nD Cert.UqFwdReferenceIdeal.τ).loc Cert.UqFwdReferenceIdeal.main_arg1) = m ((c.tc : Thread Cert.UqFwdIdeal.nD Cert.UqFwdIdeal.τ).loc Cert.UqFwdIdeal.main_arg1)) →
    ∃ (v0 : (c : Dev Cert.UqFwdIdeal.nD) → Buf (Elt Ideal) ((c.tc : Thread Cert.UqFwdIdeal.nD Cert.UqFwdIdeal.τ).loc Cert.UqFwdIdeal.main_v2)),
      θ_run (Cert.UqFwdIdeal.defs (F := Ideal)) (onTc (τ := Cert.UqFwdIdeal.τ) (Cert.UqFwdIdeal.main (F := Ideal))) ⟨m, fun _ => 0, g⟩ (fun r => ∀ c : Dev Cert.UqFwdIdeal.nD,
          r.2.mem ((c.tc : Thread Cert.UqFwdIdeal.nD Cert.UqFwdIdeal.τ).loc Cert.UqFwdIdeal.main_v2) = v0 c
          ∧ r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
          ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ θ_run (Cert.UqFwdReferenceIdeal.defs (F := Ideal)) (onTc (τ := Cert.UqFwdReferenceIdeal.τ) (Cert.UqFwdReferenceIdeal.main (F := Ideal))) ⟨m', fun _ => 0, g'⟩ (fun r => ∀ c : Dev Cert.UqFwdReferenceIdeal.nD,
          r.2.mem ((c.tc : Thread Cert.UqFwdReferenceIdeal.nD Cert.UqFwdReferenceIdeal.τ).loc Cert.UqFwdReferenceIdeal.main_v1) = v0 c
          ∧ r.2.mem ((c.tc : Thread Cert.UqFwdReferenceIdeal.nD Cert.UqFwdReferenceIdeal.τ).loc Cert.UqFwdReferenceIdeal.main_arg0) = m' ((c.tc : Thread Cert.UqFwdReferenceIdeal.nD Cert.UqFwdReferenceIdeal.τ).loc Cert.UqFwdReferenceIdeal.main_arg0)
          ∧ r.2.mem ((c.tc : Thread Cert.UqFwdReferenceIdeal.nD Cert.UqFwdReferenceIdeal.τ).loc Cert.UqFwdReferenceIdeal.main_arg1) = m' ((c.tc : Thread Cert.UqFwdReferenceIdeal.nD Cert.UqFwdReferenceIdeal.τ).loc Cert.UqFwdReferenceIdeal.main_arg1))

def preserves_UqDw_UqDwIdeal : Prop :=
  True

def algebraic_UqDwIdeal_UqDwReferenceIdeal [hUqDwIdeal : Cert.UqDwIdeal.Facts] [hUqDwReferenceIdeal : Cert.UqDwReferenceIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwReferenceIdeal.nD Cert.UqDwReferenceIdeal.τ Cert.UqDwReferenceIdeal.sig) → Buf (Elt Ideal) ℓ) (g' : Dev Cert.UqDwReferenceIdeal.nD → PrngReg), Pre_UqDwIdeal m →
    (∀ c : Dev Cert.UqDwIdeal.nD,
      m' ((c.tc : Thread Cert.UqDwReferenceIdeal.nD Cert.UqDwReferenceIdeal.τ).loc Cert.UqDwReferenceIdeal.main_arg0) = m ((c.tc : Thread Cert.UqDwIdeal.nD Cert.UqDwIdeal.τ).loc Cert.UqDwIdeal.main_arg0)
      ∧ m' ((c.tc : Thread Cert.UqDwReferenceIdeal.nD Cert.UqDwReferenceIdeal.τ).loc Cert.UqDwReferenceIdeal.main_arg1) = m ((c.tc : Thread Cert.UqDwIdeal.nD Cert.UqDwIdeal.τ).loc Cert.UqDwIdeal.main_arg1)
      ∧ m' ((c.tc : Thread Cert.UqDwReferenceIdeal.nD Cert.UqDwReferenceIdeal.τ).loc Cert.UqDwReferenceIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v2)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v2) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwReferenceIdeal.defs (F := Ideal)) (onTc (τ := Cert.UqDwReferenceIdeal.τ) (Cert.UqDwReferenceIdeal.main (F := Ideal))) ⟨m', fun _ => 0, g'⟩ (fun r => ∀ c : Dev Cert.UqDwReferenceIdeal.nD,
          r.2.mem ((c.tc : Thread Cert.UqDwReferenceIdeal.nD Cert.UqDwReferenceIdeal.τ).loc Cert.UqDwReferenceIdeal.main_v2) = v0 c
          ∧ r.2.mem ((c.tc : Thread Cert.UqDwReferenceIdeal.nD Cert.UqDwReferenceIdeal.τ).loc Cert.UqDwReferenceIdeal.main_arg0) = m' ((c.tc : Thread Cert.UqDwReferenceIdeal.nD Cert.UqDwReferenceIdeal.τ).loc Cert.UqDwReferenceIdeal.main_arg0)
          ∧ r.2.mem ((c.tc : Thread Cert.UqDwReferenceIdeal.nD Cert.UqDwReferenceIdeal.τ).loc Cert.UqDwReferenceIdeal.main_arg1) = m' ((c.tc : Thread Cert.UqDwReferenceIdeal.nD Cert.UqDwReferenceIdeal.τ).loc Cert.UqDwReferenceIdeal.main_arg1)
          ∧ r.2.mem ((c.tc : Thread Cert.UqDwReferenceIdeal.nD Cert.UqDwReferenceIdeal.τ).loc Cert.UqDwReferenceIdeal.main_arg2) = m' ((c.tc : Thread Cert.UqDwReferenceIdeal.nD Cert.UqDwReferenceIdeal.τ).loc Cert.UqDwReferenceIdeal.main_arg2))

def preserves_UqDx_UqDxIdeal : Prop :=
  True

def algebraic_UqDxIdeal_UqDxReferenceIdeal [hUqDxIdeal : Cert.UqDxIdeal.Facts] [hUqDxReferenceIdeal : Cert.UqDxReferenceIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxReferenceIdeal.nD Cert.UqDxReferenceIdeal.τ Cert.UqDxReferenceIdeal.sig) → Buf (Elt Ideal) ℓ) (g' : Dev Cert.UqDxReferenceIdeal.nD → PrngReg), Pre_UqDxIdeal m →
    (∀ c : Dev Cert.UqDxIdeal.nD,
      m' ((c.tc : Thread Cert.UqDxReferenceIdeal.nD Cert.UqDxReferenceIdeal.τ).loc Cert.UqDxReferenceIdeal.main_arg0) = m ((c.tc : Thread Cert.UqDxIdeal.nD Cert.UqDxIdeal.τ).loc Cert.UqDxIdeal.main_arg0)
      ∧ m' ((c.tc : Thread Cert.UqDxReferenceIdeal.nD Cert.UqDxReferenceIdeal.τ).loc Cert.UqDxReferenceIdeal.main_arg1) = m ((c.tc : Thread Cert.UqDxIdeal.nD Cert.UqDxIdeal.τ).loc Cert.UqDxIdeal.main_arg1)
      ∧ m' ((c.tc : Thread Cert.UqDxReferenceIdeal.nD Cert.UqDxReferenceIdeal.τ).loc Cert.UqDxReferenceIdeal.main_arg2) = m ((c.tc : Thread Cert.UqDxIdeal.nD Cert.UqDxIdeal.τ).loc Cert.UqDxIdeal.main_arg2)) →
    ∃ (v0 : (c : Dev Cert.UqDxIdeal.nD) → Buf (Elt Ideal) ((c.tc : Thread Cert.UqDxIdeal.nD Cert.UqDxIdeal.τ).loc Cert.UqDxIdeal.main_v2)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v2) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
          ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ θ_run (Cert.UqDxReferenceIdeal.defs (F := Ideal)) (onTc (τ := Cert.UqDxReferenceIdeal.τ) (Cert.UqDxReferenceIdeal.main (F := Ideal))) ⟨m', fun _ => 0, g'⟩ (fun r => ∀ c : Dev Cert.UqDxReferenceIdeal.nD,
          r.2.mem ((c.tc : Thread Cert.UqDxReferenceIdeal.nD Cert.UqDxReferenceIdeal.τ).loc Cert.UqDxReferenceIdeal.main_v3) = v0 c
          ∧ r.2.mem ((c.tc : Thread Cert.UqDxReferenceIdeal.nD Cert.UqDxReferenceIdeal.τ).loc Cert.UqDxReferenceIdeal.main_arg0) = m' ((c.tc : Thread Cert.UqDxReferenceIdeal.nD Cert.UqDxReferenceIdeal.τ).loc Cert.UqDxReferenceIdeal.main_arg0)
          ∧ r.2.mem ((c.tc : Thread Cert.UqDxReferenceIdeal.nD Cert.UqDxReferenceIdeal.τ).loc Cert.UqDxReferenceIdeal.main_arg1) = m' ((c.tc : Thread Cert.UqDxReferenceIdeal.nD Cert.UqDxReferenceIdeal.τ).loc Cert.UqDxReferenceIdeal.main_arg1)
          ∧ r.2.mem ((c.tc : Thread Cert.UqDxReferenceIdeal.nD Cert.UqDxReferenceIdeal.τ).loc Cert.UqDxReferenceIdeal.main_arg2) = m' ((c.tc : Thread Cert.UqDxReferenceIdeal.nD Cert.UqDxReferenceIdeal.τ).loc Cert.UqDxReferenceIdeal.main_arg2))

def preserves_UkvFwd_UkvFwdIdeal : Prop :=
  True

def algebraic_UkvFwdIdeal_UkvFwdReferenceIdeal [hUkvFwdIdeal : Cert.UkvFwdIdeal.Facts] [hUkvFwdReferenceIdeal : Cert.UkvFwdReferenceIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg)
    (m' : (ℓ : Loc Cert.UkvFwdReferenceIdeal.nD Cert.UkvFwdReferenceIdeal.τ Cert.UkvFwdReferenceIdeal.sig) → Buf (Elt Ideal) ℓ) (g' : Dev Cert.UkvFwdReferenceIdeal.nD → PrngReg), Pre_UkvFwdIdeal m →
    (∀ c : Dev Cert.UkvFwdIdeal.nD,
      m' ((c.tc : Thread Cert.UkvFwdReferenceIdeal.nD Cert.UkvFwdReferenceIdeal.τ).loc Cert.UkvFwdReferenceIdeal.main_arg0) = m ((c.tc : Thread Cert.UkvFwdIdeal.nD Cert.UkvFwdIdeal.τ).loc Cert.UkvFwdIdeal.main_arg0)
      ∧ m' ((c.tc : Thread Cert.UkvFwdReferenceIdeal.nD Cert.UkvFwdReferenceIdeal.τ).loc Cert.UkvFwdReferenceIdeal.main_arg1) = m ((c.tc : Thread Cert.UkvFwdIdeal.nD Cert.UkvFwdIdeal.τ).loc Cert.UkvFwdIdeal.main_arg1)) →
    ∃ (v0 : (c : Dev Cert.UkvFwdIdeal.nD) → Buf (Elt Ideal) ((c.tc : Thread Cert.UkvFwdIdeal.nD Cert.UkvFwdIdeal.τ).loc Cert.UkvFwdIdeal.main_v2)),
      θ_run (Cert.UkvFwdIdeal.defs (F := Ideal)) (onTc (τ := Cert.UkvFwdIdeal.τ) (Cert.UkvFwdIdeal.main (F := Ideal))) ⟨m, fun _ => 0, g⟩ (fun r => ∀ c : Dev Cert.UkvFwdIdeal.nD,
          r.2.mem ((c.tc : Thread Cert.UkvFwdIdeal.nD Cert.UkvFwdIdeal.τ).loc Cert.UkvFwdIdeal.main_v2) = v0 c
          ∧ r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
          ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ θ_run (Cert.UkvFwdReferenceIdeal.defs (F := Ideal)) (onTc (τ := Cert.UkvFwdReferenceIdeal.τ) (Cert.UkvFwdReferenceIdeal.main (F := Ideal))) ⟨m', fun _ => 0, g'⟩ (fun r => ∀ c : Dev Cert.UkvFwdReferenceIdeal.nD,
          r.2.mem ((c.tc : Thread Cert.UkvFwdReferenceIdeal.nD Cert.UkvFwdReferenceIdeal.τ).loc Cert.UkvFwdReferenceIdeal.main_v1) = v0 c
          ∧ r.2.mem ((c.tc : Thread Cert.UkvFwdReferenceIdeal.nD Cert.UkvFwdReferenceIdeal.τ).loc Cert.UkvFwdReferenceIdeal.main_arg0) = m' ((c.tc : Thread Cert.UkvFwdReferenceIdeal.nD Cert.UkvFwdReferenceIdeal.τ).loc Cert.UkvFwdReferenceIdeal.main_arg0)
          ∧ r.2.mem ((c.tc : Thread Cert.UkvFwdReferenceIdeal.nD Cert.UkvFwdReferenceIdeal.τ).loc Cert.UkvFwdReferenceIdeal.main_arg1) = m' ((c.tc : Thread Cert.UkvFwdReferenceIdeal.nD Cert.UkvFwdReferenceIdeal.τ).loc Cert.UkvFwdReferenceIdeal.main_arg1))

def preserves_UkvDw_UkvDwIdeal : Prop :=
  True

def algebraic_UkvDwIdeal_UkvDwReferenceIdeal [hUkvDwIdeal : Cert.UkvDwIdeal.Facts] [hUkvDwReferenceIdeal : Cert.UkvDwReferenceIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwIdeal m →
    (∀ c : Dev Cert.UkvDwIdeal.nD,
      m' ((c.tc : Thread Cert.UkvDwReferenceIdeal.nD Cert.UkvDwReferenceIdeal.τ).loc Cert.UkvDwReferenceIdeal.main_arg0) = m ((c.tc : Thread Cert.UkvDwIdeal.nD Cert.UkvDwIdeal.τ).loc Cert.UkvDwIdeal.main_arg0)
      ∧ m' ((c.tc : Thread Cert.UkvDwReferenceIdeal.nD Cert.UkvDwReferenceIdeal.τ).loc Cert.UkvDwReferenceIdeal.main_arg1) = m ((c.tc : Thread Cert.UkvDwIdeal.nD Cert.UkvDwIdeal.τ).loc Cert.UkvDwIdeal.main_arg1)
      ∧ m' ((c.tc : Thread Cert.UkvDwReferenceIdeal.nD Cert.UkvDwReferenceIdeal.τ).loc Cert.UkvDwReferenceIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v2)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v2) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v2) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1)
          ∧ r.2.mem ((c.tc : Thread Cert.UkvDwReferenceIdeal.nD Cert.UkvDwReferenceIdeal.τ).loc Cert.UkvDwReferenceIdeal.main_arg2) = m' ((c.tc : Thread Cert.UkvDwReferenceIdeal.nD Cert.UkvDwReferenceIdeal.τ).loc Cert.UkvDwReferenceIdeal.main_arg2))

def preserves_UkvDx_UkvDxIdeal : Prop :=
  True

def algebraic_UkvDxIdeal_UkvDxReferenceIdeal [hUkvDxIdeal : Cert.UkvDxIdeal.Facts] [hUkvDxReferenceIdeal : Cert.UkvDxReferenceIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxReferenceIdeal.nD Cert.UkvDxReferenceIdeal.τ Cert.UkvDxReferenceIdeal.sig) → Buf (Elt Ideal) ℓ) (g' : Dev Cert.UkvDxReferenceIdeal.nD → PrngReg), Pre_UkvDxIdeal m →
    (∀ c : Dev Cert.UkvDxIdeal.nD,
      m' ((c.tc : Thread Cert.UkvDxReferenceIdeal.nD Cert.UkvDxReferenceIdeal.τ).loc Cert.UkvDxReferenceIdeal.main_arg0) = m ((c.tc : Thread Cert.UkvDxIdeal.nD Cert.UkvDxIdeal.τ).loc Cert.UkvDxIdeal.main_arg0)
      ∧ m' ((c.tc : Thread Cert.UkvDxReferenceIdeal.nD Cert.UkvDxReferenceIdeal.τ).loc Cert.UkvDxReferenceIdeal.main_arg1) = m ((c.tc : Thread Cert.UkvDxIdeal.nD Cert.UkvDxIdeal.τ).loc Cert.UkvDxIdeal.main_arg1)
      ∧ m' ((c.tc : Thread Cert.UkvDxReferenceIdeal.nD Cert.UkvDxReferenceIdeal.τ).loc Cert.UkvDxReferenceIdeal.main_arg2) = m ((c.tc : Thread Cert.UkvDxIdeal.nD Cert.UkvDxIdeal.τ).loc Cert.UkvDxIdeal.main_arg2)) →
    ∃ (v0 : (c : Dev Cert.UkvDxIdeal.nD) → Buf (Elt Ideal) ((c.tc : Thread Cert.UkvDxIdeal.nD Cert.UkvDxIdeal.τ).loc Cert.UkvDxIdeal.main_v2)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v2) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1)
          ∧ r.2.mem ((c.tc : Thread Cert.UkvDxIdeal.nD Cert.UkvDxIdeal.τ).loc Cert.UkvDxIdeal.main_arg2) = m ((c.tc : Thread Cert.UkvDxIdeal.nD Cert.UkvDxIdeal.τ).loc Cert.UkvDxIdeal.main_arg2))
      ∧ θ_run (Cert.UkvDxReferenceIdeal.defs (F := Ideal)) (onTc (τ := Cert.UkvDxReferenceIdeal.τ) (Cert.UkvDxReferenceIdeal.main (F := Ideal))) ⟨m', fun _ => 0, g'⟩ (fun r => ∀ c : Dev Cert.UkvDxReferenceIdeal.nD,
          r.2.mem ((c.tc : Thread Cert.UkvDxReferenceIdeal.nD Cert.UkvDxReferenceIdeal.τ).loc Cert.UkvDxReferenceIdeal.main_v3) = v0 c
          ∧ r.2.mem ((c.tc : Thread Cert.UkvDxReferenceIdeal.nD Cert.UkvDxReferenceIdeal.τ).loc Cert.UkvDxReferenceIdeal.main_arg0) = m' ((c.tc : Thread Cert.UkvDxReferenceIdeal.nD Cert.UkvDxReferenceIdeal.τ).loc Cert.UkvDxReferenceIdeal.main_arg0)
          ∧ r.2.mem ((c.tc : Thread Cert.UkvDxReferenceIdeal.nD Cert.UkvDxReferenceIdeal.τ).loc Cert.UkvDxReferenceIdeal.main_arg1) = m' ((c.tc : Thread Cert.UkvDxReferenceIdeal.nD Cert.UkvDxReferenceIdeal.τ).loc Cert.UkvDxReferenceIdeal.main_arg1)
          ∧ r.2.mem ((c.tc : Thread Cert.UkvDxReferenceIdeal.nD Cert.UkvDxReferenceIdeal.τ).loc Cert.UkvDxReferenceIdeal.main_arg2) = m' ((c.tc : Thread Cert.UkvDxReferenceIdeal.nD Cert.UkvDxReferenceIdeal.τ).loc Cert.UkvDxReferenceIdeal.main_arg2))

def preserves_UkvDxAdd_UkvDxAddIdeal : Prop :=
  True

def algebraic_UkvDxAddIdeal_UkvDxAddReferenceIdeal [hUkvDxAddIdeal : Cert.UkvDxAddIdeal.Facts] [hUkvDxAddReferenceIdeal : Cert.UkvDxAddReferenceIdeal.Facts] : Prop :=
  ∀ (m : (ℓ : Loc Cert.UkvDxAddIdeal.nD Cert.UkvDxAddIdeal.τ Cert.UkvDxAddIdeal.sig) → Buf (Elt Ideal) ℓ) (g : Dev Cert.UkvDxAddIdeal.nD → PrngReg)
    (m' : (ℓ : Loc Cert.UkvDxAddReferenceIdeal.nD Cert.UkvDxAddReferenceIdeal.τ Cert.UkvDxAddReferenceIdeal.sig) → Buf (Elt Ideal) ℓ) (g' : Dev Cert.UkvDxAddReferenceIdeal.nD → PrngReg), Pre_UkvDxAddIdeal m →
    (∀ c : Dev Cert.UkvDxAddIdeal.nD,
      m' ((c.tc : Thread Cert.UkvDxAddReferenceIdeal.nD Cert.UkvDxAddReferenceIdeal.τ).loc Cert.UkvDxAddReferenceIdeal.main_arg0) = m ((c.tc : Thread Cert.UkvDxAddIdeal.nD Cert.UkvDxAddIdeal.τ).loc Cert.UkvDxAddIdeal.main_arg0)
      ∧ m' ((c.tc : Thread Cert.UkvDxAddReferenceIdeal.nD Cert.UkvDxAddReferenceIdeal.τ).loc Cert.UkvDxAddReferenceIdeal.main_arg1) = m ((c.tc : Thread Cert.UkvDxAddIdeal.nD Cert.UkvDxAddIdeal.τ).loc Cert.UkvDxAddIdeal.main_arg1)
      ∧ m' ((c.tc : Thread Cert.UkvDxAddReferenceIdeal.nD Cert.UkvDxAddReferenceIdeal.τ).loc Cert.UkvDxAddReferenceIdeal.main_arg2) = m ((c.tc : Thread Cert.UkvDxAddIdeal.nD Cert.UkvDxAddIdeal.τ).loc Cert.UkvDxAddIdeal.main_arg2)
      ∧ m' ((c.tc : Thread Cert.UkvDxAddReferenceIdeal.nD Cert.UkvDxAddReferenceIdeal.τ).loc Cert.UkvDxAddReferenceIdeal.main_arg3) = m ((c.tc : Thread Cert.UkvDxAddIdeal.nD Cert.UkvDxAddIdeal.τ).loc Cert.UkvDxAddIdeal.main_arg3)) →
    ∃ (v0 : (c : Dev Cert.UkvDxAddIdeal.nD) → Buf (Elt Ideal) ((c.tc : Thread Cert.UkvDxAddIdeal.nD Cert.UkvDxAddIdeal.τ).loc Cert.UkvDxAddIdeal.main_v2)),
      θ_run (Cert.UkvDxAddIdeal.defs (F := Ideal)) (onTc (τ := Cert.UkvDxAddIdeal.τ) (Cert.UkvDxAddIdeal.main (F := Ideal))) ⟨m, fun _ => 0, g⟩ (fun r => ∀ c : Dev Cert.UkvDxAddIdeal.nD,
          r.2.mem ((c.tc : Thread Cert.UkvDxAddIdeal.nD Cert.UkvDxAddIdeal.τ).loc Cert.UkvDxAddIdeal.main_v2) = v0 c
          ∧ r.2.mem ((c.tc : Thread Cert.UkvDxAddIdeal.nD Cert.UkvDxAddIdeal.τ).loc Cert.UkvDxAddIdeal.main_arg0) = m ((c.tc : Thread Cert.UkvDxAddIdeal.nD Cert.UkvDxAddIdeal.τ).loc Cert.UkvDxAddIdeal.main_arg0)
          ∧ r.2.mem ((c.tc : Thread Cert.UkvDxAddIdeal.nD Cert.UkvDxAddIdeal.τ).loc Cert.UkvDxAddIdeal.main_arg1) = m ((c.tc : Thread Cert.UkvDxAddIdeal.nD Cert.UkvDxAddIdeal.τ).loc Cert.UkvDxAddIdeal.main_arg1)
          ∧ r.2.mem ((c.tc : Thread Cert.UkvDxAddIdeal.nD Cert.UkvDxAddIdeal.τ).loc Cert.UkvDxAddIdeal.main_arg2) = m ((c.tc : Thread Cert.UkvDxAddIdeal.nD Cert.UkvDxAddIdeal.τ).loc Cert.UkvDxAddIdeal.main_arg2)
          ∧ r.2.mem ((c.tc : Thread Cert.UkvDxAddIdeal.nD Cert.UkvDxAddIdeal.τ).loc Cert.UkvDxAddIdeal.main_arg3) = m ((c.tc : Thread Cert.UkvDxAddIdeal.nD Cert.UkvDxAddIdeal.τ).loc Cert.UkvDxAddIdeal.main_arg3))
      ∧ θ_run (Cert.UkvDxAddReferenceIdeal.defs (F := Ideal)) (onTc (τ := Cert.UkvDxAddReferenceIdeal.τ) (Cert.UkvDxAddReferenceIdeal.main (F := Ideal))) ⟨m', fun _ => 0, g'⟩ (fun r => ∀ c : Dev Cert.UkvDxAddReferenceIdeal.nD,
          r.2.mem ((c.tc : Thread Cert.UkvDxAddReferenceIdeal.nD Cert.UkvDxAddReferenceIdeal.τ).loc Cert.UkvDxAddReferenceIdeal.main_v4) = v0 c
          ∧ r.2.mem ((c.tc : Thread Cert.UkvDxAddReferenceIdeal.nD Cert.UkvDxAddReferenceIdeal.τ).loc Cert.UkvDxAddReferenceIdeal.main_arg0) = m' ((c.tc : Thread Cert.UkvDxAddReferenceIdeal.nD Cert.UkvDxAddReferenceIdeal.τ).loc Cert.UkvDxAddReferenceIdeal.main_arg0)
          ∧ r.2.mem ((c.tc : Thread Cert.UkvDxAddReferenceIdeal.nD Cert.UkvDxAddReferenceIdeal.τ).loc Cert.UkvDxAddReferenceIdeal.main_arg1) = m' ((c.tc : Thread Cert.UkvDxAddReferenceIdeal.nD Cert.UkvDxAddReferenceIdeal.τ).loc Cert.UkvDxAddReferenceIdeal.main_arg1)
          ∧ r.2.mem ((c.tc : Thread Cert.UkvDxAddReferenceIdeal.nD Cert.UkvDxAddReferenceIdeal.τ).loc Cert.UkvDxAddReferenceIdeal.main_arg2) = m' ((c.tc : Thread Cert.UkvDxAddReferenceIdeal.nD Cert.UkvDxAddReferenceIdeal.τ).loc Cert.UkvDxAddReferenceIdeal.main_arg2)
          ∧ r.2.mem ((c.tc : Thread Cert.UkvDxAddReferenceIdeal.nD Cert.UkvDxAddReferenceIdeal.τ).loc Cert.UkvDxAddReferenceIdeal.main_arg3) = m' ((c.tc : Thread Cert.UkvDxAddReferenceIdeal.nD Cert.UkvDxAddReferenceIdeal.τ).loc Cert.UkvDxAddReferenceIdeal.main_arg3))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v5_0)) (v1 : (c : Dev Cert.MergeFwdIdeal.nD) → Buf (Elt Ideal) ((c.tc : Thread Cert.MergeFwdIdeal.nD Cert.MergeFwdIdeal.τ).loc Cert.MergeFwdIdeal.main_v5_1)) (v2 : (c : Dev Cert.MergeFwdIdeal.nD) → Buf (Elt Ideal) ((c.tc : Thread Cert.MergeFwdIdeal.nD Cert.MergeFwdIdeal.τ).loc Cert.MergeFwdIdeal.main_v5_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v5_0) = v0 c
          ∧ r.2.mem ((c.tc : Thread Cert.MergeFwdIdeal.nD Cert.MergeFwdIdeal.τ).loc Cert.MergeFwdIdeal.main_v5_1) = v1 c
          ∧ r.2.mem ((c.tc : Thread Cert.MergeFwdIdeal.nD Cert.MergeFwdIdeal.τ).loc Cert.MergeFwdIdeal.main_v5_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v4) = v0 c
          ∧ r.2.mem ((c.tc : Thread Cert.MergeFwdReferenceIdeal.nD Cert.MergeFwdReferenceIdeal.τ).loc Cert.MergeFwdReferenceIdeal.main_v5) = v1 c
          ∧ r.2.mem ((c.tc : Thread Cert.MergeFwdReferenceIdeal.nD Cert.MergeFwdReferenceIdeal.τ).loc Cert.MergeFwdReferenceIdeal.main_v21) = v2 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v4_0)) (v1 : (c : Dev Cert.MergeBwdIdeal.nD) → Buf (Elt Ideal) ((c.tc : Thread Cert.MergeBwdIdeal.nD Cert.MergeBwdIdeal.τ).loc Cert.MergeBwdIdeal.main_v4_1)) (v2 : (c : Dev Cert.MergeBwdIdeal.nD) → Buf (Elt Ideal) ((c.tc : Thread Cert.MergeBwdIdeal.nD Cert.MergeBwdIdeal.τ).loc Cert.MergeBwdIdeal.main_v4_2)) (v3 : (c : Dev Cert.MergeBwdIdeal.nD) → Buf (Elt Ideal) ((c.tc : Thread Cert.MergeBwdIdeal.nD Cert.MergeBwdIdeal.τ).loc Cert.MergeBwdIdeal.main_v4_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v4_0) = v0 c
          ∧ r.2.mem ((c.tc : Thread Cert.MergeBwdIdeal.nD Cert.MergeBwdIdeal.τ).loc Cert.MergeBwdIdeal.main_v4_1) = v1 c
          ∧ r.2.mem ((c.tc : Thread Cert.MergeBwdIdeal.nD Cert.MergeBwdIdeal.τ).loc Cert.MergeBwdIdeal.main_v4_2) = v2 c
          ∧ r.2.mem ((c.tc : Thread Cert.MergeBwdIdeal.nD Cert.MergeBwdIdeal.τ).loc Cert.MergeBwdIdeal.main_v4_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v31) = v0 c
          ∧ r.2.mem ((c.tc : Thread Cert.MergeBwdReferenceIdeal.nD Cert.MergeBwdReferenceIdeal.τ).loc Cert.MergeBwdReferenceIdeal.main_v32) = v1 c
          ∧ r.2.mem ((c.tc : Thread Cert.MergeBwdReferenceIdeal.nD Cert.MergeBwdReferenceIdeal.τ).loc Cert.MergeBwdReferenceIdeal.main_v33) = v2 c
          ∧ r.2.mem ((c.tc : Thread Cert.MergeBwdReferenceIdeal.nD Cert.MergeBwdReferenceIdeal.τ).loc Cert.MergeBwdReferenceIdeal.main_v34) = v3 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v13) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_AbFwd_AbFwdIdeal : Prop :=
  True

def algebraic_AbFwdIdeal_AbFwdReferenceIdeal [hAbFwdIdeal : Cert.AbFwdIdeal.Facts] [hAbFwdReferenceIdeal : Cert.AbFwdReferenceIdeal.Facts] : Prop :=
  ∀ (m : (ℓ : Loc Cert.AbFwdIdeal.nD Cert.AbFwdIdeal.τ Cert.AbFwdIdeal.sig) → Buf (Elt Ideal) ℓ) (g : Dev Cert.AbFwdIdeal.nD → PrngReg)
    (m' : (ℓ : Loc Cert.AbFwdReferenceIdeal.nD Cert.AbFwdReferenceIdeal.τ Cert.AbFwdReferenceIdeal.sig) → Buf (Elt Ideal) ℓ) (g' : Dev Cert.AbFwdReferenceIdeal.nD → PrngReg), Pre_AbFwdIdeal m →
    (∀ c : Dev Cert.AbFwdIdeal.nD,
      m' ((c.tc : Thread Cert.AbFwdReferenceIdeal.nD Cert.AbFwdReferenceIdeal.τ).loc Cert.AbFwdReferenceIdeal.main_arg0) = m ((c.tc : Thread Cert.AbFwdIdeal.nD Cert.AbFwdIdeal.τ).loc Cert.AbFwdIdeal.main_arg0)
      ∧ m' ((c.tc : Thread Cert.AbFwdReferenceIdeal.nD Cert.AbFwdReferenceIdeal.τ).loc Cert.AbFwdReferenceIdeal.main_arg1) = m ((c.tc : Thread Cert.AbFwdIdeal.nD Cert.AbFwdIdeal.τ).loc Cert.AbFwdIdeal.main_arg1)) →
    ∃ (v0 : (c : Dev Cert.AbFwdIdeal.nD) → Buf (Elt Ideal) ((c.tc : Thread Cert.AbFwdIdeal.nD Cert.AbFwdIdeal.τ).loc Cert.AbFwdIdeal.main_v2)),
      θ_run (Cert.AbFwdIdeal.defs (F := Ideal)) (onTc (τ := Cert.AbFwdIdeal.τ) (Cert.AbFwdIdeal.main (F := Ideal))) ⟨m, fun _ => 0, g⟩ (fun r => ∀ c : Dev Cert.AbFwdIdeal.nD,
          r.2.mem ((c.tc : Thread Cert.AbFwdIdeal.nD Cert.AbFwdIdeal.τ).loc Cert.AbFwdIdeal.main_v2) = v0 c
          ∧ r.2.mem ((c.tc : Thread Cert.AbFwdIdeal.nD Cert.AbFwdIdeal.τ).loc Cert.AbFwdIdeal.main_arg0) = m ((c.tc : Thread Cert.AbFwdIdeal.nD Cert.AbFwdIdeal.τ).loc Cert.AbFwdIdeal.main_arg0)
          ∧ r.2.mem ((c.tc : Thread Cert.AbFwdIdeal.nD Cert.AbFwdIdeal.τ).loc Cert.AbFwdIdeal.main_arg1) = m ((c.tc : Thread Cert.AbFwdIdeal.nD Cert.AbFwdIdeal.τ).loc Cert.AbFwdIdeal.main_arg1))
      ∧ θ_run (Cert.AbFwdReferenceIdeal.defs (F := Ideal)) (onTc (τ := Cert.AbFwdReferenceIdeal.τ) (Cert.AbFwdReferenceIdeal.main (F := Ideal))) ⟨m', fun _ => 0, g'⟩ (fun r => ∀ c : Dev Cert.AbFwdReferenceIdeal.nD,
          r.2.mem ((c.tc : Thread Cert.AbFwdReferenceIdeal.nD Cert.AbFwdReferenceIdeal.τ).loc Cert.AbFwdReferenceIdeal.main_v0) = v0 c
          ∧ r.2.mem ((c.tc : Thread Cert.AbFwdReferenceIdeal.nD Cert.AbFwdReferenceIdeal.τ).loc Cert.AbFwdReferenceIdeal.main_arg0) = m' ((c.tc : Thread Cert.AbFwdReferenceIdeal.nD Cert.AbFwdReferenceIdeal.τ).loc Cert.AbFwdReferenceIdeal.main_arg0)
          ∧ r.2.mem ((c.tc : Thread Cert.AbFwdReferenceIdeal.nD Cert.AbFwdReferenceIdeal.τ).loc Cert.AbFwdReferenceIdeal.main_arg1) = m' ((c.tc : Thread Cert.AbFwdReferenceIdeal.nD Cert.AbFwdReferenceIdeal.τ).loc Cert.AbFwdReferenceIdeal.main_arg1))

def preserves_AbDw_AbDwIdeal : Prop :=
  True

def algebraic_AbDwIdeal_AbDwReferenceIdeal [hAbDwIdeal : Cert.AbDwIdeal.Facts] [hAbDwReferenceIdeal : Cert.AbDwReferenceIdeal.Facts] : Prop :=
  ∀ (m : (ℓ : Loc Cert.AbDwIdeal.nD Cert.AbDwIdeal.τ Cert.AbDwIdeal.sig) → Buf (Elt Ideal) ℓ) (g : Dev Cert.AbDwIdeal.nD → PrngReg)
    (m' : (ℓ : Loc Cert.AbDwReferenceIdeal.nD Cert.AbDwReferenceIdeal.τ Cert.AbDwReferenceIdeal.sig) → Buf (Elt Ideal) ℓ) (g' : Dev Cert.AbDwReferenceIdeal.nD → PrngReg), Pre_AbDwIdeal m →
    (∀ c : Dev Cert.AbDwIdeal.nD,
      m' ((c.tc : Thread Cert.AbDwReferenceIdeal.nD Cert.AbDwReferenceIdeal.τ).loc Cert.AbDwReferenceIdeal.main_arg0) = m ((c.tc : Thread Cert.AbDwIdeal.nD Cert.AbDwIdeal.τ).loc Cert.AbDwIdeal.main_arg0)
      ∧ m' ((c.tc : Thread Cert.AbDwReferenceIdeal.nD Cert.AbDwReferenceIdeal.τ).loc Cert.AbDwReferenceIdeal.main_arg1) = m ((c.tc : Thread Cert.AbDwIdeal.nD Cert.AbDwIdeal.τ).loc Cert.AbDwIdeal.main_arg1)
      ∧ m' ((c.tc : Thread Cert.AbDwReferenceIdeal.nD Cert.AbDwReferenceIdeal.τ).loc Cert.AbDwReferenceIdeal.main_arg2) = m ((c.tc : Thread Cert.AbDwIdeal.nD Cert.AbDwIdeal.τ).loc Cert.AbDwIdeal.main_arg2)) →
    ∃ (v0 : (c : Dev Cert.AbDwIdeal.nD) → Buf (Elt Ideal) ((c.tc : Thread Cert.AbDwIdeal.nD Cert.AbDwIdeal.τ).loc Cert.AbDwIdeal.main_v2)),
      θ_run (Cert.AbDwIdeal.defs (F := Ideal)) (onTc (τ := Cert.AbDwIdeal.τ) (Cert.AbDwIdeal.main (F := Ideal))) ⟨m, fun _ => 0, g⟩ (fun r => ∀ c : Dev Cert.AbDwIdeal.nD,
          r.2.mem ((c.tc : Thread Cert.AbDwIdeal.nD Cert.AbDwIdeal.τ).loc Cert.AbDwIdeal.main_v2) = v0 c
          ∧ r.2.mem ((c.tc : Thread Cert.AbDwIdeal.nD Cert.AbDwIdeal.τ).loc Cert.AbDwIdeal.main_arg0) = m ((c.tc : Thread Cert.AbDwIdeal.nD Cert.AbDwIdeal.τ).loc Cert.AbDwIdeal.main_arg0)
          ∧ r.2.mem ((c.tc : Thread Cert.AbDwIdeal.nD Cert.AbDwIdeal.τ).loc Cert.AbDwIdeal.main_arg1) = m ((c.tc : Thread Cert.AbDwIdeal.nD Cert.AbDwIdeal.τ).loc Cert.AbDwIdeal.main_arg1)
          ∧ r.2.mem ((c.tc : Thread Cert.AbDwIdeal.nD Cert.AbDwIdeal.τ).loc Cert.AbDwIdeal.main_arg2) = m ((c.tc : Thread Cert.AbDwIdeal.nD Cert.AbDwIdeal.τ).loc Cert.AbDwIdeal.main_arg2))
      ∧ θ_run (Cert.AbDwReferenceIdeal.defs (F := Ideal)) (onTc (τ := Cert.AbDwReferenceIdeal.τ) (Cert.AbDwReferenceIdeal.main (F := Ideal))) ⟨m', fun _ => 0, g'⟩ (fun r => ∀ c : Dev Cert.AbDwReferenceIdeal.nD,
          r.2.mem ((c.tc : Thread Cert.AbDwReferenceIdeal.nD Cert.AbDwReferenceIdeal.τ).loc Cert.AbDwReferenceIdeal.main_v2) = v0 c
          ∧ r.2.mem ((c.tc : Thread Cert.AbDwReferenceIdeal.nD Cert.AbDwReferenceIdeal.τ).loc Cert.AbDwReferenceIdeal.main_arg0) = m' ((c.tc : Thread Cert.AbDwReferenceIdeal.nD Cert.AbDwReferenceIdeal.τ).loc Cert.AbDwReferenceIdeal.main_arg0)
          ∧ r.2.mem ((c.tc : Thread Cert.AbDwReferenceIdeal.nD Cert.AbDwReferenceIdeal.τ).loc Cert.AbDwReferenceIdeal.main_arg1) = m' ((c.tc : Thread Cert.AbDwReferenceIdeal.nD Cert.AbDwReferenceIdeal.τ).loc Cert.AbDwReferenceIdeal.main_arg1)
          ∧ r.2.mem ((c.tc : Thread Cert.AbDwReferenceIdeal.nD Cert.AbDwReferenceIdeal.τ).loc Cert.AbDwReferenceIdeal.main_arg2) = m' ((c.tc : Thread Cert.AbDwReferenceIdeal.nD Cert.AbDwReferenceIdeal.τ).loc Cert.AbDwReferenceIdeal.main_arg2))

def preserves_AbDx_AbDxIdeal : Prop :=
  True

def algebraic_AbDxIdeal_AbDxReferenceIdeal [hAbDxIdeal : Cert.AbDxIdeal.Facts] [hAbDxReferenceIdeal : Cert.AbDxReferenceIdeal.Facts] : Prop :=
  ∀ (m : (ℓ : Loc Cert.AbDxIdeal.nD Cert.AbDxIdeal.τ Cert.AbDxIdeal.sig) → Buf (Elt Ideal) ℓ) (g : Dev Cert.AbDxIdeal.nD → PrngReg)
    (m' : (ℓ : Loc Cert.AbDxReferenceIdeal.nD Cert.AbDxReferenceIdeal.τ Cert.AbDxReferenceIdeal.sig) → Buf (Elt Ideal) ℓ) (g' : Dev Cert.AbDxReferenceIdeal.nD → PrngReg), Pre_AbDxIdeal m →
    (∀ c : Dev Cert.AbDxIdeal.nD,
      m' ((c.tc : Thread Cert.AbDxReferenceIdeal.nD Cert.AbDxReferenceIdeal.τ).loc Cert.AbDxReferenceIdeal.main_arg0) = m ((c.tc : Thread Cert.AbDxIdeal.nD Cert.AbDxIdeal.τ).loc Cert.AbDxIdeal.main_arg0)
      ∧ m' ((c.tc : Thread Cert.AbDxReferenceIdeal.nD Cert.AbDxReferenceIdeal.τ).loc Cert.AbDxReferenceIdeal.main_arg1) = m ((c.tc : Thread Cert.AbDxIdeal.nD Cert.AbDxIdeal.τ).loc Cert.AbDxIdeal.main_arg1)
      ∧ m' ((c.tc : Thread Cert.AbDxReferenceIdeal.nD Cert.AbDxReferenceIdeal.τ).loc Cert.AbDxReferenceIdeal.main_arg2) = m ((c.tc : Thread Cert.AbDxIdeal.nD Cert.AbDxIdeal.τ).loc Cert.AbDxIdeal.main_arg2)
      ∧ m' ((c.tc : Thread Cert.AbDxReferenceIdeal.nD Cert.AbDxReferenceIdeal.τ).loc Cert.AbDxReferenceIdeal.main_arg3) = m ((c.tc : Thread Cert.AbDxIdeal.nD Cert.AbDxIdeal.τ).loc Cert.AbDxIdeal.main_arg3)) →
    ∃ (v0 : (c : Dev Cert.AbDxIdeal.nD) → Buf (Elt Ideal) ((c.tc : Thread Cert.AbDxIdeal.nD Cert.AbDxIdeal.τ).loc Cert.AbDxIdeal.main_v2)),
      θ_run (Cert.AbDxIdeal.defs (F := Ideal)) (onTc (τ := Cert.AbDxIdeal.τ) (Cert.AbDxIdeal.main (F := Ideal))) ⟨m, fun _ => 0, g⟩ (fun r => ∀ c : Dev Cert.AbDxIdeal.nD,
          r.2.mem ((c.tc : Thread Cert.AbDxIdeal.nD Cert.AbDxIdeal.τ).loc Cert.AbDxIdeal.main_v2) = v0 c
          ∧ r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
          ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1)
          ∧ r.2.mem ((c.tc : Thread Cert.AbDxIdeal.nD Cert.AbDxIdeal.τ).loc Cert.AbDxIdeal.main_arg2) = m ((c.tc : Thread Cert.AbDxIdeal.nD Cert.AbDxIdeal.τ).loc Cert.AbDxIdeal.main_arg2)
          ∧ r.2.mem ((c.tc : Thread Cert.AbDxIdeal.nD Cert.AbDxIdeal.τ).loc Cert.AbDxIdeal.main_arg3) = m ((c.tc : Thread Cert.AbDxIdeal.nD Cert.AbDxIdeal.τ).loc Cert.AbDxIdeal.main_arg3))
      ∧ θ_run (Cert.AbDxReferenceIdeal.defs (F := Ideal)) (onTc (τ := Cert.AbDxReferenceIdeal.τ) (Cert.AbDxReferenceIdeal.main (F := Ideal))) ⟨m', fun _ => 0, g'⟩ (fun r => ∀ c : Dev Cert.AbDxReferenceIdeal.nD,
          r.2.mem ((c.tc : Thread Cert.AbDxReferenceIdeal.nD Cert.AbDxReferenceIdeal.τ).loc Cert.AbDxReferenceIdeal.main_v4) = v0 c
          ∧ r.2.mem ((c.tc : Thread Cert.AbDxReferenceIdeal.nD Cert.AbDxReferenceIdeal.τ).loc Cert.AbDxReferenceIdeal.main_arg0) = m' ((c.tc : Thread Cert.AbDxReferenceIdeal.nD Cert.AbDxReferenceIdeal.τ).loc Cert.AbDxReferenceIdeal.main_arg0)
          ∧ r.2.mem ((c.tc : Thread Cert.AbDxReferenceIdeal.nD Cert.AbDxReferenceIdeal.τ).loc Cert.AbDxReferenceIdeal.main_arg1) = m' ((c.tc : Thread Cert.AbDxReferenceIdeal.nD Cert.AbDxReferenceIdeal.τ).loc Cert.AbDxReferenceIdeal.main_arg1)
          ∧ r.2.mem ((c.tc : Thread Cert.AbDxReferenceIdeal.nD Cert.AbDxReferenceIdeal.τ).loc Cert.AbDxReferenceIdeal.main_arg2) = m' ((c.tc : Thread Cert.AbDxReferenceIdeal.nD Cert.AbDxReferenceIdeal.τ).loc Cert.AbDxReferenceIdeal.main_arg2)
          ∧ r.2.mem ((c.tc : Thread Cert.AbDxReferenceIdeal.nD Cert.AbDxReferenceIdeal.τ).loc Cert.AbDxReferenceIdeal.main_arg3) = m' ((c.tc : Thread Cert.AbDxReferenceIdeal.nD Cert.AbDxReferenceIdeal.τ).loc Cert.AbDxReferenceIdeal.main_arg3))

def preserves_QpFwd_QpFwdIdeal : Prop :=
  True

def algebraic_QpFwdIdeal_QpFwdReferenceIdeal [hQpFwdIdeal : Cert.QpFwdIdeal.Facts] [hQpFwdReferenceIdeal : Cert.QpFwdReferenceIdeal.Facts] : Prop :=
  ∀ (m : (ℓ : Loc Cert.QpFwdIdeal.nD Cert.QpFwdIdeal.τ Cert.QpFwdIdeal.sig) → Buf (Elt Ideal) ℓ) (g : Dev Cert.QpFwdIdeal.nD → PrngReg)
    (m' : (ℓ : Loc Cert.QpFwdReferenceIdeal.nD Cert.QpFwdReferenceIdeal.τ Cert.QpFwdReferenceIdeal.sig) → Buf (Elt Ideal) ℓ) (g' : Dev Cert.QpFwdReferenceIdeal.nD → PrngReg), Pre_QpFwdIdeal m →
    (∀ c : Dev Cert.QpFwdIdeal.nD,
      m' ((c.tc : Thread Cert.QpFwdReferenceIdeal.nD Cert.QpFwdReferenceIdeal.τ).loc Cert.QpFwdReferenceIdeal.main_arg0) = m ((c.tc : Thread Cert.QpFwdIdeal.nD Cert.QpFwdIdeal.τ).loc Cert.QpFwdIdeal.main_arg0)
      ∧ m' ((c.tc : Thread Cert.QpFwdReferenceIdeal.nD Cert.QpFwdReferenceIdeal.τ).loc Cert.QpFwdReferenceIdeal.main_arg1) = m ((c.tc : Thread Cert.QpFwdIdeal.nD Cert.QpFwdIdeal.τ).loc Cert.QpFwdIdeal.main_arg1)) →
    ∃ (v0 : (c : Dev Cert.QpFwdIdeal.nD) → Buf (Elt Ideal) ((c.tc : Thread Cert.QpFwdIdeal.nD Cert.QpFwdIdeal.τ).loc Cert.QpFwdIdeal.main_v2)),
      θ_run (Cert.QpFwdIdeal.defs (F := Ideal)) (onTc (τ := Cert.QpFwdIdeal.τ) (Cert.QpFwdIdeal.main (F := Ideal))) ⟨m, fun _ => 0, g⟩ (fun r => ∀ c : Dev Cert.QpFwdIdeal.nD,
          r.2.mem ((c.tc : Thread Cert.QpFwdIdeal.nD Cert.QpFwdIdeal.τ).loc Cert.QpFwdIdeal.main_v2) = v0 c
          ∧ r.2.mem ((c.tc : Thread Cert.QpFwdIdeal.nD Cert.QpFwdIdeal.τ).loc Cert.QpFwdIdeal.main_arg0) = m ((c.tc : Thread Cert.QpFwdIdeal.nD Cert.QpFwdIdeal.τ).loc Cert.QpFwdIdeal.main_arg0)
          ∧ r.2.mem ((c.tc : Thread Cert.QpFwdIdeal.nD Cert.QpFwdIdeal.τ).loc Cert.QpFwdIdeal.main_arg1) = m ((c.tc : Thread Cert.QpFwdIdeal.nD Cert.QpFwdIdeal.τ).loc Cert.QpFwdIdeal.main_arg1))
      ∧ θ_run (Cert.QpFwdReferenceIdeal.defs (F := Ideal)) (onTc (τ := Cert.QpFwdReferenceIdeal.τ) (Cert.QpFwdReferenceIdeal.main (F := Ideal))) ⟨m', fun _ => 0, g'⟩ (fun r => ∀ c : Dev Cert.QpFwdReferenceIdeal.nD,
          r.2.mem ((c.tc : Thread Cert.QpFwdReferenceIdeal.nD Cert.QpFwdReferenceIdeal.τ).loc Cert.QpFwdReferenceIdeal.main_v1) = v0 c
          ∧ r.2.mem ((c.tc : Thread Cert.QpFwdReferenceIdeal.nD Cert.QpFwdReferenceIdeal.τ).loc Cert.QpFwdReferenceIdeal.main_arg0) = m' ((c.tc : Thread Cert.QpFwdReferenceIdeal.nD Cert.QpFwdReferenceIdeal.τ).loc Cert.QpFwdReferenceIdeal.main_arg0)
          ∧ r.2.mem ((c.tc : Thread Cert.QpFwdReferenceIdeal.nD Cert.QpFwdReferenceIdeal.τ).loc Cert.QpFwdReferenceIdeal.main_arg1) = m' ((c.tc : Thread Cert.QpFwdReferenceIdeal.nD Cert.QpFwdReferenceIdeal.τ).loc Cert.QpFwdReferenceIdeal.main_arg1))

def preserves_UqDxAdd_UqDxAddIdeal : Prop :=
  True

def algebraic_UqDxAddIdeal_UqDxAddReferenceIdeal [hUqDxAddIdeal : Cert.UqDxAddIdeal.Facts] [hUqDxAddReferenceIdeal : Cert.UqDxAddReferenceIdeal.Facts] : Prop :=
  ∀ (m : (ℓ : Loc Cert.UqDxAddIdeal.nD Cert.UqDxAddIdeal.τ Cert.UqDxAddIdeal.sig) → Buf (Elt Ideal) ℓ) (g : Dev Cert.UqDxAddIdeal.nD → PrngReg)
    (m' : (ℓ : Loc Cert.UqDxAddReferenceIdeal.nD Cert.UqDxAddReferenceIdeal.τ Cert.UqDxAddReferenceIdeal.sig) → Buf (Elt Ideal) ℓ) (g' : Dev Cert.UqDxAddReferenceIdeal.nD → PrngReg), Pre_UqDxAddIdeal m →
    (∀ c : Dev Cert.UqDxAddIdeal.nD,
      m' ((c.tc : Thread Cert.UqDxAddReferenceIdeal.nD Cert.UqDxAddReferenceIdeal.τ).loc Cert.UqDxAddReferenceIdeal.main_arg0) = m ((c.tc : Thread Cert.UqDxAddIdeal.nD Cert.UqDxAddIdeal.τ).loc Cert.UqDxAddIdeal.main_arg0)
      ∧ m' ((c.tc : Thread Cert.UqDxAddReferenceIdeal.nD Cert.UqDxAddReferenceIdeal.τ).loc Cert.UqDxAddReferenceIdeal.main_arg1) = m ((c.tc : Thread Cert.UqDxAddIdeal.nD Cert.UqDxAddIdeal.τ).loc Cert.UqDxAddIdeal.main_arg1)
      ∧ m' ((c.tc : Thread Cert.UqDxAddReferenceIdeal.nD Cert.UqDxAddReferenceIdeal.τ).loc Cert.UqDxAddReferenceIdeal.main_arg2) = m ((c.tc : Thread Cert.UqDxAddIdeal.nD Cert.UqDxAddIdeal.τ).loc Cert.UqDxAddIdeal.main_arg2)
      ∧ m' ((c.tc : Thread Cert.UqDxAddReferenceIdeal.nD Cert.UqDxAddReferenceIdeal.τ).loc Cert.UqDxAddReferenceIdeal.main_arg3) = m ((c.tc : Thread Cert.UqDxAddIdeal.nD Cert.UqDxAddIdeal.τ).loc Cert.UqDxAddIdeal.main_arg3)) →
    ∃ (v0 : (c : Dev Cert.UqDxAddIdeal.nD) → Buf (Elt Ideal) ((c.tc : Thread Cert.UqDxAddIdeal.nD Cert.UqDxAddIdeal.τ).loc Cert.UqDxAddIdeal.main_v2)),
      θ_run (Cert.UqDxAddIdeal.defs (F := Ideal)) (onTc (τ := Cert.UqDxAddIdeal.τ) (Cert.UqDxAddIdeal.main (F := Ideal))) ⟨m, fun _ => 0, g⟩ (fun r => ∀ c : Dev Cert.UqDxAddIdeal.nD,
          r.2.mem ((c.tc : Thread Cert.UqDxAddIdeal.nD Cert.UqDxAddIdeal.τ).loc Cert.UqDxAddIdeal.main_v2) = v0 c
          ∧ r.2.mem ((c.tc : Thread Cert.UqDxAddIdeal.nD Cert.UqDxAddIdeal.τ).loc Cert.UqDxAddIdeal.main_arg0) = m ((c.tc : Thread Cert.UqDxAddIdeal.nD Cert.UqDxAddIdeal.τ).loc Cert.UqDxAddIdeal.main_arg0)
          ∧ r.2.mem ((c.tc : Thread Cert.UqDxAddIdeal.nD Cert.UqDxAddIdeal.τ).loc Cert.UqDxAddIdeal.main_arg1) = m ((c.tc : Thread Cert.UqDxAddIdeal.nD Cert.UqDxAddIdeal.τ).loc Cert.UqDxAddIdeal.main_arg1)
          ∧ r.2.mem ((c.tc : Thread Cert.UqDxAddIdeal.nD Cert.UqDxAddIdeal.τ).loc Cert.UqDxAddIdeal.main_arg2) = m ((c.tc : Thread Cert.UqDxAddIdeal.nD Cert.UqDxAddIdeal.τ).loc Cert.UqDxAddIdeal.main_arg2)
          ∧ r.2.mem ((c.tc : Thread Cert.UqDxAddIdeal.nD Cert.UqDxAddIdeal.τ).loc Cert.UqDxAddIdeal.main_arg3) = m ((c.tc : Thread Cert.UqDxAddIdeal.nD Cert.UqDxAddIdeal.τ).loc Cert.UqDxAddIdeal.main_arg3))
      ∧ θ_run (Cert.UqDxAddReferenceIdeal.defs (F := Ideal)) (onTc (τ := Cert.UqDxAddReferenceIdeal.τ) (Cert.UqDxAddReferenceIdeal.main (F := Ideal))) ⟨m', fun _ => 0, g'⟩ (fun r => ∀ c : Dev Cert.UqDxAddReferenceIdeal.nD,
          r.2.mem ((c.tc : Thread Cert.UqDxAddReferenceIdeal.nD Cert.UqDxAddReferenceIdeal.τ).loc Cert.UqDxAddReferenceIdeal.main_v4) = v0 c
          ∧ r.2.mem ((c.tc : Thread Cert.UqDxAddReferenceIdeal.nD Cert.UqDxAddReferenceIdeal.τ).loc Cert.UqDxAddReferenceIdeal.main_arg0) = m' ((c.tc : Thread Cert.UqDxAddReferenceIdeal.nD Cert.UqDxAddReferenceIdeal.τ).loc Cert.UqDxAddReferenceIdeal.main_arg0)
          ∧ r.2.mem ((c.tc : Thread Cert.UqDxAddReferenceIdeal.nD Cert.UqDxAddReferenceIdeal.τ).loc Cert.UqDxAddReferenceIdeal.main_arg1) = m' ((c.tc : Thread Cert.UqDxAddReferenceIdeal.nD Cert.UqDxAddReferenceIdeal.τ).loc Cert.UqDxAddReferenceIdeal.main_arg1)
          ∧ r.2.mem ((c.tc : Thread Cert.UqDxAddReferenceIdeal.nD Cert.UqDxAddReferenceIdeal.τ).loc Cert.UqDxAddReferenceIdeal.main_arg2) = m' ((c.tc : Thread Cert.UqDxAddReferenceIdeal.nD Cert.UqDxAddReferenceIdeal.τ).loc Cert.UqDxAddReferenceIdeal.main_arg2)
          ∧ r.2.mem ((c.tc : Thread Cert.UqDxAddReferenceIdeal.nD Cert.UqDxAddReferenceIdeal.τ).loc Cert.UqDxAddReferenceIdeal.main_arg3) = m' ((c.tc : Thread Cert.UqDxAddReferenceIdeal.nD Cert.UqDxAddReferenceIdeal.τ).loc Cert.UqDxAddReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v2_0)) (v1 : (c : Dev Cert.AdamInIdeal.nD) → Buf (Elt Ideal) ((c.tc : Thread Cert.AdamInIdeal.nD Cert.AdamInIdeal.τ).loc Cert.AdamInIdeal.main_v2_1)) (v2 : (c : Dev Cert.AdamInIdeal.nD) → Buf (Elt Ideal) ((c.tc : Thread Cert.AdamInIdeal.nD Cert.AdamInIdeal.τ).loc Cert.AdamInIdeal.main_v2_2)) (v3 : (c : Dev Cert.AdamInIdeal.nD) → Buf (Elt Ideal) ((c.tc : Thread Cert.AdamInIdeal.nD Cert.AdamInIdeal.τ).loc Cert.AdamInIdeal.main_v2_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v2_0) = v0 c
          ∧ r.2.mem ((c.tc : Thread Cert.AdamInIdeal.nD Cert.AdamInIdeal.τ).loc Cert.AdamInIdeal.main_v2_1) = v1 c
          ∧ r.2.mem ((c.tc : Thread Cert.AdamInIdeal.nD Cert.AdamInIdeal.τ).loc Cert.AdamInIdeal.main_v2_2) = v2 c
          ∧ r.2.mem ((c.tc : Thread Cert.AdamInIdeal.nD Cert.AdamInIdeal.τ).loc Cert.AdamInIdeal.main_v2_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamQ_AdamQIdeal : Prop :=
  True

def algebraic_AdamQIdeal_AdamQReferenceIdeal [hAdamQIdeal : Cert.AdamQIdeal.Facts] [hAdamQReferenceIdeal : Cert.AdamQReferenceIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQReferenceIdeal.nD Cert.AdamQReferenceIdeal.τ Cert.AdamQReferenceIdeal.sig) → Buf (Elt Ideal) ℓ) (g' : Dev Cert.AdamQReferenceIdeal.nD → PrngReg), Pre_AdamQIdeal m →
    (∀ c : Dev Cert.AdamQIdeal.nD,
      m' ((c.tc : Thread Cert.AdamQReferenceIdeal.nD Cert.AdamQReferenceIdeal.τ).loc Cert.AdamQReferenceIdeal.main_arg0) = m ((c.tc : Thread Cert.AdamQIdeal.nD Cert.AdamQIdeal.τ).loc Cert.AdamQIdeal.main_arg0)
      ∧ m' ((c.tc : Thread Cert.AdamQReferenceIdeal.nD Cert.AdamQReferenceIdeal.τ).loc Cert.AdamQReferenceIdeal.main_arg1) = m ((c.tc : Thread Cert.AdamQIdeal.nD Cert.AdamQIdeal.τ).loc Cert.AdamQIdeal.main_arg1)
      ∧ m' ((c.tc : Thread Cert.AdamQReferenceIdeal.nD Cert.AdamQReferenceIdeal.τ).loc Cert.AdamQReferenceIdeal.main_arg2) = m ((c.tc : Thread Cert.AdamQIdeal.nD Cert.AdamQIdeal.τ).loc Cert.AdamQIdeal.main_arg2)
      ∧ m' ((c.tc : Thread Cert.AdamQReferenceIdeal.nD Cert.AdamQReferenceIdeal.τ).loc Cert.AdamQReferenceIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v2_0)) (v1 : (c : Dev Cert.AdamQIdeal.nD) → Buf (Elt Ideal) ((c.tc : Thread Cert.AdamQIdeal.nD Cert.AdamQIdeal.τ).loc Cert.AdamQIdeal.main_v2_1)) (v2 : (c : Dev Cert.AdamQIdeal.nD) → Buf (Elt Ideal) ((c.tc : Thread Cert.AdamQIdeal.nD Cert.AdamQIdeal.τ).loc Cert.AdamQIdeal.main_v2_2)) (v3 : (c : Dev Cert.AdamQIdeal.nD) → Buf (Elt Ideal) ((c.tc : Thread Cert.AdamQIdeal.nD Cert.AdamQIdeal.τ).loc Cert.AdamQIdeal.main_v2_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v2_0) = v0 c
          ∧ r.2.mem ((c.tc : Thread Cert.AdamQIdeal.nD Cert.AdamQIdeal.τ).loc Cert.AdamQIdeal.main_v2_1) = v1 c
          ∧ r.2.mem ((c.tc : Thread Cert.AdamQIdeal.nD Cert.AdamQIdeal.τ).loc Cert.AdamQIdeal.main_v2_2) = v2 c
          ∧ r.2.mem ((c.tc : Thread Cert.AdamQIdeal.nD Cert.AdamQIdeal.τ).loc Cert.AdamQIdeal.main_v2_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQReferenceIdeal.defs (F := Ideal)) (onTc (τ := Cert.AdamQReferenceIdeal.τ) (Cert.AdamQReferenceIdeal.main (F := Ideal))) ⟨m', fun _ => 0, g'⟩ (fun r => ∀ c : Dev Cert.AdamQReferenceIdeal.nD,
          r.2.mem ((c.tc : Thread Cert.AdamQReferenceIdeal.nD Cert.AdamQReferenceIdeal.τ).loc Cert.AdamQReferenceIdeal.main_v0) = v0 c
          ∧ r.2.mem ((c.tc : Thread Cert.AdamQReferenceIdeal.nD Cert.AdamQReferenceIdeal.τ).loc Cert.AdamQReferenceIdeal.main_v24) = v1 c
          ∧ r.2.mem ((c.tc : Thread Cert.AdamQReferenceIdeal.nD Cert.AdamQReferenceIdeal.τ).loc Cert.AdamQReferenceIdeal.main_v5) = v2 c
          ∧ r.2.mem ((c.tc : Thread Cert.AdamQReferenceIdeal.nD Cert.AdamQReferenceIdeal.τ).loc Cert.AdamQReferenceIdeal.main_v11) = v3 c
          ∧ r.2.mem ((c.tc : Thread Cert.AdamQReferenceIdeal.nD Cert.AdamQReferenceIdeal.τ).loc Cert.AdamQReferenceIdeal.main_arg0) = m' ((c.tc : Thread Cert.AdamQReferenceIdeal.nD Cert.AdamQReferenceIdeal.τ).loc Cert.AdamQReferenceIdeal.main_arg0)
          ∧ r.2.mem ((c.tc : Thread Cert.AdamQReferenceIdeal.nD Cert.AdamQReferenceIdeal.τ).loc Cert.AdamQReferenceIdeal.main_arg1) = m' ((c.tc : Thread Cert.AdamQReferenceIdeal.nD Cert.AdamQReferenceIdeal.τ).loc Cert.AdamQReferenceIdeal.main_arg1)
          ∧ r.2.mem ((c.tc : Thread Cert.AdamQReferenceIdeal.nD Cert.AdamQReferenceIdeal.τ).loc Cert.AdamQReferenceIdeal.main_arg2) = m' ((c.tc : Thread Cert.AdamQReferenceIdeal.nD Cert.AdamQReferenceIdeal.τ).loc Cert.AdamQReferenceIdeal.main_arg2)
          ∧ r.2.mem ((c.tc : Thread Cert.AdamQReferenceIdeal.nD Cert.AdamQReferenceIdeal.τ).loc Cert.AdamQReferenceIdeal.main_arg3) = m' ((c.tc : Thread Cert.AdamQReferenceIdeal.nD Cert.AdamQReferenceIdeal.τ).loc Cert.AdamQReferenceIdeal.main_arg3))

def preserves_AdamC_AdamCIdeal : Prop :=
  True

def algebraic_AdamCIdeal_AdamCReferenceIdeal [hAdamCIdeal : Cert.AdamCIdeal.Facts] [hAdamCReferenceIdeal : Cert.AdamCReferenceIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCReferenceIdeal.nD Cert.AdamCReferenceIdeal.τ Cert.AdamCReferenceIdeal.sig) → Buf (Elt Ideal) ℓ) (g' : Dev Cert.AdamCReferenceIdeal.nD → PrngReg), Pre_AdamCIdeal m →
    (∀ c : Dev Cert.AdamCIdeal.nD,
      m' ((c.tc : Thread Cert.AdamCReferenceIdeal.nD Cert.AdamCReferenceIdeal.τ).loc Cert.AdamCReferenceIdeal.main_arg0) = m ((c.tc : Thread Cert.AdamCIdeal.nD Cert.AdamCIdeal.τ).loc Cert.AdamCIdeal.main_arg0)
      ∧ m' ((c.tc : Thread Cert.AdamCReferenceIdeal.nD Cert.AdamCReferenceIdeal.τ).loc Cert.AdamCReferenceIdeal.main_arg1) = m ((c.tc : Thread Cert.AdamCIdeal.nD Cert.AdamCIdeal.τ).loc Cert.AdamCIdeal.main_arg1)
      ∧ m' ((c.tc : Thread Cert.AdamCReferenceIdeal.nD Cert.AdamCReferenceIdeal.τ).loc Cert.AdamCReferenceIdeal.main_arg2) = m ((c.tc : Thread Cert.AdamCIdeal.nD Cert.AdamCIdeal.τ).loc Cert.AdamCIdeal.main_arg2)
      ∧ m' ((c.tc : Thread Cert.AdamCReferenceIdeal.nD Cert.AdamCReferenceIdeal.τ).loc Cert.AdamCReferenceIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v2_0)) (v1 : (c : Dev Cert.AdamCIdeal.nD) → Buf (Elt Ideal) ((c.tc : Thread Cert.AdamCIdeal.nD Cert.AdamCIdeal.τ).loc Cert.AdamCIdeal.main_v2_1)) (v2 : (c : Dev Cert.AdamCIdeal.nD) → Buf (Elt Ideal) ((c.tc : Thread Cert.AdamCIdeal.nD Cert.AdamCIdeal.τ).loc Cert.AdamCIdeal.main_v2_2)) (v3 : (c : Dev Cert.AdamCIdeal.nD) → Buf (Elt Ideal) ((c.tc : Thread Cert.AdamCIdeal.nD Cert.AdamCIdeal.τ).loc Cert.AdamCIdeal.main_v2_3)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v2_0) = v0 c
          ∧ r.2.mem ((c.tc : Thread Cert.AdamCIdeal.nD Cert.AdamCIdeal.τ).loc Cert.AdamCIdeal.main_v2_1) = v1 c
          ∧ r.2.mem ((c.tc : Thread Cert.AdamCIdeal.nD Cert.AdamCIdeal.τ).loc Cert.AdamCIdeal.main_v2_2) = v2 c
          ∧ r.2.mem ((c.tc : Thread Cert.AdamCIdeal.nD Cert.AdamCIdeal.τ).loc Cert.AdamCIdeal.main_v2_3) = v3 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCReferenceIdeal.defs (F := Ideal)) (onTc (τ := Cert.AdamCReferenceIdeal.τ) (Cert.AdamCReferenceIdeal.main (F := Ideal))) ⟨m', fun _ => 0, g'⟩ (fun r => ∀ c : Dev Cert.AdamCReferenceIdeal.nD,
          r.2.mem ((c.tc : Thread Cert.AdamCReferenceIdeal.nD Cert.AdamCReferenceIdeal.τ).loc Cert.AdamCReferenceIdeal.main_v0) = v0 c
          ∧ r.2.mem ((c.tc : Thread Cert.AdamCReferenceIdeal.nD Cert.AdamCReferenceIdeal.τ).loc Cert.AdamCReferenceIdeal.main_v24) = v1 c
          ∧ r.2.mem ((c.tc : Thread Cert.AdamCReferenceIdeal.nD Cert.AdamCReferenceIdeal.τ).loc Cert.AdamCReferenceIdeal.main_v5) = v2 c
          ∧ r.2.mem ((c.tc : Thread Cert.AdamCReferenceIdeal.nD Cert.AdamCReferenceIdeal.τ).loc Cert.AdamCReferenceIdeal.main_v11) = v3 c
          ∧ r.2.mem ((c.tc : Thread Cert.AdamCReferenceIdeal.nD Cert.AdamCReferenceIdeal.τ).loc Cert.AdamCReferenceIdeal.main_arg0) = m' ((c.tc : Thread Cert.AdamCReferenceIdeal.nD Cert.AdamCReferenceIdeal.τ).loc Cert.AdamCReferenceIdeal.main_arg0)
          ∧ r.2.mem ((c.tc : Thread Cert.AdamCReferenceIdeal.nD Cert.AdamCReferenceIdeal.τ).loc Cert.AdamCReferenceIdeal.main_arg1) = m' ((c.tc : Thread Cert.AdamCReferenceIdeal.nD Cert.AdamCReferenceIdeal.τ).loc Cert.AdamCReferenceIdeal.main_arg1)
          ∧ r.2.mem ((c.tc : Thread Cert.AdamCReferenceIdeal.nD Cert.AdamCReferenceIdeal.τ).loc Cert.AdamCReferenceIdeal.main_arg2) = m' ((c.tc : Thread Cert.AdamCReferenceIdeal.nD Cert.AdamCReferenceIdeal.τ).loc Cert.AdamCReferenceIdeal.main_arg2)
          ∧ r.2.mem ((c.tc : Thread Cert.AdamCReferenceIdeal.nD Cert.AdamCReferenceIdeal.τ).loc Cert.AdamCReferenceIdeal.main_arg3) = m' ((c.tc : Thread Cert.AdamCReferenceIdeal.nD Cert.AdamCReferenceIdeal.τ).loc Cert.AdamCReferenceIdeal.main_arg3))

def preserves_AdamV_AdamVIdeal : Prop :=
  True

def algebraic_AdamVIdeal_AdamVReferenceIdeal [hAdamVIdeal : Cert.AdamVIdeal.Facts] [hAdamVReferenceIdeal : Cert.AdamVReferenceIdeal.Facts] : Prop :=
  ∀ (m : (ℓ : Loc Cert.AdamVIdeal.nD Cert.AdamVIdeal.τ Cert.AdamVIdeal.sig) → Buf (Elt Ideal) ℓ) (g : Dev Cert.AdamVIdeal.nD → PrngReg)
    (m' : (ℓ : Loc Cert.AdamVReferenceIdeal.nD Cert.AdamVReferenceIdeal.τ Cert.AdamVReferenceIdeal.sig) → Buf (Elt Ideal) ℓ) (g' : Dev Cert.AdamVReferenceIdeal.nD → PrngReg), Pre_AdamVIdeal m →
    (∀ c : Dev Cert.AdamVIdeal.nD,
      m' ((c.tc : Thread Cert.AdamVReferenceIdeal.nD Cert.AdamVReferenceIdeal.τ).loc Cert.AdamVReferenceIdeal.main_arg0) = m ((c.tc : Thread Cert.AdamVIdeal.nD Cert.AdamVIdeal.τ).loc Cert.AdamVIdeal.main_arg0)
      ∧ m' ((c.tc : Thread Cert.AdamVReferenceIdeal.nD Cert.AdamVReferenceIdeal.τ).loc Cert.AdamVReferenceIdeal.main_arg1) = m ((c.tc : Thread Cert.AdamVIdeal.nD Cert.AdamVIdeal.τ).loc Cert.AdamVIdeal.main_arg1)
      ∧ m' ((c.tc : Thread Cert.AdamVReferenceIdeal.nD Cert.AdamVReferenceIdeal.τ).loc Cert.AdamVReferenceIdeal.main_arg2) = m ((c.tc : Thread Cert.AdamVIdeal.nD Cert.AdamVIdeal.τ).loc Cert.AdamVIdeal.main_arg2)
      ∧ m' ((c.tc : Thread Cert.AdamVReferenceIdeal.nD Cert.AdamVReferenceIdeal.τ).loc Cert.AdamVReferenceIdeal.main_arg3) = m ((c.tc : Thread Cert.AdamVIdeal.nD Cert.AdamVIdeal.τ).loc Cert.AdamVIdeal.main_arg3)) →
    ∃ (v0 : (c : Dev Cert.AdamVIdeal.nD) → Buf (Elt Ideal) ((c.tc : Thread Cert.AdamVIdeal.nD Cert.AdamVIdeal.τ).loc Cert.AdamVIdeal.main_v1_0)) (v1 : (c : Dev Cert.AdamVIdeal.nD) → Buf (Elt Ideal) ((c.tc : Thread Cert.AdamVIdeal.nD Cert.AdamVIdeal.τ).loc Cert.AdamVIdeal.main_v1_1)) (v2 : (c : Dev Cert.AdamVIdeal.nD) → Buf (Elt Ideal) ((c.tc : Thread Cert.AdamVIdeal.nD Cert.AdamVIdeal.τ).loc Cert.AdamVIdeal.main_v1_2)) (v3 : (c : Dev Cert.AdamVIdeal.nD) → Buf (Elt Ideal) ((c.tc : Thread Cert.AdamVIdeal.nD Cert.AdamVIdeal.τ).loc Cert.AdamVIdeal.main_v1_3)),
      θ_run (Cert.AdamVIdeal.defs (F := Ideal)) (onTc (τ := Cert.AdamVIdeal.τ) (Cert.AdamVIdeal.main (F := Ideal))) ⟨m, fun _ => 0, g⟩ (fun r => ∀ c : Dev Cert.AdamVIdeal.nD,
          r.2.mem ((c.tc : Thread Cert.AdamVIdeal.nD Cert.AdamVIdeal.τ).loc Cert.AdamVIdeal.main_v1_0) = v0 c
          ∧ r.2.mem ((c.tc : Thread Cert.AdamVIdeal.nD Cert.AdamVIdeal.τ).loc Cert.AdamVIdeal.main_v1_1) = v1 c
          ∧ r.2.mem ((c.tc : Thread Cert.AdamVIdeal.nD Cert.AdamVIdeal.τ).loc Cert.AdamVIdeal.main_v1_2) = v2 c
          ∧ r.2.mem ((c.tc : Thread Cert.AdamVIdeal.nD Cert.AdamVIdeal.τ).loc Cert.AdamVIdeal.main_v1_3) = v3 c
          ∧ r.2.mem ((c.tc : Thread Cert.AdamVIdeal.nD Cert.AdamVIdeal.τ).loc Cert.AdamVIdeal.main_arg0) = m ((c.tc : Thread Cert.AdamVIdeal.nD Cert.AdamVIdeal.τ).loc Cert.AdamVIdeal.main_arg0)
          ∧ r.2.mem ((c.tc : Thread Cert.AdamVIdeal.nD Cert.AdamVIdeal.τ).loc Cert.AdamVIdeal.main_arg1) = m ((c.tc : Thread Cert.AdamVIdeal.nD Cert.AdamVIdeal.τ).loc Cert.AdamVIdeal.main_arg1)
          ∧ r.2.mem ((c.tc : Thread Cert.AdamVIdeal.nD Cert.AdamVIdeal.τ).loc Cert.AdamVIdeal.main_arg2) = m ((c.tc : Thread Cert.AdamVIdeal.nD Cert.AdamVIdeal.τ).loc Cert.AdamVIdeal.main_arg2)
          ∧ r.2.mem ((c.tc : Thread Cert.AdamVIdeal.nD Cert.AdamVIdeal.τ).loc Cert.AdamVIdeal.main_arg3) = m ((c.tc : Thread Cert.AdamVIdeal.nD Cert.AdamVIdeal.τ).loc Cert.AdamVIdeal.main_arg3))
      ∧ θ_run (Cert.AdamVReferenceIdeal.defs (F := Ideal)) (onTc (τ := Cert.AdamVReferenceIdeal.τ) (Cert.AdamVReferenceIdeal.main (F := Ideal))) ⟨m', fun _ => 0, g'⟩ (fun r => ∀ c : Dev Cert.AdamVReferenceIdeal.nD,
          r.2.mem ((c.tc : Thread Cert.AdamVReferenceIdeal.nD Cert.AdamVReferenceIdeal.τ).loc Cert.AdamVReferenceIdeal.main_v0) = v0 c
          ∧ r.2.mem ((c.tc : Thread Cert.AdamVReferenceIdeal.nD Cert.AdamVReferenceIdeal.τ).loc Cert.AdamVReferenceIdeal.main_v24) = v1 c
          ∧ r.2.mem ((c.tc : Thread Cert.AdamVReferenceIdeal.nD Cert.AdamVReferenceIdeal.τ).loc Cert.AdamVReferenceIdeal.main_v5) = v2 c
          ∧ r.2.mem ((c.tc : Thread Cert.AdamVReferenceIdeal.nD Cert.AdamVReferenceIdeal.τ).loc Cert.AdamVReferenceIdeal.main_v11) = v3 c
          ∧ r.2.mem ((c.tc : Thread Cert.AdamVReferenceIdeal.nD Cert.AdamVReferenceIdeal.τ).loc Cert.AdamVReferenceIdeal.main_arg0) = m' ((c.tc : Thread Cert.AdamVReferenceIdeal.nD Cert.AdamVReferenceIdeal.τ).loc Cert.AdamVReferenceIdeal.main_arg0)
          ∧ r.2.mem ((c.tc : Thread Cert.AdamVReferenceIdeal.nD Cert.AdamVReferenceIdeal.τ).loc Cert.AdamVReferenceIdeal.main_arg1) = m' ((c.tc : Thread Cert.AdamVReferenceIdeal.nD Cert.AdamVReferenceIdeal.τ).loc Cert.AdamVReferenceIdeal.main_arg1)
          ∧ r.2.mem ((c.tc : Thread Cert.AdamVReferenceIdeal.nD Cert.AdamVReferenceIdeal.τ).loc Cert.AdamVReferenceIdeal.main_arg2) = m' ((c.tc : Thread Cert.AdamVReferenceIdeal.nD Cert.AdamVReferenceIdeal.τ).loc Cert.AdamVReferenceIdeal.main_arg2)
          ∧ r.2.mem ((c.tc : Thread Cert.AdamVReferenceIdeal.nD Cert.AdamVReferenceIdeal.τ).loc Cert.AdamVReferenceIdeal.main_arg3) = m' ((c.tc : Thread Cert.AdamVReferenceIdeal.nD Cert.AdamVReferenceIdeal.τ).loc Cert.AdamVReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v1_0)) (v1 : (c : Dev Cert.AdamSmallIdeal.nD) → Buf (Elt Ideal) ((c.tc : Thread Cert.AdamSmallIdeal.nD Cert.AdamSmallIdeal.τ).loc Cert.AdamSmallIdeal.main_v1_1)) (v2 : (c : Dev Cert.AdamSmallIdeal.nD) → Buf (Elt Ideal) ((c.tc : Thread Cert.AdamSmallIdeal.nD Cert.AdamSmallIdeal.τ).loc Cert.AdamSmallIdeal.main_v1_2)) (v3 : (c : Dev Cert.AdamSmallIdeal.nD) → Buf (Elt Ideal) ((c.tc : Thread Cert.AdamSmallIdeal.nD Cert.AdamSmallIdeal.τ).loc Cert.AdamSmallIdeal.main_v1_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v1_0) = v0 c
          ∧ r.2.mem ((c.tc : Thread Cert.AdamSmallIdeal.nD Cert.AdamSmallIdeal.τ).loc Cert.AdamSmallIdeal.main_v1_1) = v1 c
          ∧ r.2.mem ((c.tc : Thread Cert.AdamSmallIdeal.nD Cert.AdamSmallIdeal.τ).loc Cert.AdamSmallIdeal.main_v1_2) = v2 c
          ∧ r.2.mem ((c.tc : Thread Cert.AdamSmallIdeal.nD Cert.AdamSmallIdeal.τ).loc Cert.AdamSmallIdeal.main_v1_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_RopeFwd_RopeFwdIdeal : Prop :=
  True

def algebraic_RopeFwdIdeal_RopeFwdReferenceIdeal [hRopeFwdIdeal : Cert.RopeFwdIdeal.Facts] [hRopeFwdReferenceIdeal : Cert.RopeFwdReferenceIdeal.Facts] : Prop :=
  ∀ (m : (ℓ : Loc Cert.RopeFwdIdeal.nD Cert.RopeFwdIdeal.τ Cert.RopeFwdIdeal.sig) → Buf (Elt Ideal) ℓ) (g : Dev Cert.RopeFwdIdeal.nD → PrngReg)
    (m' : (ℓ : Loc Cert.RopeFwdReferenceIdeal.nD Cert.RopeFwdReferenceIdeal.τ Cert.RopeFwdReferenceIdeal.sig) → Buf (Elt Ideal) ℓ) (g' : Dev Cert.RopeFwdReferenceIdeal.nD → PrngReg), Pre_RopeFwdIdeal m →
    (∀ c : Dev Cert.RopeFwdIdeal.nD,
      m' ((c.tc : Thread Cert.RopeFwdReferenceIdeal.nD Cert.RopeFwdReferenceIdeal.τ).loc Cert.RopeFwdReferenceIdeal.main_arg0) = m ((c.tc : Thread Cert.RopeFwdIdeal.nD Cert.RopeFwdIdeal.τ).loc Cert.RopeFwdIdeal.main_arg0)
      ∧ m' ((c.tc : Thread Cert.RopeFwdReferenceIdeal.nD Cert.RopeFwdReferenceIdeal.τ).loc Cert.RopeFwdReferenceIdeal.main_arg1) = m ((c.tc : Thread Cert.RopeFwdIdeal.nD Cert.RopeFwdIdeal.τ).loc Cert.RopeFwdIdeal.main_arg1)
      ∧ m' ((c.tc : Thread Cert.RopeFwdReferenceIdeal.nD Cert.RopeFwdReferenceIdeal.τ).loc Cert.RopeFwdReferenceIdeal.main_arg2) = m ((c.tc : Thread Cert.RopeFwdIdeal.nD Cert.RopeFwdIdeal.τ).loc Cert.RopeFwdIdeal.main_arg2)) →
    ∃ (v0 : (c : Dev Cert.RopeFwdIdeal.nD) → Buf (Elt Ideal) ((c.tc : Thread Cert.RopeFwdIdeal.nD Cert.RopeFwdIdeal.τ).loc Cert.RopeFwdIdeal.main_v1)),
      θ_run (Cert.RopeFwdIdeal.defs (F := Ideal)) (onTc (τ := Cert.RopeFwdIdeal.τ) (Cert.RopeFwdIdeal.main (F := Ideal))) ⟨m, fun _ => 0, g⟩ (fun r => ∀ c : Dev Cert.RopeFwdIdeal.nD,
          r.2.mem ((c.tc : Thread Cert.RopeFwdIdeal.nD Cert.RopeFwdIdeal.τ).loc Cert.RopeFwdIdeal.main_v1) = v0 c
          ∧ r.2.mem ((c.tc : Thread Cert.RopeFwdIdeal.nD Cert.RopeFwdIdeal.τ).loc Cert.RopeFwdIdeal.main_arg0) = m ((c.tc : Thread Cert.RopeFwdIdeal.nD Cert.RopeFwdIdeal.τ).loc Cert.RopeFwdIdeal.main_arg0)
          ∧ r.2.mem ((c.tc : Thread Cert.RopeFwdIdeal.nD Cert.RopeFwdIdeal.τ).loc Cert.RopeFwdIdeal.main_arg1) = m ((c.tc : Thread Cert.RopeFwdIdeal.nD Cert.RopeFwdIdeal.τ).loc Cert.RopeFwdIdeal.main_arg1)
          ∧ r.2.mem ((c.tc : Thread Cert.RopeFwdIdeal.nD Cert.RopeFwdIdeal.τ).loc Cert.RopeFwdIdeal.main_arg2) = m ((c.tc : Thread Cert.RopeFwdIdeal.nD Cert.RopeFwdIdeal.τ).loc Cert.RopeFwdIdeal.main_arg2))
      ∧ θ_run (Cert.RopeFwdReferenceIdeal.defs (F := Ideal)) (onTc (τ := Cert.RopeFwdReferenceIdeal.τ) (Cert.RopeFwdReferenceIdeal.main (F := Ideal))) ⟨m', fun _ => 0, g'⟩ (fun r => ∀ c : Dev Cert.RopeFwdReferenceIdeal.nD,
          r.2.mem ((c.tc : Thread Cert.RopeFwdReferenceIdeal.nD Cert.RopeFwdReferenceIdeal.τ).loc Cert.RopeFwdReferenceIdeal.main_v12) = v0 c
          ∧ r.2.mem ((c.tc : Thread Cert.RopeFwdReferenceIdeal.nD Cert.RopeFwdReferenceIdeal.τ).loc Cert.RopeFwdReferenceIdeal.main_arg0) = m' ((c.tc : Thread Cert.RopeFwdReferenceIdeal.nD Cert.RopeFwdReferenceIdeal.τ).loc Cert.RopeFwdReferenceIdeal.main_arg0)
          ∧ r.2.mem ((c.tc : Thread Cert.RopeFwdReferenceIdeal.nD Cert.RopeFwdReferenceIdeal.τ).loc Cert.RopeFwdReferenceIdeal.main_arg1) = m' ((c.tc : Thread Cert.RopeFwdReferenceIdeal.nD Cert.RopeFwdReferenceIdeal.τ).loc Cert.RopeFwdReferenceIdeal.main_arg1)
          ∧ r.2.mem ((c.tc : Thread Cert.RopeFwdReferenceIdeal.nD Cert.RopeFwdReferenceIdeal.τ).loc Cert.RopeFwdReferenceIdeal.main_arg2) = m' ((c.tc : Thread Cert.RopeFwdReferenceIdeal.nD Cert.RopeFwdReferenceIdeal.τ).loc Cert.RopeFwdReferenceIdeal.main_arg2))

def preserves_RopeBwd_RopeBwdIdeal : Prop :=
  True

def algebraic_RopeBwdIdeal_RopeBwdReferenceIdeal [hRopeBwdIdeal : Cert.RopeBwdIdeal.Facts] [hRopeBwdReferenceIdeal : Cert.RopeBwdReferenceIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdReferenceIdeal.nD Cert.RopeBwdReferenceIdeal.τ Cert.RopeBwdReferenceIdeal.sig) → Buf (Elt Ideal) ℓ) (g' : Dev Cert.RopeBwdReferenceIdeal.nD → PrngReg), Pre_RopeBwdIdeal m →
    (∀ c : Dev Cert.RopeBwdIdeal.nD,
      m' ((c.tc : Thread Cert.RopeBwdReferenceIdeal.nD Cert.RopeBwdReferenceIdeal.τ).loc Cert.RopeBwdReferenceIdeal.main_arg0) = m ((c.tc : Thread Cert.RopeBwdIdeal.nD Cert.RopeBwdIdeal.τ).loc Cert.RopeBwdIdeal.main_arg0)
      ∧ m' ((c.tc : Thread Cert.RopeBwdReferenceIdeal.nD Cert.RopeBwdReferenceIdeal.τ).loc Cert.RopeBwdReferenceIdeal.main_arg1) = m ((c.tc : Thread Cert.RopeBwdIdeal.nD Cert.RopeBwdIdeal.τ).loc Cert.RopeBwdIdeal.main_arg1)
      ∧ m' ((c.tc : Thread Cert.RopeBwdReferenceIdeal.nD Cert.RopeBwdReferenceIdeal.τ).loc Cert.RopeBwdReferenceIdeal.main_arg2) = m ((c.tc : Thread Cert.RopeBwdIdeal.nD Cert.RopeBwdIdeal.τ).loc Cert.RopeBwdIdeal.main_arg2)
      ∧ m' ((c.tc : Thread Cert.RopeBwdReferenceIdeal.nD Cert.RopeBwdReferenceIdeal.τ).loc Cert.RopeBwdReferenceIdeal.main_arg3) = m ((c.tc : Thread Cert.RopeBwdIdeal.nD Cert.RopeBwdIdeal.τ).loc Cert.RopeBwdIdeal.main_arg3)
      ∧ m' ((c.tc : Thread Cert.RopeBwdReferenceIdeal.nD Cert.RopeBwdReferenceIdeal.τ).loc Cert.RopeBwdReferenceIdeal.main_arg4) = m ((c.tc : Thread Cert.RopeBwdIdeal.nD Cert.RopeBwdIdeal.τ).loc Cert.RopeBwdIdeal.main_arg4)) →
    ∃ (v0 : (c : Dev Cert.RopeBwdIdeal.nD) → Buf (Elt Ideal) ((c.tc : Thread Cert.RopeBwdIdeal.nD Cert.RopeBwdIdeal.τ).loc Cert.RopeBwdIdeal.main_v0_0)) (v1 : (c : Dev Cert.RopeBwdIdeal.nD) → Buf (Elt Ideal) ((c.tc : Thread Cert.RopeBwdIdeal.nD Cert.RopeBwdIdeal.τ).loc Cert.RopeBwdIdeal.main_v0_1)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v0_0) = v0 c
          ∧ r.2.mem ((c.tc : Thread Cert.RopeBwdIdeal.nD Cert.RopeBwdIdeal.τ).loc Cert.RopeBwdIdeal.main_v0_1) = v1 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3)
          ∧ r.2.mem ((c.tc : Thread Cert.RopeBwdIdeal.nD Cert.RopeBwdIdeal.τ).loc Cert.RopeBwdIdeal.main_arg4) = m ((c.tc : Thread Cert.RopeBwdIdeal.nD Cert.RopeBwdIdeal.τ).loc Cert.RopeBwdIdeal.main_arg4))
      ∧ θ_run (Cert.RopeBwdReferenceIdeal.defs (F := Ideal)) (onTc (τ := Cert.RopeBwdReferenceIdeal.τ) (Cert.RopeBwdReferenceIdeal.main (F := Ideal))) ⟨m', fun _ => 0, g'⟩ (fun r => ∀ c : Dev Cert.RopeBwdReferenceIdeal.nD,
          r.2.mem ((c.tc : Thread Cert.RopeBwdReferenceIdeal.nD Cert.RopeBwdReferenceIdeal.τ).loc Cert.RopeBwdReferenceIdeal.main_v17) = v0 c
          ∧ r.2.mem ((c.tc : Thread Cert.RopeBwdReferenceIdeal.nD Cert.RopeBwdReferenceIdeal.τ).loc Cert.RopeBwdReferenceIdeal.main_v18) = v1 c
          ∧ r.2.mem ((c.tc : Thread Cert.RopeBwdReferenceIdeal.nD Cert.RopeBwdReferenceIdeal.τ).loc Cert.RopeBwdReferenceIdeal.main_arg0) = m' ((c.tc : Thread Cert.RopeBwdReferenceIdeal.nD Cert.RopeBwdReferenceIdeal.τ).loc Cert.RopeBwdReferenceIdeal.main_arg0)
          ∧ r.2.mem ((c.tc : Thread Cert.RopeBwdReferenceIdeal.nD Cert.RopeBwdReferenceIdeal.τ).loc Cert.RopeBwdReferenceIdeal.main_arg1) = m' ((c.tc : Thread Cert.RopeBwdReferenceIdeal.nD Cert.RopeBwdReferenceIdeal.τ).loc Cert.RopeBwdReferenceIdeal.main_arg1)
          ∧ r.2.mem ((c.tc : Thread Cert.RopeBwdReferenceIdeal.nD Cert.RopeBwdReferenceIdeal.τ).loc Cert.RopeBwdReferenceIdeal.main_arg2) = m' ((c.tc : Thread Cert.RopeBwdReferenceIdeal.nD Cert.RopeBwdReferenceIdeal.τ).loc Cert.RopeBwdReferenceIdeal.main_arg2)
          ∧ r.2.mem ((c.tc : Thread Cert.RopeBwdReferenceIdeal.nD Cert.RopeBwdReferenceIdeal.τ).loc Cert.RopeBwdReferenceIdeal.main_arg3) = m' ((c.tc : Thread Cert.RopeBwdReferenceIdeal.nD Cert.RopeBwdReferenceIdeal.τ).loc Cert.RopeBwdReferenceIdeal.main_arg3)
          ∧ r.2.mem ((c.tc : Thread Cert.RopeBwdReferenceIdeal.nD Cert.RopeBwdReferenceIdeal.τ).loc Cert.RopeBwdReferenceIdeal.main_arg4) = m' ((c.tc : Thread Cert.RopeBwdReferenceIdeal.nD Cert.RopeBwdReferenceIdeal.τ).loc Cert.RopeBwdReferenceIdeal.main_arg4))

def preserves_PrepFwd_PrepFwdIdeal : Prop :=
  True

def algebraic_PrepFwdIdeal_PrepFwdReferenceIdeal [hPrepFwdIdeal : Cert.PrepFwdIdeal.Facts] [hPrepFwdReferenceIdeal : Cert.PrepFwdReferenceIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdReferenceIdeal.nD Cert.PrepFwdReferenceIdeal.τ Cert.PrepFwdReferenceIdeal.sig) → Buf (Elt Ideal) ℓ) (g' : Dev Cert.PrepFwdReferenceIdeal.nD → PrngReg), Pre_PrepFwdIdeal m →
    (∀ c : Dev Cert.PrepFwdIdeal.nD,
      m' ((c.tc : Thread Cert.PrepFwdReferenceIdeal.nD Cert.PrepFwdReferenceIdeal.τ).loc Cert.PrepFwdReferenceIdeal.main_arg0) = m ((c.tc : Thread Cert.PrepFwdIdeal.nD Cert.PrepFwdIdeal.τ).loc Cert.PrepFwdIdeal.main_arg0)
      ∧ m' ((c.tc : Thread Cert.PrepFwdReferenceIdeal.nD Cert.PrepFwdReferenceIdeal.τ).loc Cert.PrepFwdReferenceIdeal.main_arg1) = m ((c.tc : Thread Cert.PrepFwdIdeal.nD Cert.PrepFwdIdeal.τ).loc Cert.PrepFwdIdeal.main_arg1)
      ∧ m' ((c.tc : Thread Cert.PrepFwdReferenceIdeal.nD Cert.PrepFwdReferenceIdeal.τ).loc Cert.PrepFwdReferenceIdeal.main_arg2) = m ((c.tc : Thread Cert.PrepFwdIdeal.nD Cert.PrepFwdIdeal.τ).loc Cert.PrepFwdIdeal.main_arg2)
      ∧ m' ((c.tc : Thread Cert.PrepFwdReferenceIdeal.nD Cert.PrepFwdReferenceIdeal.τ).loc Cert.PrepFwdReferenceIdeal.main_arg3) = m ((c.tc : Thread Cert.PrepFwdIdeal.nD Cert.PrepFwdIdeal.τ).loc Cert.PrepFwdIdeal.main_arg3)
      ∧ m' ((c.tc : Thread Cert.PrepFwdReferenceIdeal.nD Cert.PrepFwdReferenceIdeal.τ).loc Cert.PrepFwdReferenceIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v3_0)) (v1 : (c : Dev Cert.PrepFwdIdeal.nD) → Buf (Elt Ideal) ((c.tc : Thread Cert.PrepFwdIdeal.nD Cert.PrepFwdIdeal.τ).loc Cert.PrepFwdIdeal.main_v3_1)) (v2 : (c : Dev Cert.PrepFwdIdeal.nD) → Buf (Elt Ideal) ((c.tc : Thread Cert.PrepFwdIdeal.nD Cert.PrepFwdIdeal.τ).loc Cert.PrepFwdIdeal.main_v3_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v3_0) = v0 c
          ∧ r.2.mem ((c.tc : Thread Cert.PrepFwdIdeal.nD Cert.PrepFwdIdeal.τ).loc Cert.PrepFwdIdeal.main_v3_1) = v1 c
          ∧ r.2.mem ((c.tc : Thread Cert.PrepFwdIdeal.nD Cert.PrepFwdIdeal.τ).loc Cert.PrepFwdIdeal.main_v3_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdReferenceIdeal.defs (F := Ideal)) (onTc (τ := Cert.PrepFwdReferenceIdeal.τ) (Cert.PrepFwdReferenceIdeal.main (F := Ideal))) ⟨m', fun _ => 0, g'⟩ (fun r => ∀ c : Dev Cert.PrepFwdReferenceIdeal.nD,
          r.2.mem ((c.tc : Thread Cert.PrepFwdReferenceIdeal.nD Cert.PrepFwdReferenceIdeal.τ).loc Cert.PrepFwdReferenceIdeal.main_v26) = v0 c
          ∧ r.2.mem ((c.tc : Thread Cert.PrepFwdReferenceIdeal.nD Cert.PrepFwdReferenceIdeal.τ).loc Cert.PrepFwdReferenceIdeal.main_v40) = v1 c
          ∧ r.2.mem ((c.tc : Thread Cert.PrepFwdReferenceIdeal.nD Cert.PrepFwdReferenceIdeal.τ).loc Cert.PrepFwdReferenceIdeal.main_v42) = v2 c
          ∧ r.2.mem ((c.tc : Thread Cert.PrepFwdReferenceIdeal.nD Cert.PrepFwdReferenceIdeal.τ).loc Cert.PrepFwdReferenceIdeal.main_arg0) = m' ((c.tc : Thread Cert.PrepFwdReferenceIdeal.nD Cert.PrepFwdReferenceIdeal.τ).loc Cert.PrepFwdReferenceIdeal.main_arg0)
          ∧ r.2.mem ((c.tc : Thread Cert.PrepFwdReferenceIdeal.nD Cert.PrepFwdReferenceIdeal.τ).loc Cert.PrepFwdReferenceIdeal.main_arg1) = m' ((c.tc : Thread Cert.PrepFwdReferenceIdeal.nD Cert.PrepFwdReferenceIdeal.τ).loc Cert.PrepFwdReferenceIdeal.main_arg1)
          ∧ r.2.mem ((c.tc : Thread Cert.PrepFwdReferenceIdeal.nD Cert.PrepFwdReferenceIdeal.τ).loc Cert.PrepFwdReferenceIdeal.main_arg2) = m' ((c.tc : Thread Cert.PrepFwdReferenceIdeal.nD Cert.PrepFwdReferenceIdeal.τ).loc Cert.PrepFwdReferenceIdeal.main_arg2)
          ∧ r.2.mem ((c.tc : Thread Cert.PrepFwdReferenceIdeal.nD Cert.PrepFwdReferenceIdeal.τ).loc Cert.PrepFwdReferenceIdeal.main_arg3) = m' ((c.tc : Thread Cert.PrepFwdReferenceIdeal.nD Cert.PrepFwdReferenceIdeal.τ).loc Cert.PrepFwdReferenceIdeal.main_arg3)
          ∧ r.2.mem ((c.tc : Thread Cert.PrepFwdReferenceIdeal.nD Cert.PrepFwdReferenceIdeal.τ).loc Cert.PrepFwdReferenceIdeal.main_arg4) = m' ((c.tc : Thread Cert.PrepFwdReferenceIdeal.nD Cert.PrepFwdReferenceIdeal.τ).loc Cert.PrepFwdReferenceIdeal.main_arg4))

def preserves_GdnOutFwd_GdnOutFwdIdeal : Prop :=
  True

def algebraic_GdnOutFwdIdeal_GdnOutFwdReferenceIdeal [hGdnOutFwdIdeal : Cert.GdnOutFwdIdeal.Facts] [hGdnOutFwdReferenceIdeal : Cert.GdnOutFwdReferenceIdeal.Facts] : Prop :=
  ∀ (m : (ℓ : Loc Cert.GdnOutFwdIdeal.nD Cert.GdnOutFwdIdeal.τ Cert.GdnOutFwdIdeal.sig) → Buf (Elt Ideal) ℓ) (g : Dev Cert.GdnOutFwdIdeal.nD → PrngReg)
    (m' : (ℓ : Loc Cert.GdnOutFwdReferenceIdeal.nD Cert.GdnOutFwdReferenceIdeal.τ Cert.GdnOutFwdReferenceIdeal.sig) → Buf (Elt Ideal) ℓ) (g' : Dev Cert.GdnOutFwdReferenceIdeal.nD → PrngReg), Pre_GdnOutFwdIdeal m →
    (∀ c : Dev Cert.GdnOutFwdIdeal.nD,
      m' ((c.tc : Thread Cert.GdnOutFwdReferenceIdeal.nD Cert.GdnOutFwdReferenceIdeal.τ).loc Cert.GdnOutFwdReferenceIdeal.main_arg0) = m ((c.tc : Thread Cert.GdnOutFwdIdeal.nD Cert.GdnOutFwdIdeal.τ).loc Cert.GdnOutFwdIdeal.main_arg0)
      ∧ m' ((c.tc : Thread Cert.GdnOutFwdReferenceIdeal.nD Cert.GdnOutFwdReferenceIdeal.τ).loc Cert.GdnOutFwdReferenceIdeal.main_arg1) = m ((c.tc : Thread Cert.GdnOutFwdIdeal.nD Cert.GdnOutFwdIdeal.τ).loc Cert.GdnOutFwdIdeal.main_arg1)
      ∧ m' ((c.tc : Thread Cert.GdnOutFwdReferenceIdeal.nD Cert.GdnOutFwdReferenceIdeal.τ).loc Cert.GdnOutFwdReferenceIdeal.main_arg2) = m ((c.tc : Thread Cert.GdnOutFwdIdeal.nD Cert.GdnOutFwdIdeal.τ).loc Cert.GdnOutFwdIdeal.main_arg2)) →
    ∃ (v0 : (c : Dev Cert.GdnOutFwdIdeal.nD) → Buf (Elt Ideal) ((c.tc : Thread Cert.GdnOutFwdIdeal.nD Cert.GdnOutFwdIdeal.τ).loc Cert.GdnOutFwdIdeal.main_v2)),
      θ_run (Cert.GdnOutFwdIdeal.defs (F := Ideal)) (onTc (τ := Cert.GdnOutFwdIdeal.τ) (Cert.GdnOutFwdIdeal.main (F := Ideal))) ⟨m, fun _ => 0, g⟩ (fun r => ∀ c : Dev Cert.GdnOutFwdIdeal.nD,
          r.2.mem ((c.tc : Thread Cert.GdnOutFwdIdeal.nD Cert.GdnOutFwdIdeal.τ).loc Cert.GdnOutFwdIdeal.main_v2) = v0 c
          ∧ r.2.mem ((c.tc : Thread Cert.GdnOutFwdIdeal.nD Cert.GdnOutFwdIdeal.τ).loc Cert.GdnOutFwdIdeal.main_arg0) = m ((c.tc : Thread Cert.GdnOutFwdIdeal.nD Cert.GdnOutFwdIdeal.τ).loc Cert.GdnOutFwdIdeal.main_arg0)
          ∧ r.2.mem ((c.tc : Thread Cert.GdnOutFwdIdeal.nD Cert.GdnOutFwdIdeal.τ).loc Cert.GdnOutFwdIdeal.main_arg1) = m ((c.tc : Thread Cert.GdnOutFwdIdeal.nD Cert.GdnOutFwdIdeal.τ).loc Cert.GdnOutFwdIdeal.main_arg1)
          ∧ r.2.mem ((c.tc : Thread Cert.GdnOutFwdIdeal.nD Cert.GdnOutFwdIdeal.τ).loc Cert.GdnOutFwdIdeal.main_arg2) = m ((c.tc : Thread Cert.GdnOutFwdIdeal.nD Cert.GdnOutFwdIdeal.τ).loc Cert.GdnOutFwdIdeal.main_arg2))
      ∧ θ_run (Cert.GdnOutFwdReferenceIdeal.defs (F := Ideal)) (onTc (τ := Cert.GdnOutFwdReferenceIdeal.τ) (Cert.GdnOutFwdReferenceIdeal.main (F := Ideal))) ⟨m', fun _ => 0, g'⟩ (fun r => ∀ c : Dev Cert.GdnOutFwdReferenceIdeal.nD,
          r.2.mem ((c.tc : Thread Cert.GdnOutFwdReferenceIdeal.nD Cert.GdnOutFwdReferenceIdeal.τ).loc Cert.GdnOutFwdReferenceIdeal.main_v18) = v0 c
          ∧ r.2.mem ((c.tc : Thread Cert.GdnOutFwdReferenceIdeal.nD Cert.GdnOutFwdReferenceIdeal.τ).loc Cert.GdnOutFwdReferenceIdeal.main_arg0) = m' ((c.tc : Thread Cert.GdnOutFwdReferenceIdeal.nD Cert.GdnOutFwdReferenceIdeal.τ).loc Cert.GdnOutFwdReferenceIdeal.main_arg0)
          ∧ r.2.mem ((c.tc : Thread Cert.GdnOutFwdReferenceIdeal.nD Cert.GdnOutFwdReferenceIdeal.τ).loc Cert.GdnOutFwdReferenceIdeal.main_arg1) = m' ((c.tc : Thread Cert.GdnOutFwdReferenceIdeal.nD Cert.GdnOutFwdReferenceIdeal.τ).loc Cert.GdnOutFwdReferenceIdeal.main_arg1)
          ∧ r.2.mem ((c.tc : Thread Cert.GdnOutFwdReferenceIdeal.nD Cert.GdnOutFwdReferenceIdeal.τ).loc Cert.GdnOutFwdReferenceIdeal.main_arg2) = m' ((c.tc : Thread Cert.GdnOutFwdReferenceIdeal.nD Cert.GdnOutFwdReferenceIdeal.τ).loc Cert.GdnOutFwdReferenceIdeal.main_arg2))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v36) = v0 c
          ∧ r.2.mem ((c.tc : Thread Cert.NormBwdReferenceIdeal.nD Cert.NormBwdReferenceIdeal.τ).loc Cert.NormBwdReferenceIdeal.main_v37) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def Claim : Prop :=
  ∃ (hKernel : Cert.Kernel.Facts) (hKernelIdeal : Cert.KernelIdeal.Facts) (hReferenceIdeal : Cert.ReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hUpDxAdd : Cert.UpDxAdd.Facts) (hUpDxAddIdeal : Cert.UpDxAddIdeal.Facts) (hUpDxAddReferenceIdeal : Cert.UpDxAddReferenceIdeal.Facts) (hDownDw : Cert.DownDw.Facts) (hDownDwIdeal : Cert.DownDwIdeal.Facts) (hDownDwReferenceIdeal : Cert.DownDwReferenceIdeal.Facts) (hDownDx : Cert.DownDx.Facts) (hDownDxIdeal : Cert.DownDxIdeal.Facts) (hDownDxReferenceIdeal : Cert.DownDxReferenceIdeal.Facts) (hQkvDw : Cert.QkvDw.Facts) (hQkvDwIdeal : Cert.QkvDwIdeal.Facts) (hQkvDwReferenceIdeal : Cert.QkvDwReferenceIdeal.Facts) (hQkvDx : Cert.QkvDx.Facts) (hQkvDxIdeal : Cert.QkvDxIdeal.Facts) (hQkvDxReferenceIdeal : Cert.QkvDxReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hQkvFwd : Cert.QkvFwd.Facts) (hQkvFwdIdeal : Cert.QkvFwdIdeal.Facts) (hQkvFwdReferenceIdeal : Cert.QkvFwdReferenceIdeal.Facts) (hGbrFwd : Cert.GbrFwd.Facts) (hGbrFwdIdeal : Cert.GbrFwdIdeal.Facts) (hGbrFwdReferenceIdeal : Cert.GbrFwdReferenceIdeal.Facts) (hGbrDw : Cert.GbrDw.Facts) (hGbrDwIdeal : Cert.GbrDwIdeal.Facts) (hGbrDwReferenceIdeal : Cert.GbrDwReferenceIdeal.Facts) (hGbrDx : Cert.GbrDx.Facts) (hGbrDxIdeal : Cert.GbrDxIdeal.Facts) (hGbrDxReferenceIdeal : Cert.GbrDxReferenceIdeal.Facts) (hMixDw : Cert.MixDw.Facts) (hMixDwIdeal : Cert.MixDwIdeal.Facts) (hMixDwReferenceIdeal : Cert.MixDwReferenceIdeal.Facts) (hMixDx : Cert.MixDx.Facts) (hMixDxIdeal : Cert.MixDxIdeal.Facts) (hMixDxReferenceIdeal : Cert.MixDxReferenceIdeal.Facts) (hOutFwd : Cert.OutFwd.Facts) (hOutFwdIdeal : Cert.OutFwdIdeal.Facts) (hOutFwdReferenceIdeal : Cert.OutFwdReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hGaFwd : Cert.GaFwd.Facts) (hGaFwdIdeal : Cert.GaFwdIdeal.Facts) (hGaFwdReferenceIdeal : Cert.GaFwdReferenceIdeal.Facts) (hGaDx : Cert.GaDx.Facts) (hGaDxIdeal : Cert.GaDxIdeal.Facts) (hGaDxReferenceIdeal : Cert.GaDxReferenceIdeal.Facts) (hSmallFwd : Cert.SmallFwd.Facts) (hSmallFwdIdeal : Cert.SmallFwdIdeal.Facts) (hSmallFwdReferenceIdeal : Cert.SmallFwdReferenceIdeal.Facts) (hSmallDw : Cert.SmallDw.Facts) (hSmallDwIdeal : Cert.SmallDwIdeal.Facts) (hSmallDwReferenceIdeal : Cert.SmallDwReferenceIdeal.Facts) (hSmallDx : Cert.SmallDx.Facts) (hSmallDxIdeal : Cert.SmallDxIdeal.Facts) (hSmallDxReferenceIdeal : Cert.SmallDxReferenceIdeal.Facts) (hUqFwd : Cert.UqFwd.Facts) (hUqFwdIdeal : Cert.UqFwdIdeal.Facts) (hUqFwdReferenceIdeal : Cert.UqFwdReferenceIdeal.Facts) (hUqDw : Cert.UqDw.Facts) (hUqDwIdeal : Cert.UqDwIdeal.Facts) (hUqDwReferenceIdeal : Cert.UqDwReferenceIdeal.Facts) (hUqDx : Cert.UqDx.Facts) (hUqDxIdeal : Cert.UqDxIdeal.Facts) (hUqDxReferenceIdeal : Cert.UqDxReferenceIdeal.Facts) (hUkvFwd : Cert.UkvFwd.Facts) (hUkvFwdIdeal : Cert.UkvFwdIdeal.Facts) (hUkvFwdReferenceIdeal : Cert.UkvFwdReferenceIdeal.Facts) (hUkvDw : Cert.UkvDw.Facts) (hUkvDwIdeal : Cert.UkvDwIdeal.Facts) (hUkvDwReferenceIdeal : Cert.UkvDwReferenceIdeal.Facts) (hUkvDx : Cert.UkvDx.Facts) (hUkvDxIdeal : Cert.UkvDxIdeal.Facts) (hUkvDxReferenceIdeal : Cert.UkvDxReferenceIdeal.Facts) (hUkvDxAdd : Cert.UkvDxAdd.Facts) (hUkvDxAddIdeal : Cert.UkvDxAddIdeal.Facts) (hUkvDxAddReferenceIdeal : Cert.UkvDxAddReferenceIdeal.Facts) (hMergeFwd : Cert.MergeFwd.Facts) (hMergeFwdIdeal : Cert.MergeFwdIdeal.Facts) (hMergeFwdReferenceIdeal : Cert.MergeFwdReferenceIdeal.Facts) (hMergeBwd : Cert.MergeBwd.Facts) (hMergeBwdIdeal : Cert.MergeBwdIdeal.Facts) (hMergeBwdReferenceIdeal : Cert.MergeBwdReferenceIdeal.Facts) (hNormFwd : Cert.NormFwd.Facts) (hNormFwdIdeal : Cert.NormFwdIdeal.Facts) (hNormFwdReferenceIdeal : Cert.NormFwdReferenceIdeal.Facts) (hAbFwd : Cert.AbFwd.Facts) (hAbFwdIdeal : Cert.AbFwdIdeal.Facts) (hAbFwdReferenceIdeal : Cert.AbFwdReferenceIdeal.Facts) (hAbDw : Cert.AbDw.Facts) (hAbDwIdeal : Cert.AbDwIdeal.Facts) (hAbDwReferenceIdeal : Cert.AbDwReferenceIdeal.Facts) (hAbDx : Cert.AbDx.Facts) (hAbDxIdeal : Cert.AbDxIdeal.Facts) (hAbDxReferenceIdeal : Cert.AbDxReferenceIdeal.Facts) (hQpFwd : Cert.QpFwd.Facts) (hQpFwdIdeal : Cert.QpFwdIdeal.Facts) (hQpFwdReferenceIdeal : Cert.QpFwdReferenceIdeal.Facts) (hUqDxAdd : Cert.UqDxAdd.Facts) (hUqDxAddIdeal : Cert.UqDxAddIdeal.Facts) (hUqDxAddReferenceIdeal : Cert.UqDxAddReferenceIdeal.Facts) (hAdamIn : Cert.AdamIn.Facts) (hAdamInIdeal : Cert.AdamInIdeal.Facts) (hAdamInReferenceIdeal : Cert.AdamInReferenceIdeal.Facts) (hAdamQ : Cert.AdamQ.Facts) (hAdamQIdeal : Cert.AdamQIdeal.Facts) (hAdamQReferenceIdeal : Cert.AdamQReferenceIdeal.Facts) (hAdamC : Cert.AdamC.Facts) (hAdamCIdeal : Cert.AdamCIdeal.Facts) (hAdamCReferenceIdeal : Cert.AdamCReferenceIdeal.Facts) (hAdamV : Cert.AdamV.Facts) (hAdamVIdeal : Cert.AdamVIdeal.Facts) (hAdamVReferenceIdeal : Cert.AdamVReferenceIdeal.Facts) (hAdamSmall : Cert.AdamSmall.Facts) (hAdamSmallIdeal : Cert.AdamSmallIdeal.Facts) (hAdamSmallReferenceIdeal : Cert.AdamSmallReferenceIdeal.Facts) (hRopeFwd : Cert.RopeFwd.Facts) (hRopeFwdIdeal : Cert.RopeFwdIdeal.Facts) (hRopeFwdReferenceIdeal : Cert.RopeFwdReferenceIdeal.Facts) (hRopeBwd : Cert.RopeBwd.Facts) (hRopeBwdIdeal : Cert.RopeBwdIdeal.Facts) (hRopeBwdReferenceIdeal : Cert.RopeBwdReferenceIdeal.Facts) (hPrepFwd : Cert.PrepFwd.Facts) (hPrepFwdIdeal : Cert.PrepFwdIdeal.Facts) (hPrepFwdReferenceIdeal : Cert.PrepFwdReferenceIdeal.Facts) (hGdnOutFwd : Cert.GdnOutFwd.Facts) (hGdnOutFwdIdeal : Cert.GdnOutFwdIdeal.Facts) (hGdnOutFwdReferenceIdeal : Cert.GdnOutFwdReferenceIdeal.Facts) (hNormBwd : Cert.NormBwd.Facts) (hNormBwdIdeal : Cert.NormBwdIdeal.Facts) (hNormBwdReferenceIdeal : Cert.NormBwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDxAdd (hUpDxAdd := hUpDxAdd)
    ∧ quiescent_UpDxAddIdeal (hUpDxAddIdeal := hUpDxAddIdeal)
    ∧ quiescent_UpDxAddReferenceIdeal (hUpDxAddReferenceIdeal := hUpDxAddReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_QkvDw (hQkvDw := hQkvDw)
    ∧ quiescent_QkvDwIdeal (hQkvDwIdeal := hQkvDwIdeal)
    ∧ quiescent_QkvDwReferenceIdeal (hQkvDwReferenceIdeal := hQkvDwReferenceIdeal)
    ∧ quiescent_QkvDx (hQkvDx := hQkvDx)
    ∧ quiescent_QkvDxIdeal (hQkvDxIdeal := hQkvDxIdeal)
    ∧ quiescent_QkvDxReferenceIdeal (hQkvDxReferenceIdeal := hQkvDxReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_QkvFwd (hQkvFwd := hQkvFwd)
    ∧ quiescent_QkvFwdIdeal (hQkvFwdIdeal := hQkvFwdIdeal)
    ∧ quiescent_QkvFwdReferenceIdeal (hQkvFwdReferenceIdeal := hQkvFwdReferenceIdeal)
    ∧ quiescent_GbrFwd (hGbrFwd := hGbrFwd)
    ∧ quiescent_GbrFwdIdeal (hGbrFwdIdeal := hGbrFwdIdeal)
    ∧ quiescent_GbrFwdReferenceIdeal (hGbrFwdReferenceIdeal := hGbrFwdReferenceIdeal)
    ∧ quiescent_GbrDw (hGbrDw := hGbrDw)
    ∧ quiescent_GbrDwIdeal (hGbrDwIdeal := hGbrDwIdeal)
    ∧ quiescent_GbrDwReferenceIdeal (hGbrDwReferenceIdeal := hGbrDwReferenceIdeal)
    ∧ quiescent_GbrDx (hGbrDx := hGbrDx)
    ∧ quiescent_GbrDxIdeal (hGbrDxIdeal := hGbrDxIdeal)
    ∧ quiescent_GbrDxReferenceIdeal (hGbrDxReferenceIdeal := hGbrDxReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_GaFwd (hGaFwd := hGaFwd)
    ∧ quiescent_GaFwdIdeal (hGaFwdIdeal := hGaFwdIdeal)
    ∧ quiescent_GaFwdReferenceIdeal (hGaFwdReferenceIdeal := hGaFwdReferenceIdeal)
    ∧ quiescent_GaDx (hGaDx := hGaDx)
    ∧ quiescent_GaDxIdeal (hGaDxIdeal := hGaDxIdeal)
    ∧ quiescent_GaDxReferenceIdeal (hGaDxReferenceIdeal := hGaDxReferenceIdeal)
    ∧ quiescent_SmallFwd (hSmallFwd := hSmallFwd)
    ∧ quiescent_SmallFwdIdeal (hSmallFwdIdeal := hSmallFwdIdeal)
    ∧ quiescent_SmallFwdReferenceIdeal (hSmallFwdReferenceIdeal := hSmallFwdReferenceIdeal)
    ∧ quiescent_SmallDw (hSmallDw := hSmallDw)
    ∧ quiescent_SmallDwIdeal (hSmallDwIdeal := hSmallDwIdeal)
    ∧ quiescent_SmallDwReferenceIdeal (hSmallDwReferenceIdeal := hSmallDwReferenceIdeal)
    ∧ quiescent_SmallDx (hSmallDx := hSmallDx)
    ∧ quiescent_SmallDxIdeal (hSmallDxIdeal := hSmallDxIdeal)
    ∧ quiescent_SmallDxReferenceIdeal (hSmallDxReferenceIdeal := hSmallDxReferenceIdeal)
    ∧ quiescent_UqFwd (hUqFwd := hUqFwd)
    ∧ quiescent_UqFwdIdeal (hUqFwdIdeal := hUqFwdIdeal)
    ∧ quiescent_UqFwdReferenceIdeal (hUqFwdReferenceIdeal := hUqFwdReferenceIdeal)
    ∧ quiescent_UqDw (hUqDw := hUqDw)
    ∧ quiescent_UqDwIdeal (hUqDwIdeal := hUqDwIdeal)
    ∧ quiescent_UqDwReferenceIdeal (hUqDwReferenceIdeal := hUqDwReferenceIdeal)
    ∧ quiescent_UqDx (hUqDx := hUqDx)
    ∧ quiescent_UqDxIdeal (hUqDxIdeal := hUqDxIdeal)
    ∧ quiescent_UqDxReferenceIdeal (hUqDxReferenceIdeal := hUqDxReferenceIdeal)
    ∧ quiescent_UkvFwd (hUkvFwd := hUkvFwd)
    ∧ quiescent_UkvFwdIdeal (hUkvFwdIdeal := hUkvFwdIdeal)
    ∧ quiescent_UkvFwdReferenceIdeal (hUkvFwdReferenceIdeal := hUkvFwdReferenceIdeal)
    ∧ quiescent_UkvDw (hUkvDw := hUkvDw)
    ∧ quiescent_UkvDwIdeal (hUkvDwIdeal := hUkvDwIdeal)
    ∧ quiescent_UkvDwReferenceIdeal (hUkvDwReferenceIdeal := hUkvDwReferenceIdeal)
    ∧ quiescent_UkvDx (hUkvDx := hUkvDx)
    ∧ quiescent_UkvDxIdeal (hUkvDxIdeal := hUkvDxIdeal)
    ∧ quiescent_UkvDxReferenceIdeal (hUkvDxReferenceIdeal := hUkvDxReferenceIdeal)
    ∧ quiescent_UkvDxAdd (hUkvDxAdd := hUkvDxAdd)
    ∧ quiescent_UkvDxAddIdeal (hUkvDxAddIdeal := hUkvDxAddIdeal)
    ∧ quiescent_UkvDxAddReferenceIdeal (hUkvDxAddReferenceIdeal := hUkvDxAddReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_AbFwd (hAbFwd := hAbFwd)
    ∧ quiescent_AbFwdIdeal (hAbFwdIdeal := hAbFwdIdeal)
    ∧ quiescent_AbFwdReferenceIdeal (hAbFwdReferenceIdeal := hAbFwdReferenceIdeal)
    ∧ quiescent_AbDw (hAbDw := hAbDw)
    ∧ quiescent_AbDwIdeal (hAbDwIdeal := hAbDwIdeal)
    ∧ quiescent_AbDwReferenceIdeal (hAbDwReferenceIdeal := hAbDwReferenceIdeal)
    ∧ quiescent_AbDx (hAbDx := hAbDx)
    ∧ quiescent_AbDxIdeal (hAbDxIdeal := hAbDxIdeal)
    ∧ quiescent_AbDxReferenceIdeal (hAbDxReferenceIdeal := hAbDxReferenceIdeal)
    ∧ quiescent_QpFwd (hQpFwd := hQpFwd)
    ∧ quiescent_QpFwdIdeal (hQpFwdIdeal := hQpFwdIdeal)
    ∧ quiescent_QpFwdReferenceIdeal (hQpFwdReferenceIdeal := hQpFwdReferenceIdeal)
    ∧ quiescent_UqDxAdd (hUqDxAdd := hUqDxAdd)
    ∧ quiescent_UqDxAddIdeal (hUqDxAddIdeal := hUqDxAddIdeal)
    ∧ quiescent_UqDxAddReferenceIdeal (hUqDxAddReferenceIdeal := hUqDxAddReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamQ (hAdamQ := hAdamQ)
    ∧ quiescent_AdamQIdeal (hAdamQIdeal := hAdamQIdeal)
    ∧ quiescent_AdamQReferenceIdeal (hAdamQReferenceIdeal := hAdamQReferenceIdeal)
    ∧ quiescent_AdamC (hAdamC := hAdamC)
    ∧ quiescent_AdamCIdeal (hAdamCIdeal := hAdamCIdeal)
    ∧ quiescent_AdamCReferenceIdeal (hAdamCReferenceIdeal := hAdamCReferenceIdeal)
    ∧ quiescent_AdamV (hAdamV := hAdamV)
    ∧ quiescent_AdamVIdeal (hAdamVIdeal := hAdamVIdeal)
    ∧ quiescent_AdamVReferenceIdeal (hAdamVReferenceIdeal := hAdamVReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_RopeFwd (hRopeFwd := hRopeFwd)
    ∧ quiescent_RopeFwdIdeal (hRopeFwdIdeal := hRopeFwdIdeal)
    ∧ quiescent_RopeFwdReferenceIdeal (hRopeFwdReferenceIdeal := hRopeFwdReferenceIdeal)
    ∧ quiescent_RopeBwd (hRopeBwd := hRopeBwd)
    ∧ quiescent_RopeBwdIdeal (hRopeBwdIdeal := hRopeBwdIdeal)
    ∧ quiescent_RopeBwdReferenceIdeal (hRopeBwdReferenceIdeal := hRopeBwdReferenceIdeal)
    ∧ quiescent_PrepFwd (hPrepFwd := hPrepFwd)
    ∧ quiescent_PrepFwdIdeal (hPrepFwdIdeal := hPrepFwdIdeal)
    ∧ quiescent_PrepFwdReferenceIdeal (hPrepFwdReferenceIdeal := hPrepFwdReferenceIdeal)
    ∧ quiescent_GdnOutFwd (hGdnOutFwd := hGdnOutFwd)
    ∧ quiescent_GdnOutFwdIdeal (hGdnOutFwdIdeal := hGdnOutFwdIdeal)
    ∧ quiescent_GdnOutFwdReferenceIdeal (hGdnOutFwdReferenceIdeal := hGdnOutFwdReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDxAdd_UpDxAddIdeal
    ∧ algebraic_UpDxAddIdeal_UpDxAddReferenceIdeal (hUpDxAddIdeal := hUpDxAddIdeal) (hUpDxAddReferenceIdeal := hUpDxAddReferenceIdeal)
    ∧ preserves_DownDw_DownDwIdeal
    ∧ algebraic_DownDwIdeal_DownDwReferenceIdeal (hDownDwIdeal := hDownDwIdeal) (hDownDwReferenceIdeal := hDownDwReferenceIdeal)
    ∧ preserves_DownDx_DownDxIdeal
    ∧ algebraic_DownDxIdeal_DownDxReferenceIdeal (hDownDxIdeal := hDownDxIdeal) (hDownDxReferenceIdeal := hDownDxReferenceIdeal)
    ∧ preserves_QkvDw_QkvDwIdeal
    ∧ algebraic_QkvDwIdeal_QkvDwReferenceIdeal (hQkvDwIdeal := hQkvDwIdeal) (hQkvDwReferenceIdeal := hQkvDwReferenceIdeal)
    ∧ preserves_QkvDx_QkvDxIdeal
    ∧ algebraic_QkvDxIdeal_QkvDxReferenceIdeal (hQkvDxIdeal := hQkvDxIdeal) (hQkvDxReferenceIdeal := hQkvDxReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_QkvFwd_QkvFwdIdeal
    ∧ algebraic_QkvFwdIdeal_QkvFwdReferenceIdeal (hQkvFwdIdeal := hQkvFwdIdeal) (hQkvFwdReferenceIdeal := hQkvFwdReferenceIdeal)
    ∧ preserves_GbrFwd_GbrFwdIdeal
    ∧ algebraic_GbrFwdIdeal_GbrFwdReferenceIdeal (hGbrFwdIdeal := hGbrFwdIdeal) (hGbrFwdReferenceIdeal := hGbrFwdReferenceIdeal)
    ∧ preserves_GbrDw_GbrDwIdeal
    ∧ algebraic_GbrDwIdeal_GbrDwReferenceIdeal (hGbrDwIdeal := hGbrDwIdeal) (hGbrDwReferenceIdeal := hGbrDwReferenceIdeal)
    ∧ preserves_GbrDx_GbrDxIdeal
    ∧ algebraic_GbrDxIdeal_GbrDxReferenceIdeal (hGbrDxIdeal := hGbrDxIdeal) (hGbrDxReferenceIdeal := hGbrDxReferenceIdeal)
    ∧ preserves_MixDw_MixDwIdeal
    ∧ algebraic_MixDwIdeal_MixDwReferenceIdeal (hMixDwIdeal := hMixDwIdeal) (hMixDwReferenceIdeal := hMixDwReferenceIdeal)
    ∧ preserves_MixDx_MixDxIdeal
    ∧ algebraic_MixDxIdeal_MixDxReferenceIdeal (hMixDxIdeal := hMixDxIdeal) (hMixDxReferenceIdeal := hMixDxReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_GaFwd_GaFwdIdeal
    ∧ algebraic_GaFwdIdeal_GaFwdReferenceIdeal (hGaFwdIdeal := hGaFwdIdeal) (hGaFwdReferenceIdeal := hGaFwdReferenceIdeal)
    ∧ preserves_GaDx_GaDxIdeal
    ∧ algebraic_GaDxIdeal_GaDxReferenceIdeal (hGaDxIdeal := hGaDxIdeal) (hGaDxReferenceIdeal := hGaDxReferenceIdeal)
    ∧ preserves_SmallFwd_SmallFwdIdeal
    ∧ algebraic_SmallFwdIdeal_SmallFwdReferenceIdeal (hSmallFwdIdeal := hSmallFwdIdeal) (hSmallFwdReferenceIdeal := hSmallFwdReferenceIdeal)
    ∧ preserves_SmallDw_SmallDwIdeal
    ∧ algebraic_SmallDwIdeal_SmallDwReferenceIdeal (hSmallDwIdeal := hSmallDwIdeal) (hSmallDwReferenceIdeal := hSmallDwReferenceIdeal)
    ∧ preserves_SmallDx_SmallDxIdeal
    ∧ algebraic_SmallDxIdeal_SmallDxReferenceIdeal (hSmallDxIdeal := hSmallDxIdeal) (hSmallDxReferenceIdeal := hSmallDxReferenceIdeal)
    ∧ preserves_UqFwd_UqFwdIdeal
    ∧ algebraic_UqFwdIdeal_UqFwdReferenceIdeal (hUqFwdIdeal := hUqFwdIdeal) (hUqFwdReferenceIdeal := hUqFwdReferenceIdeal)
    ∧ preserves_UqDw_UqDwIdeal
    ∧ algebraic_UqDwIdeal_UqDwReferenceIdeal (hUqDwIdeal := hUqDwIdeal) (hUqDwReferenceIdeal := hUqDwReferenceIdeal)
    ∧ preserves_UqDx_UqDxIdeal
    ∧ algebraic_UqDxIdeal_UqDxReferenceIdeal (hUqDxIdeal := hUqDxIdeal) (hUqDxReferenceIdeal := hUqDxReferenceIdeal)
    ∧ preserves_UkvFwd_UkvFwdIdeal
    ∧ algebraic_UkvFwdIdeal_UkvFwdReferenceIdeal (hUkvFwdIdeal := hUkvFwdIdeal) (hUkvFwdReferenceIdeal := hUkvFwdReferenceIdeal)
    ∧ preserves_UkvDw_UkvDwIdeal
    ∧ algebraic_UkvDwIdeal_UkvDwReferenceIdeal (hUkvDwIdeal := hUkvDwIdeal) (hUkvDwReferenceIdeal := hUkvDwReferenceIdeal)
    ∧ preserves_UkvDx_UkvDxIdeal
    ∧ algebraic_UkvDxIdeal_UkvDxReferenceIdeal (hUkvDxIdeal := hUkvDxIdeal) (hUkvDxReferenceIdeal := hUkvDxReferenceIdeal)
    ∧ preserves_UkvDxAdd_UkvDxAddIdeal
    ∧ algebraic_UkvDxAddIdeal_UkvDxAddReferenceIdeal (hUkvDxAddIdeal := hUkvDxAddIdeal) (hUkvDxAddReferenceIdeal := hUkvDxAddReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_AbFwd_AbFwdIdeal
    ∧ algebraic_AbFwdIdeal_AbFwdReferenceIdeal (hAbFwdIdeal := hAbFwdIdeal) (hAbFwdReferenceIdeal := hAbFwdReferenceIdeal)
    ∧ preserves_AbDw_AbDwIdeal
    ∧ algebraic_AbDwIdeal_AbDwReferenceIdeal (hAbDwIdeal := hAbDwIdeal) (hAbDwReferenceIdeal := hAbDwReferenceIdeal)
    ∧ preserves_AbDx_AbDxIdeal
    ∧ algebraic_AbDxIdeal_AbDxReferenceIdeal (hAbDxIdeal := hAbDxIdeal) (hAbDxReferenceIdeal := hAbDxReferenceIdeal)
    ∧ preserves_QpFwd_QpFwdIdeal
    ∧ algebraic_QpFwdIdeal_QpFwdReferenceIdeal (hQpFwdIdeal := hQpFwdIdeal) (hQpFwdReferenceIdeal := hQpFwdReferenceIdeal)
    ∧ preserves_UqDxAdd_UqDxAddIdeal
    ∧ algebraic_UqDxAddIdeal_UqDxAddReferenceIdeal (hUqDxAddIdeal := hUqDxAddIdeal) (hUqDxAddReferenceIdeal := hUqDxAddReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamQ_AdamQIdeal
    ∧ algebraic_AdamQIdeal_AdamQReferenceIdeal (hAdamQIdeal := hAdamQIdeal) (hAdamQReferenceIdeal := hAdamQReferenceIdeal)
    ∧ preserves_AdamC_AdamCIdeal
    ∧ algebraic_AdamCIdeal_AdamCReferenceIdeal (hAdamCIdeal := hAdamCIdeal) (hAdamCReferenceIdeal := hAdamCReferenceIdeal)
    ∧ preserves_AdamV_AdamVIdeal
    ∧ algebraic_AdamVIdeal_AdamVReferenceIdeal (hAdamVIdeal := hAdamVIdeal) (hAdamVReferenceIdeal := hAdamVReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_RopeFwd_RopeFwdIdeal
    ∧ algebraic_RopeFwdIdeal_RopeFwdReferenceIdeal (hRopeFwdIdeal := hRopeFwdIdeal) (hRopeFwdReferenceIdeal := hRopeFwdReferenceIdeal)
    ∧ preserves_RopeBwd_RopeBwdIdeal
    ∧ algebraic_RopeBwdIdeal_RopeBwdReferenceIdeal (hRopeBwdIdeal := hRopeBwdIdeal) (hRopeBwdReferenceIdeal := hRopeBwdReferenceIdeal)
    ∧ preserves_PrepFwd_PrepFwdIdeal
    ∧ algebraic_PrepFwdIdeal_PrepFwdReferenceIdeal (hPrepFwdIdeal := hPrepFwdIdeal) (hPrepFwdReferenceIdeal := hPrepFwdReferenceIdeal)
    ∧ preserves_GdnOutFwd_GdnOutFwdIdeal
    ∧ algebraic_GdnOutFwdIdeal_GdnOutFwdReferenceIdeal (hGdnOutFwdIdeal := hGdnOutFwdIdeal) (hGdnOutFwdReferenceIdeal := hGdnOutFwdReferenceIdeal)
    ∧ preserves_NormBwd_NormBwdIdeal
    ∧ algebraic_NormBwdIdeal_NormBwdReferenceIdeal (hNormBwdIdeal := hNormBwdIdeal) (hNormBwdReferenceIdeal := hNormBwdReferenceIdeal)
-- ==== Pre_finite.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S_ : Shape := ⟨0, ![]⟩

class Facts : Prop where
  bcast_S_S2x4096x8x128 : S_.BroadcastsInDim S2x4096x8x128 (![] : Fin 0 → Fin S2x4096x8x128.rank)
  bcast_S_S2x4096x8x64 : S_.BroadcastsInDim S2x4096x8x64 (![] : Fin 0 → Fin S2x4096x8x64.rank)
  bcast_S_S2x4096x64 : S_.BroadcastsInDim S2x4096x64 (![] : Fin 0 → Fin S2x4096x64.rank)

variable [Facts]

def fn {F : FTy → Type} [FloatOps F] (main_arg0 : FVec F S2x4096x8x128 .f32) (main_arg1 : FVec F S2x4096x8x64 .f32) (main_arg2 : FVec F S2x4096x8x128 .f32) (main_arg3 : FVec F S2x4096x64 .f32) (main_arg4 : FVec F S2x4096x8x128 .f32) (main_arg5 : FVec F S2x4096x8x128 .f32) : IVec S2x4096x8x128 1 × IVec S2x4096x8x64 1 × IVec S2x4096x8x128 1 × IVec S2x4096x64 1 × IVec S2x4096x8x128 1 × IVec S2x4096x8x128 1 :=
  let main_v0 : FVec F S2x4096x8x128 .f32 := Host.absf main_arg0
  let main_cst : FVec F S_ .f32 := constant S_ .f32 0x7F800000#32
  let main_v1 : FVec F S2x4096x8x128 .f32 := broadcastInDim S2x4096x8x128 ![] bcast_S_S2x4096x8x128 main_cst
  let main_v2 : IVec S2x4096x8x128 1 := cmpf .olt main_v0 main_v1
  let main_v3 : FVec F S2x4096x8x64 .f32 := Host.absf main_arg1
  let main_cst_0 : FVec F S_ .f32 := constant S_ .f32 0x7F800000#32
  let main_v4 : FVec F S2x4096x8x64 .f32 := broadcastInDim S2x4096x8x64 ![] bcast_S_S2x4096x8x64 main_cst_0
  let main_v5 : IVec S2x4096x8x64 1 := cmpf .olt main_v3 main_v4
  let main_v6 : FVec F S2x4096x8x128 .f32 := Host.absf main_arg2
  let main_cst_1 : FVec F S_ .f32 := constant S_ .f32 0x7F800000#32
  let main_v7 : FVec F S2x4096x8x128 .f32 := broadcastInDim S2x4096x8x128 ![] bcast_S_S2x4096x8x128 main_cst_1
  let main_v8 : IVec S2x4096x8x128 1 := cmpf .olt main_v6 main_v7
  let main_v9 : FVec F S2x4096x64 .f32 := Host.absf main_arg3
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_v12 : FVec F S2x4096x8x128 .f32 := Host.absf main_arg4
  let main_cst_3 : FVec F S_ .f32 := constant S_ .f32 0x7F800000#32
  let main_v13 : FVec F S2x4096x8x128 .f32 := broadcastInDim S2x4096x8x128 ![] bcast_S_S2x4096x8x128 main_cst_3
  let main_v14 : IVec S2x4096x8x128 1 := cmpf .olt main_v12 main_v13
  let main_v15 : FVec F S2x4096x8x128 .f32 := Host.absf main_arg5
  let main_cst_4 : FVec F S_ .f32 := constant S_ .f32 0x7F800000#32
  let main_v16 : FVec F S2x4096x8x128 .f32 := broadcastInDim S2x4096x8x128 ![] bcast_S_S2x4096x8x128 main_cst_4
  let main_v17 : IVec S2x4096x8x128 1 := cmpf .olt main_v15 main_v16
  (main_v2, main_v5, main_v8, main_v11, main_v14, main_v17)
-- ==== Kernel.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x128 : Shape := ⟨3, ![2, 4096, 128]⟩
abbrev S8192x128 : Shape := ⟨2, ![8192, 128]⟩
abbrev S2x4096x8 : Shape := ⟨3, ![2, 4096, 8]⟩
abbrev S8x2x4096 : Shape := ⟨3, ![8, 2, 4096]⟩
abbrev S8x1x8192 : Shape := ⟨3, ![8, 1, 8192]⟩
abbrev S8192x1024 : Shape := ⟨2, ![8192, 1024]⟩
abbrev S8x8192x128 : Shape := ⟨3, ![8, 8192, 128]⟩
abbrev S512x1024 : Shape := ⟨2, ![512, 1024]⟩
abbrev S512x128 : Shape := ⟨2, ![512, 128]⟩
abbrev S8x1x512 : Shape := ⟨3, ![8, 1, 512]⟩
abbrev S8x512x128 : Shape := ⟨3, ![8, 512, 128]⟩
abbrev S8x512x256 : Shape := ⟨3, ![8, 512, 256]⟩
abbrev S512x256 : Shape := ⟨2, ![512, 256]⟩
abbrev S512x512 : Shape := ⟨2, ![512, 512]⟩
abbrev S1x1x512 : Shape := ⟨3, ![1, 1, 512]⟩
abbrev S1x512 : Shape := ⟨2, ![1, 512]⟩
abbrev S1x512x128 : Shape := ⟨3, ![1, 512, 128]⟩
abbrev S1x512x256 : Shape := ⟨3, ![1, 512, 256]⟩

abbrev nBuf : Space → Nat
  | .hbm => 68
  | .vmem => 24
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S2x4096x8x128, .f32⟩
  | .hbm, ⟨6, _⟩ => ⟨S2x8x4096x4096, .f32⟩
  | .hbm, ⟨7, _⟩ => ⟨S2x4096x4096x8, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S2x8x4096x4096, .i1⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x128x4096, .f32⟩
  | .hbm, ⟨36, _⟩ => ⟨S2x4096x8x128, .f32⟩
  | .hbm, ⟨37, _⟩ => ⟨S2x8x4096x1, .f32⟩
  | .hbm, ⟨38, _⟩ => ⟨S2x8x4096x1, .f32⟩
  | .hbm, ⟨39, _⟩ => ⟨S2x8x4096, .f32⟩
  | .hbm, ⟨40, _⟩ => ⟨S_, .i32⟩
  | .hbm, ⟨41, _⟩ => ⟨S_, .f32⟩
  | .hbm, ⟨42, _⟩ => ⟨S2x4096x8x128, .f32⟩
  | .hbm, ⟨43, _⟩ => ⟨S_, .i32⟩
  | .hbm, ⟨44, _⟩ => ⟨S_, .f32⟩
  | .hbm, ⟨45, _⟩ => ⟨S2x4096x128, .f32⟩
  | .hbm, ⟨46, _⟩ => ⟨S8192x128, .f32⟩
  | .hbm, ⟨47, _⟩ => ⟨S8192x128, .bf16⟩
  | .hbm, ⟨48, _⟩ => ⟨S2x4096x8x128, .f32⟩
  | .hbm, ⟨49, _⟩ => ⟨S_, .f32⟩
  | .hbm, ⟨50, _⟩ => ⟨S2x4096x8, .f32⟩
  | .hbm, ⟨51, _⟩ => ⟨S8x2x4096, .f32⟩
  | .hbm, ⟨52, _⟩ => ⟨S8x1x8192, .f32⟩
  | .hbm, ⟨53, _⟩ => ⟨S8x2x4096, .f32⟩
  | .hbm, ⟨54, _⟩ => ⟨S8x1x8192, .f32⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .bf16⟩
  | .hbm, ⟨61, _⟩ => ⟨S8192x1024, .f32⟩
  | .hbm, ⟨62, _⟩ => ⟨S8192x1024, .bf16⟩
  | .hbm, ⟨63, _⟩ => ⟨S8192x1024, .f32⟩
  | .hbm, ⟨64, _⟩ => ⟨S8192x1024, .bf16⟩
  | .hbm, ⟨65, _⟩ => ⟨S8192x1024, .bf16⟩
  | .hbm, ⟨66, _⟩ => ⟨S8x8192x128, .f32⟩
  | .hbm, ⟨67, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .bf16⟩
  | .local _ .vmem, ⟨7, _⟩ => ⟨S512x128, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1x512, .f32⟩
  | .local _ .vmem, ⟨13, _⟩ => ⟨S8x1x512, .f32⟩
  | .local _ .vmem, ⟨14, _⟩ => ⟨S8x1x512, .f32⟩
  | .local _ .vmem, ⟨15, _⟩ => ⟨S8x1x512, .f32⟩
  | .local _ .vmem, ⟨16, _⟩ => ⟨S512x1024, .bf16⟩
  | .local _ .vmem, ⟨17, _⟩ => ⟨S512x1024, .bf16⟩
  | .local _ .vmem, ⟨18, _⟩ => ⟨S8x512x128, .f32⟩
  | .local _ .vmem, ⟨19, _⟩ => ⟨S8x512x128, .f32⟩
  | .local _ .vmem, ⟨20, _⟩ => ⟨S512x1024, .bf16⟩
  | .local _ .vmem, ⟨21, _⟩ => ⟨S512x1024, .bf16⟩
  | .local _ .vmem, ⟨22, _⟩ => ⟨S8x512x256, .f32⟩
  | .local _ .vmem, ⟨23, _⟩ => ⟨S8x512x128, .f32⟩
  | _, _ => ⟨S2x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_call1_v0 : Ref sig .tc := ⟨.hbm, 41, rfl⟩
abbrev main_v27 : Ref sig .tc := ⟨.hbm, 42, rfl⟩
abbrev main_c_3 : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨4, ![2, 1, 8, 8], ![false, false, false, false]⟩

def k0_cond4 (i : grid0.Coords) : BitVec 1 :=
  let arg3 : BitVec 32 := BitVec.ofNat 32 (i 3).val
  let c7_i32 : BitVec 32 := 7#32
  let v9 : BitVec 1 := Scalar.cmpi .eq arg3 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.maxsi arg3 arg2
  let v2 : BitVec 32 := Scalar.addi v0 v1
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.maxsi arg3 arg2
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.maxsi arg3 arg2
  let v2 : BitVec 32 := Scalar.addi v0 v1
  let c0_i32 : BitVec 32 := 0#32
  ![v2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.maxsi arg3 arg2
  let v2 : BitVec 32 := Scalar.addi v0 v1
  let c0_i32 : BitVec 32 := 0#32
  let c0_i32_0 : BitVec 32 := 0#32
  ![arg1.toNat, c0_i32.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.maxsi arg3 arg2
  let v2 : BitVec 32 := Scalar.addi v0 v1
  let c0_i32 : BitVec 32 := 0#32
  let c0_i32_0 : BitVec 32 := 0#32
  ![arg1.toNat, c0_i32.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S8x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]

abbrev stage0_9 : Fin 2 → Memref sig .tc .vmem S8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true, false]
-- ==== ReferenceIdeal.lean ====
abbrev S2x4096x8x128 : Shape := ⟨4, ![2, 4096, 8, 128]⟩
abbrev S2x4096x8x64 : Shape := ⟨4, ![2, 4096, 8, 64]⟩
abbrev S2x4096x64 : Shape := ⟨3, ![2, 4096, 64]⟩
abbrev S2x4096x1x64 : Shape := ⟨4, ![2, 4096, 1, 64]⟩
abbrev S2x8x4096x4096 : Shape := ⟨4, ![2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x8x4096x64 : Shape := ⟨4, ![2, 8, 4096, 64]⟩
abbrev S2x8x4096x128 : Shape := ⟨4, ![2, 8, 4096, 128]⟩
abbrev S8x2x4096x128 : Shape := ⟨4, ![8, 2, 4096, 128]⟩
abbrev S8x8192x128 : Shape := ⟨3, ![8, 8192, 128]⟩
abbrev S8192x1024 : Shape := ⟨2, ![8192, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x4096x8x128, .f32⟩
  | .hbm, ⟨1, _⟩ => ⟨S2x4096x8x64, .f32⟩
  | .hbm, ⟨2, _⟩ => ⟨S2x4096x8x128, .f32⟩
  | .hbm, ⟨3, _⟩ => ⟨S2x4096x64, .f32⟩
  | .hbm, ⟨4, _⟩ => ⟨S2x4096x8x128, .f32⟩
  | .hbm, ⟨5, _⟩ => ⟨S2x4096x8x128, .f32⟩
  | .hbm, ⟨6, _⟩ => ⟨S2x4096x1x64, .f32⟩
  | .hbm, ⟨7, _⟩ => ⟨S2x4096x8x64, .f32⟩
  | .hbm, ⟨8, _⟩ => ⟨S2x8x4096x4096, .f32⟩
  | .hbm, ⟨9, _⟩ => ⟨S2x8x4096x4096, .f32⟩
  | .hbm, ⟨10, _⟩ => ⟨S2x8x4096x4096, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S4096, .i32⟩
  | .hbm, ⟨15, _⟩ => ⟨S4096x1, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .i1⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S_, .f32⟩
  | .hbm, ⟨36, _⟩ => ⟨S2x8x4096, .f32⟩
  | .hbm, ⟨37, _⟩ => ⟨S2x8x4096, .f32⟩
  | .hbm, ⟨38, _⟩ => ⟨S_, .f32⟩
  | .hbm, ⟨39, _⟩ => ⟨S2x8x4096, .f32⟩
  | .hbm, ⟨40, _⟩ => ⟨S2x8x4096, .i1⟩
  | .hbm, ⟨41, _⟩ => ⟨S_, .f32⟩
  | .hbm, ⟨42, _⟩ => ⟨S2x8x4096, .f32⟩
  | .hbm, ⟨43, _⟩ => ⟨S2x8x4096, .i1⟩
  | .hbm, ⟨44, _⟩ => ⟨S_, .f32⟩
  | .hbm, ⟨45, _⟩ => ⟨S2x8x4096, .f32⟩
  | .hbm, ⟨46, _⟩ => ⟨S_, .f32⟩
  | .hbm, ⟨47, _⟩ => ⟨S2x8x4096, .f32⟩
  | .hbm, ⟨48, _⟩ => ⟨S_, .f32⟩
  | .hbm, ⟨49, _⟩ => ⟨S2x8x4096, .f32⟩
  | .hbm, ⟨50, _⟩ => ⟨S2x8x4096, .f32⟩
  | .hbm, ⟨51, _⟩ => ⟨S2x8x4096, .f32⟩
  | .hbm, ⟨52, _⟩ => ⟨S2x8x4096x1, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S_, .f32⟩
  | .hbm, ⟨57, _⟩ => ⟨S2x8x4096, .f32⟩
  | .hbm, ⟨58, _⟩ => ⟨S2x8x4096x1, .f32⟩
  | .hbm, ⟨59, _⟩ => ⟨S2x8x4096x4096, .f32⟩
  | .hbm, ⟨60, _⟩ => ⟨S2x8x4096x4096, .f32⟩
  | .hbm, ⟨61, _⟩ => ⟨S2x8x4096x1, .f32⟩
  | .hbm, ⟨62, _⟩ => ⟨S_, .f32⟩
  | .hbm, ⟨63, _⟩ => ⟨S2x8x4096x1, .f32⟩
  | .hbm, ⟨64, _⟩ => ⟨S2x8x4096x1, .f32⟩
  | .hbm, ⟨65, _⟩ => ⟨S2x8x128x4096, .f32⟩
  | .hbm, ⟨66, _⟩ => ⟨S2x4096x8x128, .f32⟩
  | .hbm, ⟨67, _⟩ => ⟨S2x8x128x4096, .f32⟩
  | .hbm, ⟨68, _⟩ => ⟨S2x8x4096x4096, .f32⟩
  | .hbm, ⟨69, _⟩ => ⟨S2x8x128x4096, .f32⟩
  | .hbm, ⟨70, _⟩ => ⟨S2x4096x8x128, .f32⟩
  | .hbm, ⟨71, _⟩ => ⟨S2x8x4096x4096, .f32⟩
  | .hbm, ⟨72, _⟩ => ⟨S2x8x4096x4096, .f32⟩
  | .hbm, ⟨73, _⟩ => ⟨S2x8x4096x4096, .f32⟩
  | .hbm, ⟨74, _⟩ => ⟨S_, .f32⟩
  | .hbm, ⟨75, _⟩ => ⟨S2x8x4096, .f32⟩
  | .hbm, ⟨76, _⟩ => ⟨S2x8x4096x1, .f32⟩
  | .hbm, ⟨77, _⟩ => ⟨S2x8x4096x1, .f32⟩
  | .hbm, ⟨78, _⟩ => ⟨S2x8x4096x4096, .f32⟩
  | .hbm, ⟨79, _⟩ => ⟨S2x8x4096x4096, .f32⟩
  | .hbm, ⟨80, _⟩ => ⟨S_, .f32⟩
  | .hbm, ⟨81, _⟩ => ⟨S2x8x4096, .f32⟩
  | .hbm, ⟨82, _⟩ => ⟨S2x8x4096x4096, .f32⟩
  | .hbm, ⟨83, _⟩ => ⟨S2x8x4096x4096, .f32⟩
  | .hbm, ⟨84, _⟩ => ⟨S2x8x4096x4096, .f32⟩
  | .hbm, ⟨85, _⟩ => ⟨S_, .f32⟩
  | .hbm, ⟨86, _⟩ => ⟨S2x8x4096x4096, .f32⟩
  | .hbm, ⟨87, _⟩ => ⟨S2x8x4096x4096, .f32⟩
  | .hbm, ⟨88, _⟩ => ⟨S_, .f32⟩
  | .hbm, ⟨89, _⟩ => ⟨S2x8x4096x4096, .f32⟩
  | .hbm, ⟨90, _⟩ => ⟨S2x8x4096x4096, .f32⟩
  | .hbm, ⟨91, _⟩ => ⟨S2x8x4096x64, .f32⟩
  | .hbm, ⟨92, _⟩ => ⟨S2x4096x8x64, .f32⟩
  | .hbm, ⟨93, _⟩ => ⟨S2x8x4096x64, .f32⟩
  | .hbm, ⟨94, _⟩ => ⟨S2x4096x8x64, .f32⟩
  | .hbm, ⟨95, _⟩ => ⟨S2x8x4096x128, .f32⟩
  | .hbm, ⟨96, _⟩ => ⟨S2x4096x8x128, .f32⟩
  | .hbm, ⟨97, _⟩ => ⟨S2x8x4096x128, .f32⟩
  | .hbm, ⟨98, _⟩ => ⟨S2x4096x8x128, .f32⟩
  | .hbm, ⟨99, _⟩ => ⟨S_, .i32⟩
  | .hbm, ⟨100, _⟩ => ⟨S_, .f32⟩
  | .hbm, ⟨101, _⟩ => ⟨S2x4096x8x128, .f32⟩
  | .hbm, ⟨102, _⟩ => ⟨S8x2x4096x128, .f32⟩
  | .hbm, ⟨103, _⟩ => ⟨S8x8192x128, .f32⟩
  | .hbm, ⟨104, _⟩ => ⟨S8192x1024, .f32⟩
  | .hbm, ⟨105, _⟩ => ⟨S8192x1024, .bf16⟩
  | .hbm, ⟨106, _⟩ => ⟨S8192x1024, .f32⟩
  | .hbm, ⟨107, _⟩ => ⟨S8192x1024, .bf16⟩
  | _, _ => ⟨S2x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_v13_1 : Ref sig .tc := ⟨.hbm, 22, rfl⟩
abbrev main_call0_v2 : Ref sig .tc := ⟨.hbm, 23, rfl⟩
abbrev main_v13_0 : Ref sig .tc := ⟨.hbm, 24, rfl⟩
abbrev main_call0_cst : Ref sig .tc := ⟨.hbm, 25, rfl⟩
abbrev main_v13_2 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_cst : Ref sig .tc := ⟨.hbm, 85, rfl⟩
abbrev main_call1_v0 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c : Ref sig .tc := ⟨.hbm, 99, rfl⟩
abbrev main_call2_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== UpDw.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S1024x2816, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDxAdd.lean ====
abbrev S8192x1024 : Shape := ⟨2, ![8192, 1024]⟩
abbrev S1024x2816 : Shape := ⟨2, ![1024, 2816]⟩
abbrev S8192x2816 : Shape := ⟨2, ![8192, 2816]⟩
abbrev S1024x1408 : Shape := ⟨2, ![1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .bf16⟩
  | .hbm, ⟨5, _⟩ => ⟨S1024x2816, .bf16⟩
  | .hbm, ⟨6, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxAddReferenceIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownDw.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | .hbm, ⟨7, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvDw.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .bf16⟩
  | .hbm, ⟨4, _⟩ => ⟨S8192x3072, .bf16⟩
  | .hbm, ⟨5, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwReferenceIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvDx.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | .hbm, ⟨4, _⟩ => ⟨S1024x3072, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxReferenceIdeal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpFwd.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== QkvFwd.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvFwdReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GbrFwd.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GbrFwdReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GbrDw.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GbrDwReferenceIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GbrDx.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .f32⟩
  | .hbm, ⟨4, _⟩ => ⟨S8192x2048, .bf16⟩
  | .hbm, ⟨5, _⟩ => ⟨S1024x2048, .bf16⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GbrDxReferenceIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixDw.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDx.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxReferenceIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GaFwd.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GaFwdReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GaDx.lean ====
abbrev S8192x1024 : Shape := ⟨2, ![8192, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GaDxReferenceIdeal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SmallFwd.lean ====
abbrev S8192x1024 : Shape := ⟨2, ![8192, 1024]⟩
abbrev S1024x896 : Shape := ⟨2, ![1024, 896]⟩
abbrev S8192x896 : Shape := ⟨2, ![8192, 896]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x1024, .bf16⟩
  | .hbm, ⟨3, _⟩ => ⟨S1024x896, .bf16⟩
  | .hbm, ⟨4, _⟩ => ⟨S8192x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallFwdReferenceIdeal.lean ====
abbrev S8192x1024 : Shape := ⟨2, ![8192, 1024]⟩
abbrev S1024x896 : Shape := ⟨2, ![1024, 896]⟩
abbrev S8192x896 : Shape := ⟨2, ![8192, 896]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | .hbm, ⟨3, _⟩ => ⟨S8192x896, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SmallDw.lean ====
abbrev S8192x1024 : Shape := ⟨2, ![8192, 1024]⟩
abbrev S1024x896 : Shape := ⟨2, ![1024, 896]⟩
abbrev S8192x896 : Shape := ⟨2, ![8192, 896]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | .hbm, ⟨3, _⟩ => ⟨S8192x1024, .bf16⟩
  | .hbm, ⟨4, _⟩ => ⟨S8192x896, .bf16⟩
  | .hbm, ⟨5, _⟩ => ⟨S1024x896, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SmallDwReferenceIdeal.lean ====
abbrev S8192x1024 : Shape := ⟨2, ![8192, 1024]⟩
abbrev S1024x896 : Shape := ⟨2, ![1024, 896]⟩
abbrev S8192x896 : Shape := ⟨2, ![8192, 896]⟩
abbrev S896x1024 : Shape := ⟨2, ![896, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | .hbm, ⟨3, _⟩ => ⟨S8192x896, .f32⟩
  | .hbm, ⟨4, _⟩ => ⟨S896x1024, .f32⟩
  | .hbm, ⟨5, _⟩ => ⟨S1024x896, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SmallDx.lean ====
abbrev S8192x1024 : Shape := ⟨2, ![8192, 1024]⟩
abbrev S1024x896 : Shape := ⟨2, ![1024, 896]⟩
abbrev S8192x896 : Shape := ⟨2, ![8192, 896]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | .hbm, ⟨3, _⟩ => ⟨S8192x1024, .f32⟩
  | .hbm, ⟨4, _⟩ => ⟨S8192x896, .bf16⟩
  | .hbm, ⟨5, _⟩ => ⟨S1024x896, .bf16⟩
  | .hbm, ⟨6, _⟩ => ⟨S8192x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SmallDxReferenceIdeal.lean ====
abbrev S8192x1024 : Shape := ⟨2, ![8192, 1024]⟩
abbrev S1024x896 : Shape := ⟨2, ![1024, 896]⟩
abbrev S8192x896 : Shape := ⟨2, ![8192, 896]⟩
abbrev S896x1024 : Shape := ⟨2, ![896, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x896, .f32⟩
  | .hbm, ⟨2, _⟩ => ⟨S8192x896, .f32⟩
  | .hbm, ⟨3, _⟩ => ⟨S8192x1024, .f32⟩
  | .hbm, ⟨4, _⟩ => ⟨S8192x896, .f32⟩
  | .hbm, ⟨5, _⟩ => ⟨S896x1024, .f32⟩
  | .hbm, ⟨6, _⟩ => ⟨S1024x896, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UqFwd.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .bf16⟩
  | .local _ .vmem, ⟨4, _⟩ => ⟨S1024x1024, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqFwdReferenceIdeal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqDw.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .bf16⟩
  | .hbm, ⟨4, _⟩ => ⟨S8192x1024, .bf16⟩
  | .hbm, ⟨5, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwReferenceIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S1024x384, .f32⟩
  | .hbm, ⟨5, _⟩ => ⟨S384x1024, .f32⟩
  | .hbm, ⟨6, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UqDx.lean ====
abbrev S8192x384 : Shape := ⟨2, ![8192, 384]⟩
abbrev S384x1024 : Shape := ⟨2, ![384, 1024]⟩
abbrev S8192x1024 : Shape := ⟨2, ![8192, 1024]⟩
abbrev S1024x1024 : Shape := ⟨2, ![1024, 1024]⟩
abbrev S1024x384 : Shape := ⟨2, ![1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .bf16⟩
  | .hbm, ⟨4, _⟩ => ⟨S384x1024, .bf16⟩
  | .hbm, ⟨5, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxReferenceIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S1024x384, .f32⟩
  | .hbm, ⟨5, _⟩ => ⟨S384x1024, .f32⟩
  | .hbm, ⟨6, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkvFwd.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x256, .bf16⟩
  | .hbm, ⟨3, _⟩ => ⟨S256x1024, .bf16⟩
  | .hbm, ⟨4, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvFwdReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UkvDw.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x256, .bf16⟩
  | .hbm, ⟨4, _⟩ => ⟨S8192x1024, .bf16⟩
  | .hbm, ⟨5, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkvDx.lean ====
abbrev S8192x256 : Shape := ⟨2, ![8192, 256]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .bf16⟩
  | .hbm, ⟨4, _⟩ => ⟨S256x1024, .bf16⟩
  | .hbm, ⟨5, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x1024, .f32⟩
  | .hbm, ⟨4, _⟩ => ⟨S1024x256, .f32⟩
  | .hbm, ⟨5, _⟩ => ⟨S256x1024, .f32⟩
  | .hbm, ⟨6, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkvDxAdd.lean ====
abbrev S8192x256 : Shape := ⟨2, ![8192, 256]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x256, .f32⟩
  | .hbm, ⟨4, _⟩ => ⟨S8192x1024, .bf16⟩
  | .hbm, ⟨5, _⟩ => ⟨S256x1024, .bf16⟩
  | .hbm, ⟨6, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UkvDxAddReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .f32⟩
  | .hbm, ⟨2, _⟩ => ⟨S8192x1024, .f32⟩
  | .hbm, ⟨3, _⟩ => ⟨S8192x256, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S8192x256, .f32⟩
  | .hbm, ⟨8, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergeFwd.lean ====
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S1024x1024, .f32⟩
  | .hbm, ⟨5, _⟩ => ⟨S8192x2048, .bf16⟩
  | .hbm, ⟨6, _⟩ => ⟨S8192x1024, .bf16⟩
  | .hbm, ⟨7, _⟩ => ⟨S8192x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdReferenceIdeal.lean ====
abbrev S8192x1024 : Shape := ⟨2, ![8192, 1024]⟩
abbrev S8192x2048 : Shape := ⟨2, ![8192, 2048]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MergeBwd.lean ====
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x2048, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdReferenceIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AbFwd.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x1024, .bf16⟩
  | .hbm, ⟨3, _⟩ => ⟨S1024x256, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbFwdReferenceIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbDw.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .bf16⟩
  | .hbm, ⟨4, _⟩ => ⟨S8192x256, .bf16⟩
  | .hbm, ⟨5, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AbDwReferenceIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x256, .f32⟩
  | .hbm, ⟨4, _⟩ => ⟨S256x1024, .f32⟩
  | .hbm, ⟨5, _⟩ => ⟨S1024x256, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AbDx.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .f32⟩
  | .hbm, ⟨4, _⟩ => ⟨S8192x256, .bf16⟩
  | .hbm, ⟨5, _⟩ => ⟨S1024x256, .bf16⟩
  | .hbm, ⟨6, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbDxReferenceIdeal.lean ====
abbrev S8192x1024 : Shape := ⟨2, ![8192, 1024]⟩
abbrev S1024x256 : Shape := ⟨2, ![1024, 256]⟩
abbrev S8192x256 : Shape := ⟨2, ![8192, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | .hbm, ⟨3, _⟩ => ⟨S8192x1024, .f32⟩
  | .hbm, ⟨4, _⟩ => ⟨S8192x256, .f32⟩
  | .hbm, ⟨5, _⟩ => ⟨S256x1024, .f32⟩
  | .hbm, ⟨6, _⟩ => ⟨S1024x256, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QpFwd.lean ====
abbrev S8192x384 : Shape := ⟨2, ![8192, 384]⟩
abbrev S384x2048 : Shape := ⟨2, ![384, 2048]⟩
abbrev S8192x2048 : Shape := ⟨2, ![8192, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x384, .bf16⟩
  | .hbm, ⟨3, _⟩ => ⟨S384x2048, .bf16⟩
  | .hbm, ⟨4, _⟩ => ⟨S8192x2048, .bf16⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .bf16⟩
  | .local _ .vmem, ⟨5, _⟩ => ⟨S1024x1024, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QpFwdReferenceIdeal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x2048, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqDxAdd.lean ====
abbrev S8192x384 : Shape := ⟨2, ![8192, 384]⟩
abbrev S384x1024 : Shape := ⟨2, ![384, 1024]⟩
abbrev S8192x1024 : Shape := ⟨2, ![8192, 1024]⟩
abbrev S1024x1024 : Shape := ⟨2, ![1024, 1024]⟩
abbrev S1024x384 : Shape := ⟨2, ![1024, 384]⟩

abbrev nBuf : Space → Nat
  | .hbm => 7
  | .vmem => 7
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .f32⟩
  | .hbm, ⟨4, _⟩ => ⟨S8192x1024, .bf16⟩
  | .hbm, ⟨5, _⟩ => ⟨S384x1024, .bf16⟩
  | .hbm, ⟨6, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UqDxAddReferenceIdeal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .f32⟩
  | .hbm, ⟨4, _⟩ => ⟨S8192x1024, .f32⟩
  | .hbm, ⟨5, _⟩ => ⟨S1024x384, .f32⟩
  | .hbm, ⟨6, _⟩ => ⟨S384x1024, .f32⟩
  | .hbm, ⟨7, _⟩ => ⟨S8192x384, .f32⟩
  | .hbm, ⟨8, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AdamIn.lean ====
abbrev S8x1024x896 : Shape := ⟨3, ![8, 1024, 896]⟩
abbrev S1024x896 : Shape := ⟨2, ![1024, 896]⟩
abbrev S8192x896 : Shape := ⟨2, ![8192, 896]⟩
abbrev S256x896 : Shape := ⟨2, ![256, 896]⟩

abbrev nBuf : Space → Nat
  | .hbm => 10
  | .vmem => 30
  | .smem => 0
  | _ => 0

abbrev bufTy : (tb : Table) → Fin (tcTables nBuf tb) → BufTy
  | .hbm, ⟨0, _⟩ => ⟨S8x1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S8192x896, .f32⟩
  | .hbm, ⟨5, _⟩ => ⟨S8192x896, .bf16⟩
  | .hbm, ⟨6, _⟩ => ⟨S1024x896, .f32⟩
  | .hbm, ⟨7, _⟩ => ⟨S1024x896, .f32⟩
  | .hbm, ⟨8, _⟩ => ⟨S1024x896, .f32⟩
  | .hbm, ⟨9, _⟩ => ⟨S1024x896, .f32⟩
  | .local _ .vmem, ⟨0, _⟩ => ⟨S256x896, .bf16⟩
  | .local _ .vmem, ⟨1, _⟩ => ⟨S256x896, .bf16⟩
  | .local _ .vmem, ⟨2, _⟩ => ⟨S256x896, .bf16⟩
  | .local _ .vmem, ⟨3, _⟩ => ⟨S256x896, .bf16⟩
  | .local _ .vmem, ⟨4, _⟩ => ⟨S256x896, .bf16⟩
  | .local _ .vmem, ⟨5, _⟩ => ⟨S256x896, .bf16⟩
  | .local _ .vmem, ⟨6, _⟩ => ⟨S256x896, .bf16⟩
  | .local _ .vmem, ⟨7, _⟩ => ⟨S256x896, .bf16⟩
  | .local _ .vmem, ⟨8, _⟩ => ⟨S256x896, .bf16⟩
  | .local _ .vmem, ⟨9, _⟩ => ⟨S256x896, .bf16⟩
  | .local _ .vmem, ⟨10, _⟩ => ⟨S256x896, .bf16⟩
  | .local _ .vmem, ⟨11, _⟩ => ⟨S256x896, .bf16⟩
  | .local _ .vmem, ⟨12, _⟩ => ⟨S256x896, .bf16⟩
  | .local _ .vmem, ⟨13, _⟩ => ⟨S256x896, .bf16⟩
  | .local _ .vmem, ⟨14, _⟩ => ⟨S256x896, .bf16⟩
  | .local _ .vmem, ⟨15, _⟩ => ⟨S256x896, .bf16⟩
  | .local _ .vmem, ⟨16, _⟩ => ⟨S256x896, .f32⟩
  | .local _ .vmem, ⟨17, _⟩ => ⟨S256x896, .f32⟩
  | .local _ .vmem, ⟨18, _⟩ => ⟨S256x896, .f32⟩
  | .local _ .vmem, ⟨19, _⟩ => ⟨S256x896, .f32⟩
  | .local _ .vmem, ⟨20, _⟩ => ⟨S256x896, .f32⟩
  | .local _ .vmem, ⟨21, _⟩ => ⟨S256x896, .f32⟩
  | .local _ .vmem, ⟨22, _⟩ => ⟨S256x896, .f32⟩
  | .local _ .vmem, ⟨23, _⟩ => ⟨S256x896, .f32⟩
  | .local _ .vmem, ⟨24, _⟩ => ⟨S256x896, .f32⟩
  | .local _ .vmem, ⟨25, _⟩ => ⟨S256x896, .f32⟩
  | .local _ .vmem, ⟨26, _⟩ => ⟨S256x896, .f32⟩
  | .local _ .vmem, ⟨27, _⟩ => ⟨S256x896, .f32⟩
  | .local _ .vmem, ⟨28, _⟩ => ⟨S256x896, .f32⟩
  | .local _ .vmem, ⟨29, _⟩ => ⟨S256x896, .f32⟩
  | _, _ => ⟨S8x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x896 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x896 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x896 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamInReferenceIdeal.lean ====
abbrev S8x1024x896 : Shape := ⟨3, ![8, 1024, 896]⟩
abbrev S1024x896 : Shape := ⟨2, ![1024, 896]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S_, .f32⟩
  | .hbm, ⟨7, _⟩ => ⟨S1024x896, .f32⟩
  | .hbm, ⟨8, _⟩ => ⟨S1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S_, .f32⟩
  | .hbm, ⟨14, _⟩ => ⟨S1024x896, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S_, .f32⟩
  | .hbm, ⟨29, _⟩ => ⟨S1024x896, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | _, _ => ⟨S8x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamQ.lean ====
abbrev S8x640x256 : Shape := ⟨3, ![8, 640, 256]⟩
abbrev S640x256 : Shape := ⟨2, ![640, 256]⟩
abbrev S5120x256 : Shape := ⟨2, ![5120, 256]⟩
abbrev S128x256 : Shape := ⟨2, ![128, 256]⟩

abbrev nBuf : Space → Nat
  | .hbm => 10
  | .vmem => 30
  | .smem => 0
  | _ => 0

abbrev bufTy : (tb : Table) → Fin (tcTables nBuf tb) → BufTy
  | .hbm, ⟨0, _⟩ => ⟨S8x640x256, .f32⟩
  | .hbm, ⟨1, _⟩ => ⟨S640x256, .f32⟩
  | .hbm, ⟨2, _⟩ => ⟨S640x256, .f32⟩
  | .hbm, ⟨3, _⟩ => ⟨S640x256, .f32⟩
  | .hbm, ⟨4, _⟩ => ⟨S5120x256, .f32⟩
  | .hbm, ⟨5, _⟩ => ⟨S5120x256, .bf16⟩
  | .hbm, ⟨6, _⟩ => ⟨S640x256, .f32⟩
  | .hbm, ⟨7, _⟩ => ⟨S640x256, .f32⟩
  | .hbm, ⟨8, _⟩ => ⟨S640x256, .f32⟩
  | .hbm, ⟨9, _⟩ => ⟨S640x256, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | _, _ => ⟨S8x640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c30_i32 : BitVec 32 := 30#32
  let v0 : BitVec 32 := Scalar.addi c30_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c35_i32 : BitVec 32 := 35#32
  let v0 : BitVec 32 := Scalar.addi c35_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamQReferenceIdeal.lean ====
abbrev S8x640x256 : Shape := ⟨3, ![8, 640, 256]⟩
abbrev S640x256 : Shape := ⟨2, ![640, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x640x256, .f32⟩
  | .hbm, ⟨1, _⟩ => ⟨S640x256, .f32⟩
  | .hbm, ⟨2, _⟩ => ⟨S640x256, .f32⟩
  | .hbm, ⟨3, _⟩ => ⟨S640x256, .f32⟩
  | .hbm, ⟨4, _⟩ => ⟨S_, .f32⟩
  | .hbm, ⟨5, _⟩ => ⟨S640x256, .f32⟩
  | .hbm, ⟨6, _⟩ => ⟨S_, .f32⟩
  | .hbm, ⟨7, _⟩ => ⟨S640x256, .f32⟩
  | .hbm, ⟨8, _⟩ => ⟨S640x256, .f32⟩
  | .hbm, ⟨9, _⟩ => ⟨S_, .f32⟩
  | .hbm, ⟨10, _⟩ => ⟨S640x256, .f32⟩
  | .hbm, ⟨11, _⟩ => ⟨S640x256, .f32⟩
  | .hbm, ⟨12, _⟩ => ⟨S640x256, .f32⟩
  | .hbm, ⟨13, _⟩ => ⟨S_, .f32⟩
  | .hbm, ⟨14, _⟩ => ⟨S640x256, .f32⟩
  | .hbm, ⟨15, _⟩ => ⟨S640x256, .f32⟩
  | .hbm, ⟨16, _⟩ => ⟨S640x256, .f32⟩
  | .hbm, ⟨17, _⟩ => ⟨S_, .f32⟩
  | .hbm, ⟨18, _⟩ => ⟨S640x256, .f32⟩
  | .hbm, ⟨19, _⟩ => ⟨S640x256, .f32⟩
  | .hbm, ⟨20, _⟩ => ⟨S640x256, .f32⟩
  | .hbm, ⟨21, _⟩ => ⟨S_, .f32⟩
  | .hbm, ⟨22, _⟩ => ⟨S640x256, .f32⟩
  | .hbm, ⟨23, _⟩ => ⟨S640x256, .f32⟩
  | .hbm, ⟨24, _⟩ => ⟨S_, .f32⟩
  | .hbm, ⟨25, _⟩ => ⟨S640x256, .f32⟩
  | .hbm, ⟨26, _⟩ => ⟨S640x256, .f32⟩
  | .hbm, ⟨27, _⟩ => ⟨S640x256, .f32⟩
  | .hbm, ⟨28, _⟩ => ⟨S_, .f32⟩
  | .hbm, ⟨29, _⟩ => ⟨S640x256, .f32⟩
  | .hbm, ⟨30, _⟩ => ⟨S640x256, .f32⟩
  | .hbm, ⟨31, _⟩ => ⟨S640x256, .f32⟩
  | .hbm, ⟨32, _⟩ => ⟨S_, .f32⟩
  | .hbm, ⟨33, _⟩ => ⟨S640x256, .f32⟩
  | .hbm, ⟨34, _⟩ => ⟨S640x256, .f32⟩
  | .hbm, ⟨35, _⟩ => ⟨S640x256, .f32⟩
  | .hbm, ⟨36, _⟩ => ⟨S_, .f32⟩
  | .hbm, ⟨37, _⟩ => ⟨S640x256, .f32⟩
  | .hbm, ⟨38, _⟩ => ⟨S640x256, .f32⟩
  | _, _ => ⟨S8x640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamC.lean ====
abbrev S8x736x1024 : Shape := ⟨3, ![8, 736, 1024]⟩
abbrev S736x1024 : Shape := ⟨2, ![736, 1024]⟩
abbrev S5888x1024 : Shape := ⟨2, ![5888, 1024]⟩
abbrev S368x1024 : Shape := ⟨2, ![368, 1024]⟩

abbrev nBuf : Space → Nat
  | .hbm => 10
  | .vmem => 30
  | .smem => 0
  | _ => 0

abbrev bufTy : (tb : Table) → Fin (tcTables nBuf tb) → BufTy
  | .hbm, ⟨0, _⟩ => ⟨S8x736x1024, .f32⟩
  | .hbm, ⟨1, _⟩ => ⟨S736x1024, .f32⟩
  | .hbm, ⟨2, _⟩ => ⟨S736x1024, .f32⟩
  | .hbm, ⟨3, _⟩ => ⟨S736x1024, .f32⟩
  | .hbm, ⟨4, _⟩ => ⟨S5888x1024, .f32⟩
  | .hbm, ⟨5, _⟩ => ⟨S5888x1024, .bf16⟩
  | .hbm, ⟨6, _⟩ => ⟨S736x1024, .f32⟩
  | .hbm, ⟨7, _⟩ => ⟨S736x1024, .f32⟩
  | .hbm, ⟨8, _⟩ => ⟨S736x1024, .f32⟩
  | .hbm, ⟨9, _⟩ => ⟨S736x1024, .f32⟩
  | .local _ .vmem, ⟨0, _⟩ => ⟨S368x1024, .bf16⟩
  | .local _ .vmem, ⟨1, _⟩ => ⟨S368x1024, .bf16⟩
  | .local _ .vmem, ⟨2, _⟩ => ⟨S368x1024, .bf16⟩
  | .local _ .vmem, ⟨3, _⟩ => ⟨S368x1024, .bf16⟩
  | .local _ .vmem, ⟨4, _⟩ => ⟨S368x1024, .bf16⟩
  | .local _ .vmem, ⟨5, _⟩ => ⟨S368x1024, .bf16⟩
  | .local _ .vmem, ⟨6, _⟩ => ⟨S368x1024, .bf16⟩
  | .local _ .vmem, ⟨7, _⟩ => ⟨S368x1024, .bf16⟩
  | .local _ .vmem, ⟨8, _⟩ => ⟨S368x1024, .bf16⟩
  | .local _ .vmem, ⟨9, _⟩ => ⟨S368x1024, .bf16⟩
  | .local _ .vmem, ⟨10, _⟩ => ⟨S368x1024, .bf16⟩
  | .local _ .vmem, ⟨11, _⟩ => ⟨S368x1024, .bf16⟩
  | .local _ .vmem, ⟨12, _⟩ => ⟨S368x1024, .bf16⟩
  | .local _ .vmem, ⟨13, _⟩ => ⟨S368x1024, .bf16⟩
  | .local _ .vmem, ⟨14, _⟩ => ⟨S368x1024, .bf16⟩
  | .local _ .vmem, ⟨15, _⟩ => ⟨S368x1024, .bf16⟩
  | .local _ .vmem, ⟨16, _⟩ => ⟨S368x1024, .f32⟩
  | .local _ .vmem, ⟨17, _⟩ => ⟨S368x1024, .f32⟩
  | .local _ .vmem, ⟨18, _⟩ => ⟨S368x1024, .f32⟩
  | .local _ .vmem, ⟨19, _⟩ => ⟨S368x1024, .f32⟩
  | .local _ .vmem, ⟨20, _⟩ => ⟨S368x1024, .f32⟩
  | .local _ .vmem, ⟨21, _⟩ => ⟨S368x1024, .f32⟩
  | .local _ .vmem, ⟨22, _⟩ => ⟨S368x1024, .f32⟩
  | .local _ .vmem, ⟨23, _⟩ => ⟨S368x1024, .f32⟩
  | .local _ .vmem, ⟨24, _⟩ => ⟨S368x1024, .f32⟩
  | .local _ .vmem, ⟨25, _⟩ => ⟨S368x1024, .f32⟩
  | .local _ .vmem, ⟨26, _⟩ => ⟨S368x1024, .f32⟩
  | .local _ .vmem, ⟨27, _⟩ => ⟨S368x1024, .f32⟩
  | .local _ .vmem, ⟨28, _⟩ => ⟨S368x1024, .f32⟩
  | .local _ .vmem, ⟨29, _⟩ => ⟨S368x1024, .f32⟩
  | _, _ => ⟨S8x736x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S368x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S368x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S368x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S368x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S368x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S368x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S368x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S368x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S368x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamCReferenceIdeal.lean ====
abbrev S8x736x1024 : Shape := ⟨3, ![8, 736, 1024]⟩
abbrev S736x1024 : Shape := ⟨2, ![736, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x736x1024, .f32⟩
  | .hbm, ⟨1, _⟩ => ⟨S736x1024, .f32⟩
  | .hbm, ⟨2, _⟩ => ⟨S736x1024, .f32⟩
  | .hbm, ⟨3, _⟩ => ⟨S736x1024, .f32⟩
  | .hbm, ⟨4, _⟩ => ⟨S_, .f32⟩
  | .hbm, ⟨5, _⟩ => ⟨S736x1024, .f32⟩
  | .hbm, ⟨6, _⟩ => ⟨S_, .f32⟩
  | .hbm, ⟨7, _⟩ => ⟨S736x1024, .f32⟩
  | .hbm, ⟨8, _⟩ => ⟨S736x1024, .f32⟩
  | .hbm, ⟨9, _⟩ => ⟨S_, .f32⟩
  | .hbm, ⟨10, _⟩ => ⟨S736x1024, .f32⟩
  | .hbm, ⟨11, _⟩ => ⟨S736x1024, .f32⟩
  | .hbm, ⟨12, _⟩ => ⟨S736x1024, .f32⟩
  | .hbm, ⟨13, _⟩ => ⟨S_, .f32⟩
  | .hbm, ⟨14, _⟩ => ⟨S736x1024, .f32⟩
  | .hbm, ⟨15, _⟩ => ⟨S736x1024, .f32⟩
  | .hbm, ⟨16, _⟩ => ⟨S736x1024, .f32⟩
  | .hbm, ⟨17, _⟩ => ⟨S_, .f32⟩
  | .hbm, ⟨18, _⟩ => ⟨S736x1024, .f32⟩
  | .hbm, ⟨19, _⟩ => ⟨S736x1024, .f32⟩
  | .hbm, ⟨20, _⟩ => ⟨S736x1024, .f32⟩
  | .hbm, ⟨21, _⟩ => ⟨S_, .f32⟩
  | .hbm, ⟨22, _⟩ => ⟨S736x1024, .f32⟩
  | .hbm, ⟨23, _⟩ => ⟨S736x1024, .f32⟩
  | .hbm, ⟨24, _⟩ => ⟨S_, .f32⟩
  | .hbm, ⟨25, _⟩ => ⟨S736x1024, .f32⟩
  | .hbm, ⟨26, _⟩ => ⟨S736x1024, .f32⟩
  | .hbm, ⟨27, _⟩ => ⟨S736x1024, .f32⟩
  | .hbm, ⟨28, _⟩ => ⟨S_, .f32⟩
  | .hbm, ⟨29, _⟩ => ⟨S736x1024, .f32⟩
  | .hbm, ⟨30, _⟩ => ⟨S736x1024, .f32⟩
  | .hbm, ⟨31, _⟩ => ⟨S736x1024, .f32⟩
  | .hbm, ⟨32, _⟩ => ⟨S_, .f32⟩
  | .hbm, ⟨33, _⟩ => ⟨S736x1024, .f32⟩
  | .hbm, ⟨34, _⟩ => ⟨S736x1024, .f32⟩
  | .hbm, ⟨35, _⟩ => ⟨S736x1024, .f32⟩
  | .hbm, ⟨36, _⟩ => ⟨S_, .f32⟩
  | .hbm, ⟨37, _⟩ => ⟨S736x1024, .f32⟩
  | .hbm, ⟨38, _⟩ => ⟨S736x1024, .f32⟩
  | _, _ => ⟨S8x736x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamV.lean ====
abbrev S8x16x768 : Shape := ⟨3, ![8, 16, 768]⟩
abbrev S16x768 : Shape := ⟨2, ![16, 768]⟩
abbrev S128x768 : Shape := ⟨2, ![128, 768]⟩

abbrev nBuf : Space → Nat
  | .hbm => 9
  | .vmem => 15
  | .smem => 0
  | _ => 0

abbrev bufTy : (tb : Table) → Fin (tcTables nBuf tb) → BufTy
  | .hbm, ⟨0, _⟩ => ⟨S8x16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S128x768, .f32⟩
  | .hbm, ⟨5, _⟩ => ⟨S16x768, .f32⟩
  | .hbm, ⟨6, _⟩ => ⟨S16x768, .f32⟩
  | .hbm, ⟨7, _⟩ => ⟨S16x768, .f32⟩
  | .hbm, ⟨8, _⟩ => ⟨S16x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | .local _ .vmem, ⟨7, _⟩ => ⟨S16x768, .f32⟩
  | .local _ .vmem, ⟨8, _⟩ => ⟨S16x768, .f32⟩
  | .local _ .vmem, ⟨9, _⟩ => ⟨S16x768, .f32⟩
  | .local _ .vmem, ⟨10, _⟩ => ⟨S16x768, .f32⟩
  | .local _ .vmem, ⟨11, _⟩ => ⟨S16x768, .f32⟩
  | .local _ .vmem, ⟨12, _⟩ => ⟨S16x768, .f32⟩
  | .local _ .vmem, ⟨13, _⟩ => ⟨S16x768, .f32⟩
  | .local _ .vmem, ⟨14, _⟩ => ⟨S16x768, .f32⟩
  | _, _ => ⟨S8x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S16x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S16x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S16x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S16x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S16x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== AdamVReferenceIdeal.lean ====
abbrev S8x16x768 : Shape := ⟨3, ![8, 16, 768]⟩
abbrev S16x768 : Shape := ⟨2, ![16, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S_, .f32⟩
  | .hbm, ⟨5, _⟩ => ⟨S16x768, .f32⟩
  | .hbm, ⟨6, _⟩ => ⟨S_, .f32⟩
  | .hbm, ⟨7, _⟩ => ⟨S16x768, .f32⟩
  | .hbm, ⟨8, _⟩ => ⟨S16x768, .f32⟩
  | .hbm, ⟨9, _⟩ => ⟨S_, .f32⟩
  | .hbm, ⟨10, _⟩ => ⟨S16x768, .f32⟩
  | .hbm, ⟨11, _⟩ => ⟨S16x768, .f32⟩
  | .hbm, ⟨12, _⟩ => ⟨S16x768, .f32⟩
  | .hbm, ⟨13, _⟩ => ⟨S_, .f32⟩
  | .hbm, ⟨14, _⟩ => ⟨S16x768, .f32⟩
  | .hbm, ⟨15, _⟩ => ⟨S16x768, .f32⟩
  | .hbm, ⟨16, _⟩ => ⟨S16x768, .f32⟩
  | .hbm, ⟨17, _⟩ => ⟨S_, .f32⟩
  | .hbm, ⟨18, _⟩ => ⟨S16x768, .f32⟩
  | .hbm, ⟨19, _⟩ => ⟨S16x768, .f32⟩
  | .hbm, ⟨20, _⟩ => ⟨S16x768, .f32⟩
  | .hbm, ⟨21, _⟩ => ⟨S_, .f32⟩
  | .hbm, ⟨22, _⟩ => ⟨S16x768, .f32⟩
  | .hbm, ⟨23, _⟩ => ⟨S16x768, .f32⟩
  | .hbm, ⟨24, _⟩ => ⟨S_, .f32⟩
  | .hbm, ⟨25, _⟩ => ⟨S16x768, .f32⟩
  | .hbm, ⟨26, _⟩ => ⟨S16x768, .f32⟩
  | .hbm, ⟨27, _⟩ => ⟨S16x768, .f32⟩
  | .hbm, ⟨28, _⟩ => ⟨S_, .f32⟩
  | .hbm, ⟨29, _⟩ => ⟨S16x768, .f32⟩
  | .hbm, ⟨30, _⟩ => ⟨S16x768, .f32⟩
  | .hbm, ⟨31, _⟩ => ⟨S16x768, .f32⟩
  | .hbm, ⟨32, _⟩ => ⟨S_, .f32⟩
  | .hbm, ⟨33, _⟩ => ⟨S16x768, .f32⟩
  | .hbm, ⟨34, _⟩ => ⟨S16x768, .f32⟩
  | .hbm, ⟨35, _⟩ => ⟨S16x768, .f32⟩
  | .hbm, ⟨36, _⟩ => ⟨S_, .f32⟩
  | .hbm, ⟨37, _⟩ => ⟨S16x768, .f32⟩
  | .hbm, ⟨38, _⟩ => ⟨S16x768, .f32⟩
  | _, _ => ⟨S8x16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x32x128 : Shape := ⟨3, ![8, 32, 128]⟩
abbrev S32x128 : Shape := ⟨2, ![32, 128]⟩
abbrev S256x128 : Shape := ⟨2, ![256, 128]⟩

abbrev nBuf : Space → Nat
  | .hbm => 9
  | .vmem => 15
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S256x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== AdamSmallReferenceIdeal.lean ====
abbrev S8x32x128 : Shape := ⟨3, ![8, 32, 128]⟩
abbrev S32x128 : Shape := ⟨2, ![32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RopeFwd.lean ====
abbrev S8192x2048 : Shape := ⟨2, ![8192, 2048]⟩
abbrev S4096x128 : Shape := ⟨2, ![4096, 128]⟩
abbrev S8192x1024 : Shape := ⟨2, ![8192, 1024]⟩
abbrev S1024x1024 : Shape := ⟨2, ![1024, 1024]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4096x128, .f32⟩
  | .hbm, ⟨2, _⟩ => ⟨S4096x128, .f32⟩
  | .hbm, ⟨3, _⟩ => ⟨S8192x2048, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeFwdReferenceIdeal.lean ====
abbrev S8192x2048 : Shape := ⟨2, ![8192, 2048]⟩
abbrev S4096x128 : Shape := ⟨2, ![4096, 128]⟩
abbrev S8192x1024 : Shape := ⟨2, ![8192, 1024]⟩
abbrev S2x4096x8x128 : Shape := ⟨4, ![2, 4096, 8, 128]⟩
abbrev S1x4096x1x128 : Shape := ⟨4, ![1, 4096, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x128, .f32⟩
  | .hbm, ⟨2, _⟩ => ⟨S4096x128, .f32⟩
  | .hbm, ⟨3, _⟩ => ⟨S8192x1024, .f32⟩
  | .hbm, ⟨4, _⟩ => ⟨S8192x1024, .f32⟩
  | .hbm, ⟨5, _⟩ => ⟨S2x4096x8x128, .f32⟩
  | .hbm, ⟨6, _⟩ => ⟨S1x4096x1x128, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S1x4096x1x128, .f32⟩
  | .hbm, ⟨11, _⟩ => ⟨S2x4096x8x128, .f32⟩
  | .hbm, ⟨12, _⟩ => ⟨S2x4096x8x128, .f32⟩
  | .hbm, ⟨13, _⟩ => ⟨S2x4096x8x128, .f32⟩
  | .hbm, ⟨14, _⟩ => ⟨S8192x1024, .f32⟩
  | .hbm, ⟨15, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== RopeBwd.lean ====
abbrev S8192x1024 : Shape := ⟨2, ![8192, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4096x128, .f32⟩
  | .hbm, ⟨3, _⟩ => ⟨S4096x128, .f32⟩
  | .hbm, ⟨4, _⟩ => ⟨S8192x1024, .f32⟩
  | .hbm, ⟨5, _⟩ => ⟨S8192x1024, .bf16⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeBwdReferenceIdeal.lean ====
abbrev S8192x1024 : Shape := ⟨2, ![8192, 1024]⟩
abbrev S4096x128 : Shape := ⟨2, ![4096, 128]⟩
abbrev S2x4096x8x128 : Shape := ⟨4, ![2, 4096, 8, 128]⟩
abbrev S1x4096x1x128 : Shape := ⟨4, ![1, 4096, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4096x128, .f32⟩
  | .hbm, ⟨3, _⟩ => ⟨S4096x128, .f32⟩
  | .hbm, ⟨4, _⟩ => ⟨S8192x1024, .f32⟩
  | .hbm, ⟨5, _⟩ => ⟨S2x4096x8x128, .f32⟩
  | .hbm, ⟨6, _⟩ => ⟨S1x4096x1x128, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S1x4096x1x128, .f32⟩
  | .hbm, ⟨11, _⟩ => ⟨S2x4096x8x128, .f32⟩
  | .hbm, ⟨12, _⟩ => ⟨S2x4096x8x128, .f32⟩
  | .hbm, ⟨13, _⟩ => ⟨S2x4096x8x128, .f32⟩
  | .hbm, ⟨14, _⟩ => ⟨S8192x1024, .f32⟩
  | .hbm, ⟨15, _⟩ => ⟨S2x4096x8x128, .f32⟩
  | .hbm, ⟨16, _⟩ => ⟨S2x4096x8x128, .f32⟩
  | .hbm, ⟨17, _⟩ => ⟨S2x4096x8x128, .f32⟩
  | .hbm, ⟨18, _⟩ => ⟨S8192x1024, .f32⟩
  | .hbm, ⟨19, _⟩ => ⟨S2x4096x8x128, .f32⟩
  | .hbm, ⟨20, _⟩ => ⟨S2x4096x8x128, .f32⟩
  | .hbm, ⟨21, _⟩ => ⟨S8192x1024, .f32⟩
  | .hbm, ⟨22, _⟩ => ⟨S8192x1024, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== PrepFwd.lean ====
abbrev S8192x896 : Shape := ⟨2, ![8192, 896]⟩
abbrev S4096x128 : Shape := ⟨2, ![4096, 128]⟩
abbrev S384 : Shape := ⟨1, ![384]⟩
abbrev S256 : Shape := ⟨1, ![256]⟩
abbrev S1x384 : Shape := ⟨2, ![1, 384]⟩
abbrev S1x256 : Shape := ⟨2, ![1, 256]⟩
abbrev S8192x384 : Shape := ⟨2, ![8192, 384]⟩
abbrev S8192x256 : Shape := ⟨2, ![8192, 256]⟩
abbrev S8192x128 : Shape := ⟨2, ![8192, 128]⟩
abbrev S1024x384 : Shape := ⟨2, ![1024, 384]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 22
  | .smem => 0
  | _ => 0

abbrev bufTy : (tb : Table) → Fin (tcTables nBuf tb) → BufTy
  | .hbm, ⟨0, _⟩ => ⟨S8192x896, .f32⟩
  | .hbm, ⟨1, _⟩ => ⟨S4096x128, .f32⟩
  | .hbm, ⟨2, _⟩ => ⟨S4096x128, .f32⟩
  | .hbm, ⟨3, _⟩ => ⟨S384, .f32⟩
  | .hbm, ⟨4, _⟩ => ⟨S256, .f32⟩
  | .hbm, ⟨5, _⟩ => ⟨S8192x896, .bf16⟩
  | .hbm, ⟨6, _⟩ => ⟨S1x384, .f32⟩
  | .hbm, ⟨7, _⟩ => ⟨S1x256, .f32⟩
  | .hbm, ⟨8, _⟩ => ⟨S8192x384, .bf16⟩
  | .hbm, ⟨9, _⟩ => ⟨S8192x256, .bf16⟩
  | .hbm, ⟨10, _⟩ => ⟨S8192x128, .bf16⟩
  | .local _ .vmem, ⟨0, _⟩ => ⟨S1024x384, .bf16⟩
  | .local _ .vmem, ⟨1, _⟩ => ⟨S1024x384, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x384, .f32⟩
  | .local _ .vmem, ⟨15, _⟩ => ⟨S1x256, .f32⟩
  | .local _ .vmem, ⟨16, _⟩ => ⟨S1024x384, .bf16⟩
  | .local _ .vmem, ⟨17, _⟩ => ⟨S1024x384, .bf16⟩
  | .local _ .vmem, ⟨18, _⟩ => ⟨S1024x256, .bf16⟩
  | .local _ .vmem, ⟨19, _⟩ => ⟨S1024x256, .bf16⟩
  | .local _ .vmem, ⟨20, _⟩ => ⟨S1024x128, .bf16⟩
  | .local _ .vmem, ⟨21, _⟩ => ⟨S1024x128, .bf16⟩
  | _, _ => ⟨S8192x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepFwdReferenceIdeal.lean ====
abbrev S8192x896 : Shape := ⟨2, ![8192, 896]⟩
abbrev S4096x128 : Shape := ⟨2, ![4096, 128]⟩
abbrev S384 : Shape := ⟨1, ![384]⟩
abbrev S256 : Shape := ⟨1, ![256]⟩
abbrev S8192x384 : Shape := ⟨2, ![8192, 384]⟩
abbrev S8192x256 : Shape := ⟨2, ![8192, 256]⟩
abbrev S8192x128 : Shape := ⟨2, ![8192, 128]⟩
abbrev S2x4096x128 : Shape := ⟨3, ![2, 4096, 128]⟩
abbrev S1x4096x128 : Shape := ⟨3, ![1, 4096, 128]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S1x256 : Shape := ⟨2, ![1, 256]⟩

abbrev nBuf : Space → Nat
  | .hbm => 54
  | .vmem => 0
  | .smem => 0
  | _ => 0

abbrev bufTy : (tb : Table) → Fin (tcTables nBuf tb) → BufTy
  | .hbm, ⟨0, _⟩ => ⟨S8192x896, .f32⟩
  | .hbm, ⟨1, _⟩ => ⟨S4096x128, .f32⟩
  | .hbm, ⟨2, _⟩ => ⟨S4096x128, .f32⟩
  | .hbm, ⟨3, _⟩ => ⟨S384, .f32⟩
  | .hbm, ⟨4, _⟩ => ⟨S256, .f32⟩
  | .hbm, ⟨5, _⟩ => ⟨S8192x384, .f32⟩
  | .hbm, ⟨6, _⟩ => ⟨S8192x256, .f32⟩
  | .hbm, ⟨7, _⟩ => ⟨S8192x128, .f32⟩
  | .hbm, ⟨8, _⟩ => ⟨S8192x128, .f32⟩
  | .hbm, ⟨9, _⟩ => ⟨S2x4096x128, .f32⟩
  | .hbm, ⟨10, _⟩ => ⟨S1x4096x128, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S1x4096x128, .f32⟩
  | .hbm, ⟨15, _⟩ => ⟨S2x4096x128, .f32⟩
  | .hbm, ⟨16, _⟩ => ⟨S2x4096x128, .f32⟩
  | .hbm, ⟨17, _⟩ => ⟨S2x4096x128, .f32⟩
  | .hbm, ⟨18, _⟩ => ⟨S8192x384, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x384, .f32⟩
  | .hbm, ⟨30, _⟩ => ⟨S8192x384, .f32⟩
  | .hbm, ⟨31, _⟩ => ⟨S1x384, .f32⟩
  | .hbm, ⟨32, _⟩ => ⟨S8192x384, .f32⟩
  | .hbm, ⟨33, _⟩ => ⟨S8192x384, .f32⟩
  | .hbm, ⟨34, _⟩ => ⟨S8192x384, .bf16⟩
  | .hbm, ⟨35, _⟩ => ⟨S8192x256, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x256, .f32⟩
  | .hbm, ⟨47, _⟩ => ⟨S8192x256, .f32⟩
  | .hbm, ⟨48, _⟩ => ⟨S1x256, .f32⟩
  | .hbm, ⟨49, _⟩ => ⟨S8192x256, .f32⟩
  | .hbm, ⟨50, _⟩ => ⟨S8192x256, .f32⟩
  | .hbm, ⟨51, _⟩ => ⟨S8192x256, .bf16⟩
  | .hbm, ⟨52, _⟩ => ⟨S8192x128, .f32⟩
  | .hbm, ⟨53, _⟩ => ⟨S8192x128, .bf16⟩
  | _, _ => ⟨S8192x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== GdnOutFwd.lean ====
abbrev S8192x1024 : Shape := ⟨2, ![8192, 1024]⟩
abbrev S128 : Shape := ⟨1, ![128]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S8192x1024, .bf16⟩
  | .hbm, ⟨4, _⟩ => ⟨S1x128, .f32⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnOutFwdReferenceIdeal.lean ====
abbrev S8192x1024 : Shape := ⟨2, ![8192, 1024]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S8192x8x128, .f32⟩
  | .hbm, ⟨4, _⟩ => ⟨S8192x8x128, .f32⟩
  | .hbm, ⟨5, _⟩ => ⟨S_, .f32⟩
  | .hbm, ⟨6, _⟩ => ⟨S8192x8, .f32⟩
  | .hbm, ⟨7, _⟩ => ⟨S8192x8x1, .f32⟩
  | .hbm, ⟨8, _⟩ => ⟨S_, .f32⟩
  | .hbm, ⟨9, _⟩ => ⟨S8192x8x1, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S8192x8x1, .f32⟩
  | .hbm, ⟨15, _⟩ => ⟨S8192x8x128, .f32⟩
  | .hbm, ⟨16, _⟩ => ⟨S8192x8x128, .f32⟩
  | .hbm, ⟨17, _⟩ => ⟨S1x1x128, .f32⟩
  | .hbm, ⟨18, _⟩ => ⟨S8192x8x128, .f32⟩
  | .hbm, ⟨19, _⟩ => ⟨S8192x8x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S_, .f32⟩
  | .hbm, ⟨24, _⟩ => ⟨S8192x8x128, .f32⟩
  | .hbm, ⟨25, _⟩ => ⟨S8192x8x128, .f32⟩
  | .hbm, ⟨26, _⟩ => ⟨S_, .f32⟩
  | .hbm, ⟨27, _⟩ => ⟨S8192x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Pieces.lean ====
/- A block of eight heads written one head after another, and read head by head: along the leading axis of a stack of eight
   matrices, or along the columns of one matrix in which the heads lie side by side. -/
module

public import Idealize.ShloMosaic.Lib.Pipeline.Value
public import Idealize.ShloMosaic.Lib.Tactic
public import Idealize.ShloMosaic.Lib.Pointwise

@[expose] public section

set_option maxRecDepth 16384

noncomputable section

namespace Cert.Pieces

open Idealize.ShloMosaic Idealize.ShloMosaic.TcCoe Idealize.SL.Sem

variable {Val : EltTy → Type} {e : EltTy} {α : Type} {R C : ℕ}

/-- Eight matrices on top of each other. -/
abbrev Stack (R C : ℕ) : Shape := ⟨3, ![8, R, C]⟩
abbrev One (R C : ℕ) : Shape := ⟨3, ![1, R, C]⟩
/-- Eight matrices of 128 columns side by side. -/
abbrev Wide (R : ℕ) : Shape := ⟨2, ![R, 1024]⟩
abbrev Head (R : ℕ) : Shape := ⟨2, ![R, 128]⟩

/-- Head `h` of a stack. -/
def plane (X : (Stack R C).Idx → α) (h : Fin 8) : (One R C).Idx → α := fun i => X (ix3 h (i 1) (i 2))
/-- The first or the last 128 lanes of head `h` of a stack. -/
def lanes (o : ℕ) (ho : o + 128 ≤ C) (X : (Stack R C).Idx → α) (h : Fin 8) : (One R 128).Idx → α :=
  fun i => X (ix3 h (i 1) ⟨o + (i 2).val, by have h2 : (i 2).val < 128 := (i 2).isLt; omega⟩)
/-- Head `h` of the matrix in which the heads lie side by side. -/
def cols (X : (Wide R).Idx → α) (h : Fin 8) : (Head R).Idx → α :=
  fun i => X (ix2 (i 0) ⟨h.val * 128 + (i 1).val, by have h1 : (i 1).val < 128 := (i 1).isLt; have := h.isLt; omega⟩)

theorem ld_plane (X : (Stack R C).Idx → Val e) (h : Fin 8) (inb) :
    View.ld X (Rect.unit (s := Stack R C) ![h.val, 0, 0] ![1, R, C] inb) = plane X h := by
  funext i
  refine congrArg X (funext fun a => ?_)
  match a with
  | ⟨0, _⟩ => apply Fin.ext; have h0 : (i 0).val < 1 := (i 0).isLt; show h.val + 1 * (i 0).val = h.val; omega
  | ⟨1, _⟩ => apply Fin.ext; show 0 + 1 * (i 1).val = (i 1).val; omega
  | ⟨2, _⟩ => apply Fin.ext; show 0 + 1 * (i 2).val = (i 2).val; omega

theorem ld_lanes (o : ℕ) (ho : o + 128 ≤ C) (X : (Stack R C).Idx → Val e) (h : Fin 8) (inb) :
    View.ld X (Rect.unit (s := Stack R C) ![h.val, 0, o] ![1, R, 128] inb) = lanes o ho X h := by
  funext i
  refine congrArg X (funext fun a => ?_)
  match a with
  | ⟨0, _⟩ => apply Fin.ext; have h0 : (i 0).val < 1 := (i 0).isLt; show h.val + 1 * (i 0).val = h.val; omega
  | ⟨1, _⟩ => apply Fin.ext; show 0 + 1 * (i 1).val = (i 1).val; omega
  | ⟨2, _⟩ => apply Fin.ext; show o + 1 * (i 2).val = o + (i 2).val; omega

theorem ld_cols (X : (Wide R).Idx → Val e) (h : Fin 8) (inb) :
    View.ld X (Rect.unit (s := Wide R) ![0, h.val * 128] ![R, 128] inb) = cols X h := by
  funext i
  refine congrArg X (funext fun a => ?_)
  match a with
  | ⟨0, _⟩ => apply Fin.ext; show 0 + 1 * (i 0).val = (i 0).val; omega
  | ⟨1, _⟩ => apply Fin.ext; show h.val * 128 + 1 * (i 1).val = h.val * 128 + (i 1).val; omega

variable [∀ e, Nonempty (Val e)]

/-- Above one write of head `k`, an index of head `k` reads the write and any other index what was there before. -/
theorem canon_plane (k : ℕ) (inb) (w : (One R C).Idx → Val e) (L : List (View.Piece Val (Stack R C) e)) (y : (Stack R C).Idx) :
    View.canon (⟨Rect.unit (s := Stack R C) ![k, 0, 0] ![1, R, C] inb, w⟩ :: L) y
      = if (y 0).val = k then w (ix3 0 (y 1) (y 2)) else View.canon L y := by
  split
  · rename_i hy
    have hy' : (Rect.unit (s := Stack R C) ![k, 0, 0] ![1, R, C] inb).emb (ix3 (0 : Fin 1) (y 1) (y 2)) = y := by
      funext a
      match a with
      | ⟨0, _⟩ => apply Fin.ext; show k + 1 * 0 = (y 0).val; omega
      | ⟨1, _⟩ => apply Fin.ext; show 0 + 1 * (y 1).val = (y 1).val; omega
      | ⟨2, _⟩ => apply Fin.ext; show 0 + 1 * (y 2).val = (y 2).val; omega
    exact (congrArg _ hy'.symm).trans (View.canon_cons_emb (Rect.unit (s := Stack R C) ![k, 0, 0] ![1, R, C] inb) w L (ix3 (0 : Fin 1) (y 1) (y 2)))
  · rename_i hy
    refine View.canon_cons_of_not_mem _ L fun hm => hy ?_
    have h0 : k ≤ (y 0).val ∧ (y 0).val < k + 1 := (Rect.mem_set_unit (inb := inb)).mp hm (0 : Fin 3)
    omega

theorem canon_cols {o : ℕ} (k : ℕ) (ho : o = k * 128) (inb) (w : (Head R).Idx → Val e) (L : List (View.Piece Val (Wide R) e)) (y : (Wide R).Idx) :
    View.canon (⟨Rect.unit (s := Wide R) ![0, o] ![R, 128] inb, w⟩ :: L) y
      = if (y 1).val / 128 = k then w (ix2 (y 0) ⟨(y 1).val % 128, Nat.mod_lt _ (by decide)⟩) else View.canon L y := by
  split
  · rename_i hy
    have hy' : (Rect.unit (s := Wide R) ![0, o] ![R, 128] inb).emb (ix2 (y 0) (⟨(y 1).val % 128, Nat.mod_lt _ (by decide)⟩ : Fin 128)) = y := by
      funext a
      match a with
      | ⟨0, _⟩ => apply Fin.ext; show 0 + 1 * (y 0).val = (y 0).val; omega
      | ⟨1, _⟩ => apply Fin.ext; show o + 1 * ((y 1).val % 128) = (y 1).val; omega
    exact (congrArg _ hy'.symm).trans (View.canon_cons_emb (Rect.unit (s := Wide R) ![0, o] ![R, 128] inb) w L (ix2 (y 0) (⟨(y 1).val % 128, Nat.mod_lt _ (by decide)⟩ : Fin 128)))
  · rename_i hy
    refine View.canon_cons_of_not_mem _ L fun hm => hy ?_
    have h0 : o ≤ (y 1).val ∧ (y 1).val < o + 128 := (Rect.mem_set_unit (inb := inb)).mp hm (1 : Fin 2)
    omega

/-- Eight writes, one for each head: the stack of what was written. -/
theorem canon_stack (P : Fin 8 → (One R C).Idx → Val e) {w0 w1 w2 w3 w4 w5 w6 w7 : (One R C).Idx → Val e}
    {i0 i1 i2 i3 i4 i5 i6 i7} (L : List (View.Piece Val (Stack R C) e))
    (h0 : w0 = P 0) (h1 : w1 = P 1) (h2 : w2 = P 2) (h3 : w3 = P 3) (h4 : w4 = P 4) (h5 : w5 = P 5) (h6 : w6 = P 6) (h7 : w7 = P 7) :
    View.canon (⟨Rect.unit (s := Stack R C) ![7, 0, 0] ![1, R, C] i7, w7⟩ :: ⟨Rect.unit (s := Stack R C) ![6, 0, 0] ![1, R, C] i6, w6⟩
      :: ⟨Rect.unit (s := Stack R C) ![5, 0, 0] ![1, R, C] i5, w5⟩ :: ⟨Rect.unit (s := Stack R C) ![4, 0, 0] ![1, R, C] i4, w4⟩
      :: ⟨Rect.unit (s := Stack R C) ![3, 0, 0] ![1, R, C] i3, w3⟩ :: ⟨Rect.unit (s := Stack R C) ![2, 0, 0] ![1, R, C] i2, w2⟩
      :: ⟨Rect.unit (s := Stack R C) ![1, 0, 0] ![1, R, C] i1, w1⟩ :: ⟨Rect.unit (s := Stack R C) ![0, 0, 0] ![1, R, C] i0, w0⟩ :: L)
      = fun y => P (y 0) (ix3 0 (y 1) (y 2)) := by
  subst h0 h1 h2 h3 h4 h5 h6 h7
  funext y
  rw [canon_plane, canon_plane, canon_plane, canon_plane, canon_plane, canon_plane, canon_plane, canon_plane]
  generalize (y 0 : Fin 8) = h
  fin_cases h <;> rfl

theorem canon_side (P : Fin 8 → (Head R).Idx → Val e) {w0 w1 w2 w3 w4 w5 w6 w7 : (Head R).Idx → Val e}
    {i0 i1 i2 i3 i4 i5 i6 i7} (L : List (View.Piece Val (Wide R) e))
    (h0 : w0 = P 0) (h1 : w1 = P 1) (h2 : w2 = P 2) (h3 : w3 = P 3) (h4 : w4 = P 4) (h5 : w5 = P 5) (h6 : w6 = P 6) (h7 : w7 = P 7) :
    View.canon (⟨Rect.unit (s := Wide R) ![0, 896] ![R, 128] i7, w7⟩ :: ⟨Rect.unit (s := Wide R) ![0, 768] ![R, 128] i6, w6⟩
      :: ⟨Rect.unit (s := Wide R) ![0, 640] ![R, 128] i5, w5⟩ :: ⟨Rect.unit (s := Wide R) ![0, 512] ![R, 128] i4, w4⟩
      :: ⟨Rect.unit (s := Wide R) ![0, 384] ![R, 128] i3, w3⟩ :: ⟨Rect.unit (s := Wide R) ![0, 256] ![R, 128] i2, w2⟩
      :: ⟨Rect.unit (s := Wide R) ![0, 128] ![R, 128] i1, w1⟩ :: ⟨Rect.unit (s := Wide R) ![0, 0] ![R, 128] i0, w0⟩ :: L)
      = fun y => P ⟨(y 1).val / 128, by have h1 : (y 1).val < 1024 := (y 1).isLt; omega⟩
          (ix2 (y 0) ⟨(y 1).val % 128, Nat.mod_lt _ (by decide)⟩) := by
  subst h0 h1 h2 h3 h4 h5 h6 h7
  funext y
  have hy : (y 1).val < 1024 := (y 1).isLt
  rw [canon_cols 7 rfl, canon_cols 6 rfl, canon_cols 5 rfl, canon_cols 4 rfl, canon_cols 3 rfl, canon_cols 2 rfl, canon_cols 1 rfl,
    canon_cols 0 rfl]
  have key : ∀ (h : Fin 8) (k : ℕ) (x : (Head R).Idx) (z : Val e), k = h.val → (if k = 7 then P 7 x else if k = 6 then P 6 x else if k = 5 then P 5 x else
      if k = 4 then P 4 x else if k = 3 then P 3 x else if k = 2 then P 2 x else if k = 1 then P 1 x else if k = 0 then P 0 x else z) = P h x := by
    intro h k x z hk
    subst hk
    fin_cases h <;> rfl
  exact key ⟨(y 1).val / 128, by omega⟩ _ _ _ rfl

/-- A load of head `h` passes over a write of another head; -/
theorem readCov_skip_plane {sig : RefSig} {κ : Kind} {sp : Space} (v : View sig κ sp (Stack R C) e) {h k : ℕ} (hk : h ≠ k) (i j)
    (w : (One R C).Idx → Val e) (L : List (View.Piece Val (Stack R C) e)) :
    v.readCov (⟨Rect.unit (s := Stack R C) ![k, 0, 0] ![1, R, C] i, w⟩ :: L) (Rect.unit (s := Stack R C) ![h, 0, 0] ![1, R, C] j).toLoadRect
      = v.readCov L (Rect.unit (s := Stack R C) ![h, 0, 0] ![1, R, C] j).toLoadRect := by
  rw [View.readCov_eq_canon', View.readCov_eq_canon']
  funext x
  rw [canon_plane, if_neg]
  show ¬ h + 1 * (x 0).val = k
  have h0 : (x 0).val < 1 := (x 0).isLt
  omega

/-- and over a write of the whole stack it reads head `h` of what was written. -/
theorem readCov_whole_plane {sig : RefSig} {κ : Kind} {sp : Space} (v : View sig κ sp (Stack R C) e) (h : Fin 8) (i j)
    (Z : (Stack R C).Idx → Val e) (L : List (View.Piece Val (Stack R C) e)) :
    v.readCov (⟨Rect.unit (s := Stack R C) ![0, 0, 0] ![8, R, C] i, Z⟩ :: L) (Rect.unit (s := Stack R C) ![h.val, 0, 0] ![1, R, C] j).toLoadRect
      = plane Z h := by
  rw [View.readCov_eq_canon', View.canon_cons_unit_zero (by funext a; fin_cases a <;> rfl)]
  exact ld_plane Z h j

end Cert.Pieces

end
-- ==== Proof.Steps.lean ====
/- What one grid point of the kernel does with the tiles that it holds: the two products that each head adds to its two
   accumulators, away from the diagonal and on it, and the casts of the accumulators to the results. -/
module

public import proofs.«01_k».proof.Proof.Gen.KernelIdeal.Skeleton
public import proofs.«01_k».proof.Proof.Pieces

@[expose] public section

set_option maxRecDepth 16384

noncomputable section

namespace Cert.Body

open Cert.KernelIdeal Cert.KernelIdeal.Gen Cert.Pieces Idealize.ShloMosaic Idealize.ShloMosaic.TcCoe Idealize.SL.Sem

variable {F : FTy → Type} [FloatOps F]

section Tiles

variable (x0 x1 x2 : Vec F S512x1024 .bf16) (x3 : Vec F S512x128 .bf16) (x4 x5 : Vec F S512x1024 .bf16) (x6 x7 : Vec F S8x1x512 .f32)

/-- Head `h` adds the product of the probabilities and the cotangent of the output. -/
def stepV (acc : Vec F S8x512x128 .f32) (h : Fin 8) : Vec F S1x512x128 .f32 :=
  k0_pay12 (k0_pay10 (plane acc h)) (k0_pay11 (cols x0 h) (cols x1 h) (cols x2 h) x3 (cols x5 h) (plane x6 h))
/-- Head `h` adds the product of the cotangent of the scores and the queries. -/
def stepK (acc : Vec F S8x512x256 .f32) (h : Fin 8) : Vec F S1x512x256 .f32 :=
  k0_pay13 (k0_pay6 (cols x0 h) (cols x1 h))
    (k0_pay9 (cols x0 h) (cols x1 h) (cols x2 h) x3 (cols x5 h) (plane x6 h) (cols x4 h) (plane x7 h)) (plane acc h)
/-- The same on the diagonal, where the keys after the query are masked out. -/
def diagV (acc : Vec F S8x512x128 .f32) (h : Fin 8) : Vec F S1x512x128 .f32 :=
  k0_pay59 (k0_pay56 (cols x5 h)) (k0_pay57 (cols x0 h) (cols x1 h) (cols x2 h) x3 (plane x6 h)) (plane acc h)
def diagK (acc : Vec F S8x512x256 .f32) (h : Fin 8) : Vec F S1x512x256 .f32 :=
  k0_pay60 (k0_pay55 (cols x0 h) (cols x1 h))
    (k0_pay58 (cols x0 h) (cols x1 h) (cols x2 h) x3 (cols x5 h) (plane x6 h) (cols x4 h) (plane x7 h)) (plane acc h)

end Tiles

/-- The results of head `h`: the accumulator of the values, and the two halves of the one of the keys. -/
def outV (acc : Vec F S8x512x128 .f32) (h : Fin 8) : Vec F S512x128 .bf16 := k0_pay103 (plane acc h)
def outKn (acc : Vec F S8x512x256 .f32) (h : Fin 8) : Vec F S512x128 .bf16 := k0_pay103 (lanes 0 (by decide) acc h)
def outKp (acc : Vec F S8x512x256 .f32) (h : Fin 8) : Vec F S1x512x128 .f32 := k0_pay104 (lanes 128 (by decide) acc h)

/-- Eight heads on top of each other, and eight side by side. -/
def stack {R C : ℕ} {α : Type} (P : Fin 8 → (One R C).Idx → α) : (Stack R C).Idx → α := fun y => P (y 0) (ix3 0 (y 1) (y 2))
def side {R : ℕ} {α : Type} (P : Fin 8 → (Head R).Idx → α) : (Wide R).Idx → α := fun y =>
  P ⟨(y 1).val / 128, by have h1 : (y 1).val < 1024 := (y 1).isLt; omega⟩ (ix2 (y 0) ⟨(y 1).val % 128, Nat.mod_lt _ (by decide)⟩)

/-! ## The loads of head `h` -/

theorem inb_cols (h : Fin 8) : ∀ a : Fin 2, ![0, h.val * 128] a + ![512, 128] a ≤ ![512, 1024] a := by revert h; decide
theorem inb_row (h : Fin 8) : ∀ a : Fin 3, ![h.val, 0, 0] a + ![1, 1, 512] a ≤ ![8, 1, 512] a := by revert h; decide
theorem inb_accV (h : Fin 8) : ∀ a : Fin 3, ![h.val, 0, 0] a + ![1, 512, 128] a ≤ ![8, 512, 128] a := by revert h; decide
theorem inb_accK (h : Fin 8) : ∀ a : Fin 3, ![h.val, 0, 0] a + ![1, 512, 256] a ≤ ![8, 512, 256] a := by revert h; decide
theorem inb_all : ∀ a : Fin 2, ![0, 0] a + ![512, 128] a ≤ ![512, 128] a := by decide

section Loads

variable {sig : RefSig} {κ : Kind} {sp : Space}

theorem load_cols {e : EltTy} (a : Memref sig κ sp S512x1024 e) (ha : a.IsWhole) (x : Vec F S512x1024 e) (h : Fin 8) :
    View.readAt (Elt F) a.view (Rect.unit (s := S512x1024) ![0, h.val * 128] ![512, 128] (inb_cols h)).toLoadRect (ha.unread x) = cols x h := by
  rw [View.readAt_eq_ld, ha.read_unread]; exact ld_cols x h _
theorem load_row {e : EltTy} (a : Memref sig κ sp S8x1x512 e) (ha : a.IsWhole) (x : Vec F S8x1x512 e) (h : Fin 8) :
    View.readAt (Elt F) a.view (Rect.unit (s := S8x1x512) ![h.val, 0, 0] ![1, 1, 512] (inb_row h)).toLoadRect (ha.unread x) = plane x h := by
  rw [View.readAt_eq_ld, ha.read_unread]; exact ld_plane x h _
theorem load_accV {e : EltTy} (a : Memref sig κ sp S8x512x128 e) (ha : a.IsWhole) (x : Vec F S8x512x128 e) (h : Fin 8) :
    View.readAt (Elt F) a.view (Rect.unit (s := S8x512x128) ![h.val, 0, 0] ![1, 512, 128] (inb_accV h)).toLoadRect (ha.unread x) = plane x h := by
  rw [View.readAt_eq_ld, ha.read_unread]; exact ld_plane x h _
theorem load_accK {e : EltTy} (a : Memref sig κ sp S8x512x256 e) (ha : a.IsWhole) (x : Vec F S8x512x256 e) (h : Fin 8) :
    View.readAt (Elt F) a.view (Rect.unit (s := S8x512x256) ![h.val, 0, 0] ![1, 512, 256] (inb_accK h)).toLoadRect (ha.unread x) = plane x h := by
  rw [View.readAt_eq_ld, ha.read_unread]; exact ld_plane x h _
theorem load_all {e : EltTy} (a : Memref sig κ sp S512x128 e) (ha : a.IsWhole) (x : Vec F S512x128 e) :
    View.readAt (Elt F) a.view (Rect.unit (s := S512x128) ![0, 0] ![512, 128] inb_all).toLoadRect (ha.unread x) = x := by
  rw [View.readAt_eq_ld, ha.read_unread]; exact View.ld_unit_zero (S := S512x128) (by funext a; fin_cases a <;> rfl) _ _

end Loads

section Steps

variable {sig : RefSig} {κ : Kind} {sp : Space}
  (a4 : Memref sig κ sp S512x1024 .bf16) (h4 : a4.IsWhole) (a5 : Memref sig κ sp S512x1024 .bf16) (h5 : a5.IsWhole)
  (a6 : Memref sig κ sp S512x1024 .bf16) (h6 : a6.IsWhole) (a7 : Memref sig κ sp S512x128 .bf16) (h7 : a7.IsWhole)
  (a8 : Memref sig κ sp S512x1024 .bf16) (h8 : a8.IsWhole) (a9 : Memref sig κ sp S512x1024 .bf16) (h9 : a9.IsWhole)
  (a10 : Memref sig κ sp S8x1x512 .f32) (h10 : a10.IsWhole) (a11 : Memref sig κ sp S8x1x512 .f32) (h11 : a11.IsWhole)
  (x0 x1 x2 : Vec F S512x1024 .bf16) (x3 : Vec F S512x128 .bf16) (x4 x5 : Vec F S512x1024 .bf16) (x6 x7 : Vec F S8x1x512 .f32)

/-- The columns, the row and the block that head `h` loads. -/
abbrev ldC (a : Memref sig κ sp S512x1024 .bf16) (ha : a.IsWhole) (x : Vec F S512x1024 .bf16) (h : Fin 8) : Vec F S512x128 .bf16 :=
  View.readAt (Elt F) a.view (Rect.unit (s := S512x1024) ![0, h.val * 128] ![512, 128] (inb_cols h)).toLoadRect (ha.unread x)
abbrev ldR (a : Memref sig κ sp S8x1x512 .f32) (ha : a.IsWhole) (x : Vec F S8x1x512 .f32) (h : Fin 8) : Vec F S1x1x512 .f32 :=
  View.readAt (Elt F) a.view (Rect.unit (s := S8x1x512) ![h.val, 0, 0] ![1, 1, 512] (inb_row h)).toLoadRect (ha.unread x)
abbrev ldB (a : Memref sig κ sp S512x128 .bf16) (ha : a.IsWhole) (x : Vec F S512x128 .bf16) : Vec F S512x128 .bf16 :=
  View.readAt (Elt F) a.view (Rect.unit (s := S512x128) ![0, 0] ![512, 128] inb_all).toLoadRect (ha.unread x)

theorem stepV_loads (h : Fin 8) (acc : Vec F S8x512x128 .f32) (L : Vec F S1x512x128 .f32) (hL : L = plane acc h) :
    k0_pay12 (k0_pay10 L) (k0_pay11 (ldC a4 h4 x0 h) (ldC a5 h5 x1 h) (ldC a6 h6 x2 h) (ldB a7 h7 x3) (ldC a9 h9 x5 h) (ldR a10 h10 x6 h))
      = stepV x0 x1 x2 x3 x5 x6 acc h := by
  unfold stepV ldC ldR ldB
  rw [hL, load_cols, load_cols, load_cols, load_cols, load_row, load_all]
theorem diagV_loads (h : Fin 8) (acc : Vec F S8x512x128 .f32) (L : Vec F S1x512x128 .f32) (hL : L = plane acc h) :
    k0_pay59 (k0_pay56 (ldC a9 h9 x5 h)) (k0_pay57 (ldC a4 h4 x0 h) (ldC a5 h5 x1 h) (ldC a6 h6 x2 h) (ldB a7 h7 x3) (ldR a10 h10 x6 h)) L
      = diagV x0 x1 x2 x3 x5 x6 acc h := by
  unfold diagV ldC ldR ldB
  rw [hL, load_cols, load_cols, load_cols, load_cols, load_row, load_all]
theorem stepK_loads (h : Fin 8) (acc : Vec F S8x512x256 .f32) (L : Vec F S1x512x256 .f32) (hL : L = plane acc h) :
    k0_pay13 (k0_pay6 (ldC a4 h4 x0 h) (ldC a5 h5 x1 h)) (k0_pay9 (ldC a4 h4 x0 h) (ldC a5 h5 x1 h) (ldC a6 h6 x2 h) (ldB a7 h7 x3)
        (ldC a9 h9 x5 h) (ldR a10 h10 x6 h) (ldC a8 h8 x4 h) (ldR a11 h11 x7 h)) L
      = stepK x0 x1 x2 x3 x4 x5 x6 x7 acc h := by
  unfold stepK ldC ldR ldB
  rw [hL, load_cols, load_cols, load_cols, load_cols, load_cols, load_row, load_row, load_all]
theorem diagK_loads (h : Fin 8) (acc : Vec F S8x512x256 .f32) (L : Vec F S1x512x256 .f32) (hL : L = plane acc h) :
    k0_pay60 (k0_pay55 (ldC a4 h4 x0 h) (ldC a5 h5 x1 h)) (k0_pay58 (ldC a4 h4 x0 h) (ldC a5 h5 x1 h) (ldC a6 h6 x2 h) (ldB a7 h7 x3)
        (ldC a9 h9 x5 h) (ldR a10 h10 x6 h) (ldC a8 h8 x4 h) (ldR a11 h11 x7 h)) L
      = diagK x0 x1 x2 x3 x4 x5 x6 x7 acc h := by
  unfold diagK ldC ldR ldB
  rw [hL, load_cols, load_cols, load_cols, load_cols, load_cols, load_row, load_row, load_all]

end Steps

section Outs

variable {sig : RefSig} {κ : Kind} {sp : Space}

theorem outV_load (v : View sig κ sp S8x512x128 .f32) (L : List (View.Piece (Elt F) S8x512x128 .f32)) (acc : Vec F S8x512x128 .f32)
    (hL : View.canon L = acc) (h : Fin 8) :
    k0_pay103 (v.readCov L (Rect.unit (s := S8x512x128) ![h.val, 0, 0] ![1, 512, 128] (inb_accV h)).toLoadRect) = outV acc h := by
  subst hL
  rw [View.readCov_eq_canon']
  exact congrArg k0_pay103 (ld_plane (R := 512) (C := 128) _ h _)
theorem inb_lo (h : Fin 8) : ∀ a : Fin 3, ![h.val, 0, 0] a + ![1, 512, 128] a ≤ ![8, 512, 256] a := by revert h; decide
theorem inb_hi (h : Fin 8) : ∀ a : Fin 3, ![h.val, 0, 128] a + ![1, 512, 128] a ≤ ![8, 512, 256] a := by revert h; decide
theorem outKn_load (v : View sig κ sp S8x512x256 .f32) (L : List (View.Piece (Elt F) S8x512x256 .f32)) (acc : Vec F S8x512x256 .f32)
    (hL : View.canon L = acc) (h : Fin 8) :
    k0_pay103 (v.readCov L (Rect.unit (s := S8x512x256) ![h.val, 0, 0] ![1, 512, 128] (inb_lo h)).toLoadRect) = outKn acc h := by
  subst hL
  rw [View.readCov_eq_canon']
  exact congrArg k0_pay103 (ld_lanes (R := 512) (C := 256) 0 (by decide) _ h _)
theorem outKp_load (v : View sig κ sp S8x512x256 .f32) (L : List (View.Piece (Elt F) S8x512x256 .f32)) (acc : Vec F S8x512x256 .f32)
    (hL : View.canon L = acc) (h : Fin 8) :
    k0_pay104 (v.readCov L (Rect.unit (s := S8x512x256) ![h.val, 0, 128] ![1, 512, 128] (inb_hi h)).toLoadRect) = outKp acc h := by
  subst hL
  rw [View.readCov_eq_canon']
  exact congrArg k0_pay104 (ld_lanes (R := 512) (C := 256) 128 (by decide) _ h _)

theorem skipV (v : View sig κ sp S8x512x128 .f32) (h : Fin 8) (k : ℕ) (hk : h.val ≠ k) (i) (w : Vec F S1x512x128 .f32)
    (L : List (View.Piece (Elt F) S8x512x128 .f32)) :
    v.readCov (⟨Rect.unit (s := S8x512x128) ![k, 0, 0] ![1, 512, 128] i, w⟩ :: L)
        (Rect.unit (s := S8x512x128) ![h.val, 0, 0] ![1, 512, 128] (inb_accV h)).toLoadRect
      = v.readCov L (Rect.unit (s := S8x512x128) ![h.val, 0, 0] ![1, 512, 128] (inb_accV h)).toLoadRect :=
  readCov_skip_plane (R := 512) (C := 128) v hk i (inb_accV h) w L
theorem wholeV (v : View sig κ sp S8x512x128 .f32) (h : Fin 8) (i) (Z : Vec F S8x512x128 .f32) (L : List (View.Piece (Elt F) S8x512x128 .f32)) :
    v.readCov (⟨Rect.unit (s := S8x512x128) ![0, 0, 0] ![8, 512, 128] i, Z⟩ :: L)
        (Rect.unit (s := S8x512x128) ![h.val, 0, 0] ![1, 512, 128] (inb_accV h)).toLoadRect = plane Z h :=
  readCov_whole_plane (R := 512) (C := 128) v h i (inb_accV h) Z L

theorem skipK (v : View sig κ sp S8x512x256 .f32) (h : Fin 8) (k : ℕ) (hk : h.val ≠ k) (i) (w : Vec F S1x512x256 .f32)
    (L : List (View.Piece (Elt F) S8x512x256 .f32)) :
    v.readCov (⟨Rect.unit (s := S8x512x256) ![k, 0, 0] ![1, 512, 256] i, w⟩ :: L)
        (Rect.unit (s := S8x512x256) ![h.val, 0, 0] ![1, 512, 256] (inb_accK h)).toLoadRect
      = v.readCov L (Rect.unit (s := S8x512x256) ![h.val, 0, 0] ![1, 512, 256] (inb_accK h)).toLoadRect :=
  readCov_skip_plane (R := 512) (C := 256) v hk i (inb_accK h) w L
theorem wholeK (v : View sig κ sp S8x512x256 .f32) (h : Fin 8) (i) (Z : Vec F S8x512x256 .f32) (L : List (View.Piece (Elt F) S8x512x256 .f32)) :
    v.readCov (⟨Rect.unit (s := S8x512x256) ![0, 0, 0] ![8, 512, 256] i, Z⟩ :: L)
        (Rect.unit (s := S8x512x256) ![h.val, 0, 0] ![1, 512, 256] (inb_accK h)).toLoadRect = plane Z h :=
  readCov_whole_plane (R := 512) (C := 256) v h i (inb_accK h) Z L

end Outs

end Cert.Body

end
-- ==== Proof.Cases.lean ====
/- What each case of the kernel's body leaves in its accumulators and in its results, head by head. -/
module

public import proofs.«01_k».proof.Proof.Gen.KernelIdeal.Frame
public import proofs.«01_k».proof.Proof.Steps

@[expose] public section

set_option maxRecDepth 16384

noncomputable section

namespace Cert.Body

open Cert.KernelIdeal Cert.KernelIdeal.Gen Cert.Pieces Idealize.ShloMosaic Idealize.ShloMosaic.TcCoe Idealize.SL.Sem

variable {F : FTy → Type} [FloatOps F]

set_option maxHeartbeats 1000000 in
theorem sout0_A_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : cond0_0 i) (hc1 : ¬cond0_1 i) (hc2 : cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) :
    sout0_A_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 = stack (diagK x0 x1 x2 x3 x4 x5 x6 x7 (k0_pay1 (F := F))) := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_A; dsimp only
  exact canon_stack (diagK x0 x1 x2 x3 x4 x5 x6 x7 (k0_pay1 (F := F))) _
    (diagK_loads arg4 harg4 arg5 harg5 arg6 harg6 arg7 harg7 arg8 harg8 arg9 harg9 arg10 harg10 arg11 harg11 x0 x1 x2 x3 x4 x5 x6 x7 0 (k0_pay1 (F := F)) _ (by exact wholeK (F := F) arg15.view 0 _ (k0_pay1 (F := F)) []))
    (diagK_loads arg4 harg4 arg5 harg5 arg6 harg6 arg7 harg7 arg8 harg8 arg9 harg9 arg10 harg10 arg11 harg11 x0 x1 x2 x3 x4 x5 x6 x7 1 (k0_pay1 (F := F)) _ (by refine (skipK (F := F) arg15.view 1 0 (by decide) _ _ _).trans ?_; exact wholeK (F := F) arg15.view 1 _ (k0_pay1 (F := F)) []))
    (diagK_loads arg4 harg4 arg5 harg5 arg6 harg6 arg7 harg7 arg8 harg8 arg9 harg9 arg10 harg10 arg11 harg11 x0 x1 x2 x3 x4 x5 x6 x7 2 (k0_pay1 (F := F)) _ (by refine (skipK (F := F) arg15.view 2 1 (by decide) _ _ _).trans ?_; refine (skipK (F := F) arg15.view 2 0 (by decide) _ _ _).trans ?_; exact wholeK (F := F) arg15.view 2 _ (k0_pay1 (F := F)) []))
    (diagK_loads arg4 harg4 arg5 harg5 arg6 harg6 arg7 harg7 arg8 harg8 arg9 harg9 arg10 harg10 arg11 harg11 x0 x1 x2 x3 x4 x5 x6 x7 3 (k0_pay1 (F := F)) _ (by refine (skipK (F := F) arg15.view 3 2 (by decide) _ _ _).trans ?_; refine (skipK (F := F) arg15.view 3 1 (by decide) _ _ _).trans ?_; refine (skipK (F := F) arg15.view 3 0 (by decide) _ _ _).trans ?_; exact wholeK (F := F) arg15.view 3 _ (k0_pay1 (F := F)) []))
    (diagK_loads arg4 harg4 arg5 harg5 arg6 harg6 arg7 harg7 arg8 harg8 arg9 harg9 arg10 harg10 arg11 harg11 x0 x1 x2 x3 x4 x5 x6 x7 4 (k0_pay1 (F := F)) _ (by refine (skipK (F := F) arg15.view 4 3 (by decide) _ _ _).trans ?_; refine (skipK (F := F) arg15.view 4 2 (by decide) _ _ _).trans ?_; refine (skipK (F := F) arg15.view 4 1 (by decide) _ _ _).trans ?_; refine (skipK (F := F) arg15.view 4 0 (by decide) _ _ _).trans ?_; exact wholeK (F := F) arg15.view 4 _ (k0_pay1 (F := F)) []))
    (diagK_loads arg4 harg4 arg5 harg5 arg6 harg6 arg7 harg7 arg8 harg8 arg9 harg9 arg10 harg10 arg11 harg11 x0 x1 x2 x3 x4 x5 x6 x7 5 (k0_pay1 (F := F)) _ (by refine (skipK (F := F) arg15.view 5 4 (by decide) _ _ _).trans ?_; refine (skipK (F := F) arg15.view 5 3 (by decide) _ _ _).trans ?_; refine (skipK (F := F) arg15.view 5 2 (by decide) _ _ _).trans ?_; refine (skipK (F := F) arg15.view 5 1 (by decide) _ _ _).trans ?_; refine (skipK (F := F) arg15.view 5 0 (by decide) _ _ _).trans ?_; exact wholeK (F := F) arg15.view 5 _ (k0_pay1 (F := F)) []))
    (diagK_loads arg4 harg4 arg5 harg5 arg6 harg6 arg7 harg7 arg8 harg8 arg9 harg9 arg10 harg10 arg11 harg11 x0 x1 x2 x3 x4 x5 x6 x7 6 (k0_pay1 (F := F)) _ (by refine (skipK (F := F) arg15.view 6 5 (by decide) _ _ _).trans ?_; refine (skipK (F := F) arg15.view 6 4 (by decide) _ _ _).trans ?_; refine (skipK (F := F) arg15.view 6 3 (by decide) _ _ _).trans ?_; refine (skipK (F := F) arg15.view 6 2 (by decide) _ _ _).trans ?_; refine (skipK (F := F) arg15.view 6 1 (by decide) _ _ _).trans ?_; refine (skipK (F := F) arg15.view 6 0 (by decide) _ _ _).trans ?_; exact wholeK (F := F) arg15.view 6 _ (k0_pay1 (F := F)) []))
    (diagK_loads arg4 harg4 arg5 harg5 arg6 harg6 arg7 harg7 arg8 harg8 arg9 harg9 arg10 harg10 arg11 harg11 x0 x1 x2 x3 x4 x5 x6 x7 7 (k0_pay1 (F := F)) _ (by refine (skipK (F := F) arg15.view 7 6 (by decide) _ _ _).trans ?_; refine (skipK (F := F) arg15.view 7 5 (by decide) _ _ _).trans ?_; refine (skipK (F := F) arg15.view 7 4 (by decide) _ _ _).trans ?_; refine (skipK (F := F) arg15.view 7 3 (by decide) _ _ _).trans ?_; refine (skipK (F := F) arg15.view 7 2 (by decide) _ _ _).trans ?_; refine (skipK (F := F) arg15.view 7 1 (by decide) _ _ _).trans ?_; refine (skipK (F := F) arg15.view 7 0 (by decide) _ _ _).trans ?_; exact wholeK (F := F) arg15.view 7 _ (k0_pay1 (F := F)) []))

theorem sout0_D_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : cond0_0 i) (hc1 : ¬cond0_1 i) (hc2 : ¬cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) :
    sout0_D_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 = k0_pay1 := by
  unfold sout0_D_0
  rw [View.read_writes_eq_canon _ _ _ (scover0_D_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_D; dsimp only
  exact View.canon_unit_zero (by funext a; fin_cases a <;> rfl) _ _

theorem sout0_B_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_B_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (stepK x0 x1 x2 x3 x4 x5 x6 x7 xs0) := by
  unfold sout0_B_0
  rw [View.read_writes_eq_canon _ _ _ (scover0_B_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_B; dsimp only
  exact canon_stack (stepK x0 x1 x2 x3 x4 x5 x6 x7 xs0) []
    (stepK_loads arg4 harg4 arg5 harg5 arg6 harg6 arg7 harg7 arg8 harg8 arg9 harg9 arg10 harg10 arg11 harg11 x0 x1 x2 x3 x4 x5 x6 x7 0 xs0 _ (load_accK arg15 harg15 xs0 0))
    (stepK_loads arg4 harg4 arg5 harg5 arg6 harg6 arg7 harg7 arg8 harg8 arg9 harg9 arg10 harg10 arg11 harg11 x0 x1 x2 x3 x4 x5 x6 x7 1 xs0 _ (load_accK arg15 harg15 xs0 1))
    (stepK_loads arg4 harg4 arg5 harg5 arg6 harg6 arg7 harg7 arg8 harg8 arg9 harg9 arg10 harg10 arg11 harg11 x0 x1 x2 x3 x4 x5 x6 x7 2 xs0 _ (load_accK arg15 harg15 xs0 2))
    (stepK_loads arg4 harg4 arg5 harg5 arg6 harg6 arg7 harg7 arg8 harg8 arg9 harg9 arg10 harg10 arg11 harg11 x0 x1 x2 x3 x4 x5 x6 x7 3 xs0 _ (load_accK arg15 harg15 xs0 3))
    (stepK_loads arg4 harg4 arg5 harg5 arg6 harg6 arg7 harg7 arg8 harg8 arg9 harg9 arg10 harg10 arg11 harg11 x0 x1 x2 x3 x4 x5 x6 x7 4 xs0 _ (load_accK arg15 harg15 xs0 4))
    (stepK_loads arg4 harg4 arg5 harg5 arg6 harg6 arg7 harg7 arg8 harg8 arg9 harg9 arg10 harg10 arg11 harg11 x0 x1 x2 x3 x4 x5 x6 x7 5 xs0 _ (load_accK arg15 harg15 xs0 5))
    (stepK_loads arg4 harg4 arg5 harg5 arg6 harg6 arg7 harg7 arg8 harg8 arg9 harg9 arg10 harg10 arg11 harg11 x0 x1 x2 x3 x4 x5 x6 x7 6 xs0 _ (load_accK arg15 harg15 xs0 6))
    (stepK_loads arg4 harg4 arg5 harg5 arg6 harg6 arg7 harg7 arg8 harg8 arg9 harg9 arg10 harg10 arg11 harg11 x0 x1 x2 x3 x4 x5 x6 x7 7 xs0 _ (load_accK arg15 harg15 xs0 7))

theorem sout0_C_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_C_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (stepK x0 x1 x2 x3 x4 x5 x6 x7 xs0) := by
  unfold sout0_C_0
  rw [View.read_writes_eq_canon _ _ _ (scover0_C_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_C; dsimp only
  exact canon_stack (stepK x0 x1 x2 x3 x4 x5 x6 x7 xs0) []
    (stepK_loads arg4 harg4 arg5 harg5 arg6 harg6 arg7 harg7 arg8 harg8 arg9 harg9 arg10 harg10 arg11 harg11 x0 x1 x2 x3 x4 x5 x6 x7 0 xs0 _ (load_accK arg15 harg15 xs0 0))
    (stepK_loads arg4 harg4 arg5 harg5 arg6 harg6 arg7 harg7 arg8 harg8 arg9 harg9 arg10 harg10 arg11 harg11 x0 x1 x2 x3 x4 x5 x6 x7 1 xs0 _ (load_accK arg15 harg15 xs0 1))
    (stepK_loads arg4 harg4 arg5 harg5 arg6 harg6 arg7 harg7 arg8 harg8 arg9 harg9 arg10 harg10 arg11 harg11 x0 x1 x2 x3 x4 x5 x6 x7 2 xs0 _ (load_accK arg15 harg15 xs0 2))
    (stepK_loads arg4 harg4 arg5 harg5 arg6 harg6 arg7 harg7 arg8 harg8 arg9 harg9 arg10 harg10 arg11 harg11 x0 x1 x2 x3 x4 x5 x6 x7 3 xs0 _ (load_accK arg15 harg15 xs0 3))
    (stepK_loads arg4 harg4 arg5 harg5 arg6 harg6 arg7 harg7 arg8 harg8 arg9 harg9 arg10 harg10 arg11 harg11 x0 x1 x2 x3 x4 x5 x6 x7 4 xs0 _ (load_accK arg15 harg15 xs0 4))
    (stepK_loads arg4 harg4 arg5 harg5 arg6 harg6 arg7 harg7 arg8 harg8 arg9 harg9 arg10 harg10 arg11 harg11 x0 x1 x2 x3 x4 x5 x6 x7 5 xs0 _ (load_accK arg15 harg15 xs0 5))
    (stepK_loads arg4 harg4 arg5 harg5 arg6 harg6 arg7 harg7 arg8 harg8 arg9 harg9 arg10 harg10 arg11 harg11 x0 x1 x2 x3 x4 x5 x6 x7 6 xs0 _ (load_accK arg15 harg15 xs0 6))
    (stepK_loads arg4 harg4 arg5 harg5 arg6 harg6 arg7 harg7 arg8 harg8 arg9 harg9 arg10 harg10 arg11 harg11 x0 x1 x2 x3 x4 x5 x6 x7 7 xs0 _ (load_accK arg15 harg15 xs0 7))

theorem sout0_E_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_E_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (diagK x0 x1 x2 x3 x4 x5 x6 x7 xs0) := by
  unfold sout0_E_0
  rw [View.read_writes_eq_canon _ _ _ (scover0_E_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_E; dsimp only
  exact canon_stack (diagK x0 x1 x2 x3 x4 x5 x6 x7 xs0) []
    (diagK_loads arg4 harg4 arg5 harg5 arg6 harg6 arg7 harg7 arg8 harg8 arg9 harg9 arg10 harg10 arg11 harg11 x0 x1 x2 x3 x4 x5 x6 x7 0 xs0 _ (load_accK arg15 harg15 xs0 0))
    (diagK_loads arg4 harg4 arg5 harg5 arg6 harg6 arg7 harg7 arg8 harg8 arg9 harg9 arg10 harg10 arg11 harg11 x0 x1 x2 x3 x4 x5 x6 x7 1 xs0 _ (load_accK arg15 harg15 xs0 1))
    (diagK_loads arg4 harg4 arg5 harg5 arg6 harg6 arg7 harg7 arg8 harg8 arg9 harg9 arg10 harg10 arg11 harg11 x0 x1 x2 x3 x4 x5 x6 x7 2 xs0 _ (load_accK arg15 harg15 xs0 2))
    (diagK_loads arg4 harg4 arg5 harg5 arg6 harg6 arg7 harg7 arg8 harg8 arg9 harg9 arg10 harg10 arg11 harg11 x0 x1 x2 x3 x4 x5 x6 x7 3 xs0 _ (load_accK arg15 harg15 xs0 3))
    (diagK_loads arg4 harg4 arg5 harg5 arg6 harg6 arg7 harg7 arg8 harg8 arg9 harg9 arg10 harg10 arg11 harg11 x0 x1 x2 x3 x4 x5 x6 x7 4 xs0 _ (load_accK arg15 harg15 xs0 4))
    (diagK_loads arg4 harg4 arg5 harg5 arg6 harg6 arg7 harg7 arg8 harg8 arg9 harg9 arg10 harg10 arg11 harg11 x0 x1 x2 x3 x4 x5 x6 x7 5 xs0 _ (load_accK arg15 harg15 xs0 5))
    (diagK_loads arg4 harg4 arg5 harg5 arg6 harg6 arg7 harg7 arg8 harg8 arg9 harg9 arg10 harg10 arg11 harg11 x0 x1 x2 x3 x4 x5 x6 x7 6 xs0 _ (load_accK arg15 harg15 xs0 6))
    (diagK_loads arg4 harg4 arg5 harg5 arg6 harg6 arg7 harg7 arg8 harg8 arg9 harg9 arg10 harg10 arg11 harg11 x0 x1 x2 x3 x4 x5 x6 x7 7 xs0 _ (load_accK arg15 harg15 xs0 7))

theorem sout0_G_0_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_G_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (diagK x0 x1 x2 x3 x4 x5 x6 x7 xs0) := by
  unfold sout0_G_0
  rw [View.read_writes_eq_canon _ _ _ (scover0_G_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_G; dsimp only
  exact canon_stack (diagK x0 x1 x2 x3 x4 x5 x6 x7 xs0) []
    (diagK_loads arg4 harg4 arg5 harg5 arg6 harg6 arg7 harg7 arg8 harg8 arg9 harg9 arg10 harg10 arg11 harg11 x0 x1 x2 x3 x4 x5 x6 x7 0 xs0 _ (load_accK arg15 harg15 xs0 0))
    (diagK_loads arg4 harg4 arg5 harg5 arg6 harg6 arg7 harg7 arg8 harg8 arg9 harg9 arg10 harg10 arg11 harg11 x0 x1 x2 x3 x4 x5 x6 x7 1 xs0 _ (load_accK arg15 harg15 xs0 1))
    (diagK_loads arg4 harg4 arg5 harg5 arg6 harg6 arg7 harg7 arg8 harg8 arg9 harg9 arg10 harg10 arg11 harg11 x0 x1 x2 x3 x4 x5 x6 x7 2 xs0 _ (load_accK arg15 harg15 xs0 2))
    (diagK_loads arg4 harg4 arg5 harg5 arg6 harg6 arg7 harg7 arg8 harg8 arg9 harg9 arg10 harg10 arg11 harg11 x0 x1 x2 x3 x4 x5 x6 x7 3 xs0 _ (load_accK arg15 harg15 xs0 3))
    (diagK_loads arg4 harg4 arg5 harg5 arg6 harg6 arg7 harg7 arg8 harg8 arg9 harg9 arg10 harg10 arg11 harg11 x0 x1 x2 x3 x4 x5 x6 x7 4 xs0 _ (load_accK arg15 harg15 xs0 4))
    (diagK_loads arg4 harg4 arg5 harg5 arg6 harg6 arg7 harg7 arg8 harg8 arg9 harg9 arg10 harg10 arg11 harg11 x0 x1 x2 x3 x4 x5 x6 x7 5 xs0 _ (load_accK arg15 harg15 xs0 5))
    (diagK_loads arg4 harg4 arg5 harg5 arg6 harg6 arg7 harg7 arg8 harg8 arg9 harg9 arg10 harg10 arg11 harg11 x0 x1 x2 x3 x4 x5 x6 x7 6 xs0 _ (load_accK arg15 harg15 xs0 6))
    (diagK_loads arg4 harg4 arg5 harg5 arg6 harg6 arg7 harg7 arg8 harg8 arg9 harg9 arg10 harg10 arg11 harg11 x0 x1 x2 x3 x4 x5 x6 x7 7 xs0 _ (load_accK arg15 harg15 xs0 7))

set_option maxHeartbeats 1000000 in
theorem sout0_A_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : cond0_0 i) (hc1 : ¬cond0_1 i) (hc2 : cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) :
    sout0_A_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 = stack (diagV x0 x1 x2 x3 x5 x6 (k0_pay2 (F := F))) := by
  unfold sout0_A_1
  rw [View.read_writes_eq_canon _ _ _ (scover0_A_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_A; dsimp only
  exact canon_stack (diagV x0 x1 x2 x3 x5 x6 (k0_pay2 (F := F))) _
    (diagV_loads arg4 harg4 arg5 harg5 arg6 harg6 arg7 harg7 arg9 harg9 arg10 harg10 x0 x1 x2 x3 x5 x6 0 (k0_pay2 (F := F)) _ (by exact wholeV (F := F) arg16.view 0 _ (k0_pay2 (F := F)) []))
    (diagV_loads arg4 harg4 arg5 harg5 arg6 harg6 arg7 harg7 arg9 harg9 arg10 harg10 x0 x1 x2 x3 x5 x6 1 (k0_pay2 (F := F)) _ (by refine (skipV (F := F) arg16.view 1 0 (by decide) _ _ _).trans ?_; exact wholeV (F := F) arg16.view 1 _ (k0_pay2 (F := F)) []))
    (diagV_loads arg4 harg4 arg5 harg5 arg6 harg6 arg7 harg7 arg9 harg9 arg10 harg10 x0 x1 x2 x3 x5 x6 2 (k0_pay2 (F := F)) _ (by refine (skipV (F := F) arg16.view 2 1 (by decide) _ _ _).trans ?_; refine (skipV (F := F) arg16.view 2 0 (by decide) _ _ _).trans ?_; exact wholeV (F := F) arg16.view 2 _ (k0_pay2 (F := F)) []))
    (diagV_loads arg4 harg4 arg5 harg5 arg6 harg6 arg7 harg7 arg9 harg9 arg10 harg10 x0 x1 x2 x3 x5 x6 3 (k0_pay2 (F := F)) _ (by refine (skipV (F := F) arg16.view 3 2 (by decide) _ _ _).trans ?_; refine (skipV (F := F) arg16.view 3 1 (by decide) _ _ _).trans ?_; refine (skipV (F := F) arg16.view 3 0 (by decide) _ _ _).trans ?_; exact wholeV (F := F) arg16.view 3 _ (k0_pay2 (F := F)) []))
    (diagV_loads arg4 harg4 arg5 harg5 arg6 harg6 arg7 harg7 arg9 harg9 arg10 harg10 x0 x1 x2 x3 x5 x6 4 (k0_pay2 (F := F)) _ (by refine (skipV (F := F) arg16.view 4 3 (by decide) _ _ _).trans ?_; refine (skipV (F := F) arg16.view 4 2 (by decide) _ _ _).trans ?_; refine (skipV (F := F) arg16.view 4 1 (by decide) _ _ _).trans ?_; refine (skipV (F := F) arg16.view 4 0 (by decide) _ _ _).trans ?_; exact wholeV (F := F) arg16.view 4 _ (k0_pay2 (F := F)) []))
    (diagV_loads arg4 harg4 arg5 harg5 arg6 harg6 arg7 harg7 arg9 harg9 arg10 harg10 x0 x1 x2 x3 x5 x6 5 (k0_pay2 (F := F)) _ (by refine (skipV (F := F) arg16.view 5 4 (by decide) _ _ _).trans ?_; refine (skipV (F := F) arg16.view 5 3 (by decide) _ _ _).trans ?_; refine (skipV (F := F) arg16.view 5 2 (by decide) _ _ _).trans ?_; refine (skipV (F := F) arg16.view 5 1 (by decide) _ _ _).trans ?_; refine (skipV (F := F) arg16.view 5 0 (by decide) _ _ _).trans ?_; exact wholeV (F := F) arg16.view 5 _ (k0_pay2 (F := F)) []))
    (diagV_loads arg4 harg4 arg5 harg5 arg6 harg6 arg7 harg7 arg9 harg9 arg10 harg10 x0 x1 x2 x3 x5 x6 6 (k0_pay2 (F := F)) _ (by refine (skipV (F := F) arg16.view 6 5 (by decide) _ _ _).trans ?_; refine (skipV (F := F) arg16.view 6 4 (by decide) _ _ _).trans ?_; refine (skipV (F := F) arg16.view 6 3 (by decide) _ _ _).trans ?_; refine (skipV (F := F) arg16.view 6 2 (by decide) _ _ _).trans ?_; refine (skipV (F := F) arg16.view 6 1 (by decide) _ _ _).trans ?_; refine (skipV (F := F) arg16.view 6 0 (by decide) _ _ _).trans ?_; exact wholeV (F := F) arg16.view 6 _ (k0_pay2 (F := F)) []))
    (diagV_loads arg4 harg4 arg5 harg5 arg6 harg6 arg7 harg7 arg9 harg9 arg10 harg10 x0 x1 x2 x3 x5 x6 7 (k0_pay2 (F := F)) _ (by refine (skipV (F := F) arg16.view 7 6 (by decide) _ _ _).trans ?_; refine (skipV (F := F) arg16.view 7 5 (by decide) _ _ _).trans ?_; refine (skipV (F := F) arg16.view 7 4 (by decide) _ _ _).trans ?_; refine (skipV (F := F) arg16.view 7 3 (by decide) _ _ _).trans ?_; refine (skipV (F := F) arg16.view 7 2 (by decide) _ _ _).trans ?_; refine (skipV (F := F) arg16.view 7 1 (by decide) _ _ _).trans ?_; refine (skipV (F := F) arg16.view 7 0 (by decide) _ _ _).trans ?_; exact wholeV (F := F) arg16.view 7 _ (k0_pay2 (F := F)) []))

theorem sout0_D_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : cond0_0 i) (hc1 : ¬cond0_1 i) (hc2 : ¬cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) :
    sout0_D_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 = k0_pay2 := by
  unfold sout0_D_1
  rw [View.read_writes_eq_canon _ _ _ (scover0_D_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7)]
  unfold kernelRun0_D; dsimp only
  exact View.canon_unit_zero (by funext a; fin_cases a <;> rfl) _ _

theorem sout0_B_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_B_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (stepV x0 x1 x2 x3 x5 x6 xs1) := by
  unfold sout0_B_1
  rw [View.read_writes_eq_canon _ _ _ (scover0_B_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_B; dsimp only
  exact canon_stack (stepV x0 x1 x2 x3 x5 x6 xs1) []
    (stepV_loads arg4 harg4 arg5 harg5 arg6 harg6 arg7 harg7 arg9 harg9 arg10 harg10 x0 x1 x2 x3 x5 x6 0 xs1 _ (load_accV arg16 harg16 xs1 0))
    (stepV_loads arg4 harg4 arg5 harg5 arg6 harg6 arg7 harg7 arg9 harg9 arg10 harg10 x0 x1 x2 x3 x5 x6 1 xs1 _ (load_accV arg16 harg16 xs1 1))
    (stepV_loads arg4 harg4 arg5 harg5 arg6 harg6 arg7 harg7 arg9 harg9 arg10 harg10 x0 x1 x2 x3 x5 x6 2 xs1 _ (load_accV arg16 harg16 xs1 2))
    (stepV_loads arg4 harg4 arg5 harg5 arg6 harg6 arg7 harg7 arg9 harg9 arg10 harg10 x0 x1 x2 x3 x5 x6 3 xs1 _ (load_accV arg16 harg16 xs1 3))
    (stepV_loads arg4 harg4 arg5 harg5 arg6 harg6 arg7 harg7 arg9 harg9 arg10 harg10 x0 x1 x2 x3 x5 x6 4 xs1 _ (load_accV arg16 harg16 xs1 4))
    (stepV_loads arg4 harg4 arg5 harg5 arg6 harg6 arg7 harg7 arg9 harg9 arg10 harg10 x0 x1 x2 x3 x5 x6 5 xs1 _ (load_accV arg16 harg16 xs1 5))
    (stepV_loads arg4 harg4 arg5 harg5 arg6 harg6 arg7 harg7 arg9 harg9 arg10 harg10 x0 x1 x2 x3 x5 x6 6 xs1 _ (load_accV arg16 harg16 xs1 6))
    (stepV_loads arg4 harg4 arg5 harg5 arg6 harg6 arg7 harg7 arg9 harg9 arg10 harg10 x0 x1 x2 x3 x5 x6 7 xs1 _ (load_accV arg16 harg16 xs1 7))

theorem sout0_C_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_C_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (stepV x0 x1 x2 x3 x5 x6 xs1) := by
  unfold sout0_C_1
  rw [View.read_writes_eq_canon _ _ _ (scover0_C_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_C; dsimp only
  exact canon_stack (stepV x0 x1 x2 x3 x5 x6 xs1) []
    (stepV_loads arg4 harg4 arg5 harg5 arg6 harg6 arg7 harg7 arg9 harg9 arg10 harg10 x0 x1 x2 x3 x5 x6 0 xs1 _ (load_accV arg16 harg16 xs1 0))
    (stepV_loads arg4 harg4 arg5 harg5 arg6 harg6 arg7 harg7 arg9 harg9 arg10 harg10 x0 x1 x2 x3 x5 x6 1 xs1 _ (load_accV arg16 harg16 xs1 1))
    (stepV_loads arg4 harg4 arg5 harg5 arg6 harg6 arg7 harg7 arg9 harg9 arg10 harg10 x0 x1 x2 x3 x5 x6 2 xs1 _ (load_accV arg16 harg16 xs1 2))
    (stepV_loads arg4 harg4 arg5 harg5 arg6 harg6 arg7 harg7 arg9 harg9 arg10 harg10 x0 x1 x2 x3 x5 x6 3 xs1 _ (load_accV arg16 harg16 xs1 3))
    (stepV_loads arg4 harg4 arg5 harg5 arg6 harg6 arg7 harg7 arg9 harg9 arg10 harg10 x0 x1 x2 x3 x5 x6 4 xs1 _ (load_accV arg16 harg16 xs1 4))
    (stepV_loads arg4 harg4 arg5 harg5 arg6 harg6 arg7 harg7 arg9 harg9 arg10 harg10 x0 x1 x2 x3 x5 x6 5 xs1 _ (load_accV arg16 harg16 xs1 5))
    (stepV_loads arg4 harg4 arg5 harg5 arg6 harg6 arg7 harg7 arg9 harg9 arg10 harg10 x0 x1 x2 x3 x5 x6 6 xs1 _ (load_accV arg16 harg16 xs1 6))
    (stepV_loads arg4 harg4 arg5 harg5 arg6 harg6 arg7 harg7 arg9 harg9 arg10 harg10 x0 x1 x2 x3 x5 x6 7 xs1 _ (load_accV arg16 harg16 xs1 7))

theorem sout0_E_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : ¬cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_E_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (diagV x0 x1 x2 x3 x5 x6 xs1) := by
  unfold sout0_E_1
  rw [View.read_writes_eq_canon _ _ _ (scover0_E_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_E; dsimp only
  exact canon_stack (diagV x0 x1 x2 x3 x5 x6 xs1) []
    (diagV_loads arg4 harg4 arg5 harg5 arg6 harg6 arg7 harg7 arg9 harg9 arg10 harg10 x0 x1 x2 x3 x5 x6 0 xs1 _ (load_accV arg16 harg16 xs1 0))
    (diagV_loads arg4 harg4 arg5 harg5 arg6 harg6 arg7 harg7 arg9 harg9 arg10 harg10 x0 x1 x2 x3 x5 x6 1 xs1 _ (load_accV arg16 harg16 xs1 1))
    (diagV_loads arg4 harg4 arg5 harg5 arg6 harg6 arg7 harg7 arg9 harg9 arg10 harg10 x0 x1 x2 x3 x5 x6 2 xs1 _ (load_accV arg16 harg16 xs1 2))
    (diagV_loads arg4 harg4 arg5 harg5 arg6 harg6 arg7 harg7 arg9 harg9 arg10 harg10 x0 x1 x2 x3 x5 x6 3 xs1 _ (load_accV arg16 harg16 xs1 3))
    (diagV_loads arg4 harg4 arg5 harg5 arg6 harg6 arg7 harg7 arg9 harg9 arg10 harg10 x0 x1 x2 x3 x5 x6 4 xs1 _ (load_accV arg16 harg16 xs1 4))
    (diagV_loads arg4 harg4 arg5 harg5 arg6 harg6 arg7 harg7 arg9 harg9 arg10 harg10 x0 x1 x2 x3 x5 x6 5 xs1 _ (load_accV arg16 harg16 xs1 5))
    (diagV_loads arg4 harg4 arg5 harg5 arg6 harg6 arg7 harg7 arg9 harg9 arg10 harg10 x0 x1 x2 x3 x5 x6 6 xs1 _ (load_accV arg16 harg16 xs1 6))
    (diagV_loads arg4 harg4 arg5 harg5 arg6 harg6 arg7 harg7 arg9 harg9 arg10 harg10 x0 x1 x2 x3 x5 x6 7 xs1 _ (load_accV arg16 harg16 xs1 7))

theorem sout0_G_1_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    sout0_G_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (diagV x0 x1 x2 x3 x5 x6 xs1) := by
  unfold sout0_G_1
  rw [View.read_writes_eq_canon _ _ _ (scover0_G_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_G; dsimp only
  exact canon_stack (diagV x0 x1 x2 x3 x5 x6 xs1) []
    (diagV_loads arg4 harg4 arg5 harg5 arg6 harg6 arg7 harg7 arg9 harg9 arg10 harg10 x0 x1 x2 x3 x5 x6 0 xs1 _ (load_accV arg16 harg16 xs1 0))
    (diagV_loads arg4 harg4 arg5 harg5 arg6 harg6 arg7 harg7 arg9 harg9 arg10 harg10 x0 x1 x2 x3 x5 x6 1 xs1 _ (load_accV arg16 harg16 xs1 1))
    (diagV_loads arg4 harg4 arg5 harg5 arg6 harg6 arg7 harg7 arg9 harg9 arg10 harg10 x0 x1 x2 x3 x5 x6 2 xs1 _ (load_accV arg16 harg16 xs1 2))
    (diagV_loads arg4 harg4 arg5 harg5 arg6 harg6 arg7 harg7 arg9 harg9 arg10 harg10 x0 x1 x2 x3 x5 x6 3 xs1 _ (load_accV arg16 harg16 xs1 3))
    (diagV_loads arg4 harg4 arg5 harg5 arg6 harg6 arg7 harg7 arg9 harg9 arg10 harg10 x0 x1 x2 x3 x5 x6 4 xs1 _ (load_accV arg16 harg16 xs1 4))
    (diagV_loads arg4 harg4 arg5 harg5 arg6 harg6 arg7 harg7 arg9 harg9 arg10 harg10 x0 x1 x2 x3 x5 x6 5 xs1 _ (load_accV arg16 harg16 xs1 5))
    (diagV_loads arg4 harg4 arg5 harg5 arg6 harg6 arg7 harg7 arg9 harg9 arg10 harg10 x0 x1 x2 x3 x5 x6 6 xs1 _ (load_accV arg16 harg16 xs1 6))
    (diagV_loads arg4 harg4 arg5 harg5 arg6 harg6 arg7 harg7 arg9 harg9 arg10 harg10 x0 x1 x2 x3 x5 x6 7 xs1 _ (load_accV arg16 harg16 xs1 7))

theorem out0_C_8_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_C_8 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = side (outKn (stack (stepK x0 x1 x2 x3 x4 x5 x6 x7 xs0))) := by
  have hL := (View.read_writes_eq_canon VS0_0 VS0_0.junk _ (scover0_C_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_C_0_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_C_8
  rw [View.read_writes_eq_canon _ _ _ (cover0_C_8 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_C; dsimp only
  exact canon_side (outKn (stack (stepK x0 x1 x2 x3 x4 x5 x6 x7 xs0))) []
    (outKn_load arg15.view _ _ hL 0)
    (outKn_load arg15.view _ _ hL 1)
    (outKn_load arg15.view _ _ hL 2)
    (outKn_load arg15.view _ _ hL 3)
    (outKn_load arg15.view _ _ hL 4)
    (outKn_load arg15.view _ _ hL 5)
    (outKn_load arg15.view _ _ hL 6)
    (outKn_load arg15.view _ _ hL 7)

theorem out0_C_9_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_C_9 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (outKp (stack (stepK x0 x1 x2 x3 x4 x5 x6 x7 xs0))) := by
  have hL := (View.read_writes_eq_canon VS0_0 VS0_0.junk _ (scover0_C_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_C_0_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_C_9
  rw [View.read_writes_eq_canon _ _ _ (cover0_C_9 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_C; dsimp only
  exact canon_stack (outKp (stack (stepK x0 x1 x2 x3 x4 x5 x6 x7 xs0))) []
    (outKp_load arg15.view _ _ hL 0)
    (outKp_load arg15.view _ _ hL 1)
    (outKp_load arg15.view _ _ hL 2)
    (outKp_load arg15.view _ _ hL 3)
    (outKp_load arg15.view _ _ hL 4)
    (outKp_load arg15.view _ _ hL 5)
    (outKp_load arg15.view _ _ hL 6)
    (outKp_load arg15.view _ _ hL 7)

theorem out0_C_10_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : cond0_1 i) (hc2 : ¬cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_C_10 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = side (outV (stack (stepV x0 x1 x2 x3 x5 x6 xs1))) := by
  have hL := (View.read_writes_eq_canon VS0_1 VS0_1.junk _ (scover0_C_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_C_1_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_C_10
  rw [View.read_writes_eq_canon _ _ _ (cover0_C_10 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_C; dsimp only
  exact canon_side (outV (stack (stepV x0 x1 x2 x3 x5 x6 xs1))) []
    (outV_load arg16.view _ _ hL 0)
    (outV_load arg16.view _ _ hL 1)
    (outV_load arg16.view _ _ hL 2)
    (outV_load arg16.view _ _ hL 3)
    (outV_load arg16.view _ _ hL 4)
    (outV_load arg16.view _ _ hL 5)
    (outV_load arg16.view _ _ hL 6)
    (outV_load arg16.view _ _ hL 7)

theorem out0_G_8_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_G_8 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = side (outKn (stack (diagK x0 x1 x2 x3 x4 x5 x6 x7 xs0))) := by
  have hL := (View.read_writes_eq_canon VS0_0 VS0_0.junk _ (scover0_G_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_G_0_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_G_8
  rw [View.read_writes_eq_canon _ _ _ (cover0_G_8 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_G; dsimp only
  exact canon_side (outKn (stack (diagK x0 x1 x2 x3 x4 x5 x6 x7 xs0))) []
    (outKn_load arg15.view _ _ hL 0)
    (outKn_load arg15.view _ _ hL 1)
    (outKn_load arg15.view _ _ hL 2)
    (outKn_load arg15.view _ _ hL 3)
    (outKn_load arg15.view _ _ hL 4)
    (outKn_load arg15.view _ _ hL 5)
    (outKn_load arg15.view _ _ hL 6)
    (outKn_load arg15.view _ _ hL 7)

theorem out0_G_9_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_G_9 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = stack (outKp (stack (diagK x0 x1 x2 x3 x4 x5 x6 x7 xs0))) := by
  have hL := (View.read_writes_eq_canon VS0_0 VS0_0.junk _ (scover0_G_0 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_G_0_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_G_9
  rw [View.read_writes_eq_canon _ _ _ (cover0_G_9 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_G; dsimp only
  exact canon_stack (outKp (stack (diagK x0 x1 x2 x3 x4 x5 x6 x7 xs0))) []
    (outKp_load arg15.view _ _ hL 0)
    (outKp_load arg15.view _ _ hL 1)
    (outKp_load arg15.view _ _ hL 2)
    (outKp_load arg15.view _ _ hL 3)
    (outKp_load arg15.view _ _ hL 4)
    (outKp_load arg15.view _ _ hL 5)
    (outKp_load arg15.view _ _ hL 6)
    (outKp_load arg15.view _ _ hL 7)

theorem out0_G_10_eq (c : Dev nD) (i : grid0.Coords) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S8x1x512 .f32) (harg10 : arg10.IsWhole) (arg11 : Memref sig .tc .vmem S8x1x512 .f32) (harg11 : arg11.IsWhole) (arg12 : Memref sig .tc .vmem S512x1024 .bf16) (harg12 : arg12.IsWhole) (arg13 : Memref sig .tc .vmem S8x512x128 .f32) (harg13 : arg13.IsWhole) (arg14 : Memref sig .tc .vmem S512x1024 .bf16) (harg14 : arg14.IsWhole) (arg15 : Memref sig .tc .vmem S8x512x256 .f32) (harg15 : arg15.IsWhole) (arg16 : Memref sig .tc .vmem S8x512x128 .f32) (harg16 : arg16.IsWhole) (hc0 : ¬cond0_0 i) (hc1 : ¬cond0_1 i) (hc2 : cond0_2 i) (hc3 : cond0_3 i) (x0 : Vec F S512x1024 .bf16) (x1 : Vec F S512x1024 .bf16) (x2 : Vec F S512x1024 .bf16) (x3 : Vec F S512x128 .bf16) (x4 : Vec F S512x1024 .bf16) (x5 : Vec F S512x1024 .bf16) (x6 : Vec F S8x1x512 .f32) (x7 : Vec F S8x1x512 .f32) (xs0 : Vec F S8x512x256 .f32) (xs1 : Vec F S8x512x128 .f32) :
    out0_G_10 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1 = side (outV (stack (diagV x0 x1 x2 x3 x5 x6 xs1))) := by
  have hL := (View.read_writes_eq_canon VS0_1 VS0_1.junk _ (scover0_G_1 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)).symm.trans (sout0_G_1_eq c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)
  unfold out0_G_10
  rw [View.read_writes_eq_canon _ _ _ (cover0_G_10 c i arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5 x6 x7 xs0 xs1)]
  unfold kernelRun0_G; dsimp only
  exact canon_side (outV (stack (diagV x0 x1 x2 x3 x5 x6 xs1))) []
    (outV_load arg16.view _ _ hL 0)
    (outV_load arg16.view _ _ hL 1)
    (outV_load arg16.view _ _ hL 2)
    (outV_load arg16.view _ _ hL 3)
    (outV_load arg16.view _ _ hL 4)
    (outV_load arg16.view _ _ hL 5)
    (outV_load arg16.view _ _ hL 6)
    (outV_load arg16.view _ _ hL 7)

end Cert.Body

end
-- ==== Proof.PointValue.lean ====
/- What one grid point leaves in the accumulators and in the outputs, in each of the seven cases of its conditions. -/
module

public import proofs.«01_k».proof.Proof.Cases

@[expose] public section

set_option maxRecDepth 16384

noncomputable section

namespace Cert.Grid

open Cert.KernelIdeal Cert.KernelIdeal.Gen Cert.Pieces Cert.Body Idealize.ShloMosaic Idealize.ShloMosaic.TcCoe Idealize.SL.Sem

/-! ## What a grid point leaves, case by case -/

section Points

variable (m : (ℓ : Loc nD τ sig) → Buf (Elt Ideal) ℓ) (c : Dev nD) (t : Fin cfg0.N)

theorem scrK_A (h0 : t.val % 8 = 0) (h1 : ¬t.val / 8 % 8 + 1 ≤ t.val % 8) (h2 : t.val / 8 % 8 = t.val % 8) (h3 : ¬t.val % 8 = 7) :
    (outsAt0 m c t.val t.isLt).2.2.2.1 = stack (diagK (iblk m c 0 t) (iblk m c 1 t) (iblk m c 2 t) (iblk m c 3 t) (iblk m c 4 t) (iblk m c 5 t) (iblk m c 6 t) (iblk m c 7 t) (k0_pay1 (F := Ideal))) := by
  rw [outsAt0_A m c t h0 h1 h2 h3]
  dsimp only
  exact sout0_A_0_eq ..
theorem scrV_A (h0 : t.val % 8 = 0) (h1 : ¬t.val / 8 % 8 + 1 ≤ t.val % 8) (h2 : t.val / 8 % 8 = t.val % 8) (h3 : ¬t.val % 8 = 7) :
    (outsAt0 m c t.val t.isLt).2.2.2.2 = stack (diagV (iblk m c 0 t) (iblk m c 1 t) (iblk m c 2 t) (iblk m c 3 t) (iblk m c 5 t) (iblk m c 6 t) (k0_pay2 (F := Ideal))) := by
  rw [outsAt0_A m c t h0 h1 h2 h3]
  dsimp only
  exact sout0_A_1_eq ..
theorem scrK_B (h0 : ¬t.val % 8 = 0) (h1 : t.val / 8 % 8 + 1 ≤ t.val % 8) (h2 : ¬t.val / 8 % 8 = t.val % 8) (h3 : ¬t.val % 8 = 7) :
    (outsAt0 m c t.val t.isLt).2.2.2.1 = stack (stepK (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1) := by
  rw [outsAt0_B m c t h0 h1 h2 h3]
  dsimp only
  exact sout0_B_0_eq ..
theorem scrV_B (h0 : ¬t.val % 8 = 0) (h1 : t.val / 8 % 8 + 1 ≤ t.val % 8) (h2 : ¬t.val / 8 % 8 = t.val % 8) (h3 : ¬t.val % 8 = 7) :
    (outsAt0 m c t.val t.isLt).2.2.2.2 = stack (stepV (iblk m c 0 t) (iblk m c 1 t) (iblk m c 2 t) (iblk m c 3 t) (iblk m c 5 t) (iblk m c 6 t) (outsAt0 m c (t.val - 1) (Nat.lt_of_le_of_lt (Nat.sub_le _ _) t.isLt)).2.2.2.2) := by
  rw [outsAt0_B m c t h0 h1 h2 h3]
  dsimp only
  exact sout0_B_1_eq ..
theorem scrK_C (h0 : ¬t.val % 8 = 0) (h1 : t.val / 8 % 8 + 1 ≤ t.val % 8) (h2 : ¬t.val / 8 % 8 = t.val % 8) (h3 : t.val % 8 = 7) :
    (outsAt0 m c t.val t.isLt).2.2.2.1 = stack (stepK (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1) := by
  rw [outsAt0_C m c t h0 h1 h2 h3]
  dsimp only
  exact sout0_C_0_eq ..
theorem scrV_C (h0 : ¬t.val % 8 = 0) (h1 : t.val / 8 % 8 + 1 ≤ t.val % 8) (h2 : ¬t.val / 8 % 8 = t.val % 8) (h3 : t.val % 8 = 7) :
    (outsAt0 m c t.val t.isLt).2.2.2.2 = stack (stepV (iblk m c 0 t) (iblk m c 1 t) (iblk m c 2 t) (iblk m c 3 t) (iblk m c 5 t) (iblk m c 6 t) (outsAt0 m c (t.val - 1) (Nat.lt_of_le_of_lt (Nat.sub_le _ _) t.isLt)).2.2.2.2) := by
  rw [outsAt0_C m c t h0 h1 h2 h3]
  dsimp only
  exact sout0_C_1_eq ..
theorem outKn_C (h0 : ¬t.val % 8 = 0) (h1 : t.val / 8 % 8 + 1 ≤ t.val % 8) (h2 : ¬t.val / 8 % 8 = t.val % 8) (h3 : t.val % 8 = 7) :
    (outsAt0 m c t.val t.isLt).1 = side (outKn (outsAt0 m c t.val t.isLt).2.2.2.1) := by
  rw [scrK_C m c t h0 h1 h2 h3, outsAt0_C m c t h0 h1 h2 h3]
  dsimp only
  exact out0_C_8_eq ..
theorem outKp_C (h0 : ¬t.val % 8 = 0) (h1 : t.val / 8 % 8 + 1 ≤ t.val % 8) (h2 : ¬t.val / 8 % 8 = t.val % 8) (h3 : t.val % 8 = 7) :
    (outsAt0 m c t.val t.isLt).2.1 = stack (outKp (outsAt0 m c t.val t.isLt).2.2.2.1) := by
  rw [scrK_C m c t h0 h1 h2 h3, outsAt0_C m c t h0 h1 h2 h3]
  dsimp only
  exact out0_C_9_eq ..
theorem outV_C (h0 : ¬t.val % 8 = 0) (h1 : t.val / 8 % 8 + 1 ≤ t.val % 8) (h2 : ¬t.val / 8 % 8 = t.val % 8) (h3 : t.val % 8 = 7) :
    (outsAt0 m c t.val t.isLt).2.2.1 = side (outV (outsAt0 m c t.val t.isLt).2.2.2.2) := by
  rw [scrV_C m c t h0 h1 h2 h3, outsAt0_C m c t h0 h1 h2 h3]
  dsimp only
  exact out0_C_10_eq ..
theorem scrK_D (h0 : t.val % 8 = 0) (h1 : ¬t.val / 8 % 8 + 1 ≤ t.val % 8) (h2 : ¬t.val / 8 % 8 = t.val % 8) (h3 : ¬t.val % 8 = 7) :
    (outsAt0 m c t.val t.isLt).2.2.2.1 = k0_pay1 (F := Ideal) := by
  rw [outsAt0_D m c t h0 h1 h2 h3]
  dsimp only
  exact sout0_D_0_eq ..
theorem scrV_D (h0 : t.val % 8 = 0) (h1 : ¬t.val / 8 % 8 + 1 ≤ t.val % 8) (h2 : ¬t.val / 8 % 8 = t.val % 8) (h3 : ¬t.val % 8 = 7) :
    (outsAt0 m c t.val t.isLt).2.2.2.2 = k0_pay2 (F := Ideal) := by
  rw [outsAt0_D m c t h0 h1 h2 h3]
  dsimp only
  exact sout0_D_1_eq ..
theorem scrK_E (h0 : ¬t.val % 8 = 0) (h1 : ¬t.val / 8 % 8 + 1 ≤ t.val % 8) (h2 : t.val / 8 % 8 = t.val % 8) (h3 : ¬t.val % 8 = 7) :
    (outsAt0 m c t.val t.isLt).2.2.2.1 = stack (diagK (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1) := by
  rw [outsAt0_E m c t h0 h1 h2 h3]
  dsimp only
  exact sout0_E_0_eq ..
theorem scrV_E (h0 : ¬t.val % 8 = 0) (h1 : ¬t.val / 8 % 8 + 1 ≤ t.val % 8) (h2 : t.val / 8 % 8 = t.val % 8) (h3 : ¬t.val % 8 = 7) :
    (outsAt0 m c t.val t.isLt).2.2.2.2 = stack (diagV (iblk m c 0 t) (iblk m c 1 t) (iblk m c 2 t) (iblk m c 3 t) (iblk m c 5 t) (iblk m c 6 t) (outsAt0 m c (t.val - 1) (Nat.lt_of_le_of_lt (Nat.sub_le _ _) t.isLt)).2.2.2.2) := by
  rw [outsAt0_E m c t h0 h1 h2 h3]
  dsimp only
  exact sout0_E_1_eq ..
theorem scrK_F (h0 : ¬t.val % 8 = 0) (h1 : ¬t.val / 8 % 8 + 1 ≤ t.val % 8) (h2 : ¬t.val / 8 % 8 = t.val % 8) (h3 : ¬t.val % 8 = 7) :
    (outsAt0 m c t.val t.isLt).2.2.2.1 = (outsAt0 m c (t.val - 1) (Nat.lt_of_le_of_lt (Nat.sub_le _ _) t.isLt)).2.2.2.1 := by
  rw [outsAt0_F m c t h0 h1 h2 h3]
  exact rfl
theorem scrV_F (h0 : ¬t.val % 8 = 0) (h1 : ¬t.val / 8 % 8 + 1 ≤ t.val % 8) (h2 : ¬t.val / 8 % 8 = t.val % 8) (h3 : ¬t.val % 8 = 7) :
    (outsAt0 m c t.val t.isLt).2.2.2.2 = (outsAt0 m c (t.val - 1) (Nat.lt_of_le_of_lt (Nat.sub_le _ _) t.isLt)).2.2.2.2 := by
  rw [outsAt0_F m c t h0 h1 h2 h3]
  exact rfl
theorem scrK_G (h0 : ¬t.val % 8 = 0) (h1 : ¬t.val / 8 % 8 + 1 ≤ t.val % 8) (h2 : t.val / 8 % 8 = t.val % 8) (h3 : t.val % 8 = 7) :
    (outsAt0 m c t.val t.isLt).2.2.2.1 = stack (diagK (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1) := by
  rw [outsAt0_G m c t h0 h1 h2 h3]
  dsimp only
  exact sout0_G_0_eq ..
theorem scrV_G (h0 : ¬t.val % 8 = 0) (h1 : ¬t.val / 8 % 8 + 1 ≤ t.val % 8) (h2 : t.val / 8 % 8 = t.val % 8) (h3 : t.val % 8 = 7) :
    (outsAt0 m c t.val t.isLt).2.2.2.2 = stack (diagV (iblk m c 0 t) (iblk m c 1 t) (iblk m c 2 t) (iblk m c 3 t) (iblk m c 5 t) (iblk m c 6 t) (outsAt0 m c (t.val - 1) (Nat.lt_of_le_of_lt (Nat.sub_le _ _) t.isLt)).2.2.2.2) := by
  rw [outsAt0_G m c t h0 h1 h2 h3]
  dsimp only
  exact sout0_G_1_eq ..
theorem outKn_G (h0 : ¬t.val % 8 = 0) (h1 : ¬t.val / 8 % 8 + 1 ≤ t.val % 8) (h2 : t.val / 8 % 8 = t.val % 8) (h3 : t.val % 8 = 7) :
    (outsAt0 m c t.val t.isLt).1 = side (outKn (outsAt0 m c t.val t.isLt).2.2.2.1) := by
  rw [scrK_G m c t h0 h1 h2 h3, outsAt0_G m c t h0 h1 h2 h3]
  dsimp only
  exact out0_G_8_eq ..
theorem outKp_G (h0 : ¬t.val % 8 = 0) (h1 : ¬t.val / 8 % 8 + 1 ≤ t.val % 8) (h2 : t.val / 8 % 8 = t.val % 8) (h3 : t.val % 8 = 7) :
    (outsAt0 m c t.val t.isLt).2.1 = stack (outKp (outsAt0 m c t.val t.isLt).2.2.2.1) := by
  rw [scrK_G m c t h0 h1 h2 h3, outsAt0_G m c t h0 h1 h2 h3]
  dsimp only
  exact out0_G_9_eq ..
theorem outV_G (h0 : ¬t.val % 8 = 0) (h1 : ¬t.val / 8 % 8 + 1 ≤ t.val % 8) (h2 : t.val / 8 % 8 = t.val % 8) (h3 : t.val % 8 = 7) :
    (outsAt0 m c t.val t.isLt).2.2.1 = side (outV (outsAt0 m c t.val t.isLt).2.2.2.2) := by
  rw [scrV_G m c t h0 h1 h2 h3, outsAt0_G m c t h0 h1 h2 h3]
  dsimp only
  exact out0_G_10_eq ..

end Points

end Cert.Grid

end
-- ==== Proof.AttnMath.lean ====
/- Causal softmax attention and its derivatives over the real numbers, for two sequences of 4096 rows and eight heads:
   the formulas that both programs are shown to compute, and the few laws of the extended reals needed to get there. -/
module

public import Idealize.ShloMosaic.Lib.IdealHost

@[expose] public section

noncomputable section

open Idealize.ShloMosaic

namespace Cert.Attn

/-! ## Real numbers among the extended reals -/

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_coe_coe (x y : ℝ) (h : y ≠ 0) : Ideal.div (x : EReal) (y : EReal) = ((x / y : ℝ) : EReal) := by
  rw [Ideal.div_coe h, ← EReal.coe_mul, mul_one_div]

/-- An extended real of finite magnitude is a real number. -/
theorem exists_real {x : EReal} (h : max x (-x) < ⊤) : ∃ r : ℝ, x = (r : EReal) := by
  induction x with
  | bot => simp at h
  | top => simp at h
  | coe r => exact ⟨r, rfl⟩

/-! ## The arguments and the formulas -/

/-- The arguments of the attention and of its derivative: queries, keys (each with a plain part and a rotated part, the
    rotated keys shared by the heads), values, and the cotangent of the output. -/
structure Args where
  qn : Fin 2 → Fin 4096 → Fin 8 → Fin 128 → ℝ
  qp : Fin 2 → Fin 4096 → Fin 8 → Fin 64 → ℝ
  kn : Fin 2 → Fin 4096 → Fin 8 → Fin 128 → ℝ
  kp : Fin 2 → Fin 4096 → Fin 64 → ℝ
  v : Fin 2 → Fin 4096 → Fin 8 → Fin 128 → ℝ
  ct : Fin 2 → Fin 4096 → Fin 8 → Fin 128 → ℝ

/-- The arrays hold the arguments, number by number. -/
structure Holds (A : Args) (x0 : (⟨4, ![2, 4096, 8, 128]⟩ : Shape).Idx → EReal) (x1 : (⟨4, ![2, 4096, 8, 64]⟩ : Shape).Idx → EReal)
    (x2 : (⟨4, ![2, 4096, 8, 128]⟩ : Shape).Idx → EReal) (x3 : (⟨3, ![2, 4096, 64]⟩ : Shape).Idx → EReal)
    (x4 x5 : (⟨4, ![2, 4096, 8, 128]⟩ : Shape).Idx → EReal) : Prop where
  qn : ∀ i, x0 i = (A.qn (i 0) (i 1) (i 2) (i 3) : EReal)
  qp : ∀ i, x1 i = (A.qp (i 0) (i 1) (i 2) (i 3) : EReal)
  kn : ∀ i, x2 i = (A.kn (i 0) (i 1) (i 2) (i 3) : EReal)
  kp : ∀ i, x3 i = (A.kp (i 0) (i 1) (i 2) : EReal)
  v : ∀ i, x4 i = (A.v (i 0) (i 1) (i 2) (i 3) : EReal)
  ct : ∀ i, x5 i = (A.ct (i 0) (i 1) (i 2) (i 3) : EReal)

/-- The scale of the scores: the real number that the printed literal denotes. -/
def scale : ℝ := (Ideal.ofBits .f32 0x3D93CD3A#32).toReal

theorem scale_eq : Ideal.ofBits .f32 0x3D93CD3A#32 = (scale : EReal) := by
  unfold scale
  have h : ∃ r : ℝ, Ideal.ofBits .f32 0x3D93CD3A#32 = (r : EReal) := by
    have e : Ideal.ofBits .f32 0x3D93CD3A#32 = Ideal.ieee 8 23 0x3D93CD3A#32 := rfl
    rw [e, Ideal.ieee]
    rw [if_neg (by decide), if_neg (by decide)]
    exact ⟨_, rfl⟩
  obtain ⟨r, hr⟩ := h
  rw [hr, EReal.toReal_coe]

theorem neg_inf_eq : Ideal.ofBits .f32 0xFF800000#32 = ⊥ := by
  have e : Ideal.ofBits .f32 0xFF800000#32 = Ideal.ieee 8 23 0xFF800000#32 := rfl
  rw [e, Ideal.ieee]
  rw [if_pos (by decide), if_pos (by decide), if_pos (by decide)]

theorem pos_inf_eq : Ideal.ofBits .f32 0x7F800000#32 = ⊤ := by
  have e : Ideal.ofBits .f32 0x7F800000#32 = Ideal.ieee 8 23 0x7F800000#32 := rfl
  rw [e, Ideal.ieee]
  rw [if_pos (by decide), if_pos (by decide), if_neg (by decide)]

theorem zero_eq : Ideal.ofBits .f32 0x00000000#32 = 0 := by simp [Ideal.ofBits, Ideal.ieee]

variable (A : Args)

/-- The scaled score of query row `i` against key row `j`. -/
def sc (b : Fin 2) (h : Fin 8) (i j : Fin 4096) : ℝ :=
  (∑ d : Fin 128, A.qn b i h d * A.kn b j h d + ∑ r : Fin 64, A.qp b i h r * A.kp b j r) * scale

/-- The score with the keys after the query row masked out. -/
def msc (b : Fin 2) (h : Fin 8) (i j : Fin 4096) : EReal := if j ≤ i then (sc A b h i j : EReal) else ⊥

/-- The largest score of a row among the keys that it sees. -/
def mx (b : Fin 2) (h : Fin 8) (i : Fin 4096) : ℝ :=
  (Finset.univ.filter (· ≤ i)).sup' ⟨i, by simp⟩ fun j => sc A b h i j

def e (b : Fin 2) (h : Fin 8) (i j : Fin 4096) : ℝ := if j ≤ i then Real.exp (sc A b h i j - mx A b h i) else 0
def l (b : Fin 2) (h : Fin 8) (i : Fin 4096) : ℝ := ∑ j, e A b h i j
/-- The logarithm of the sum of the exponentials of a row's scores. -/
def lse (b : Fin 2) (h : Fin 8) (i : Fin 4096) : ℝ := mx A b h i + Real.log (l A b h i)
/-- The attention probability. -/
def p (b : Fin 2) (h : Fin 8) (i j : Fin 4096) : ℝ := e A b h i j / l A b h i
/-- The output of the attention. -/
def o (b : Fin 2) (h : Fin 8) (i : Fin 4096) (d : Fin 128) : ℝ := ∑ j, A.v b j h d * p A b h i j
/-- The cotangent of a probability. -/
def dp (b : Fin 2) (h : Fin 8) (i j : Fin 4096) : ℝ := ∑ d : Fin 128, A.ct b i h d * A.v b j h d
def dl (b : Fin 2) (h : Fin 8) (i : Fin 4096) : ℝ := ∑ d : Fin 128, A.ct b i h d * o A b h i d
/-- The cotangent of the unscaled score. -/
def ds (b : Fin 2) (h : Fin 8) (i j : Fin 4096) : ℝ := p A b h i j * (dp A b h i j - dl A b h i) * scale
def dkn (b : Fin 2) (h : Fin 8) (j : Fin 4096) (d : Fin 128) : ℝ := ∑ i, ds A b h i j * A.qn b i h d
def dkp (b : Fin 2) (h : Fin 8) (j : Fin 4096) (r : Fin 64) : ℝ := ∑ i, ds A b h i j * A.qp b i h r
def dv (b : Fin 2) (h : Fin 8) (j : Fin 4096) (d : Fin 128) : ℝ := ∑ i, p A b h i j * A.ct b i h d

variable (b : Fin 2) (h : Fin 8) (i j : Fin 4096)

theorem fold_max : Finset.univ.fold max ⊥ (fun j => msc A b h i j) = (mx A b h i : EReal) := by
  have key : ∀ s : Finset (Fin 4096), s.fold max ⊥ (fun j => msc A b h i j) = s.sup (fun j => msc A b h i j) := fun s => rfl
  rw [key]
  apply le_antisymm
  · refine Finset.sup_le fun j _ => ?_
    unfold msc
    split
    · rename_i hj
      exact EReal.coe_le_coe_iff.mpr (Finset.le_sup' (fun j => sc A b h i j) (by simp [hj]))
    · exact bot_le
  · obtain ⟨j, hj, hm⟩ := Finset.exists_mem_eq_sup' (s := Finset.univ.filter (· ≤ i)) ⟨i, by simp⟩ (fun j => sc A b h i j)
    have hj' : j ≤ i := by simpa using hj
    calc (mx A b h i : EReal) = msc A b h i j := by
          unfold msc mx; rw [if_pos hj', hm]
      _ ≤ _ := Finset.le_sup (f := fun j => msc A b h i j) (Finset.mem_univ j)

theorem exp_msc : Ideal.exp (msc A b h i j - (mx A b h i : EReal)) = (e A b h i j : EReal) := by
  unfold msc e
  split
  · rw [← EReal.coe_sub, Ideal.exp_coe]
  · rw [EReal.bot_sub, Ideal.exp_bot, EReal.coe_zero]

theorem e_nonneg : 0 ≤ e A b h i j := by
  unfold e; split
  · exact (Real.exp_pos _).le
  · exact le_rfl

theorem l_pos : 0 < l A b h i := by
  refine Finset.sum_pos' (fun j _ => e_nonneg A b h i j) ⟨i, Finset.mem_univ i, ?_⟩
  unfold e; rw [if_pos le_rfl]; exact Real.exp_pos _

theorem l_ne : l A b h i ≠ 0 := (l_pos A b h i).ne'

theorem log_l : Ideal.log (l A b h i : EReal) = (Real.log (l A b h i) : EReal) := by
  rw [Ideal.log_coe, if_neg (not_le.mpr (l_pos A b h i))]

theorem max_add_log : (mx A b h i : EReal) + Ideal.log (l A b h i : EReal) = (lse A b h i : EReal) := by
  rw [log_l, ← EReal.coe_add]
  unfold lse
  exact rfl

/-- The backward kernel's way to the probability: the exponential of the score less the saved logarithm. -/
theorem exp_lse : Ideal.exp (msc A b h i j - (lse A b h i : EReal)) = (p A b h i j : EReal) := by
  unfold msc p e
  split
  · rw [← EReal.coe_sub, Ideal.exp_coe]
    congr 1
    unfold lse
    rw [← sub_sub, Real.exp_sub, Real.exp_log (l_pos A b h i)]
  · rw [EReal.bot_sub, Ideal.exp_bot, zero_div, EReal.coe_zero]

theorem p_eq_zero (hij : i < j) : p A b h i j = 0 := by
  unfold p e; rw [if_neg (not_le.mpr hij), zero_div]

/-- The row constant of the derivative of the softmax, from the output and from the probabilities. -/
theorem dl_eq : dl A b h i = ∑ j, p A b h i j * dp A b h i j := by
  unfold dl o dp
  simp only [Finset.mul_sum]
  rw [Finset.sum_comm]
  refine Finset.sum_congr rfl fun j _ => Finset.sum_congr rfl fun d _ => by ring

/-- The reference's spelling of the cotangent of the masked score. -/
theorem ds_ref : ((dp A b h i j / l A b h i + -(∑ k, dp A b h i k * (1 / (l A b h i * l A b h i)) * e A b h i k)) * e A b h i j) * scale
    = ds A b h i j := by
  unfold ds
  rw [dl_eq]
  have hl := l_ne A b h i
  have : ∑ k, dp A b h i k * (1 / (l A b h i * l A b h i)) * e A b h i k = (∑ k, p A b h i k * dp A b h i k) / l A b h i := by
    rw [Finset.sum_div]
    refine Finset.sum_congr rfl fun k _ => ?_
    unfold p; field_simp
  rw [this]
  unfold p
  field_simp
  ring

theorem ds_coe : (Ideal.div (dp A b h i j : EReal) (l A b h i : EReal)
      + ((-(∑ k, dp A b h i k * (1 / (l A b h i * l A b h i)) * e A b h i k) : ℝ) : EReal)) * (e A b h i j : EReal) * (scale : EReal)
    = (ds A b h i j : EReal) := by
  rw [div_coe_coe _ _ (l_ne A b h i), ← EReal.coe_add, ← EReal.coe_mul, ← EReal.coe_mul, ds_ref]

theorem ds_eq_zero (hij : i < j) : ds A b h i j = 0 := by unfold ds; rw [p_eq_zero A b h i j hij]; ring

/-! ## The three results, in the layouts that the programs return -/

/-- The row `r` of the sequences laid end to end, as a sequence and a row of it. -/
def seqOf (r : Fin 8192) : Fin 2 := ⟨r.val / 4096, by omega⟩
def rowOf (r : Fin 8192) : Fin 4096 := ⟨r.val % 4096, by omega⟩
/-- The column of the heads laid side by side, as a head and a lane of it. -/
def headOf (n : Fin 1024) : Fin 8 := ⟨n.val / 128, by omega⟩
def laneOf (n : Fin 1024) : Fin 128 := ⟨n.val % 128, by omega⟩

/-- The gradient of the plain part of the keys. -/
def resKn (i : (⟨2, ![8192, 1024]⟩ : Shape).Idx) : EReal := (dkn A (seqOf (i 0)) (headOf (i 1)) (rowOf (i 0)) (laneOf (i 1)) : ℝ)
/-- The gradient of the values. -/
def resV (i : (⟨2, ![8192, 1024]⟩ : Shape).Idx) : EReal := (dv A (seqOf (i 0)) (headOf (i 1)) (rowOf (i 0)) (laneOf (i 1)) : ℝ)
/-- The gradient of the rotated part of the keys, one for each head, in 128 lanes of which the upper 64 are zero. -/
def resKp (i : (⟨3, ![8, 8192, 128]⟩ : Shape).Idx) : EReal :=
  if h : (i 2).val < 64 then (dkp A (seqOf (i 1)) (i 0) (rowOf (i 1)) ⟨(i 2).val, h⟩ : ℝ) else 0

end Cert.Attn

end
-- ==== Proof.TileValue.lean ====
/- One grid point read over the real numbers: each head adds to its accumulators the terms of the two gradients that belong to
   the tile's queries and keys. -/
module

public import proofs.«01_k».proof.Proof.Steps
public import proofs.«01_k».proof.Proof.AttnMath
public import Idealize.ShloMosaic.Lib.WordCmp

@[expose] public section

set_option maxRecDepth 16384

noncomputable section

namespace Cert.Tile

open Cert.KernelIdeal Cert.KernelIdeal.Gen Cert.Pieces Cert.Body Cert.Attn Idealize.ShloMosaic Idealize.ShloMosaic.TcCoe Idealize.SL.Sem

/-- Row `i` of tile `n` of a sequence. -/
def row (n : Fin 8) (i : Fin 512) : Fin 4096 := ⟨n.val * 512 + i.val, by have := n.isLt; have := i.isLt; omega⟩

variable (A : Args)

/-- The rotated parts of the queries and the keys, in 128 lanes of which the upper 64 are zero. -/
def qpad (b : Fin 2) (i : Fin 4096) (h : Fin 8) (d : Fin 128) : ℝ := if hd : d.val < 64 then A.qp b i h ⟨d.val, hd⟩ else 0
def kpad (b : Fin 2) (j : Fin 4096) (d : Fin 128) : ℝ := if hd : d.val < 64 then A.kp b j ⟨d.val, hd⟩ else 0
/-- The two parts of a query side by side. -/
def qcat (b : Fin 2) (i : Fin 4096) (h : Fin 8) (l : Fin 256) : ℝ :=
  if hl : l.val < 128 then A.qn b i h ⟨l.val, hl⟩ else qpad A b i h ⟨l.val - 128, by have := l.isLt; omega⟩

theorem pad_sum (b : Fin 2) (h : Fin 8) (i j : Fin 4096) :
    ∑ d : Fin 128, kpad A b j d * qpad A b i h d = ∑ r : Fin 64, A.qp b i h r * A.kp b j r := by
  rw [Fin.sum_univ_add (a := 64) (b := 64) fun d => kpad A b j d * qpad A b i h d]
  have h2 : ∑ d : Fin 64, kpad A b j (Fin.natAdd 64 d) * qpad A b i h (Fin.natAdd 64 d) = 0 := by
    refine Finset.sum_eq_zero fun d _ => ?_
    unfold kpad
    rw [dif_neg (by simp), zero_mul]
  rw [h2, add_zero]
  refine Finset.sum_congr rfl fun d _ => ?_
  unfold kpad qpad
  rw [dif_pos (by simp), dif_pos (by simp), mul_comm]
  rfl

/-- What the eight windows of a grid point hold: the rows of query tile `qi` and of key tile `ki` of sequence `b`. -/
structure Holds (b : Fin 2) (qi ki : Fin 8) (x0 x1 x2 : FVec Ideal S512x1024 .bf16) (x3 : FVec Ideal S512x128 .bf16)
    (x4 x5 : FVec Ideal S512x1024 .bf16) (x6 x7 : FVec Ideal S8x1x512 .f32) : Prop where
  qn : ∀ y, x0 y = (A.qn b (row qi (y 0)) (headOf (y 1)) (laneOf (y 1)) : EReal)
  qp : ∀ y, x1 y = (qpad A b (row qi (y 0)) (headOf (y 1)) (laneOf (y 1)) : EReal)
  kn : ∀ y, x2 y = (A.kn b (row ki (y 0)) (headOf (y 1)) (laneOf (y 1)) : EReal)
  kp : ∀ y, x3 y = (kpad A b (row ki (y 0)) (y 1) : EReal)
  v : ∀ y, x4 y = (A.v b (row ki (y 0)) (headOf (y 1)) (laneOf (y 1)) : EReal)
  ct : ∀ y, x5 y = (A.ct b (row qi (y 0)) (headOf (y 1)) (laneOf (y 1)) : EReal)
  lse : ∀ y, x6 y = (lse A b (y 0) (row qi (y 2)) : EReal)
  dl : ∀ y, x7 y = (dl A b (y 0) (row qi (y 2)) : EReal)

/-! ## The operations of one head -/

section Ops

variable (v12 v14 v17 v19 v25 v33 : FVec Ideal S512x128 .bf16) (w w' : FVec Ideal S1x1x512 .f32)

/-- The product of a key and a query, in its two parts. -/
def dot2 (r i : Fin 512) : EReal := (∑ x : Fin 128, v17 (ix2 r x) * v12 (ix2 i x)) + ∑ x : Fin 128, v19 (ix2 r x) * v14 (ix2 i x)

theorem pay8_apply (r i : Fin 512) : k0_pay8 (F := Ideal) v12 v14 v17 v19 w (ix2 r i)
    = Ideal.exp (dot2 v12 v14 v17 v19 r i * scale - w (ix3 0 0 i)) := by
  unfold k0_pay8 k0_pay6
  simp only [pointwise, scale_eq, zero_add]
  rfl
theorem pay57_apply (r i : Fin 512) : k0_pay57 (F := Ideal) v12 v14 v17 v19 w (ix2 r i)
    = Ideal.exp ((if r.val ≤ i.val then dot2 v12 v14 v17 v19 r i * scale else ⊥) - w (ix3 0 0 i)) := by
  unfold k0_pay57 k0_pay55
  simp only [pointwise, scale_eq, zero_add, neg_inf_eq]
  rw [Scalar.select_def]
  refine congrArg (fun z => Ideal.exp (z - _)) (if_congr ?_ rfl rfl)
  refine Iff.trans (iff_of_eq (congrArg (· = 1) ?_)) (WordCmp.cmpi_sle_ofNat_eq_one_iff (w := 32) (a := r.val) (b := i.val) (by norm_num; omega) (by norm_num; omega))
  show IntOp.cmpi .sle (BitVec.ofNat 32 (0 * 512 + r.val)) (BitVec.ofNat 32 (0 * 512 + i.val)) = _
  rw [zero_mul, zero_add, zero_add]
theorem pay9_apply (r i : Fin 512) : k0_pay9 (F := Ideal) v12 v14 v17 v19 v25 w v33 w' (ix2 r i)
    = k0_pay8 (F := Ideal) v12 v14 v17 v19 w (ix2 r i) * ((∑ x : Fin 128, v33 (ix2 r x) * v25 (ix2 i x)) - w' (ix3 0 0 i)) * scale := by
  unfold k0_pay9 k0_pay7
  simp only [pointwise, scale_eq, zero_add]
  rfl
theorem pay58_apply (r i : Fin 512) : k0_pay58 (F := Ideal) v12 v14 v17 v19 v25 w v33 w' (ix2 r i)
    = k0_pay57 (F := Ideal) v12 v14 v17 v19 w (ix2 r i) * ((∑ x : Fin 128, v33 (ix2 r x) * v25 (ix2 i x)) - w' (ix3 0 0 i)) * scale := by
  unfold k0_pay58 k0_pay56
  simp only [pointwise, scale_eq, zero_add]
  rfl
theorem pay55_apply (i : Fin 512) (l : Fin 256) : k0_pay55 (F := Ideal) v12 v14 (ix2 i l)
    = if h : l.val < 128 then v12 (ix2 i ⟨l.val, h⟩) else v14 (ix2 i ⟨l.val - 128, by omega⟩) := by
  unfold k0_pay55
  simp only [pointwise]
  split <;> rfl
theorem pay12_apply (acc : FVec Ideal S1x512x128 .f32) (r : Fin 512) (l : Fin 128) :
    k0_pay12 (F := Ideal) (k0_pay10 acc) (k0_pay11 v12 v14 v17 v19 v25 w) (ix3 0 r l)
      = acc (ix3 0 r l) + ∑ i : Fin 512, k0_pay8 (F := Ideal) v12 v14 v17 v19 w (ix2 r i) * v25 (ix2 i l) := by
  unfold k0_pay12 k0_pay10 k0_pay11 k0_pay7
  simp only [pointwise, zero_add]
theorem pay59_apply (P : FVec Ideal S512x512 .f32) (acc : FVec Ideal S1x512x128 .f32) (r : Fin 512) (l : Fin 128) :
    k0_pay59 (F := Ideal) (k0_pay56 v25) P acc (ix3 0 r l) = acc (ix3 0 r l) + ∑ i : Fin 512, P (ix2 r i) * v25 (ix2 i l) := by
  unfold k0_pay59 k0_pay56
  simp only [pointwise, zero_add]
theorem pay13_apply (P : FVec Ideal S512x512 .f32) (q : FVec Ideal S512x256 .bf16) (acc : FVec Ideal S1x512x256 .f32) (r : Fin 512) (l : Fin 256) :
    k0_pay13 (F := Ideal) q P acc (ix3 0 r l) = acc (ix3 0 r l) + ∑ i : Fin 512, P (ix2 r i) * q (ix2 i l) := by
  unfold k0_pay13
  simp only [pointwise, zero_add]
theorem pay60_apply (P : FVec Ideal S512x512 .f32) (q : FVec Ideal S512x256 .bf16) (acc : FVec Ideal S1x512x256 .f32) (r : Fin 512) (l : Fin 256) :
    k0_pay60 (F := Ideal) q P acc (ix3 0 r l) = acc (ix3 0 r l) + ∑ i : Fin 512, P (ix2 r i) * q (ix2 i l) := by
  unfold k0_pay60
  simp only [pointwise, zero_add]
theorem pay103_apply (acc : FVec Ideal S1x512x128 .f32) (r : Fin 512) (l : Fin 128) : k0_pay103 (F := Ideal) acc (ix2 r l) = acc (ix3 0 r l) := by
  unfold k0_pay103
  simp only [pointwise]
theorem pay104_apply (acc : FVec Ideal S1x512x128 .f32) (r : Fin 512) (l : Fin 128) : k0_pay104 (F := Ideal) acc (ix3 0 r l) = acc (ix3 0 r l) := by
  unfold k0_pay104
  simp only [pointwise]
theorem pay1_apply (y : S8x512x256.Idx) : k0_pay1 (F := Ideal) y = 0 := by
  unfold k0_pay1
  simp only [pointwise]
theorem pay2_apply (y : S8x512x128.Idx) : k0_pay2 (F := Ideal) y = 0 := by
  unfold k0_pay2
  simp only [pointwise]

end Ops

/-! ## The tile's terms -/

/-- What a tile adds to the gradient of the values and to the one of the keys. -/
def tileV (b : Fin 2) (qi ki h : Fin 8) (r : Fin 512) (l : Fin 128) : ℝ :=
  ∑ i : Fin 512, p A b h (row qi i) (row ki r) * A.ct b (row qi i) h l
def tileK (b : Fin 2) (qi ki h : Fin 8) (r : Fin 512) (l : Fin 256) : ℝ :=
  ∑ i : Fin 512, ds A b h (row qi i) (row ki r) * qcat A b (row qi i) h l

section Reads

variable {A} {b : Fin 2} {qi ki : Fin 8} {x0 x1 x2 : FVec Ideal S512x1024 .bf16} {x3 : FVec Ideal S512x128 .bf16}
  {x4 x5 : FVec Ideal S512x1024 .bf16} {x6 x7 : FVec Ideal S8x1x512 .f32} (T : Holds A b qi ki x0 x1 x2 x3 x4 x5 x6 x7)

theorem head_col (h : Fin 8) (d : Fin 128) (hn : h.val * 128 + d.val < 1024) : headOf ⟨h.val * 128 + d.val, hn⟩ = h := by
  apply Fin.ext; show (h.val * 128 + d.val) / 128 = h.val; omega
theorem lane_col (h : Fin 8) (d : Fin 128) (hn : h.val * 128 + d.val < 1024) : laneOf ⟨h.val * 128 + d.val, hn⟩ = d := by
  apply Fin.ext; show (h.val * 128 + d.val) % 128 = d.val; omega

/-- A matrix of heads side by side, at head `h`. -/
theorem cols_of {x : FVec Ideal S512x1024 .bf16} {f : Fin 512 → Fin 8 → Fin 128 → ℝ}
    (hx : ∀ y, x y = (f (y 0) (headOf (y 1)) (laneOf (y 1)) : EReal)) (h : Fin 8) (i : Fin 512) (d : Fin 128) :
    cols x h (ix2 i d) = (f i h d : EReal) := by
  refine (hx _).trans (congrArg Real.toEReal ?_)
  exact congrArg₂ (f i) (head_col h d _) (lane_col h d _)

include T

theorem dot2_eq (h : Fin 8) (r i : Fin 512) :
    dot2 (cols x0 h) (cols x1 h) (cols x2 h) x3 r i * (scale : EReal) = (sc A b h (row qi i) (row ki r) : EReal) := by
  unfold dot2 sc
  have e1 : ∀ x : Fin 128, cols x2 h (ix2 r x) * cols x0 h (ix2 i x) = ((A.qn b (row qi i) h x * A.kn b (row ki r) h x : ℝ) : EReal) := fun x => by
    rw [cols_of (f := fun i h d => A.kn b (row ki i) h d) T.kn, cols_of (f := fun i h d => A.qn b (row qi i) h d) T.qn, ← EReal.coe_mul, mul_comm]
  have e2 : ∀ x : Fin 128, x3 (ix2 r x) * cols x1 h (ix2 i x) = ((kpad A b (row ki r) x * qpad A b (row qi i) h x : ℝ) : EReal) := fun x => by
    rw [T.kp, cols_of (f := fun i h d => qpad A b (row qi i) h d) T.qp, ← EReal.coe_mul]
    rfl
  simp only [e1, e2, coe_sum, ← EReal.coe_add, ← EReal.coe_mul, pad_sum]

theorem probs (hlt : ki < qi) (h : Fin 8) (r i : Fin 512) :
    k0_pay8 (F := Ideal) (cols x0 h) (cols x1 h) (cols x2 h) x3 (plane x6 h) (ix2 r i) = (p A b h (row qi i) (row ki r) : EReal) := by
  rw [pay8_apply, dot2_eq T, ← exp_lse]
  have hle : row ki r ≤ row qi i := by
    show ki.val * 512 + r.val ≤ qi.val * 512 + i.val
    have : ki.val < qi.val := hlt
    have := r.isLt
    omega
  unfold msc
  rw [if_pos hle]
  exact congrArg (fun z => Ideal.exp (_ - z)) (T.lse _)

theorem probs_diag (hq : qi = ki) (h : Fin 8) (r i : Fin 512) :
    k0_pay57 (F := Ideal) (cols x0 h) (cols x1 h) (cols x2 h) x3 (plane x6 h) (ix2 r i) = (p A b h (row qi i) (row ki r) : EReal) := by
  rw [pay57_apply, dot2_eq T, ← exp_lse]
  unfold msc
  have hle : r.val ≤ i.val ↔ row ki r ≤ row qi i := by
    subst hq
    show _ ↔ qi.val * 512 + r.val ≤ qi.val * 512 + i.val
    omega
  rw [if_congr hle rfl rfl]
  exact congrArg (fun z => Ideal.exp (_ - z)) (T.lse _)

theorem dprob (h : Fin 8) (r i : Fin 512) :
    (∑ x : Fin 128, cols x4 h (ix2 r x) * cols x5 h (ix2 i x)) - plane x7 h (ix3 0 0 i)
      = ((dp A b h (row qi i) (row ki r) - dl A b h (row qi i) : ℝ) : EReal) := by
  have e1 : ∀ x : Fin 128, cols x4 h (ix2 r x) * cols x5 h (ix2 i x) = ((A.ct b (row qi i) h x * A.v b (row ki r) h x : ℝ) : EReal) := fun x => by
    rw [cols_of (f := fun i h d => A.v b (row ki i) h d) T.v, cols_of (f := fun i h d => A.ct b (row qi i) h d) T.ct, ← EReal.coe_mul, mul_comm]
  simp only [e1, coe_sum]
  rw [EReal.coe_sub]
  exact congrArg (_ - ·) (T.dl _)

theorem query (h : Fin 8) (i : Fin 512) (l : Fin 256) :
    k0_pay55 (F := Ideal) (cols x0 h) (cols x1 h) (ix2 i l) = (qcat A b (row qi i) h l : EReal) := by
  rw [pay55_apply]
  unfold qcat
  split
  · exact cols_of (f := fun i h d => A.qn b (row qi i) h d) T.qn h i _
  · exact cols_of (f := fun i h d => qpad A b (row qi i) h d) T.qp h i _

theorem stepV_at (hlt : ki < qi) (acc : FVec Ideal S8x512x128 .f32) (h : Fin 8) (r : Fin 512) (l : Fin 128) :
    stepV (F := Ideal) x0 x1 x2 x3 x5 x6 acc h (ix3 0 r l) = acc (ix3 h r l) + (tileV A b qi ki h r l : EReal) := by
  unfold stepV tileV
  rw [pay12_apply, ← coe_sum]
  refine congrArg₂ (· + ·) ?_ (Finset.sum_congr rfl fun i _ => ?_)
  · rfl
  · rw [EReal.coe_mul]
    exact congrArg₂ (· * ·) (probs T hlt _ _ _) (cols_of (f := fun i h d => A.ct b (row qi i) h d) T.ct _ _ _)

theorem stepV_eq (hlt : ki < qi) (acc : FVec Ideal S8x512x128 .f32) (y : S8x512x128.Idx) :
    stack (stepV (F := Ideal) x0 x1 x2 x3 x5 x6 acc) y = acc y + (tileV A b qi ki (y 0) (y 1) (y 2) : EReal) :=
  (stepV_at T hlt acc (y 0) (y 1) (y 2)).trans (congrArg (fun z => acc z + _) (ix3_eta y))

theorem diagV_at (hq : qi = ki) (acc : FVec Ideal S8x512x128 .f32) (h : Fin 8) (r : Fin 512) (l : Fin 128) :
    diagV (F := Ideal) x0 x1 x2 x3 x5 x6 acc h (ix3 0 r l) = acc (ix3 h r l) + (tileV A b qi ki h r l : EReal) := by
  unfold diagV tileV
  rw [pay59_apply, ← coe_sum]
  refine congrArg₂ (· + ·) ?_ (Finset.sum_congr rfl fun i _ => ?_)
  · rfl
  · rw [EReal.coe_mul]
    exact congrArg₂ (· * ·) (probs_diag T hq _ _ _) (cols_of (f := fun i h d => A.ct b (row qi i) h d) T.ct _ _ _)

theorem diagV_eq (hq : qi = ki) (acc : FVec Ideal S8x512x128 .f32) (y : S8x512x128.Idx) :
    stack (diagV (F := Ideal) x0 x1 x2 x3 x5 x6 acc) y = acc y + (tileV A b qi ki (y 0) (y 1) (y 2) : EReal) :=
  (diagV_at T hq acc (y 0) (y 1) (y 2)).trans (congrArg (fun z => acc z + _) (ix3_eta y))

theorem stepK_at (hlt : ki < qi) (acc : FVec Ideal S8x512x256 .f32) (h : Fin 8) (r : Fin 512) (l : Fin 256) :
    stepK (F := Ideal) x0 x1 x2 x3 x4 x5 x6 x7 acc h (ix3 0 r l) = acc (ix3 h r l) + (tileK A b qi ki h r l : EReal) := by
  unfold stepK tileK
  rw [pay13_apply, ← coe_sum]
  refine congrArg₂ (· + ·) ?_ (Finset.sum_congr rfl fun i _ => ?_)
  · rfl
  · rw [EReal.coe_mul, pay9_apply]
    refine congrArg₂ (· * ·) ?_ (query T _ _ _)
    unfold ds
    rw [EReal.coe_mul, EReal.coe_mul]
    exact congrArg (· * (scale : EReal)) (congrArg₂ (· * ·) (probs T hlt _ _ _) (dprob T _ _ _))

theorem stepK_eq (hlt : ki < qi) (acc : FVec Ideal S8x512x256 .f32) (y : S8x512x256.Idx) :
    stack (stepK (F := Ideal) x0 x1 x2 x3 x4 x5 x6 x7 acc) y = acc y + (tileK A b qi ki (y 0) (y 1) (y 2) : EReal) :=
  (stepK_at T hlt acc (y 0) (y 1) (y 2)).trans (congrArg (fun z => acc z + _) (ix3_eta y))

theorem diagK_at (hq : qi = ki) (acc : FVec Ideal S8x512x256 .f32) (h : Fin 8) (r : Fin 512) (l : Fin 256) :
    diagK (F := Ideal) x0 x1 x2 x3 x4 x5 x6 x7 acc h (ix3 0 r l) = acc (ix3 h r l) + (tileK A b qi ki h r l : EReal) := by
  unfold diagK tileK
  rw [pay60_apply, ← coe_sum]
  refine congrArg₂ (· + ·) ?_ (Finset.sum_congr rfl fun i _ => ?_)
  · rfl
  · rw [EReal.coe_mul, pay58_apply]
    refine congrArg₂ (· * ·) ?_ (query T _ _ _)
    unfold ds
    rw [EReal.coe_mul, EReal.coe_mul]
    exact congrArg (· * (scale : EReal)) (congrArg₂ (· * ·) (probs_diag T hq _ _ _) (dprob T _ _ _))

theorem diagK_eq (hq : qi = ki) (acc : FVec Ideal S8x512x256 .f32) (y : S8x512x256.Idx) :
    stack (diagK (F := Ideal) x0 x1 x2 x3 x4 x5 x6 x7 acc) y = acc y + (tileK A b qi ki (y 0) (y 1) (y 2) : EReal) :=
  (diagK_at T hq acc (y 0) (y 1) (y 2)).trans (congrArg (fun z => acc z + _) (ix3_eta y))

end Reads

end Cert.Tile

end
-- ==== Proof.HostStages.lean ====
/- What the host code hands to the kernel, number by number: the scores, the saved logarithms and the row constants of the
   forward pass, and the arguments in the kernel's layout. -/
module

public import proofs.«01_k».proof.Proof.Gen.KernelIdeal.Frame.Runs
public import proofs.«01_k».proof.Proof.AttnMath
public import Idealize.ShloMosaic.Lib.Pipeline.Value
public import Idealize.ShloMosaic.Lib.Pointwise
public import Idealize.ShloMosaic.Lib.WordCmp
public import Idealize.ShloMosaic.Lib.StableHlo.RunRead

@[expose] public section

set_option maxRecDepth 16384

noncomputable section

namespace Cert.HostValue

open Cert.KernelIdeal Cert.KernelIdeal.Gen Cert.Attn Idealize.ShloMosaic Idealize.ShloMosaic.TcCoe Idealize.SL.Sem Idealize.ShloMosaic.StableHlo

theorem log_sum_apply {X Y : FVec Ideal S2x8x4096x1 .f32} (k : S2x8x4096x1.Idx) {x y : EReal} (hx : X k = x) (hy : Y k = y) :
    addf X (Host.log Y) k = x + Ideal.log y := by
  subst hx hy
  rfl

/-! ## The stages -/

section Stages

variable (x0 x2 x4 x5 : FVec Ideal S2x4096x8x128 .f32) (x1 : FVec Ideal S2x4096x8x64 .f32) (x3 : FVec Ideal S2x4096x64 .f32)

def hScore : FVec Ideal S2x8x4096x4096 .f32 :=
  mulf (addf (Host.dotGeneral dot_S2x4096x8x128_S2x4096x8x128_S2x8x4096x4096_3_3_1_1_02_02 none x0 x2)
      (transpose S2x8x4096x4096 [0, 3, 2, 1] (Host.dotGeneral dot_S2x4096x64_S2x4096x8x64_S2x4096x4096x8_2_3_1_12_0_0 none x3 x1)
        transposes_S2x4096x4096x8_S2x8x4096x4096_0_3_2_1))
    (broadcastInDim S2x8x4096x4096 ![] bcast_S_S2x8x4096x4096 (constant S_ .f32 0x3D93CD3A#32))

def hMasked : FVec Ideal S2x8x4096x4096 .f32 :=
  select (broadcastInDim S2x8x4096x4096 ![2, 3] bcast_S4096x4096_S2x8x4096x4096_2_3
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (hScore x0 x2 x1 x3) (broadcastInDim S2x8x4096x4096 ![] bcast_S_S2x8x4096x4096 (id (constant S_ .f32 0xFF800000#32)))

def hMax : FVec Ideal S2x8x4096x1 .f32 :=
  broadcastInDim S2x8x4096x1 ![0, 1, 2] bcast_S2x8x4096_S2x8x4096x1_0_1_2
    (Host.reduce FloatOps.maximumf (hMasked x0 x2 x1 x3) (constant S_ .f32 0xFF800000#32) reducesTo_S2x8x4096x4096_S2x8x4096_d3 h_S_)

def hExp : FVec Ideal S2x8x4096x4096 .f32 :=
  Host.exp (subf (hMasked x0 x2 x1 x3) (broadcastInDim S2x8x4096x4096 ![0, 1, 2, 3] bcast_S2x8x4096x1_S2x8x4096x4096_0_1_2_3 (hMax x0 x2 x1 x3)))

def hSum : FVec Ideal S2x8x4096x1 .f32 :=
  broadcastInDim S2x8x4096x1 ![0, 1, 2] bcast_S2x8x4096_S2x8x4096x1_0_1_2
    (Host.reduceAdd (hExp x0 x2 x1 x3) (constant S_ .f32 0x00000000#32) reducesTo_S2x8x4096x4096_S2x8x4096_d3 h_S_)

def hLog : FVec Ideal S2x8x4096 .f32 :=
  shapeCast S2x8x4096 (addf (hMax x0 x2 x1 x3) (Host.log (hSum x0 x2 x1 x3))) shapeCasts_S2x8x4096x1_S2x8x4096

def hLse : FVec Ideal S8x1x8192 .f32 :=
  shapeCast _ (transpose S8x2x4096 [1, 0, 2] (hLog x0 x2 x1 x3) transposes_S2x8x4096_S8x2x4096_1_0_2) shapeCasts_S8x2x4096_S8x1x8192

def hOut : FVec Ideal S2x4096x8x128 .f32 :=
  transpose S2x4096x8x128 [0, 3, 1, 2] (Host.dotGeneral dot_S2x4096x8x128_S2x8x4096x4096_S2x8x128x4096_1_3_3_2_02_01 none x4
    (Host.divf (hExp x0 x2 x1 x3) (broadcastInDim S2x8x4096x4096 ![0, 1, 2, 3] bcast_S2x8x4096x1_S2x8x4096x4096_0_1_2_3 (hSum x0 x2 x1 x3))))
    transposes_S2x8x128x4096_S2x4096x8x128_0_3_1_2

def hDelta : FVec Ideal S8x1x8192 .f32 :=
  shapeCast _ (transpose S8x2x4096 [2, 0, 1] (Host.reduceAdd (mulf x5 (hOut x0 x2 x4 x1 x3)) (constant S_ .f32 0x00000000#32) reducesTo_S2x4096x8x128_S2x4096x8_d3 h_S_)
    transposes_S2x4096x8_S8x2x4096_2_0_1) shapeCasts_S8x2x4096_S8x1x8192

def hFlat : FVec Ideal S8192x1024 .bf16 := truncf .bf16 (shapeCast S8192x1024 x0 shapeCasts_S2x4096x8x128_S8192x1024) bitsLt_bf16_f32

def hQp : FVec Ideal S8192x1024 .bf16 :=
  hFlat (pad S2x4096x8x128 ![0, 0, 0, 0] ![0, 0, 0, 64] ![0, 0, 0, 0] x1 (sitofp .f32 (constantI S_ 32 0#32)) pads_S2x4096x8x64_S2x4096x8x128_000_000_000_0640 h_S_)

def hKp : FVec Ideal S8192x128 .bf16 :=
  truncf .bf16 (shapeCast S8192x128 (pad S2x4096x128 ![0, 0, 0] ![0, 0, 64] ![0, 0, 0] x3 (sitofp .f32 (constantI S_ 32 0#32)) pads_S2x4096x64_S2x4096x128_000_000_0640 h_S_)
    shapeCasts_S2x4096x128_S8192x128) bitsLt_bf16_f32

variable {x0 x2 x4 x5 x1 x3} {A : Args} (H : Holds A x0 x1 x2 x3 x4 x5)
include H

theorem score (i : S2x8x4096x4096.Idx) : hScore x0 x2 x1 x3 i = (sc A (i 0) (i 1) (i 2) (i 3) : EReal) := by
  unfold hScore
  simp only [pointwise, H.qn, H.kn, H.qp, H.kp, scale_eq, zero_add, ← EReal.coe_mul, coe_sum, ← EReal.coe_add]
  unfold sc
  refine congrArg _ (congrArg (· * scale) (congrArg₂ _ rfl (Finset.sum_congr rfl fun r _ => mul_comm _ _)))

theorem masked (i : S2x8x4096x4096.Idx) : hMasked x0 x2 x1 x3 i = msc A (i 0) (i 1) (i 2) (i 3) := by
  unfold hMasked
  simp only [pointwise, score H]
  have h3 : (i 3).val < 4096 := (i 3).isLt
  have h2 : (i 2).val < 4096 := (i 2).isLt
  rw [Scalar.select_def]
  unfold msc
  exact if_congr (WordCmp.cmpi_sge_ofNat_eq_one_iff (a := (i 2).val) (b := (i 3).val) (by norm_num; omega) (by norm_num; omega)) rfl neg_inf_eq

theorem rowMax (i : S2x8x4096x1.Idx) : hMax x0 x2 x1 x3 i = (mx A (i 0) (i 1) (i 2) : EReal) := by
  unfold hMax
  simp only [pointwise, masked H]
  exact (congrArg (fun b => Finset.univ.fold max b _) neg_inf_eq).trans (fold_max A _ _ _)

theorem expVal (i : S2x8x4096x4096.Idx) : hExp x0 x2 x1 x3 i = (e A (i 0) (i 1) (i 2) (i 3) : EReal) := by
  unfold hExp
  simp only [pointwise, masked H, rowMax H]
  exact exp_msc A _ _ _ _

theorem rowSum (i : S2x8x4096x1.Idx) : hSum x0 x2 x1 x3 i = (l A (i 0) (i 1) (i 2) : EReal) := by
  unfold hSum
  simp only [pointwise, expVal H, zero_eq, zero_add, coe_sum]
  rfl

theorem logAt (k : S2x8x4096x1.Idx) :
    addf (hMax x0 x2 x1 x3) (Host.log (hSum x0 x2 x1 x3)) k = (lse A (k 0) (k 1) (k 2) : EReal) :=
  (log_sum_apply k (rowMax H k) (rowSum H k)).trans (max_add_log A (k 0) (k 1) (k 2))

theorem logSum (i : S2x8x4096.Idx) : hLog x0 x2 x1 x3 i = (lse A (i 0) (i 1) (i 2) : EReal) := by
  unfold hLog
  refine (shapeCast_apply _ shapeCasts_S2x8x4096x1_S2x8x4096 i (ix4 (i 0) (i 1) (i 2) (0 : Fin 1) : S2x8x4096x1.Idx) ?_).trans
    (logAt H (ix4 (i 0) (i 1) (i 2) (0 : Fin 1) : S2x8x4096x1.Idx))
  have h0 : (i 0).val < 2 := (i 0).isLt
  have h1 : (i 1).val < 8 := (i 1).isLt
  have h2 : (i 2).val < 4096 := (i 2).isLt
  rewrite [Shape.rowMajor_val_three, Shape.rowMajor_val_four]
  show (((i 0).val * 8 + (i 1).val) * 4096 + (i 2).val) * 1 + 0 = ((i 0).val * 8 + (i 1).val) * 4096 + (i 2).val
  omega

theorem lseVal (i : S8x1x8192.Idx) : hLse x0 x2 x1 x3 i = (lse A (seqOf (i 2)) (i 0) (rowOf (i 2)) : EReal) := by
  unfold hLse
  simp only [pointwise, logSum H]
  rfl

theorem prob (i : S2x8x4096x4096.Idx) : Ideal.div (hExp x0 x2 x1 x3 i) (hSum x0 x2 x1 x3 (ix4 (i 0) (i 1) (i 2) 0)) = (p A (i 0) (i 1) (i 2) (i 3) : EReal) := by
  rw [expVal H, rowSum H]
  exact div_coe_coe _ _ (l_ne A _ _ _)

theorem outVal (i : S2x4096x8x128.Idx) : hOut x0 x2 x4 x1 x3 i = (o A (i 0) (i 2) (i 1) (i 3) : EReal) := by
  unfold hOut
  simp only [pointwise, H.v]
  rw [zero_add]
  unfold o
  rw [← coe_sum]
  refine Finset.sum_congr rfl fun k _ => ?_
  rw [EReal.coe_mul]
  exact congrArg (_ * ·) (prob H (ix4 (i 0) (i 2) (i 1) k))

theorem deltaVal (i : S8x1x8192.Idx) : hDelta x0 x2 x4 x5 x1 x3 i = (dl A (seqOf (i 2)) (i 0) (rowOf (i 2)) : EReal) := by
  unfold hDelta
  simp only [pointwise, outVal H, H.ct, zero_eq, zero_add, ← EReal.coe_mul, coe_sum]
  rfl

omit H in
theorem flat_apply (x : FVec Ideal S2x4096x8x128 .f32) (i : S8192x1024.Idx) :
    hFlat x i = x (ix4 (seqOf (i 0)) (rowOf (i 0)) (headOf (i 1)) (laneOf (i 1))) := by
  unfold hFlat
  simp only [pointwise]
  rfl

theorem qpVal (i : S8192x1024.Idx) : hQp x1 i
    = if h : (laneOf (i 1)).val < 64 then (A.qp (seqOf (i 0)) (rowOf (i 0)) (headOf (i 1)) ⟨(laneOf (i 1)).val, h⟩ : EReal) else 0 := by
  unfold hQp
  rw [flat_apply]
  simp only [pointwise, H.qp]
  by_cases hl : (laneOf (i 1)).val < 64
  · rw [dif_pos hl, dif_pos]
    · exact congrArg Real.toEReal (congr (congr (congr (congrArg A.qp (Fin.ext (by simp))) (Fin.ext (by simp))) (Fin.ext (by simp))) (Fin.ext (by simp)))
    · intro a
      have hs : (seqOf (i 0)).val < 2 := (seqOf (i 0)).isLt
      have hr : (rowOf (i 0)).val < 4096 := (rowOf (i 0)).isLt
      have hh : (headOf (i 1)).val < 8 := (headOf (i 1)).isLt
      match a with
      | ⟨0, _⟩ => show 0 ≤ (seqOf (i 0)).val ∧ ((seqOf (i 0)).val - 0) % 1 = 0 ∧ ((seqOf (i 0)).val - 0) / 1 < 2; omega
      | ⟨1, _⟩ => show 0 ≤ (rowOf (i 0)).val ∧ ((rowOf (i 0)).val - 0) % 1 = 0 ∧ ((rowOf (i 0)).val - 0) / 1 < 4096; omega
      | ⟨2, _⟩ => show 0 ≤ (headOf (i 1)).val ∧ ((headOf (i 1)).val - 0) % 1 = 0 ∧ ((headOf (i 1)).val - 0) / 1 < 8; omega
      | ⟨3, _⟩ => show 0 ≤ (laneOf (i 1)).val ∧ ((laneOf (i 1)).val - 0) % 1 = 0 ∧ ((laneOf (i 1)).val - 0) / 1 < 64; omega
  · rw [dif_neg hl, dif_neg]
    · show (((0#32 : BitVec 32).toInt : ℝ) : EReal) = 0
      simp
    · intro hin
      have h3 : 0 ≤ (laneOf (i 1)).val ∧ ((laneOf (i 1)).val - 0) % 1 = 0 ∧ ((laneOf (i 1)).val - 0) / 1 < 64 := hin 3
      omega

theorem kpVal (i : S8192x128.Idx) : hKp x3 i
    = if h : (i 1).val < 64 then (A.kp (seqOf (i 0)) (rowOf (i 0)) ⟨(i 1).val, h⟩ : EReal) else 0 := by
  unfold hKp
  simp only [pointwise, H.kp]
  by_cases hl : (i 1).val < 64
  · rw [dif_pos hl, dif_pos]
    · exact congrArg Real.toEReal (congr (congr (congrArg A.kp (Fin.ext (by simp [seqOf]))) (Fin.ext (by simp [rowOf]))) (Fin.ext (by simp)))
    · intro a
      have hr : (i 0).val < 8192 := (i 0).isLt
      match a with
      | ⟨0, _⟩ => show 0 ≤ (i 0).val / 4096 ∧ ((i 0).val / 4096 - 0) % 1 = 0 ∧ ((i 0).val / 4096 - 0) / 1 < 2; omega
      | ⟨1, _⟩ => show 0 ≤ (i 0).val % 4096 ∧ ((i 0).val % 4096 - 0) % 1 = 0 ∧ ((i 0).val % 4096 - 0) / 1 < 4096; omega
      | ⟨2, _⟩ => show 0 ≤ (i 1).val ∧ ((i 1).val - 0) % 1 = 0 ∧ ((i 1).val - 0) / 1 < 64; omega
  · rw [dif_neg hl, dif_neg]
    · show (((0#32 : BitVec 32).toInt : ℝ) : EReal) = 0
      simp
    · intro hin
      have h3 : 0 ≤ (i 1).val ∧ ((i 1).val - 0) % 1 = 0 ∧ ((i 1).val - 0) / 1 < 64 := hin 2
      omega

end Stages

end Cert.HostValue

end
-- ==== Proof.HostReads.lean ====
/- What the host code hands to the kernel, array by array. -/
module

public import proofs.«01_k».proof.Proof.Gen.KernelIdeal.Frame.Runs
public import proofs.«01_k».proof.Proof.HostStages
public import Idealize.ShloMosaic.Lib.Pipeline.Value
public import Idealize.ShloMosaic.Lib.Pointwise
public import Idealize.ShloMosaic.Lib.WordCmp
public import Idealize.ShloMosaic.Lib.StableHlo.RunRead

@[expose] public section

set_option maxRecDepth 16384

noncomputable section

namespace Cert.HostValue

open Cert.KernelIdeal Cert.KernelIdeal.Gen Cert.Attn Idealize.ShloMosaic Idealize.ShloMosaic.TcCoe Idealize.SL.Sem Idealize.ShloMosaic.StableHlo

variable (m : (ℓ : Loc nD τ sig) → Buf (Elt Ideal) ℓ) (c : Dev nD)

theorem V_qn : V m c main_v38 = hFlat (m ((c.tc : Thread nD τ).loc main_arg0)) := by
  unfold V
  after_reads_simp
  rfl
theorem V_qp : V m c main_v40 = hQp (m ((c.tc : Thread nD τ).loc main_arg1)) := by
  unfold V
  after_reads_simp
  rfl
theorem V_kn : V m c main_v42 = hFlat (m ((c.tc : Thread nD τ).loc main_arg2)) := by
  unfold V
  after_reads_simp
  rfl
theorem V_kp : V m c main_v30 = hKp (m ((c.tc : Thread nD τ).loc main_arg3)) := by
  unfold V
  after_reads_simp
  rfl
theorem V_v : V m c main_v44 = hFlat (m ((c.tc : Thread nD τ).loc main_arg4)) := by
  unfold V
  after_reads_simp
  rfl
theorem V_do : V m c main_v46 = hFlat (m ((c.tc : Thread nD τ).loc main_arg5)) := by
  unfold V
  after_reads_simp
  rfl
theorem V_lse : V m c main_v34 = hLse (m ((c.tc : Thread nD τ).loc main_arg0)) (m ((c.tc : Thread nD τ).loc main_arg2))
    (m ((c.tc : Thread nD τ).loc main_arg1)) (m ((c.tc : Thread nD τ).loc main_arg3)) := by
  unfold V
  after_reads_simp
  rfl
theorem V_dl : V m c main_v36 = hDelta (m ((c.tc : Thread nD τ).loc main_arg0)) (m ((c.tc : Thread nD τ).loc main_arg2))
    (m ((c.tc : Thread nD τ).loc main_arg4)) (m ((c.tc : Thread nD τ).loc main_arg5))
    (m ((c.tc : Thread nD τ).loc main_arg1)) (m ((c.tc : Thread nD τ).loc main_arg3)) := by
  unfold V
  after_reads_simp
  rfl

end Cert.HostValue
end
-- ==== Proof.Windows.lean ====
/- What the kernel's windows hold at a grid point, in the terms of the attention's arguments. -/
module

public import proofs.«01_k».proof.Proof.Cases
public import proofs.«01_k».proof.Proof.TileValue
public import proofs.«01_k».proof.Proof.HostReads

@[expose] public section

set_option maxRecDepth 16384

noncomputable section

namespace Cert.Grid

open Cert.KernelIdeal Cert.KernelIdeal.Gen Cert.Pieces Cert.Body Cert.Attn Cert.Tile Cert.HostValue Idealize.ShloMosaic Idealize.ShloMosaic.TcCoe Idealize.SL.Sem

/-! ## The coordinates of a grid point -/

def bOf (t : Fin cfg0.N) : Fin 2 := ⟨t.val / 64, by have : t.val < 128 := t.isLt; omega⟩
def kOf (t : Fin cfg0.N) : Fin 8 := ⟨t.val / 8 % 8, by omega⟩
def qOf (t : Fin cfg0.N) : Fin 8 := ⟨t.val % 8, by omega⟩

theorem seq_row (r : Fin 8192) (b : Fin 2) (n : Fin 8) (i : Fin 512) (h : r.val = (b.val * 8 + n.val) * 512 + 1 * i.val) :
    seqOf r = b ∧ rowOf r = row n i := by
  have := b.isLt; have := n.isLt; have := i.isLt
  constructor
  · apply Fin.ext; show r.val / 4096 = b.val; omega
  · apply Fin.ext; show r.val % 4096 = n.val * 512 + i.val; omega

theorem ix_q0 : ∀ t : Fin grid0.N, t.val / 8 % 8 ≤ t.val % 8 → win0_0.index t (0 : Fin 2) = t.val / 64 * 8 + t.val % 8 ∧ win0_0.index t (1 : Fin 2) = 0 := by
  decide +kernel
theorem ix_q1 : ∀ t : Fin grid0.N, t.val / 8 % 8 ≤ t.val % 8 → win0_1.index t (0 : Fin 2) = t.val / 64 * 8 + t.val % 8 ∧ win0_1.index t (1 : Fin 2) = 0 := by
  decide +kernel
theorem ix_q5 : ∀ t : Fin grid0.N, t.val / 8 % 8 ≤ t.val % 8 → win0_5.index t (0 : Fin 2) = t.val / 64 * 8 + t.val % 8 ∧ win0_5.index t (1 : Fin 2) = 0 := by
  decide +kernel
theorem ix_k2 : ∀ t : Fin grid0.N, win0_2.index t (0 : Fin 2) = t.val / 64 * 8 + t.val / 8 % 8 ∧ win0_2.index t (1 : Fin 2) = 0 := by
  decide +kernel
theorem ix_k3 : ∀ t : Fin grid0.N, win0_3.index t (0 : Fin 2) = t.val / 64 * 8 + t.val / 8 % 8 ∧ win0_3.index t (1 : Fin 2) = 0 := by
  decide +kernel
theorem ix_k4 : ∀ t : Fin grid0.N, win0_4.index t (0 : Fin 2) = t.val / 64 * 8 + t.val / 8 % 8 ∧ win0_4.index t (1 : Fin 2) = 0 := by
  decide +kernel
theorem ix_q6 : ∀ t : Fin grid0.N, t.val / 8 % 8 ≤ t.val % 8 → win0_6.index t (2 : Fin 3) = t.val / 64 * 8 + t.val % 8 ∧ win0_6.index t (0 : Fin 3) = 0 := by
  decide +kernel
theorem ix_q7 : ∀ t : Fin grid0.N, t.val / 8 % 8 ≤ t.val % 8 → win0_7.index t (2 : Fin 3) = t.val / 64 * 8 + t.val % 8 ∧ win0_7.index t (0 : Fin 3) = 0 := by
  decide +kernel

/-! ## What the windows hold -/

section Windows

variable (m : (ℓ : Loc nD τ sig) → Buf (Elt Ideal) ℓ) (c : Dev nD) {A : Args}
  (H : Attn.Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))

/-- A row of an array in which the heads lie side by side, at its place in the tile. -/
theorem at_tile {f : Fin 2 → Fin 4096 → Fin 8 → Fin 128 → ℝ} (e : S8192x1024.Idx) (b : Fin 2) (n : Fin 8) (y : S512x1024.Idx)
    (h0 : (e 0).val = (b.val * 8 + n.val) * 512 + 1 * (y 0).val) (h1 : (e 1).val = 0 * 1024 + 1 * (y 1).val) :
    f (seqOf (e 0)) (rowOf (e 0)) (headOf (e 1)) (laneOf (e 1)) = f b (row n (y 0)) (headOf (y 1)) (laneOf (y 1)) := by
  obtain ⟨hs, hr⟩ := seq_row (e 0) b n (y 0) h0
  have he : (e 1 : Fin 1024) = y 1 := Fin.ext (by omega)
  exact congr (congr (congr (congrArg f hs) hr) (congrArg headOf he)) (congrArg laneOf he)

/-- A column of an array of one row for every head, at its place in the tile. -/
theorem at_row {f : Fin 2 → Fin 8 → Fin 4096 → ℝ} (e : S8x1x8192.Idx) (b : Fin 2) (n : Fin 8) (y : S8x1x512.Idx)
    (h0 : (e 0).val = 0 * 8 + 1 * (y 0).val) (h2 : (e 2).val = (b.val * 8 + n.val) * 512 + 1 * (y 2).val) :
    f (seqOf (e 2)) (e 0) (rowOf (e 2)) = f b (y 0) (row n (y 2)) := by
  obtain ⟨hs, hr⟩ := seq_row (e 2) b n (y 2) h2
  have he : (e 0 : Fin 8) = y 0 := Fin.ext (by omega)
  exact congr (congr (congrArg f hs) he) hr

/-- A window's block at an entry is the array at the entry the block puts there. -/
theorem read_q6 (X : (b : Ref sig .tc) → Buf (Elt Ideal) ((c : Thread nD τ).loc b)) (t : Fin cfg0.N) (y : S8x1x512.Idx) :
    (((cfg0.win 6).blk t).view.read (Elt Ideal) (X (Pipeline.arrRef spec0 6)) : FVec Ideal S8x1x512 .f32) y = X main_v34 (((cfg0.win 6).blk t).view.emb y) := rfl
/-- A window's block at an entry is the array at the entry the block puts there. -/
theorem read_q7 (X : (b : Ref sig .tc) → Buf (Elt Ideal) ((c : Thread nD τ).loc b)) (t : Fin cfg0.N) (y : S8x1x512.Idx) :
    (((cfg0.win 7).blk t).view.read (Elt Ideal) (X (Pipeline.arrRef spec0 7)) : FVec Ideal S8x1x512 .f32) y = X main_v36 (((cfg0.win 7).blk t).view.emb y) := rfl

include H

theorem win_q0 (t : Fin cfg0.N) (hle : t.val / 8 % 8 ≤ t.val % 8) (y : S512x1024.Idx) :
    (iblk m c 0 t : FVec Ideal S512x1024 .bf16) y = (A.qn (bOf t) (row (qOf t) (y 0)) (headOf (y 1)) (laneOf (y 1)) : EReal) := by
  show V m c main_v38 (((cfg0.win 0).blk t).view.emb y) = _
  rw [V_qn, flat_apply, H.qn]
  exact congrArg Real.toEReal (at_tile (f := A.qn) (((cfg0.win 0).blk t).view.emb y) (bOf t) (qOf t) y
    (congrArg (fun z => z * 512 + 1 * (y 0).val) (ix_q0 t hle).1) (congrArg (fun z => z * 1024 + 1 * (y 1).val) (ix_q0 t hle).2))

theorem win_k2 (t : Fin cfg0.N) (y : S512x1024.Idx) :
    (iblk m c 2 t : FVec Ideal S512x1024 .bf16) y = (A.kn (bOf t) (row (kOf t) (y 0)) (headOf (y 1)) (laneOf (y 1)) : EReal) := by
  show V m c main_v42 (((cfg0.win 2).blk t).view.emb y) = _
  rw [V_kn, flat_apply, H.kn]
  exact congrArg Real.toEReal (at_tile (f := A.kn) (((cfg0.win 2).blk t).view.emb y) (bOf t) (kOf t) y
    (congrArg (fun z => z * 512 + 1 * (y 0).val) (ix_k2 t).1) (congrArg (fun z => z * 1024 + 1 * (y 1).val) (ix_k2 t).2))

theorem win_k4 (t : Fin cfg0.N) (y : S512x1024.Idx) :
    (iblk m c 4 t : FVec Ideal S512x1024 .bf16) y = (A.v (bOf t) (row (kOf t) (y 0)) (headOf (y 1)) (laneOf (y 1)) : EReal) := by
  show V m c main_v44 (((cfg0.win 4).blk t).view.emb y) = _
  rw [V_v, flat_apply, H.v]
  exact congrArg Real.toEReal (at_tile (f := A.v) (((cfg0.win 4).blk t).view.emb y) (bOf t) (kOf t) y
    (congrArg (fun z => z * 512 + 1 * (y 0).val) (ix_k4 t).1) (congrArg (fun z => z * 1024 + 1 * (y 1).val) (ix_k4 t).2))

theorem win_q5 (t : Fin cfg0.N) (hle : t.val / 8 % 8 ≤ t.val % 8) (y : S512x1024.Idx) :
    (iblk m c 5 t : FVec Ideal S512x1024 .bf16) y = (A.ct (bOf t) (row (qOf t) (y 0)) (headOf (y 1)) (laneOf (y 1)) : EReal) := by
  show V m c main_v46 (((cfg0.win 5).blk t).view.emb y) = _
  rw [V_do, flat_apply, H.ct]
  exact congrArg Real.toEReal (at_tile (f := A.ct) (((cfg0.win 5).blk t).view.emb y) (bOf t) (qOf t) y
    (congrArg (fun z => z * 512 + 1 * (y 0).val) (ix_q5 t hle).1) (congrArg (fun z => z * 1024 + 1 * (y 1).val) (ix_q5 t hle).2))

theorem win_q1 (t : Fin cfg0.N) (hle : t.val / 8 % 8 ≤ t.val % 8) (y : S512x1024.Idx) :
    (iblk m c 1 t : FVec Ideal S512x1024 .bf16) y = (qpad A (bOf t) (row (qOf t) (y 0)) (headOf (y 1)) (laneOf (y 1)) : EReal) := by
  show V m c main_v40 (((cfg0.win 1).blk t).view.emb y) = _
  rw [V_qp, qpVal H]
  refine Eq.trans ?_ (congrArg Real.toEReal (at_tile (f := qpad A) (((cfg0.win 1).blk t).view.emb y) (bOf t) (qOf t) y
    (congrArg (fun z => z * 512 + 1 * (y 0).val) (ix_q1 t hle).1) (congrArg (fun z => z * 1024 + 1 * (y 1).val) (ix_q1 t hle).2)))
  unfold qpad
  split
  · rfl
  · exact EReal.coe_zero.symm

theorem win_k3 (t : Fin cfg0.N) (y : S512x128.Idx) :
    (iblk m c 3 t : FVec Ideal S512x128 .bf16) y = (kpad A (bOf t) (row (kOf t) (y 0)) (y 1) : EReal) := by
  show V m c main_v30 (((cfg0.win 3).blk t).view.emb y) = _
  rw [V_kp, kpVal H]
  have h0 : (((cfg0.win 3).blk t).view.emb y 0).val = ((bOf t).val * 8 + (kOf t).val) * 512 + 1 * (y 0).val :=
    congrArg (fun z => z * 512 + 1 * (y 0).val) (ix_k3 t).1
  have h1 : (((cfg0.win 3).blk t).view.emb y 1).val = 0 * 128 + 1 * (y 1).val := congrArg (fun z => z * 128 + 1 * (y 1).val) (ix_k3 t).2
  obtain ⟨hs, hr⟩ := seq_row (((cfg0.win 3).blk t).view.emb y 0) (bOf t) (kOf t) (y 0) h0
  have he : (((cfg0.win 3).blk t).view.emb y 1 : Fin 128) = y 1 := Fin.ext (by omega)
  refine Eq.trans ?_ (congrArg Real.toEReal (congr (congr (congrArg (kpad A) hs) hr) he))
  unfold kpad
  split
  · rfl
  · exact EReal.coe_zero.symm

theorem lse_at (e : S8x1x8192.Idx) : (V m c main_v34 : FVec Ideal S8x1x8192 .f32) e = (lse A (seqOf (e 2)) (e 0) (rowOf (e 2)) : EReal) :=
  (congrFun (V_lse m c) e).trans (lseVal H e)
theorem dl_at (e : S8x1x8192.Idx) : (V m c main_v36 : FVec Ideal S8x1x8192 .f32) e = (dl A (seqOf (e 2)) (e 0) (rowOf (e 2)) : EReal) :=
  (congrFun (V_dl m c) e).trans (deltaVal H e)

theorem win_q6 (t : Fin cfg0.N) (hle : t.val / 8 % 8 ≤ t.val % 8) (y : S8x1x512.Idx) :
    (iblk m c 6 t : FVec Ideal S8x1x512 .f32) y = (lse A (bOf t) (y 0) (row (qOf t) (y 2)) : EReal) :=
  (read_q6 c (V m c) t y).trans <| (lse_at m c H (((cfg0.win 6).blk t).view.emb y)).trans (congrArg Real.toEReal (at_row (f := lse A) (((cfg0.win 6).blk t).view.emb y) (bOf t) (qOf t) y
    (congrArg (fun z => z * 8 + 1 * (y 0).val) (ix_q6 t hle).2) (congrArg (fun z => z * 512 + 1 * (y 2).val) (ix_q6 t hle).1)))

theorem win_q7 (t : Fin cfg0.N) (hle : t.val / 8 % 8 ≤ t.val % 8) (y : S8x1x512.Idx) :
    (iblk m c 7 t : FVec Ideal S8x1x512 .f32) y = (dl A (bOf t) (y 0) (row (qOf t) (y 2)) : EReal) :=
  (read_q7 c (V m c) t y).trans <| (dl_at m c H (((cfg0.win 7).blk t).view.emb y)).trans (congrArg Real.toEReal (at_row (f := dl A) (((cfg0.win 7).blk t).view.emb y) (bOf t) (qOf t) y
    (congrArg (fun z => z * 8 + 1 * (y 0).val) (ix_q7 t hle).2) (congrArg (fun z => z * 512 + 1 * (y 2).val) (ix_q7 t hle).1)))

theorem tile (t : Fin cfg0.N) (hle : t.val / 8 % 8 ≤ t.val % 8) :
    Tile.Holds A (bOf t) (qOf t) (kOf t) (iblk m c 0 t) (iblk m c 1 t) (iblk m c 2 t) (iblk m c 3 t) (iblk m c 4 t) (iblk m c 5 t)
      (iblk m c 6 t) (iblk m c 7 t) :=
  ⟨win_q0 m c H t hle, win_q1 m c H t hle, win_k2 m c H t, win_k3 m c H t, win_k4 m c H t, win_q5 m c H t hle, win_q6 m c H t hle,
    win_q7 m c H t hle⟩

end Windows

end Cert.Grid

end
-- ==== Proof.GridValue.lean ====
/- The accumulators along the grid: after query tile `qi` they hold the sums over the tiles up to `qi`, and after the last one the
   gradients of the keys and values of the tile. -/
module

public import proofs.«01_k».proof.Proof.PointValue
public import proofs.«01_k».proof.Proof.TileValue
public import proofs.«01_k».proof.Proof.Windows

@[expose] public section

set_option maxRecDepth 16384

noncomputable section

namespace Cert.Grid

open Cert.KernelIdeal Cert.KernelIdeal.Gen Cert.Pieces Cert.Body Cert.Attn Cert.Tile Cert.HostValue Idealize.ShloMosaic Idealize.ShloMosaic.TcCoe Idealize.SL.Sem

/-! ## Partial sums over the tiles -/

/-- The sum of the first `n` of eight terms. -/
def part (f : Fin 8 → ℝ) (n : ℕ) : ℝ := ∑ t : Fin 8, if t.val < n then f t else 0

theorem part_zero (f : Fin 8 → ℝ) : part f 0 = 0 := by simp [part]
theorem part_succ (f : Fin 8 → ℝ) (n : Fin 8) : part f (n.val + 1) = part f n.val + f n := by
  unfold part
  rw [← Finset.sum_ite_eq' Finset.univ n f |>.trans (if_pos (Finset.mem_univ n)), ← Finset.sum_add_distrib]
  refine Finset.sum_congr rfl fun t _ => ?_
  by_cases h1 : t.val < n.val
  · rw [if_pos (by omega), if_pos h1, if_neg (by rintro rfl; omega), add_zero]
  · by_cases h2 : t = n
    · subst h2; rw [if_pos (by omega), if_neg h1, if_pos rfl, zero_add]
    · rw [if_neg (by have := mt Fin.ext h2; omega), if_neg h1, if_neg h2, add_zero]
theorem part_all (f : Fin 8 → ℝ) : part f 8 = ∑ t, f t := by
  unfold part
  exact Finset.sum_congr rfl fun t _ => if_pos t.isLt

theorem sum_tiles (f : Fin 4096 → ℝ) : ∑ t : Fin 8, ∑ i : Fin 512, f (row t i) = ∑ i, f i := by
  rw [← Finset.sum_product', ← (finProdFinEquiv (m := 8) (n := 512)).sum_comp f]
  refine Finset.sum_congr rfl fun x _ => congrArg f (Fin.ext ?_)
  show x.1.val * 512 + x.2.val = x.2.val + 512 * x.1.val
  omega

/-! ## The accumulators -/

section Accumulators

variable (A : Args)

theorem tileV_zero (b : Fin 2) {qi ki : Fin 8} (h : qi < ki) (hd : Fin 8) (r : Fin 512) (l : Fin 128) : tileV A b qi ki hd r l = 0 := by
  refine Finset.sum_eq_zero fun i _ => ?_
  rw [p_eq_zero, zero_mul]
  show qi.val * 512 + i.val < ki.val * 512 + r.val
  have : qi.val < ki.val := h
  have := i.isLt
  omega
theorem tileK_zero (b : Fin 2) {qi ki : Fin 8} (h : qi < ki) (hd : Fin 8) (r : Fin 512) (l : Fin 256) : tileK A b qi ki hd r l = 0 := by
  refine Finset.sum_eq_zero fun i _ => ?_
  rw [ds_eq_zero, zero_mul]
  show qi.val * 512 + i.val < ki.val * 512 + r.val
  have : qi.val < ki.val := h
  have := i.isLt
  omega

/-- What the two accumulators hold after the first `n` query tiles. -/
def accV (b : Fin 2) (ki : Fin 8) (n : ℕ) (h : Fin 8) (r : Fin 512) (l : Fin 128) : ℝ := part (fun qi => tileV A b qi ki h r l) n
def accK (b : Fin 2) (ki : Fin 8) (n : ℕ) (h : Fin 8) (r : Fin 512) (l : Fin 256) : ℝ := part (fun qi => tileK A b qi ki h r l) n

theorem accV_succ (b : Fin 2) (ki n : Fin 8) (h : Fin 8) (r : Fin 512) (l : Fin 128) :
    (accV A b ki n.val h r l : EReal) + (tileV A b n ki h r l : EReal) = (accV A b ki (n.val + 1) h r l : EReal) := by
  unfold accV
  rw [← EReal.coe_add, part_succ]
theorem accK_succ (b : Fin 2) (ki n : Fin 8) (h : Fin 8) (r : Fin 512) (l : Fin 256) :
    (accK A b ki n.val h r l : EReal) + (tileK A b n ki h r l : EReal) = (accK A b ki (n.val + 1) h r l : EReal) := by
  unfold accK
  rw [← EReal.coe_add, part_succ]

theorem accV_first (b : Fin 2) (ki n : Fin 8) (hn : n.val = 0) (h : Fin 8) (r : Fin 512) (l : Fin 128) :
    (0 : EReal) + (tileV A b n ki h r l : EReal) = (accV A b ki (n.val + 1) h r l : EReal) := by
  rw [← accV_succ, hn]
  unfold accV
  rw [part_zero, EReal.coe_zero]
theorem accK_first (b : Fin 2) (ki n : Fin 8) (hn : n.val = 0) (h : Fin 8) (r : Fin 512) (l : Fin 256) :
    (0 : EReal) + (tileK A b n ki h r l : EReal) = (accK A b ki (n.val + 1) h r l : EReal) := by
  rw [← accK_succ, hn]
  unfold accK
  rw [part_zero, EReal.coe_zero]

/-- A tile of queries that come before all keys of the tile adds nothing. -/
theorem accV_skip (b : Fin 2) (ki n : Fin 8) (hlt : n < ki) (h : Fin 8) (r : Fin 512) (l : Fin 128) :
    (accV A b ki n.val h r l : EReal) = (accV A b ki (n.val + 1) h r l : EReal) := by
  rw [← accV_succ, tileV_zero A b hlt, EReal.coe_zero, add_zero]
theorem accK_skip (b : Fin 2) (ki n : Fin 8) (hlt : n < ki) (h : Fin 8) (r : Fin 512) (l : Fin 256) :
    (accK A b ki n.val h r l : EReal) = (accK A b ki (n.val + 1) h r l : EReal) := by
  rw [← accK_succ, tileK_zero A b hlt, EReal.coe_zero, add_zero]
theorem accV_skip_first (b : Fin 2) (ki n : Fin 8) (hn : n.val = 0) (hlt : n < ki) (h : Fin 8) (r : Fin 512) (l : Fin 128) :
    (0 : EReal) = (accV A b ki (n.val + 1) h r l : EReal) := by
  rw [← accV_first A b ki n hn, tileV_zero A b hlt, EReal.coe_zero, add_zero]
theorem accK_skip_first (b : Fin 2) (ki n : Fin 8) (hn : n.val = 0) (hlt : n < ki) (h : Fin 8) (r : Fin 512) (l : Fin 256) :
    (0 : EReal) = (accK A b ki (n.val + 1) h r l : EReal) := by
  rw [← accK_first A b ki n hn, tileK_zero A b hlt, EReal.coe_zero, add_zero]

theorem accV_all (b : Fin 2) (ki : Fin 8) (h : Fin 8) (r : Fin 512) (l : Fin 128) : accV A b ki 8 h r l = dv A b h (row ki r) l := by
  unfold accV
  rw [part_all]
  exact sum_tiles fun i => p A b h i (row ki r) * A.ct b i h l
theorem accK_all (b : Fin 2) (ki : Fin 8) (h : Fin 8) (r : Fin 512) (l : Fin 256) :
    accK A b ki 8 h r l = ∑ i, ds A b h i (row ki r) * qcat A b i h l := by
  unfold accK
  rw [part_all]
  exact sum_tiles fun i => ds A b h i (row ki r) * qcat A b i h l

theorem qcat_lo (b : Fin 2) (i : Fin 4096) (h : Fin 8) (l : Fin 128) (hl : 0 + l.val < 256) : qcat A b i h ⟨0 + l.val, hl⟩ = A.qn b i h l := by
  unfold qcat
  rw [dif_pos (by have := l.isLt; show 0 + l.val < 128; omega)]
  exact congrArg (A.qn b i h) (Fin.ext (Nat.zero_add _))
theorem qcat_hi (b : Fin 2) (i : Fin 4096) (h : Fin 8) (l : Fin 128) (hl : 128 + l.val < 256) : qcat A b i h ⟨128 + l.val, hl⟩ = qpad A b i h l := by
  unfold qcat
  rw [dif_neg (by show ¬128 + l.val < 128; omega)]
  exact congrArg (qpad A b i h) (Fin.ext (Nat.add_sub_cancel_left _ _))

end Accumulators

/-! ## The accumulators along the grid -/

section Grid

variable (m : (ℓ : Loc nD τ sig) → Buf (Elt Ideal) ℓ) (c : Dev nD) {A : Args}
  (H : Attn.Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))

/-- After point `t` both accumulators hold their sums over the query tiles up to this one. -/
def Good (A : Args) (t : Fin cfg0.N) : Prop :=
  (∀ y, (outsAt0 m c t.val t.isLt).2.2.2.1 y = (accK A (bOf t) (kOf t) ((qOf t).val + 1) (y 0) (y 1) (y 2) : EReal))
    ∧ ∀ y, (outsAt0 m c t.val t.isLt).2.2.2.2 y = (accV A (bOf t) (kOf t) ((qOf t).val + 1) (y 0) (y 1) (y 2) : EReal)

include H

theorem good_start (t : Fin cfg0.N) (h0 : t.val % 8 = 0) : Good m c A t := by
  have h1 : ¬t.val / 8 % 8 + 1 ≤ t.val % 8 := by omega
  have h3 : ¬t.val % 8 = 7 := by omega
  by_cases h2 : t.val / 8 % 8 = t.val % 8
  · have T := tile m c H t (by omega)
    have hk : qOf t = kOf t := Fin.ext h2.symm
    exact ⟨fun y => (congrFun (scrK_A m c t h0 h1 h2 h3) y).trans ((diagK_eq T hk _ y).trans
        ((congrArg (· + _) (pay1_apply y)).trans (accK_first A (bOf t) (kOf t) (qOf t) h0 (y 0) (y 1) (y 2)))),
      fun y => (congrFun (scrV_A m c t h0 h1 h2 h3) y).trans ((diagV_eq T hk _ y).trans
        ((congrArg (· + _) (pay2_apply y)).trans (accV_first A (bOf t) (kOf t) (qOf t) h0 (y 0) (y 1) (y 2))))⟩
  · have hlt : qOf t < kOf t := by show t.val % 8 < t.val / 8 % 8; omega
    exact ⟨fun y => (congrFun (scrK_D m c t h0 h1 h2 h3) y).trans ((pay1_apply y).trans
        (accK_skip_first A (bOf t) (kOf t) (qOf t) h0 hlt (y 0) (y 1) (y 2))),
      fun y => (congrFun (scrV_D m c t h0 h1 h2 h3) y).trans ((pay2_apply y).trans
        (accV_skip_first A (bOf t) (kOf t) (qOf t) h0 hlt (y 0) (y 1) (y 2)))⟩

theorem good_step (t : Fin cfg0.N) (h0 : ¬t.val % 8 = 0)
    (hK : ∀ y, (outsAt0 m c (t.val - 1) (Nat.lt_of_le_of_lt (Nat.sub_le _ _) t.isLt)).2.2.2.1 y
      = (accK A (bOf t) (kOf t) (qOf t).val (y 0) (y 1) (y 2) : EReal))
    (hV : ∀ y, (outsAt0 m c (t.val - 1) (Nat.lt_of_le_of_lt (Nat.sub_le _ _) t.isLt)).2.2.2.2 y
      = (accV A (bOf t) (kOf t) (qOf t).val (y 0) (y 1) (y 2) : EReal)) :
    Good m c A t := by
  have aK : ∀ y : S8x512x256.Idx, (outsAt0 m c (t.val - 1) (Nat.lt_of_le_of_lt (Nat.sub_le _ _) t.isLt)).2.2.2.1 y
      + (tileK A (bOf t) (qOf t) (kOf t) (y 0) (y 1) (y 2) : EReal) = (accK A (bOf t) (kOf t) ((qOf t).val + 1) (y 0) (y 1) (y 2) : EReal) :=
    fun y => (congrArg (· + _) (hK y)).trans (accK_succ A (bOf t) (kOf t) (qOf t) (y 0) (y 1) (y 2))
  have aV : ∀ y : S8x512x128.Idx, (outsAt0 m c (t.val - 1) (Nat.lt_of_le_of_lt (Nat.sub_le _ _) t.isLt)).2.2.2.2 y
      + (tileV A (bOf t) (qOf t) (kOf t) (y 0) (y 1) (y 2) : EReal) = (accV A (bOf t) (kOf t) ((qOf t).val + 1) (y 0) (y 1) (y 2) : EReal) :=
    fun y => (congrArg (· + _) (hV y)).trans (accV_succ A (bOf t) (kOf t) (qOf t) (y 0) (y 1) (y 2))
  by_cases h1 : t.val / 8 % 8 + 1 ≤ t.val % 8
  · have h2 : ¬t.val / 8 % 8 = t.val % 8 := by omega
    have T := tile m c H t (by omega)
    have hlt : kOf t < qOf t := h1
    by_cases h3 : t.val % 8 = 7
    · exact ⟨fun y => (congrFun (scrK_C m c t h0 h1 h2 h3) y).trans ((stepK_eq T hlt _ y).trans (aK y)),
        fun y => (congrFun (scrV_C m c t h0 h1 h2 h3) y).trans ((stepV_eq T hlt _ y).trans (aV y))⟩
    · exact ⟨fun y => (congrFun (scrK_B m c t h0 h1 h2 h3) y).trans ((stepK_eq T hlt _ y).trans (aK y)),
        fun y => (congrFun (scrV_B m c t h0 h1 h2 h3) y).trans ((stepV_eq T hlt _ y).trans (aV y))⟩
  · by_cases h2 : t.val / 8 % 8 = t.val % 8
    · have T := tile m c H t (by omega)
      have hk : qOf t = kOf t := Fin.ext h2.symm
      by_cases h3 : t.val % 8 = 7
      · exact ⟨fun y => (congrFun (scrK_G m c t h0 h1 h2 h3) y).trans ((diagK_eq T hk _ y).trans (aK y)),
          fun y => (congrFun (scrV_G m c t h0 h1 h2 h3) y).trans ((diagV_eq T hk _ y).trans (aV y))⟩
      · exact ⟨fun y => (congrFun (scrK_E m c t h0 h1 h2 h3) y).trans ((diagK_eq T hk _ y).trans (aK y)),
          fun y => (congrFun (scrV_E m c t h0 h1 h2 h3) y).trans ((diagV_eq T hk _ y).trans (aV y))⟩
    · have h3 : ¬t.val % 8 = 7 := by have : t.val / 8 % 8 < 8 := Nat.mod_lt _ (by omega); omega
      have hlt : qOf t < kOf t := by show t.val % 8 < t.val / 8 % 8; omega
      exact ⟨fun y => (congrFun (scrK_F m c t h0 h1 h2 h3) y).trans ((hK y).trans (accK_skip A (bOf t) (kOf t) (qOf t) hlt (y 0) (y 1) (y 2))),
        fun y => (congrFun (scrV_F m c t h0 h1 h2 h3) y).trans ((hV y).trans (accV_skip A (bOf t) (kOf t) (qOf t) hlt (y 0) (y 1) (y 2)))⟩

theorem good (n : ℕ) (hn : n < cfg0.N) : Good m c A ⟨n, hn⟩ := by
  induction n with
  | zero => exact good_start m c H _ rfl
  | succ n ih =>
    by_cases h0 : (n + 1) % 8 = 0
    · exact good_start m c H _ h0
    · obtain ⟨iK, iV⟩ := ih (Nat.lt_of_succ_lt hn)
      have hb : bOf ⟨n, Nat.lt_of_succ_lt hn⟩ = bOf ⟨n + 1, hn⟩ := Fin.ext (by show n / 64 = (n + 1) / 64; omega)
      have hk : kOf ⟨n, Nat.lt_of_succ_lt hn⟩ = kOf ⟨n + 1, hn⟩ := Fin.ext (by show n / 8 % 8 = (n + 1) / 8 % 8; omega)
      have hq : (qOf ⟨n, Nat.lt_of_succ_lt hn⟩).val + 1 = (qOf ⟨n + 1, hn⟩).val := by show n % 8 + 1 = (n + 1) % 8; omega
      rw [hb, hk, hq] at iK iV
      exact good_step m c H ⟨n + 1, hn⟩ h0 iK iV

theorem last_acc (t : Fin cfg0.N) (h3 : t.val % 8 = 7) :
    (∀ y, (outsAt0 m c t.val t.isLt).2.2.2.1 y = (accK A (bOf t) (kOf t) 8 (y 0) (y 1) (y 2) : EReal))
      ∧ ∀ y, (outsAt0 m c t.val t.isLt).2.2.2.2 y = (accV A (bOf t) (kOf t) 8 (y 0) (y 1) (y 2) : EReal) := by
  have h7 : (qOf t).val + 1 = 8 := by show t.val % 8 + 1 = 8; omega
  have := good m c H t.val t.isLt
  unfold Good at this
  rwa [show (qOf ⟨t.val, t.isLt⟩).val + 1 = 8 from h7] at this

/-- The gradients a flushing point writes. -/
theorem flush_kn (t : Fin cfg0.N) (h3 : t.val % 8 = 7) (r : Fin 512) (l : Fin 1024) :
    (outsAt0 m c t.val t.isLt).1 (ix2 r l) = (dkn A (bOf t) (headOf l) (row (kOf t) r) (laneOf l) : EReal) := by
  have hO : (outsAt0 m c t.val t.isLt).1 = side (outKn (outsAt0 m c t.val t.isLt).2.2.2.1) := by
    by_cases h1 : t.val / 8 % 8 + 1 ≤ t.val % 8
    · exact outKn_C m c t (by omega) h1 (by omega) h3
    · exact outKn_G m c t (by omega) h1 (by omega) h3
  refine (congrFun hO _).trans ((pay103_apply (lanes 0 (by decide) _ (headOf l)) r (laneOf l)).trans
    (((last_acc m c H t h3).1 _).trans (congrArg Real.toEReal ((accK_all A (bOf t) (kOf t) (headOf l) r _).trans ?_))))
  exact Finset.sum_congr rfl fun i _ => congrArg _ (qcat_lo A _ i _ (laneOf l) _)

theorem flush_v (t : Fin cfg0.N) (h3 : t.val % 8 = 7) (r : Fin 512) (l : Fin 1024) :
    (outsAt0 m c t.val t.isLt).2.2.1 (ix2 r l) = (dv A (bOf t) (headOf l) (row (kOf t) r) (laneOf l) : EReal) := by
  have hO : (outsAt0 m c t.val t.isLt).2.2.1 = side (outV (outsAt0 m c t.val t.isLt).2.2.2.2) := by
    by_cases h1 : t.val / 8 % 8 + 1 ≤ t.val % 8
    · exact outV_C m c t (by omega) h1 (by omega) h3
    · exact outV_G m c t (by omega) h1 (by omega) h3
  exact (congrFun hO _).trans ((pay103_apply (plane _ (headOf l)) r (laneOf l)).trans
    (((last_acc m c H t h3).2 _).trans (congrArg Real.toEReal (accV_all A (bOf t) (kOf t) (headOf l) r (laneOf l)))))

theorem flush_kp (t : Fin cfg0.N) (h3 : t.val % 8 = 7) (h : Fin 8) (r : Fin 512) (l : Fin 128) :
    (outsAt0 m c t.val t.isLt).2.1 (ix3 h r l) = (∑ i, ds A (bOf t) h i (row (kOf t) r) * qpad A (bOf t) i h l : ℝ) := by
  have hO : (outsAt0 m c t.val t.isLt).2.1 = stack (outKp (outsAt0 m c t.val t.isLt).2.2.2.1) := by
    by_cases h1 : t.val / 8 % 8 + 1 ≤ t.val % 8
    · exact outKp_C m c t (by omega) h1 (by omega) h3
    · exact outKp_G m c t (by omega) h1 (by omega) h3
  refine (congrFun hO _).trans ((pay104_apply (lanes 128 (by decide) _ h) r l).trans
    (((last_acc m c H t h3).1 _).trans (congrArg Real.toEReal ((accK_all A (bOf t) (kOf t) h r _).trans ?_))))
  exact Finset.sum_congr rfl fun i _ => congrArg _ (qcat_hi A _ i _ l _)

end Grid

end Cert.Grid

end
-- ==== Proof.Arrays.lean ====
/- The three output arrays after the kernel's run: the gradients of the attention's arguments. -/
module

public import proofs.«01_k».proof.Proof.GridValue

@[expose] public section

set_option maxRecDepth 16384

noncomputable section

namespace Cert.Grid

open Cert.KernelIdeal Cert.KernelIdeal.Gen Cert.Pieces Cert.Body Cert.Attn Cert.Tile Cert.HostValue Idealize.ShloMosaic Idealize.ShloMosaic.TcCoe Idealize.SL.Sem

theorem ix_o8 : ∀ t : Fin grid0.N, win0_8.index t (0 : Fin 2) = t.val / 64 * 8 + t.val / 8 % 8 ∧ win0_8.index t (1 : Fin 2) = 0 := by decide +kernel
theorem ix_o9 : ∀ t : Fin grid0.N, win0_9.index t (1 : Fin 3) = t.val / 64 * 8 + t.val / 8 % 8 ∧ win0_9.index t (0 : Fin 3) = 0
    ∧ win0_9.index t (2 : Fin 3) = 0 := by decide +kernel
theorem ix_o10 : ∀ t : Fin grid0.N, win0_10.index t (0 : Fin 2) = t.val / 64 * 8 + t.val / 8 % 8 ∧ win0_10.index t (1 : Fin 2) = 0 := by decide +kernel

/-- The point that writes back the block of 512 rows with number `q`. -/
def lastOf (q : Fin 16) : Fin cfg0.N := ⟨8 * q.val + 7, by have : 8 * q.val + 7 < 128 := by omega
                                                           exact this⟩

theorem mem_blk8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v47_0).slice (win0_8.rect t)).set ↔ _
  rw [View.set_slice_whole, Rect.mem_set_unit]
  exact Iff.rfl
theorem mem_blk9 (t : Fin cfg0.N) (i : S8x8192x128.Idx) :
    i ∈ ((cfg0.win 9).blk t).view.set ↔ ∀ a : Fin 3, win0_9.index t a * S8x512x128.size a ≤ (i a).val
      ∧ (i a).val < win0_9.index t a * S8x512x128.size a + S8x512x128.size a := by
  show i ∈ ((View.whole main_v47_1).slice (win0_9.rect t)).set ↔ _
  rw [View.set_slice_whole, Rect.mem_set_unit]
  exact Iff.rfl
theorem mem_blk10 (t : Fin cfg0.N) (i : S8192x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v47_2).slice (win0_10.rect t)).set ↔ _
  rw [View.set_slice_whole, Rect.mem_set_unit]
  exact Iff.rfl

theorem cover8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨e0, e1⟩ := ix_o8 (lastOf ⟨(i 0).val / 512, by omega⟩)
  have hv : (lastOf ⟨(i 0).val / 512, by omega⟩).val = 8 * ((i 0).val / 512) + 7 := rfl
  refine ⟨lastOf ⟨(i 0).val / 512, by omega⟩, (flush0_8 _).mpr (by omega), (mem_blk8 _ i).mpr fun a => ?_⟩
  match a with
  | ⟨0, _⟩ =>
    show win0_8.index _ (0 : Fin 2) * 512 ≤ (i 0).val ∧ (i 0).val < win0_8.index _ (0 : Fin 2) * 512 + 512
    omega
  | ⟨1, _⟩ =>
    show win0_8.index _ (1 : Fin 2) * 1024 ≤ (i 1).val ∧ (i 1).val < win0_8.index _ (1 : Fin 2) * 1024 + 1024
    omega
theorem cover9 (i : S8x8192x128.Idx) : ∃ t : Fin cfg0.N, (cfg0.win 9).flush t = true ∧ i ∈ ((cfg0.win 9).blk t).view.set := by
  have h0 : (i 0).val < 8 := (i 0).isLt
  have h1 : (i 1).val < 8192 := (i 1).isLt
  have h2 : (i 2).val < 128 := (i 2).isLt
  obtain ⟨e1, e0, e2⟩ := ix_o9 (lastOf ⟨(i 1).val / 512, by omega⟩)
  have hv : (lastOf ⟨(i 1).val / 512, by omega⟩).val = 8 * ((i 1).val / 512) + 7 := rfl
  refine ⟨lastOf ⟨(i 1).val / 512, by omega⟩, (flush0_9 _).mpr (by omega), (mem_blk9 _ i).mpr fun a => ?_⟩
  match a with
  | ⟨0, _⟩ =>
    show win0_9.index _ (0 : Fin 3) * 8 ≤ (i 0).val ∧ (i 0).val < win0_9.index _ (0 : Fin 3) * 8 + 8
    omega
  | ⟨1, _⟩ =>
    show win0_9.index _ (1 : Fin 3) * 512 ≤ (i 1).val ∧ (i 1).val < win0_9.index _ (1 : Fin 3) * 512 + 512
    omega
  | ⟨2, _⟩ =>
    show win0_9.index _ (2 : Fin 3) * 128 ≤ (i 2).val ∧ (i 2).val < win0_9.index _ (2 : Fin 3) * 128 + 128
    omega
theorem cover10 (i : S8192x1024.Idx) : ∃ t : Fin cfg0.N, (cfg0.win 10).flush t = true ∧ i ∈ ((cfg0.win 10).blk t).view.set := by
  have h0 : (i 0).val < 8192 := (i 0).isLt
  have h1 : (i 1).val < 1024 := (i 1).isLt
  obtain ⟨e0, e1⟩ := ix_o10 (lastOf ⟨(i 0).val / 512, by omega⟩)
  have hv : (lastOf ⟨(i 0).val / 512, by omega⟩).val = 8 * ((i 0).val / 512) + 7 := rfl
  refine ⟨lastOf ⟨(i 0).val / 512, by omega⟩, (flush0_10 _).mpr (by omega), (mem_blk10 _ i).mpr fun a => ?_⟩
  match a with
  | ⟨0, _⟩ =>
    show win0_10.index _ (0 : Fin 2) * 512 ≤ (i 0).val ∧ (i 0).val < win0_10.index _ (0 : Fin 2) * 512 + 512
    omega
  | ⟨1, _⟩ =>
    show win0_10.index _ (1 : Fin 2) * 1024 ≤ (i 1).val ∧ (i 1).val < win0_10.index _ (1 : Fin 2) * 1024 + 1024
    omega

section

variable (m : (ℓ : Loc nD τ sig) → Buf (Elt Ideal) ℓ) (c : Dev nD) {A : Args}
  (H : Attn.Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))

/-- A gradient in rows of side-by-side heads, at the place of a tile's row. -/
theorem at_out {f : Fin 2 → Fin 8 → Fin 4096 → Fin 128 → ℝ} (e : S8192x1024.Idx) (b : Fin 2) (n : Fin 8) (r : Fin 512) (l : Fin 1024)
    (h0 : (e 0).val = (b.val * 8 + n.val) * 512 + 1 * r.val) (h1 : (e 1).val = 0 * 1024 + 1 * l.val) :
    f b (headOf l) (row n r) (laneOf l) = f (seqOf (e 0)) (headOf (e 1)) (rowOf (e 0)) (laneOf (e 1)) := by
  obtain ⟨hs, hr⟩ := seq_row (e 0) b n r h0
  have he : (e 1 : Fin 1024) = l := Fin.ext (by omega)
  exact (congr (congr (congr (congrArg f hs) (congrArg headOf he)) hr) (congrArg laneOf he)).symm

include H

theorem flushed8 (t : Fin cfg0.N) (hf : (cfg0.win 8).flush t = true) :
    (dats m 0 c).flushed 8 t = ((cfg0.win 8).blk t).view.read (Elt Ideal) (resKn A) := by
  show (cfg0.win 8).cut (grid0.coords t) ((dats m 0 c).after 8 t) = _
  rw [after0_8]
  funext y
  have hy : (cfg0.win 8).xinj (grid0.coords t) y = ix2 (n0 := 512) (n1 := 1024) (y 0) (y 1) := by
    funext a
    match a with
    | ⟨0, _⟩ => rfl
    | ⟨1, _⟩ => rfl
  show (outsAt0 m c t.val t.isLt).1 ((cfg0.win 8).xinj (grid0.coords t) y) = resKn A (((cfg0.win 8).blk t).view.emb y)
  refine (congrArg (outsAt0 m c t.val t.isLt).1 hy).trans ((flush_kn m c H t ((flush0_8 t).mp hf) (y 0) (y 1)).trans ?_)
  exact congrArg Real.toEReal (at_out (f := dkn A) (((cfg0.win 8).blk t).view.emb y) (bOf t) (kOf t) (y 0) (y 1)
    (congrArg (fun z => z * 512 + 1 * (y 0).val) (ix_o8 t).1) (congrArg (fun z => z * 1024 + 1 * (y 1).val) (ix_o8 t).2))

theorem flushed10 (t : Fin cfg0.N) (hf : (cfg0.win 10).flush t = true) :
    (dats m 0 c).flushed 10 t = ((cfg0.win 10).blk t).view.read (Elt Ideal) (resV A) := by
  show (cfg0.win 10).cut (grid0.coords t) ((dats m 0 c).after 10 t) = _
  rw [after0_10]
  funext y
  have hy : (cfg0.win 10).xinj (grid0.coords t) y = ix2 (n0 := 512) (n1 := 1024) (y 0) (y 1) := by
    funext a
    match a with
    | ⟨0, _⟩ => rfl
    | ⟨1, _⟩ => rfl
  show (outsAt0 m c t.val t.isLt).2.2.1 ((cfg0.win 10).xinj (grid0.coords t) y) = resV A (((cfg0.win 10).blk t).view.emb y)
  refine (congrArg (outsAt0 m c t.val t.isLt).2.2.1 hy).trans ((flush_v m c H t ((flush0_10 t).mp hf) (y 0) (y 1)).trans ?_)
  exact congrArg Real.toEReal (at_out (f := dv A) (((cfg0.win 10).blk t).view.emb y) (bOf t) (kOf t) (y 0) (y 1)
    (congrArg (fun z => z * 512 + 1 * (y 0).val) (ix_o10 t).1) (congrArg (fun z => z * 1024 + 1 * (y 1).val) (ix_o10 t).2))

omit H in
/-- The gradient of the rotated part, in the lanes the kernel keeps it in. -/
theorem kp_lanes (b : Fin 2) (h : Fin 8) (j : Fin 4096) (l : Fin 128) :
    (∑ i, ds A b h i j * qpad A b i h l : ℝ) = if hl : l.val < 64 then dkp A b h j ⟨l.val, hl⟩ else 0 := by
  unfold qpad dkp
  by_cases hl : l.val < 64
  · simp only [dif_pos hl]
  · simp only [dif_neg hl, mul_zero, Finset.sum_const_zero]

omit H in
theorem at_out_kp (e : S8x8192x128.Idx) (b : Fin 2) (n : Fin 8) (h : Fin 8) (r : Fin 512) (l : Fin 128)
    (h0 : (e 0).val = 0 * 8 + 1 * h.val) (h1 : (e 1).val = (b.val * 8 + n.val) * 512 + 1 * r.val) (h2 : (e 2).val = 0 * 128 + 1 * l.val) :
    ((∑ i, ds A b h i (row n r) * qpad A b i h l : ℝ) : EReal) = resKp A e := by
  rw [kp_lanes]
  obtain ⟨hs, hr⟩ := seq_row (e 1) b n r h1
  have he0 : (e 0 : Fin 8) = h := Fin.ext (by omega)
  have he2 : (e 2).val = l.val := by omega
  unfold resKp
  by_cases hl : l.val < 64
  · rw [dif_pos hl, dif_pos (by omega)]
    exact congrArg Real.toEReal (congr (congr (congr (congrArg (dkp A) hs) he0) hr) (Fin.ext he2)).symm
  · rw [dif_neg hl, dif_neg (by omega)]
    exact EReal.coe_zero

theorem flushed9 (t : Fin cfg0.N) (hf : (cfg0.win 9).flush t = true) :
    (dats m 0 c).flushed 9 t = ((cfg0.win 9).blk t).view.read (Elt Ideal) (resKp A) := by
  show (cfg0.win 9).cut (grid0.coords t) ((dats m 0 c).after 9 t) = _
  rw [after0_9]
  funext y
  have hy : (cfg0.win 9).xinj (grid0.coords t) y = ix3 (n0 := 8) (n1 := 512) (n2 := 128) (y 0) (y 1) (y 2) := by
    funext a
    match a with
    | ⟨0, _⟩ => rfl
    | ⟨1, _⟩ => rfl
    | ⟨2, _⟩ => rfl
  show (outsAt0 m c t.val t.isLt).2.1 ((cfg0.win 9).xinj (grid0.coords t) y) = resKp A (((cfg0.win 9).blk t).view.emb y)
  refine (congrArg (outsAt0 m c t.val t.isLt).2.1 hy).trans ((flush_kp m c H t ((flush0_9 t).mp hf) (y 0) (y 1) (y 2)).trans ?_)
  exact at_out_kp (((cfg0.win 9).blk t).view.emb y) (bOf t) (kOf t) (y 0) (y 1) (y 2)
    (congrArg (fun z => z * 8 + 1 * (y 0).val) (ix_o9 t).2.1) (congrArg (fun z => z * 512 + 1 * (y 1).val) (ix_o9 t).1)
    (congrArg (fun z => z * 128 + 1 * (y 2).val) (ix_o9 t).2.2)

theorem array_kn : (dats m 0 c).arrAt 8 cfg0.N = resKn A := (dats m 0 c).arrAt_eq_of_cover 8 _ (fun t hf => flushed8 m c H t hf) cover8
theorem array_kp : (dats m 0 c).arrAt 9 cfg0.N = resKp A := (dats m 0 c).arrAt_eq_of_cover 9 _ (fun t hf => flushed9 m c H t hf) cover9
theorem array_v : (dats m 0 c).arrAt 10 cfg0.N = resV A := (dats m 0 c).arrAt_eq_of_cover 10 _ (fun t hf => flushed10 m c H t hf) cover10

end

/-- The kernel's run: from arguments that hold `A c` on every device it ends with the gradients, the arguments kept. -/
theorem run_value (m : (ℓ : Loc nD τ sig) → Buf (Elt Ideal) ℓ) (ρ : Dev nD → PrngReg) (A : Dev nD → Args)
    (H : ∀ c : Dev nD, Attn.Holds (A c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) :
    θ_run defs (onTc (τ := τ) (main (F := Ideal))) ⟨m, fun _ => 0, ρ⟩ fun r => ∀ c : Dev nD,
      r.2.mem ((c.tc : Thread nD τ).loc main_v47_0) = resKn (A c)
      ∧ r.2.mem ((c.tc : Thread nD τ).loc main_v47_1) = resKp (A c)
      ∧ r.2.mem ((c.tc : Thread nD τ).loc main_v47_2) = resV (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 8).trans (array_kn m c (H c)), ((h c).1 9).trans (array_kp m c (H c)),
    ((h c).1 10).trans (array_v m c (H c)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Grid

end
-- ==== Proof.RefValue.lean ====
/- The reference, stage by stage: the value of each operation is the real number of the formulas in `AttnMath`. -/
module

public import proofs.«01_k».proof.Proof.Gen.ReferenceIdeal.Read
public import proofs.«01_k».proof.Proof.AttnMath
public import Idealize.ShloMosaic.Lib.Pointwise
public import Idealize.ShloMosaic.Lib.WordCmp

@[expose] public section

set_option maxRecDepth 16384

noncomputable section

namespace Cert.RefValue

open Cert.ReferenceIdeal Cert.ReferenceIdeal.Read Cert.Attn Idealize.ShloMosaic Idealize.ShloMosaic.TcCoe

variable {A : Args} {x0 x2 x4 x5 : (⟨S2x4096x8x128, .f32⟩ : BufTy).Contents (Elt Ideal)}
  {x1 : (⟨S2x4096x8x64, .f32⟩ : BufTy).Contents (Elt Ideal)} {x3 : (⟨S2x4096x64, .f32⟩ : BufTy).Contents (Elt Ideal)}

theorem score (H : Holds A x0 x1 x2 x3 x4 x5) (i : S2x8x4096x4096.Idx) :
    val_main_v6 (F := Ideal) x0 x1 x2 x3 i = (sc A (i 0) (i 1) (i 2) (i 3) : EReal) := by
  rw [val_main_v6_apply, val_main_v4_apply, val_main_v2_apply, val_main_v3_apply, val_main_v5_apply, val_main_cst_apply]
  simp only [val_main_v1_apply, val_main_v0_apply, H.qn, H.kn, H.qp, H.kp, Ideal.addf_def, Ideal.mulf_def, Ideal.ofBits_def,
    scale_eq, ← EReal.coe_mul, coe_sum, ← EReal.coe_add]
  rfl

theorem mask_apply (i : S2x8x4096x4096.Idx) {α : Type} (a b : α) :
    Scalar.select (val_main_v13_1 (F := Ideal) i) a b = if (i 3).val ≤ (i 2).val then a else b := by
  rw [val_main_v13_1_apply, val_main_v12_apply, val_main_v10_apply, val_main_v11_apply, val_main_v8_apply, val_main_v9_apply,
    val_main_v7_apply, val_main_v7_apply, Scalar.select_def]
  have h3 : (i 3).val < 4096 := (i 3).isLt
  have h2 : (i 2).val < 4096 := (i 2).isLt
  exact if_congr (WordCmp.cmpi_sge_ofNat_eq_one_iff (by norm_num; omega) (by norm_num; omega)) rfl rfl

theorem masked (H : Holds A x0 x1 x2 x3 x4 x5) (i : S2x8x4096x4096.Idx) :
    val_main_v13_0 (F := Ideal) x0 x1 x2 x3 i = msc A (i 0) (i 1) (i 2) (i 3) := by
  rw [val_main_v13_0_apply, mask_apply, score H, val_main_call0_v2_apply]
  unfold msc
  refine if_congr Iff.rfl rfl ?_
  exact neg_inf_eq

theorem rowMax (H : Holds A x0 x1 x2 x3 x4 x5) (i : S2x8x4096.Idx) :
    val_main_v14 (F := Ideal) x0 x1 x2 x3 i = (mx A (i 0) (i 1) (i 2) : EReal) := by
  unfold val_main_v14
  simp only [pointwise, masked H]
  exact (congrArg (fun b => Finset.univ.fold max b _) neg_inf_eq).trans (fold_max A _ _ _)

theorem expVal (H : Holds A x0 x1 x2 x3 x4 x5) (i : S2x8x4096x4096.Idx) :
    val_main_v34 (F := Ideal) x0 x1 x2 x3 i = (e A (i 0) (i 1) (i 2) (i 3) : EReal) := by
  rw [val_main_v34_apply, val_main_v33_apply, val_main_v32_apply, val_main_v31_apply, val_main_v21_apply, val_main_v20_apply,
    val_main_cst_3_apply, rowMax H, masked H]
  simp only [Ideal.subf_def, Ideal.maximumf_def, Ideal.ofBits_def, neg_inf_eq, bot_sup_eq, Ideal.hostUnary_exp_def]
  exact exp_msc A _ _ _ _

theorem rowSum (H : Holds A x0 x1 x2 x3 x4 x5) (i : S2x8x4096x1.Idx) :
    val_main_v36 (F := Ideal) x0 x1 x2 x3 i = (l A (i 0) (i 1) (i 2) : EReal) := by
  rw [val_main_v36_apply, val_main_v35_apply, val_main_cst_9_apply]
  simp only [expVal H, Ideal.ofBits_def, zero_eq, zero_add, coe_sum]
  rfl

theorem prob (H : Holds A x0 x1 x2 x3 x4 x5) (i : S2x8x4096x4096.Idx) :
    val_main_v38 (F := Ideal) x0 x1 x2 x3 i = (p A (i 0) (i 1) (i 2) (i 3) : EReal) := by
  rw [val_main_v38_apply, val_main_v37_apply, rowSum H, expVal H, Ideal.hostDivf_def]
  exact div_coe_coe _ _ (l_ne A _ _ _)

theorem dProb (H : Holds A x0 x1 x2 x3 x4 x5) (i : S2x8x4096x4096.Idx) :
    val_main_v45 (F := Ideal) x4 x5 i = (dp A (i 0) (i 1) (i 2) (i 3) : EReal) := by
  rw [val_main_v45_apply]
  simp only [val_main_v44_apply, H.v, H.ct, ← EReal.coe_mul, coe_sum]
  rfl

theorem invSq (H : Holds A x0 x1 x2 x3 x4 x5) (i : S2x8x4096x1.Idx) :
    val_main_v41 (F := Ideal) x0 x1 x2 x3 i = ((1 / (l A (i 0) (i 1) (i 2) * l A (i 0) (i 1) (i 2)) : ℝ) : EReal) := by
  rw [val_main_v41_apply, val_main_v39_apply, rowSum H, val_main_v40_apply, val_main_cst_10_apply]
  simp only [Ideal.hostDivf_def, Ideal.mulf_def, Ideal.ofBits_def, Ideal.ofBits_one_f32, ← EReal.coe_mul]
  rw [← EReal.coe_one]
  exact div_coe_coe _ _ (mul_ne_zero (l_ne A _ _ _) (l_ne A _ _ _))

theorem idx_keep (i : S2x8x4096.Idx) : idx_main_v52 (idx_main_v56 i 0) = i := by
  have h0 : (i 0).val < 2 := (i 0).isLt
  have h1 : (i 1).val < 8 := (i 1).isLt
  have h2 : (i 2).val < 4096 := (i 2).isLt
  funext a
  match a with
  | ⟨0, _⟩ => apply Fin.ext; show ((((i 0).val * 8 + (i 1).val) * 4096 + (i 2).val) * 1 + 0) / 32768 = (i 0).val; omega
  | ⟨1, _⟩ => apply Fin.ext; show ((((i 0).val * 8 + (i 1).val) * 4096 + (i 2).val) * 1 + 0) / 4096 % 8 = (i 1).val; omega
  | ⟨2, _⟩ => apply Fin.ext; show ((((i 0).val * 8 + (i 1).val) * 4096 + (i 2).val) * 1 + 0) % 4096 = (i 2).val; omega

theorem rowDelta (H : Holds A x0 x1 x2 x3 x4 x5) (i : S2x8x4096.Idx) :
    val_main_v56 (F := Ideal) x0 x1 x2 x3 x4 x5 i
      = ((-(∑ k, dp A (i 0) (i 1) (i 2) k * (1 / (l A (i 0) (i 1) (i 2) * l A (i 0) (i 1) (i 2))) * e A (i 0) (i 1) (i 2) k) : ℝ) : EReal) := by
  rw [val_main_v56_apply, val_main_cst_12_apply]
  simp only [Fin.sum_univ_one, val_main_v53_apply, val_main_v52_apply, val_main_v51_apply, val_main_cst_11_apply, val_main_v50_apply,
    val_main_v49_apply, val_main_v48_apply, invSq H, dProb H, expVal H, Ideal.mulf_def, Ideal.ofBits_def, zero_eq, zero_add,
    ← EReal.coe_mul, coe_sum, Ideal.hostNegf_def, Ideal.negf_def, ← EReal.coe_neg, idx_keep]
  rfl

theorem dScore (H : Holds A x0 x1 x2 x3 x4 x5) (i : S2x8x4096x4096.Idx) :
    val_main_v62 (F := Ideal) x0 x1 x2 x3 x4 x5 i = (ds A (i 0) (i 1) (i 2) (i 3) : EReal) := by
  rw [val_main_v62_apply, val_main_v60_apply, mask_apply, val_main_call1_v0_apply, val_main_v61_apply, val_main_cst_13_apply]
  split
  · rw [val_main_v59_apply, val_main_v58_apply, val_main_v57_apply, val_main_v55_apply, val_main_v54_apply, rowSum H, rowDelta H,
      dProb H, expVal H]
    simp only [Ideal.mulf_def, Ideal.addf_def, Ideal.hostDivf_def, Ideal.ofBits_def, scale_eq]
    exact ds_coe A _ _ _ _
  · rename_i hij
    refine Eq.trans ?_ (congrArg _ (ds_eq_zero A (i 0) (i 1) (i 2) (i 3) (not_le.mp hij)).symm)
    show Ideal.ofBits .f32 0x00000000#32 * _ = _
    rw [zero_eq, zero_mul, EReal.coe_zero]

theorem dV (H : Holds A x0 x1 x2 x3 x4 x5) (i : S2x4096x8x128.Idx) :
    val_main_v47 (F := Ideal) x0 x1 x2 x3 x5 i = (dv A (i 0) (i 2) (i 1) (i 3) : EReal) := by
  rw [val_main_v47_apply, val_main_v46_apply]
  simp only [val_main_v44_apply, prob H, H.ct, ← EReal.coe_mul, coe_sum]
  exact congrArg _ (Finset.sum_congr rfl fun k _ => mul_comm _ _)

theorem dKn (H : Holds A x0 x1 x2 x3 x4 x5) (i : S2x4096x8x128.Idx) :
    val_main_v68 (F := Ideal) x0 x1 x2 x3 x4 x5 i = (dkn A (i 0) (i 2) (i 1) (i 3) : EReal) := by
  rw [val_main_v68_apply, val_main_v67_apply]
  simp only [dScore H, H.qn, ← EReal.coe_mul, coe_sum]
  rfl

theorem dKp (H : Holds A x0 x1 x2 x3 x4 x5) (i : S2x4096x8x64.Idx) :
    val_main_v64 (F := Ideal) x0 x1 x2 x3 x4 x5 i = (dkp A (i 0) (i 2) (i 1) (i 3) : EReal) := by
  rw [val_main_v64_apply, val_main_v63_apply]
  simp only [dScore H, H.qp, ← EReal.coe_mul, coe_sum]
  rfl

/-- The first result is the gradient of the plain part of the keys. -/
theorem out_kn (H : Holds A x0 x1 x2 x3 x4 x5) : val_main_v75 (F := Ideal) x0 x1 x2 x3 x4 x5 = resKn A := by
  funext i
  rw [val_main_v75_apply, val_main_v74_apply, dKn H, Ideal.truncf_def]
  unfold resKn seqOf rowOf headOf laneOf
  have h0 : (i 0).val < 8192 := (i 0).isLt
  have h1 : (i 1).val < 1024 := (i 1).isLt
  congr 2 <;> apply Fin.ext <;> dsimp only [idx_main_v74] <;> omega

/-- The third result is the gradient of the values. -/
theorem out_v (H : Holds A x0 x1 x2 x3 x4 x5) : val_main_v77 (F := Ideal) x0 x1 x2 x3 x5 = resV A := by
  funext i
  rw [val_main_v77_apply, val_main_v76_apply, dV H, Ideal.truncf_def]
  unfold resV seqOf rowOf headOf laneOf
  have h0 : (i 0).val < 8192 := (i 0).isLt
  have h1 : (i 1).val < 1024 := (i 1).isLt
  congr 2 <;> apply Fin.ext <;> dsimp only [idx_main_v76] <;> omega

/-- The second result is the gradient of the rotated part of the keys. -/
theorem out_kp (H : Holds A x0 x1 x2 x3 x4 x5) : val_main_v73 (F := Ideal) x0 x1 x2 x3 x4 x5 = resKp A := by
  funext i
  rw [val_main_v73_apply, val_main_v72_apply]
  unfold val_main_v71 resKp
  have h0 : (i 0).val < 8 := (i 0).isLt
  have h1 : (i 1).val < 8192 := (i 1).isLt
  have h2 : (i 2).val < 128 := (i 2).isLt
  simp only [pointwise, dKp H]
  by_cases hl : (i 2).val < 64
  · rw [dif_pos hl, dif_pos]
    · unfold seqOf rowOf
      congr 2 <;> apply Fin.ext <;> simp <;> omega
    · simp; omega
  · rw [dif_neg hl, dif_neg]
    · unfold val_main_call2_v0 val_main_c
      simp only [pointwise]
      show ((((0#32).toInt : ℝ)) : EReal) = 0
      simp
    · simp; omega

end Cert.RefValue

end
-- ==== Proof.Finite.lean ====
/- The precondition: arrays whose entries are finite hold real numbers. -/
module

public import proofs.«01_k».proof.Defs
public import proofs.«01_k».proof.Proof.AttnMath
public import Idealize.ShloMosaic.Lib.Pointwise

@[expose] public section

set_option maxRecDepth 16384

noncomputable section

namespace Cert.Attn

open Idealize.ShloMosaic

/-- An array that compares below infinity in absolute value holds real numbers. -/
theorem real_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    x i = ((x i).toReal : EReal) := by
  have h1 := congrFun h i
  have h2 : (max (x i) (-(x i)) : EReal) < ⊤ := by
    rw [← pos_inf_eq]
    exact (Ideal.cmp_olt_eq_one _ _).mp h1
  obtain ⟨r, hr⟩ := exists_real h2
  rw [hr, EReal.toReal_coe]

/-- The real numbers that six arrays hold. -/
def argsOf (x0 : (⟨4, ![2, 4096, 8, 128]⟩ : Shape).Idx → EReal) (x1 : (⟨4, ![2, 4096, 8, 64]⟩ : Shape).Idx → EReal)
    (x2 : (⟨4, ![2, 4096, 8, 128]⟩ : Shape).Idx → EReal) (x3 : (⟨3, ![2, 4096, 64]⟩ : Shape).Idx → EReal)
    (x4 x5 : (⟨4, ![2, 4096, 8, 128]⟩ : Shape).Idx → EReal) : Args where
  qn b i h d := (x0 (ix4 b i h d)).toReal
  qp b i h d := (x1 (ix4 b i h d)).toReal
  kn b i h d := (x2 (ix4 b i h d)).toReal
  kp b i d := (x3 (ix3 b i d)).toReal
  v b i h d := (x4 (ix4 b i h d)).toReal
  ct b i h d := (x5 (ix4 b i h d)).toReal

theorem ix4_eta {a b c d : ℕ} (i : (⟨4, ![a, b, c, d]⟩ : Shape).Idx) : i = ix4 (i 0) (i 1) (i 2) (i 3) := by
  funext k
  match k with
  | ⟨0, _⟩ => rfl
  | ⟨1, _⟩ => rfl
  | ⟨2, _⟩ => rfl
  | ⟨3, _⟩ => rfl
theorem ix3_eta' {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

variable [Cert.Pre_finite.Facts]

theorem holds_of (x0 : FVec Ideal Cert.Pre_finite.S2x4096x8x128 .f32) (x1 : FVec Ideal Cert.Pre_finite.S2x4096x8x64 .f32)
    (x2 : FVec Ideal Cert.Pre_finite.S2x4096x8x128 .f32) (x3 : FVec Ideal Cert.Pre_finite.S2x4096x64 .f32)
    (x4 x5 : FVec Ideal Cert.Pre_finite.S2x4096x8x128 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    Holds (argsOf x0 x1 x2 x3 x4 x5) x0 x1 x2 x3 x4 x5 := by
  obtain ⟨h0, h1, h2, h3, h4, h5⟩ := h
  exact ⟨fun i => (real_of x0 _ h0 i).trans (congrArg (fun j => ((x0 j).toReal : EReal)) (ix4_eta i)),
    fun i => (real_of x1 _ h1 i).trans (congrArg (fun j => ((x1 j).toReal : EReal)) (ix4_eta i)),
    fun i => (real_of x2 _ h2 i).trans (congrArg (fun j => ((x2 j).toReal : EReal)) (ix4_eta i)),
    fun i => (real_of x3 _ h3 i).trans (congrArg (fun j => ((x3 j).toReal : EReal)) (ix3_eta' i)),
    fun i => (real_of x4 _ h4 i).trans (congrArg (fun j => ((x4 j).toReal : EReal)) (ix4_eta i)),
    fun i => (real_of x5 _ h5 i).trans (congrArg (fun j => ((x5 j).toReal : EReal)) (ix4_eta i))⟩

end Cert.Attn

end
-- ==== Proof.Products.lean ====
/- Products of matrices over the extended reals: a product whose summed axis is cut into tiles is the sum of the tiles' products. -/
module

public import Idealize.ShloMosaic.Lib.Pipeline.ValueKit.Acc
public import Idealize.ShloMosaic.Lib.Pipeline.ValueKit.Geometry
public import Idealize.ShloMosaic.Lib.Pointwise

@[expose] public section

noncomputable section

namespace Cert.Products

open Idealize.ShloMosaic

/-- A matrix of `a` rows and `b` columns. -/
abbrev Mat (a b : ℕ) : Type := (⟨2, ![a, b]⟩ : Shape).Idx → EReal

variable {K M N k m n S : ℕ}

/-- The product `xᵀ · w`: both factors are summed along their rows. -/
def prodTN (x : Mat K M) (w : Mat K N) : Mat M N := fun i => ∑ a : Fin K, x (ix2 a (i 0)) * w (ix2 a (i 1))
/-- The product `x · wᵀ`: both factors are summed along their columns. -/
def prodNT (x : Mat M K) (w : Mat N K) : Mat M N := fun i => ∑ a : Fin K, x (ix2 (i 0) a) * w (ix2 (i 1) a)
/-- The product `x · w`. -/
def prodNN (x : Mat M K) (w : Mat K N) : Mat M N := fun i => ∑ a : Fin K, x (ix2 (i 0) a) * w (ix2 a (i 1))

/-- Two matrices added. -/
def plus (x w : Mat M N) : Mat M N := fun i => x i + w i

theorem prodTN_tiles (x : Mat K M) (w : Mat K N) (i : (⟨2, ![M, N]⟩ : Shape).Idx) (y : (⟨2, ![m, n]⟩ : Shape).Idx)
    (xt : Fin S → Mat k m) (wt : Fin S → Mat k n) (hK : K = S * k)
    (hx : ∀ (s : Fin S) (a : Fin k) (h : s.val * k + a.val < K), xt s (ix2 a (y 0)) = x (ix2 ⟨s.val * k + a.val, h⟩ (i 0)))
    (hw : ∀ (s : Fin S) (a : Fin k) (h : s.val * k + a.val < K), wt s (ix2 a (y 1)) = w (ix2 ⟨s.val * k + a.val, h⟩ (i 1))) :
    ∑ s, prodTN (xt s) (wt s) y = prodTN x w i :=
  Fin.sum_mul_add_congr (fun s a h => by rw [hx s a h, hw s a h]) hK

theorem prodNT_tiles (x : Mat M K) (w : Mat N K) (i : (⟨2, ![M, N]⟩ : Shape).Idx) (y : (⟨2, ![m, n]⟩ : Shape).Idx)
    (xt : Fin S → Mat m k) (wt : Fin S → Mat n k) (hK : K = S * k)
    (hx : ∀ (s : Fin S) (a : Fin k) (h : s.val * k + a.val < K), xt s (ix2 (y 0) a) = x (ix2 (i 0) ⟨s.val * k + a.val, h⟩))
    (hw : ∀ (s : Fin S) (a : Fin k) (h : s.val * k + a.val < K), wt s (ix2 (y 1) a) = w (ix2 (i 1) ⟨s.val * k + a.val, h⟩)) :
    ∑ s, prodNT (xt s) (wt s) y = prodNT x w i :=
  Fin.sum_mul_add_congr (fun s a h => by rw [hx s a h, hw s a h]) hK

theorem prodNN_tiles (x : Mat M K) (w : Mat K N) (i : (⟨2, ![M, N]⟩ : Shape).Idx) (y : (⟨2, ![m, n]⟩ : Shape).Idx)
    (xt : Fin S → Mat m k) (wt : Fin S → Mat k n) (hK : K = S * k)
    (hx : ∀ (s : Fin S) (a : Fin k) (h : s.val * k + a.val < K), xt s (ix2 (y 0) a) = x (ix2 (i 0) ⟨s.val * k + a.val, h⟩))
    (hw : ∀ (s : Fin S) (a : Fin k) (h : s.val * k + a.val < K), wt s (ix2 a (y 1)) = w (ix2 ⟨s.val * k + a.val, h⟩ (i 1))) :
    ∑ s, prodNN (xt s) (wt s) y = prodNN x w i :=
  Fin.sum_mul_add_congr (fun s a h => by rw [hx s a h, hw s a h]) hK

/-- A block of a product, of blocks that span the summed axis. -/
theorem prodNT_block (x : Mat M K) (w : Mat N K) (i : (⟨2, ![M, N]⟩ : Shape).Idx) (y : (⟨2, ![m, n]⟩ : Shape).Idx)
    (xt : Mat m K) (wt : Mat n K) (hx : ∀ a, xt (ix2 (y 0) a) = x (ix2 (i 0) a)) (hw : ∀ a, wt (ix2 (y 1) a) = w (ix2 (i 1) a)) :
    prodNT xt wt y = prodNT x w i :=
  Finset.sum_congr rfl fun a _ => congrArg₂ (· * ·) (hx a) (hw a)

theorem prodNN_block (x : Mat M K) (w : Mat K N) (i : (⟨2, ![M, N]⟩ : Shape).Idx) (y : (⟨2, ![m, n]⟩ : Shape).Idx)
    (xt : Mat m K) (wt : Mat K n) (hx : ∀ a, xt (ix2 (y 0) a) = x (ix2 (i 0) a)) (hw : ∀ a, wt (ix2 a (y 1)) = w (ix2 a (i 1))) :
    prodNN xt wt y = prodNN x w i :=
  Finset.sum_congr rfl fun a _ => congrArg₂ (· * ·) (hx a) (hw a)

end Cert.Products

end
-- ==== Proof.UpDw.lean ====
/- The gradient of the up projection's weight (one half of its columns): the kernel's array is the product that the reference
   computes, entry by entry a sum over all 8192 rows, which the kernel takes 1024 rows at a time. -/
module

public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwReferenceIdeal
public import proofs.«01_k».proof.Proof.Gen.UpDwReferenceIdeal.Run
public import proofs.«01_k».proof.Proof.Gen.UpDwReferenceIdeal.Read
public import proofs.«01_k».proof.Proof.Products

@[expose] public section

set_option maxRecDepth 16384

noncomputable section

namespace Cert.UpDwValue

open Cert.UpDwIdeal Cert.UpDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1408 .bf16) (y : S1024x1408.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x1408.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, t.val / 8] := (by decide +kernel : ∀ t : Fin grid0.N, _)
theorem ix_o : ∀ t : Fin cfg0.N, win0_2.index t = ![0, t.val / 8] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x2816 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x2816 .f32) :
    Cert.UpDwReferenceIdeal.Read.val_main_v2 (F := Ideal) x d = prodTN x d := by
  funext i
  rw [Cert.UpDwReferenceIdeal.Read.val_main_v2_apply, Cert.UpDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_UpDwReferenceIdeal (hUpDwReferenceIdeal := Cert.UpDwReferenceIdeal.Gen.facts) := fun m ρ _ =>
  (θ_run _ _ _).mono (fun r h => ⟨fun c => (h c).2, sem_eq_zero_of_no_sems (by decide) r.2⟩) (Cert.UpDwReferenceIdeal.Value.run (F := Ideal) m ρ)

/-- The kernel and the reference end with the same gradient. -/
theorem value : Cert.algebraic_UpDwIdeal_UpDwReferenceIdeal (hUpDwIdeal := Cert.UpDwIdeal.Gen.facts)
    (hUpDwReferenceIdeal := Cert.UpDwReferenceIdeal.Gen.facts) := by
  intro m ρ m' ρ' _ hag
  refine ⟨_, (θ_run _ _ _).mono (fun r h c => ⟨(h c).1.trans (array_eq m c), (h c).2⟩) (Cert.UpDwIdeal.Value.run_blocks m ρ),
    (θ_run _ _ _).mono (fun r h c => ⟨(h c).1.trans ?_, (h c).2⟩) (Cert.UpDwReferenceIdeal.Value.run (F := Ideal) m' ρ')⟩
  obtain ⟨a0, a1, a2⟩ := hag c
  rw [a0, a2]
  exact reference_eq _ _

end Cert.UpDwValue

end
-- ==== Proof.UpDx.lean ====
/- The gradient of the up projection's input (one half of its columns): each entry of the kernel's array is the reference's sum over
   all 2816 columns, which the kernel takes 1408 columns at a time. -/
module

public import proofs.«01_k».proof.Defs
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxReferenceIdeal
public import proofs.«01_k».proof.Proof.Gen.UpDxReferenceIdeal.Run
public import proofs.«01_k».proof.Proof.Gen.UpDxReferenceIdeal.Read
public import proofs.«01_k».proof.Proof.Products

@[expose] public section

set_option maxRecDepth 16384

noncomputable section

namespace Cert.UpDxValue

open Cert.UpDxIdeal Cert.UpDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1408 .bf16) (y : S1024x1024.Idx) : k0_pay1 (F := Ideal) x w y = prodNT x w y := by
  unfold k0_pay1 prodNT
  simp only [pointwise, zero_add]

/-- The scratch at the last step of a run of points holds the products of its tiles, summed. -/
theorem acc_eq (t : Fin cfg0.N) (ht : t.val % 2 = 1) (y : S1024x1024.Idx) :
    (outsAt0 m c t.val t.isLt).2 y = 0 + ∑ s : Fin 2, prodNT (iblk m c 0 ⟨2 * (t.val / 2) + s.val, Pipeline.run_point_lt_of_flush t ht s⟩)
      (iblk m c 1 ⟨2 * (t.val / 2) + s.val, Pipeline.run_point_lt_of_flush t ht s⟩) y := by
  rw [Pipeline.eq_sum_fin_of_reset_step_apply_of_flush (fun n h => (outsAt0 m c n h).2) 2 (fun _ => 0)
    (fun t y => prodNT (iblk m c 0 t) (iblk m c 1 t) y)
    (fun t h y => by
      rw [outsAt0_A m c t h (by omega) (by omega)]; frame_out
      unfold k0_pay2; simp only [pointwise, zero_add]; exact pay1_apply _ _ y)
    (fun t h y => by
      rw [outsAt0_B m c t h (by omega) (by omega)]; frame_out
      unfold k0_pay3; simp only [pointwise]; rw [pay1_apply]
      exact congrArg (· + _) (congrFun ((Memref.isWhole_whole cc0_scratch0).read_unread _) y)) t ht y]

/-- The output block is written from the scratch. -/
theorem out_eq (t : Fin cfg0.N) (ht : t.val % 2 = 1) : (outsAt0 m c t.val t.isLt).1 = (outsAt0 m c t.val t.isLt).2 := by
  rw [outsAt0_B m c t (by omega) ht ht]; frame_out

theorem ix_d : ∀ t : Fin cfg0.N, win0_0.index t = ![t.val / 2, t.val % 2] := (by decide +kernel : ∀ t : Fin grid0.N, _)
theorem ix_w : ∀ t : Fin cfg0.N, win0_1.index t = ![0, t.val % 2] := (by decide +kernel : ∀ t : Fin grid0.N, _)
theorem ix_o : ∀ t : Fin cfg0.N, win0_2.index t = ![t.val / 2, 0] := (by decide +kernel : ∀ t : Fin grid0.N, _)

theorem V_d : V m c main_v0 = (m ((c : Thread nD τ).loc main_arg2) : FVec Ideal S8192x2816 .f32) := by
  show StableHlo.after hostOps0 (fun b => m (c, b)) main_v0 = _
  after_results; rfl
theorem V_w : V m c main_v1 = (m ((c : Thread nD τ).loc main_arg1) : FVec Ideal S1024x2816 .f32) := by
  show StableHlo.after hostOps0 (fun b => m (c, b)) main_v1 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  have ht : t.val % 2 = 1 := (flush0_2 t).mp hf
  blk_simp
  rw [after0_2, out_eq m c t ht, acc_eq m c t ht, zero_add]
  refine prodNT_tiles _ _ _ y _ _ (by decide) (fun s a h => ?_) (fun s a h => ?_) <;> blk_simp [iblk, V_d, V_w] <;>
    refine congrArg _ ?_ <;> blk_ext [ix_d, ix_w, ix_o]

theorem reference_eq (w : FVec Ideal S1024x2816 .f32) (d : FVec Ideal S8192x2816 .f32) :
    Cert.UpDxReferenceIdeal.Read.val_main_v3 (F := Ideal) w d = prodNT d w := by
  funext i
  rw [Cert.UpDxReferenceIdeal.Read.val_main_v3_apply]
  refine Finset.sum_congr rfl fun k _ => congrArg₂ (· * ·) (congrArg d ?_) (congrArg w ?_) <;>
    funext a <;> fin_cases a <;> rfl

theorem frame_reference : Cert.quiescent_UpDxReferenceIdeal (hUpDxReferenceIdeal := Cert.UpDxReferenceIdeal.Gen.facts) := fun m ρ _ =>
  (θ_run _ _ _).mono (fun r h => ⟨fun c => (h c).2, sem_eq_zero_of_no_sems (by decide) r.2⟩) (Cert.UpDxReferenceIdeal.Value.run (F := Ideal) m ρ)

/-- The kernel and the reference end with the same gradient. -/
theorem value : Cert.algebraic_UpDxIdeal_UpDxReferenceIdeal (hUpDxIdeal := Cert.UpDxIdeal.Gen.facts)
    (hUpDxReferenceIdeal := Cert.UpDxReferenceIdeal.Gen.facts) := by
  intro m ρ m' ρ' _ hag
  refine ⟨_, (θ_run _ _ _).mono (fun r h c => ⟨(h c).1.trans (array_eq m c), (h c).2⟩) (Cert.UpDxIdeal.Value.run_blocks m ρ),
    (θ_run _ _ _).mono (fun r h c => ⟨(h c).1.trans ?_, (h c).2⟩) (Cert.UpDxReferenceIdeal.Value.run (F := Ideal) m' ρ')⟩
  obtain ⟨a0, a1, a2⟩ := hag c
  rw [a1, a2]
  exact reference_eq _ _

end Cert.UpDxValue

end
-- ==== Proof.UpDxAdd.lean ====
/- The gradient of the up projection's input with the other half's added on: the last step of each block's sum adds the given array
   before it writes the block. -/
module

public import proofs.«01_k».proof.Defs
public import proofs.«01_k».proof.Proof.Gen.UpDxAdd
public import proofs.«01_k».proof.Proof.Gen.UpDxAdd.Frame
public import proofs.«01_k».proof.Proof.Gen.UpDxAddIdeal
public import proofs.«01_k».proof.Proof.Gen.UpDxAddIdeal.Frame
public import proofs.«01_k».proof.Proof.Gen.UpDxAddIdeal.Value
public import proofs.«01_k».proof.Proof.Gen.UpDxAddReferenceIdeal
public import proofs.«01_k».proof.Proof.Gen.UpDxAddReferenceIdeal.Run
public import proofs.«01_k».proof.Proof.Gen.UpDxAddReferenceIdeal.Read
public import proofs.«01_k».proof.Proof.Products

@[expose] public section

set_option maxRecDepth 16384

noncomputable section

namespace Cert.UpDxAddValue

open Cert.UpDxAddIdeal Cert.UpDxAddIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1408 .bf16) (y : S1024x1024.Idx) : k0_pay1 (F := Ideal) x w y = prodNT x w y := by
  unfold k0_pay1 prodNT
  simp only [pointwise, zero_add]

/-- The scratch at the last step of a run of points holds the products of its tiles, summed. -/
theorem acc_eq (t : Fin cfg0.N) (ht : t.val % 2 = 1) (y : S1024x1024.Idx) :
    (outsAt0 m c t.val t.isLt).2 y = 0 + ∑ s : Fin 2, prodNT (iblk m c 0 ⟨2 * (t.val / 2) + s.val, Pipeline.run_point_lt_of_flush t ht s⟩)
      (iblk m c 1 ⟨2 * (t.val / 2) + s.val, Pipeline.run_point_lt_of_flush t ht s⟩) y := by
  rw [Pipeline.eq_sum_fin_of_reset_step_apply_of_flush (fun n h => (outsAt0 m c n h).2) 2 (fun _ => 0)
    (fun t y => prodNT (iblk m c 0 t) (iblk m c 1 t) y)
    (fun t h y => by
      rw [outsAt0_A m c t h (by omega) (by omega)]; frame_out
      unfold k0_pay2; simp only [pointwise, zero_add]; exact pay1_apply _ _ y)
    (fun t h y => by
      rw [outsAt0_B m c t h (by omega) (by omega)]; frame_out
      unfold k0_pay3; simp only [pointwise]; rw [pay1_apply]
      exact congrArg (· + _) (congrFun ((Memref.isWhole_whole cc0_scratch0).read_unread _) y)) t ht y]

/-- The output block is written from the scratch, with the block of the given array added. -/
theorem out_eq (t : Fin cfg0.N) (ht : t.val % 2 = 1) (y : S1024x1024.Idx) :
    (outsAt0 m c t.val t.isLt).1 y = plus (iblk m c 2 t) (outsAt0 m c t.val t.isLt).2 y := by
  rw [outsAt0_B m c t (by omega) ht ht]; frame_out
  unfold k0_pay4 plus; simp only [pointwise]
  exact add_comm _ _

theorem ix_d : ∀ t : Fin cfg0.N, win0_0.index t = ![t.val / 2, t.val % 2] := (by decide +kernel : ∀ t : Fin grid0.N, _)
theorem ix_w : ∀ t : Fin cfg0.N, win0_1.index t = ![0, t.val % 2] := (by decide +kernel : ∀ t : Fin grid0.N, _)
theorem ix_r : ∀ t : Fin cfg0.N, win0_2.index t = ![t.val / 2, 0] := (by decide +kernel : ∀ t : Fin grid0.N, _)
theorem ix_o : ∀ t : Fin cfg0.N, win0_3.index t = ![t.val / 2, 0] := (by decide +kernel : ∀ t : Fin grid0.N, _)

theorem V_d : V m c main_v0 = (m ((c : Thread nD τ).loc main_arg2) : FVec Ideal S8192x2816 .f32) := by
  show StableHlo.after hostOps0 (fun b => m (c, b)) main_v0 = _
  after_results; rfl
theorem V_w : V m c main_v1 = (m ((c : Thread nD τ).loc main_arg1) : FVec Ideal S1024x2816 .f32) := by
  show StableHlo.after hostOps0 (fun b => m (c, b)) main_v1 = _
  after_results; rfl

theorem V_r : V m c main_arg3 = (m ((c : Thread nD τ).loc main_arg3) : FVec Ideal S8192x1024 .f32) := by
  show StableHlo.after hostOps0 (fun b => m (c, b)) main_arg3 = _
  after_results

/-- The result array is the given array and the whole product, added. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  have ht : t.val % 2 = 1 := (flush0_3 t).mp hf
  blk_simp
  rw [after0_3, out_eq m c t ht y, plus, acc_eq m c t ht, zero_add]
  refine congrArg₂ (· + ·) ?_ (prodNT_tiles _ _ _ y _ _ (by decide) (fun s a h => ?_) (fun s a h => ?_)) <;> blk_simp [iblk, V_d, V_w, V_r] <;>
    refine congrArg _ ?_ <;> blk_ext [ix_d, ix_w, ix_r, ix_o]

theorem reference_eq (w : FVec Ideal S1024x2816 .f32) (d : FVec Ideal S8192x2816 .f32) (r : FVec Ideal S8192x1024 .f32) :
    Cert.UpDxAddReferenceIdeal.Read.val_main_v5 (F := Ideal) w d r = plus r (prodNT d w) := by
  funext i
  rw [Cert.UpDxAddReferenceIdeal.Read.val_main_v5_apply, Cert.UpDxAddReferenceIdeal.Read.val_main_v4_apply,
    Cert.UpDxAddReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_UpDxAddReferenceIdeal (hUpDxAddReferenceIdeal := Cert.UpDxAddReferenceIdeal.Gen.facts) := fun m ρ _ =>
  (θ_run _ _ _).mono (fun r h => ⟨fun c => (h c).2, sem_eq_zero_of_no_sems (by decide) r.2⟩) (Cert.UpDxAddReferenceIdeal.Value.run (F := Ideal) m ρ)

/-- The kernel and the reference end with the same gradient. -/
theorem value : Cert.algebraic_UpDxAddIdeal_UpDxAddReferenceIdeal (hUpDxAddIdeal := Cert.UpDxAddIdeal.Gen.facts)
    (hUpDxAddReferenceIdeal := Cert.UpDxAddReferenceIdeal.Gen.facts) := by
  intro m ρ m' ρ' _ hag
  refine ⟨_, (θ_run _ _ _).mono (fun r h c => ⟨(h c).1.trans (array_eq m c), (h c).2⟩) (Cert.UpDxAddIdeal.Value.run_blocks m ρ),
    (θ_run _ _ _).mono (fun r h c => ⟨(h c).1.trans ?_, (h c).2⟩) (Cert.UpDxAddReferenceIdeal.Value.run (F := Ideal) m' ρ')⟩
  obtain ⟨a0, a1, a2, a3⟩ := hag c
  rw [a1, a2, a3]
  exact reference_eq _ _ _

end Cert.UpDxAddValue

end
-- ==== Proof.DownDw.lean ====
/- The gradient of the down projection's weight: the kernel's array is the product that the reference computes, 1024 rows at a time. -/
module

public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.DownDwReferenceIdeal.Read
public import proofs.«01_k».proof.Proof.Products

@[expose] public section

set_option maxRecDepth 16384

noncomputable section

namespace Cert.DownDwValue

open Cert.DownDwIdeal Cert.DownDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1408 .bf16) (w : FVec Ideal S1024x1024 .f32) (y : S1408x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1408x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, t.val / 8] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![t.val / 8, 0] := (by decide +kernel : ∀ t : Fin grid0.N, _)

theorem V_x : V m c main_v0 = (m ((c : Thread nD τ).loc main_arg0) : FVec Ideal S8192x2816 .f32) := by
  show StableHlo.after hostOps0 (fun b => m (c, b)) main_v0 = _
  after_results; rfl
theorem V_d : V m c main_arg2 = (m ((c : Thread nD τ).loc main_arg2) : FVec Ideal S8192x1024 .f32) := by
  show StableHlo.after hostOps0 (fun b => m (c, b)) main_arg2 = _
  after_results

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x2816 .f32) (d : FVec Ideal S8192x1024 .f32) :
    Cert.DownDwReferenceIdeal.Read.val_main_v2 (F := Ideal) x d = prodTN x d := by
  funext i
  rw [Cert.DownDwReferenceIdeal.Read.val_main_v2_apply, Cert.DownDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_DownDwReferenceIdeal (hDownDwReferenceIdeal := Cert.DownDwReferenceIdeal.Gen.facts) := fun m ρ _ =>
  (θ_run _ _ _).mono (fun r h => ⟨fun c => (h c).2, sem_eq_zero_of_no_sems (by decide) r.2⟩) (Cert.DownDwReferenceIdeal.Value.run (F := Ideal) m ρ)

/-- The kernel and the reference end with the same gradient. -/
theorem value : Cert.algebraic_DownDwIdeal_DownDwReferenceIdeal (hDownDwIdeal := Cert.DownDwIdeal.Gen.facts)
    (hDownDwReferenceIdeal := Cert.DownDwReferenceIdeal.Gen.facts) := by
  intro m ρ m' ρ' _ hag
  refine ⟨_, (θ_run _ _ _).mono (fun r h c => ⟨(h c).1.trans (array_eq m c), (h c).2⟩) (Cert.DownDwIdeal.Value.run_blocks m ρ),
    (θ_run _ _ _).mono (fun r h c => ⟨(h c).1.trans ?_, (h c).2⟩) (Cert.DownDwReferenceIdeal.Value.run (F := Ideal) m' ρ')⟩
  obtain ⟨a0, a1, a2⟩ := hag c
  rw [a0, a2]
  exact reference_eq _ _

end Cert.DownDwValue

end
-- ==== Proof.DownDx.lean ====
/- The gradient of the down projection's input: every block of the kernel's array is a product over whole rows. -/
module

public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDxReferenceIdeal.Read
public import proofs.«01_k».proof.Proof.Products

@[expose] public section

set_option maxRecDepth 16384

noncomputable section

namespace Cert.DownDxValue

open Cert.DownDxIdeal Cert.DownDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .f32) (w : FVec Ideal S1408x1024 .bf16) (y : S1024x1408.Idx) :
    k0_pay1 (F := Ideal) x w y = prodNT x w y := by
  unfold k0_pay1 prodNT
  simp only [pointwise, zero_add]

theorem out_eq (t : Fin cfg0.N) (y : S1024x1408.Idx) : out0_2 (iblk m c 0 t) (iblk m c 1 t) y = prodNT (iblk m c 0 t) (iblk m c 1 t) y := by
  frame_out
  exact pay1_apply _ _ y

theorem ix_d : ∀ t : Fin cfg0.N, win0_0.index t = ![t.val / 2, 0] := (by decide +kernel : ∀ t : Fin grid0.N, _)
theorem ix_w : ∀ t : Fin cfg0.N, win0_1.index t = ![t.val % 2, 0] := (by decide +kernel : ∀ t : Fin grid0.N, _)
theorem ix_o : ∀ t : Fin cfg0.N, win0_2.index t = ![t.val / 2, t.val % 2] := (by decide +kernel : ∀ t : Fin grid0.N, _)

theorem V_d : V m c main_arg2 = (m ((c : Thread nD τ).loc main_arg2) : FVec Ideal S8192x1024 .f32) := by
  show StableHlo.after hostOps0 (fun b => m (c, b)) main_arg2 = _
  after_results
theorem V_w : V m c main_v0 = (m ((c : Thread nD τ).loc main_arg1) : FVec Ideal S2816x1024 .f32) := by
  show StableHlo.after hostOps0 (fun b => m (c, b)) main_v0 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  blk_simp
  rw [after0_2, out_eq m c t y]
  refine prodNT_block _ _ _ y _ _ (fun a => ?_) (fun a => ?_) <;> blk_simp [iblk, V_d, V_w] <;>
    refine congrArg _ ?_ <;> blk_ext [ix_d, ix_w, ix_o]

theorem reference_eq (w : FVec Ideal S2816x1024 .f32) (d : FVec Ideal S8192x1024 .f32) :
    Cert.DownDxReferenceIdeal.Read.val_main_v4 (F := Ideal) w d = prodNT d w := by
  funext i
  rw [Cert.DownDxReferenceIdeal.Read.val_main_v4_apply, Cert.DownDxReferenceIdeal.Read.val_main_v3_apply]
  refine Finset.sum_congr rfl fun k _ => congrArg₂ (· * ·) (congrArg d ?_) (congrArg w ?_) <;>
    funext a <;> fin_cases a <;> rfl

theorem frame_reference : Cert.quiescent_DownDxReferenceIdeal (hDownDxReferenceIdeal := Cert.DownDxReferenceIdeal.Gen.facts) := fun m ρ _ =>
  (θ_run _ _ _).mono (fun r h => ⟨fun c => (h c).2, sem_eq_zero_of_no_sems (by decide) r.2⟩) (Cert.DownDxReferenceIdeal.Value.run (F := Ideal) m ρ)

/-- The kernel and the reference end with the same gradient. -/
theorem value : Cert.algebraic_DownDxIdeal_DownDxReferenceIdeal (hDownDxIdeal := Cert.DownDxIdeal.Gen.facts)
    (hDownDxReferenceIdeal := Cert.DownDxReferenceIdeal.Gen.facts) := by
  intro m ρ m' ρ' _ hag
  refine ⟨_, (θ_run _ _ _).mono (fun r h c => ⟨(h c).1.trans (array_eq m c), (h c).2⟩) (Cert.DownDxIdeal.Value.run_blocks m ρ),
    (θ_run _ _ _).mono (fun r h c => ⟨(h c).1.trans ?_, (h c).2⟩) (Cert.DownDxReferenceIdeal.Value.run (F := Ideal) m' ρ')⟩
  obtain ⟨a0, a1, a2⟩ := hag c
  rw [a1, a2]
  exact reference_eq _ _

end Cert.DownDxValue

end
-- ==== Proof.QkvDw.lean ====
/- The gradient of the query, key and value projection's weight: the product that the reference computes, 1024 rows at a time. -/
module

public import proofs.«01_k».proof.Defs
public import proofs.«01_k».proof.Proof.Gen.QkvDw
public import proofs.«01_k».proof.Proof.Gen.QkvDw.Frame
public import proofs.«01_k».proof.Proof.Gen.QkvDwIdeal
public import proofs.«01_k».proof.Proof.Gen.QkvDwIdeal.Frame
public import proofs.«01_k».proof.Proof.Gen.QkvDwIdeal.Value
public import proofs.«01_k».proof.Proof.Gen.QkvDwReferenceIdeal
public import proofs.«01_k».proof.Proof.Gen.QkvDwReferenceIdeal.Run
public import proofs.«01_k».proof.Proof.Gen.QkvDwReferenceIdeal.Read
public import proofs.«01_k».proof.Proof.Products

@[expose] public section

set_option maxRecDepth 16384

noncomputable section

namespace Cert.QkvDwValue

open Cert.QkvDwIdeal Cert.QkvDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, t.val / 8] := (by decide +kernel : ∀ t : Fin grid0.N, _)
theorem ix_o : ∀ t : Fin cfg0.N, win0_2.index t = ![0, t.val / 8] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x3072 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x3072 .f32) :
    Cert.QkvDwReferenceIdeal.Read.val_main_v2 (F := Ideal) x d = prodTN x d := by
  funext i
  rw [Cert.QkvDwReferenceIdeal.Read.val_main_v2_apply, Cert.QkvDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_QkvDwReferenceIdeal (hQkvDwReferenceIdeal := Cert.QkvDwReferenceIdeal.Gen.facts) := fun m ρ _ =>
  (θ_run _ _ _).mono (fun r h => ⟨fun c => (h c).2, sem_eq_zero_of_no_sems (by decide) r.2⟩) (Cert.QkvDwReferenceIdeal.Value.run (F := Ideal) m ρ)

/-- The kernel and the reference end with the same gradient. -/
theorem value : Cert.algebraic_QkvDwIdeal_QkvDwReferenceIdeal (hQkvDwIdeal := Cert.QkvDwIdeal.Gen.facts)
    (hQkvDwReferenceIdeal := Cert.QkvDwReferenceIdeal.Gen.facts) := by
  intro m ρ m' ρ' _ hag
  refine ⟨_, (θ_run _ _ _).mono (fun r h c => ⟨(h c).1.trans (array_eq m c), (h c).2⟩) (Cert.QkvDwIdeal.Value.run_blocks m ρ),
    (θ_run _ _ _).mono (fun r h c => ⟨(h c).1.trans ?_, (h c).2⟩) (Cert.QkvDwReferenceIdeal.Value.run (F := Ideal) m' ρ')⟩
  obtain ⟨a0, a1, a2⟩ := hag c
  rw [a0, a2]
  exact reference_eq _ _

end Cert.QkvDwValue

end
-- ==== Proof.QkvDx.lean ====
/- The gradient of the query, key and value projection's input: the product that the reference computes, 1024 columns at a time. -/
module

public import proofs.«01_k».proof.Defs
public import proofs.«01_k».proof.Proof.Gen.QkvDx
public import proofs.«01_k».proof.Proof.Gen.QkvDx.Frame
public import proofs.«01_k».proof.Proof.Gen.QkvDxIdeal
public import proofs.«01_k».proof.Proof.Gen.QkvDxIdeal.Frame
public import proofs.«01_k».proof.Proof.Gen.QkvDxIdeal.Value
public import proofs.«01_k».proof.Proof.Gen.QkvDxReferenceIdeal
public import proofs.«01_k».proof.Proof.Gen.QkvDxReferenceIdeal.Run
public import proofs.«01_k».proof.Proof.Gen.QkvDxReferenceIdeal.Read
public import proofs.«01_k».proof.Proof.Products

@[expose] public section

set_option maxRecDepth 16384

noncomputable section

namespace Cert.QkvDxValue

open Cert.QkvDxIdeal Cert.QkvDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1024 .bf16) (y : S1024x1024.Idx) :
    k0_pay1 (F := Ideal) x w y = prodNT x w y := by
  unfold k0_pay1 prodNT
  simp only [pointwise, zero_add]

/-- The accumulator at the last point of a block's run holds the sum of what the run's points add. -/
theorem acc_eq (t : Fin cfg0.N) (ht : t.val % 3 = 2) (y : S1024x1024.Idx) :
    (outsAt0 m c t.val t.isLt).2 y = 0 + ∑ s : Fin 3, prodNT (iblk m c 0 ⟨3 * (t.val / 3) + s.val, Pipeline.run_point_lt_of_flush t ht s⟩)
      (iblk m c 1 ⟨3 * (t.val / 3) + s.val, Pipeline.run_point_lt_of_flush t ht s⟩) y := by
  rw [Pipeline.eq_sum_fin_of_reset_step_apply_of_flush (fun n h => (outsAt0 m c n h).2) 3 (fun _ => 0)
    (fun t y => prodNT (iblk m c 0 t) (iblk m c 1 t) y)
    (fun t h y => by
      rw [outsAt0_A m c t h (by omega) (by omega)]; frame_out
      unfold k0_pay2; simp only [pointwise, zero_add]; exact pay1_apply _ _ y)
    (fun t h y => by
      by_cases h7 : t.val % 3 = 2
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 3 = 2) : (outsAt0 m c t.val t.isLt).1 = (outsAt0 m c t.val t.isLt).2 := by
  rw [outsAt0_C m c t (by omega) (by omega) ht]; frame_out

theorem ix_d : ∀ t : Fin cfg0.N, win0_0.index t = ![t.val / 3, t.val % 3] := (by decide +kernel : ∀ t : Fin grid0.N, _)
theorem ix_w : ∀ t : Fin cfg0.N, win0_1.index t = ![0, t.val % 3] := (by decide +kernel : ∀ t : Fin grid0.N, _)
theorem ix_o : ∀ t : Fin cfg0.N, win0_2.index t = ![t.val / 3, 0] := (by decide +kernel : ∀ t : Fin grid0.N, _)

theorem V_d : V m c main_v0 = (m ((c : Thread nD τ).loc main_arg2) : FVec Ideal S8192x3072 .f32) := by
  show StableHlo.after hostOps0 (fun b => m (c, b)) main_v0 = _
  after_results; rfl
theorem V_w : V m c main_v1 = (m ((c : Thread nD τ).loc main_arg1) : FVec Ideal S1024x3072 .f32) := by
  show StableHlo.after hostOps0 (fun b => m (c, b)) main_v1 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  have ht : t.val % 3 = 2 := (flush0_2 t).mp hf
  blk_simp
  rw [after0_2, out_eq m c t ht, acc_eq m c t ht, zero_add]
  refine prodNT_tiles _ _ _ y _ _ (by decide) (fun s a h => ?_) (fun s a h => ?_) <;> blk_simp [iblk, V_d, V_w] <;>
    refine congrArg _ ?_ <;> blk_ext [ix_d, ix_w, ix_o]

theorem reference_eq (w : FVec Ideal S1024x3072 .f32) (d : FVec Ideal S8192x3072 .f32) :
    Cert.QkvDxReferenceIdeal.Read.val_main_v3 (F := Ideal) w d = prodNT d w := by
  funext i
  rw [Cert.QkvDxReferenceIdeal.Read.val_main_v3_apply]
  refine Finset.sum_congr rfl fun k _ => congrArg₂ (· * ·) (congrArg d ?_) (congrArg w ?_) <;>
    funext a <;> fin_cases a <;> rfl

theorem frame_reference : Cert.quiescent_QkvDxReferenceIdeal (hQkvDxReferenceIdeal := Cert.QkvDxReferenceIdeal.Gen.facts) := fun m ρ _ =>
  (θ_run _ _ _).mono (fun r h => ⟨fun c => (h c).2, sem_eq_zero_of_no_sems (by decide) r.2⟩) (Cert.QkvDxReferenceIdeal.Value.run (F := Ideal) m ρ)

/-- The kernel and the reference end with the same gradient. -/
theorem value : Cert.algebraic_QkvDxIdeal_QkvDxReferenceIdeal (hQkvDxIdeal := Cert.QkvDxIdeal.Gen.facts)
    (hQkvDxReferenceIdeal := Cert.QkvDxReferenceIdeal.Gen.facts) := by
  intro m ρ m' ρ' _ hag
  refine ⟨_, (θ_run _ _ _).mono (fun r h c => ⟨(h c).1.trans (array_eq m c), (h c).2⟩) (Cert.QkvDxIdeal.Value.run_blocks m ρ),
    (θ_run _ _ _).mono (fun r h c => ⟨(h c).1.trans ?_, (h c).2⟩) (Cert.QkvDxReferenceIdeal.Value.run (F := Ideal) m' ρ')⟩
  obtain ⟨a0, a1, a2⟩ := hag c
  rw [a1, a2]
  exact reference_eq _ _

end Cert.QkvDxValue

end
-- ==== Proof.UpFwd.lean ====
/- The up projection: every block of the kernel's array is a product over whole rows and columns. -/
module

public import proofs.«01_k».proof.Defs
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdIdeal.Value
public import proofs.«01_k».proof.Proof.Gen.UpFwdReferenceIdeal
public import proofs.«01_k».proof.Proof.Gen.UpFwdReferenceIdeal.Run
public import proofs.«01_k».proof.Proof.Gen.UpFwdReferenceIdeal.Read
public import proofs.«01_k».proof.Proof.Products

@[expose] public section

set_option maxRecDepth 16384

noncomputable section

namespace Cert.UpFwdValue

open Cert.UpFwdIdeal Cert.UpFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1408 .bf16) (y : S1024x1408.Idx) :
    k0_pay1 (F := Ideal) x w y = prodNN x w y := by
  unfold k0_pay1 prodNN
  simp only [pointwise, zero_add]

theorem out_eq (t : Fin cfg0.N) (y : S1024x1408.Idx) : out0_2 (iblk m c 0 t) (iblk m c 1 t) y = prodNN (iblk m c 0 t) (iblk m c 1 t) y := by
  frame_out
  exact pay1_apply _ _ y

theorem ix_h : ∀ t : Fin cfg0.N, win0_0.index t = ![t.val / 4, 0] := (by decide +kernel : ∀ t : Fin grid0.N, _)
theorem ix_w : ∀ t : Fin cfg0.N, win0_1.index t = ![0, t.val % 4] := (by decide +kernel : ∀ t : Fin grid0.N, _)
theorem ix_o : ∀ t : Fin cfg0.N, win0_2.index t = ![t.val / 4, t.val % 4] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x5632 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x5632 .f32) :
    Cert.UpFwdReferenceIdeal.Read.val_main_v1 (F := Ideal) h w = prodNN h w := by
  funext i
  rw [Cert.UpFwdReferenceIdeal.Read.val_main_v1_apply, Cert.UpFwdReferenceIdeal.Read.val_main_v0_apply]
  refine Finset.sum_congr rfl fun k _ => congrArg₂ (· * ·) (congrArg h ?_) (congrArg w ?_) <;>
    funext a <;> fin_cases a <;> rfl

theorem frame_reference : Cert.quiescent_UpFwdReferenceIdeal (hUpFwdReferenceIdeal := Cert.UpFwdReferenceIdeal.Gen.facts) := fun m ρ _ =>
  (θ_run _ _ _).mono (fun r h => ⟨fun c => (h c).2, sem_eq_zero_of_no_sems (by decide) r.2⟩) (Cert.UpFwdReferenceIdeal.Value.run (F := Ideal) m ρ)

/-- The kernel and the reference end with the same rows. -/
theorem value : Cert.algebraic_UpFwdIdeal_UpFwdReferenceIdeal (hUpFwdIdeal := Cert.UpFwdIdeal.Gen.facts)
    (hUpFwdReferenceIdeal := Cert.UpFwdReferenceIdeal.Gen.facts) := by
  intro m ρ m' ρ' _ hag
  refine ⟨_, (θ_run _ _ _).mono (fun r h c => ⟨(h c).1.trans (array_eq m c), (h c).2⟩) (Cert.UpFwdIdeal.Value.run_blocks m ρ),
    (θ_run _ _ _).mono (fun r h c => ⟨(h c).1.trans ?_, (h c).2⟩) (Cert.UpFwdReferenceIdeal.Value.run (F := Ideal) m' ρ')⟩
  obtain ⟨a0, a1⟩ := hag c
  rw [a0, a1]
  exact reference_eq _ _

end Cert.UpFwdValue

end
-- ==== Proof.DownFwd.lean ====
/- The down projection added to the residual: each entry is the reference's sum over 2816 columns, which the kernel takes 1408 at a
   time; the last step adds the residual. -/
module

public import proofs.«01_k».proof.Defs
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdReferenceIdeal
public import proofs.«01_k».proof.Proof.Gen.DownFwdReferenceIdeal.Run
public import proofs.«01_k».proof.Proof.Gen.DownFwdReferenceIdeal.Read
public import proofs.«01_k».proof.Proof.Products

@[expose] public section

set_option maxRecDepth 16384

noncomputable section

namespace Cert.DownFwdValue

open Cert.DownFwdIdeal Cert.DownFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1408 .bf16) (w : FVec Ideal S1408x1024 .bf16) (y : S1024x1024.Idx) : k0_pay1 (F := Ideal) x w y = prodNN x w y := by
  unfold k0_pay1 prodNN
  simp only [pointwise, zero_add]

/-- The scratch at the last step of a run of points holds the products of its tiles, summed. -/
theorem acc_eq (t : Fin cfg0.N) (ht : t.val % 2 = 1) (y : S1024x1024.Idx) :
    (outsAt0 m c t.val t.isLt).2 y = 0 + ∑ s : Fin 2, prodNN (iblk m c 0 ⟨2 * (t.val / 2) + s.val, Pipeline.run_point_lt_of_flush t ht s⟩)
      (iblk m c 1 ⟨2 * (t.val / 2) + s.val, Pipeline.run_point_lt_of_flush t ht s⟩) y := by
  rw [Pipeline.eq_sum_fin_of_reset_step_apply_of_flush (fun n h => (outsAt0 m c n h).2) 2 (fun _ => 0)
    (fun t y => prodNN (iblk m c 0 t) (iblk m c 1 t) y)
    (fun t h y => by
      rw [outsAt0_A m c t h (by omega) (by omega)]; frame_out
      unfold k0_pay2; simp only [pointwise, zero_add]; exact pay1_apply _ _ y)
    (fun t h y => by
      rw [outsAt0_B m c t h (by omega) (by omega)]; frame_out
      unfold k0_pay3; simp only [pointwise]; rw [pay1_apply]
      exact congrArg (· + _) (congrFun ((Memref.isWhole_whole cc0_scratch0).read_unread _) y)) t ht y]

/-- The output block is written from the scratch, with the block of the given array added. -/
theorem out_eq (t : Fin cfg0.N) (ht : t.val % 2 = 1) (y : S1024x1024.Idx) :
    (outsAt0 m c t.val t.isLt).1 y = plus (iblk m c 2 t) (outsAt0 m c t.val t.isLt).2 y := by
  rw [outsAt0_B m c t (by omega) ht ht]; frame_out
  unfold k0_pay4 plus; simp only [pointwise]
  exact add_comm _ _

theorem ix_f : ∀ t : Fin cfg0.N, win0_0.index t = ![t.val / 2, t.val % 2] := (by decide +kernel : ∀ t : Fin grid0.N, _)
theorem ix_w : ∀ t : Fin cfg0.N, win0_1.index t = ![t.val % 2, 0] := (by decide +kernel : ∀ t : Fin grid0.N, _)
theorem ix_r : ∀ t : Fin cfg0.N, win0_2.index t = ![t.val / 2, 0] := (by decide +kernel : ∀ t : Fin grid0.N, _)
theorem ix_o : ∀ t : Fin cfg0.N, win0_3.index t = ![t.val / 2, 0] := (by decide +kernel : ∀ t : Fin grid0.N, _)

theorem V_f : V m c main_v0 = (m ((c : Thread nD τ).loc main_arg0) : FVec Ideal S8192x2816 .f32) := by
  show StableHlo.after hostOps0 (fun b => m (c, b)) main_v0 = _
  after_results; rfl
theorem V_w : V m c main_v1 = (m ((c : Thread nD τ).loc main_arg1) : FVec Ideal S2816x1024 .f32) := by
  show StableHlo.after hostOps0 (fun b => m (c, b)) main_v1 = _
  after_results; rfl

theorem V_r : V m c main_arg2 = (m ((c : Thread nD τ).loc main_arg2) : FVec Ideal S8192x1024 .f32) := by
  show StableHlo.after hostOps0 (fun b => m (c, b)) main_arg2 = _
  after_results

/-- The result array is the given array and the whole product, added. -/
theorem array_eq : (dats m 0 c).arrAt 3 cfg0.N
    = plus (m ((c : Thread nD τ).loc main_arg2))
      (prodNN (m ((c : Thread nD τ).loc main_arg0)) (m ((c : Thread nD τ).loc main_arg1))) := by
  refine (dats m 0 c).arrAt_eq_of_covers 3 _ (by decide +kernel) fun t hf y => ?_
  have ht : t.val % 2 = 1 := (flush0_3 t).mp hf
  blk_simp
  rw [after0_3, out_eq m c t ht y, plus, acc_eq m c t ht, zero_add]
  refine congrArg₂ (· + ·) ?_ (prodNN_tiles _ _ _ y _ _ (by decide) (fun s a h => ?_) (fun s a h => ?_)) <;> blk_simp [iblk, V_f, V_w, V_r] <;>
    refine congrArg _ ?_ <;> blk_ext [ix_f, ix_w, ix_r, ix_o]

theorem reference_eq (f : FVec Ideal S8192x2816 .f32) (w : FVec Ideal S2816x1024 .f32) (r : FVec Ideal S8192x1024 .f32) :
    Cert.DownFwdReferenceIdeal.Read.val_main_v1 (F := Ideal) f w r = plus r (prodNN f w) := by
  funext i
  rw [Cert.DownFwdReferenceIdeal.Read.val_main_v1_apply, Cert.DownFwdReferenceIdeal.Read.val_main_v0_apply]
  refine congrArg (r i + ·) (Finset.sum_congr rfl fun k _ => congrArg₂ (· * ·) (congrArg f ?_) (congrArg w ?_)) <;>
    funext a <;> fin_cases a <;> rfl

theorem frame_reference : Cert.quiescent_DownFwdReferenceIdeal (hDownFwdReferenceIdeal := Cert.DownFwdReferenceIdeal.Gen.facts) := fun m ρ _ =>
  (θ_run _ _ _).mono (fun r h => ⟨fun c => (h c).2, sem_eq_zero_of_no_sems (by decide) r.2⟩) (Cert.DownFwdReferenceIdeal.Value.run (F := Ideal) m ρ)

/-- The kernel and the reference end with the same rows. -/
theorem value : Cert.algebraic_DownFwdIdeal_DownFwdReferenceIdeal (hDownFwdIdeal := Cert.DownFwdIdeal.Gen.facts)
    (hDownFwdReferenceIdeal := Cert.DownFwdReferenceIdeal.Gen.facts) := by
  intro m ρ m' ρ' _ hag
  refine ⟨_, (θ_run _ _ _).mono (fun r h c => ⟨(h c).1.trans (array_eq m c), (h c).2⟩) (Cert.DownFwdIdeal.Value.run_blocks m ρ),
    (θ_run _ _ _).mono (fun r h c => ⟨(h c).1.trans ?_, (h c).2⟩) (Cert.DownFwdReferenceIdeal.Value.run (F := Ideal) m' ρ')⟩
  obtain ⟨a0, a1, a2⟩ := hag c
  rw [a0, a1, a2]
  exact reference_eq _ _ _

end Cert.DownFwdValue

end
-- ==== Proof.QkvFwd.lean ====
/- The query, key and value projection: every block of the kernel's array is a product over whole rows and columns. -/
module

public import proofs.«01_k».proof.Defs
public import proofs.«01_k».proof.Proof.Gen.QkvFwd
public import proofs.«01_k».proof.Proof.Gen.QkvFwd.Frame
public import proofs.«01_k».proof.Proof.Gen.QkvFwdIdeal
public import proofs.«01_k».proof.Proof.Gen.QkvFwdIdeal.Frame
public import proofs.«01_k».proof.Proof.Gen.QkvFwdIdeal.Value
public import proofs.«01_k».proof.Proof.Gen.QkvFwdReferenceIdeal
public import proofs.«01_k».proof.Proof.Gen.QkvFwdReferenceIdeal.Run
public import proofs.«01_k».proof.Proof.Gen.QkvFwdReferenceIdeal.Read
public import proofs.«01_k».proof.Proof.Products

@[expose] public section

set_option maxRecDepth 16384

noncomputable section

namespace Cert.QkvFwdValue

open Cert.QkvFwdIdeal Cert.QkvFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val / 3, 0] := (by decide +kernel : ∀ t : Fin grid0.N, _)
theorem ix_w : ∀ t : Fin cfg0.N, win0_1.index t = ![0, t.val % 3] := (by decide +kernel : ∀ t : Fin grid0.N, _)
theorem ix_o : ∀ t : Fin cfg0.N, win0_2.index t = ![t.val / 3, t.val % 3] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x3072 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x3072 .f32) :
    Cert.QkvFwdReferenceIdeal.Read.val_main_v1 (F := Ideal) h w = prodNN h w := by
  funext i
  rw [Cert.QkvFwdReferenceIdeal.Read.val_main_v1_apply, Cert.QkvFwdReferenceIdeal.Read.val_main_v0_apply]
  refine Finset.sum_congr rfl fun k _ => congrArg₂ (· * ·) (congrArg h ?_) (congrArg w ?_) <;>
    funext a <;> fin_cases a <;> rfl

theorem frame_reference : Cert.quiescent_QkvFwdReferenceIdeal (hQkvFwdReferenceIdeal := Cert.QkvFwdReferenceIdeal.Gen.facts) := fun m ρ _ =>
  (θ_run _ _ _).mono (fun r h => ⟨fun c => (h c).2, sem_eq_zero_of_no_sems (by decide) r.2⟩) (Cert.QkvFwdReferenceIdeal.Value.run (F := Ideal) m ρ)

/-- The kernel and the reference end with the same rows. -/
theorem value : Cert.algebraic_QkvFwdIdeal_QkvFwdReferenceIdeal (hQkvFwdIdeal := Cert.QkvFwdIdeal.Gen.facts)
    (hQkvFwdReferenceIdeal := Cert.QkvFwdReferenceIdeal.Gen.facts) := by
  intro m ρ m' ρ' _ hag
  refine ⟨_, (θ_run _ _ _).mono (fun r h c => ⟨(h c).1.trans (array_eq m c), (h c).2⟩) (Cert.QkvFwdIdeal.Value.run_blocks m ρ),
    (θ_run _ _ _).mono (fun r h c => ⟨(h c).1.trans ?_, (h c).2⟩) (Cert.QkvFwdReferenceIdeal.Value.run (F := Ideal) m' ρ')⟩
  obtain ⟨a0, a1⟩ := hag c
  rw [a0, a1]
  exact reference_eq _ _

end Cert.QkvFwdValue

end
-- ==== Proof.GbrFwd.lean ====
/- The projection to the two branches' gates: every block of the kernel's array is a product over whole rows and columns. -/
module

public import proofs.«01_k».proof.Defs
public import proofs.«01_k».proof.Proof.Gen.GbrFwd
public import proofs.«01_k».proof.Proof.Gen.GbrFwd.Frame
public import proofs.«01_k».proof.Proof.Gen.GbrFwdIdeal
public import proofs.«01_k».proof.Proof.Gen.GbrFwdIdeal.Frame
public import proofs.«01_k».proof.Proof.Gen.GbrFwdIdeal.Value
public import proofs.«01_k».proof.Proof.Gen.GbrFwdReferenceIdeal
public import proofs.«01_k».proof.Proof.Gen.GbrFwdReferenceIdeal.Run
public import proofs.«01_k».proof.Proof.Gen.GbrFwdReferenceIdeal.Read
public import proofs.«01_k».proof.Proof.Products

@[expose] public section

set_option maxRecDepth 16384

noncomputable section

namespace Cert.GbrFwdValue

open Cert.GbrFwdIdeal Cert.GbrFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val / 2, 0] := (by decide +kernel : ∀ t : Fin grid0.N, _)
theorem ix_w : ∀ t : Fin cfg0.N, win0_1.index t = ![0, t.val % 2] := (by decide +kernel : ∀ t : Fin grid0.N, _)
theorem ix_o : ∀ t : Fin cfg0.N, win0_2.index t = ![t.val / 2, t.val % 2] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x2048 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x2048 .f32) :
    Cert.GbrFwdReferenceIdeal.Read.val_main_v1 (F := Ideal) h w = prodNN h w := by
  funext i
  rw [Cert.GbrFwdReferenceIdeal.Read.val_main_v1_apply, Cert.GbrFwdReferenceIdeal.Read.val_main_v0_apply]
  refine Finset.sum_congr rfl fun k _ => congrArg₂ (· * ·) (congrArg h ?_) (congrArg w ?_) <;>
    funext a <;> fin_cases a <;> rfl

theorem frame_reference : Cert.quiescent_GbrFwdReferenceIdeal (hGbrFwdReferenceIdeal := Cert.GbrFwdReferenceIdeal.Gen.facts) := fun m ρ _ =>
  (θ_run _ _ _).mono (fun r h => ⟨fun c => (h c).2, sem_eq_zero_of_no_sems (by decide) r.2⟩) (Cert.GbrFwdReferenceIdeal.Value.run (F := Ideal) m ρ)

/-- The kernel and the reference end with the same rows. -/
theorem value : Cert.algebraic_GbrFwdIdeal_GbrFwdReferenceIdeal (hGbrFwdIdeal := Cert.GbrFwdIdeal.Gen.facts)
    (hGbrFwdReferenceIdeal := Cert.GbrFwdReferenceIdeal.Gen.facts) := by
  intro m ρ m' ρ' _ hag
  refine ⟨_, (θ_run _ _ _).mono (fun r h c => ⟨(h c).1.trans (array_eq m c), (h c).2⟩) (Cert.GbrFwdIdeal.Value.run_blocks m ρ),
    (θ_run _ _ _).mono (fun r h c => ⟨(h c).1.trans ?_, (h c).2⟩) (Cert.GbrFwdReferenceIdeal.Value.run (F := Ideal) m' ρ')⟩
  obtain ⟨a0, a1⟩ := hag c
  rw [a0, a1]
  exact reference_eq _ _

end Cert.GbrFwdValue

end
-- ==== Proof.GbrDw.lean ====
/- The gradient of the weight of the branches' gates: the product that the reference computes, 1024 rows at a time. -/
module

public import proofs.«01_k».proof.Defs
public import proofs.«01_k».proof.Proof.Gen.GbrDw
public import proofs.«01_k».proof.Proof.Gen.GbrDw.Frame
public import proofs.«01_k».proof.Proof.Gen.GbrDwIdeal
public import proofs.«01_k».proof.Proof.Gen.GbrDwIdeal.Frame
public import proofs.«01_k».proof.Proof.Gen.GbrDwIdeal.Value
public import proofs.«01_k».proof.Proof.Gen.GbrDwReferenceIdeal
public import proofs.«01_k».proof.Proof.Gen.GbrDwReferenceIdeal.Run
public import proofs.«01_k».proof.Proof.Gen.GbrDwReferenceIdeal.Read
public import proofs.«01_k».proof.Proof.Products

@[expose] public section

set_option maxRecDepth 16384

noncomputable section

namespace Cert.GbrDwValue

open Cert.GbrDwIdeal Cert.GbrDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, t.val / 8] := (by decide +kernel : ∀ t : Fin grid0.N, _)
theorem ix_o : ∀ t : Fin cfg0.N, win0_2.index t = ![0, t.val / 8] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x2048 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x2048 .f32) :
    Cert.GbrDwReferenceIdeal.Read.val_main_v2 (F := Ideal) x d = prodTN x d := by
  funext i
  rw [Cert.GbrDwReferenceIdeal.Read.val_main_v2_apply, Cert.GbrDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_GbrDwReferenceIdeal (hGbrDwReferenceIdeal := Cert.GbrDwReferenceIdeal.Gen.facts) := fun m ρ _ =>
  (θ_run _ _ _).mono (fun r h => ⟨fun c => (h c).2, sem_eq_zero_of_no_sems (by decide) r.2⟩) (Cert.GbrDwReferenceIdeal.Value.run (F := Ideal) m ρ)

/-- The kernel and the reference end with the same gradient. -/
theorem value : Cert.algebraic_GbrDwIdeal_GbrDwReferenceIdeal (hGbrDwIdeal := Cert.GbrDwIdeal.Gen.facts)
    (hGbrDwReferenceIdeal := Cert.GbrDwReferenceIdeal.Gen.facts) := by
  intro m ρ m' ρ' _ hag
  refine ⟨_, (θ_run _ _ _).mono (fun r h c => ⟨(h c).1.trans (array_eq m c), (h c).2⟩) (Cert.GbrDwIdeal.Value.run_blocks m ρ),
    (θ_run _ _ _).mono (fun r h c => ⟨(h c).1.trans ?_, (h c).2⟩) (Cert.GbrDwReferenceIdeal.Value.run (F := Ideal) m' ρ')⟩
  obtain ⟨a0, a1, a2⟩ := hag c
  rw [a0, a2]
  exact reference_eq _ _

end Cert.GbrDwValue

end
-- ==== Proof.GbrDx.lean ====
/- The gradient of the mixers' input from the branches' gates, with what the other projections give added in the last of two steps. -/
module

public import proofs.«01_k».proof.Defs
public import proofs.«01_k».proof.Proof.Gen.GbrDx
public import proofs.«01_k».proof.Proof.Gen.GbrDx.Frame
public import proofs.«01_k».proof.Proof.Gen.GbrDxIdeal
public import proofs.«01_k».proof.Proof.Gen.GbrDxIdeal.Frame
public import proofs.«01_k».proof.Proof.Gen.GbrDxIdeal.Value
public import proofs.«01_k».proof.Proof.Gen.GbrDxReferenceIdeal
public import proofs.«01_k».proof.Proof.Gen.GbrDxReferenceIdeal.Run
public import proofs.«01_k».proof.Proof.Gen.GbrDxReferenceIdeal.Read
public import proofs.«01_k».proof.Proof.Products

@[expose] public section

set_option maxRecDepth 16384

noncomputable section

namespace Cert.GbrDxValue

open Cert.GbrDxIdeal Cert.GbrDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1024 .bf16) (y : S1024x1024.Idx) : k0_pay1 (F := Ideal) x w y = prodNT x w y := by
  unfold k0_pay1 prodNT
  simp only [pointwise, zero_add]

/-- The scratch at the last step of a run of points holds the products of its tiles, summed. -/
theorem acc_eq (t : Fin cfg0.N) (ht : t.val % 2 = 1) (y : S1024x1024.Idx) :
    (outsAt0 m c t.val t.isLt).2 y = 0 + ∑ s : Fin 2, prodNT (iblk m c 0 ⟨2 * (t.val / 2) + s.val, Pipeline.run_point_lt_of_flush t ht s⟩)
      (iblk m c 1 ⟨2 * (t.val / 2) + s.val, Pipeline.run_point_lt_of_flush t ht s⟩) y := by
  rw [Pipeline.eq_sum_fin_of_reset_step_apply_of_flush (fun n h => (outsAt0 m c n h).2) 2 (fun _ => 0)
    (fun t y => prodNT (iblk m c 0 t) (iblk m c 1 t) y)
    (fun t h y => by
      rw [outsAt0_A m c t h (by omega) (by omega)]; frame_out
      unfold k0_pay2; simp only [pointwise, zero_add]; exact pay1_apply _ _ y)
    (fun t h y => by
      rw [outsAt0_B m c t h (by omega) (by omega)]; frame_out
      unfold k0_pay3; simp only [pointwise]; rw [pay1_apply]
      exact congrArg (· + _) (congrFun ((Memref.isWhole_whole cc0_scratch0).read_unread _) y)) t ht y]

/-- The output block is written from the scratch, with the block of the given array added. -/
theorem out_eq (t : Fin cfg0.N) (ht : t.val % 2 = 1) (y : S1024x1024.Idx) :
    (outsAt0 m c t.val t.isLt).1 y = plus (iblk m c 2 t) (outsAt0 m c t.val t.isLt).2 y := by
  rw [outsAt0_B m c t (by omega) ht ht]; frame_out
  unfold k0_pay4 plus; simp only [pointwise]
  exact add_comm _ _

theorem ix_d : ∀ t : Fin cfg0.N, win0_0.index t = ![t.val / 2, t.val % 2] := (by decide +kernel : ∀ t : Fin grid0.N, _)
theorem ix_w : ∀ t : Fin cfg0.N, win0_1.index t = ![0, t.val % 2] := (by decide +kernel : ∀ t : Fin grid0.N, _)
theorem ix_r : ∀ t : Fin cfg0.N, win0_2.index t = ![t.val / 2, 0] := (by decide +kernel : ∀ t : Fin grid0.N, _)
theorem ix_o : ∀ t : Fin cfg0.N, win0_3.index t = ![t.val / 2, 0] := (by decide +kernel : ∀ t : Fin grid0.N, _)

theorem V_d : V m c main_v0 = (m ((c : Thread nD τ).loc main_arg2) : FVec Ideal S8192x2048 .f32) := by
  show StableHlo.after hostOps0 (fun b => m (c, b)) main_v0 = _
  after_results; rfl
theorem V_w : V m c main_v1 = (m ((c : Thread nD τ).loc main_arg1) : FVec Ideal S1024x2048 .f32) := by
  show StableHlo.after hostOps0 (fun b => m (c, b)) main_v1 = _
  after_results; rfl

theorem V_r : V m c main_arg3 = (m ((c : Thread nD τ).loc main_arg3) : FVec Ideal S8192x1024 .f32) := by
  show StableHlo.after hostOps0 (fun b => m (c, b)) main_arg3 = _
  after_results

/-- The result array is the given array and the whole product, added. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  have ht : t.val % 2 = 1 := (flush0_3 t).mp hf
  blk_simp
  rw [after0_3, out_eq m c t ht y, plus, acc_eq m c t ht, zero_add]
  refine congrArg₂ (· + ·) ?_ (prodNT_tiles _ _ _ y _ _ (by decide) (fun s a h => ?_) (fun s a h => ?_)) <;> blk_simp [iblk, V_d, V_w, V_r] <;>
    refine congrArg _ ?_ <;> blk_ext [ix_d, ix_w, ix_r, ix_o]

theorem reference_eq (w : FVec Ideal S1024x2048 .f32) (d : FVec Ideal S8192x2048 .f32) (r : FVec Ideal S8192x1024 .f32) :
    Cert.GbrDxReferenceIdeal.Read.val_main_v5 (F := Ideal) w d r = plus r (prodNT d w) := by
  funext i
  rw [Cert.GbrDxReferenceIdeal.Read.val_main_v5_apply, Cert.GbrDxReferenceIdeal.Read.val_main_v4_apply,
    Cert.GbrDxReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_GbrDxReferenceIdeal (hGbrDxReferenceIdeal := Cert.GbrDxReferenceIdeal.Gen.facts) := fun m ρ _ =>
  (θ_run _ _ _).mono (fun r h => ⟨fun c => (h c).2, sem_eq_zero_of_no_sems (by decide) r.2⟩) (Cert.GbrDxReferenceIdeal.Value.run (F := Ideal) m ρ)

/-- The kernel and the reference end with the same gradient. -/
theorem value : Cert.algebraic_GbrDxIdeal_GbrDxReferenceIdeal (hGbrDxIdeal := Cert.GbrDxIdeal.Gen.facts)
    (hGbrDxReferenceIdeal := Cert.GbrDxReferenceIdeal.Gen.facts) := by
  intro m ρ m' ρ' _ hag
  refine ⟨_, (θ_run _ _ _).mono (fun r h c => ⟨(h c).1.trans (array_eq m c), (h c).2⟩) (Cert.GbrDxIdeal.Value.run_blocks m ρ),
    (θ_run _ _ _).mono (fun r h c => ⟨(h c).1.trans ?_, (h c).2⟩) (Cert.GbrDxReferenceIdeal.Value.run (F := Ideal) m' ρ')⟩
  obtain ⟨a0, a1, a2, a3⟩ := hag c
  rw [a1, a2, a3]
  exact reference_eq _ _ _

end Cert.GbrDxValue

end
-- ==== Proof.MixDw.lean ====
/- The gradient of a square weight (a mixer's output projection, or the gate of the delta rule): 1024 rows at a time. -/
module

public import proofs.«01_k».proof.Defs
public import proofs.«01_k».proof.Proof.Gen.MixDw
public import proofs.«01_k».proof.Proof.Gen.MixDw.Frame
public import proofs.«01_k».proof.Proof.Gen.MixDwIdeal
public import proofs.«01_k».proof.Proof.Gen.MixDwIdeal.Frame
public import proofs.«01_k».proof.Proof.Gen.MixDwIdeal.Value
public import proofs.«01_k».proof.Proof.Gen.MixDwReferenceIdeal
public import proofs.«01_k».proof.Proof.Gen.MixDwReferenceIdeal.Run
public import proofs.«01_k».proof.Proof.Gen.MixDwReferenceIdeal.Read
public import proofs.«01_k».proof.Proof.Products

@[expose] public section

set_option maxRecDepth 16384

noncomputable section

namespace Cert.MixDwValue

open Cert.MixDwIdeal Cert.MixDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x1024 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x1024 .f32) :
    Cert.MixDwReferenceIdeal.Read.val_main_v2 (F := Ideal) x d = prodTN x d := by
  funext i
  rw [Cert.MixDwReferenceIdeal.Read.val_main_v2_apply, Cert.MixDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_MixDwReferenceIdeal (hMixDwReferenceIdeal := Cert.MixDwReferenceIdeal.Gen.facts) := fun m ρ _ =>
  (θ_run _ _ _).mono (fun r h => ⟨fun c => (h c).2, sem_eq_zero_of_no_sems (by decide) r.2⟩) (Cert.MixDwReferenceIdeal.Value.run (F := Ideal) m ρ)

/-- The kernel and the reference end with the same gradient. -/
theorem value : Cert.algebraic_MixDwIdeal_MixDwReferenceIdeal (hMixDwIdeal := Cert.MixDwIdeal.Gen.facts)
    (hMixDwReferenceIdeal := Cert.MixDwReferenceIdeal.Gen.facts) := by
  intro m ρ m' ρ' _ hag
  refine ⟨_, (θ_run _ _ _).mono (fun r h c => ⟨(h c).1.trans (array_eq m c), (h c).2⟩) (Cert.MixDwIdeal.Value.run_blocks m ρ),
    (θ_run _ _ _).mono (fun r h c => ⟨(h c).1.trans ?_, (h c).2⟩) (Cert.MixDwReferenceIdeal.Value.run (F := Ideal) m' ρ')⟩
  obtain ⟨a0, a1, a2⟩ := hag c
  rw [a0, a2]
  exact reference_eq _ _

end Cert.MixDwValue

end
-- ==== Proof.MixDx.lean ====
/- The gradient of the input of a mixer's output projection: every block of the kernel's array is a product over whole rows. -/
module

public import proofs.«01_k».proof.Defs
public import proofs.«01_k».proof.Proof.Gen.MixDx
public import proofs.«01_k».proof.Proof.Gen.MixDx.Frame
public import proofs.«01_k».proof.Proof.Gen.MixDxIdeal
public import proofs.«01_k».proof.Proof.Gen.MixDxIdeal.Frame
public import proofs.«01_k».proof.Proof.Gen.MixDxIdeal.Value
public import proofs.«01_k».proof.Proof.Gen.MixDxReferenceIdeal
public import proofs.«01_k».proof.Proof.Gen.MixDxReferenceIdeal.Run
public import proofs.«01_k».proof.Proof.Gen.MixDxReferenceIdeal.Read
public import proofs.«01_k».proof.Proof.Products

@[expose] public section

set_option maxRecDepth 16384

noncomputable section

namespace Cert.MixDxValue

open Cert.MixDxIdeal Cert.MixDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodNT x w y := by
  unfold k0_pay1 prodNT
  simp only [pointwise, zero_add]

theorem out_eq (t : Fin cfg0.N) (y : S1024x1024.Idx) : out0_2 (iblk m c 0 t) (iblk m c 1 t) y = prodNT (iblk m c 0 t) (iblk m c 1 t) y := by
  frame_out
  exact pay1_apply _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S1024x1024 .f32) := by
  show StableHlo.after hostOps0 (fun b => m (c, b)) main_v1 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  blk_simp
  rw [after0_2, out_eq m c t y]
  refine prodNT_block _ _ _ y _ _ (fun a => ?_) (fun a => ?_) <;> blk_simp [iblk, V_d, V_w] <;>
    refine congrArg _ ?_ <;> blk_ext [ix_d, ix_w, ix_o]

theorem reference_eq (w : FVec Ideal S1024x1024 .f32) (d : FVec Ideal S8192x1024 .f32) :
    Cert.MixDxReferenceIdeal.Read.val_main_v4 (F := Ideal) w d = prodNT d w := by
  funext i
  rw [Cert.MixDxReferenceIdeal.Read.val_main_v4_apply, Cert.MixDxReferenceIdeal.Read.val_main_v3_apply]
  refine Finset.sum_congr rfl fun k _ => congrArg₂ (· * ·) (congrArg d ?_) (congrArg w ?_) <;>
    funext a <;> fin_cases a <;> rfl

theorem frame_reference : Cert.quiescent_MixDxReferenceIdeal (hMixDxReferenceIdeal := Cert.MixDxReferenceIdeal.Gen.facts) := fun m ρ _ =>
  (θ_run _ _ _).mono (fun r h => ⟨fun c => (h c).2, sem_eq_zero_of_no_sems (by decide) r.2⟩) (Cert.MixDxReferenceIdeal.Value.run (F := Ideal) m ρ)

/-- The kernel and the reference end with the same gradient. -/
theorem value : Cert.algebraic_MixDxIdeal_MixDxReferenceIdeal (hMixDxIdeal := Cert.MixDxIdeal.Gen.facts)
    (hMixDxReferenceIdeal := Cert.MixDxReferenceIdeal.Gen.facts) := by
  intro m ρ m' ρ' _ hag
  refine ⟨_, (θ_run _ _ _).mono (fun r h c => ⟨(h c).1.trans (array_eq m c), (h c).2⟩) (Cert.MixDxIdeal.Value.run_blocks m ρ),
    (θ_run _ _ _).mono (fun r h c => ⟨(h c).1.trans ?_, (h c).2⟩) (Cert.MixDxReferenceIdeal.Value.run (F := Ideal) m' ρ')⟩
  obtain ⟨a0, a1, a2⟩ := hag c
  rw [a1, a2]
  exact reference_eq _ _

end Cert.MixDxValue

end
-- ==== Proof.OutFwd.lean ====
/- The output projection added to the residual: each block is a product over whole rows and columns, and the residual's block. -/
module

public import proofs.«01_k».proof.Defs
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.OutFwdReferenceIdeal.Read
public import proofs.«01_k».proof.Proof.Products

@[expose] public section

set_option maxRecDepth 16384

noncomputable section

namespace Cert.OutFwdValue

open Cert.OutFwdIdeal Cert.OutFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1024 .bf16) (r : FVec Ideal S1024x1024 .f32) (y : S1024x1024.Idx) :
    k0_pay1 (F := Ideal) x w r y = plus r (prodNN x w) y := by
  unfold k0_pay1 plus prodNN
  simp only [pointwise, zero_add]
  exact add_comm _ _

theorem out_eq (t : Fin cfg0.N) (y : S1024x1024.Idx) : out0_3 (iblk m c 0 t) (iblk m c 1 t) (iblk m c 2 t) y
    = plus (iblk m c 2 t) (prodNN (iblk m c 0 t) (iblk m c 1 t)) y := by
  frame_out
  exact pay1_apply _ _ _ y

theorem ix_f : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_f : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x1024 .f32) := by
  show StableHlo.after hostOps0 (fun b => m (c, b)) main_v1 = _
  after_results; rfl

theorem V_r : V m c main_arg2 = (m ((c : Thread nD τ).loc main_arg2) : FVec Ideal S8192x1024 .f32) := by
  show StableHlo.after hostOps0 (fun b => m (c, b)) main_arg2 = _
  after_results

/-- The result array is the given array and the whole product. -/
theorem array_eq : (dats m 0 c).arrAt 3 cfg0.N
    = plus (m ((c : Thread nD τ).loc main_arg2))
      (prodNN (m ((c : Thread nD τ).loc main_arg0)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNN_block _ _ _ y _ _ (fun a => ?_) (fun a => ?_)) <;> blk_simp [iblk, V_f, V_w, V_r] <;>
    refine congrArg _ ?_ <;> blk_ext [ix_f, ix_w, ix_r, ix_o]

theorem reference_eq (f : FVec Ideal S8192x1024 .f32) (w : FVec Ideal S1024x1024 .f32) (r : FVec Ideal S8192x1024 .f32) :
    Cert.OutFwdReferenceIdeal.Read.val_main_v1 (F := Ideal) f w r = plus r (prodNN f w) := by
  funext i
  rw [Cert.OutFwdReferenceIdeal.Read.val_main_v1_apply, Cert.OutFwdReferenceIdeal.Read.val_main_v0_apply]
  refine congrArg (r i + ·) (Finset.sum_congr rfl fun k _ => congrArg₂ (· * ·) (congrArg f ?_) (congrArg w ?_)) <;>
    funext a <;> fin_cases a <;> rfl

theorem frame_reference : Cert.quiescent_OutFwdReferenceIdeal (hOutFwdReferenceIdeal := Cert.OutFwdReferenceIdeal.Gen.facts) := fun m ρ _ =>
  (θ_run _ _ _).mono (fun r h => ⟨fun c => (h c).2, sem_eq_zero_of_no_sems (by decide) r.2⟩) (Cert.OutFwdReferenceIdeal.Value.run (F := Ideal) m ρ)

/-- The kernel and the reference end with the same rows. -/
theorem value : Cert.algebraic_OutFwdIdeal_OutFwdReferenceIdeal (hOutFwdIdeal := Cert.OutFwdIdeal.Gen.facts)
    (hOutFwdReferenceIdeal := Cert.OutFwdReferenceIdeal.Gen.facts) := by
  intro m ρ m' ρ' _ hag
  refine ⟨_, (θ_run _ _ _).mono (fun r h c => ⟨(h c).1.trans (array_eq m c), (h c).2⟩) (Cert.OutFwdIdeal.Value.run_blocks m ρ),
    (θ_run _ _ _).mono (fun r h c => ⟨(h c).1.trans ?_, (h c).2⟩) (Cert.OutFwdReferenceIdeal.Value.run (F := Ideal) m' ρ')⟩
  obtain ⟨a0, a1, a2⟩ := hag c
  rw [a0, a1, a2]
  exact reference_eq _ _ _

end Cert.OutFwdValue

end
-- ==== Proof.OutDw.lean ====
/- The gradient of the output projection's weight: the product that the reference computes, 1024 rows at a time. -/
module

public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Products

@[expose] public section

set_option maxRecDepth 16384

noncomputable section

namespace Cert.OutDwValue

open Cert.OutDwIdeal Cert.OutDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .f32) (y : S1024x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_arg2 = (m ((c : Thread nD τ).loc main_arg2) : FVec Ideal S8192x1024 .f32) := by
  show StableHlo.after hostOps0 (fun b => m (c, b)) main_arg2 = _
  after_results

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x1024 .f32) :
    Cert.OutDwReferenceIdeal.Read.val_main_v2 (F := Ideal) x d = prodTN x d := by
  funext i
  rw [Cert.OutDwReferenceIdeal.Read.val_main_v2_apply, Cert.OutDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_OutDwReferenceIdeal (hOutDwReferenceIdeal := Cert.OutDwReferenceIdeal.Gen.facts) := fun m ρ _ =>
  (θ_run _ _ _).mono (fun r h => ⟨fun c => (h c).2, sem_eq_zero_of_no_sems (by decide) r.2⟩) (Cert.OutDwReferenceIdeal.Value.run (F := Ideal) m ρ)

/-- The kernel and the reference end with the same gradient. -/
theorem value : Cert.algebraic_OutDwIdeal_OutDwReferenceIdeal (hOutDwIdeal := Cert.OutDwIdeal.Gen.facts)
    (hOutDwReferenceIdeal := Cert.OutDwReferenceIdeal.Gen.facts) := by
  intro m ρ m' ρ' _ hag
  refine ⟨_, (θ_run _ _ _).mono (fun r h c => ⟨(h c).1.trans (array_eq m c), (h c).2⟩) (Cert.OutDwIdeal.Value.run_blocks m ρ),
    (θ_run _ _ _).mono (fun r h c => ⟨(h c).1.trans ?_, (h c).2⟩) (Cert.OutDwReferenceIdeal.Value.run (F := Ideal) m' ρ')⟩
  obtain ⟨a0, a1, a2⟩ := hag c
  rw [a0, a2]
  exact reference_eq _ _

end Cert.OutDwValue

end
-- ==== Proof.OutDx.lean ====
/- The gradient of the output projection's input: every block of the kernel's array is a product over whole rows. -/
module

public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Products

@[expose] public section

set_option maxRecDepth 16384

noncomputable section

namespace Cert.OutDxValue

open Cert.OutDxIdeal Cert.OutDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .f32) (w : FVec Ideal S1024x1024 .bf16) (y : S1024x1024.Idx) :
    k0_pay1 (F := Ideal) x w y = prodNT x w y := by
  unfold k0_pay1 prodNT
  simp only [pointwise, zero_add]

theorem out_eq (t : Fin cfg0.N) (y : S1024x1024.Idx) : out0_2 (iblk m c 0 t) (iblk m c 1 t) y = prodNT (iblk m c 0 t) (iblk m c 1 t) y := by
  frame_out
  exact pay1_apply _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_d : V m c main_arg2 = (m ((c : Thread nD τ).loc main_arg2) : FVec Ideal S8192x1024 .f32) := by
  show StableHlo.after hostOps0 (fun b => m (c, b)) main_arg2 = _
  after_results
theorem V_w : V m c main_v0 = (m ((c : Thread nD τ).loc main_arg1) : FVec Ideal S1024x1024 .f32) := by
  show StableHlo.after hostOps0 (fun b => m (c, b)) main_v0 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  blk_simp
  rw [after0_2, out_eq m c t y]
  refine prodNT_block _ _ _ y _ _ (fun a => ?_) (fun a => ?_) <;> blk_simp [iblk, V_d, V_w] <;>
    refine congrArg _ ?_ <;> blk_ext [ix_d, ix_w, ix_o]

theorem reference_eq (w : FVec Ideal S1024x1024 .f32) (d : FVec Ideal S8192x1024 .f32) :
    Cert.OutDxReferenceIdeal.Read.val_main_v4 (F := Ideal) w d = prodNT d w := by
  funext i
  rw [Cert.OutDxReferenceIdeal.Read.val_main_v4_apply, Cert.OutDxReferenceIdeal.Read.val_main_v3_apply]
  refine Finset.sum_congr rfl fun k _ => congrArg₂ (· * ·) (congrArg d ?_) (congrArg w ?_) <;>
    funext a <;> fin_cases a <;> rfl

theorem frame_reference : Cert.quiescent_OutDxReferenceIdeal (hOutDxReferenceIdeal := Cert.OutDxReferenceIdeal.Gen.facts) := fun m ρ _ =>
  (θ_run _ _ _).mono (fun r h => ⟨fun c => (h c).2, sem_eq_zero_of_no_sems (by decide) r.2⟩) (Cert.OutDxReferenceIdeal.Value.run (F := Ideal) m ρ)

/-- The kernel and the reference end with the same gradient. -/
theorem value : Cert.algebraic_OutDxIdeal_OutDxReferenceIdeal (hOutDxIdeal := Cert.OutDxIdeal.Gen.facts)
    (hOutDxReferenceIdeal := Cert.OutDxReferenceIdeal.Gen.facts) := by
  intro m ρ m' ρ' _ hag
  refine ⟨_, (θ_run _ _ _).mono (fun r h c => ⟨(h c).1.trans (array_eq m c), (h c).2⟩) (Cert.OutDxIdeal.Value.run_blocks m ρ),
    (θ_run _ _ _).mono (fun r h c => ⟨(h c).1.trans ?_, (h c).2⟩) (Cert.OutDxReferenceIdeal.Value.run (F := Ideal) m' ρ')⟩
  obtain ⟨a0, a1, a2⟩ := hag c
  rw [a1, a2]
  exact reference_eq _ _

end Cert.OutDxValue

end
-- ==== Proof.GaFwd.lean ====
/- The projection to the delta rule's gate: every block of the kernel's array is a product over whole rows and columns. -/
module

public import proofs.«01_k».proof.Defs
public import proofs.«01_k».proof.Proof.Gen.GaFwd
public import proofs.«01_k».proof.Proof.Gen.GaFwd.Frame
public import proofs.«01_k».proof.Proof.Gen.GaFwdIdeal
public import proofs.«01_k».proof.Proof.Gen.GaFwdIdeal.Frame
public import proofs.«01_k».proof.Proof.Gen.GaFwdIdeal.Value
public import proofs.«01_k».proof.Proof.Gen.GaFwdReferenceIdeal
public import proofs.«01_k».proof.Proof.Gen.GaFwdReferenceIdeal.Run
public import proofs.«01_k».proof.Proof.Gen.GaFwdReferenceIdeal.Read
public import proofs.«01_k».proof.Proof.Products

@[expose] public section

set_option maxRecDepth 16384

noncomputable section

namespace Cert.GaFwdValue

open Cert.GaFwdIdeal Cert.GaFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x1024 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x1024 .f32) :
    Cert.GaFwdReferenceIdeal.Read.val_main_v1 (F := Ideal) h w = prodNN h w := by
  funext i
  rw [Cert.GaFwdReferenceIdeal.Read.val_main_v1_apply, Cert.GaFwdReferenceIdeal.Read.val_main_v0_apply]
  refine Finset.sum_congr rfl fun k _ => congrArg₂ (· * ·) (congrArg h ?_) (congrArg w ?_) <;>
    funext a <;> fin_cases a <;> rfl

theorem frame_reference : Cert.quiescent_GaFwdReferenceIdeal (hGaFwdReferenceIdeal := Cert.GaFwdReferenceIdeal.Gen.facts) := fun m ρ _ =>
  (θ_run _ _ _).mono (fun r h => ⟨fun c => (h c).2, sem_eq_zero_of_no_sems (by decide) r.2⟩) (Cert.GaFwdReferenceIdeal.Value.run (F := Ideal) m ρ)

/-- The kernel and the reference end with the same rows. -/
theorem value : Cert.algebraic_GaFwdIdeal_GaFwdReferenceIdeal (hGaFwdIdeal := Cert.GaFwdIdeal.Gen.facts)
    (hGaFwdReferenceIdeal := Cert.GaFwdReferenceIdeal.Gen.facts) := by
  intro m ρ m' ρ' _ hag
  refine ⟨_, (θ_run _ _ _).mono (fun r h c => ⟨(h c).1.trans (array_eq m c), (h c).2⟩) (Cert.GaFwdIdeal.Value.run_blocks m ρ),
    (θ_run _ _ _).mono (fun r h c => ⟨(h c).1.trans ?_, (h c).2⟩) (Cert.GaFwdReferenceIdeal.Value.run (F := Ideal) m' ρ')⟩
  obtain ⟨a0, a1⟩ := hag c
  rw [a0, a1]
  exact reference_eq _ _

end Cert.GaFwdValue

end
-- ==== Proof.GaDx.lean ====
/- The gradient of the mixers' input from the delta rule's gate, added to a given array: each block is a product over whole rows. -/
module

public import proofs.«01_k».proof.Defs
public import proofs.«01_k».proof.Proof.Gen.GaDx
public import proofs.«01_k».proof.Proof.Gen.GaDx.Frame
public import proofs.«01_k».proof.Proof.Gen.GaDxIdeal
public import proofs.«01_k».proof.Proof.Gen.GaDxIdeal.Frame
public import proofs.«01_k».proof.Proof.Gen.GaDxIdeal.Value
public import proofs.«01_k».proof.Proof.Gen.GaDxReferenceIdeal
public import proofs.«01_k».proof.Proof.Gen.GaDxReferenceIdeal.Run
public import proofs.«01_k».proof.Proof.Gen.GaDxReferenceIdeal.Read
public import proofs.«01_k».proof.Proof.Products

@[expose] public section

set_option maxRecDepth 16384

noncomputable section

namespace Cert.GaDxValue

open Cert.GaDxIdeal Cert.GaDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1024 .bf16) (r : FVec Ideal S1024x1024 .f32) (y : S1024x1024.Idx) :
    k0_pay1 (F := Ideal) x w r y = plus r (prodNT x w) y := by
  unfold k0_pay1 plus prodNT
  simp only [pointwise, zero_add]
  exact add_comm _ _

theorem out_eq (t : Fin cfg0.N) (y : S1024x1024.Idx) : out0_3 (iblk m c 0 t) (iblk m c 1 t) (iblk m c 2 t) y
    = plus (iblk m c 2 t) (prodNT (iblk m c 0 t) (iblk m c 1 t)) y := by
  frame_out
  exact pay1_apply _ _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S1024x1024 .f32) := by
  show StableHlo.after hostOps0 (fun b => m (c, b)) main_v1 = _
  after_results; rfl

theorem V_r : V m c main_arg3 = (m ((c : Thread nD τ).loc main_arg3) : FVec Ideal S8192x1024 .f32) := by
  show StableHlo.after hostOps0 (fun b => m (c, b)) main_arg3 = _
  after_results

/-- The result array is the given array and the whole product. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNT_block _ _ _ y _ _ (fun a => ?_) (fun a => ?_)) <;> blk_simp [iblk, V_d, V_w, V_r] <;>
    refine congrArg _ ?_ <;> blk_ext [ix_d, ix_w, ix_r, ix_o]

theorem reference_eq (w : FVec Ideal S1024x1024 .f32) (d r : FVec Ideal S8192x1024 .f32) :
    Cert.GaDxReferenceIdeal.Read.val_main_v4 (F := Ideal) w d r = plus r (prodNT d w) := by
  funext i
  rw [Cert.GaDxReferenceIdeal.Read.val_main_v4_apply, Cert.GaDxReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_GaDxReferenceIdeal (hGaDxReferenceIdeal := Cert.GaDxReferenceIdeal.Gen.facts) := fun m ρ _ =>
  (θ_run _ _ _).mono (fun r h => ⟨fun c => (h c).2, sem_eq_zero_of_no_sems (by decide) r.2⟩) (Cert.GaDxReferenceIdeal.Value.run (F := Ideal) m ρ)

/-- The kernel and the reference end with the same gradient. -/
theorem value : Cert.algebraic_GaDxIdeal_GaDxReferenceIdeal (hGaDxIdeal := Cert.GaDxIdeal.Gen.facts)
    (hGaDxReferenceIdeal := Cert.GaDxReferenceIdeal.Gen.facts) := by
  intro m ρ m' ρ' _ hag
  refine ⟨_, (θ_run _ _ _).mono (fun r h c => ⟨(h c).1.trans (array_eq m c), (h c).2⟩) (Cert.GaDxIdeal.Value.run_blocks m ρ),
    (θ_run _ _ _).mono (fun r h c => ⟨(h c).1.trans ?_, (h c).2⟩) (Cert.GaDxReferenceIdeal.Value.run (F := Ideal) m' ρ')⟩
  obtain ⟨a0, a1, a2, a3⟩ := hag c
  rw [a1, a2, a3]
  exact reference_eq _ _ _

end Cert.GaDxValue

end
-- ==== Proof.SmallFwd.lean ====
/- The projection to the compressed queries and keys and to the shared rotated key: products over whole rows and columns. -/
module

public import proofs.«01_k».proof.Defs
public import proofs.«01_k».proof.Proof.Gen.SmallFwd
public import proofs.«01_k».proof.Proof.Gen.SmallFwd.Frame
public import proofs.«01_k».proof.Proof.Gen.SmallFwdIdeal
public import proofs.«01_k».proof.Proof.Gen.SmallFwdIdeal.Frame
public import proofs.«01_k».proof.Proof.Gen.SmallFwdIdeal.Value
public import proofs.«01_k».proof.Proof.Gen.SmallFwdReferenceIdeal
public import proofs.«01_k».proof.Proof.Gen.SmallFwdReferenceIdeal.Run
public import proofs.«01_k».proof.Proof.Gen.SmallFwdReferenceIdeal.Read
public import proofs.«01_k».proof.Proof.Products

@[expose] public section

set_option maxRecDepth 16384

noncomputable section

namespace Cert.SmallFwdValue

open Cert.SmallFwdIdeal Cert.SmallFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x896 .bf16) (y : S1024x896.Idx) :
    k0_pay1 (F := Ideal) x w y = prodNN x w y := by
  unfold k0_pay1 prodNN
  simp only [pointwise, zero_add]

theorem out_eq (t : Fin cfg0.N) (y : S1024x896.Idx) : out0_2 (iblk m c 0 t) (iblk m c 1 t) y = prodNN (iblk m c 0 t) (iblk m c 1 t) y := by
  frame_out
  exact pay1_apply _ _ y

theorem ix_h : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x896 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x896 .f32) :
    Cert.SmallFwdReferenceIdeal.Read.val_main_v1 (F := Ideal) h w = prodNN h w := by
  funext i
  rw [Cert.SmallFwdReferenceIdeal.Read.val_main_v1_apply, Cert.SmallFwdReferenceIdeal.Read.val_main_v0_apply]
  refine Finset.sum_congr rfl fun k _ => congrArg₂ (· * ·) (congrArg h ?_) (congrArg w ?_) <;>
    funext a <;> fin_cases a <;> rfl

theorem frame_reference : Cert.quiescent_SmallFwdReferenceIdeal (hSmallFwdReferenceIdeal := Cert.SmallFwdReferenceIdeal.Gen.facts) := fun m ρ _ =>
  (θ_run _ _ _).mono (fun r h => ⟨fun c => (h c).2, sem_eq_zero_of_no_sems (by decide) r.2⟩) (Cert.SmallFwdReferenceIdeal.Value.run (F := Ideal) m ρ)

/-- The kernel and the reference end with the same rows. -/
theorem value : Cert.algebraic_SmallFwdIdeal_SmallFwdReferenceIdeal (hSmallFwdIdeal := Cert.SmallFwdIdeal.Gen.facts)
    (hSmallFwdReferenceIdeal := Cert.SmallFwdReferenceIdeal.Gen.facts) := by
  intro m ρ m' ρ' _ hag
  refine ⟨_, (θ_run _ _ _).mono (fun r h c => ⟨(h c).1.trans (array_eq m c), (h c).2⟩) (Cert.SmallFwdIdeal.Value.run_blocks m ρ),
    (θ_run _ _ _).mono (fun r h c => ⟨(h c).1.trans ?_, (h c).2⟩) (Cert.SmallFwdReferenceIdeal.Value.run (F := Ideal) m' ρ')⟩
  obtain ⟨a0, a1⟩ := hag c
  rw [a0, a1]
  exact reference_eq _ _

end Cert.SmallFwdValue

end
-- ==== Proof.SmallDw.lean ====
/- The gradient of the weight of the compressed queries and keys: the product that the reference computes, 1024 rows at a time. -/
module

public import proofs.«01_k».proof.Defs
public import proofs.«01_k».proof.Proof.Gen.SmallDw
public import proofs.«01_k».proof.Proof.Gen.SmallDw.Frame
public import proofs.«01_k».proof.Proof.Gen.SmallDwIdeal
public import proofs.«01_k».proof.Proof.Gen.SmallDwIdeal.Frame
public import proofs.«01_k».proof.Proof.Gen.SmallDwIdeal.Value
public import proofs.«01_k».proof.Proof.Gen.SmallDwReferenceIdeal
public import proofs.«01_k».proof.Proof.Gen.SmallDwReferenceIdeal.Run
public import proofs.«01_k».proof.Proof.Gen.SmallDwReferenceIdeal.Read
public import proofs.«01_k».proof.Proof.Products

@[expose] public section

set_option maxRecDepth 16384

noncomputable section

namespace Cert.SmallDwValue

open Cert.SmallDwIdeal Cert.SmallDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x896 .bf16) (y : S1024x896.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x896.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x896 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x896 .f32) :
    Cert.SmallDwReferenceIdeal.Read.val_main_v2 (F := Ideal) x d = prodTN x d := by
  funext i
  rw [Cert.SmallDwReferenceIdeal.Read.val_main_v2_apply, Cert.SmallDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_SmallDwReferenceIdeal (hSmallDwReferenceIdeal := Cert.SmallDwReferenceIdeal.Gen.facts) := fun m ρ _ =>
  (θ_run _ _ _).mono (fun r h => ⟨fun c => (h c).2, sem_eq_zero_of_no_sems (by decide) r.2⟩) (Cert.SmallDwReferenceIdeal.Value.run (F := Ideal) m ρ)

/-- The kernel and the reference end with the same gradient. -/
theorem value : Cert.algebraic_SmallDwIdeal_SmallDwReferenceIdeal (hSmallDwIdeal := Cert.SmallDwIdeal.Gen.facts)
    (hSmallDwReferenceIdeal := Cert.SmallDwReferenceIdeal.Gen.facts) := by
  intro m ρ m' ρ' _ hag
  refine ⟨_, (θ_run _ _ _).mono (fun r h c => ⟨(h c).1.trans (array_eq m c), (h c).2⟩) (Cert.SmallDwIdeal.Value.run_blocks m ρ),
    (θ_run _ _ _).mono (fun r h c => ⟨(h c).1.trans ?_, (h c).2⟩) (Cert.SmallDwReferenceIdeal.Value.run (F := Ideal) m' ρ')⟩
  obtain ⟨a0, a1, a2⟩ := hag c
  rw [a0, a2]
  exact reference_eq _ _

end Cert.SmallDwValue

end
-- ==== Proof.SmallDx.lean ====
/- The gradient of the mixers' input from the compressed queries and keys, added to a given array: products over whole rows. -/
module

public import proofs.«01_k».proof.Defs
public import proofs.«01_k».proof.Proof.Gen.SmallDx
public import proofs.«01_k».proof.Proof.Gen.SmallDx.Frame
public import proofs.«01_k».proof.Proof.Gen.SmallDxIdeal
public import proofs.«01_k».proof.Proof.Gen.SmallDxIdeal.Frame
public import proofs.«01_k».proof.Proof.Gen.SmallDxIdeal.Value
public import proofs.«01_k».proof.Proof.Gen.SmallDxReferenceIdeal
public import proofs.«01_k».proof.Proof.Gen.SmallDxReferenceIdeal.Run
public import proofs.«01_k».proof.Proof.Gen.SmallDxReferenceIdeal.Read
public import proofs.«01_k».proof.Proof.Products

@[expose] public section

set_option maxRecDepth 16384

noncomputable section

namespace Cert.SmallDxValue

open Cert.SmallDxIdeal Cert.SmallDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x896 .bf16) (r : FVec Ideal S1024x1024 .f32) (y : S1024x1024.Idx) :
    k0_pay1 (F := Ideal) x w r y = plus r (prodNT x w) y := by
  unfold k0_pay1 plus prodNT
  simp only [pointwise, zero_add]
  exact add_comm _ _

theorem out_eq (t : Fin cfg0.N) (y : S1024x1024.Idx) : out0_3 (iblk m c 0 t) (iblk m c 1 t) (iblk m c 2 t) y
    = plus (iblk m c 2 t) (prodNT (iblk m c 0 t) (iblk m c 1 t)) y := by
  frame_out
  exact pay1_apply _ _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_d : V m c main_v0 = (m ((c : Thread nD τ).loc main_arg2) : FVec Ideal S8192x896 .f32) := by
  show StableHlo.after hostOps0 (fun b => m (c, b)) main_v0 = _
  after_results; rfl
theorem V_w : V m c main_v1 = (m ((c : Thread nD τ).loc main_arg1) : FVec Ideal S1024x896 .f32) := by
  show StableHlo.after hostOps0 (fun b => m (c, b)) main_v1 = _
  after_results; rfl

theorem V_r : V m c main_arg3 = (m ((c : Thread nD τ).loc main_arg3) : FVec Ideal S8192x1024 .f32) := by
  show StableHlo.after hostOps0 (fun b => m (c, b)) main_arg3 = _
  after_results

/-- The result array is the given array and the whole product. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNT_block _ _ _ y _ _ (fun a => ?_) (fun a => ?_)) <;> blk_simp [iblk, V_d, V_w, V_r] <;>
    refine congrArg _ ?_ <;> blk_ext [ix_d, ix_w, ix_r, ix_o]

theorem reference_eq (w : FVec Ideal S1024x896 .f32) (d : FVec Ideal S8192x896 .f32) (r : FVec Ideal S8192x1024 .f32) :
    Cert.SmallDxReferenceIdeal.Read.val_main_v4 (F := Ideal) w d r = plus r (prodNT d w) := by
  funext i
  rw [Cert.SmallDxReferenceIdeal.Read.val_main_v4_apply, Cert.SmallDxReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_SmallDxReferenceIdeal (hSmallDxReferenceIdeal := Cert.SmallDxReferenceIdeal.Gen.facts) := fun m ρ _ =>
  (θ_run _ _ _).mono (fun r h => ⟨fun c => (h c).2, sem_eq_zero_of_no_sems (by decide) r.2⟩) (Cert.SmallDxReferenceIdeal.Value.run (F := Ideal) m ρ)

/-- The kernel and the reference end with the same gradient. -/
theorem value : Cert.algebraic_SmallDxIdeal_SmallDxReferenceIdeal (hSmallDxIdeal := Cert.SmallDxIdeal.Gen.facts)
    (hSmallDxReferenceIdeal := Cert.SmallDxReferenceIdeal.Gen.facts) := by
  intro m ρ m' ρ' _ hag
  refine ⟨_, (θ_run _ _ _).mono (fun r h c => ⟨(h c).1.trans (array_eq m c), (h c).2⟩) (Cert.SmallDxIdeal.Value.run_blocks m ρ),
    (θ_run _ _ _).mono (fun r h c => ⟨(h c).1.trans ?_, (h c).2⟩) (Cert.SmallDxReferenceIdeal.Value.run (F := Ideal) m' ρ')⟩
  obtain ⟨a0, a1, a2, a3⟩ := hag c
  rw [a1, a2, a3]
  exact reference_eq _ _ _

end Cert.SmallDxValue

end
-- ==== Proof.UqFwd.lean ====
/- The queries from their compressed form: every block of the kernel's array is a product over whole rows and columns. -/
module

public import proofs.«01_k».proof.Defs
public import proofs.«01_k».proof.Proof.Gen.UqFwd
public import proofs.«01_k».proof.Proof.Gen.UqFwd.Frame
public import proofs.«01_k».proof.Proof.Gen.UqFwdIdeal
public import proofs.«01_k».proof.Proof.Gen.UqFwdIdeal.Frame
public import proofs.«01_k».proof.Proof.Gen.UqFwdIdeal.Value
public import proofs.«01_k».proof.Proof.Gen.UqFwdReferenceIdeal
public import proofs.«01_k».proof.Proof.Gen.UqFwdReferenceIdeal.Run
public import proofs.«01_k».proof.Proof.Gen.UqFwdReferenceIdeal.Read
public import proofs.«01_k».proof.Proof.Products

@[expose] public section

set_option maxRecDepth 16384

noncomputable section

namespace Cert.UqFwdValue

open Cert.UqFwdIdeal Cert.UqFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x384 .bf16) (w : FVec Ideal S384x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_h : V m c main_v0 = (m ((c : Thread nD τ).loc main_arg0) : FVec Ideal S8192x384 .f32) := by
  show StableHlo.after hostOps0 (fun b => m (c, b)) main_v0 = _
  after_results; rfl
theorem V_w : V m c main_v1 = (m ((c : Thread nD τ).loc main_arg1) : FVec Ideal S384x1024 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x384 .f32) (w : FVec Ideal S384x1024 .f32) :
    Cert.UqFwdReferenceIdeal.Read.val_main_v1 (F := Ideal) h w = prodNN h w := by
  funext i
  rw [Cert.UqFwdReferenceIdeal.Read.val_main_v1_apply, Cert.UqFwdReferenceIdeal.Read.val_main_v0_apply]
  refine Finset.sum_congr rfl fun k _ => congrArg₂ (· * ·) (congrArg h ?_) (congrArg w ?_) <;>
    funext a <;> fin_cases a <;> rfl

theorem frame_reference : Cert.quiescent_UqFwdReferenceIdeal (hUqFwdReferenceIdeal := Cert.UqFwdReferenceIdeal.Gen.facts) := fun m ρ _ =>
  (θ_run _ _ _).mono (fun r h => ⟨fun c => (h c).2, sem_eq_zero_of_no_sems (by decide) r.2⟩) (Cert.UqFwdReferenceIdeal.Value.run (F := Ideal) m ρ)

/-- The kernel and the reference end with the same rows. -/
theorem value : Cert.algebraic_UqFwdIdeal_UqFwdReferenceIdeal (hUqFwdIdeal := Cert.UqFwdIdeal.Gen.facts)
    (hUqFwdReferenceIdeal := Cert.UqFwdReferenceIdeal.Gen.facts) := by
  intro m ρ m' ρ' _ hag
  refine ⟨_, (θ_run _ _ _).mono (fun r h c => ⟨(h c).1.trans (array_eq m c), (h c).2⟩) (Cert.UqFwdIdeal.Value.run_blocks m ρ),
    (θ_run _ _ _).mono (fun r h c => ⟨(h c).1.trans ?_, (h c).2⟩) (Cert.UqFwdReferenceIdeal.Value.run (F := Ideal) m' ρ')⟩
  obtain ⟨a0, a1⟩ := hag c
  rw [a0, a1]
  exact reference_eq _ _

end Cert.UqFwdValue

end
-- ==== Proof.UqDw.lean ====
/- The gradient of the weight of the queries: the product that the reference computes, 1024 rows at a time. -/
module

public import proofs.«01_k».proof.Defs
public import proofs.«01_k».proof.Proof.Gen.UqDw
public import proofs.«01_k».proof.Proof.Gen.UqDw.Frame
public import proofs.«01_k».proof.Proof.Gen.UqDwIdeal
public import proofs.«01_k».proof.Proof.Gen.UqDwIdeal.Frame
public import proofs.«01_k».proof.Proof.Gen.UqDwIdeal.Value
public import proofs.«01_k».proof.Proof.Gen.UqDwReferenceIdeal
public import proofs.«01_k».proof.Proof.Gen.UqDwReferenceIdeal.Run
public import proofs.«01_k».proof.Proof.Gen.UqDwReferenceIdeal.Read
public import proofs.«01_k».proof.Proof.Products

@[expose] public section

set_option maxRecDepth 16384

noncomputable section

namespace Cert.UqDwValue

open Cert.UqDwIdeal Cert.UqDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x384 .bf16) (w : FVec Ideal S1024x1024 .bf16) (y : S384x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S384x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x384 .f32) := by
  show StableHlo.after hostOps0 (fun b => m (c, b)) main_v0 = _
  after_results; rfl
theorem V_d : V m c main_v1 = (m ((c : Thread nD τ).loc main_arg2) : FVec Ideal S8192x1024 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x384 .f32) (d : FVec Ideal S8192x1024 .f32) :
    Cert.UqDwReferenceIdeal.Read.val_main_v2 (F := Ideal) x d = prodTN x d := by
  funext i
  rw [Cert.UqDwReferenceIdeal.Read.val_main_v2_apply, Cert.UqDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_UqDwReferenceIdeal (hUqDwReferenceIdeal := Cert.UqDwReferenceIdeal.Gen.facts) := fun m ρ _ =>
  (θ_run _ _ _).mono (fun r h => ⟨fun c => (h c).2, sem_eq_zero_of_no_sems (by decide) r.2⟩) (Cert.UqDwReferenceIdeal.Value.run (F := Ideal) m ρ)

/-- The kernel and the reference end with the same gradient. -/
theorem value : Cert.algebraic_UqDwIdeal_UqDwReferenceIdeal (hUqDwIdeal := Cert.UqDwIdeal.Gen.facts)
    (hUqDwReferenceIdeal := Cert.UqDwReferenceIdeal.Gen.facts) := by
  intro m ρ m' ρ' _ hag
  refine ⟨_, (θ_run _ _ _).mono (fun r h c => ⟨(h c).1.trans (array_eq m c), (h c).2⟩) (Cert.UqDwIdeal.Value.run_blocks m ρ),
    (θ_run _ _ _).mono (fun r h c => ⟨(h c).1.trans ?_, (h c).2⟩) (Cert.UqDwReferenceIdeal.Value.run (F := Ideal) m' ρ')⟩
  obtain ⟨a0, a1, a2⟩ := hag c
  rw [a0, a2]
  exact reference_eq _ _

end Cert.UqDwValue

end
-- ==== Proof.UqDx.lean ====
/- The gradient of the compressed queries: every block of the kernel's array is a product over whole rows. -/
module

public import proofs.«01_k».proof.Defs
public import proofs.«01_k».proof.Proof.Gen.UqDx
public import proofs.«01_k».proof.Proof.Gen.UqDx.Frame
public import proofs.«01_k».proof.Proof.Gen.UqDxIdeal
public import proofs.«01_k».proof.Proof.Gen.UqDxIdeal.Frame
public import proofs.«01_k».proof.Proof.Gen.UqDxIdeal.Value
public import proofs.«01_k».proof.Proof.Gen.UqDxReferenceIdeal
public import proofs.«01_k».proof.Proof.Gen.UqDxReferenceIdeal.Run
public import proofs.«01_k».proof.Proof.Gen.UqDxReferenceIdeal.Read
public import proofs.«01_k».proof.Proof.Products

@[expose] public section

set_option maxRecDepth 16384

noncomputable section

namespace Cert.UqDxValue

open Cert.UqDxIdeal Cert.UqDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S384x1024 .bf16) (y : S1024x384.Idx) :
    k0_pay1 (F := Ideal) x w y = prodNT x w y := by
  unfold k0_pay1 prodNT
  simp only [pointwise, zero_add]

theorem out_eq (t : Fin cfg0.N) (y : S1024x384.Idx) : out0_2 (iblk m c 0 t) (iblk m c 1 t) y = prodNT (iblk m c 0 t) (iblk m c 1 t) y := by
  frame_out
  exact pay1_apply _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S384x1024 .f32) := by
  show StableHlo.after hostOps0 (fun b => m (c, b)) main_v1 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  blk_simp
  rw [after0_2, out_eq m c t y]
  refine prodNT_block _ _ _ y _ _ (fun a => ?_) (fun a => ?_) <;> blk_simp [iblk, V_d, V_w] <;>
    refine congrArg _ ?_ <;> blk_ext [ix_d, ix_w, ix_o]

theorem reference_eq (w : FVec Ideal S384x1024 .f32) (d : FVec Ideal S8192x1024 .f32) :
    Cert.UqDxReferenceIdeal.Read.val_main_v3 (F := Ideal) w d = prodNT d w := by
  funext i
  rw [Cert.UqDxReferenceIdeal.Read.val_main_v3_apply]
  refine Finset.sum_congr rfl fun k _ => congrArg₂ (· * ·) (congrArg d ?_) (congrArg w ?_) <;>
    funext a <;> fin_cases a <;> rfl

theorem frame_reference : Cert.quiescent_UqDxReferenceIdeal (hUqDxReferenceIdeal := Cert.UqDxReferenceIdeal.Gen.facts) := fun m ρ _ =>
  (θ_run _ _ _).mono (fun r h => ⟨fun c => (h c).2, sem_eq_zero_of_no_sems (by decide) r.2⟩) (Cert.UqDxReferenceIdeal.Value.run (F := Ideal) m ρ)

/-- The kernel and the reference end with the same gradient. -/
theorem value : Cert.algebraic_UqDxIdeal_UqDxReferenceIdeal (hUqDxIdeal := Cert.UqDxIdeal.Gen.facts)
    (hUqDxReferenceIdeal := Cert.UqDxReferenceIdeal.Gen.facts) := by
  intro m ρ m' ρ' _ hag
  refine ⟨_, (θ_run _ _ _).mono (fun r h c => ⟨(h c).1.trans (array_eq m c), (h c).2⟩) (Cert.UqDxIdeal.Value.run_blocks m ρ),
    (θ_run _ _ _).mono (fun r h c => ⟨(h c).1.trans ?_, (h c).2⟩) (Cert.UqDxReferenceIdeal.Value.run (F := Ideal) m' ρ')⟩
  obtain ⟨a0, a1, a2⟩ := hag c
  rw [a1, a2]
  exact reference_eq _ _

end Cert.UqDxValue

end
-- ==== Proof.UkvFwd.lean ====
/- The keys (or values) from their compressed form: every block of the kernel's array is a product over whole rows and columns. -/
module

public import proofs.«01_k».proof.Defs
public import proofs.«01_k».proof.Proof.Gen.UkvFwd
public import proofs.«01_k».proof.Proof.Gen.UkvFwd.Frame
public import proofs.«01_k».proof.Proof.Gen.UkvFwdIdeal
public import proofs.«01_k».proof.Proof.Gen.UkvFwdIdeal.Frame
public import proofs.«01_k».proof.Proof.Gen.UkvFwdIdeal.Value
public import proofs.«01_k».proof.Proof.Gen.UkvFwdReferenceIdeal
public import proofs.«01_k».proof.Proof.Gen.UkvFwdReferenceIdeal.Run
public import proofs.«01_k».proof.Proof.Gen.UkvFwdReferenceIdeal.Read
public import proofs.«01_k».proof.Proof.Products

@[expose] public section

set_option maxRecDepth 16256

noncomputable section

namespace Cert.UkvFwdValue

open Cert.UkvFwdIdeal Cert.UkvFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x256 .bf16) (w : FVec Ideal S256x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_h : V m c main_v0 = (m ((c : Thread nD τ).loc main_arg0) : FVec Ideal S8192x256 .f32) := by
  show StableHlo.after hostOps0 (fun b => m (c, b)) main_v0 = _
  after_results; rfl
theorem V_w : V m c main_v1 = (m ((c : Thread nD τ).loc main_arg1) : FVec Ideal S256x1024 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x256 .f32) (w : FVec Ideal S256x1024 .f32) :
    Cert.UkvFwdReferenceIdeal.Read.val_main_v1 (F := Ideal) h w = prodNN h w := by
  funext i
  rw [Cert.UkvFwdReferenceIdeal.Read.val_main_v1_apply, Cert.UkvFwdReferenceIdeal.Read.val_main_v0_apply]
  refine Finset.sum_congr rfl fun k _ => congrArg₂ (· * ·) (congrArg h ?_) (congrArg w ?_) <;>
    funext a <;> fin_cases a <;> rfl

theorem frame_reference : Cert.quiescent_UkvFwdReferenceIdeal (hUkvFwdReferenceIdeal := Cert.UkvFwdReferenceIdeal.Gen.facts) := fun m ρ _ =>
  (θ_run _ _ _).mono (fun r h => ⟨fun c => (h c).2, sem_eq_zero_of_no_sems (by decide) r.2⟩) (Cert.UkvFwdReferenceIdeal.Value.run (F := Ideal) m ρ)

/-- The kernel and the reference end with the same rows. -/
theorem value : Cert.algebraic_UkvFwdIdeal_UkvFwdReferenceIdeal (hUkvFwdIdeal := Cert.UkvFwdIdeal.Gen.facts)
    (hUkvFwdReferenceIdeal := Cert.UkvFwdReferenceIdeal.Gen.facts) := by
  intro m ρ m' ρ' _ hag
  refine ⟨_, (θ_run _ _ _).mono (fun r h c => ⟨(h c).1.trans (array_eq m c), (h c).2⟩) (Cert.UkvFwdIdeal.Value.run_blocks m ρ),
    (θ_run _ _ _).mono (fun r h c => ⟨(h c).1.trans ?_, (h c).2⟩) (Cert.UkvFwdReferenceIdeal.Value.run (F := Ideal) m' ρ')⟩
  obtain ⟨a0, a1⟩ := hag c
  rw [a0, a1]
  exact reference_eq _ _

end Cert.UkvFwdValue

end
-- ==== Proof.UkvDw.lean ====
/- The gradient of the weight of the keys (or values): the product that the reference computes, 1024 rows at a time. -/
module

public import proofs.«01_k».proof.Defs
public import proofs.«01_k».proof.Proof.Gen.UkvDw
public import proofs.«01_k».proof.Proof.Gen.UkvDw.Frame
public import proofs.«01_k».proof.Proof.Gen.UkvDwIdeal
public import proofs.«01_k».proof.Proof.Gen.UkvDwIdeal.Frame
public import proofs.«01_k».proof.Proof.Gen.UkvDwIdeal.Value
public import proofs.«01_k».proof.Proof.Gen.UkvDwReferenceIdeal
public import proofs.«01_k».proof.Proof.Gen.UkvDwReferenceIdeal.Run
public import proofs.«01_k».proof.Proof.Gen.UkvDwReferenceIdeal.Read
public import proofs.«01_k».proof.Proof.Products

@[expose] public section

set_option maxRecDepth 16384

noncomputable section

namespace Cert.UkvDwValue

open Cert.UkvDwIdeal Cert.UkvDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x256 .bf16) (w : FVec Ideal S1024x1024 .bf16) (y : S256x1024.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S256x1024.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x256 .f32) := by
  show StableHlo.after hostOps0 (fun b => m (c, b)) main_v0 = _
  after_results; rfl
theorem V_d : V m c main_v1 = (m ((c : Thread nD τ).loc main_arg2) : FVec Ideal S8192x1024 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x256 .f32) (d : FVec Ideal S8192x1024 .f32) :
    Cert.UkvDwReferenceIdeal.Read.val_main_v2 (F := Ideal) x d = prodTN x d := by
  funext i
  rw [Cert.UkvDwReferenceIdeal.Read.val_main_v2_apply, Cert.UkvDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_UkvDwReferenceIdeal (hUkvDwReferenceIdeal := Cert.UkvDwReferenceIdeal.Gen.facts) := fun m ρ _ =>
  (θ_run _ _ _).mono (fun r h => ⟨fun c => (h c).2, sem_eq_zero_of_no_sems (by decide) r.2⟩) (Cert.UkvDwReferenceIdeal.Value.run (F := Ideal) m ρ)

/-- The kernel and the reference end with the same gradient. -/
theorem value : Cert.algebraic_UkvDwIdeal_UkvDwReferenceIdeal (hUkvDwIdeal := Cert.UkvDwIdeal.Gen.facts)
    (hUkvDwReferenceIdeal := Cert.UkvDwReferenceIdeal.Gen.facts) := by
  intro m ρ m' ρ' _ hag
  refine ⟨_, (θ_run _ _ _).mono (fun r h c => ⟨(h c).1.trans (array_eq m c), (h c).2⟩) (Cert.UkvDwIdeal.Value.run_blocks m ρ),
    (θ_run _ _ _).mono (fun r h c => ⟨(h c).1.trans ?_, (h c).2⟩) (Cert.UkvDwReferenceIdeal.Value.run (F := Ideal) m' ρ')⟩
  obtain ⟨a0, a1, a2⟩ := hag c
  rw [a0, a2]
  exact reference_eq _ _

end Cert.UkvDwValue

end
-- ==== Proof.UkvDx.lean ====
/- The gradient of the compressed keys and values from the keys: every block of the kernel's array is a product over whole rows. -/
module

public import proofs.«01_k».proof.Defs
public import proofs.«01_k».proof.Proof.Gen.UkvDx
public import proofs.«01_k».proof.Proof.Gen.UkvDx.Frame
public import proofs.«01_k».proof.Proof.Gen.UkvDxIdeal
public import proofs.«01_k».proof.Proof.Gen.UkvDxIdeal.Frame
public import proofs.«01_k».proof.Proof.Gen.UkvDxIdeal.Value
public import proofs.«01_k».proof.Proof.Gen.UkvDxReferenceIdeal
public import proofs.«01_k».proof.Proof.Gen.UkvDxReferenceIdeal.Run
public import proofs.«01_k».proof.Proof.Gen.UkvDxReferenceIdeal.Read
public import proofs.«01_k».proof.Proof.Products

@[expose] public section

set_option maxRecDepth 16256

noncomputable section

namespace Cert.UkvDxValue

open Cert.UkvDxIdeal Cert.UkvDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S256x1024 .bf16) (y : S1024x256.Idx) :
    k0_pay1 (F := Ideal) x w y = prodNT x w y := by
  unfold k0_pay1 prodNT
  simp only [pointwise, zero_add]

theorem out_eq (t : Fin cfg0.N) (y : S1024x256.Idx) : out0_2 (iblk m c 0 t) (iblk m c 1 t) y = prodNT (iblk m c 0 t) (iblk m c 1 t) y := by
  frame_out
  exact pay1_apply _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S256x1024 .f32) := by
  show StableHlo.after hostOps0 (fun b => m (c, b)) main_v1 = _
  after_results; rfl

/-- The result array is the whole product. -/
theorem array_eq : (dats m 0 c).arrAt 2 cfg0.N
    = prodNT (m ((c : Thread nD τ).loc main_arg2)) (m ((c : Thread nD τ).loc main_arg1)) := by
  refine (dats m 0 c).arrAt_eq_of_covers 2 _ (by decide +kernel) fun t hf y => ?_
  blk_simp
  rw [after0_2, out_eq m c t y]
  refine prodNT_block _ _ _ y _ _ (fun a => ?_) (fun a => ?_) <;> blk_simp [iblk, V_d, V_w] <;>
    refine congrArg _ ?_ <;> blk_ext [ix_d, ix_w, ix_o]

theorem reference_eq (w : FVec Ideal S256x1024 .f32) (d : FVec Ideal S8192x1024 .f32) :
    Cert.UkvDxReferenceIdeal.Read.val_main_v3 (F := Ideal) w d = prodNT d w := by
  funext i
  rw [Cert.UkvDxReferenceIdeal.Read.val_main_v3_apply]
  refine Finset.sum_congr rfl fun k _ => congrArg₂ (· * ·) (congrArg d ?_) (congrArg w ?_) <;>
    funext a <;> fin_cases a <;> rfl

theorem frame_reference : Cert.quiescent_UkvDxReferenceIdeal (hUkvDxReferenceIdeal := Cert.UkvDxReferenceIdeal.Gen.facts) := fun m ρ _ =>
  (θ_run _ _ _).mono (fun r h => ⟨fun c => (h c).2, sem_eq_zero_of_no_sems (by decide) r.2⟩) (Cert.UkvDxReferenceIdeal.Value.run (F := Ideal) m ρ)

/-- The kernel and the reference end with the same gradient. -/
theorem value : Cert.algebraic_UkvDxIdeal_UkvDxReferenceIdeal (hUkvDxIdeal := Cert.UkvDxIdeal.Gen.facts)
    (hUkvDxReferenceIdeal := Cert.UkvDxReferenceIdeal.Gen.facts) := by
  intro m ρ m' ρ' _ hag
  refine ⟨_, (θ_run _ _ _).mono (fun r h c => ⟨(h c).1.trans (array_eq m c), (h c).2⟩) (Cert.UkvDxIdeal.Value.run_blocks m ρ),
    (θ_run _ _ _).mono (fun r h c => ⟨(h c).1.trans ?_, (h c).2⟩) (Cert.UkvDxReferenceIdeal.Value.run (F := Ideal) m' ρ')⟩
  obtain ⟨a0, a1, a2⟩ := hag c
  rw [a1, a2]
  exact reference_eq _ _

end Cert.UkvDxValue

end
-- ==== Proof.UkvDxAdd.lean ====
/- The gradient of the compressed keys and values from the values, added to that from the keys: products over whole rows. -/
module

public import proofs.«01_k».proof.Defs
public import proofs.«01_k».proof.Proof.Gen.UkvDxAdd
public import proofs.«01_k».proof.Proof.Gen.UkvDxAdd.Frame
public import proofs.«01_k».proof.Proof.Gen.UkvDxAddIdeal
public import proofs.«01_k».proof.Proof.Gen.UkvDxAddIdeal.Frame
public import proofs.«01_k».proof.Proof.Gen.UkvDxAddIdeal.Value
public import proofs.«01_k».proof.Proof.Gen.UkvDxAddReferenceIdeal
public import proofs.«01_k».proof.Proof.Gen.UkvDxAddReferenceIdeal.Run
public import proofs.«01_k».proof.Proof.Gen.UkvDxAddReferenceIdeal.Read
public import proofs.«01_k».proof.Proof.Products

@[expose] public section

set_option maxRecDepth 16384

noncomputable section

namespace Cert.UkvDxAddValue

open Cert.UkvDxAddIdeal Cert.UkvDxAddIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S256x1024 .bf16) (r : FVec Ideal S1024x256 .f32) (y : S1024x256.Idx) :
    k0_pay1 (F := Ideal) x w r y = plus r (prodNT x w) y := by
  unfold k0_pay1 plus prodNT
  simp only [pointwise, zero_add]
  exact add_comm _ _

theorem out_eq (t : Fin cfg0.N) (y : S1024x256.Idx) : out0_3 (iblk m c 0 t) (iblk m c 1 t) (iblk m c 2 t) y
    = plus (iblk m c 2 t) (prodNT (iblk m c 0 t) (iblk m c 1 t)) y := by
  frame_out
  exact pay1_apply _ _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S256x1024 .f32) := by
  show StableHlo.after hostOps0 (fun b => m (c, b)) main_v1 = _
  after_results; rfl

theorem V_r : V m c main_arg3 = (m ((c : Thread nD τ).loc main_arg3) : FVec Ideal S8192x256 .f32) := by
  show StableHlo.after hostOps0 (fun b => m (c, b)) main_arg3 = _
  after_results

/-- The result array is the given array and the whole product. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNT_block _ _ _ y _ _ (fun a => ?_) (fun a => ?_)) <;> blk_simp [iblk, V_d, V_w, V_r] <;>
    refine congrArg _ ?_ <;> blk_ext [ix_d, ix_w, ix_r, ix_o]

theorem reference_eq (w : FVec Ideal S256x1024 .f32) (d : FVec Ideal S8192x1024 .f32) (r : FVec Ideal S8192x256 .f32) :
    Cert.UkvDxAddReferenceIdeal.Read.val_main_v4 (F := Ideal) w d r = plus r (prodNT d w) := by
  funext i
  rw [Cert.UkvDxAddReferenceIdeal.Read.val_main_v4_apply, Cert.UkvDxAddReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_UkvDxAddReferenceIdeal (hUkvDxAddReferenceIdeal := Cert.UkvDxAddReferenceIdeal.Gen.facts) := fun m ρ _ =>
  (θ_run _ _ _).mono (fun r h => ⟨fun c => (h c).2, sem_eq_zero_of_no_sems (by decide) r.2⟩) (Cert.UkvDxAddReferenceIdeal.Value.run (F := Ideal) m ρ)

/-- The kernel and the reference end with the same gradient. -/
theorem value : Cert.algebraic_UkvDxAddIdeal_UkvDxAddReferenceIdeal (hUkvDxAddIdeal := Cert.UkvDxAddIdeal.Gen.facts)
    (hUkvDxAddReferenceIdeal := Cert.UkvDxAddReferenceIdeal.Gen.facts) := by
  intro m ρ m' ρ' _ hag
  refine ⟨_, (θ_run _ _ _).mono (fun r h c => ⟨(h c).1.trans (array_eq m c), (h c).2⟩) (Cert.UkvDxAddIdeal.Value.run_blocks m ρ),
    (θ_run _ _ _).mono (fun r h c => ⟨(h c).1.trans ?_, (h c).2⟩) (Cert.UkvDxAddReferenceIdeal.Value.run (F := Ideal) m' ρ')⟩
  obtain ⟨a0, a1, a2, a3⟩ := hag c
  rw [a1, a2, a3]
  exact reference_eq _ _ _

end Cert.UkvDxAddValue

end
-- ==== Proof.Gates.lean ====
/- The gates of the two mixers: their two halves, and the gated sum of the mixers' results with its gradients, element by element. -/
module

public import proofs.«01_k».proof.Proof.Products

@[expose] public section

noncomputable section

namespace Cert.Gates

open Idealize.ShloMosaic Cert.Products

variable {M : ℕ}

/-- The first half of the gates' columns. -/
def left (g : Mat M 2048) : Mat M 1024 := fun i => g (ix2 (i 0) ⟨(i 1).val, lt_trans (show (i 1).val < 1024 from (i 1).isLt) (by decide)⟩)
/-- The second half of the gates' columns. -/
def right (g : Mat M 2048) : Mat M 1024 := fun i => g (ix2 (i 0) ⟨1024 + (i 1).val, Nat.add_lt_add_left (show (i 1).val < 1024 from (i 1).isLt) 1024⟩)

/-- Two values added, each under its gate. -/
def mix (a b x y : EReal) : EReal := Ideal.logistic a * x + Ideal.logistic b * y
/-- The gradient of a value under the gate `a`. -/
def dValue (a d : EReal) : EReal := Ideal.logistic a * d
/-- The gradient of the gate `a` of the value `x`. -/
def dGate (a d x : EReal) : EReal := d * x * (Ideal.logistic a * (1 - Ideal.logistic a))

end Cert.Gates

end
-- ==== Proof.MergeFwd.lean ====
/- The merge of the two mixers: both output projections and their gated sum, by rows of 1024. -/
module

public import proofs.«01_k».proof.Defs
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gates

@[expose] public section

set_option maxRecDepth 16384

noncomputable section

namespace Cert.MergeFwdValue

open Cert.MergeFwdIdeal Cert.MergeFwdIdeal.Gen Cert.Products Cert.Gates Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x1024 .bf16) (y : S1024x1024.Idx) : k0_pay1 (F := Ideal) x w y = prodNN x w y := by
  unfold k0_pay1 prodNN
  simp only [pointwise, zero_add]

theorem pay2_apply (x w : FVec Ideal S1024x1024 .bf16) (y : S1024x1024.Idx) : k0_pay2 (F := Ideal) x w y = prodNN x w y := by
  unfold k0_pay2 prodNN
  simp only [pointwise, zero_add]

theorem pay3_apply (x w : FVec Ideal S1024x1024 .bf16) (y : S1024x1024.Idx) : k0_pay3 (F := Ideal) x w y = prodNN x w y :=
  pay1_apply x w y

theorem pay4_apply (x w : FVec Ideal S1024x1024 .bf16) (y : S1024x1024.Idx) : k0_pay4 (F := Ideal) x w y = prodNN x w y :=
  pay2_apply x w y

theorem pay5_apply (xa xb a b wa wb : FVec Ideal S1024x1024 .bf16) (y : S1024x1024.Idx) :
    k0_pay5 (F := Ideal) xa xb a b wa wb y = mix (a y) (b y) (prodNN xa wa y) (prodNN xb wb y) := by
  unfold k0_pay5 mix
  simp only [pointwise, pay1_apply, pay2_apply]

theorem out6_eq (t : Fin cfg0.N) (y : S1024x1024.Idx) : out0_6 (iblk m c 0 t) (iblk m c 1 t) (iblk m c 2 t) (iblk m c 3 t) (iblk m c 4 t) (iblk m c 5 t) y
    = prodNN (iblk m c 0 t) (iblk m c 4 t) y := by
  frame_out
  exact pay3_apply _ _ y

theorem out7_eq (t : Fin cfg0.N) (y : S1024x1024.Idx) : out0_7 (iblk m c 0 t) (iblk m c 1 t) (iblk m c 2 t) (iblk m c 3 t) (iblk m c 4 t) (iblk m c 5 t) y
    = prodNN (iblk m c 1 t) (iblk m c 5 t) y := by
  frame_out
  exact pay4_apply _ _ y

theorem out8_eq (t : Fin cfg0.N) (y : S1024x1024.Idx) : out0_8 (iblk m c 0 t) (iblk m c 1 t) (iblk m c 2 t) (iblk m c 3 t) (iblk m c 4 t) (iblk m c 5 t) y
    = mix (iblk m c 2 t y) (iblk m c 3 t y) (prodNN (iblk m c 0 t) (iblk m c 4 t) y) (prodNN (iblk m c 1 t) (iblk m c 5 t) y) := by
  frame_out
  exact pay5_apply _ _ _ _ _ _ y

theorem ix_xa : ∀ t : Fin cfg0.N, win0_0.index t = ![t.val, 0] := (by decide +kernel : ∀ t : Fin grid0.N, _)
theorem ix_xb : ∀ t : Fin cfg0.N, win0_1.index t = ![t.val, 0] := (by decide +kernel : ∀ t : Fin grid0.N, _)
theorem ix_a : ∀ t : Fin cfg0.N, win0_2.index t = ![t.val, 0] := (by decide +kernel : ∀ t : Fin grid0.N, _)
theorem ix_b : ∀ t : Fin cfg0.N, win0_3.index t = ![t.val, 1] := (by decide +kernel : ∀ t : Fin grid0.N, _)
theorem ix_wa : ∀ t : Fin cfg0.N, win0_4.index t = ![0, 0] := (by decide +kernel : ∀ t : Fin grid0.N, _)
theorem ix_wb : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)

theorem V_xa : V m c main_v1 = (m ((c : Thread nD τ).loc main_arg0) : FVec Ideal S8192x1024 .f32) := by
  show StableHlo.after hostOps0 (fun b => m (c, b)) main_v1 = _
  after_results; rfl
theorem V_xb : V m c main_v2 = (m ((c : Thread nD τ).loc main_arg1) : FVec Ideal S8192x1024 .f32) := by
  show StableHlo.after hostOps0 (fun b => m (c, b)) main_v2 = _
  after_results; rfl
theorem V_g : V m c main_v0 = (m ((c : Thread nD τ).loc main_arg2) : FVec Ideal S8192x2048 .f32) := by
  show StableHlo.after hostOps0 (fun b => m (c, b)) main_v0 = _
  after_results; rfl
theorem V_wa : V m c main_v3 = (m ((c : Thread nD τ).loc main_arg3) : FVec Ideal S1024x1024 .f32) := by
  show StableHlo.after hostOps0 (fun b => m (c, b)) main_v3 = _
  after_results; rfl
theorem V_wb : V m c main_v4 = (m ((c : Thread nD τ).loc main_arg4) : FVec Ideal S1024x1024 .f32) := by
  show StableHlo.after hostOps0 (fun b => m (c, b)) main_v4 = _
  after_results; rfl

/-- The gated sum of the two products. -/
def merged (xa xb : Mat 8192 1024) (g : Mat 8192 2048) (wa wb : Mat 1024 1024) : Mat 8192 1024 :=
  fun i => mix (left g i) (right g i) (prodNN xa wa i) (prodNN xb wb i)

theorem array6_eq : (dats m 0 c).arrAt 6 cfg0.N
    = prodNN (m ((c : Thread nD τ).loc main_arg0)) (m ((c : Thread nD τ).loc main_arg3)) := by
  refine (dats m 0 c).arrAt_eq_of_covers 6 _ (by decide +kernel) fun t hf y => ?_
  blk_simp
  rw [after0_6, out6_eq m c t y]
  refine prodNN_block _ _ _ y _ _ (fun a => ?_) (fun a => ?_) <;> blk_simp [iblk, V_xa, V_wa] <;>
    refine congrArg _ ?_ <;> blk_ext [ix_xa, ix_wa, ix_6]

theorem array7_eq : (dats m 0 c).arrAt 7 cfg0.N
    = prodNN (m ((c : Thread nD τ).loc main_arg1)) (m ((c : Thread nD τ).loc main_arg4)) := by
  refine (dats m 0 c).arrAt_eq_of_covers 7 _ (by decide +kernel) fun t hf y => ?_
  blk_simp
  rw [after0_7, out7_eq m c t y]
  refine prodNN_block _ _ _ y _ _ (fun a => ?_) (fun a => ?_) <;> blk_simp [iblk, V_xb, V_wb] <;>
    refine congrArg _ ?_ <;> blk_ext [ix_xb, ix_wb, ix_7]

theorem array8_eq : (dats m 0 c).arrAt 8 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  blk_simp
  rw [after0_8, out8_eq m c t y]
  refine congr (congr (congr (congrArg mix ?_) ?_) (prodNN_block _ _ _ y _ _ (fun a => ?_) (fun a => ?_)))
    (prodNN_block _ _ _ y _ _ (fun a => ?_) (fun a => ?_))
  · unfold left
    blk_simp [iblk, V_g]
    refine congrArg _ ?_
    blk_ext [ix_a, ix_8]
  · unfold right
    blk_simp [iblk, V_g]
    refine congrArg _ ?_
    blk_ext [ix_b, ix_8]
  all_goals
    blk_simp [iblk, V_xa, V_wa, V_xb, V_wb]
    refine congrArg _ ?_
    blk_ext [ix_xa, ix_wa, ix_xb, ix_wb, ix_8]

section
open Cert.MergeFwdReferenceIdeal.Read
theorem reference4_eq (x : FVec Ideal S8192x1024 .f32) (w : FVec Ideal S1024x1024 .f32) : val_main_v4 (F := Ideal) x w = prodNN x w := by
  funext i
  rw [val_main_v4_apply, val_main_v0_apply]
  refine Finset.sum_congr rfl fun k _ => congrArg₂ (· * ·) (congrArg x ?_) (congrArg w ?_) <;>
    funext a <;> fin_cases a <;> rfl

theorem reference5_eq (x : FVec Ideal S8192x1024 .f32) (w : FVec Ideal S1024x1024 .f32) : val_main_v5 (F := Ideal) x w = prodNN x w := by
  funext i
  rw [val_main_v5_apply, val_main_v1_apply]
  refine Finset.sum_congr rfl fun k _ => congrArg₂ (· * ·) (congrArg x ?_) (congrArg w ?_) <;>
    funext a <;> fin_cases a <;> rfl

theorem gateA_eq (g : FVec Ideal S8192x2048 .f32) (i : S8192x1024.Idx) : val_main_v11 (F := Ideal) g i = Ideal.logistic (left g i) := by
  rw [val_main_v11_apply, val_main_v10_apply, val_main_cst_0_apply, val_main_v9_apply, val_main_v8_apply, val_main_cst_apply,
    val_main_v7_apply, val_main_v6_apply, val_main_v2_apply]
  simp only [pointwise, Ideal.ofBits_def, Ideal.ofBits_one_f32]
  refine congrArg (fun z => Ideal.logistic (g z)) ?_
  funext a; fin_cases a <;> rfl

theorem gateB_eq (g : FVec Ideal S8192x2048 .f32) (i : S8192x1024.Idx) : val_main_v18 (F := Ideal) g i = Ideal.logistic (right g i) := by
  rw [val_main_v18_apply, val_main_v17_apply, val_main_cst_2_apply, val_main_v16_apply, val_main_v15_apply, val_main_cst_1_apply,
    val_main_v14_apply, val_main_v13_apply, val_main_v3_apply]
  simp only [pointwise, Ideal.ofBits_def, Ideal.ofBits_one_f32]
  refine congrArg (fun z => Ideal.logistic (g z)) ?_
  funext a; fin_cases a <;> rfl

theorem reference21_eq (xa xb : FVec Ideal S8192x1024 .f32) (g : FVec Ideal S8192x2048 .f32) (wa wb : FVec Ideal S1024x1024 .f32) :
    val_main_v21 (F := Ideal) xa xb g wa wb = merged xa xb g wa wb := by
  funext i
  rw [val_main_v21_apply, val_main_v20_apply, val_main_v12_apply, val_main_v19_apply, gateA_eq, gateB_eq]
  exact congrArg₂ (fun p q => mix (left g i) (right g i) p q) (congrFun (reference4_eq xa wa) i) (congrFun (reference5_eq xb wb) i)
end

theorem frame_reference : Cert.quiescent_MergeFwdReferenceIdeal (hMergeFwdReferenceIdeal := Cert.MergeFwdReferenceIdeal.Gen.facts) := fun m ρ _ =>
  (θ_run _ _ _).mono (fun r h => ⟨fun c => (h c).2.2.2, sem_eq_zero_of_no_sems (by decide) r.2⟩) (Cert.MergeFwdReferenceIdeal.Value.run (F := Ideal) m ρ)

/-- The kernel and the reference end with the same rows of the two projections and of their merge. -/
theorem value : Cert.algebraic_MergeFwdIdeal_MergeFwdReferenceIdeal (hMergeFwdIdeal := Cert.MergeFwdIdeal.Gen.facts)
    (hMergeFwdReferenceIdeal := Cert.MergeFwdReferenceIdeal.Gen.facts) := by
  intro m ρ m' ρ' _ hag
  refine ⟨_, _, _, (θ_run _ _ _).mono (fun r h c => ⟨(h c).1.trans (array6_eq m c), (h c).2.1.trans (array7_eq m c), (h c).2.2.1.trans (array8_eq m c), (h c).2.2.2⟩)
      (Cert.MergeFwdIdeal.Value.run_blocks m ρ),
    (θ_run _ _ _).mono (fun r h c => ⟨(h c).1.trans ?_, (h c).2.1.trans ?_, (h c).2.2.1.trans ((Cert.MergeFwdReferenceIdeal.Read.val_main_v21_eq _ _ _ _ _).trans ?_), (h c).2.2.2⟩)
      (Cert.MergeFwdReferenceIdeal.Value.run (F := Ideal) m' ρ')⟩
  · obtain ⟨a0, a1, a2, a3, a4⟩ := hag c
    rw [a0, a3]
    exact reference4_eq _ _
  · obtain ⟨a0, a1, a2, a3, a4⟩ := hag c
    rw [a1, a4]
    exact reference5_eq _ _
  · obtain ⟨a0, a1, a2, a3, a4⟩ := hag c
    rw [a0, a1, a2, a3, a4]
    exact reference21_eq _ _ _ _ _

end Cert.MergeFwdValue

end
-- ==== Proof.MergeBwd.lean ====
/- The gradients of the merge of the two mixers: those of both values and of both gates, by rows of 1024. -/
module

public import proofs.«01_k».proof.Defs
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdReferenceIdeal
public import proofs.«01_k».proof.Proof.Gen.MergeBwdReferenceIdeal.Run
public import proofs.«01_k».proof.Proof.Gen.MergeBwdReferenceIdeal.Read
public import proofs.«01_k».proof.Proof.Gates

@[expose] public section

set_option maxRecDepth 16384

noncomputable section

namespace Cert.MergeBwdValue

open Cert.MergeBwdIdeal Cert.MergeBwdIdeal.Gen Cert.Products Cert.Gates Idealize.ShloMosaic Idealize.ShloMosaic.TcCoe Idealize.SL.Sem

variable (m : (ℓ : Loc nD τ sig) → Buf (Elt Ideal) ℓ) (ρ : Dev nD → PrngReg) (c : Dev nD)

theorem pay6_apply (d a : FVec Ideal S1024x1024 .bf16) (y : S1024x1024.Idx) : k0_pay6 (F := Ideal) d a y = dValue (a y) (d y) := by
  unfold k0_pay6 k0_pay1 k0_pay3 dValue
  simp only [pointwise]

theorem pay7_apply (d b : FVec Ideal S1024x1024 .bf16) (y : S1024x1024.Idx) : k0_pay7 (F := Ideal) d b y = dValue (b y) (d y) := by
  unfold k0_pay7 k0_pay2 k0_pay3 dValue
  simp only [pointwise]

theorem pay5_apply (d x a : FVec Ideal S1024x1024 .bf16) (y : S1024x1024.Idx) : k0_pay5 (F := Ideal) d x a y = dGate (a y) (d y) (x y) := by
  unfold k0_pay5 k0_pay1 k0_pay3 dGate
  simp only [pointwise, Ideal.ofBits_def, Ideal.ofBits_one_f32]

theorem pay4_apply (d x b : FVec Ideal S1024x1024 .bf16) (y : S1024x1024.Idx) : k0_pay4 (F := Ideal) d x b y = dGate (b y) (d y) (x y) := by
  unfold k0_pay4 k0_pay2 k0_pay3 dGate
  simp only [pointwise, Ideal.ofBits_def, Ideal.ofBits_one_f32]

theorem out5_eq (t : Fin cfg0.N) (y : S1024x1024.Idx) : out0_5 (iblk m c 0 t) (iblk m c 1 t) (iblk m c 2 t) (iblk m c 3 t) (iblk m c 4 t) y
    = dValue (iblk m c 3 t y) (iblk m c 0 t y) := by
  frame_out
  exact pay6_apply _ _ y

theorem out6_eq (t : Fin cfg0.N) (y : S1024x1024.Idx) : out0_6 (iblk m c 0 t) (iblk m c 1 t) (iblk m c 2 t) (iblk m c 3 t) (iblk m c 4 t) y
    = dValue (iblk m c 4 t y) (iblk m c 0 t y) := by
  frame_out
  exact pay7_apply _ _ y

theorem out7_eq (t : Fin cfg0.N) (y : S1024x1024.Idx) : out0_7 (iblk m c 0 t) (iblk m c 1 t) (iblk m c 2 t) (iblk m c 3 t) (iblk m c 4 t) y
    = dGate (iblk m c 3 t y) (iblk m c 0 t y) (iblk m c 1 t y) := by
  frame_out
  exact pay5_apply _ _ _ y

theorem out8_eq (t : Fin cfg0.N) (y : S1024x1024.Idx) : out0_8 (iblk m c 0 t) (iblk m c 1 t) (iblk m c 2 t) (iblk m c 3 t) (iblk m c 4 t) y
    = dGate (iblk m c 4 t y) (iblk m c 0 t y) (iblk m c 2 t y) := by
  frame_out
  exact pay4_apply _ _ _ y

theorem ix_d : ∀ t : Fin cfg0.N, win0_0.index t = ![t.val, 0] := (by decide +kernel : ∀ t : Fin grid0.N, _)
theorem ix_xa : ∀ t : Fin cfg0.N, win0_1.index t = ![t.val, 0] := (by decide +kernel : ∀ t : Fin grid0.N, _)
theorem ix_xb : ∀ t : Fin cfg0.N, win0_2.index t = ![t.val, 0] := (by decide +kernel : ∀ t : Fin grid0.N, _)
theorem ix_a : ∀ t : Fin cfg0.N, win0_3.index t = ![t.val, 0] := (by decide +kernel : ∀ t : Fin grid0.N, _)
theorem ix_b : ∀ t : Fin cfg0.N, win0_4.index t = ![t.val, 1] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)

theorem V_xa : V m c main_v2 = (m ((c : Thread nD τ).loc main_arg0) : FVec Ideal S8192x1024 .f32) := by
  show StableHlo.after hostOps0 (fun b => m (c, b)) main_v2 = _
  after_results; rfl
theorem V_xb : V m c main_v3 = (m ((c : Thread nD τ).loc main_arg1) : FVec Ideal S8192x1024 .f32) := by
  show StableHlo.after hostOps0 (fun b => m (c, b)) main_v3 = _
  after_results; rfl
theorem V_g : V m c main_v0 = (m ((c : Thread nD τ).loc main_arg2) : FVec Ideal S8192x2048 .f32) := by
  show StableHlo.after hostOps0 (fun b => m (c, b)) main_v0 = _
  after_results; rfl
theorem V_d : V m c main_v1 = (m ((c : Thread nD τ).loc main_arg3) : FVec Ideal S8192x1024 .f32) := by
  show StableHlo.after hostOps0 (fun b => m (c, b)) main_v1 = _
  after_results; rfl

theorem array5_eq : (dats m 0 c).arrAt 5 cfg0.N
    = fun i => dValue (left (m ((c : Thread nD τ).loc main_arg2)) i) (m ((c : Thread nD τ).loc main_arg3) i) := by
  refine (dats m 0 c).arrAt_eq_of_covers 5 _ (by decide +kernel) fun t hf y => ?_
  blk_simp
  rw [after0_5, out5_eq m c t y]
  unfold left
  refine congrArg₂ dValue ?_ ?_ <;> blk_simp [iblk, V_g, V_d] <;> refine congrArg _ ?_ <;> blk_ext [ix_a, ix_d, ix_5]

theorem array6_eq : (dats m 0 c).arrAt 6 cfg0.N
    = fun i => dValue (right (m ((c : Thread nD τ).loc main_arg2)) i) (m ((c : Thread nD τ).loc main_arg3) i) := by
  refine (dats m 0 c).arrAt_eq_of_covers 6 _ (by decide +kernel) fun t hf y => ?_
  blk_simp
  rw [after0_6, out6_eq m c t y]
  unfold right
  refine congrArg₂ dValue ?_ ?_ <;> blk_simp [iblk, V_g, V_d] <;> refine congrArg _ ?_ <;> blk_ext [ix_b, ix_d, ix_6]

theorem array7_eq : (dats m 0 c).arrAt 7 cfg0.N
    = fun i => dGate (left (m ((c : Thread nD τ).loc main_arg2)) i) (m ((c : Thread nD τ).loc main_arg3) i) (m ((c : Thread nD τ).loc main_arg0) i) := by
  refine (dats m 0 c).arrAt_eq_of_covers 7 _ (by decide +kernel) fun t hf y => ?_
  blk_simp
  rw [after0_7, out7_eq m c t y]
  unfold left
  refine congr (congrArg₂ dGate ?_ ?_) ?_ <;> blk_simp [iblk, V_g, V_d, V_xa] <;> refine congrArg _ ?_ <;> blk_ext [ix_a, ix_d, ix_xa, ix_7]

theorem array8_eq : (dats m 0 c).arrAt 8 cfg0.N
    = fun i => dGate (right (m ((c : Thread nD τ).loc main_arg2)) i) (m ((c : Thread nD τ).loc main_arg3) i) (m ((c : Thread nD τ).loc main_arg1) i) := by
  refine (dats m 0 c).arrAt_eq_of_covers 8 _ (by decide +kernel) fun t hf y => ?_
  blk_simp
  rw [after0_8, out8_eq m c t y]
  unfold right
  refine congr (congrArg₂ dGate ?_ ?_) ?_ <;> blk_simp [iblk, V_g, V_d, V_xb] <;> refine congrArg _ ?_ <;> blk_ext [ix_b, ix_d, ix_xb, ix_8]

section
open Cert.MergeBwdReferenceIdeal.Read
theorem gateA_eq (g : FVec Ideal S8192x2048 .f32) (i : S8192x1024.Idx) : val_main_v7 (F := Ideal) g i = Ideal.logistic (left g i) := by
  rw [val_main_v7_apply, val_main_v6_apply, val_main_cst_0_apply, val_main_v5_apply, val_main_v4_apply, val_main_cst_apply,
    val_main_v3_apply, val_main_v2_apply, val_main_v0_apply]
  simp only [pointwise, Ideal.ofBits_def, Ideal.ofBits_one_f32]
  refine congrArg (fun z => Ideal.logistic (g z)) ?_
  funext a; fin_cases a <;> rfl

theorem gateB_eq (g : FVec Ideal S8192x2048 .f32) (i : S8192x1024.Idx) : val_main_v17 (F := Ideal) g i = Ideal.logistic (right g i) := by
  rw [val_main_v17_apply, val_main_v16_apply, val_main_cst_3_apply, val_main_v15_apply, val_main_v14_apply, val_main_cst_2_apply,
    val_main_v13_apply, val_main_v12_apply, val_main_v1_apply]
  simp only [pointwise, Ideal.ofBits_def, Ideal.ofBits_one_f32]
  refine congrArg (fun z => Ideal.logistic (g z)) ?_
  funext a; fin_cases a <;> rfl

theorem cotangent23_eq (d : FVec Ideal S8192x1024 .f32) (i : S8192x1024.Idx) : val_main_v23 (F := Ideal) d i = d i := by
  rw [val_main_v23_apply]
  refine congrArg d ?_
  have h1 : (i 1).val < 1024 := (i 1).isLt
  funext a
  refine Fin.ext ?_
  match a with
  | ⟨0, _⟩ => show ((i 0).val * 1024 + (i 1).val) / 1024 = (i 0).val; omega
  | ⟨1, _⟩ => show ((i 0).val * 1024 + (i 1).val) % 1024 = (i 1).val; omega

theorem cotangent24_eq (d : FVec Ideal S8192x1024 .f32) (i : S8192x1024.Idx) : val_main_v24 (F := Ideal) d i = d i :=
  cotangent23_eq d i

theorem reference31_eq (g : FVec Ideal S8192x2048 .f32) (d : FVec Ideal S8192x1024 .f32) :
    val_main_v31 (F := Ideal) g d = fun i => dValue (left g i) (d i) := by
  funext i
  rw [val_main_v31_apply, val_main_v28_apply, gateA_eq, cotangent23_eq]
  rfl

theorem reference32_eq (g : FVec Ideal S8192x2048 .f32) (d : FVec Ideal S8192x1024 .f32) :
    val_main_v32 (F := Ideal) g d = fun i => dValue (right g i) (d i) := by
  funext i
  rw [val_main_v32_apply, val_main_v25_apply, gateB_eq, cotangent24_eq]
  rfl

theorem reference33_eq (x : FVec Ideal S8192x1024 .f32) (g : FVec Ideal S8192x2048 .f32) (d : FVec Ideal S8192x1024 .f32) :
    val_main_v33 (F := Ideal) x g d = fun i => dGate (left g i) (d i) (x i) := by
  funext i
  rw [val_main_v33_apply, val_main_v30_apply, val_main_v29_apply, val_main_v10_apply, val_main_v9_apply, val_main_v8_apply, val_main_cst_1_apply,
    gateA_eq, cotangent23_eq]
  simp only [pointwise, Ideal.ofBits_def, Ideal.ofBits_one_f32]
  rfl

theorem reference34_eq (x : FVec Ideal S8192x1024 .f32) (g : FVec Ideal S8192x2048 .f32) (d : FVec Ideal S8192x1024 .f32) :
    val_main_v34 (F := Ideal) x g d = fun i => dGate (right g i) (d i) (x i) := by
  funext i
  rw [val_main_v34_apply, val_main_v27_apply, val_main_v26_apply, val_main_v20_apply, val_main_v19_apply, val_main_v18_apply, val_main_cst_4_apply,
    gateB_eq, cotangent24_eq]
  simp only [pointwise, Ideal.ofBits_def, Ideal.ofBits_one_f32]
  rfl
end

theorem frame_reference : Cert.quiescent_MergeBwdReferenceIdeal (hMergeBwdReferenceIdeal := Cert.MergeBwdReferenceIdeal.Gen.facts) := fun m ρ _ =>
  (θ_run _ _ _).mono (fun r h => ⟨fun c => (h c).2.2.2.2, sem_eq_zero_of_no_sems (by decide) r.2⟩) (Cert.MergeBwdReferenceIdeal.Value.run (F := Ideal) m ρ)

/-- The kernel and the reference end with the same four gradients. -/
theorem value : Cert.algebraic_MergeBwdIdeal_MergeBwdReferenceIdeal (hMergeBwdIdeal := Cert.MergeBwdIdeal.Gen.facts)
    (hMergeBwdReferenceIdeal := Cert.MergeBwdReferenceIdeal.Gen.facts) := by
  intro m ρ m' ρ' _ hag
  refine ⟨_, _, _, _, (θ_run _ _ _).mono (fun r h c => ⟨(h c).1.trans (array5_eq m c), (h c).2.1.trans (array6_eq m c), (h c).2.2.1.trans (array7_eq m c),
      (h c).2.2.2.1.trans (array8_eq m c), (h c).2.2.2.2⟩) (Cert.MergeBwdIdeal.Value.run_blocks m ρ),
    (θ_run _ _ _).mono (fun r h c => ⟨(h c).1.trans ((Cert.MergeBwdReferenceIdeal.Read.val_main_v31_eq _ _).trans ?_),
      (h c).2.1.trans ((Cert.MergeBwdReferenceIdeal.Read.val_main_v32_eq _ _).trans ?_),
      (h c).2.2.1.trans ((Cert.MergeBwdReferenceIdeal.Read.val_main_v33_eq _ _ _).trans ?_),
      (h c).2.2.2.1.trans ((Cert.MergeBwdReferenceIdeal.Read.val_main_v34_eq _ _ _).trans ?_), (h c).2.2.2.2⟩)
      (Cert.MergeBwdReferenceIdeal.Value.run (F := Ideal) m' ρ')⟩
  · obtain ⟨a0, a1, a2, a3⟩ := hag c
    rw [a2, a3]
    exact reference31_eq _ _
  · obtain ⟨a0, a1, a2, a3⟩ := hag c
    rw [a2, a3]
    exact reference32_eq _ _
  · obtain ⟨a0, a1, a2, a3⟩ := hag c
    rw [a0, a2, a3]
    exact reference33_eq _ _ _
  · obtain ⟨a0, a1, a2, a3⟩ := hag c
    rw [a1, a2, a3]
    exact reference34_eq _ _ _

end Cert.MergeBwdValue

end
-- ==== Proof.NormFwd.lean ====
/- The norm of the rows: each row divided by the root of its mean square and multiplied by the weights, by rows of 1024. -/
module

public import proofs.«01_k».proof.Defs
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormFwdReferenceIdeal.Read
public import proofs.«01_k».proof.Proof.Products

@[expose] public section

set_option maxRecDepth 16384

noncomputable section

namespace Cert.NormFwdValue

open Cert.NormFwdIdeal Cert.NormFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

/-- The sum of the squares of row `r`. -/
def squares {M : ℕ} (x : Mat M 1024) (r : Fin M) : EReal := ∑ k : Fin 1024, x (ix2 r k) * x (ix2 r k)
/-- A value `x` over the root of the mean of the squares `s` and the small constant, times the weight `g`. -/
def scaled (x s g : EReal) : EReal := x * Ideal.rsqrt (Ideal.div s (Ideal.ofBits .f32 0x44800000#32) + Ideal.ofBits .f32 0x358637BD#32) * g

theorem pay1_apply (x : FVec Ideal S1024x1024 .f32) (w : FVec Ideal S1x1024 .f32) (y : S1024x1024.Idx) :
    k0_pay1 (F := Ideal) x w y = scaled (x y) (squares x (y 0)) (w (ix2 0 (y 1))) := by
  unfold k0_pay1 scaled squares
  simp only [pointwise, zero_add, Ideal.ofBits_def]
  rfl

theorem out_eq (t : Fin cfg0.N) (y : S1024x1024.Idx) : out0_2 (iblk m c 0 t) (iblk m c 1 t) y
    = scaled (iblk m c 0 t y) (squares (iblk m c 0 t) (y 0)) (iblk m c 1 t (ix2 0 (y 1))) := by
  frame_out
  exact pay1_apply _ _ y

theorem ix_x : ∀ t : Fin cfg0.N, win0_0.index t = ![t.val, 0] := (by decide +kernel : ∀ t : Fin grid0.N, _)
theorem ix_g : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_x : V m c main_arg0 = (m ((c : Thread nD τ).loc main_arg0) : FVec Ideal S8192x1024 .f32) := by
  show StableHlo.after hostOps0 (fun b => m (c, b)) main_arg0 = _
  after_results
theorem V_g (j : S1x1024.Idx) : V m c main_v0 j = (m ((c : Thread nD τ).loc main_arg1) : FVec Ideal S1024 .f32) (ix1 (j 1)) := by
  have e : V m c main_v0 = shapeCast S1x1024 (m ((c : Thread nD τ).loc main_arg1) : FVec Ideal S1024 .f32) shapeCasts_S1024_S1x1024 := by
    show StableHlo.after hostOps0 (fun b => m (c, b)) main_v0 = _
    after_results; rfl
  rw [e]
  refine shapeCast_apply _ _ j (ix1 (j 1)) ?_
  rw [Shape.rowMajor_val_one, Shape.rowMajor_val_two]
  have h : (j 0).val < 1 := (j 0).isLt
  show (j 1).val = (j 0).val * 1024 + (j 1).val
  omega

/-- The rows over the roots of their mean squares, times the weights. -/
def normed (x : Mat 8192 1024) (g : FVec Ideal S1024 .f32) : Mat 8192 1024 :=
  fun i => scaled (x i) (squares x (i 0)) (g (ix1 (i 1)))

theorem array_eq : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine congr (congrArg₂ scaled ?_ (Finset.sum_congr rfl fun k _ => ?_)) ?_
  · blk_simp [iblk, V_x]
    refine congrArg _ ?_
    blk_ext [ix_x, ix_o]
  · refine congrArg (fun z : EReal => z * z) ?_
    blk_simp [iblk, V_x]
    refine congrArg _ ?_
    blk_ext [ix_x, ix_o]
  · blk_simp [iblk]
    refine (V_g m c _).trans (congrArg (fun k => (m ((c : Thread nD τ).loc main_arg1) : FVec Ideal S1024 .f32) (ix1 k)) ?_)
    refine Fin.ext ?_
    blk_simp [ix_g, ix_o]

theorem reference_eq (x : FVec Ideal S8192x1024 .f32) (g : FVec Ideal S1024 .f32) :
    Cert.NormFwdReferenceIdeal.Read.val_main_v13 (F := Ideal) x g = normed x g := by
  funext i
  open Cert.NormFwdReferenceIdeal.Read in
  rw [val_main_v13_apply, val_main_v12_apply, val_main_v9_apply, val_main_v8_apply, val_main_v7_apply, val_main_v6_apply, val_main_v4_apply,
    val_main_v3_apply, val_main_cst_0_apply, val_main_v5_apply, val_main_cst_1_apply, val_main_v2_apply, val_main_v1_apply, val_main_cst_apply,
    val_main_v11_apply, val_main_v10_apply]
  simp only [pointwise, Ideal.ofBits_def, Ideal.ofBits_zero_f32, zero_add]
  refine congr (congrArg₂ scaled rfl (Finset.sum_congr rfl fun k _ => ?_)) ?_
  · refine congrArg (fun z => x z * x z) ?_
    funext a; fin_cases a <;> rfl
  · refine congrArg g ?_
    funext a; fin_cases a; rfl

theorem frame_reference : Cert.quiescent_NormFwdReferenceIdeal (hNormFwdReferenceIdeal := Cert.NormFwdReferenceIdeal.Gen.facts) := fun m ρ _ =>
  (θ_run _ _ _).mono (fun r h => ⟨fun c => (h c).2, sem_eq_zero_of_no_sems (by decide) r.2⟩) (Cert.NormFwdReferenceIdeal.Value.run (F := Ideal) m ρ)

/-- The kernel and the reference end with the same rows. -/
theorem value : Cert.algebraic_NormFwdIdeal_NormFwdReferenceIdeal (hNormFwdIdeal := Cert.NormFwdIdeal.Gen.facts)
    (hNormFwdReferenceIdeal := Cert.NormFwdReferenceIdeal.Gen.facts) := by
  intro m ρ m' ρ' _ hag
  refine ⟨_, (θ_run _ _ _).mono (fun r h c => ⟨(h c).1.trans (array_eq m c), (h c).2⟩) (Cert.NormFwdIdeal.Value.run_blocks m ρ),
    (θ_run _ _ _).mono (fun r h c => ⟨(h c).1.trans ((Cert.NormFwdReferenceIdeal.Read.val_main_v13_eq _ _).trans ?_), (h c).2⟩)
      (Cert.NormFwdReferenceIdeal.Value.run (F := Ideal) m' ρ')⟩
  obtain ⟨a0, a1⟩ := hag c
  rw [a0, a1]
  exact reference_eq _ _

end Cert.NormFwdValue

end
-- ==== Proof.AbFwd.lean ====
/- The projection to the delta rule's decays and step sizes: products over whole rows and columns. -/
module

public import proofs.«01_k».proof.Defs
public import proofs.«01_k».proof.Proof.Gen.AbFwd
public import proofs.«01_k».proof.Proof.Gen.AbFwd.Frame
public import proofs.«01_k».proof.Proof.Gen.AbFwdIdeal
public import proofs.«01_k».proof.Proof.Gen.AbFwdIdeal.Frame
public import proofs.«01_k».proof.Proof.Gen.AbFwdIdeal.Value
public import proofs.«01_k».proof.Proof.Gen.AbFwdReferenceIdeal
public import proofs.«01_k».proof.Proof.Gen.AbFwdReferenceIdeal.Run
public import proofs.«01_k».proof.Proof.Gen.AbFwdReferenceIdeal.Read
public import proofs.«01_k».proof.Proof.Products

@[expose] public section

set_option maxRecDepth 16384

noncomputable section

namespace Cert.AbFwdValue

open Cert.AbFwdIdeal Cert.AbFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x256 .bf16) (y : S1024x256.Idx) :
    k0_pay1 (F := Ideal) x w y = prodNN x w y := by
  unfold k0_pay1 prodNN
  simp only [pointwise, zero_add]

theorem out_eq (t : Fin cfg0.N) (y : S1024x256.Idx) : out0_2 (iblk m c 0 t) (iblk m c 1 t) y = prodNN (iblk m c 0 t) (iblk m c 1 t) y := by
  frame_out
  exact pay1_apply _ _ y

theorem ix_h : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_o : ∀ t : Fin cfg0.N, win0_2.index t = ![t.val, 0] := (by decide +kernel : ∀ t : Fin grid0.N, _)

theorem V_h : V m c main_v0 = (m ((c : Thread nD τ).loc main_arg0) : FVec Ideal S8192x1024 .f32) := by
  show StableHlo.after hostOps0 (fun b => m (c, b)) main_v0 = _
  after_results; rfl
theorem V_w : V m c main_v1 = (m ((c : Thread nD τ).loc main_arg1) : FVec Ideal S1024x256 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x1024 .f32) (w : FVec Ideal S1024x256 .f32) :
    Cert.AbFwdReferenceIdeal.Read.val_main_v0 (F := Ideal) h w = prodNN h w := by
  funext i
  rw [Cert.AbFwdReferenceIdeal.Read.val_main_v0_apply]
  refine Finset.sum_congr rfl fun k _ => congrArg₂ (· * ·) (congrArg h ?_) (congrArg w ?_) <;>
    funext a <;> fin_cases a <;> rfl

theorem frame_reference : Cert.quiescent_AbFwdReferenceIdeal (hAbFwdReferenceIdeal := Cert.AbFwdReferenceIdeal.Gen.facts) := fun m ρ _ =>
  (θ_run _ _ _).mono (fun r h => ⟨fun c => (h c).2, sem_eq_zero_of_no_sems (by decide) r.2⟩) (Cert.AbFwdReferenceIdeal.Value.run (F := Ideal) m ρ)

/-- The kernel and the reference end with the same rows. -/
theorem value : Cert.algebraic_AbFwdIdeal_AbFwdReferenceIdeal (hAbFwdIdeal := Cert.AbFwdIdeal.Gen.facts)
    (hAbFwdReferenceIdeal := Cert.AbFwdReferenceIdeal.Gen.facts) := by
  intro m ρ m' ρ' _ hag
  refine ⟨_, (θ_run _ _ _).mono (fun r h c => ⟨(h c).1.trans (array_eq m c), (h c).2⟩) (Cert.AbFwdIdeal.Value.run_blocks m ρ),
    (θ_run _ _ _).mono (fun r h c => ⟨(h c).1.trans ?_, (h c).2⟩) (Cert.AbFwdReferenceIdeal.Value.run (F := Ideal) m' ρ')⟩
  obtain ⟨a0, a1⟩ := hag c
  rw [a0, a1]
  exact reference_eq _ _

end Cert.AbFwdValue

end
-- ==== Proof.AbDw.lean ====
/- The gradient of the weight of the delta rule's decays and step sizes: the product that the reference computes, 1024 rows at a time. -/
module

public import proofs.«01_k».proof.Defs
public import proofs.«01_k».proof.Proof.Gen.AbDw
public import proofs.«01_k».proof.Proof.Gen.AbDw.Frame
public import proofs.«01_k».proof.Proof.Gen.AbDwIdeal
public import proofs.«01_k».proof.Proof.Gen.AbDwIdeal.Frame
public import proofs.«01_k».proof.Proof.Gen.AbDwIdeal.Value
public import proofs.«01_k».proof.Proof.Gen.AbDwReferenceIdeal
public import proofs.«01_k».proof.Proof.Gen.AbDwReferenceIdeal.Run
public import proofs.«01_k».proof.Proof.Gen.AbDwReferenceIdeal.Read
public import proofs.«01_k».proof.Proof.Products

@[expose] public section

set_option maxRecDepth 16384

noncomputable section

namespace Cert.AbDwValue

open Cert.AbDwIdeal Cert.AbDwIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S1024x256 .bf16) (y : S1024x256.Idx) :
    k0_pay1 (F := Ideal) x w y = prodTN x w y := by
  unfold k0_pay1 prodTN
  simp only [pointwise, zero_add]

/-- The accumulator at the last point of a block's run holds the sum of what the run's points add. -/
theorem acc_eq (t : Fin cfg0.N) (ht : t.val % 8 = 7) (y : S1024x256.Idx) :
    (outsAt0 m c t.val t.isLt).2 y = 0 + ∑ s : Fin 8, prodTN (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => prodTN (iblk m c 0 t) (iblk m c 1 t) y)
    (fun t h y => by
      have h8 : t.val < 8 := lt_of_lt_of_eq t.isLt (by decide +kernel : cfg0.N = 8)
      rw [outsAt0_A m c t h (by omega) (by omega)]; frame_out
      unfold k0_pay2; simp only [pointwise, zero_add]; exact pay1_apply _ _ y)
    (fun t h y => by
      by_cases h7 : t.val % 8 = 7
      · rw [outsAt0_C m c t h (by omega) h7]; frame_out
        unfold k0_pay3; simp only [pointwise]; rw [pay1_apply]
        exact congrArg (· + _) (congrFun ((Memref.isWhole_whole cc0_scratch0).read_unread _) y)
      · rw [outsAt0_B m c t h (by omega) h7]; frame_out
        unfold k0_pay3; simp only [pointwise]; rw [pay1_apply]
        exact congrArg (· + _) (congrFun ((Memref.isWhole_whole cc0_scratch0).read_unread _) y)) t ht y]

/-- What is written back is the accumulator. -/
theorem out_eq (t : Fin cfg0.N) (ht : t.val % 8 = 7) : (outsAt0 m c t.val t.isLt).1 = (outsAt0 m c t.val t.isLt).2 := by
  rw [outsAt0_C m c t (by omega) (by omega) ht]; frame_out

theorem ix_x : ∀ t : Fin cfg0.N, win0_0.index t = ![t.val % 8, 0] := (by decide +kernel : ∀ t : Fin grid0.N, _)
theorem ix_w : ∀ t : Fin cfg0.N, win0_1.index t = ![t.val % 8, 0] := (by decide +kernel : ∀ t : Fin grid0.N, _)
theorem ix_o : ∀ t : Fin cfg0.N, win0_2.index t = ![0, 0] := (by decide +kernel : ∀ t : Fin grid0.N, _)

theorem V_x : V m c main_v0 = (m ((c : Thread nD τ).loc main_arg0) : FVec Ideal S8192x1024 .f32) := by
  show StableHlo.after hostOps0 (fun b => m (c, b)) main_v0 = _
  after_results; rfl
theorem V_d : V m c main_v1 = (m ((c : Thread nD τ).loc main_arg2) : FVec Ideal S8192x256 .f32) := by
  show StableHlo.after hostOps0 (fun b => m (c, b)) main_v1 = _
  after_results; rfl

/-- The kernel's array: the product of the transposed rows and the cotangent. -/
theorem array_eq : (dats m 0 c).arrAt 2 cfg0.N
    = prodTN (m ((c : Thread nD τ).loc main_arg0)) (m ((c : Thread nD τ).loc main_arg2)) := by
  refine (dats m 0 c).arrAt_eq_of_covers 2 _ (by decide +kernel) fun t hf y => ?_
  have ht : t.val % 8 = 7 := (flush0_2 t).mp hf
  blk_simp
  rw [after0_2, out_eq m c t ht, acc_eq m c t ht, zero_add]
  refine prodTN_tiles _ _ _ y _ _ (by decide) (fun s a h => ?_) (fun s a h => ?_) <;> blk_simp [iblk, V_x, V_d] <;>
    refine congrArg _ ?_ <;> blk_ext [ix_x, ix_w, ix_o]

/-- What the reference computes is the same product. -/
theorem reference_eq (x : FVec Ideal S8192x1024 .f32) (d : FVec Ideal S8192x256 .f32) :
    Cert.AbDwReferenceIdeal.Read.val_main_v2 (F := Ideal) x d = prodTN x d := by
  funext i
  rw [Cert.AbDwReferenceIdeal.Read.val_main_v2_apply, Cert.AbDwReferenceIdeal.Read.val_main_v1_apply]
  refine Finset.sum_congr rfl fun k _ => (mul_comm _ _).trans (congrArg₂ (· * ·) (congrArg x ?_) (congrArg d ?_)) <;>
    funext a <;> fin_cases a <;> rfl

theorem frame_reference : Cert.quiescent_AbDwReferenceIdeal (hAbDwReferenceIdeal := Cert.AbDwReferenceIdeal.Gen.facts) := fun m ρ _ =>
  (θ_run _ _ _).mono (fun r h => ⟨fun c => (h c).2, sem_eq_zero_of_no_sems (by decide) r.2⟩) (Cert.AbDwReferenceIdeal.Value.run (F := Ideal) m ρ)

/-- The kernel and the reference end with the same gradient. -/
theorem value : Cert.algebraic_AbDwIdeal_AbDwReferenceIdeal (hAbDwIdeal := Cert.AbDwIdeal.Gen.facts)
    (hAbDwReferenceIdeal := Cert.AbDwReferenceIdeal.Gen.facts) := by
  intro m ρ m' ρ' _ hag
  refine ⟨_, (θ_run _ _ _).mono (fun r h c => ⟨(h c).1.trans (array_eq m c), (h c).2⟩) (Cert.AbDwIdeal.Value.run_blocks m ρ),
    (θ_run _ _ _).mono (fun r h c => ⟨(h c).1.trans ?_, (h c).2⟩) (Cert.AbDwReferenceIdeal.Value.run (F := Ideal) m' ρ')⟩
  obtain ⟨a0, a1, a2⟩ := hag c
  rw [a0, a2]
  exact reference_eq _ _

end Cert.AbDwValue

end
-- ==== Proof.AbDx.lean ====
/- The gradient of the mixers' input from the delta rule's decays and step sizes, added to a given array: products over whole rows. -/
module

public import proofs.«01_k».proof.Defs
public import proofs.«01_k».proof.Proof.Gen.AbDx
public import proofs.«01_k».proof.Proof.Gen.AbDx.Frame
public import proofs.«01_k».proof.Proof.Gen.AbDxIdeal
public import proofs.«01_k».proof.Proof.Gen.AbDxIdeal.Frame
public import proofs.«01_k».proof.Proof.Gen.AbDxIdeal.Value
public import proofs.«01_k».proof.Proof.Gen.AbDxReferenceIdeal
public import proofs.«01_k».proof.Proof.Gen.AbDxReferenceIdeal.Run
public import proofs.«01_k».proof.Proof.Gen.AbDxReferenceIdeal.Read
public import proofs.«01_k».proof.Proof.Products

@[expose] public section

set_option maxRecDepth 16384

noncomputable section

namespace Cert.AbDxValue

open Cert.AbDxIdeal Cert.AbDxIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x w : FVec Ideal S1024x256 .bf16) (r : FVec Ideal S1024x1024 .f32) (y : S1024x1024.Idx) :
    k0_pay1 (F := Ideal) x w r y = plus r (prodNT x w) y := by
  unfold k0_pay1 plus prodNT
  simp only [pointwise, zero_add]
  exact add_comm _ _

theorem out_eq (t : Fin cfg0.N) (y : S1024x1024.Idx) : out0_3 (iblk m c 0 t) (iblk m c 1 t) (iblk m c 2 t) y
    = plus (iblk m c 2 t) (prodNT (iblk m c 0 t) (iblk m c 1 t)) y := by
  frame_out
  exact pay1_apply _ _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_d : V m c main_v0 = (m ((c : Thread nD τ).loc main_arg2) : FVec Ideal S8192x256 .f32) := by
  show StableHlo.after hostOps0 (fun b => m (c, b)) main_v0 = _
  after_results; rfl
theorem V_w : V m c main_v1 = (m ((c : Thread nD τ).loc main_arg1) : FVec Ideal S1024x256 .f32) := by
  show StableHlo.after hostOps0 (fun b => m (c, b)) main_v1 = _
  after_results; rfl

theorem V_r : V m c main_arg3 = (m ((c : Thread nD τ).loc main_arg3) : FVec Ideal S8192x1024 .f32) := by
  show StableHlo.after hostOps0 (fun b => m (c, b)) main_arg3 = _
  after_results

/-- The result array is the given array and the whole product. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNT_block _ _ _ y _ _ (fun a => ?_) (fun a => ?_)) <;> blk_simp [iblk, V_d, V_w, V_r] <;>
    refine congrArg _ ?_ <;> blk_ext [ix_d, ix_w, ix_r, ix_o]

theorem reference_eq (w : FVec Ideal S1024x256 .f32) (d : FVec Ideal S8192x256 .f32) (r : FVec Ideal S8192x1024 .f32) :
    Cert.AbDxReferenceIdeal.Read.val_main_v4 (F := Ideal) w d r = plus r (prodNT d w) := by
  funext i
  rw [Cert.AbDxReferenceIdeal.Read.val_main_v4_apply, Cert.AbDxReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_AbDxReferenceIdeal (hAbDxReferenceIdeal := Cert.AbDxReferenceIdeal.Gen.facts) := fun m ρ _ =>
  (θ_run _ _ _).mono (fun r h => ⟨fun c => (h c).2, sem_eq_zero_of_no_sems (by decide) r.2⟩) (Cert.AbDxReferenceIdeal.Value.run (F := Ideal) m ρ)

/-- The kernel and the reference end with the same gradient. -/
theorem value : Cert.algebraic_AbDxIdeal_AbDxReferenceIdeal (hAbDxIdeal := Cert.AbDxIdeal.Gen.facts)
    (hAbDxReferenceIdeal := Cert.AbDxReferenceIdeal.Gen.facts) := by
  intro m ρ m' ρ' _ hag
  refine ⟨_, (θ_run _ _ _).mono (fun r h c => ⟨(h c).1.trans (array_eq m c), (h c).2⟩) (Cert.AbDxIdeal.Value.run_blocks m ρ),
    (θ_run _ _ _).mono (fun r h c => ⟨(h c).1.trans ?_, (h c).2⟩) (Cert.AbDxReferenceIdeal.Value.run (F := Ideal) m' ρ')⟩
  obtain ⟨a0, a1, a2, a3⟩ := hag c
  rw [a1, a2, a3]
  exact reference_eq _ _ _

end Cert.AbDxValue

end
-- ==== Proof.QpFwd.lean ====
/- The rotated part of the queries from their compressed form: every block of the kernel's array is a product over whole rows and columns. -/
module

public import proofs.«01_k».proof.Defs
public import proofs.«01_k».proof.Proof.Gen.QpFwd
public import proofs.«01_k».proof.Proof.Gen.QpFwd.Frame
public import proofs.«01_k».proof.Proof.Gen.QpFwdIdeal
public import proofs.«01_k».proof.Proof.Gen.QpFwdIdeal.Frame
public import proofs.«01_k».proof.Proof.Gen.QpFwdIdeal.Value
public import proofs.«01_k».proof.Proof.Gen.QpFwdReferenceIdeal
public import proofs.«01_k».proof.Proof.Gen.QpFwdReferenceIdeal.Run
public import proofs.«01_k».proof.Proof.Gen.QpFwdReferenceIdeal.Read
public import proofs.«01_k».proof.Proof.Products

@[expose] public section

set_option maxRecDepth 16384

noncomputable section

namespace Cert.QpFwdValue

open Cert.QpFwdIdeal Cert.QpFwdIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x384 .bf16) (w : FVec Ideal S384x1024 .bf16) (y : S1024x1024.Idx) :
    k0_pay1 (F := Ideal) x w y = prodNN x w y := by
  unfold k0_pay1 prodNN
  simp only [pointwise, zero_add]

theorem out_eq (t : Fin cfg0.N) (y : S1024x1024.Idx) : out0_2 (iblk m c 0 t) (iblk m c 1 t) y = prodNN (iblk m c 0 t) (iblk m c 1 t) y := by
  frame_out
  exact pay1_apply _ _ y

theorem ix_h : ∀ t : Fin cfg0.N, win0_0.index t = ![t.val / 2, 0] := (by decide +kernel : ∀ t : Fin grid0.N, _)
theorem ix_w : ∀ t : Fin cfg0.N, win0_1.index t = ![0, t.val % 2] := (by decide +kernel : ∀ t : Fin grid0.N, _)
theorem ix_o : ∀ t : Fin cfg0.N, win0_2.index t = ![t.val / 2, t.val % 2] := (by decide +kernel : ∀ t : Fin grid0.N, _)

theorem V_h : V m c main_v0 = (m ((c : Thread nD τ).loc main_arg0) : FVec Ideal S8192x384 .f32) := by
  show StableHlo.after hostOps0 (fun b => m (c, b)) main_v0 = _
  after_results; rfl
theorem V_w : V m c main_v1 = (m ((c : Thread nD τ).loc main_arg1) : FVec Ideal S384x2048 .f32) := by
  show StableHlo.after hostOps0 (fun b => m (c, b)) main_v1 = _
  after_results; rfl

/-- The result array is the whole product. -/
theorem array_eq : (dats m 0 c).arrAt 2 cfg0.N
    = prodNN (m ((c : Thread nD τ).loc main_arg0)) (m ((c : Thread nD τ).loc main_arg1)) := by
  refine (dats m 0 c).arrAt_eq_of_covers 2 _ (by decide +kernel) fun t hf y => ?_
  blk_simp
  rw [after0_2, out_eq m c t y]
  refine prodNN_block _ _ _ y _ _ (fun a => ?_) (fun a => ?_) <;> blk_simp [iblk, V_h, V_w] <;>
    refine congrArg _ ?_ <;> blk_ext [ix_h, ix_w, ix_o]

theorem reference_eq (h : FVec Ideal S8192x384 .f32) (w : FVec Ideal S384x2048 .f32) :
    Cert.QpFwdReferenceIdeal.Read.val_main_v1 (F := Ideal) h w = prodNN h w := by
  funext i
  rw [Cert.QpFwdReferenceIdeal.Read.val_main_v1_apply, Cert.QpFwdReferenceIdeal.Read.val_main_v0_apply]
  refine Finset.sum_congr rfl fun k _ => congrArg₂ (· * ·) (congrArg h ?_) (congrArg w ?_) <;>
    funext a <;> fin_cases a <;> rfl

theorem frame_reference : Cert.quiescent_QpFwdReferenceIdeal (hQpFwdReferenceIdeal := Cert.QpFwdReferenceIdeal.Gen.facts) := fun m ρ _ =>
  (θ_run _ _ _).mono (fun r h => ⟨fun c => (h c).2, sem_eq_zero_of_no_sems (by decide) r.2⟩) (Cert.QpFwdReferenceIdeal.Value.run (F := Ideal) m ρ)

/-- The kernel and the reference end with the same rows. -/
theorem value : Cert.algebraic_QpFwdIdeal_QpFwdReferenceIdeal (hQpFwdIdeal := Cert.QpFwdIdeal.Gen.facts)
    (hQpFwdReferenceIdeal := Cert.QpFwdReferenceIdeal.Gen.facts) := by
  intro m ρ m' ρ' _ hag
  refine ⟨_, (θ_run _ _ _).mono (fun r h c => ⟨(h c).1.trans (array_eq m c), (h c).2⟩) (Cert.QpFwdIdeal.Value.run_blocks m ρ),
    (θ_run _ _ _).mono (fun r h c => ⟨(h c).1.trans ?_, (h c).2⟩) (Cert.QpFwdReferenceIdeal.Value.run (F := Ideal) m' ρ')⟩
  obtain ⟨a0, a1⟩ := hag c
  rw [a0, a1]
  exact reference_eq _ _

end Cert.QpFwdValue

end
-- ==== Proof.UqDxAdd.lean ====
/- The gradient of the compressed queries from their rotated part, added to a given array: products over whole rows. -/
module

public import proofs.«01_k».proof.Defs
public import proofs.«01_k».proof.Proof.Gen.UqDxAdd
public import proofs.«01_k».proof.Proof.Gen.UqDxAdd.Frame
public import proofs.«01_k».proof.Proof.Gen.UqDxAddIdeal
public import proofs.«01_k».proof.Proof.Gen.UqDxAddIdeal.Frame
public import proofs.«01_k».proof.Proof.Gen.UqDxAddIdeal.Value
public import proofs.«01_k».proof.Proof.Gen.UqDxAddReferenceIdeal
public import proofs.«01_k».proof.Proof.Gen.UqDxAddReferenceIdeal.Run
public import proofs.«01_k».proof.Proof.Gen.UqDxAddReferenceIdeal.Read
public import proofs.«01_k».proof.Proof.Products

@[expose] public section

set_option maxRecDepth 16384

noncomputable section

namespace Cert.UqDxAddValue

open Cert.UqDxAddIdeal Cert.UqDxAddIdeal.Gen Cert.Products Idealize.ShloMosaic Idealize.ShloMosaic.TcCoe Idealize.SL.Sem

variable (m : (ℓ : Loc nD τ sig) → Buf (Elt Ideal) ℓ) (ρ : Dev nD → PrngReg) (c : Dev nD)

theorem pay1_apply (x : FVec Ideal S1024x1024 .bf16) (w : FVec Ideal S384x1024 .bf16) (r : FVec Ideal S1024x384 .f32) (y : S1024x384.Idx) :
    k0_pay1 (F := Ideal) x w r y = plus r (prodNT x w) y := by
  unfold k0_pay1 plus prodNT
  simp only [pointwise, zero_add]
  exact add_comm _ _

theorem out_eq (t : Fin cfg0.N) (y : S1024x384.Idx) : out0_3 (iblk m c 0 t) (iblk m c 1 t) (iblk m c 2 t) y
    = plus (iblk m c 2 t) (prodNT (iblk m c 0 t) (iblk m c 1 t)) y := by
  frame_out
  exact pay1_apply _ _ _ y

theorem ix_d : ∀ t : Fin cfg0.N, win0_0.index t = ![t.val, 0] := (by decide +kernel : ∀ t : Fin grid0.N, _)
theorem ix_w : ∀ t : Fin cfg0.N, win0_1.index t = ![0, 0] := (by decide +kernel : ∀ t : Fin grid0.N, _)
theorem ix_r : ∀ t : Fin cfg0.N, win0_2.index t = ![t.val, 0] := (by decide +kernel : ∀ t : Fin grid0.N, _)
theorem ix_o : ∀ t : Fin cfg0.N, win0_3.index t = ![t.val, 0] := (by decide +kernel : ∀ t : Fin grid0.N, _)

theorem V_d : V m c main_v0 = (m ((c : Thread nD τ).loc main_arg2) : FVec Ideal S8192x1024 .f32) := by
  show StableHlo.after hostOps0 (fun b => m (c, b)) main_v0 = _
  after_results; rfl
theorem V_w : V m c main_v1 = (m ((c : Thread nD τ).loc main_arg1) : FVec Ideal S384x1024 .f32) := by
  show StableHlo.after hostOps0 (fun b => m (c, b)) main_v1 = _
  after_results; rfl

theorem V_r : V m c main_arg3 = (m ((c : Thread nD τ).loc main_arg3) : FVec Ideal S8192x384 .f32) := by
  show StableHlo.after hostOps0 (fun b => m (c, b)) main_arg3 = _
  after_results

/-- The result array is the given array and the whole product. -/
theorem array_eq : (dats m 0 c).arrAt 3 cfg0.N
    = plus (m ((c : Thread nD τ).loc main_arg3))
      (prodNT (m ((c : Thread nD τ).loc main_arg2)) (m ((c : Thread nD τ).loc main_arg1))) := by
  refine (dats m 0 c).arrAt_eq_of_covers 3 _ (by decide +kernel) fun t hf y => ?_
  blk_simp
  rw [after0_3, out_eq m c t y, plus]
  refine congrArg₂ (· + ·) ?_ (prodNT_block _ _ _ y _ _ (fun a => ?_) (fun a => ?_)) <;> blk_simp [iblk, V_d, V_w, V_r] <;>
    refine congrArg _ ?_ <;> blk_ext [ix_d, ix_w, ix_r, ix_o]

theorem reference_eq (w : FVec Ideal S384x1024 .f32) (d : FVec Ideal S8192x1024 .f32) (r : FVec Ideal S8192x384 .f32) :
    Cert.UqDxAddReferenceIdeal.Read.val_main_v4 (F := Ideal) w d r = plus r (prodNT d w) := by
  funext i
  rw [Cert.UqDxAddReferenceIdeal.Read.val_main_v4_apply, Cert.UqDxAddReferenceIdeal.Read.val_main_v3_apply]
  refine congrArg (r i + ·) (Finset.sum_congr rfl fun k _ => congrArg₂ (· * ·) (congrArg d ?_) (congrArg w ?_)) <;>
    funext a <;> fin_cases a <;> rfl

theorem frame_reference : Cert.quiescent_UqDxAddReferenceIdeal (hUqDxAddReferenceIdeal := Cert.UqDxAddReferenceIdeal.Gen.facts) := fun m ρ _ =>
  (θ_run _ _ _).mono (fun r h => ⟨fun c => (h c).2, sem_eq_zero_of_no_sems (by decide) r.2⟩) (Cert.UqDxAddReferenceIdeal.Value.run (F := Ideal) m ρ)

/-- The kernel and the reference end with the same gradient. -/
theorem value : Cert.algebraic_UqDxAddIdeal_UqDxAddReferenceIdeal (hUqDxAddIdeal := Cert.UqDxAddIdeal.Gen.facts)
    (hUqDxAddReferenceIdeal := Cert.UqDxAddReferenceIdeal.Gen.facts) := by
  intro m ρ m' ρ' _ hag
  refine ⟨_, (θ_run _ _ _).mono (fun r h c => ⟨(h c).1.trans (array_eq m c), (h c).2⟩) (Cert.UqDxAddIdeal.Value.run_blocks m ρ),
    (θ_run _ _ _).mono (fun r h c => ⟨(h c).1.trans ?_, (h c).2⟩) (Cert.UqDxAddReferenceIdeal.Value.run (F := Ideal) m' ρ')⟩
  obtain ⟨a0, a1, a2, a3⟩ := hag c
  rw [a1, a2, a3]
  exact reference_eq _ _ _

end Cert.UqDxAddValue

end
-- ==== Proof.Adam.lean ====
/- The optimiser: the sum of the eight devices' parts of a gradient, and the step taken with it, element by element. -/
module

public import proofs.«01_k».proof.Proof.Products

@[expose] public section

noncomputable section

namespace Cert.Adam

open Idealize.ShloMosaic Cert.Products

abbrev Cube (n a b : ℕ) : Type := (⟨3, ![n, a, b]⟩ : Shape).Idx → EReal

variable {M N : ℕ}

/-- Eight values added, the first ones first. -/
def sum8 (a b c d e f g h : EReal) : EReal := a + b + c + d + e + f + g + h
/-- The parts of all devices added. -/
def gathered (x : Cube 8 M N) : Mat M N := fun i => ∑ k : Fin 8, x (ix3 k (i 0) (i 1))
/-- The running mean `m` after the gradient `g`. -/
def mean (m g : EReal) : EReal := Ideal.ofBits .f32 0x3F666666#32 * m + Ideal.ofBits .f32 0x3DCCCCCD#32 * g
/-- The running mean `v` of the squares after the gradient `g`. -/
def meanSquare (v g : EReal) : EReal := Ideal.ofBits .f32 0x3F7FBE77#32 * v + Ideal.ofBits .f32 0x3A83126F#32 * (g * g)
/-- What is added to the weight `w`, from both running means and the gradient `g`. -/
def change (w m v g : EReal) : EReal := Ideal.ofBits .f32 0xBA83126F#32 *
  (Ideal.div (Ideal.div (mean m g) (Ideal.ofBits .f32 0x3F26BD02#32))
    (Ideal.sqrt (Ideal.div (meanSquare v g) (Ideal.ofBits .f32 0x3C231ACC#32)) + Ideal.ofBits .f32 0x322BCC77#32)
    + Ideal.ofBits .f32 0x3C23D70A#32 * w)

/-- The parts added one after another are their sum. -/
theorem sum8_eq_gathered (x : Cube 8 M N) (i : (⟨2, ![M, N]⟩ : Shape).Idx) {a b c d e f g h : EReal}
    (ha : a = x (ix3 0 (i 0) (i 1))) (hb : b = x (ix3 1 (i 0) (i 1))) (hc : c = x (ix3 2 (i 0) (i 1))) (hd : d = x (ix3 3 (i 0) (i 1)))
    (he : e = x (ix3 4 (i 0) (i 1))) (hf : f = x (ix3 5 (i 0) (i 1))) (hg : g = x (ix3 6 (i 0) (i 1))) (hh : h = x (ix3 7 (i 0) (i 1))) :
    sum8 a b c d e f g h = gathered x i := by
  subst ha hb hc hd he hf hg hh
  exact (Fin.sum_univ_eight fun k => x (ix3 k (i 0) (i 1))).symm

end Cert.Adam

end
-- ==== Proof.AdamIn.lean ====
/- The optimiser's step for the first slab (the input projection's weight; the up projection's has the same shape): the gradient, the change of the weights and both running means. -/
module

public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Adam

@[expose] public section

set_option maxRecDepth 16384

noncomputable section

namespace Cert.AdamInValue

open Cert.AdamInIdeal Cert.AdamInIdeal.Gen Cert.Products Cert.Adam Idealize.ShloMosaic Idealize.ShloMosaic.TcCoe Idealize.SL.Sem

variable (m : (ℓ : Loc nD τ sig) → Buf (Elt Ideal) ℓ) (ρ : Dev nD → PrngReg) (c : Dev nD)

/-- The eight devices' parts of point `t`'s block, added. -/
def parts (t : Fin cfg0.N) (y : S256x896.Idx) : EReal :=
  sum8 (iblk m c 0 t y) (iblk m c 1 t y) (iblk m c 2 t y) (iblk m c 3 t y) (iblk m c 4 t y) (iblk m c 5 t y) (iblk m c 6 t y) (iblk m c 7 t y)

theorem out11_eq (t : Fin cfg0.N) (y : S256x896.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = parts m c t y := by
  frame_out [k0_pay6]
  unfold parts k0_pay4 sum8
  simp only [pointwise, Ideal.ofBits_def]

theorem out12_eq (t : Fin cfg0.N) (y : S256x896.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = change (iblk m c 8 t y) (iblk m c 9 t y) (iblk m c 10 t y) (parts m c t y) := by
  frame_out [k0_pay6, k0_pay7]
  unfold parts change mean meanSquare k0_pay3 k0_pay1 k0_pay2 k0_pay5 k0_pay4 sum8
  simp only [pointwise, Ideal.ofBits_def]

theorem out13_eq (t : Fin cfg0.N) (y : S256x896.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = mean (iblk m c 9 t y) (parts m c t y) := by
  frame_out [k0_pay6, k0_pay7]
  unfold parts mean k0_pay1 k0_pay5 k0_pay4 sum8
  simp only [pointwise, Ideal.ofBits_def]

theorem out14_eq (t : Fin cfg0.N) (y : S256x896.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = meanSquare (iblk m c 10 t y) (parts m c t y) := by
  frame_out [k0_pay6]
  unfold parts meanSquare k0_pay2 k0_pay4 sum8
  simp only [pointwise, Ideal.ofBits_def]

theorem ix_0 : ∀ t : Fin cfg0.N, win0_0.index t = ![t.val, 0] := (by decide +kernel : ∀ t : Fin grid0.N, _)
theorem ix_1 : ∀ t : Fin cfg0.N, win0_1.index t = ![1 * 4 + t.val, 0] := (by decide +kernel : ∀ t : Fin grid0.N, _)
theorem ix_2 : ∀ t : Fin cfg0.N, win0_2.index t = ![2 * 4 + t.val, 0] := (by decide +kernel : ∀ t : Fin grid0.N, _)
theorem ix_3 : ∀ t : Fin cfg0.N, win0_3.index t = ![3 * 4 + t.val, 0] := (by decide +kernel : ∀ t : Fin grid0.N, _)
theorem ix_4 : ∀ t : Fin cfg0.N, win0_4.index t = ![4 * 4 + t.val, 0] := (by decide +kernel : ∀ t : Fin grid0.N, _)
theorem ix_5 : ∀ t : Fin cfg0.N, win0_5.index t = ![5 * 4 + t.val, 0] := (by decide +kernel : ∀ t : Fin grid0.N, _)
theorem ix_6 : ∀ t : Fin cfg0.N, win0_6.index t = ![6 * 4 + t.val, 0] := (by decide +kernel : ∀ t : Fin grid0.N, _)
theorem ix_7 : ∀ t : Fin cfg0.N, win0_7.index t = ![7 * 4 + t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)

theorem V_parts (j : S8192x896.Idx) (k : Fin 8) (r : Fin 1024) (q : Fin 896) (h0 : (j 0).val = k.val * 1024 + r.val) (h1 : (j 1).val = q.val) :
    V m c main_v1 j = (m ((c : Thread nD τ).loc main_arg0) : FVec Ideal S8x1024x896 .f32) (ix3 k r q) := by
  have e : V m c main_v1 = shapeCast S8192x896 (m ((c : Thread nD τ).loc main_arg0) : FVec Ideal S8x1024x896 .f32) shapeCasts_S8x1024x896_S8192x896 := by
    show StableHlo.after hostOps0 (fun b => m (c, b)) main_v1 = _
    after_results; rfl
  rw [e]
  refine shapeCast_apply _ _ j (ix3 k r q) ?_
  rw [Shape.rowMajor_val_three, Shape.rowMajor_val_two]
  show (k.val * 1024 + r.val) * 896 + q.val = (j 0).val * 896 + (j 1).val
  rw [h0, h1]
theorem V_w : V m c main_arg1 = (m ((c : Thread nD τ).loc main_arg1) : FVec Ideal S1024x896 .f32) := by
  show StableHlo.after hostOps0 (fun b => m (c, b)) main_arg1 = _
  after_results
theorem V_m : V m c main_arg2 = (m ((c : Thread nD τ).loc main_arg2) : FVec Ideal S1024x896 .f32) := by
  show StableHlo.after hostOps0 (fun b => m (c, b)) main_arg2 = _
  after_results
theorem V_v : V m c main_arg3 = (m ((c : Thread nD τ).loc main_arg3) : FVec Ideal S1024x896 .f32) := by
  show StableHlo.after hostOps0 (fun b => m (c, b)) main_arg3 = _
  after_results

theorem parts_eq (t : Fin cfg0.N) (y : S256x896.Idx) (i : S1024x896.Idx) (h0 : (i 0).val = t.val * 256 + (y 0).val) (h1 : (i 1).val = (y 1).val) :
    parts m c t y = gathered (m ((c : Thread nD τ).loc main_arg0)) i := by
  have ht : t.val < 4 := t.isLt
  refine sum8_eq_gathered (m ((c : Thread nD τ).loc main_arg0)) i ?_ ?_ ?_ ?_ ?_ ?_ ?_ ?_ <;> blk_simp [iblk] <;>
    refine V_parts m c _ _ (i 0) (i 1) ?_ ?_ <;> blk_simp [ix_0, ix_1, ix_2, ix_3, ix_4, ix_5, ix_6, ix_7] <;> omega

theorem array11_eq : (dats m 0 c).arrAt 11 cfg0.N = gathered (m ((c : Thread nD τ).loc main_arg0)) := by
  refine (dats m 0 c).arrAt_eq_of_covers 11 _ (by decide +kernel) fun t hf y => ?_
  blk_simp
  rw [after0_11, out11_eq m c t y]
  refine parts_eq m c t y _ ?_ ?_ <;> blk_simp [ix_11]

theorem array12_eq : (dats m 0 c).arrAt 12 cfg0.N = fun i => change (m ((c : Thread nD τ).loc main_arg1) i) (m ((c : Thread nD τ).loc main_arg2) i)
    (m ((c : Thread nD τ).loc main_arg3) i) (gathered (m ((c : Thread nD τ).loc main_arg0)) i) := by
  refine (dats m 0 c).arrAt_eq_of_covers 12 _ (by decide +kernel) fun t hf y => ?_
  blk_simp
  rw [after0_12, out12_eq m c t y]
  refine congr (congr (congrArg₂ change ?_ ?_) ?_) (parts_eq m c t y _ ?_ ?_)
  · blk_simp [iblk, V_w]; refine congrArg _ ?_; blk_ext [ix_8, ix_12]
  · blk_simp [iblk, V_m]; refine congrArg _ ?_; blk_ext [ix_9, ix_12]
  · blk_simp [iblk, V_v]; refine congrArg _ ?_; blk_ext [ix_10, ix_12]
  all_goals blk_simp [ix_12]

theorem array13_eq : (dats m 0 c).arrAt 13 cfg0.N = fun i => mean (m ((c : Thread nD τ).loc main_arg2) i)
    (gathered (m ((c : Thread nD τ).loc main_arg0)) i) := by
  refine (dats m 0 c).arrAt_eq_of_covers 13 _ (by decide +kernel) fun t hf y => ?_
  blk_simp
  rw [after0_13, out13_eq m c t y]
  refine congrArg₂ mean ?_ (parts_eq m c t y _ ?_ ?_)
  · blk_simp [iblk, V_m]; refine congrArg _ ?_; blk_ext [ix_9, ix_13]
  all_goals blk_simp [ix_13]

theorem array14_eq : (dats m 0 c).arrAt 14 cfg0.N = fun i => meanSquare (m ((c : Thread nD τ).loc main_arg3) i)
    (gathered (m ((c : Thread nD τ).loc main_arg0)) i) := by
  refine (dats m 0 c).arrAt_eq_of_covers 14 _ (by decide +kernel) fun t hf y => ?_
  blk_simp
  rw [after0_14, out14_eq m c t y]
  refine congrArg₂ meanSquare ?_ (parts_eq m c t y _ ?_ ?_)
  · blk_simp [iblk, V_v]; refine congrArg _ ?_; blk_ext [ix_10, ix_14]
  all_goals blk_simp [ix_14]

section
open Cert.AdamInReferenceIdeal.Read

theorem reference0_eq (x : FVec Ideal S8x1024x896 .f32) : val_main_v0 (F := Ideal) x = gathered x := by
  funext i
  rw [val_main_v0_apply, val_main_cst_apply]
  simp only [Ideal.ofBits_def, Ideal.ofBits_zero_f32, zero_add]
  unfold gathered
  refine Finset.sum_congr rfl fun k _ => congrArg x ?_
  funext a; fin_cases a <;> rfl

theorem reference5_eq (x : FVec Ideal S8x1024x896 .f32) (a : FVec Ideal S1024x896 .f32) : val_main_v5 (F := Ideal) x a = fun i => mean (a i) (gathered x i) := by
  funext i
  rw [val_main_v5_apply, val_main_v4_apply, val_main_v3_apply, val_main_v2_apply, val_main_v1_apply, val_main_cst_0_apply, val_main_cst_1_apply, reference0_eq]
  rfl

theorem reference11_eq (x : FVec Ideal S8x1024x896 .f32) (b : FVec Ideal S1024x896 .f32) : val_main_v11 (F := Ideal) x b = fun i => meanSquare (b i) (gathered x i) := by
  funext i
  rw [val_main_v11_apply, val_main_v10_apply, val_main_v9_apply, val_main_v8_apply, val_main_v7_apply, val_main_v6_apply, val_main_cst_2_apply,
    val_main_cst_3_apply, reference0_eq]
  rfl

theorem reference24_eq (x : FVec Ideal S8x1024x896 .f32) (w a b : FVec Ideal S1024x896 .f32) :
    val_main_v24 (F := Ideal) x w a b = fun i => change (w i) (a i) (b i) (gathered x i) := by
  funext i
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, reference5_eq, reference11_eq]
  rfl
end

theorem frame_reference : Cert.quiescent_AdamInReferenceIdeal (hAdamInReferenceIdeal := Cert.AdamInReferenceIdeal.Gen.facts) := fun m ρ _ =>
  (θ_run _ _ _).mono (fun r h => ⟨fun c => (h c).2.2.2.2, sem_eq_zero_of_no_sems (by decide) r.2⟩) (Cert.AdamInReferenceIdeal.Value.run (F := Ideal) m ρ)

/-- The kernel and the reference end with the same gradient, change and running means. -/
theorem value : Cert.algebraic_AdamInIdeal_AdamInReferenceIdeal (hAdamInIdeal := Cert.AdamInIdeal.Gen.facts)
    (hAdamInReferenceIdeal := Cert.AdamInReferenceIdeal.Gen.facts) := by
  intro m ρ m' ρ' _ hag
  refine ⟨_, _, _, _, (θ_run _ _ _).mono (fun r h c => ⟨(h c).1.trans (array11_eq m c), (h c).2.1.trans (array12_eq m c), (h c).2.2.1.trans (array13_eq m c),
      (h c).2.2.2.1.trans (array14_eq m c), (h c).2.2.2.2⟩) (Cert.AdamInIdeal.Value.run_blocks m ρ),
    (θ_run _ _ _).mono (fun r h c => ⟨(h c).1.trans ((Cert.AdamInReferenceIdeal.Read.val_main_v0_eq _).trans ?_),
      (h c).2.1.trans ((Cert.AdamInReferenceIdeal.Read.val_main_v24_eq _ _ _ _).trans ?_),
      (h c).2.2.1.trans ((Cert.AdamInReferenceIdeal.Read.val_main_v5_eq _ _).trans ?_),
      (h c).2.2.2.1.trans ((Cert.AdamInReferenceIdeal.Read.val_main_v11_eq _ _).trans ?_), (h c).2.2.2.2⟩)
      (Cert.AdamInReferenceIdeal.Value.run (F := Ideal) m' ρ')⟩
  · obtain ⟨a0, a1, a2, a3⟩ := hag c
    rw [a0]
    exact reference0_eq _
  · obtain ⟨a0, a1, a2, a3⟩ := hag c
    rw [a0, a1, a2, a3]
    exact reference24_eq _ _ _ _
  · obtain ⟨a0, a1, a2, a3⟩ := hag c
    rw [a0, a2]
    exact reference5_eq _ _
  · obtain ⟨a0, a1, a2, a3⟩ := hag c
    rw [a0, a3]
    exact reference11_eq _ _

end Cert.AdamInValue

end
-- ==== Proof.AdamQ.lean ====
/- The optimiser's step for the slab of the projections from compressed columns: the gradient, the change of the weights and both running means. -/
module

public import proofs.«01_k».proof.Defs
public import proofs.«01_k».proof.Proof.Gen.AdamQ
public import proofs.«01_k».proof.Proof.Gen.AdamQ.Frame
public import proofs.«01_k».proof.Proof.Gen.AdamQIdeal
public import proofs.«01_k».proof.Proof.Gen.AdamQIdeal.Frame
public import proofs.«01_k».proof.Proof.Gen.AdamQIdeal.Value
public import proofs.«01_k».proof.Proof.Gen.AdamQReferenceIdeal
public import proofs.«01_k».proof.Proof.Gen.AdamQReferenceIdeal.Run
public import proofs.«01_k».proof.Proof.Gen.AdamQReferenceIdeal.Read
public import proofs.«01_k».proof.Proof.Adam

@[expose] public section

set_option maxRecDepth 16384

noncomputable section

namespace Cert.AdamQValue

open Cert.AdamQIdeal Cert.AdamQIdeal.Gen Cert.Products Cert.Adam Idealize.ShloMosaic Idealize.ShloMosaic.TcCoe Idealize.SL.Sem

variable (m : (ℓ : Loc nD τ sig) → Buf (Elt Ideal) ℓ) (ρ : Dev nD → PrngReg) (c : Dev nD)

/-- The eight devices' parts of point `t`'s block, added. -/
def parts (t : Fin cfg0.N) (y : S128x256.Idx) : EReal :=
  sum8 (iblk m c 0 t y) (iblk m c 1 t y) (iblk m c 2 t y) (iblk m c 3 t y) (iblk m c 4 t y) (iblk m c 5 t y) (iblk m c 6 t y) (iblk m c 7 t y)

theorem out11_eq (t : Fin cfg0.N) (y : S128x256.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = parts m c t y := by
  frame_out [k0_pay6]
  unfold parts k0_pay4 sum8
  simp only [pointwise, Ideal.ofBits_def]

theorem out12_eq (t : Fin cfg0.N) (y : S128x256.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = change (iblk m c 8 t y) (iblk m c 9 t y) (iblk m c 10 t y) (parts m c t y) := by
  frame_out [k0_pay6, k0_pay7]
  unfold parts change mean meanSquare k0_pay3 k0_pay1 k0_pay2 k0_pay5 k0_pay4 sum8
  simp only [pointwise, Ideal.ofBits_def]

theorem out13_eq (t : Fin cfg0.N) (y : S128x256.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = mean (iblk m c 9 t y) (parts m c t y) := by
  frame_out [k0_pay6, k0_pay7]
  unfold parts mean k0_pay1 k0_pay5 k0_pay4 sum8
  simp only [pointwise, Ideal.ofBits_def]

theorem out14_eq (t : Fin cfg0.N) (y : S128x256.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = meanSquare (iblk m c 10 t y) (parts m c t y) := by
  frame_out [k0_pay6]
  unfold parts meanSquare k0_pay2 k0_pay4 sum8
  simp only [pointwise, Ideal.ofBits_def]

theorem ix_0 : ∀ t : Fin cfg0.N, win0_0.index t = ![t.val, 0] := (by decide +kernel : ∀ t : Fin grid0.N, _)
theorem ix_1 : ∀ t : Fin cfg0.N, win0_1.index t = ![1 * 5 + t.val, 0] := (by decide +kernel : ∀ t : Fin grid0.N, _)
theorem ix_2 : ∀ t : Fin cfg0.N, win0_2.index t = ![2 * 5 + t.val, 0] := (by decide +kernel : ∀ t : Fin grid0.N, _)
theorem ix_3 : ∀ t : Fin cfg0.N, win0_3.index t = ![3 * 5 + t.val, 0] := (by decide +kernel : ∀ t : Fin grid0.N, _)
theorem ix_4 : ∀ t : Fin cfg0.N, win0_4.index t = ![4 * 5 + t.val, 0] := (by decide +kernel : ∀ t : Fin grid0.N, _)
theorem ix_5 : ∀ t : Fin cfg0.N, win0_5.index t = ![5 * 5 + t.val, 0] := (by decide +kernel : ∀ t : Fin grid0.N, _)
theorem ix_6 : ∀ t : Fin cfg0.N, win0_6.index t = ![6 * 5 + t.val, 0] := (by decide +kernel : ∀ t : Fin grid0.N, _)
theorem ix_7 : ∀ t : Fin cfg0.N, win0_7.index t = ![7 * 5 + t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)

theorem V_parts (j : S5120x256.Idx) (k : Fin 8) (r : Fin 640) (q : Fin 256) (h0 : (j 0).val = k.val * 640 + r.val) (h1 : (j 1).val = q.val) :
    V m c main_v1 j = (m ((c : Thread nD τ).loc main_arg0) : FVec Ideal S8x640x256 .f32) (ix3 k r q) := by
  have e : V m c main_v1 = shapeCast S5120x256 (m ((c : Thread nD τ).loc main_arg0) : FVec Ideal S8x640x256 .f32) shapeCasts_S8x640x256_S5120x256 := by
    show StableHlo.after hostOps0 (fun b => m (c, b)) main_v1 = _
    after_results; rfl
  rw [e]
  refine shapeCast_apply _ _ j (ix3 k r q) ?_
  rw [Shape.rowMajor_val_three, Shape.rowMajor_val_two]
  show (k.val * 640 + r.val) * 256 + q.val = (j 0).val * 256 + (j 1).val
  rw [h0, h1]
theorem V_w : V m c main_arg1 = (m ((c : Thread nD τ).loc main_arg1) : FVec Ideal S640x256 .f32) := by
  show StableHlo.after hostOps0 (fun b => m (c, b)) main_arg1 = _
  after_results
theorem V_m : V m c main_arg2 = (m ((c : Thread nD τ).loc main_arg2) : FVec Ideal S640x256 .f32) := by
  show StableHlo.after hostOps0 (fun b => m (c, b)) main_arg2 = _
  after_results
theorem V_v : V m c main_arg3 = (m ((c : Thread nD τ).loc main_arg3) : FVec Ideal S640x256 .f32) := by
  show StableHlo.after hostOps0 (fun b => m (c, b)) main_arg3 = _
  after_results

theorem parts_eq (t : Fin cfg0.N) (y : S128x256.Idx) (i : S640x256.Idx) (h0 : (i 0).val = t.val * 128 + (y 0).val) (h1 : (i 1).val = (y 1).val) :
    parts m c t y = gathered (m ((c : Thread nD τ).loc main_arg0)) i := by
  have ht : t.val < 5 := t.isLt
  refine sum8_eq_gathered (m ((c : Thread nD τ).loc main_arg0)) i ?_ ?_ ?_ ?_ ?_ ?_ ?_ ?_ <;> blk_simp [iblk] <;>
    refine V_parts m c _ _ (i 0) (i 1) ?_ ?_ <;> blk_simp [ix_0, ix_1, ix_2, ix_3, ix_4, ix_5, ix_6, ix_7] <;> omega

theorem array11_eq : (dats m 0 c).arrAt 11 cfg0.N = gathered (m ((c : Thread nD τ).loc main_arg0)) := by
  refine (dats m 0 c).arrAt_eq_of_covers 11 _ (by decide +kernel) fun t hf y => ?_
  blk_simp
  rw [after0_11, out11_eq m c t y]
  refine parts_eq m c t y _ ?_ ?_ <;> blk_simp [ix_11]

theorem array12_eq : (dats m 0 c).arrAt 12 cfg0.N = fun i => change (m ((c : Thread nD τ).loc main_arg1) i) (m ((c : Thread nD τ).loc main_arg2) i)
    (m ((c : Thread nD τ).loc main_arg3) i) (gathered (m ((c : Thread nD τ).loc main_arg0)) i) := by
  refine (dats m 0 c).arrAt_eq_of_covers 12 _ (by decide +kernel) fun t hf y => ?_
  blk_simp
  rw [after0_12, out12_eq m c t y]
  refine congr (congr (congrArg₂ change ?_ ?_) ?_) (parts_eq m c t y _ ?_ ?_)
  · blk_simp [iblk, V_w]; refine congrArg _ ?_; blk_ext [ix_8, ix_12]
  · blk_simp [iblk, V_m]; refine congrArg _ ?_; blk_ext [ix_9, ix_12]
  · blk_simp [iblk, V_v]; refine congrArg _ ?_; blk_ext [ix_10, ix_12]
  all_goals blk_simp [ix_12]

theorem array13_eq : (dats m 0 c).arrAt 13 cfg0.N = fun i => mean (m ((c : Thread nD τ).loc main_arg2) i)
    (gathered (m ((c : Thread nD τ).loc main_arg0)) i) := by
  refine (dats m 0 c).arrAt_eq_of_covers 13 _ (by decide +kernel) fun t hf y => ?_
  blk_simp
  rw [after0_13, out13_eq m c t y]
  refine congrArg₂ mean ?_ (parts_eq m c t y _ ?_ ?_)
  · blk_simp [iblk, V_m]; refine congrArg _ ?_; blk_ext [ix_9, ix_13]
  all_goals blk_simp [ix_13]

theorem array14_eq : (dats m 0 c).arrAt 14 cfg0.N = fun i => meanSquare (m ((c : Thread nD τ).loc main_arg3) i)
    (gathered (m ((c : Thread nD τ).loc main_arg0)) i) := by
  refine (dats m 0 c).arrAt_eq_of_covers 14 _ (by decide +kernel) fun t hf y => ?_
  blk_simp
  rw [after0_14, out14_eq m c t y]
  refine congrArg₂ meanSquare ?_ (parts_eq m c t y _ ?_ ?_)
  · blk_simp [iblk, V_v]; refine congrArg _ ?_; blk_ext [ix_10, ix_14]
  all_goals blk_simp [ix_14]

section
open Cert.AdamQReferenceIdeal.Read

theorem reference0_eq (x : FVec Ideal S8x640x256 .f32) : val_main_v0 (F := Ideal) x = gathered x := by
  funext i
  rw [val_main_v0_apply, val_main_cst_apply]
  simp only [Ideal.ofBits_def, Ideal.ofBits_zero_f32, zero_add]
  unfold gathered
  refine Finset.sum_congr rfl fun k _ => congrArg x ?_
  funext a; fin_cases a <;> rfl

theorem reference5_eq (x : FVec Ideal S8x640x256 .f32) (a : FVec Ideal S640x256 .f32) : val_main_v5 (F := Ideal) x a = fun i => mean (a i) (gathered x i) := by
  funext i
  rw [val_main_v5_apply, val_main_v4_apply, val_main_v3_apply, val_main_v2_apply, val_main_v1_apply, val_main_cst_0_apply, val_main_cst_1_apply, reference0_eq]
  rfl

theorem reference11_eq (x : FVec Ideal S8x640x256 .f32) (b : FVec Ideal S640x256 .f32) : val_main_v11 (F := Ideal) x b = fun i => meanSquare (b i) (gathered x i) := by
  funext i
  rw [val_main_v11_apply, val_main_v10_apply, val_main_v9_apply, val_main_v8_apply, val_main_v7_apply, val_main_v6_apply, val_main_cst_2_apply,
    val_main_cst_3_apply, reference0_eq]
  rfl

theorem reference24_eq (x : FVec Ideal S8x640x256 .f32) (w a b : FVec Ideal S640x256 .f32) :
    val_main_v24 (F := Ideal) x w a b = fun i => change (w i) (a i) (b i) (gathered x i) := by
  funext i
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, reference5_eq, reference11_eq]
  rfl
end

theorem frame_reference : Cert.quiescent_AdamQReferenceIdeal (hAdamQReferenceIdeal := Cert.AdamQReferenceIdeal.Gen.facts) := fun m ρ _ =>
  (θ_run _ _ _).mono (fun r h => ⟨fun c => (h c).2.2.2.2, sem_eq_zero_of_no_sems (by decide) r.2⟩) (Cert.AdamQReferenceIdeal.Value.run (F := Ideal) m ρ)

/-- The kernel and the reference end with the same gradient, change and running means. -/
theorem value : Cert.algebraic_AdamQIdeal_AdamQReferenceIdeal (hAdamQIdeal := Cert.AdamQIdeal.Gen.facts)
    (hAdamQReferenceIdeal := Cert.AdamQReferenceIdeal.Gen.facts) := by
  intro m ρ m' ρ' _ hag
  refine ⟨_, _, _, _, (θ_run _ _ _).mono (fun r h c => ⟨(h c).1.trans (array11_eq m c), (h c).2.1.trans (array12_eq m c), (h c).2.2.1.trans (array13_eq m c),
      (h c).2.2.2.1.trans (array14_eq m c), (h c).2.2.2.2⟩) (Cert.AdamQIdeal.Value.run_blocks m ρ),
    (θ_run _ _ _).mono (fun r h c => ⟨(h c).1.trans ((Cert.AdamQReferenceIdeal.Read.val_main_v0_eq _).trans ?_),
      (h c).2.1.trans ((Cert.AdamQReferenceIdeal.Read.val_main_v24_eq _ _ _ _).trans ?_),
      (h c).2.2.1.trans ((Cert.AdamQReferenceIdeal.Read.val_main_v5_eq _ _).trans ?_),
      (h c).2.2.2.1.trans ((Cert.AdamQReferenceIdeal.Read.val_main_v11_eq _ _).trans ?_), (h c).2.2.2.2⟩)
      (Cert.AdamQReferenceIdeal.Value.run (F := Ideal) m' ρ')⟩
  · obtain ⟨a0, a1, a2, a3⟩ := hag c
    rw [a0]
    exact reference0_eq _
  · obtain ⟨a0, a1, a2, a3⟩ := hag c
    rw [a0, a1, a2, a3]
    exact reference24_eq _ _ _ _
  · obtain ⟨a0, a1, a2, a3⟩ := hag c
    rw [a0, a2]
    exact reference5_eq _ _
  · obtain ⟨a0, a1, a2, a3⟩ := hag c
    rw [a0, a3]
    exact reference11_eq _ _

end Cert.AdamQValue

end
-- ==== Proof.AdamC.lean ====
/- The optimiser's step for the slab of the output projections and the down projection: the gradient, the change of the weights and both running means. -/
module

public import proofs.«01_k».proof.Defs
public import proofs.«01_k».proof.Proof.Gen.AdamC
public import proofs.«01_k».proof.Proof.Gen.AdamC.Frame
public import proofs.«01_k».proof.Proof.Gen.AdamCIdeal
public import proofs.«01_k».proof.Proof.Gen.AdamCIdeal.Frame
public import proofs.«01_k».proof.Proof.Gen.AdamCIdeal.Value
public import proofs.«01_k».proof.Proof.Gen.AdamCReferenceIdeal
public import proofs.«01_k».proof.Proof.Gen.AdamCReferenceIdeal.Run
public import proofs.«01_k».proof.Proof.Gen.AdamCReferenceIdeal.Read
public import proofs.«01_k».proof.Proof.Adam

@[expose] public section

set_option maxRecDepth 16384

noncomputable section

namespace Cert.AdamCValue

open Cert.AdamCIdeal Cert.AdamCIdeal.Gen Cert.Products Cert.Adam Idealize.ShloMosaic Idealize.ShloMosaic.TcCoe Idealize.SL.Sem

variable (m : (ℓ : Loc nD τ sig) → Buf (Elt Ideal) ℓ) (ρ : Dev nD → PrngReg) (c : Dev nD)

/-- The eight devices' parts of point `t`'s block, added. -/
def parts (t : Fin cfg0.N) (y : S368x1024.Idx) : EReal :=
  sum8 (iblk m c 0 t y) (iblk m c 1 t y) (iblk m c 2 t y) (iblk m c 3 t y) (iblk m c 4 t y) (iblk m c 5 t y) (iblk m c 6 t y) (iblk m c 7 t y)

theorem out11_eq (t : Fin cfg0.N) (y : S368x1024.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = parts m c t y := by
  frame_out [k0_pay6]
  unfold parts k0_pay4 sum8
  simp only [pointwise, Ideal.ofBits_def]

theorem out12_eq (t : Fin cfg0.N) (y : S368x1024.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = change (iblk m c 8 t y) (iblk m c 9 t y) (iblk m c 10 t y) (parts m c t y) := by
  frame_out [k0_pay6, k0_pay7]
  unfold parts change mean meanSquare k0_pay3 k0_pay1 k0_pay2 k0_pay5 k0_pay4 sum8
  simp only [pointwise, Ideal.ofBits_def]

theorem out13_eq (t : Fin cfg0.N) (y : S368x1024.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = mean (iblk m c 9 t y) (parts m c t y) := by
  frame_out [k0_pay6, k0_pay7]
  unfold parts mean k0_pay1 k0_pay5 k0_pay4 sum8
  simp only [pointwise, Ideal.ofBits_def]

theorem out14_eq (t : Fin cfg0.N) (y : S368x1024.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = meanSquare (iblk m c 10 t y) (parts m c t y) := by
  frame_out [k0_pay6]
  unfold parts meanSquare k0_pay2 k0_pay4 sum8
  simp only [pointwise, Ideal.ofBits_def]

theorem ix_0 : ∀ t : Fin cfg0.N, win0_0.index t = ![t.val, 0] := (by decide +kernel : ∀ t : Fin grid0.N, _)
theorem ix_1 : ∀ t : Fin cfg0.N, win0_1.index t = ![1 * 2 + t.val, 0] := (by decide +kernel : ∀ t : Fin grid0.N, _)
theorem ix_2 : ∀ t : Fin cfg0.N, win0_2.index t = ![2 * 2 + t.val, 0] := (by decide +kernel : ∀ t : Fin grid0.N, _)
theorem ix_3 : ∀ t : Fin cfg0.N, win0_3.index t = ![3 * 2 + t.val, 0] := (by decide +kernel : ∀ t : Fin grid0.N, _)
theorem ix_4 : ∀ t : Fin cfg0.N, win0_4.index t = ![4 * 2 + t.val, 0] := (by decide +kernel : ∀ t : Fin grid0.N, _)
theorem ix_5 : ∀ t : Fin cfg0.N, win0_5.index t = ![5 * 2 + t.val, 0] := (by decide +kernel : ∀ t : Fin grid0.N, _)
theorem ix_6 : ∀ t : Fin cfg0.N, win0_6.index t = ![6 * 2 + t.val, 0] := (by decide +kernel : ∀ t : Fin grid0.N, _)
theorem ix_7 : ∀ t : Fin cfg0.N, win0_7.index t = ![7 * 2 + t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)

theorem V_parts (j : S5888x1024.Idx) (k : Fin 8) (r : Fin 736) (q : Fin 1024) (h0 : (j 0).val = k.val * 736 + r.val) (h1 : (j 1).val = q.val) :
    V m c main_v1 j = (m ((c : Thread nD τ).loc main_arg0) : FVec Ideal S8x736x1024 .f32) (ix3 k r q) := by
  have e : V m c main_v1 = shapeCast S5888x1024 (m ((c : Thread nD τ).loc main_arg0) : FVec Ideal S8x736x1024 .f32) shapeCasts_S8x736x1024_S5888x1024 := by
    show StableHlo.after hostOps0 (fun b => m (c, b)) main_v1 = _
    after_results; rfl
  rw [e]
  refine shapeCast_apply _ _ j (ix3 k r q) ?_
  rw [Shape.rowMajor_val_three, Shape.rowMajor_val_two]
  show (k.val * 736 + r.val) * 1024 + q.val = (j 0).val * 1024 + (j 1).val
  rw [h0, h1]
theorem V_w : V m c main_arg1 = (m ((c : Thread nD τ).loc main_arg1) : FVec Ideal S736x1024 .f32) := by
  show StableHlo.after hostOps0 (fun b => m (c, b)) main_arg1 = _
  after_results
theorem V_m : V m c main_arg2 = (m ((c : Thread nD τ).loc main_arg2) : FVec Ideal S736x1024 .f32) := by
  show StableHlo.after hostOps0 (fun b => m (c, b)) main_arg2 = _
  after_results
theorem V_v : V m c main_arg3 = (m ((c : Thread nD τ).loc main_arg3) : FVec Ideal S736x1024 .f32) := by
  show StableHlo.after hostOps0 (fun b => m (c, b)) main_arg3 = _
  after_results

theorem parts_eq (t : Fin cfg0.N) (y : S368x1024.Idx) (i : S736x1024.Idx) (h0 : (i 0).val = t.val * 368 + (y 0).val) (h1 : (i 1).val = (y 1).val) :
    parts m c t y = gathered (m ((c : Thread nD τ).loc main_arg0)) i := by
  have ht : t.val < 2 := t.isLt
  refine sum8_eq_gathered (m ((c : Thread nD τ).loc main_arg0)) i ?_ ?_ ?_ ?_ ?_ ?_ ?_ ?_ <;> blk_simp [iblk] <;>
    refine V_parts m c _ _ (i 0) (i 1) ?_ ?_ <;> blk_simp [ix_0, ix_1, ix_2, ix_3, ix_4, ix_5, ix_6, ix_7] <;> omega

theorem array11_eq : (dats m 0 c).arrAt 11 cfg0.N = gathered (m ((c : Thread nD τ).loc main_arg0)) := by
  refine (dats m 0 c).arrAt_eq_of_covers 11 _ (by decide +kernel) fun t hf y => ?_
  blk_simp
  rw [after0_11, out11_eq m c t y]
  refine parts_eq m c t y _ ?_ ?_ <;> blk_simp [ix_11]

theorem array12_eq : (dats m 0 c).arrAt 12 cfg0.N = fun i => change (m ((c : Thread nD τ).loc main_arg1) i) (m ((c : Thread nD τ).loc main_arg2) i)
    (m ((c : Thread nD τ).loc main_arg3) i) (gathered (m ((c : Thread nD τ).loc main_arg0)) i) := by
  refine (dats m 0 c).arrAt_eq_of_covers 12 _ (by decide +kernel) fun t hf y => ?_
  blk_simp
  rw [after0_12, out12_eq m c t y]
  refine congr (congr (congrArg₂ change ?_ ?_) ?_) (parts_eq m c t y _ ?_ ?_)
  · blk_simp [iblk, V_w]; refine congrArg _ ?_; blk_ext [ix_8, ix_12]
  · blk_simp [iblk, V_m]; refine congrArg _ ?_; blk_ext [ix_9, ix_12]
  · blk_simp [iblk, V_v]; refine congrArg _ ?_; blk_ext [ix_10, ix_12]
  all_goals blk_simp [ix_12]

theorem array13_eq : (dats m 0 c).arrAt 13 cfg0.N = fun i => mean (m ((c : Thread nD τ).loc main_arg2) i)
    (gathered (m ((c : Thread nD τ).loc main_arg0)) i) := by
  refine (dats m 0 c).arrAt_eq_of_covers 13 _ (by decide +kernel) fun t hf y => ?_
  blk_simp
  rw [after0_13, out13_eq m c t y]
  refine congrArg₂ mean ?_ (parts_eq m c t y _ ?_ ?_)
  · blk_simp [iblk, V_m]; refine congrArg _ ?_; blk_ext [ix_9, ix_13]
  all_goals blk_simp [ix_13]

theorem array14_eq : (dats m 0 c).arrAt 14 cfg0.N = fun i => meanSquare (m ((c : Thread nD τ).loc main_arg3) i)
    (gathered (m ((c : Thread nD τ).loc main_arg0)) i) := by
  refine (dats m 0 c).arrAt_eq_of_covers 14 _ (by decide +kernel) fun t hf y => ?_
  blk_simp
  rw [after0_14, out14_eq m c t y]
  refine congrArg₂ meanSquare ?_ (parts_eq m c t y _ ?_ ?_)
  · blk_simp [iblk, V_v]; refine congrArg _ ?_; blk_ext [ix_10, ix_14]
  all_goals blk_simp [ix_14]

section
open Cert.AdamCReferenceIdeal.Read

theorem reference0_eq (x : FVec Ideal S8x736x1024 .f32) : val_main_v0 (F := Ideal) x = gathered x := by
  funext i
  rw [val_main_v0_apply, val_main_cst_apply]
  simp only [Ideal.ofBits_def, Ideal.ofBits_zero_f32, zero_add]
  unfold gathered
  refine Finset.sum_congr rfl fun k _ => congrArg x ?_
  funext a; fin_cases a <;> rfl

theorem reference5_eq (x : FVec Ideal S8x736x1024 .f32) (a : FVec Ideal S736x1024 .f32) : val_main_v5 (F := Ideal) x a = fun i => mean (a i) (gathered x i) := by
  funext i
  rw [val_main_v5_apply, val_main_v4_apply, val_main_v3_apply, val_main_v2_apply, val_main_v1_apply, val_main_cst_0_apply, val_main_cst_1_apply, reference0_eq]
  rfl

theorem reference11_eq (x : FVec Ideal S8x736x1024 .f32) (b : FVec Ideal S736x1024 .f32) : val_main_v11 (F := Ideal) x b = fun i => meanSquare (b i) (gathered x i) := by
  funext i
  rw [val_main_v11_apply, val_main_v10_apply, val_main_v9_apply, val_main_v8_apply, val_main_v7_apply, val_main_v6_apply, val_main_cst_2_apply,
    val_main_cst_3_apply, reference0_eq]
  rfl

theorem reference24_eq (x : FVec Ideal S8x736x1024 .f32) (w a b : FVec Ideal S736x1024 .f32) :
    val_main_v24 (F := Ideal) x w a b = fun i => change (w i) (a i) (b i) (gathered x i) := by
  funext i
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, reference5_eq, reference11_eq]
  rfl
end

theorem frame_reference : Cert.quiescent_AdamCReferenceIdeal (hAdamCReferenceIdeal := Cert.AdamCReferenceIdeal.Gen.facts) := fun m ρ _ =>
  (θ_run _ _ _).mono (fun r h => ⟨fun c => (h c).2.2.2.2, sem_eq_zero_of_no_sems (by decide) r.2⟩) (Cert.AdamCReferenceIdeal.Value.run (F := Ideal) m ρ)

/-- The kernel and the reference end with the same gradient, change and running means. -/
theorem value : Cert.algebraic_AdamCIdeal_AdamCReferenceIdeal (hAdamCIdeal := Cert.AdamCIdeal.Gen.facts)
    (hAdamCReferenceIdeal := Cert.AdamCReferenceIdeal.Gen.facts) := by
  intro m ρ m' ρ' _ hag
  refine ⟨_, _, _, _, (θ_run _ _ _).mono (fun r h c => ⟨(h c).1.trans (array11_eq m c), (h c).2.1.trans (array12_eq m c), (h c).2.2.1.trans (array13_eq m c),
      (h c).2.2.2.1.trans (array14_eq m c), (h c).2.2.2.2⟩) (Cert.AdamCIdeal.Value.run_blocks m ρ),
    (θ_run _ _ _).mono (fun r h c => ⟨(h c).1.trans ((Cert.AdamCReferenceIdeal.Read.val_main_v0_eq _).trans ?_),
      (h c).2.1.trans ((Cert.AdamCReferenceIdeal.Read.val_main_v24_eq _ _ _ _).trans ?_),
      (h c).2.2.1.trans ((Cert.AdamCReferenceIdeal.Read.val_main_v5_eq _ _).trans ?_),
      (h c).2.2.2.1.trans ((Cert.AdamCReferenceIdeal.Read.val_main_v11_eq _ _).trans ?_), (h c).2.2.2.2⟩)
      (Cert.AdamCReferenceIdeal.Value.run (F := Ideal) m' ρ')⟩
  · obtain ⟨a0, a1, a2, a3⟩ := hag c
    rw [a0]
    exact reference0_eq _
  · obtain ⟨a0, a1, a2, a3⟩ := hag c
    rw [a0, a1, a2, a3]
    exact reference24_eq _ _ _ _
  · obtain ⟨a0, a1, a2, a3⟩ := hag c
    rw [a0, a2]
    exact reference5_eq _ _
  · obtain ⟨a0, a1, a2, a3⟩ := hag c
    rw [a0, a3]
    exact reference11_eq _ _

end Cert.AdamCValue

end
-- ==== Proof.AdamV.lean ====
/- The optimiser's step for the slab of the two convolutions: the gradient, the change of the weights and both running means. -/
module

public import proofs.«01_k».proof.Defs
public import proofs.«01_k».proof.Proof.Gen.AdamV
public import proofs.«01_k».proof.Proof.Gen.AdamV.Frame
public import proofs.«01_k».proof.Proof.Gen.AdamVIdeal
public import proofs.«01_k».proof.Proof.Gen.AdamVIdeal.Frame
public import proofs.«01_k».proof.Proof.Gen.AdamVIdeal.Value
public import proofs.«01_k».proof.Proof.Gen.AdamVReferenceIdeal
public import proofs.«01_k».proof.Proof.Gen.AdamVReferenceIdeal.Run
public import proofs.«01_k».proof.Proof.Gen.AdamVReferenceIdeal.Read
public import proofs.«01_k».proof.Proof.Adam

@[expose] public section

set_option maxRecDepth 16384

noncomputable section

namespace Cert.AdamVValue

open Cert.AdamVIdeal Cert.AdamVIdeal.Gen Cert.Products Cert.Adam Idealize.ShloMosaic Idealize.ShloMosaic.TcCoe Idealize.SL.Sem

variable (m : (ℓ : Loc nD τ sig) → Buf (Elt Ideal) ℓ) (ρ : Dev nD → PrngReg) (c : Dev nD)

/-- The eight devices' parts of point `t`'s block, added. -/
def parts (t : Fin cfg0.N) (y : S16x768.Idx) : EReal :=
  sum8 (iblk m c 0 t y) (iblk m c 1 t y) (iblk m c 2 t y) (iblk m c 3 t y) (iblk m c 4 t y) (iblk m c 5 t y) (iblk m c 6 t y) (iblk m c 7 t y)

theorem out11_eq (t : Fin cfg0.N) (y : S16x768.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = parts m c t y := by
  frame_out
  unfold parts k0_pay3 sum8
  simp only [pointwise, Ideal.ofBits_def]

theorem out12_eq (t : Fin cfg0.N) (y : S16x768.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = change (iblk m c 8 t y) (iblk m c 9 t y) (iblk m c 10 t y) (parts m c t y) := by
  frame_out [k0_pay7, k0_pay8, k0_pay9]
  unfold parts change mean meanSquare k0_pay2 k0_pay1 k0_pay4 k0_pay5 k0_pay6 k0_pay3 sum8
  simp only [pointwise, Ideal.ofBits_def]

theorem out13_eq (t : Fin cfg0.N) (y : S16x768.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = mean (iblk m c 9 t y) (parts m c t y) := by
  frame_out [k0_pay7]
  unfold parts mean k0_pay4 k0_pay3 sum8
  simp only [pointwise, Ideal.ofBits_def]

theorem out14_eq (t : Fin cfg0.N) (y : S16x768.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = meanSquare (iblk m c 10 t y) (parts m c t y) := by
  frame_out [k0_pay8, k0_pay9]
  unfold parts meanSquare k0_pay1 k0_pay5 k0_pay6 k0_pay3 sum8
  simp only [pointwise, Ideal.ofBits_def]

theorem ix_0 : ∀ t : Fin cfg0.N, win0_0.index t = ![t.val, 0] := (by decide +kernel : ∀ t : Fin grid0.N, _)
theorem ix_1 : ∀ t : Fin cfg0.N, win0_1.index t = ![1 * 1 + t.val, 0] := (by decide +kernel : ∀ t : Fin grid0.N, _)
theorem ix_2 : ∀ t : Fin cfg0.N, win0_2.index t = ![2 * 1 + t.val, 0] := (by decide +kernel : ∀ t : Fin grid0.N, _)
theorem ix_3 : ∀ t : Fin cfg0.N, win0_3.index t = ![3 * 1 + t.val, 0] := (by decide +kernel : ∀ t : Fin grid0.N, _)
theorem ix_4 : ∀ t : Fin cfg0.N, win0_4.index t = ![4 * 1 + t.val, 0] := (by decide +kernel : ∀ t : Fin grid0.N, _)
theorem ix_5 : ∀ t : Fin cfg0.N, win0_5.index t = ![5 * 1 + t.val, 0] := (by decide +kernel : ∀ t : Fin grid0.N, _)
theorem ix_6 : ∀ t : Fin cfg0.N, win0_6.index t = ![6 * 1 + t.val, 0] := (by decide +kernel : ∀ t : Fin grid0.N, _)
theorem ix_7 : ∀ t : Fin cfg0.N, win0_7.index t = ![7 * 1 + t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)

theorem V_parts (j : S128x768.Idx) (k : Fin 8) (r : Fin 16) (q : Fin 768) (h0 : (j 0).val = k.val * 16 + r.val) (h1 : (j 1).val = q.val) :
    V m c main_v0 j = (m ((c : Thread nD τ).loc main_arg0) : FVec Ideal S8x16x768 .f32) (ix3 k r q) := by
  have e : V m c main_v0 = shapeCast S128x768 (m ((c : Thread nD τ).loc main_arg0) : FVec Ideal S8x16x768 .f32) shapeCasts_S8x16x768_S128x768 := by
    show StableHlo.after hostOps0 (fun b => m (c, b)) main_v0 = _
    after_results; rfl
  rw [e]
  refine shapeCast_apply _ _ j (ix3 k r q) ?_
  rw [Shape.rowMajor_val_three, Shape.rowMajor_val_two]
  show (k.val * 16 + r.val) * 768 + q.val = (j 0).val * 768 + (j 1).val
  rw [h0, h1]
theorem V_w : V m c main_arg1 = (m ((c : Thread nD τ).loc main_arg1) : FVec Ideal S16x768 .f32) := by
  show StableHlo.after hostOps0 (fun b => m (c, b)) main_arg1 = _
  after_results
theorem V_m : V m c main_arg2 = (m ((c : Thread nD τ).loc main_arg2) : FVec Ideal S16x768 .f32) := by
  show StableHlo.after hostOps0 (fun b => m (c, b)) main_arg2 = _
  after_results
theorem V_v : V m c main_arg3 = (m ((c : Thread nD τ).loc main_arg3) : FVec Ideal S16x768 .f32) := by
  show StableHlo.after hostOps0 (fun b => m (c, b)) main_arg3 = _
  after_results

theorem parts_eq (t : Fin cfg0.N) (y : S16x768.Idx) (i : S16x768.Idx) (h0 : (i 0).val = t.val * 16 + (y 0).val) (h1 : (i 1).val = (y 1).val) :
    parts m c t y = gathered (m ((c : Thread nD τ).loc main_arg0)) i := by
  have ht : t.val < 1 := t.isLt
  refine sum8_eq_gathered (m ((c : Thread nD τ).loc main_arg0)) i ?_ ?_ ?_ ?_ ?_ ?_ ?_ ?_ <;> blk_simp [iblk] <;>
    refine V_parts m c _ _ (i 0) (i 1) ?_ ?_ <;> blk_simp [ix_0, ix_1, ix_2, ix_3, ix_4, ix_5, ix_6, ix_7] <;> omega

theorem array11_eq : (dats m 0 c).arrAt 11 cfg0.N = gathered (m ((c : Thread nD τ).loc main_arg0)) := by
  refine (dats m 0 c).arrAt_eq_of_covers 11 _ (by decide +kernel) fun t hf y => ?_
  blk_simp
  rw [after0_11, out11_eq m c t y]
  refine parts_eq m c t y _ ?_ ?_ <;> blk_simp [ix_11]

theorem array12_eq : (dats m 0 c).arrAt 12 cfg0.N = fun i => change (m ((c : Thread nD τ).loc main_arg1) i) (m ((c : Thread nD τ).loc main_arg2) i)
    (m ((c : Thread nD τ).loc main_arg3) i) (gathered (m ((c : Thread nD τ).loc main_arg0)) i) := by
  refine (dats m 0 c).arrAt_eq_of_covers 12 _ (by decide +kernel) fun t hf y => ?_
  blk_simp
  rw [after0_12, out12_eq m c t y]
  refine congr (congr (congrArg₂ change ?_ ?_) ?_) (parts_eq m c t y _ ?_ ?_)
  · blk_simp [iblk, V_w]; refine congrArg _ ?_; blk_ext [ix_8, ix_12]
  · blk_simp [iblk, V_m]; refine congrArg _ ?_; blk_ext [ix_9, ix_12]
  · blk_simp [iblk, V_v]; refine congrArg _ ?_; blk_ext [ix_10, ix_12]
  all_goals blk_simp [ix_12]

theorem array13_eq : (dats m 0 c).arrAt 13 cfg0.N = fun i => mean (m ((c : Thread nD τ).loc main_arg2) i)
    (gathered (m ((c : Thread nD τ).loc main_arg0)) i) := by
  refine (dats m 0 c).arrAt_eq_of_covers 13 _ (by decide +kernel) fun t hf y => ?_
  blk_simp
  rw [after0_13, out13_eq m c t y]
  refine congrArg₂ mean ?_ (parts_eq m c t y _ ?_ ?_)
  · blk_simp [iblk, V_m]; refine congrArg _ ?_; blk_ext [ix_9, ix_13]
  all_goals blk_simp [ix_13]

theorem array14_eq : (dats m 0 c).arrAt 14 cfg0.N = fun i => meanSquare (m ((c : Thread nD τ).loc main_arg3) i)
    (gathered (m ((c : Thread nD τ).loc main_arg0)) i) := by
  refine (dats m 0 c).arrAt_eq_of_covers 14 _ (by decide +kernel) fun t hf y => ?_
  blk_simp
  rw [after0_14, out14_eq m c t y]
  refine congrArg₂ meanSquare ?_ (parts_eq m c t y _ ?_ ?_)
  · blk_simp [iblk, V_v]; refine congrArg _ ?_; blk_ext [ix_10, ix_14]
  all_goals blk_simp [ix_14]

section
open Cert.AdamVReferenceIdeal.Read

theorem reference0_eq (x : FVec Ideal S8x16x768 .f32) : val_main_v0 (F := Ideal) x = gathered x := by
  funext i
  rw [val_main_v0_apply, val_main_cst_apply]
  simp only [Ideal.ofBits_def, Ideal.ofBits_zero_f32, zero_add]
  unfold gathered
  refine Finset.sum_congr rfl fun k _ => congrArg x ?_
  funext a; fin_cases a <;> rfl

theorem reference5_eq (x : FVec Ideal S8x16x768 .f32) (a : FVec Ideal S16x768 .f32) : val_main_v5 (F := Ideal) x a = fun i => mean (a i) (gathered x i) := by
  funext i
  rw [val_main_v5_apply, val_main_v4_apply, val_main_v3_apply, val_main_v2_apply, val_main_v1_apply, val_main_cst_0_apply, val_main_cst_1_apply, reference0_eq]
  rfl

theorem reference11_eq (x : FVec Ideal S8x16x768 .f32) (b : FVec Ideal S16x768 .f32) : val_main_v11 (F := Ideal) x b = fun i => meanSquare (b i) (gathered x i) := by
  funext i
  rw [val_main_v11_apply, val_main_v10_apply, val_main_v9_apply, val_main_v8_apply, val_main_v7_apply, val_main_v6_apply, val_main_cst_2_apply,
    val_main_cst_3_apply, reference0_eq]
  rfl

theorem reference24_eq (x : FVec Ideal S8x16x768 .f32) (w a b : FVec Ideal S16x768 .f32) :
    val_main_v24 (F := Ideal) x w a b = fun i => change (w i) (a i) (b i) (gathered x i) := by
  funext i
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, reference5_eq, reference11_eq]
  rfl
end

theorem frame_reference : Cert.quiescent_AdamVReferenceIdeal (hAdamVReferenceIdeal := Cert.AdamVReferenceIdeal.Gen.facts) := fun m ρ _ =>
  (θ_run _ _ _).mono (fun r h => ⟨fun c => (h c).2.2.2.2, sem_eq_zero_of_no_sems (by decide) r.2⟩) (Cert.AdamVReferenceIdeal.Value.run (F := Ideal) m ρ)

/-- The kernel and the reference end with the same gradient, change and running means. -/
theorem value : Cert.algebraic_AdamVIdeal_AdamVReferenceIdeal (hAdamVIdeal := Cert.AdamVIdeal.Gen.facts)
    (hAdamVReferenceIdeal := Cert.AdamVReferenceIdeal.Gen.facts) := by
  intro m ρ m' ρ' _ hag
  refine ⟨_, _, _, _, (θ_run _ _ _).mono (fun r h c => ⟨(h c).1.trans (array11_eq m c), (h c).2.1.trans (array12_eq m c), (h c).2.2.1.trans (array13_eq m c),
      (h c).2.2.2.1.trans (array14_eq m c), (h c).2.2.2.2⟩) (Cert.AdamVIdeal.Value.run_blocks m ρ),
    (θ_run _ _ _).mono (fun r h c => ⟨(h c).1.trans ((Cert.AdamVReferenceIdeal.Read.val_main_v0_eq _).trans ?_),
      (h c).2.1.trans ((Cert.AdamVReferenceIdeal.Read.val_main_v24_eq _ _ _ _).trans ?_),
      (h c).2.2.1.trans ((Cert.AdamVReferenceIdeal.Read.val_main_v5_eq _ _).trans ?_),
      (h c).2.2.2.1.trans ((Cert.AdamVReferenceIdeal.Read.val_main_v11_eq _ _).trans ?_), (h c).2.2.2.2⟩)
      (Cert.AdamVReferenceIdeal.Value.run (F := Ideal) m' ρ')⟩
  · obtain ⟨a0, a1, a2, a3⟩ := hag c
    rw [a0]
    exact reference0_eq _
  · obtain ⟨a0, a1, a2, a3⟩ := hag c
    rw [a0, a1, a2, a3]
    exact reference24_eq _ _ _ _
  · obtain ⟨a0, a1, a2, a3⟩ := hag c
    rw [a0, a2]
    exact reference5_eq _ _
  · obtain ⟨a0, a1, a2, a3⟩ := hag c
    rw [a0, a3]
    exact reference11_eq _ _

end Cert.AdamVValue

end
-- ==== Proof.AdamSmall.lean ====
/- The optimiser's step for the small weights: the gradient, the change of the weights and both running means. -/
module

public import proofs.«01_k».proof.Defs
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Adam

@[expose] public section

set_option maxRecDepth 16384

noncomputable section

namespace Cert.AdamSmallValue

open Cert.AdamSmallIdeal Cert.AdamSmallIdeal.Gen Cert.Products Cert.Adam Idealize.ShloMosaic Idealize.ShloMosaic.TcCoe Idealize.SL.Sem

variable (m : (ℓ : Loc nD τ sig) → Buf (Elt Ideal) ℓ) (ρ : Dev nD → PrngReg) (c : Dev nD)

/-- The eight devices' parts of point `t`'s block, added. -/
def parts (t : Fin cfg0.N) (y : S32x128.Idx) : EReal :=
  sum8 (iblk m c 0 t y) (iblk m c 1 t y) (iblk m c 2 t y) (iblk m c 3 t y) (iblk m c 4 t y) (iblk m c 5 t y) (iblk m c 6 t y) (iblk m c 7 t y)

theorem out11_eq (t : Fin cfg0.N) (y : S32x128.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = parts m c t y := by
  frame_out
  unfold parts k0_pay3 sum8
  simp only [pointwise, Ideal.ofBits_def]

theorem out12_eq (t : Fin cfg0.N) (y : S32x128.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = change (iblk m c 8 t y) (iblk m c 9 t y) (iblk m c 10 t y) (parts m c t y) := by
  frame_out [k0_pay7, k0_pay8, k0_pay9]
  unfold parts change mean meanSquare k0_pay2 k0_pay1 k0_pay4 k0_pay5 k0_pay6 k0_pay3 sum8
  simp only [pointwise, Ideal.ofBits_def]

theorem out13_eq (t : Fin cfg0.N) (y : S32x128.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = mean (iblk m c 9 t y) (parts m c t y) := by
  frame_out [k0_pay7]
  unfold parts mean k0_pay4 k0_pay3 sum8
  simp only [pointwise, Ideal.ofBits_def]

theorem out14_eq (t : Fin cfg0.N) (y : S32x128.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = meanSquare (iblk m c 10 t y) (parts m c t y) := by
  frame_out [k0_pay8, k0_pay9]
  unfold parts meanSquare k0_pay1 k0_pay5 k0_pay6 k0_pay3 sum8
  simp only [pointwise, Ideal.ofBits_def]

theorem ix_0 : ∀ t : Fin cfg0.N, win0_0.index t = ![t.val, 0] := (by decide +kernel : ∀ t : Fin grid0.N, _)
theorem ix_1 : ∀ t : Fin cfg0.N, win0_1.index t = ![1 * 1 + t.val, 0] := (by decide +kernel : ∀ t : Fin grid0.N, _)
theorem ix_2 : ∀ t : Fin cfg0.N, win0_2.index t = ![2 * 1 + t.val, 0] := (by decide +kernel : ∀ t : Fin grid0.N, _)
theorem ix_3 : ∀ t : Fin cfg0.N, win0_3.index t = ![3 * 1 + t.val, 0] := (by decide +kernel : ∀ t : Fin grid0.N, _)
theorem ix_4 : ∀ t : Fin cfg0.N, win0_4.index t = ![4 * 1 + t.val, 0] := (by decide +kernel : ∀ t : Fin grid0.N, _)
theorem ix_5 : ∀ t : Fin cfg0.N, win0_5.index t = ![5 * 1 + t.val, 0] := (by decide +kernel : ∀ t : Fin grid0.N, _)
theorem ix_6 : ∀ t : Fin cfg0.N, win0_6.index t = ![6 * 1 + t.val, 0] := (by decide +kernel : ∀ t : Fin grid0.N, _)
theorem ix_7 : ∀ t : Fin cfg0.N, win0_7.index t = ![7 * 1 + t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)
theorem ix_12 : ∀ t : Fin cfg0.N, win0_12.index t = ![t.val, 0] := (by decide +kernel : ∀ t : Fin grid0.N, _)
theorem ix_13 : ∀ t : Fin cfg0.N, win0_13.index t = ![t.val, 0] := (by decide +kernel : ∀ t : Fin grid0.N, _)
theorem ix_14 : ∀ t : Fin cfg0.N, win0_14.index t = ![t.val, 0] := (by decide +kernel : ∀ t : Fin grid0.N, _)

theorem V_parts (j : S256x128.Idx) (k : Fin 8) (r : Fin 32) (q : Fin 128) (h0 : (j 0).val = k.val * 32 + r.val) (h1 : (j 1).val = q.val) :
    V m c main_v0 j = (m ((c : Thread nD τ).loc main_arg0) : FVec Ideal S8x32x128 .f32) (ix3 k r q) := by
  have e : V m c main_v0 = shapeCast S256x128 (m ((c : Thread nD τ).loc main_arg0) : FVec Ideal S8x32x128 .f32) shapeCasts_S8x32x128_S256x128 := by
    show StableHlo.after hostOps0 (fun b => m (c, b)) main_v0 = _
    after_results; rfl
  rw [e]
  refine shapeCast_apply _ _ j (ix3 k r q) ?_
  rw [Shape.rowMajor_val_three, Shape.rowMajor_val_two]
  show (k.val * 32 + r.val) * 128 + q.val = (j 0).val * 128 + (j 1).val
  rw [h0, h1]
theorem V_w : V m c main_arg1 = (m ((c : Thread nD τ).loc main_arg1) : FVec Ideal S32x128 .f32) := by
  show StableHlo.after hostOps0 (fun b => m (c, b)) main_arg1 = _
  after_results
theorem V_m : V m c main_arg2 = (m ((c : Thread nD τ).loc main_arg2) : FVec Ideal S32x128 .f32) := by
  show StableHlo.after hostOps0 (fun b => m (c, b)) main_arg2 = _
  after_results
theorem V_v : V m c main_arg3 = (m ((c : Thread nD τ).loc main_arg3) : FVec Ideal S32x128 .f32) := by
  show StableHlo.after hostOps0 (fun b => m (c, b)) main_arg3 = _
  after_results

theorem parts_eq (t : Fin cfg0.N) (y : S32x128.Idx) (i : S32x128.Idx) (h0 : (i 0).val = t.val * 32 + (y 0).val) (h1 : (i 1).val = (y 1).val) :
    parts m c t y = gathered (m ((c : Thread nD τ).loc main_arg0)) i := by
  have ht : t.val < 1 := t.isLt
  refine sum8_eq_gathered (m ((c : Thread nD τ).loc main_arg0)) i ?_ ?_ ?_ ?_ ?_ ?_ ?_ ?_ <;> blk_simp [iblk] <;>
    refine V_parts m c _ _ (i 0) (i 1) ?_ ?_ <;> blk_simp [ix_0, ix_1, ix_2, ix_3, ix_4, ix_5, ix_6, ix_7] <;> omega

theorem array11_eq : (dats m 0 c).arrAt 11 cfg0.N = gathered (m ((c : Thread nD τ).loc main_arg0)) := by
  refine (dats m 0 c).arrAt_eq_of_covers 11 _ (by decide +kernel) fun t hf y => ?_
  blk_simp
  rw [after0_11, out11_eq m c t y]
  refine parts_eq m c t y _ ?_ ?_ <;> blk_simp [ix_11]

theorem array12_eq : (dats m 0 c).arrAt 12 cfg0.N = fun i => change (m ((c : Thread nD τ).loc main_arg1) i) (m ((c : Thread nD τ).loc main_arg2) i)
    (m ((c : Thread nD τ).loc main_arg3) i) (gathered (m ((c : Thread nD τ).loc main_arg0)) i) := by
  refine (dats m 0 c).arrAt_eq_of_covers 12 _ (by decide +kernel) fun t hf y => ?_
  blk_simp
  rw [after0_12, out12_eq m c t y]
  refine congr (congr (congrArg₂ change ?_ ?_) ?_) (parts_eq m c t y _ ?_ ?_)
  · blk_simp [iblk, V_w]; refine congrArg _ ?_; blk_ext [ix_8, ix_12]
  · blk_simp [iblk, V_m]; refine congrArg _ ?_; blk_ext [ix_9, ix_12]
  · blk_simp [iblk, V_v]; refine congrArg _ ?_; blk_ext [ix_10, ix_12]
  all_goals blk_simp [ix_12]

theorem array13_eq : (dats m 0 c).arrAt 13 cfg0.N = fun i => mean (m ((c : Thread nD τ).loc main_arg2) i)
    (gathered (m ((c : Thread nD τ).loc main_arg0)) i) := by
  refine (dats m 0 c).arrAt_eq_of_covers 13 _ (by decide +kernel) fun t hf y => ?_
  blk_simp
  rw [after0_13, out13_eq m c t y]
  refine congrArg₂ mean ?_ (parts_eq m c t y _ ?_ ?_)
  · blk_simp [iblk, V_m]; refine congrArg _ ?_; blk_ext [ix_9, ix_13]
  all_goals blk_simp [ix_13]

theorem array14_eq : (dats m 0 c).arrAt 14 cfg0.N = fun i => meanSquare (m ((c : Thread nD τ).loc main_arg3) i)
    (gathered (m ((c : Thread nD τ).loc main_arg0)) i) := by
  refine (dats m 0 c).arrAt_eq_of_covers 14 _ (by decide +kernel) fun t hf y => ?_
  blk_simp
  rw [after0_14, out14_eq m c t y]
  refine congrArg₂ meanSquare ?_ (parts_eq m c t y _ ?_ ?_)
  · blk_simp [iblk, V_v]; refine congrArg _ ?_; blk_ext [ix_10, ix_14]
  all_goals blk_simp [ix_14]

section
open Cert.AdamSmallReferenceIdeal.Read

theorem reference0_eq (x : FVec Ideal S8x32x128 .f32) : val_main_v0 (F := Ideal) x = gathered x := by
  funext i
  rw [val_main_v0_apply, val_main_cst_apply]
  simp only [Ideal.ofBits_def, Ideal.ofBits_zero_f32, zero_add]
  unfold gathered
  refine Finset.sum_congr rfl fun k _ => congrArg x ?_
  funext a; fin_cases a <;> rfl

theorem reference5_eq (x : FVec Ideal S8x32x128 .f32) (a : FVec Ideal S32x128 .f32) : val_main_v5 (F := Ideal) x a = fun i => mean (a i) (gathered x i) := by
  funext i
  rw [val_main_v5_apply, val_main_v4_apply, val_main_v3_apply, val_main_v2_apply, val_main_v1_apply, val_main_cst_0_apply, val_main_cst_1_apply, reference0_eq]
  rfl

theorem reference11_eq (x : FVec Ideal S8x32x128 .f32) (b : FVec Ideal S32x128 .f32) : val_main_v11 (F := Ideal) x b = fun i => meanSquare (b i) (gathered x i) := by
  funext i
  rw [val_main_v11_apply, val_main_v10_apply, val_main_v9_apply, val_main_v8_apply, val_main_v7_apply, val_main_v6_apply, val_main_cst_2_apply,
    val_main_cst_3_apply, reference0_eq]
  rfl

theorem reference24_eq (x : FVec Ideal S8x32x128 .f32) (w a b : FVec Ideal S32x128 .f32) :
    val_main_v24 (F := Ideal) x w a b = fun i => change (w i) (a i) (b i) (gathered x i) := by
  funext i
  rw [val_main_v24_apply, val_main_v23_apply, val_main_cst_8_apply, val_main_v22_apply, val_main_v21_apply, val_main_v20_apply, val_main_cst_7_apply,
    val_main_v19_apply, val_main_v18_apply, val_main_v17_apply, val_main_cst_6_apply, val_main_v16_apply, val_main_v15_apply, val_main_v14_apply,
    val_main_cst_5_apply, val_main_v13_apply, val_main_v12_apply, val_main_cst_4_apply, reference5_eq, reference11_eq]
  rfl
end

theorem frame_reference : Cert.quiescent_AdamSmallReferenceIdeal (hAdamSmallReferenceIdeal := Cert.AdamSmallReferenceIdeal.Gen.facts) := fun m ρ _ =>
  (θ_run _ _ _).mono (fun r h => ⟨fun c => (h c).2.2.2.2, sem_eq_zero_of_no_sems (by decide) r.2⟩) (Cert.AdamSmallReferenceIdeal.Value.run (F := Ideal) m ρ)

/-- The kernel and the reference end with the same gradient, change and running means. -/
theorem value : Cert.algebraic_AdamSmallIdeal_AdamSmallReferenceIdeal (hAdamSmallIdeal := Cert.AdamSmallIdeal.Gen.facts)
    (hAdamSmallReferenceIdeal := Cert.AdamSmallReferenceIdeal.Gen.facts) := by
  intro m ρ m' ρ' _ hag
  refine ⟨_, _, _, _, (θ_run _ _ _).mono (fun r h c => ⟨(h c).1.trans (array11_eq m c), (h c).2.1.trans (array12_eq m c), (h c).2.2.1.trans (array13_eq m c),
      (h c).2.2.2.1.trans (array14_eq m c), (h c).2.2.2.2⟩) (Cert.AdamSmallIdeal.Value.run_blocks m ρ),
    (θ_run _ _ _).mono (fun r h c => ⟨(h c).1.trans ((Cert.AdamSmallReferenceIdeal.Read.val_main_v0_eq _).trans ?_),
      (h c).2.1.trans ((Cert.AdamSmallReferenceIdeal.Read.val_main_v24_eq _ _ _ _).trans ?_),
      (h c).2.2.1.trans ((Cert.AdamSmallReferenceIdeal.Read.val_main_v5_eq _ _).trans ?_),
      (h c).2.2.2.1.trans ((Cert.AdamSmallReferenceIdeal.Read.val_main_v11_eq _ _).trans ?_), (h c).2.2.2.2⟩)
      (Cert.AdamSmallReferenceIdeal.Value.run (F := Ideal) m' ρ')⟩
  · obtain ⟨a0, a1, a2, a3⟩ := hag c
    rw [a0]
    exact reference0_eq _
  · obtain ⟨a0, a1, a2, a3⟩ := hag c
    rw [a0, a1, a2, a3]
    exact reference24_eq _ _ _ _
  · obtain ⟨a0, a1, a2, a3⟩ := hag c
    rw [a0, a2]
    exact reference5_eq _ _
  · obtain ⟨a0, a1, a2, a3⟩ := hag c
    rw [a0, a3]
    exact reference11_eq _ _

end Cert.AdamSmallValue

end
-- ==== Proof.Rope.lean ====
/- The rotation of the queries by their position: where an element finds its angle in the tables, and the rotated element. -/
module

public import proofs.«01_k».proof.Proof.Gates

@[expose] public section

noncomputable section

namespace Cert.Rope

open Idealize.ShloMosaic Cert.Products Cert.Gates

/-- The column of the tables that an element of a head reads. -/
def lane {M : ℕ} (y : (⟨2, ![M, 1024]⟩ : Shape).Idx) : (⟨2, ![M, 128]⟩ : Shape).Idx := ix2 (y 0) ⟨(y 1).val % 128, Nat.mod_lt _ (by decide)⟩

/-- The entry of the tables for an element: its position in its sequence of 4096, and its column in its head of 128. -/
def place (i : (⟨2, ![8192, 1024]⟩ : Shape).Idx) : (⟨2, ![4096, 128]⟩ : Shape).Idx :=
  ix2 ⟨(i 0).val % 4096, Nat.mod_lt _ (by decide)⟩ ⟨(i 1).val % 128, Nat.mod_lt _ (by decide)⟩

/-- An element turned by the angle with cosine `c` and sine `s`. -/
def turn (x y c s : EReal) : EReal := x * c + y * s

/-- The queries turned: their plain columns by the cosine, their swapped columns by the sine. -/
def turned (q : Mat 8192 2048) (c s : Mat 4096 128) : Mat 8192 1024 := fun i => turn (left q i) (right q i) (c (place i)) (s (place i))

/-- The gradient of an element that was multiplied by the entry `t` of a table. -/
def back (d t : EReal) : EReal := d * t

/-- The gradient of one half of the columns. -/
def turnedBack (d : Mat 8192 1024) (t : Mat 4096 128) : Mat 8192 1024 := fun i => back (d i) (t (place i))

end Cert.Rope

end
-- ==== Proof.RopeFwd.lean ====
/- The rotation of the queries, by blocks of 1024 rows: the angles' cosines and sines are read from tables of 4096 positions. -/
module

public import proofs.«01_k».proof.Defs
public import proofs.«01_k».proof.Proof.Gen.RopeFwd
public import proofs.«01_k».proof.Proof.Gen.RopeFwd.Frame
public import proofs.«01_k».proof.Proof.Gen.RopeFwdIdeal
public import proofs.«01_k».proof.Proof.Gen.RopeFwdIdeal.Frame
public import proofs.«01_k».proof.Proof.Gen.RopeFwdIdeal.Value
public import proofs.«01_k».proof.Proof.Gen.RopeFwdReferenceIdeal
public import proofs.«01_k».proof.Proof.Gen.RopeFwdReferenceIdeal.Run
public import proofs.«01_k».proof.Proof.Gen.RopeFwdReferenceIdeal.Read
public import proofs.«01_k».proof.Proof.Rope

@[expose] public section

set_option maxRecDepth 16384

noncomputable section

namespace Cert.RopeFwdValue

open Cert.RopeFwdIdeal Cert.RopeFwdIdeal.Gen Cert.Products Cert.Gates Cert.Rope Idealize.ShloMosaic Idealize.ShloMosaic.TcCoe Idealize.SL.Sem

variable (m : (ℓ : Loc nD τ sig) → Buf (Elt Ideal) ℓ) (ρ : Dev nD → PrngReg) (c : Dev nD)

theorem pay1_apply (a b : FVec Ideal S1024x1024 .bf16) (p q : FVec Ideal S1024x128 .f32) (y : S1024x1024.Idx) :
    k0_pay1 (F := Ideal) a b p q y = turn (a y) (b y) (p (lane y)) (q (lane y)) := by
  refine (Cert.RopeFwdIdeal.Value.piece4_0 (F := Ideal) a p b q y).trans ?_
  have e : r0_0.idx y = y := by
    funext x; refine Fin.ext ?_
    match x with
    | ⟨0, _⟩ => show 0 + 1 * (y 0).val = (y 0).val; omega
    | ⟨1, _⟩ => show 0 + 1 * (y 1).val = (y 1).val; omega
  have hp : ∀ n, Cert.RopeFwdIdeal.Value.Cat4_1 (F := Ideal) a p b q n = p := by intro n; fin_cases n <;> rfl
  have hq : ∀ n, Cert.RopeFwdIdeal.Value.Cat4_3 (F := Ideal) a p b q n = q := by intro n; fin_cases n <;> rfl
  rw [e]
  unfold Cert.RopeFwdIdeal.Value.E4
  rw [hp, hq]
  show turn (a _) (b _) (p _) (q _) = turn (a y) (b y) (p (lane y)) (q (lane y))
  refine congr (congr (congrArg₂ turn (congrArg a ?_) (congrArg b ?_)) (congrArg p ?_)) (congrArg q ?_) <;>
    (funext x; fin_cases x <;> rfl)

theorem out4_eq (t : Fin cfg0.N) (y : S1024x1024.Idx) : out0_4 (iblk m c 0 t) (iblk m c 1 t) (iblk m c 2 t) (iblk m c 3 t) y
    = turn (iblk m c 0 t y) (iblk m c 1 t y) (iblk m c 2 t (lane y)) (iblk m c 3 t (lane y)) := by
  frame_out
  exact pay1_apply _ _ _ _ y

theorem ix_0 : ∀ t : Fin cfg0.N, win0_0.index t = ![t.val, 0] := (by decide +kernel : ∀ t : Fin grid0.N, _)
theorem ix_1 : ∀ t : Fin cfg0.N, win0_1.index t = ![t.val, 1] := (by decide +kernel : ∀ t : Fin grid0.N, _)
theorem ix_2 : ∀ t : Fin cfg0.N, win0_2.index t = ![t.val % 4, 0] := (by decide +kernel : ∀ t : Fin grid0.N, _)
theorem ix_3 : ∀ t : Fin cfg0.N, win0_3.index t = ![t.val % 4, 0] := (by decide +kernel : ∀ t : Fin grid0.N, _)
theorem ix_4 : ∀ t : Fin cfg0.N, win0_4.index t = ![t.val, 0] := (by decide +kernel : ∀ t : Fin grid0.N, _)

theorem V_q : V m c main_v0 = (m ((c : Thread nD τ).loc main_arg0) : FVec Ideal S8192x2048 .f32) := by
  show StableHlo.after hostOps0 (fun b => m (c, b)) main_v0 = _
  after_results; rfl
theorem V_c : V m c main_arg1 = (m ((c : Thread nD τ).loc main_arg1) : FVec Ideal S4096x128 .f32) := by
  show StableHlo.after hostOps0 (fun b => m (c, b)) main_arg1 = _
  after_results
theorem V_s : V m c main_arg2 = (m ((c : Thread nD τ).loc main_arg2) : FVec Ideal S4096x128 .f32) := by
  show StableHlo.after hostOps0 (fun b => m (c, b)) main_arg2 = _
  after_results

theorem array4_eq : (dats m 0 c).arrAt 4 cfg0.N
    = turned (m ((c : Thread nD τ).loc main_arg0)) (m ((c : Thread nD τ).loc main_arg1)) (m ((c : Thread nD τ).loc main_arg2)) := by
  refine (dats m 0 c).arrAt_eq_of_covers 4 _ (by decide +kernel) fun t hf y => ?_
  have h0 : (y 0).val < 1024 := (y 0).isLt
  have h1 : (y 1).val < 1024 := (y 1).isLt
  blk_simp
  rw [after0_4, out4_eq m c t y]
  refine congr (congr (congrArg₂ turn ?_ ?_) ?_) ?_
  · unfold left; blk_simp [iblk, V_q]; refine congrArg _ ?_; blk_ext [ix_0, ix_4]
  · unfold right; blk_simp [iblk, V_q]; refine congrArg _ ?_; blk_ext [ix_1, ix_4]
  · unfold place lane; blk_simp [iblk, V_c]; refine congrArg _ ?_; blk_ext [ix_2, ix_4]
  · unfold place lane; blk_simp [iblk, V_s]; refine congrArg _ ?_; blk_ext [ix_3, ix_4]

section
open Cert.RopeFwdReferenceIdeal.Read

theorem reference12_eq (q : FVec Ideal S8192x2048 .f32) (p s : FVec Ideal S4096x128 .f32) : val_main_v12 (F := Ideal) q p s = turned q p s := by
  funext i
  have h0 : (i 0).val < 8192 := (i 0).isLt
  have h1 : (i 1).val < 1024 := (i 1).isLt
  rw [val_main_v12_apply, val_main_v11_apply, val_main_v10_apply, val_main_v5_apply, val_main_v9_apply, val_main_v2_apply, val_main_v0_apply,
    val_main_v4_apply, val_main_v3_apply, val_main_v6_apply, val_main_v1_apply, val_main_v8_apply, val_main_v7_apply]
  show turn (q _) (q _) (p _) (s _) = turn (left q i) (right q i) (p (place i)) (s (place i))
  refine congr (congr (congrArg₂ turn (congrArg q ?_) (congrArg q ?_)) (congrArg p ?_)) (congrArg s ?_) <;>
    (funext a; refine Fin.ext ?_; fin_cases a <;> simp [place] <;> omega)
end

theorem frame_reference : Cert.quiescent_RopeFwdReferenceIdeal (hRopeFwdReferenceIdeal := Cert.RopeFwdReferenceIdeal.Gen.facts) := fun m ρ _ =>
  (θ_run _ _ _).mono (fun r h => ⟨fun c => (h c).2, sem_eq_zero_of_no_sems (by decide) r.2⟩) (Cert.RopeFwdReferenceIdeal.Value.run (F := Ideal) m ρ)

/-- The kernel and the reference end with the same turned queries. -/
theorem value : Cert.algebraic_RopeFwdIdeal_RopeFwdReferenceIdeal (hRopeFwdIdeal := Cert.RopeFwdIdeal.Gen.facts)
    (hRopeFwdReferenceIdeal := Cert.RopeFwdReferenceIdeal.Gen.facts) := by
  intro m ρ m' ρ' _ hag
  refine ⟨_, (θ_run _ _ _).mono (fun r h c => ⟨(h c).1.trans (array4_eq m c), (h c).2⟩) (Cert.RopeFwdIdeal.Value.run_blocks m ρ),
    (θ_run _ _ _).mono (fun r h c => ⟨(h c).1.trans ((Cert.RopeFwdReferenceIdeal.Read.val_main_v12_eq _ _ _).trans ?_), (h c).2⟩)
      (Cert.RopeFwdReferenceIdeal.Value.run (F := Ideal) m' ρ')⟩
  obtain ⟨a0, a1, a2⟩ := hag c
  rw [a0, a1, a2]
  exact reference12_eq _ _ _

end Cert.RopeFwdValue

end
-- ==== Proof.RopeBwd.lean ====
/- The gradients of the rotation of the queries, those of both halves of the columns, by blocks of 1024 rows. -/
module

public import proofs.«01_k».proof.Defs
public import proofs.«01_k».proof.Proof.Gen.RopeBwd
public import proofs.«01_k».proof.Proof.Gen.RopeBwd.Frame
public import proofs.«01_k».proof.Proof.Gen.RopeBwdIdeal
public import proofs.«01_k».proof.Proof.Gen.RopeBwdIdeal.Frame
public import proofs.«01_k».proof.Proof.Gen.RopeBwdIdeal.Value
public import proofs.«01_k».proof.Proof.Gen.RopeBwdReferenceIdeal
public import proofs.«01_k».proof.Proof.Gen.RopeBwdReferenceIdeal.Run
public import proofs.«01_k».proof.Proof.Gen.RopeBwdReferenceIdeal.Read
public import proofs.«01_k».proof.Proof.Rope

@[expose] public section

set_option maxRecDepth 16384

noncomputable section

namespace Cert.RopeBwdValue

open Cert.RopeBwdIdeal Cert.RopeBwdIdeal.Gen Cert.Products Cert.Gates Cert.Rope Idealize.ShloMosaic Idealize.ShloMosaic.TcCoe Idealize.SL.Sem

variable (m : (ℓ : Loc nD τ sig) → Buf (Elt Ideal) ℓ) (ρ : Dev nD → PrngReg) (c : Dev nD)

theorem idx_eq (y : S1024x1024.Idx) : r0_0.idx y = y := by
  funext x; refine Fin.ext ?_
  match x with
  | ⟨0, _⟩ => show 0 + 1 * (y 0).val = (y 0).val; omega
  | ⟨1, _⟩ => show 0 + 1 * (y 1).val = (y 1).val; omega

theorem pay1_apply (a : FVec Ideal S1024x1024 .f32) (p : FVec Ideal S1024x128 .f32) (y : S1024x1024.Idx) :
    k0_pay1 (F := Ideal) a p y = back (a y) (p (lane y)) := by
  refine (Cert.RopeBwdIdeal.Value.piece3_0 (F := Ideal) a p y).trans ?_
  have hp : ∀ n, Cert.RopeBwdIdeal.Value.Cat3_1 (F := Ideal) a p n = p := by intro n; fin_cases n <;> rfl
  rw [idx_eq]
  unfold Cert.RopeBwdIdeal.Value.E3
  rw [hp]
  refine congrArg₂ back (congrArg a ?_) (congrArg p ?_) <;> (funext x; fin_cases x <;> rfl)

theorem out3_eq (t : Fin cfg0.N) (y : S1024x1024.Idx) : out0_3 (iblk m c 0 t) (iblk m c 1 t) (iblk m c 2 t) y
    = back (iblk m c 0 t y) (iblk m c 1 t (lane y)) := by
  frame_out
  exact pay1_apply _ _ y

theorem pay2_apply (a : FVec Ideal S1024x1024 .f32) (p : FVec Ideal S1024x128 .f32) (y : S1024x1024.Idx) :
    k0_pay2 (F := Ideal) a p y = back (a y) (p (lane y)) := by
  refine (Cert.RopeBwdIdeal.Value.piece4_0 (F := Ideal) a p y).trans ?_
  have hp : ∀ n, Cert.RopeBwdIdeal.Value.Cat4_1 (F := Ideal) a p n = p := by intro n; fin_cases n <;> rfl
  rw [idx_eq]
  unfold Cert.RopeBwdIdeal.Value.E4
  rw [hp]
  refine congrArg₂ back (congrArg a ?_) (congrArg p ?_) <;> (funext x; fin_cases x <;> rfl)

theorem out4_eq (t : Fin cfg0.N) (y : S1024x1024.Idx) : out0_4 (iblk m c 0 t) (iblk m c 1 t) (iblk m c 2 t) y
    = back (iblk m c 0 t y) (iblk m c 2 t (lane y)) := by
  frame_out
  exact pay2_apply _ _ y

theorem ix_0 : ∀ t : Fin cfg0.N, win0_0.index t = ![t.val, 0] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val % 4, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)

theorem V_d : V m c main_arg4 = (m ((c : Thread nD τ).loc main_arg4) : FVec Ideal S8192x1024 .f32) := rfl
theorem V_c : V m c main_arg2 = (m ((c : Thread nD τ).loc main_arg2) : FVec Ideal S4096x128 .f32) := rfl
theorem V_s : V m c main_arg3 = (m ((c : Thread nD τ).loc main_arg3) : FVec Ideal S4096x128 .f32) := rfl

theorem array3_eq : (dats m 0 c).arrAt 3 cfg0.N
    = turnedBack (m ((c : Thread nD τ).loc main_arg4)) (m ((c : Thread nD τ).loc main_arg2)) := by
  refine (dats m 0 c).arrAt_eq_of_covers 3 _ (by decide +kernel) fun t hf y => ?_
  have h0 : (y 0).val < 1024 := (y 0).isLt
  have h1 : (y 1).val < 1024 := (y 1).isLt
  blk_simp
  rw [after0_3, out3_eq m c t y]
  refine congrArg₂ back ?_ ?_
  · blk_simp [iblk, V_d]; refine congrArg _ ?_; blk_ext [ix_0, ix_3]
  · unfold place lane; blk_simp [iblk, V_c]; refine congrArg _ ?_; blk_ext [ix_1, ix_3]

theorem array4_eq : (dats m 0 c).arrAt 4 cfg0.N
    = turnedBack (m ((c : Thread nD τ).loc main_arg4)) (m ((c : Thread nD τ).loc main_arg3)) := by
  refine (dats m 0 c).arrAt_eq_of_covers 4 _ (by decide +kernel) fun t hf y => ?_
  have h0 : (y 0).val < 1024 := (y 0).isLt
  have h1 : (y 1).val < 1024 := (y 1).isLt
  blk_simp
  rw [after0_4, out4_eq m c t y]
  refine congrArg₂ back ?_ ?_
  · blk_simp [iblk, V_d]; refine congrArg _ ?_; blk_ext [ix_0, ix_4]
  · unfold place lane; blk_simp [iblk, V_s]; refine congrArg _ ?_; blk_ext [ix_2, ix_4]

section
open Cert.RopeBwdReferenceIdeal.Read

theorem reference17_eq (p : FVec Ideal S4096x128 .f32) (d : FVec Ideal S8192x1024 .f32) : val_main_v17 (F := Ideal) p d = turnedBack d p := by
  funext i
  have h0 : (i 0).val < 8192 := (i 0).isLt
  have h1 : (i 1).val < 1024 := (i 1).isLt
  rw [val_main_v17_apply, val_main_v16_apply, val_main_v15_apply, val_main_v10_apply, val_main_v14_apply, val_main_v1_apply]
  show back (d _) (p _) = back (d i) (p (place i))
  refine congrArg₂ back (congrArg d ?_) (congrArg p ?_) <;>
    (funext a; refine Fin.ext ?_; fin_cases a <;> simp [place] <;> omega)

theorem reference18_eq (p : FVec Ideal S4096x128 .f32) (d : FVec Ideal S8192x1024 .f32) : val_main_v18 (F := Ideal) p d = turnedBack d p := by
  funext i
  have h0 : (i 0).val < 8192 := (i 0).isLt
  have h1 : (i 1).val < 1024 := (i 1).isLt
  rw [val_main_v18_apply, val_main_v13_apply, val_main_v12_apply, val_main_v10_apply, val_main_v11_apply, val_main_v5_apply]
  show back (d _) (p _) = back (d i) (p (place i))
  refine congrArg₂ back (congrArg d ?_) (congrArg p ?_) <;>
    (funext a; refine Fin.ext ?_; fin_cases a <;> simp [place] <;> omega)

end

theorem frame_reference : Cert.quiescent_RopeBwdReferenceIdeal (hRopeBwdReferenceIdeal := Cert.RopeBwdReferenceIdeal.Gen.facts) := fun m ρ _ =>
  (θ_run _ _ _).mono (fun r h => ⟨fun c => (h c).2.2, sem_eq_zero_of_no_sems (by decide) r.2⟩) (Cert.RopeBwdReferenceIdeal.Value.run (F := Ideal) m ρ)

/-- The kernel and the reference end with the same gradients of both halves. -/
theorem value : Cert.algebraic_RopeBwdIdeal_RopeBwdReferenceIdeal (hRopeBwdIdeal := Cert.RopeBwdIdeal.Gen.facts)
    (hRopeBwdReferenceIdeal := Cert.RopeBwdReferenceIdeal.Gen.facts) := by
  intro m ρ m' ρ' _ hag
  refine ⟨_, _, (θ_run _ _ _).mono (fun r h c => ⟨(h c).1.trans (array3_eq m c), (h c).2.1.trans (array4_eq m c), (h c).2.2⟩)
      (Cert.RopeBwdIdeal.Value.run_blocks m ρ),
    (θ_run _ _ _).mono (fun r h c => ⟨(h c).1.trans ((Cert.RopeBwdReferenceIdeal.Read.val_main_v17_eq _ _).trans ?_),
      (h c).2.1.trans ((Cert.RopeBwdReferenceIdeal.Read.val_main_v18_eq _ _).trans ?_), (h c).2.2⟩)
      (Cert.RopeBwdReferenceIdeal.Value.run (F := Ideal) m' ρ')⟩
  · obtain ⟨a0, a1, a2, a3, a4⟩ := hag c
    rw [a2, a4]
    exact reference17_eq _ _
  · obtain ⟨a0, a1, a2, a3, a4⟩ := hag c
    rw [a3, a4]
    exact reference18_eq _ _

end Cert.RopeBwdValue

end
-- ==== Proof.Norms.lean ====
/- The norm of a row or of a head of a row: the sum of its squares, and an element over the root of their mean, with its gate. -/
module

public import proofs.«01_k».proof.Proof.Rope

@[expose] public section

noncomputable section

namespace Cert.Norms

open Idealize.ShloMosaic Cert.Products

variable {M N : ℕ}

/-- The sum of the squares of row `r`. -/
def squares (x : Mat M N) (r : Fin M) : EReal := ∑ k : Fin N, x (ix2 r k) * x (ix2 r k)

/-- A value `x` over the root of the mean of the squares `s`, of which there are `n`, and the small constant, times the weight `g`. -/
def scaled (n x s g : EReal) : EReal := x * Ideal.rsqrt (Ideal.div s n + Ideal.ofBits .f32 0x358637BD#32) * g

/-- The rows over the roots of their mean squares, times the weights. -/
def normed (n : EReal) (x : Mat M N) (w : Fin N → EReal) : Mat M N := fun i => scaled n (x i) (squares x (i 0)) (w (i 1))

/-- The mean of the squares and the small constant. -/
def spread (n s : EReal) : EReal := Ideal.div s n + Ideal.ofBits .f32 0x358637BD#32
/-- A value over the root of `spread`. -/
def unscaled (n x s : EReal) : EReal := x * Ideal.rsqrt (spread n s)
/-- What the row gives back through the root, for the row's product `d` with its weighted cotangent. -/
def throughRoot (n s d : EReal) : EReal :=
  Ideal.div (d * (Ideal.ofBits .f32 0xBF000000#32 * Ideal.div (Ideal.rsqrt (spread n s)) (spread n s))) n
/-- The gradient of a value `x` of the row for its weighted cotangent `h`. -/
def pulled (n x s d h : EReal) : EReal := h * Ideal.rsqrt (spread n s) + x * throughRoot n s d + throughRoot n s d * x
/-- The product of row `r` with its weighted cotangent. -/
def along (x h : Mat M N) (w : Fin N → EReal) (r : Fin M) : EReal := ∑ k : Fin N, x (ix2 r k) * (h (ix2 r k) * w k)
/-- The gradient of the rows, added to `r`. -/
def rowsGrad (n : EReal) (x h r : Mat M N) (w : Fin N → EReal) : Mat M N :=
  fun i => r i + pulled n (x i) (squares x (i 0)) (along x h w (i 0)) (h i * w (i 1))
/-- The gradient of the weights. -/
def weightGrad (n : EReal) (x h : Mat M N) : Mat 1 N := fun i => ∑ a : Fin M, unscaled n (x (ix2 a (i 1))) (squares x a) * h (ix2 a (i 1))

/-- The gradients of the weights from tiles of the rows add to that from all rows. -/
theorem weightGrad_tiles {K S k : ℕ} (n : EReal) (x h : Mat K N) (i y : (⟨2, ![1, N]⟩ : Shape).Idx) (xt ht : Fin S → Mat k N) (hK : K = S * k)
    (hx : ∀ (s : Fin S) (a : Fin k) (b : Fin N) (l : s.val * k + a.val < K), xt s (ix2 a b) = x (ix2 ⟨s.val * k + a.val, l⟩ b))
    (hh : ∀ (s : Fin S) (a : Fin k) (b : Fin N) (l : s.val * k + a.val < K), ht s (ix2 a b) = h (ix2 ⟨s.val * k + a.val, l⟩ b))
    (hy : y 1 = i 1) : ∑ s, weightGrad n (xt s) (ht s) y = weightGrad n x h i := by
  unfold weightGrad squares
  rw [hy]
  exact Fin.sum_mul_add_congr (fun s a l => congrArg₂ (· * ·) (congrArg₂ (unscaled n) (hx s a (i 1) l)
    (Finset.sum_congr rfl fun b _ => congrArg (fun z : EReal => z * z) (hx s a b l))) (hh s a (i 1) l)) hK

/-- The `n` columns from `a` on. -/
def columns (a n : ℕ) (h : a + n ≤ N) (x : Mat M N) : Mat M n :=
  fun i => x (ix2 (i 0) ⟨a + (i 1).val, lt_of_lt_of_le (Nat.add_lt_add_left (show (i 1).val < n from (i 1).isLt) a) h⟩)

/-- The column of lane `k` of head `h`. -/
def column (h : Fin 8) (k : Fin 128) : Fin 1024 := ⟨h.val * 128 + k.val, by omega⟩

/-- The columns of head `h`. -/
def head (x : Mat M 1024) (h : Fin 8) : Mat M 128 := fun i => x (ix2 (i 0) (column h (i 1)))

/-- The head of a column. -/
def headOf (k : Fin 1024) : Fin 8 := ⟨k.val / 128, by omega⟩
/-- The lane of a column. -/
def laneOf (k : Fin 1024) : Fin 128 := ⟨k.val % 128, by omega⟩

/-- A value under its gate `a`. -/
def gated (x a : EReal) : EReal := x * (a * Ideal.logistic a)

/-- An element of a head's norm, with the weight `g`, under its gate. -/
def headOut (o a : Mat M 1024) (g : Fin 128 → EReal) (h : Fin 8) (i : (⟨2, ![M, 128]⟩ : Shape).Idx) : EReal :=
  gated (scaled (Ideal.ofBits .f32 0x43000000#32) (head o h i) (squares (head o h) (i 0)) (g (i 1))) (head a h i)

theorem headOut_eq {o a : Mat M 1024} {g : Fin 128 → EReal} {h : Fin 8} {i : (⟨2, ![M, 128]⟩ : Shape).Idx} (x : EReal) (f : Fin 128 → EReal)
    (w b : EReal) (hx : x = head o h i) (hf : ∀ k, f k = head o h (ix2 (i 0) k)) (hw : w = g (i 1)) (hb : b = head a h i) :
    x * Ideal.rsqrt (Ideal.div (∑ k, f k * f k) (Ideal.ofBits .f32 0x43000000#32) + Ideal.ofBits .f32 0x358637BD#32) * w * (b * Ideal.logistic b)
      = headOut o a g h i := by
  rw [hx, hw, hb, Finset.sum_congr rfl fun k _ => congrArg (fun z : EReal => z * z) (hf k)]
  rfl

end Cert.Norms

end
-- ==== Proof.PrepFwd.lean ====
/- What the attention takes from the input projection: the norms of the compressed queries and of the compressed keys and values, and the rotated key, by rows of 1024. -/
module

public import proofs.«01_k».proof.Defs
public import proofs.«01_k».proof.Proof.Gen.PrepFwd
public import proofs.«01_k».proof.Proof.Gen.PrepFwd.Frame
public import proofs.«01_k».proof.Proof.Gen.PrepFwdIdeal
public import proofs.«01_k».proof.Proof.Gen.PrepFwdIdeal.Frame
public import proofs.«01_k».proof.Proof.Gen.PrepFwdIdeal.Value
public import proofs.«01_k».proof.Proof.Gen.PrepFwdReferenceIdeal
public import proofs.«01_k».proof.Proof.Gen.PrepFwdReferenceIdeal.Run
public import proofs.«01_k».proof.Proof.Gen.PrepFwdReferenceIdeal.Read
public import proofs.«01_k».proof.Proof.Norms

@[expose] public section

set_option maxRecDepth 16384

noncomputable section

namespace Cert.PrepFwdValue

open Cert.PrepFwdIdeal Cert.PrepFwdIdeal.Gen Cert.Products Cert.Rope Cert.Norms Idealize.ShloMosaic Idealize.ShloMosaic.TcCoe Idealize.SL.Sem

variable (m : (ℓ : Loc nD τ sig) → Buf (Elt Ideal) ℓ) (ρ : Dev nD → PrngReg) (c : Dev nD)

/-- The entry of the tables for an element of the rotated key. -/
def entry (i : S8192x128.Idx) : S4096x128.Idx := ix2 ⟨(i 0).val % 4096, Nat.mod_lt _ (by decide)⟩ (i 1)

theorem queries_apply (x : FVec Ideal S1024x384 .bf16) (w : FVec Ideal S1x384 .f32) (y : S1024x384.Idx) :
    k0_pay1 (F := Ideal) (k0_pay7 x w) y = scaled (Ideal.ofBits .f32 0x43C00000#32) (x y) (squares x (y 0)) (w (ix2 0 (y 1))) := by
  unfold k0_pay1 k0_pay7 scaled squares
  simp only [pointwise, zero_add, Ideal.ofBits_def]
  rfl

theorem keys_apply (x : FVec Ideal S1024x256 .f32) (a b : FVec Ideal S1024x128 .bf16) (w : FVec Ideal S1x256 .f32) (hx : x = k0_pay8 a b) (y : S1024x256.Idx) :
    k0_pay2 (F := Ideal) (k0_pay6 w) (k0_pay8 a b) (k0_pay9 a b) y
      = scaled (Ideal.ofBits .f32 0x43800000#32) (x y) (squares x (y 0)) (w (ix2 0 (y 1))) := by
  unfold k0_pay2 k0_pay6 k0_pay9 scaled squares
  rw [← hx]
  simp only [pointwise, zero_add, Ideal.ofBits_def]
  rfl

theorem rotated_apply (a b : FVec Ideal S1024x128 .bf16) (p q : FVec Ideal S1024x128 .f32) (y : S1024x128.Idx) :
    k0_pay3 (F := Ideal) (k0_pay4 a) (k0_pay5 b) p q y = turn (a y) (b y) (p y) (q y) := by
  unfold k0_pay3 k0_pay4 k0_pay5 turn
  simp only [pointwise]

/-- Two blocks of columns side by side, read at an element. -/
theorem joined_apply (P : Fin 2 → FVec Ideal S1024x128 .bf16) (y : S1024x256.Idx) (n : Fin 2) (k : Fin 128) (h : (y 1).val = n.val * 128 + k.val) :
    k0_pay8 (F := Ideal) (P 0) (P 1) y = P n (ix2 (y 0) k) := by
  have hk : k.val < 128 := k.isLt
  refine Eq.trans ?_ (shapeCast_apply (P n) shapeCasts_S1024x128_S1024x128 (ix2 (y 0) k) (ix2 (y 0) k) rfl)
  show concatenate S1024x256 1 (List.ofFn fun n : Fin 2 => (⟨S1024x128, shapeCast S1024x128 (P n) shapeCasts_S1024x128_S1024x128⟩ : (s : Shape) × (s.Idx → _)))
    concatenates_S1024x128_S1024x128_S1024x256_d1 y = _
  exact concatenate_ofFn_apply (t := S1024x256) (s₁ := S1024x128) (1 : Fin 2) (fun n => shapeCast S1024x128 (P n) shapeCasts_S1024x128_S1024x128) _ rfl 128 rfl y n
    (by show (y 1).val / 128 = n.val; omega) (ix2 (y 0) k) (by show k.val = (y 1).val % 128; omega)
    (fun b hb => by match b with | ⟨0, _⟩ => rfl | ⟨1, _⟩ => exact absurd rfl hb)

theorem ix_0 : ∀ t : Fin cfg0.N, win0_0.index t = ![t.val, 0] := (by decide +kernel : ∀ t : Fin grid0.N, _)
theorem ix_1 : ∀ t : Fin cfg0.N, win0_1.index t = ![t.val, 3] := (by decide +kernel : ∀ t : Fin grid0.N, _)
theorem ix_2 : ∀ t : Fin cfg0.N, win0_2.index t = ![t.val, 4] := (by decide +kernel : ∀ t : Fin grid0.N, _)
theorem ix_3 : ∀ t : Fin cfg0.N, win0_3.index t = ![t.val, 5] := (by decide +kernel : ∀ t : Fin grid0.N, _)
theorem ix_4 : ∀ t : Fin cfg0.N, win0_4.index t = ![t.val, 6] := (by decide +kernel : ∀ t : Fin grid0.N, _)
theorem ix_5 : ∀ t : Fin cfg0.N, win0_5.index t = ![t.val % 4, 0] := (by decide +kernel : ∀ t : Fin grid0.N, _)
theorem ix_6 : ∀ t : Fin cfg0.N, win0_6.index t = ![t.val % 4, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![t.val, 0] := (by decide +kernel : ∀ t : Fin grid0.N, _)
theorem ix_11 : ∀ t : Fin cfg0.N, win0_11.index t = ![t.val, 0] := (by decide +kernel : ∀ t : Fin grid0.N, _)

theorem V_z : V m c main_v0 = (m ((c : Thread nD τ).loc main_arg0) : FVec Ideal S8192x896 .f32) := by
  show StableHlo.after hostOps0 (fun b => m (c, b)) main_v0 = _
  after_results; rfl
theorem V_c : V m c main_arg1 = (m ((c : Thread nD τ).loc main_arg1) : FVec Ideal S4096x128 .f32) := by
  show StableHlo.after hostOps0 (fun b => m (c, b)) main_arg1 = _
  after_results
theorem V_s : V m c main_arg2 = (m ((c : Thread nD τ).loc main_arg2) : FVec Ideal S4096x128 .f32) := by
  show StableHlo.after hostOps0 (fun b => m (c, b)) main_arg2 = _
  after_results
theorem V_gq (j : S1x384.Idx) : V m c main_v1 j = (m ((c : Thread nD τ).loc main_arg3) : FVec Ideal S384 .f32) (ix1 (j 1)) := by
  have e : V m c main_v1 = shapeCast S1x384 (m ((c : Thread nD τ).loc main_arg3) : FVec Ideal S384 .f32) shapeCasts_S384_S1x384 := by
    show StableHlo.after hostOps0 (fun b => m (c, b)) main_v1 = _
    after_results; rfl
  rw [e]
  refine shapeCast_apply _ _ j (ix1 (j 1)) ?_
  rw [Shape.rowMajor_val_one, Shape.rowMajor_val_two]
  have h : (j 0).val < 1 := (j 0).isLt
  show (j 1).val = (j 0).val * 384 + (j 1).val
  omega
theorem V_gk (j : S1x256.Idx) : V m c main_v2 j = (m ((c : Thread nD τ).loc main_arg4) : FVec Ideal S256 .f32) (ix1 (j 1)) := by
  have e : V m c main_v2 = shapeCast S1x256 (m ((c : Thread nD τ).loc main_arg4) : FVec Ideal S256 .f32) shapeCasts_S256_S1x256 := by
    show StableHlo.after hostOps0 (fun b => m (c, b)) main_v2 = _
    after_results; rfl
  rw [e]
  refine shapeCast_apply _ _ j (ix1 (j 1)) ?_
  rw [Shape.rowMajor_val_one, Shape.rowMajor_val_two]
  have h : (j 0).val < 1 := (j 0).isLt
  show (j 1).val = (j 0).val * 256 + (j 1).val
  omega

theorem block0_eq (t : Fin cfg0.N) (y : S1024x384.Idx) (i : S8192x384.Idx) (h0 : (i 0).val = t.val * 1024 + (y 0).val) (h1 : (i 1).val = (y 1).val) :
    X0_0 m c t y = columns 0 384 (by decide) (m ((c : Thread nD τ).loc main_arg0) : FVec Ideal S8192x896 .f32) i := by
  unfold X0_0 Pipeline.Window.fill columns
  rw [dif_pos (moved0_0 t y)]
  blk_simp [iblk, V_z]
  refine congrArg _ ?_
  blk_ext [ix_0]

theorem block1_eq (t : Fin cfg0.N) (y : S1024x128.Idx) (i : S8192x128.Idx) (h0 : (i 0).val = t.val * 1024 + (y 0).val) (h1 : (i 1).val = (y 1).val) :
    iblk m c 1 t y = columns 384 128 (by decide) (m ((c : Thread nD τ).loc main_arg0) : FVec Ideal S8192x896 .f32) i := by
  unfold columns
  blk_simp [iblk, V_z]
  refine congrArg _ ?_
  blk_ext [ix_1]

theorem block2_eq (t : Fin cfg0.N) (y : S1024x128.Idx) (i : S8192x128.Idx) (h0 : (i 0).val = t.val * 1024 + (y 0).val) (h1 : (i 1).val = (y 1).val) :
    iblk m c 2 t y = columns 512 128 (by decide) (m ((c : Thread nD τ).loc main_arg0) : FVec Ideal S8192x896 .f32) i := by
  unfold columns
  blk_simp [iblk, V_z]
  refine congrArg _ ?_
  blk_ext [ix_2]

theorem block3_eq (t : Fin cfg0.N) (y : S1024x128.Idx) (i : S8192x128.Idx) (h0 : (i 0).val = t.val * 1024 + (y 0).val) (h1 : (i 1).val = (y 1).val) :
    iblk m c 3 t y = columns 640 128 (by decide) (m ((c : Thread nD τ).loc main_arg0) : FVec Ideal S8192x896 .f32) i := by
  unfold columns
  blk_simp [iblk, V_z]
  refine congrArg _ ?_
  blk_ext [ix_3]

theorem block4_eq (t : Fin cfg0.N) (y : S1024x128.Idx) (i : S8192x128.Idx) (h0 : (i 0).val = t.val * 1024 + (y 0).val) (h1 : (i 1).val = (y 1).val) :
    iblk m c 4 t y = columns 768 128 (by decide) (m ((c : Thread nD τ).loc main_arg0) : FVec Ideal S8192x896 .f32) i := by
  unfold columns
  blk_simp [iblk, V_z]
  refine congrArg _ ?_
  blk_ext [ix_4]

theorem joined_eq (t : Fin cfg0.N) (y : S1024x256.Idx) (i : S8192x256.Idx) (h0 : (i 0).val = t.val * 1024 + (y 0).val) (h1 : (i 1).val = (y 1).val) :
    k0_pay8 (F := Ideal) (iblk m c 1 t) (iblk m c 2 t) y = columns 384 256 (by decide) (m ((c : Thread nD τ).loc main_arg0) : FVec Ideal S8192x896 .f32) i := by
  have hy : (y 1).val < 256 := (y 1).isLt
  by_cases h : (y 1).val < 128
  · refine (joined_apply ![iblk m c 1 t, iblk m c 2 t] y 0 ⟨(y 1).val, h⟩ (by simp)).trans ?_
    refine (block1_eq m c t (ix2 (y 0) ⟨(y 1).val, h⟩) (ix2 (i 0) ⟨(y 1).val, h⟩) h0 rfl).trans ?_
    exact congrArg (fun k => (m ((c : Thread nD τ).loc main_arg0) : FVec Ideal S8192x896 .f32) (ix2 (i 0) k)) (Fin.ext (show 384 + (y 1).val = 384 + (i 1).val by omega))
  · refine (joined_apply ![iblk m c 1 t, iblk m c 2 t] y 1 ⟨(y 1).val - 128, by omega⟩ (by simp; omega)).trans ?_
    refine (block2_eq m c t (ix2 (y 0) ⟨(y 1).val - 128, by omega⟩) (ix2 (i 0) ⟨(y 1).val - 128, by omega⟩) h0 rfl).trans ?_
    exact congrArg (fun k => (m ((c : Thread nD τ).loc main_arg0) : FVec Ideal S8192x896 .f32) (ix2 (i 0) k)) (Fin.ext (show 512 + ((y 1).val - 128) = 384 + (i 1).val by omega))

theorem table5_eq (t : Fin cfg0.N) (y : S1024x128.Idx) (i : S8192x128.Idx) (h0 : (i 0).val = t.val * 1024 + (y 0).val) (h1 : (i 1).val = (y 1).val) :
    iblk m c 5 t y = (m ((c : Thread nD τ).loc main_arg1) : FVec Ideal S4096x128 .f32) (entry i) := by
  have hy : (y 0).val < 1024 := (y 0).isLt
  unfold entry
  blk_simp [iblk, V_c]
  refine congrArg _ ?_
  blk_ext [ix_5]

theorem table6_eq (t : Fin cfg0.N) (y : S1024x128.Idx) (i : S8192x128.Idx) (h0 : (i 0).val = t.val * 1024 + (y 0).val) (h1 : (i 1).val = (y 1).val) :
    iblk m c 6 t y = (m ((c : Thread nD τ).loc main_arg2) : FVec Ideal S4096x128 .f32) (entry i) := by
  have hy : (y 0).val < 1024 := (y 0).isLt
  unfold entry
  blk_simp [iblk, V_s]
  refine congrArg _ ?_
  blk_ext [ix_6]

theorem array9_eq : (dats m 0 c).arrAt 9 cfg0.N = normed (Ideal.ofBits .f32 0x43C00000#32)
    (columns 0 384 (by decide) (m ((c : Thread nD τ).loc main_arg0) : FVec Ideal S8192x896 .f32))
    (fun k => (m ((c : Thread nD τ).loc main_arg3) : FVec Ideal S384 .f32) (ix1 k)) := by
  refine (dats m 0 c).arrAt_eq_of_covers 9 _ (by decide +kernel) fun t hf y => ?_
  blk_simp
  rw [after0_9]
  unfold outsAt0
  frame_out
  refine (queries_apply _ _ y).trans ?_
  refine congr (congrArg₂ (scaled _) (block0_eq m c t y _ ?_ ?_) (Finset.sum_congr rfl fun k _ => congrArg (fun z : EReal => z * z) (block0_eq m c t _ _ ?_ ?_))) ?_
  · blk_simp [ix_9]
  · blk_simp [ix_9]
  · blk_simp [ix_9]
  · rfl
  · blk_simp [iblk]
    refine (V_gq m c _).trans (congrArg (fun k => (m ((c : Thread nD τ).loc main_arg3) : FVec Ideal S384 .f32) (ix1 k)) ?_)
    refine Fin.ext ?_
    blk_simp [ix_7, ix_9]

theorem array10_eq : (dats m 0 c).arrAt 10 cfg0.N = normed (Ideal.ofBits .f32 0x43800000#32)
    (columns 384 256 (by decide) (m ((c : Thread nD τ).loc main_arg0) : FVec Ideal S8192x896 .f32))
    (fun k => (m ((c : Thread nD τ).loc main_arg4) : FVec Ideal S256 .f32) (ix1 k)) := by
  refine (dats m 0 c).arrAt_eq_of_covers 10 _ (by decide +kernel) fun t hf y => ?_
  blk_simp
  rw [after0_10]
  unfold outsAt0
  frame_out
  refine (keys_apply _ _ _ _ rfl y).trans ?_
  refine congr (congrArg₂ (scaled _) (joined_eq m c t y _ ?_ ?_) (Finset.sum_congr rfl fun k _ => congrArg (fun z : EReal => z * z) (joined_eq m c t _ _ ?_ ?_))) ?_
  · blk_simp [ix_10]
  · blk_simp [ix_10]
  · blk_simp [ix_10]
  · rfl
  · blk_simp [iblk]
    refine (V_gk m c _).trans (congrArg (fun k => (m ((c : Thread nD τ).loc main_arg4) : FVec Ideal S256 .f32) (ix1 k)) ?_)
    refine Fin.ext ?_
    blk_simp [ix_8, ix_10]

/-- The shared key turned by its position. -/
def turnedKey (z : Mat 8192 896) (p s : Mat 4096 128) : Mat 8192 128 :=
  fun i => turn (columns 640 128 (by decide) z i) (columns 768 128 (by decide) z i) (p (entry i)) (s (entry i))

theorem array11_eq : (dats m 0 c).arrAt 11 cfg0.N
    = turnedKey (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  unfold outsAt0
  frame_out
  refine (rotated_apply _ _ _ _ y).trans ?_
  refine congr (congr (congrArg₂ turn (block3_eq m c t y _ ?_ ?_) (block4_eq m c t y _ ?_ ?_)) (table5_eq m c t y _ ?_ ?_)) (table6_eq m c t y _ ?_ ?_) <;>
    blk_simp [ix_11]

section
open Cert.PrepFwdReferenceIdeal.Read

theorem reference26_eq (z : FVec Ideal S8192x896 .f32) (g : FVec Ideal S384 .f32) :
    val_main_v26 (F := Ideal) z g = normed (Ideal.ofBits .f32 0x43C00000#32) (columns 0 384 (by decide) z) (fun k => g (ix1 k)) := by
  funext i
  rw [val_main_v26_apply, val_main_v25_apply, val_main_v22_apply, val_main_v21_apply, val_main_v20_apply, val_main_v19_apply, val_main_v17_apply,
    val_main_v16_apply, val_main_cst_0_apply, val_main_v18_apply, val_main_cst_1_apply, val_main_v15_apply, val_main_v14_apply, val_main_cst_apply,
    val_main_v24_apply, val_main_v23_apply, val_main_v0_apply]
  simp only [val_main_v13_apply, val_main_v0_apply, pointwise, Ideal.ofBits_def, Ideal.ofBits_zero_f32, zero_add]
  refine congr (congrArg₂ (scaled _) (congrArg z ?_) (Finset.sum_congr rfl fun k _ => congrArg (fun j => z j * z j) ?_)) (congrArg g ?_)
  · funext a; refine Fin.ext ?_; fin_cases a <;> simp
  · funext a; refine Fin.ext ?_; fin_cases a <;> simp
  · funext a; fin_cases a; rfl

theorem reference40_eq (z : FVec Ideal S8192x896 .f32) (g : FVec Ideal S256 .f32) :
    val_main_v40 (F := Ideal) z g = normed (Ideal.ofBits .f32 0x43800000#32) (columns 384 256 (by decide) z) (fun k => g (ix1 k)) := by
  funext i
  rw [val_main_v40_apply, val_main_v39_apply, val_main_v36_apply, val_main_v35_apply, val_main_v34_apply, val_main_v33_apply, val_main_v31_apply,
    val_main_v30_apply, val_main_cst_3_apply, val_main_v32_apply, val_main_cst_4_apply, val_main_v29_apply, val_main_v28_apply, val_main_cst_2_apply,
    val_main_v38_apply, val_main_v37_apply, val_main_v1_apply]
  simp only [val_main_v27_apply, val_main_v1_apply, pointwise, Ideal.ofBits_def, Ideal.ofBits_zero_f32, zero_add]
  refine congr (congrArg₂ (scaled _) (congrArg z ?_) (Finset.sum_congr rfl fun k _ => congrArg (fun j => z j * z j) ?_)) (congrArg g ?_)
  · funext a; refine Fin.ext ?_; fin_cases a <;> simp
  · funext a; refine Fin.ext ?_; fin_cases a <;> simp
  · funext a; fin_cases a; rfl

theorem reference42_eq (z : FVec Ideal S8192x896 .f32) (p s : FVec Ideal S4096x128 .f32) : val_main_v42 (F := Ideal) z p s = turnedKey z p s := by
  funext i
  have h0 : (i 0).val < 8192 := (i 0).isLt
  have h1 : (i 1).val < 128 := (i 1).isLt
  rw [val_main_v42_apply, val_main_v41_apply, val_main_v12_apply, val_main_v7_apply, val_main_v11_apply, val_main_v4_apply, val_main_v2_apply,
    val_main_v6_apply, val_main_v5_apply, val_main_v8_apply, val_main_v3_apply, val_main_v10_apply, val_main_v9_apply]
  show turn (z _) (z _) (p _) (s _) = turn (columns 640 128 (by decide) z i) (columns 768 128 (by decide) z i) (p (entry i)) (s (entry i))
  refine congr (congr (congrArg₂ turn (congrArg z ?_) (congrArg z ?_)) (congrArg p ?_)) (congrArg s ?_) <;>
    (funext a; refine Fin.ext ?_; fin_cases a <;> simp [entry] <;> omega)
end

theorem frame_reference : Cert.quiescent_PrepFwdReferenceIdeal (hPrepFwdReferenceIdeal := Cert.PrepFwdReferenceIdeal.Gen.facts) := fun m ρ _ =>
  (θ_run _ _ _).mono (fun r h => ⟨fun c => (h c).2.2.2, sem_eq_zero_of_no_sems (by decide) r.2⟩) (Cert.PrepFwdReferenceIdeal.Value.run (F := Ideal) m ρ)

/-- The kernel and the reference end with the same norms and the same turned key. -/
theorem value : Cert.algebraic_PrepFwdIdeal_PrepFwdReferenceIdeal (hPrepFwdIdeal := Cert.PrepFwdIdeal.Gen.facts)
    (hPrepFwdReferenceIdeal := Cert.PrepFwdReferenceIdeal.Gen.facts) := by
  intro m ρ m' ρ' _ hag
  refine ⟨_, _, _, (θ_run _ _ _).mono (fun r h c => ⟨(h c).1.trans (array9_eq m c), (h c).2.1.trans (array10_eq m c), (h c).2.2.1.trans (array11_eq m c), (h c).2.2.2⟩)
      (Cert.PrepFwdIdeal.Value.run_blocks m ρ),
    (θ_run _ _ _).mono (fun r h c => ⟨(h c).1.trans ((Cert.PrepFwdReferenceIdeal.Read.val_main_v26_eq _ _).trans ?_),
      (h c).2.1.trans ((Cert.PrepFwdReferenceIdeal.Read.val_main_v40_eq _ _).trans ?_),
      (h c).2.2.1.trans ((Cert.PrepFwdReferenceIdeal.Read.val_main_v42_eq _ _ _).trans ?_), (h c).2.2.2⟩)
      (Cert.PrepFwdReferenceIdeal.Value.run (F := Ideal) m' ρ')⟩
  · obtain ⟨a0, a1, a2, a3, a4⟩ := hag c
    rw [a0, a3]
    exact reference26_eq _ _
  · obtain ⟨a0, a1, a2, a3, a4⟩ := hag c
    rw [a0, a4]
    exact reference40_eq _ _
  · obtain ⟨a0, a1, a2, a3, a4⟩ := hag c
    rw [a0, a1, a2]
    exact reference42_eq _ _ _

end Cert.PrepFwdValue

end
-- ==== Proof.GdnOutFwd.lean ====
/- The output of the delta rule: the norm of each head of each row, under its gate, by rows of 1024. -/
module

public import proofs.«01_k».proof.Defs
public import proofs.«01_k».proof.Proof.Gen.GdnOutFwd
public import proofs.«01_k».proof.Proof.Gen.GdnOutFwd.Frame
public import proofs.«01_k».proof.Proof.Gen.GdnOutFwdIdeal
public import proofs.«01_k».proof.Proof.Gen.GdnOutFwdIdeal.Frame
public import proofs.«01_k».proof.Proof.Gen.GdnOutFwdIdeal.Value
public import proofs.«01_k».proof.Proof.Gen.GdnOutFwdReferenceIdeal
public import proofs.«01_k».proof.Proof.Gen.GdnOutFwdReferenceIdeal.Run
public import proofs.«01_k».proof.Proof.Gen.GdnOutFwdReferenceIdeal.Read
public import proofs.«01_k».proof.Proof.Norms

@[expose] public section

set_option maxRecDepth 16384

noncomputable section

namespace Cert.GdnOutFwdValue

open Cert.GdnOutFwdIdeal Cert.GdnOutFwdIdeal.Gen Cert.Products Cert.Norms Idealize.ShloMosaic Idealize.ShloMosaic.TcCoe Idealize.SL.Sem

variable (m : (ℓ : Loc nD τ sig) → Buf (Elt Ideal) ℓ) (ρ : Dev nD → PrngReg) (c : Dev nD)

/-- Eight heads side by side, read at an element. -/
theorem pay1_apply (P : Fin 8 → FVec Ideal S1024x128 .f32) (y : S1024x1024.Idx) :
    k0_pay1 (F := Ideal) (P 0) (P 1) (P 2) (P 3) (P 4) (P 5) (P 6) (P 7) y = P (headOf (y 1)) (ix2 (y 0) (laneOf (y 1))) := by
  have h1 : (y 1).val < 1024 := (y 1).isLt
  show concatenate S1024x1024 1 (List.ofFn fun n : Fin 8 => (⟨S1024x128, P n⟩ : (s : Shape) × (s.Idx → _))) concatenates_S1024x128_S1024x128_S1024x128_S1024x128_S1024x128_S1024x128_S1024x128_S1024x128_S1024x1024_d1 y = _
  exact concatenate_ofFn_apply (t := S1024x1024) (s₁ := S1024x128) (1 : Fin 2) P _ rfl 128 rfl y (headOf (y 1)) rfl (ix2 (y 0) (laneOf (y 1))) rfl
    (fun b hb => by match b with | ⟨0, _⟩ => rfl | ⟨1, _⟩ => exact absurd rfl hb)

theorem out3_eq (t : Fin cfg0.N) (y : S1024x1024.Idx) : out0_3 (iblk m c 0 t) (iblk m c 1 t) (iblk m c 2 t) y
    = headOut (iblk m c 0 t) (iblk m c 1 t) (fun k => iblk m c 2 t (ix2 0 k)) (headOf (y 1)) (ix2 (y 0) (laneOf (y 1))) := by
  frame_out [k0_pay16, k0_pay17]
  refine (pay1_apply ![_, _, _, _, _, _, _, _] y).trans ?_
  generalize headOf (y 1) = h
  generalize (ix2 (y 0) (laneOf (y 1)) : S1024x128.Idx) = z
  fin_cases h <;>
    (simp only [Fin.zero_eta, Fin.mk_one, Fin.reduceFinMk, Matrix.cons_val, k0_pay2, k0_pay3, k0_pay4, k0_pay5, k0_pay6, k0_pay7, k0_pay8, k0_pay9, k0_pay10, k0_pay11, k0_pay12, k0_pay13, k0_pay14, k0_pay15,
        pointwise, zero_add, Ideal.ofBits_def]
     refine headOut_eq _ _ _ _ ?_ (fun k => ?_) ?_ ?_
     · exact congrArg (iblk m c 0 t) (congrArg₂ ix2 (Fin.ext rfl) (Fin.ext (by first | rfl | exact (Nat.zero_add _).symm)))
     · exact congrArg (iblk m c 0 t) (congrArg₂ ix2 (Fin.ext rfl) (Fin.ext (by first | rfl | exact (Nat.zero_add _).symm)))
     · rfl
     · exact congrArg (iblk m c 1 t) (congrArg₂ ix2 (Fin.ext rfl) (Fin.ext (by first | rfl | exact (Nat.zero_add _).symm))))

theorem ix_o : ∀ t : Fin cfg0.N, win0_0.index t = ![t.val, 0] := (by decide +kernel : ∀ t : Fin grid0.N, _)
theorem ix_a : ∀ t : Fin cfg0.N, win0_1.index t = ![t.val, 0] := (by decide +kernel : ∀ t : Fin grid0.N, _)
theorem ix_g : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)

theorem V_o : V m c main_arg0 = (m ((c : Thread nD τ).loc main_arg0) : FVec Ideal S8192x1024 .f32) := by
  show StableHlo.after hostOps0 (fun b => m (c, b)) main_arg0 = _
  after_results
theorem V_a : V m c main_v0 = (m ((c : Thread nD τ).loc main_arg1) : FVec Ideal S8192x1024 .f32) := by
  show StableHlo.after hostOps0 (fun b => m (c, b)) main_v0 = _
  after_results; rfl
theorem V_g (j : S1x128.Idx) : V m c main_v1 j = (m ((c : Thread nD τ).loc main_arg2) : FVec Ideal S128 .f32) (ix1 (j 1)) := by
  have e : V m c main_v1 = shapeCast S1x128 (m ((c : Thread nD τ).loc main_arg2) : FVec Ideal S128 .f32) shapeCasts_S128_S1x128 := by
    show StableHlo.after hostOps0 (fun b => m (c, b)) main_v1 = _
    after_results; rfl
  rw [e]
  refine shapeCast_apply _ _ j (ix1 (j 1)) ?_
  rw [Shape.rowMajor_val_one, Shape.rowMajor_val_two]
  have h : (j 0).val < 1 := (j 0).isLt
  show (j 1).val = (j 0).val * 128 + (j 1).val
  omega

/-- The heads' norms under their gates. -/
def outs (o a : Mat 8192 1024) (g : FVec Ideal S128 .f32) : Mat 8192 1024 :=
  fun i => headOut o a (fun k => g (ix1 k)) (headOf (i 1)) (ix2 (i 0) (laneOf (i 1)))

theorem array3_eq : (dats m 0 c).arrAt 3 cfg0.N
    = outs (m ((c : Thread nD τ).loc main_arg0)) (m ((c : Thread nD τ).loc main_arg1)) (m ((c : Thread nD τ).loc main_arg2)) := by
  refine (dats m 0 c).arrAt_eq_of_covers 3 _ (by decide +kernel) fun t hf y => ?_
  have h0 : (y 0).val < 1024 := (y 0).isLt
  have h1 : (y 1).val < 1024 := (y 1).isLt
  blk_simp
  rw [after0_3, out3_eq m c t y]
  refine headOut_eq _ _ _ _ ?_ (fun k => ?_) ?_ ?_
  · unfold head; blk_simp [iblk, V_o]; refine congrArg _ ?_; unfold column headOf laneOf; blk_ext [ix_o, ix_3]
  · unfold head; blk_simp [iblk, V_o]; refine congrArg _ ?_; unfold column headOf; blk_ext [ix_o, ix_3]
  · blk_simp [iblk]
    refine (V_g m c _).trans (congrArg (fun k => (m ((c : Thread nD τ).loc main_arg2) : FVec Ideal S128 .f32) (ix1 k)) ?_)
    refine Fin.ext ?_
    unfold laneOf
    blk_simp [ix_g, ix_3]
  · unfold head; blk_simp [iblk, V_a]; refine congrArg _ ?_; unfold column headOf laneOf; blk_ext [ix_a, ix_3]

section
open Cert.GdnOutFwdReferenceIdeal.Read

theorem reference18_eq (o a : FVec Ideal S8192x1024 .f32) (g : FVec Ideal S128 .f32) : val_main_v18 (F := Ideal) o a g = outs o a g := by
  funext i
  have h0 : (i 0).val < 8192 := (i 0).isLt
  have h1 : (i 1).val < 1024 := (i 1).isLt
  rw [val_main_v18_apply, val_main_v17_apply, val_main_v16_apply, val_main_v13_apply, val_main_v15_apply, val_main_v10_apply, val_main_v12_apply,
    val_main_v11_apply, val_main_v9_apply, val_main_v8_apply, val_main_v7_apply, val_main_v6_apply, val_main_cst_1_apply, val_main_v5_apply,
    val_main_v4_apply, val_main_cst_0_apply, val_main_v3_apply, val_main_v2_apply, val_main_cst_apply, val_main_call0_v5_apply,
    val_main_call0_v4_apply, val_main_call0_cst_0_apply, val_main_call0_v3_apply, val_main_call0_v2_apply, val_main_call0_cst_apply,
    val_main_call0_v1_apply, val_main_call0_v0_apply, val_main_v0_apply, val_main_v14_apply]
  simp only [val_main_v1_apply, val_main_v0_apply, pointwise, Ideal.ofBits_def, Ideal.ofBits_zero_f32, Ideal.ofBits_one_f32, zero_add]
  refine headOut_eq _ _ _ _ ?_ (fun k => ?_) ?_ ?_
  · refine congrArg o ?_
    funext b; refine Fin.ext ?_; fin_cases b <;> simp [column, headOf, laneOf] <;> omega
  · refine congrArg o ?_
    funext b; refine Fin.ext ?_; fin_cases b <;> simp [column, headOf] <;> omega
  · refine congrArg g ?_
    funext b; refine Fin.ext ?_; fin_cases b; simp [laneOf] <;> omega
  · refine congrArg a ?_
    funext b; refine Fin.ext ?_; fin_cases b <;> simp [column, headOf, laneOf] <;> omega
end

theorem frame_reference : Cert.quiescent_GdnOutFwdReferenceIdeal (hGdnOutFwdReferenceIdeal := Cert.GdnOutFwdReferenceIdeal.Gen.facts) := fun m ρ _ =>
  (θ_run _ _ _).mono (fun r h => ⟨fun c => (h c).2, sem_eq_zero_of_no_sems (by decide) r.2⟩) (Cert.GdnOutFwdReferenceIdeal.Value.run (F := Ideal) m ρ)

/-- The kernel and the reference end with the same heads. -/
theorem value : Cert.algebraic_GdnOutFwdIdeal_GdnOutFwdReferenceIdeal (hGdnOutFwdIdeal := Cert.GdnOutFwdIdeal.Gen.facts)
    (hGdnOutFwdReferenceIdeal := Cert.GdnOutFwdReferenceIdeal.Gen.facts) := by
  intro m ρ m' ρ' _ hag
  refine ⟨_, (θ_run _ _ _).mono (fun r h c => ⟨(h c).1.trans (array3_eq m c), (h c).2⟩) (Cert.GdnOutFwdIdeal.Value.run_blocks m ρ),
    (θ_run _ _ _).mono (fun r h c => ⟨(h c).1.trans ((Cert.GdnOutFwdReferenceIdeal.Read.val_main_v18_eq _ _ _).trans ?_), (h c).2⟩)
      (Cert.GdnOutFwdReferenceIdeal.Value.run (F := Ideal) m' ρ')⟩
  obtain ⟨a0, a1, a2⟩ := hag c
  rw [a0, a1, a2]
  exact reference18_eq _ _ _

end Cert.GdnOutFwdValue

end
-- ==== Proof.NormBwd.lean ====
/- The gradients of the norm: of the rows, with the residual's gradient added, by rows of 1024, and of the weights, summed over the points. -/
module

public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdReferenceIdeal
public import proofs.«01_k».proof.Proof.Gen.NormBwdReferenceIdeal.Run
public import proofs.«01_k».proof.Proof.Gen.NormBwdReferenceIdeal.Read
public import proofs.«01_k».proof.Proof.Norms

@[expose] public section

set_option maxRecDepth 16384

noncomputable section

namespace Cert.NormBwdValue

open Cert.NormBwdIdeal Cert.NormBwdIdeal.Gen Cert.Products Cert.Rope Cert.Norms Idealize.ShloMosaic Idealize.ShloMosaic.TcCoe Idealize.SL.Sem

variable (m : (ℓ : Loc nD τ sig) → Buf (Elt Ideal) ℓ) (ρ : Dev nD → PrngReg) (c : Dev nD)

theorem pay3_apply (x : FVec Ideal S1024x1024 .f32) (y : S1024x1.Idx) : k0_pay3 (F := Ideal) x y = spread (Ideal.ofBits .f32 0x44800000#32) (squares x (y 0)) := by
  unfold k0_pay3 spread squares
  simp only [pointwise, zero_add, Ideal.ofBits_def]

theorem pay4_apply (x : FVec Ideal S1024x1024 .f32) (y : S1024x1.Idx) : k0_pay4 (F := Ideal) x y = Ideal.rsqrt (spread (Ideal.ofBits .f32 0x44800000#32) (squares x (y 0))) := by
  unfold k0_pay4
  simp only [pointwise, pay3_apply]

theorem pay5_apply (d : FVec Ideal S1024x1024 .bf16) (y : S1024x1024.Idx) : k0_pay5 (F := Ideal) d y = d y := by
  unfold k0_pay5
  simp only [pointwise]

theorem pay6_apply (x : FVec Ideal S1024x1024 .f32) (d : FVec Ideal S1024x1024 .bf16) (y : S1x1024.Idx) :
    k0_pay6 (F := Ideal) x d y = weightGrad (Ideal.ofBits .f32 0x44800000#32) x d y := by
  unfold k0_pay6 weightGrad unscaled
  simp only [pointwise, zero_add, pay4_apply, pay5_apply]
  rfl

theorem pay7_apply (x : FVec Ideal S1024x1024 .f32) (d : FVec Ideal S1024x1024 .bf16) (r : FVec Ideal S1024x1024 .f32) (w : FVec Ideal S1x1024 .f32)
    (y : S1024x1024.Idx) : k0_pay7 (F := Ideal) x d r w y = rowsGrad (Ideal.ofBits .f32 0x44800000#32) x d r (fun k => w (ix2 0 k)) y := by
  unfold k0_pay7 rowsGrad pulled throughRoot along
  simp only [pointwise, zero_add, pay3_apply, pay4_apply, pay5_apply, Ideal.ofBits_def, Fin.sum_univ_one]
  rfl

theorem out4_eq (t : Fin cfg0.N) : (outsAt0 m c t.val t.isLt).1 = k0_pay7 (iblk m c 0 t) (iblk m c 1 t) (iblk m c 2 t) (iblk m c 3 t) := by
  by_cases h : t.val % 8 = 0
  · rw [outsAt0_A m c t h]; frame_out
  · rw [outsAt0_B m c t h]; frame_out

/-- The weights' gradient after the last point is the sum of what the points add. -/
theorem acc_eq (t : Fin cfg0.N) (ht : t.val % 8 = 7) (y : S1x1024.Idx) :
    (outsAt0 m c t.val t.isLt).2 y = 0 + ∑ s : Fin 8, weightGrad (Ideal.ofBits .f32 0x44800000#32) (iblk m c 0 ⟨8 * (t.val / 8) + s.val, Pipeline.run_point_lt_of_flush t ht s⟩)
      (iblk m c 1 ⟨8 * (t.val / 8) + s.val, Pipeline.run_point_lt_of_flush t ht s⟩) y := by
  rw [Pipeline.eq_sum_fin_of_reset_step_apply_of_flush (fun n h => (outsAt0 m c n h).2) 8 (fun _ => 0)
    (fun t y => weightGrad (Ideal.ofBits .f32 0x44800000#32) (iblk m c 0 t) (iblk m c 1 t) y)
    (fun t h y => by
      rw [outsAt0_A m c t h]; frame_out
      unfold k0_pay2 k0_pay1; simp only [pointwise, zero_add, Ideal.ofBits_def, Ideal.ofBits_zero_f32]; exact pay6_apply _ _ y)
    (fun t h y => by
      rw [outsAt0_B m c t h]; frame_out
      unfold k0_pay2; simp only [pointwise]; rw [pay6_apply]) t ht y]

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![0, 0] := (by decide +kernel : ∀ t : Fin grid0.N, _)

theorem V_x : V m c main_arg0 = (m ((c : Thread nD τ).loc main_arg0) : FVec Ideal S8192x1024 .f32) := by
  show StableHlo.after hostOps0 (fun b => m (c, b)) main_arg0 = _
  after_results
theorem V_h : V m c main_v1 = (m ((c : Thread nD τ).loc main_arg2) : FVec Ideal S8192x1024 .f32) := by
  show StableHlo.after hostOps0 (fun b => m (c, b)) main_v1 = _
  after_results; rfl
theorem V_r : V m c main_arg3 = (m ((c : Thread nD τ).loc main_arg3) : FVec Ideal S8192x1024 .f32) := by
  show StableHlo.after hostOps0 (fun b => m (c, b)) main_arg3 = _
  after_results
theorem V_w (j : S1x1024.Idx) : V m c main_v0 j = (m ((c : Thread nD τ).loc main_arg1) : FVec Ideal S1024 .f32) (ix1 (j 1)) := by
  have e : V m c main_v0 = shapeCast S1x1024 (m ((c : Thread nD τ).loc main_arg1) : FVec Ideal S1024 .f32) shapeCasts_S1024_S1x1024 := by
    show StableHlo.after hostOps0 (fun b => m (c, b)) main_v0 = _
    after_results; rfl
  rw [e]
  refine shapeCast_apply _ _ j (ix1 (j 1)) ?_
  rw [Shape.rowMajor_val_one, Shape.rowMajor_val_two]
  have h : (j 0).val < 1 := (j 0).isLt
  show (j 1).val = (j 0).val * 1024 + (j 1).val
  omega

theorem block0_eq (t : Fin cfg0.N) (y : S1024x1024.Idx) (i : S8192x1024.Idx) (h0 : (i 0).val = t.val * 1024 + (y 0).val) (h1 : (i 1).val = (y 1).val) :
    iblk m c 0 t y = (m ((c : Thread nD τ).loc main_arg0) : FVec Ideal S8192x1024 .f32) i := by
  blk_simp [iblk, V_x]
  refine congrArg _ ?_
  blk_ext [ix_0]

theorem block1_eq (t : Fin cfg0.N) (y : S1024x1024.Idx) (i : S8192x1024.Idx) (h0 : (i 0).val = t.val * 1024 + (y 0).val) (h1 : (i 1).val = (y 1).val) :
    iblk m c 1 t y = (m ((c : Thread nD τ).loc main_arg2) : FVec Ideal S8192x1024 .f32) i := by
  blk_simp [iblk, V_h]
  refine congrArg _ ?_
  blk_ext [ix_1]

theorem block2_eq (t : Fin cfg0.N) (y : S1024x1024.Idx) (i : S8192x1024.Idx) (h0 : (i 0).val = t.val * 1024 + (y 0).val) (h1 : (i 1).val = (y 1).val) :
    iblk m c 2 t y = (m ((c : Thread nD τ).loc main_arg3) : FVec Ideal S8192x1024 .f32) i := by
  blk_simp [iblk, V_r]
  refine congrArg _ ?_
  blk_ext [ix_2]

theorem block3_eq (t : Fin cfg0.N) (k l : Fin 1024) (h : k.val = l.val) :
    iblk m c 3 t (ix2 0 k) = (m ((c : Thread nD τ).loc main_arg1) : FVec Ideal S1024 .f32) (ix1 l) := by
  blk_simp [iblk]
  refine (V_w m c _).trans (congrArg (fun k => (m ((c : Thread nD τ).loc main_arg1) : FVec Ideal S1024 .f32) (ix1 k)) ?_)
  refine Fin.ext ?_
  blk_simp [ix_3]
  exact h

theorem array4_eq : (dats m 0 c).arrAt 4 cfg0.N = rowsGrad (Ideal.ofBits .f32 0x44800000#32) (m ((c : Thread nD τ).loc main_arg0) : FVec Ideal S8192x1024 .f32) (m ((c : Thread nD τ).loc main_arg2) : FVec Ideal S8192x1024 .f32) (m ((c : Thread nD τ).loc main_arg3) : FVec Ideal S8192x1024 .f32)
    (fun k => (m ((c : Thread nD τ).loc main_arg1) : FVec Ideal S1024 .f32) (ix1 k)) := by
  refine (dats m 0 c).arrAt_eq_of_covers 4 _ (by decide +kernel) fun t hf y => ?_
  blk_simp
  rw [after0_4, out4_eq m c t]
  refine (pay7_apply _ _ _ _ y).trans ?_
  refine congrArg₂ (· + ·) (block2_eq m c t y _ ?_ ?_) (congr (congr (congrArg₂ (pulled _) (block0_eq m c t y _ ?_ ?_)
    (Finset.sum_congr rfl fun k _ => congrArg (fun z : EReal => z * z) (block0_eq m c t _ _ ?_ ?_)))
    (Finset.sum_congr rfl fun k _ => congrArg₂ (· * ·) (block0_eq m c t _ _ ?_ ?_) (congrArg₂ (· * ·) (block1_eq m c t _ _ ?_ ?_) (block3_eq m c t k k rfl))))
    (congrArg₂ (· * ·) (block1_eq m c t y _ ?_ ?_) (block3_eq m c t _ _ ?_))) <;>
    first | (blk_simp [ix_4]; done) | rfl

theorem array5_eq : (dats m 0 c).arrAt 5 cfg0.N = weightGrad (Ideal.ofBits .f32 0x44800000#32) (m ((c : Thread nD τ).loc main_arg0) : FVec Ideal S8192x1024 .f32) (m ((c : Thread nD τ).loc main_arg2) : FVec Ideal S8192x1024 .f32) := by
  refine (dats m 0 c).arrAt_eq_of_covers 5 _ (by decide +kernel) fun t hf y => ?_
  have ht : t.val % 8 = 7 := (flush0_5 t).mp hf
  have hN : t.val < 8 := t.isLt
  blk_simp
  rw [after0_5, acc_eq m c t ht, zero_add]
  refine weightGrad_tiles _ _ _ _ y _ _ (by decide) (fun s a b l => block0_eq m c _ _ _ ?_ rfl) (fun s a b l => block1_eq m c _ _ _ ?_ rfl) ?_
  · show s.val * 1024 + a.val = (8 * (t.val / 8) + s.val) * 1024 + a.val
    omega
  · show s.val * 1024 + a.val = (8 * (t.val / 8) + s.val) * 1024 + a.val
    omega
  · refine Fin.ext ?_
    blk_simp [ix_5]

section
open Cert.NormBwdReferenceIdeal.Read

theorem mean_eq (x : FVec Ideal S8192x1024 .f32) (i : Cert.NormBwdReferenceIdeal.S8192x1.Idx) : val_main_v6 (F := Ideal) x i = spread (Ideal.ofBits .f32 0x44800000#32) (squares x (i 0)) := by
  rw [val_main_v6_apply, val_main_v4_apply, val_main_v3_apply, val_main_cst_0_apply, val_main_v5_apply, val_main_cst_1_apply, val_main_v2_apply,
    val_main_v1_apply, val_main_cst_apply]
  simp only [val_main_v0_apply, pointwise, Ideal.ofBits_def, Ideal.ofBits_zero_f32, zero_add]
  unfold spread squares
  refine congrArg (fun s => Ideal.div s _ + _) (Finset.sum_congr rfl fun k _ => congrArg (fun j => x j * x j) ?_)
  funext a; fin_cases a <;> rfl

theorem root_eq (x : FVec Ideal S8192x1024 .f32) (i : Cert.NormBwdReferenceIdeal.S8192x1.Idx) : val_main_v7 (F := Ideal) x i = Ideal.rsqrt (spread (Ideal.ofBits .f32 0x44800000#32) (squares x (i 0))) := by
  rw [val_main_v7_apply, mean_eq]
  rfl

theorem weighted_eq (g : FVec Ideal S1024 .f32) (h : FVec Ideal S8192x1024 .f32) (i : S8192x1024.Idx) : val_main_v20 (F := Ideal) g h i = h i * g (ix1 (i 1)) := by
  rw [val_main_v20_apply, val_main_v19_apply, val_main_v13_apply]
  refine congrArg (fun j => h i * g j) ?_
  funext a; fin_cases a; rfl

theorem along_eq (x : FVec Ideal S8192x1024 .f32) (g : FVec Ideal S1024 .f32) (h : FVec Ideal S8192x1024 .f32) (i : Cert.NormBwdReferenceIdeal.S8192.Idx) :
    val_main_v23 (F := Ideal) x g h i = along x h (fun k => g (ix1 k)) (i 0) := by
  rw [val_main_v23_apply, val_main_cst_5_apply]
  simp only [val_main_v22_apply, weighted_eq, pointwise, Ideal.ofBits_def, Ideal.ofBits_zero_f32, zero_add]
  refine Finset.sum_congr rfl fun k _ => ?_
  have e : idx_main_v23 i k = ix2 (i 0) k := by funext a; fin_cases a <;> rfl
  rw [e]
  rfl

theorem throughRoot_eq (x : FVec Ideal S8192x1024 .f32) (g : FVec Ideal S1024 .f32) (h : FVec Ideal S8192x1024 .f32) (i : S8192x1024.Idx) :
    val_main_v31 (F := Ideal) x g h i = throughRoot (Ideal.ofBits .f32 0x44800000#32) (squares x (i 0)) (along x h (fun k => g (ix1 k)) (i 0)) := by
  rw [val_main_v31_apply, val_main_v30_apply, val_main_cst_7_apply]
  simp only [val_main_v29_apply, val_main_v27_apply, val_main_v24_apply, val_main_v10_apply, val_main_v9_apply, val_main_cst_2_apply, val_main_v8_apply,
    val_main_v28_apply, val_main_cst_6_apply, root_eq, mean_eq, along_eq, pointwise, Ideal.ofBits_def, Ideal.ofBits_zero_f32, zero_add, Fin.sum_univ_one]
  have e : idx_main_v24 (idx_main_v30 (idx_main_v31 i) 0) 0 = i 0 := Fin.ext (by simp)
  rw [e]
  rfl

theorem reference36_eq (x : FVec Ideal S8192x1024 .f32) (g : FVec Ideal S1024 .f32) (h r : FVec Ideal S8192x1024 .f32) :
    val_main_v36 (F := Ideal) x g h r = rowsGrad (Ideal.ofBits .f32 0x44800000#32) x h r (fun k => g (ix1 k)) := by
  funext i
  rw [val_main_v36_apply, val_main_v35_apply, val_main_v33_apply, val_main_v34_apply, val_main_v32_apply, val_main_v26_apply, val_main_v25_apply,
    throughRoot_eq, weighted_eq, root_eq]
  rfl

theorem reference37_eq (x h : FVec Ideal S8192x1024 .f32) : val_main_v37 (F := Ideal) x h = weightGrad (Ideal.ofBits .f32 0x44800000#32) x h := by
  funext i
  rw [val_main_v37_apply, val_main_v21_apply, val_main_cst_4_apply]
  simp only [val_main_v18_apply, val_main_v17_apply, val_main_cst_3_apply, val_main_v16_apply, val_main_v12_apply, val_main_v11_apply, root_eq, pointwise,
    Ideal.ofBits_def, Ideal.ofBits_zero_f32, zero_add, Fin.sum_univ_one]
  unfold weightGrad unscaled
  refine Finset.sum_congr rfl fun a _ => ?_
  have e : idx_main_v17 (idx_main_v18 (idx_main_v21 (idx_main_v37 i) 0)) a = ix2 a (i 1) := by
    have h0 : (i 0).val < 1 := (i 0).isLt
    have h1 : (i 1).val < 1024 := (i 1).isLt
    funext b; refine Fin.ext ?_; fin_cases b <;> simp <;> omega
  rw [e]
  rfl
end

theorem frame_reference : Cert.quiescent_NormBwdReferenceIdeal (hNormBwdReferenceIdeal := Cert.NormBwdReferenceIdeal.Gen.facts) := fun m ρ _ =>
  (θ_run _ _ _).mono (fun r h => ⟨fun c => (h c).2.2, sem_eq_zero_of_no_sems (by decide) r.2⟩) (Cert.NormBwdReferenceIdeal.Value.run (F := Ideal) m ρ)

/-- The kernel and the reference end with the same gradients. -/
theorem value : Cert.algebraic_NormBwdIdeal_NormBwdReferenceIdeal (hNormBwdIdeal := Cert.NormBwdIdeal.Gen.facts)
    (hNormBwdReferenceIdeal := Cert.NormBwdReferenceIdeal.Gen.facts) := by
  intro m ρ m' ρ' _ hag
  refine ⟨_, _, (θ_run _ _ _).mono (fun r h c => ⟨(h c).1.trans (array4_eq m c), (h c).2.1.trans (array5_eq m c), (h c).2.2⟩)
      (Cert.NormBwdIdeal.Value.run_blocks m ρ),
    (θ_run _ _ _).mono (fun r h c => ⟨(h c).1.trans ((Cert.NormBwdReferenceIdeal.Read.val_main_v36_eq _ _ _ _).trans ?_),
      (h c).2.1.trans ((Cert.NormBwdReferenceIdeal.Read.val_main_v37_eq _ _).trans ?_), (h c).2.2⟩)
      (Cert.NormBwdReferenceIdeal.Value.run (F := Ideal) m' ρ')⟩
  · obtain ⟨a0, a1, a2, a3⟩ := hag c
    rw [a0, a1, a2, a3]
    exact reference36_eq _ _ _ _
  · obtain ⟨a0, a1, a2, a3⟩ := hag c
    rw [a0, a2]
    exact reference37_eq _ _

end Cert.NormBwdValue

end
-- ==== Proof.lean ====
/- The claims about the attention's backward call for the keys and the values: its frames, and that on finite arguments it
   ends with the gradients that the reference computes. The kernel's arrays are read in `Proof/Arrays.lean`, the reference's in
   `Proof/RefValue.lean`, and both are compared with the formulas of `Proof/AttnMath.lean`. -/
module

public import proofs.«01_k».proof.Defs
public import proofs.«01_k».proof.Proof.Arrays
public import proofs.«01_k».proof.Proof.RefValue
public import proofs.«01_k».proof.Proof.Finite
public import proofs.«01_k».proof.Proof.UpDw
public import proofs.«01_k».proof.Proof.UpDx
public import proofs.«01_k».proof.Proof.UpDxAdd
public import proofs.«01_k».proof.Proof.DownDw
public import proofs.«01_k».proof.Proof.DownDx
public import proofs.«01_k».proof.Proof.QkvDw
public import proofs.«01_k».proof.Proof.QkvDx
public import proofs.«01_k».proof.Proof.UpFwd
public import proofs.«01_k».proof.Proof.DownFwd
public import proofs.«01_k».proof.Proof.QkvFwd
public import proofs.«01_k».proof.Proof.GbrFwd
public import proofs.«01_k».proof.Proof.GbrDw
public import proofs.«01_k».proof.Proof.GbrDx
public import proofs.«01_k».proof.Proof.MixDw
public import proofs.«01_k».proof.Proof.MixDx
public import proofs.«01_k».proof.Proof.OutFwd
public import proofs.«01_k».proof.Proof.OutDw
public import proofs.«01_k».proof.Proof.OutDx
public import proofs.«01_k».proof.Proof.GaFwd
public import proofs.«01_k».proof.Proof.GaDx
public import proofs.«01_k».proof.Proof.SmallFwd
public import proofs.«01_k».proof.Proof.SmallDw
public import proofs.«01_k».proof.Proof.SmallDx
public import proofs.«01_k».proof.Proof.UqFwd
public import proofs.«01_k».proof.Proof.UqDw
public import proofs.«01_k».proof.Proof.UqDx
public import proofs.«01_k».proof.Proof.UkvFwd
public import proofs.«01_k».proof.Proof.UkvDw
public import proofs.«01_k».proof.Proof.UkvDx
public import proofs.«01_k».proof.Proof.UkvDxAdd
public import proofs.«01_k».proof.Proof.MergeFwd
public import proofs.«01_k».proof.Proof.MergeBwd
public import proofs.«01_k».proof.Proof.NormFwd
public import proofs.«01_k».proof.Proof.AbFwd
public import proofs.«01_k».proof.Proof.AbDw
public import proofs.«01_k».proof.Proof.AbDx
public import proofs.«01_k».proof.Proof.QpFwd
public import proofs.«01_k».proof.Proof.UqDxAdd
public import proofs.«01_k».proof.Proof.AdamIn
public import proofs.«01_k».proof.Proof.AdamQ
public import proofs.«01_k».proof.Proof.AdamC
public import proofs.«01_k».proof.Proof.AdamV
public import proofs.«01_k».proof.Proof.AdamSmall
public import proofs.«01_k».proof.Proof.RopeFwd
public import proofs.«01_k».proof.Proof.RopeBwd
public import proofs.«01_k».proof.Proof.PrepFwd
public import proofs.«01_k».proof.Proof.GdnOutFwd
public import proofs.«01_k».proof.Proof.NormBwd
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem

theorem facts_finite : Cert.Pre_finite.Facts := ⟨by decide, by decide, by decide⟩

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
        = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4)
        = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5)
        = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m ρ)

/-- The kernel and the reference end with the same gradients. -/
theorem gradients [Cert.Pre_finite.Facts] : Cert.algebraic_KernelIdeal_ReferenceIdeal_pre_finite
    (hKernelIdeal := Cert.KernelIdeal.Gen.facts) (hReferenceIdeal := Cert.ReferenceIdeal.Gen.facts) := by
  intro m ρ m' ρ' hpre hag
  have H := fun c => Cert.Attn.holds_of _ _ _ _ _ _ (hpre c)
  refine ⟨_, _, _, Cert.Grid.run_value m ρ _ H, (θ_run _ _ _).mono (fun _ h c => ?_) (Cert.ReferenceIdeal.Value.run (F := Ideal) m' ρ')⟩
  obtain ⟨h75, h73, h77, hargs⟩ := h c
  obtain ⟨a0, a1, a2, a3, a4, a5⟩ := hag c
  have h := H c
  refine ⟨h75.trans ((Cert.ReferenceIdeal.Read.val_main_v75_eq m' c).trans ?_), h73.trans ((Cert.ReferenceIdeal.Read.val_main_v73_eq m' c).trans ?_),
    h77.trans ((Cert.ReferenceIdeal.Read.val_main_v77_eq m' c).trans ?_), hargs⟩
  · rw [a0, a1, a2, a3, a4, a5]
    exact Cert.RefValue.out_kn h
  · rw [a0, a1, a2, a3, a4, a5]
    exact Cert.RefValue.out_kp h
  · rw [a0, a1, a2, a3, a5]
    exact Cert.RefValue.out_v h

theorem claim : Cert.Claim := ⟨Cert.Kernel.Gen.facts, Cert.KernelIdeal.Gen.facts, Cert.ReferenceIdeal.Gen.facts,
  Cert.UpDw.Gen.facts, Cert.UpDwIdeal.Gen.facts, Cert.UpDwReferenceIdeal.Gen.facts,
  Cert.UpDx.Gen.facts, Cert.UpDxIdeal.Gen.facts, Cert.UpDxReferenceIdeal.Gen.facts,
  Cert.UpDxAdd.Gen.facts, Cert.UpDxAddIdeal.Gen.facts, Cert.UpDxAddReferenceIdeal.Gen.facts,
  Cert.DownDw.Gen.facts, Cert.DownDwIdeal.Gen.facts, Cert.DownDwReferenceIdeal.Gen.facts,
  Cert.DownDx.Gen.facts, Cert.DownDxIdeal.Gen.facts, Cert.DownDxReferenceIdeal.Gen.facts,
  Cert.QkvDw.Gen.facts, Cert.QkvDwIdeal.Gen.facts, Cert.QkvDwReferenceIdeal.Gen.facts,
  Cert.QkvDx.Gen.facts, Cert.QkvDxIdeal.Gen.facts, Cert.QkvDxReferenceIdeal.Gen.facts,
  Cert.UpFwd.Gen.facts, Cert.UpFwdIdeal.Gen.facts, Cert.UpFwdReferenceIdeal.Gen.facts,
  Cert.DownFwd.Gen.facts, Cert.DownFwdIdeal.Gen.facts, Cert.DownFwdReferenceIdeal.Gen.facts,
  Cert.QkvFwd.Gen.facts, Cert.QkvFwdIdeal.Gen.facts, Cert.QkvFwdReferenceIdeal.Gen.facts,
  Cert.GbrFwd.Gen.facts, Cert.GbrFwdIdeal.Gen.facts, Cert.GbrFwdReferenceIdeal.Gen.facts,
  Cert.GbrDw.Gen.facts, Cert.GbrDwIdeal.Gen.facts, Cert.GbrDwReferenceIdeal.Gen.facts,
  Cert.GbrDx.Gen.facts, Cert.GbrDxIdeal.Gen.facts, Cert.GbrDxReferenceIdeal.Gen.facts,
  Cert.MixDw.Gen.facts, Cert.MixDwIdeal.Gen.facts, Cert.MixDwReferenceIdeal.Gen.facts,
  Cert.MixDx.Gen.facts, Cert.MixDxIdeal.Gen.facts, Cert.MixDxReferenceIdeal.Gen.facts,
  Cert.OutFwd.Gen.facts, Cert.OutFwdIdeal.Gen.facts, Cert.OutFwdReferenceIdeal.Gen.facts,
  Cert.OutDw.Gen.facts, Cert.OutDwIdeal.Gen.facts, Cert.OutDwReferenceIdeal.Gen.facts,
  Cert.OutDx.Gen.facts, Cert.OutDxIdeal.Gen.facts, Cert.OutDxReferenceIdeal.Gen.facts,
  Cert.GaFwd.Gen.facts, Cert.GaFwdIdeal.Gen.facts, Cert.GaFwdReferenceIdeal.Gen.facts,
  Cert.GaDx.Gen.facts, Cert.GaDxIdeal.Gen.facts, Cert.GaDxReferenceIdeal.Gen.facts,
  Cert.SmallFwd.Gen.facts, Cert.SmallFwdIdeal.Gen.facts, Cert.SmallFwdReferenceIdeal.Gen.facts,
  Cert.SmallDw.Gen.facts, Cert.SmallDwIdeal.Gen.facts, Cert.SmallDwReferenceIdeal.Gen.facts,
  Cert.SmallDx.Gen.facts, Cert.SmallDxIdeal.Gen.facts, Cert.SmallDxReferenceIdeal.Gen.facts,
  Cert.UqFwd.Gen.facts, Cert.UqFwdIdeal.Gen.facts, Cert.UqFwdReferenceIdeal.Gen.facts,
  Cert.UqDw.Gen.facts, Cert.UqDwIdeal.Gen.facts, Cert.UqDwReferenceIdeal.Gen.facts,
  Cert.UqDx.Gen.facts, Cert.UqDxIdeal.Gen.facts, Cert.UqDxReferenceIdeal.Gen.facts,
  Cert.UkvFwd.Gen.facts, Cert.UkvFwdIdeal.Gen.facts, Cert.UkvFwdReferenceIdeal.Gen.facts,
  Cert.UkvDw.Gen.facts, Cert.UkvDwIdeal.Gen.facts, Cert.UkvDwReferenceIdeal.Gen.facts,
  Cert.UkvDx.Gen.facts, Cert.UkvDxIdeal.Gen.facts, Cert.UkvDxReferenceIdeal.Gen.facts,
  Cert.UkvDxAdd.Gen.facts, Cert.UkvDxAddIdeal.Gen.facts, Cert.UkvDxAddReferenceIdeal.Gen.facts,
  Cert.MergeFwd.Gen.facts, Cert.MergeFwdIdeal.Gen.facts, Cert.MergeFwdReferenceIdeal.Gen.facts,
  Cert.MergeBwd.Gen.facts, Cert.MergeBwdIdeal.Gen.facts, Cert.MergeBwdReferenceIdeal.Gen.facts,
  Cert.NormFwd.Gen.facts, Cert.NormFwdIdeal.Gen.facts, Cert.NormFwdReferenceIdeal.Gen.facts,
  Cert.AbFwd.Gen.facts, Cert.AbFwdIdeal.Gen.facts, Cert.AbFwdReferenceIdeal.Gen.facts,
  Cert.AbDw.Gen.facts, Cert.AbDwIdeal.Gen.facts, Cert.AbDwReferenceIdeal.Gen.facts,
  Cert.AbDx.Gen.facts, Cert.AbDxIdeal.Gen.facts, Cert.AbDxReferenceIdeal.Gen.facts,
  Cert.QpFwd.Gen.facts, Cert.QpFwdIdeal.Gen.facts, Cert.QpFwdReferenceIdeal.Gen.facts,
  Cert.UqDxAdd.Gen.facts, Cert.UqDxAddIdeal.Gen.facts, Cert.UqDxAddReferenceIdeal.Gen.facts,
  Cert.AdamIn.Gen.facts, Cert.AdamInIdeal.Gen.facts, Cert.AdamInReferenceIdeal.Gen.facts,
  Cert.AdamQ.Gen.facts, Cert.AdamQIdeal.Gen.facts, Cert.AdamQReferenceIdeal.Gen.facts,
  Cert.AdamC.Gen.facts, Cert.AdamCIdeal.Gen.facts, Cert.AdamCReferenceIdeal.Gen.facts,
  Cert.AdamV.Gen.facts, Cert.AdamVIdeal.Gen.facts, Cert.AdamVReferenceIdeal.Gen.facts,
  Cert.AdamSmall.Gen.facts, Cert.AdamSmallIdeal.Gen.facts, Cert.AdamSmallReferenceIdeal.Gen.facts,
  Cert.RopeFwd.Gen.facts, Cert.RopeFwdIdeal.Gen.facts, Cert.RopeFwdReferenceIdeal.Gen.facts,
  Cert.RopeBwd.Gen.facts, Cert.RopeBwdIdeal.Gen.facts, Cert.RopeBwdReferenceIdeal.Gen.facts,
  Cert.PrepFwd.Gen.facts, Cert.PrepFwdIdeal.Gen.facts, Cert.PrepFwdReferenceIdeal.Gen.facts,
  Cert.GdnOutFwd.Gen.facts, Cert.GdnOutFwdIdeal.Gen.facts, Cert.GdnOutFwdReferenceIdeal.Gen.facts,
  Cert.NormBwd.Gen.facts, Cert.NormBwdIdeal.Gen.facts, Cert.NormBwdReferenceIdeal.Gen.facts,
  facts_finite,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.UpDw.Gen.frame m ρ, fun m ρ _ => Cert.UpDwIdeal.Gen.frame m ρ, Cert.UpDwValue.frame_reference,
  fun m ρ _ => Cert.UpDx.Gen.frame m ρ, fun m ρ _ => Cert.UpDxIdeal.Gen.frame m ρ, Cert.UpDxValue.frame_reference,
  fun m ρ _ => Cert.UpDxAdd.Gen.frame m ρ, fun m ρ _ => Cert.UpDxAddIdeal.Gen.frame m ρ, Cert.UpDxAddValue.frame_reference,
  fun m ρ _ => Cert.DownDw.Gen.frame m ρ, fun m ρ _ => Cert.DownDwIdeal.Gen.frame m ρ, Cert.DownDwValue.frame_reference,
  fun m ρ _ => Cert.DownDx.Gen.frame m ρ, fun m ρ _ => Cert.DownDxIdeal.Gen.frame m ρ, Cert.DownDxValue.frame_reference,
  fun m ρ _ => Cert.QkvDw.Gen.frame m ρ, fun m ρ _ => Cert.QkvDwIdeal.Gen.frame m ρ, Cert.QkvDwValue.frame_reference,
  fun m ρ _ => Cert.QkvDx.Gen.frame m ρ, fun m ρ _ => Cert.QkvDxIdeal.Gen.frame m ρ, Cert.QkvDxValue.frame_reference,
  fun m ρ _ => Cert.UpFwd.Gen.frame m ρ, fun m ρ _ => Cert.UpFwdIdeal.Gen.frame m ρ, Cert.UpFwdValue.frame_reference,
  fun m ρ _ => Cert.DownFwd.Gen.frame m ρ, fun m ρ _ => Cert.DownFwdIdeal.Gen.frame m ρ, Cert.DownFwdValue.frame_reference,
  fun m ρ _ => Cert.QkvFwd.Gen.frame m ρ, fun m ρ _ => Cert.QkvFwdIdeal.Gen.frame m ρ, Cert.QkvFwdValue.frame_reference,
  fun m ρ _ => Cert.GbrFwd.Gen.frame m ρ, fun m ρ _ => Cert.GbrFwdIdeal.Gen.frame m ρ, Cert.GbrFwdValue.frame_reference,
  fun m ρ _ => Cert.GbrDw.Gen.frame m ρ, fun m ρ _ => Cert.GbrDwIdeal.Gen.frame m ρ, Cert.GbrDwValue.frame_reference,
  fun m ρ _ => Cert.GbrDx.Gen.frame m ρ, fun m ρ _ => Cert.GbrDxIdeal.Gen.frame m ρ, Cert.GbrDxValue.frame_reference,
  fun m ρ _ => Cert.MixDw.Gen.frame m ρ, fun m ρ _ => Cert.MixDwIdeal.Gen.frame m ρ, Cert.MixDwValue.frame_reference,
  fun m ρ _ => Cert.MixDx.Gen.frame m ρ, fun m ρ _ => Cert.MixDxIdeal.Gen.frame m ρ, Cert.MixDxValue.frame_reference,
  fun m ρ _ => Cert.OutFwd.Gen.frame m ρ, fun m ρ _ => Cert.OutFwdIdeal.Gen.frame m ρ, Cert.OutFwdValue.frame_reference,
  fun m ρ _ => Cert.OutDw.Gen.frame m ρ, fun m ρ _ => Cert.OutDwIdeal.Gen.frame m ρ, Cert.OutDwValue.frame_reference,
  fun m ρ _ => Cert.OutDx.Gen.frame m ρ, fun m ρ _ => Cert.OutDxIdeal.Gen.frame m ρ, Cert.OutDxValue.frame_reference,
  fun m ρ _ => Cert.GaFwd.Gen.frame m ρ, fun m ρ _ => Cert.GaFwdIdeal.Gen.frame m ρ, Cert.GaFwdValue.frame_reference,
  fun m ρ _ => Cert.GaDx.Gen.frame m ρ, fun m ρ _ => Cert.GaDxIdeal.Gen.frame m ρ, Cert.GaDxValue.frame_reference,
  fun m ρ _ => Cert.SmallFwd.Gen.frame m ρ, fun m ρ _ => Cert.SmallFwdIdeal.Gen.frame m ρ, Cert.SmallFwdValue.frame_reference,
  fun m ρ _ => Cert.SmallDw.Gen.frame m ρ, fun m ρ _ => Cert.SmallDwIdeal.Gen.frame m ρ, Cert.SmallDwValue.frame_reference,
  fun m ρ _ => Cert.SmallDx.Gen.frame m ρ, fun m ρ _ => Cert.SmallDxIdeal.Gen.frame m ρ, Cert.SmallDxValue.frame_reference,
  fun m ρ _ => Cert.UqFwd.Gen.frame m ρ, fun m ρ _ => Cert.UqFwdIdeal.Gen.frame m ρ, Cert.UqFwdValue.frame_reference,
  fun m ρ _ => Cert.UqDw.Gen.frame m ρ, fun m ρ _ => Cert.UqDwIdeal.Gen.frame m ρ, Cert.UqDwValue.frame_reference,
  fun m ρ _ => Cert.UqDx.Gen.frame m ρ, fun m ρ _ => Cert.UqDxIdeal.Gen.frame m ρ, Cert.UqDxValue.frame_reference,
  fun m ρ _ => Cert.UkvFwd.Gen.frame m ρ, fun m ρ _ => Cert.UkvFwdIdeal.Gen.frame m ρ, Cert.UkvFwdValue.frame_reference,
  fun m ρ _ => Cert.UkvDw.Gen.frame m ρ, fun m ρ _ => Cert.UkvDwIdeal.Gen.frame m ρ, Cert.UkvDwValue.frame_reference,
  fun m ρ _ => Cert.UkvDx.Gen.frame m ρ, fun m ρ _ => Cert.UkvDxIdeal.Gen.frame m ρ, Cert.UkvDxValue.frame_reference,
  fun m ρ _ => Cert.UkvDxAdd.Gen.frame m ρ, fun m ρ _ => Cert.UkvDxAddIdeal.Gen.frame m ρ, Cert.UkvDxAddValue.frame_reference,
  fun m ρ _ => Cert.MergeFwd.Gen.frame m ρ, fun m ρ _ => Cert.MergeFwdIdeal.Gen.frame m ρ, Cert.MergeFwdValue.frame_reference,
  fun m ρ _ => Cert.MergeBwd.Gen.frame m ρ, fun m ρ _ => Cert.MergeBwdIdeal.Gen.frame m ρ, Cert.MergeBwdValue.frame_reference,
  fun m ρ _ => Cert.NormFwd.Gen.frame m ρ, fun m ρ _ => Cert.NormFwdIdeal.Gen.frame m ρ, Cert.NormFwdValue.frame_reference,
  fun m ρ _ => Cert.AbFwd.Gen.frame m ρ, fun m ρ _ => Cert.AbFwdIdeal.Gen.frame m ρ, Cert.AbFwdValue.frame_reference,
  fun m ρ _ => Cert.AbDw.Gen.frame m ρ, fun m ρ _ => Cert.AbDwIdeal.Gen.frame m ρ, Cert.AbDwValue.frame_reference,
  fun m ρ _ => Cert.AbDx.Gen.frame m ρ, fun m ρ _ => Cert.AbDxIdeal.Gen.frame m ρ, Cert.AbDxValue.frame_reference,
  fun m ρ _ => Cert.QpFwd.Gen.frame m ρ, fun m ρ _ => Cert.QpFwdIdeal.Gen.frame m ρ, Cert.QpFwdValue.frame_reference,
  fun m ρ _ => Cert.UqDxAdd.Gen.frame m ρ, fun m ρ _ => Cert.UqDxAddIdeal.Gen.frame m ρ, Cert.UqDxAddValue.frame_reference,
  fun m ρ _ => Cert.AdamIn.Gen.frame m ρ, fun m ρ _ => Cert.AdamInIdeal.Gen.frame m ρ, Cert.AdamInValue.frame_reference,
  fun m ρ _ => Cert.AdamQ.Gen.frame m ρ, fun m ρ _ => Cert.AdamQIdeal.Gen.frame m ρ, Cert.AdamQValue.frame_reference,
  fun m ρ _ => Cert.AdamC.Gen.frame m ρ, fun m ρ _ => Cert.AdamCIdeal.Gen.frame m ρ, Cert.AdamCValue.frame_reference,
  fun m ρ _ => Cert.AdamV.Gen.frame m ρ, fun m ρ _ => Cert.AdamVIdeal.Gen.frame m ρ, Cert.AdamVValue.frame_reference,
  fun m ρ _ => Cert.AdamSmall.Gen.frame m ρ, fun m ρ _ => Cert.AdamSmallIdeal.Gen.frame m ρ, Cert.AdamSmallValue.frame_reference,
  fun m ρ _ => Cert.RopeFwd.Gen.frame m ρ, fun m ρ _ => Cert.RopeFwdIdeal.Gen.frame m ρ, Cert.RopeFwdValue.frame_reference,
  fun m ρ _ => Cert.RopeBwd.Gen.frame m ρ, fun m ρ _ => Cert.RopeBwdIdeal.Gen.frame m ρ, Cert.RopeBwdValue.frame_reference,
  fun m ρ _ => Cert.PrepFwd.Gen.frame m ρ, fun m ρ _ => Cert.PrepFwdIdeal.Gen.frame m ρ, Cert.PrepFwdValue.frame_reference,
  fun m ρ _ => Cert.GdnOutFwd.Gen.frame m ρ, fun m ρ _ => Cert.GdnOutFwdIdeal.Gen.frame m ρ, Cert.GdnOutFwdValue.frame_reference,
  fun m ρ _ => Cert.NormBwd.Gen.frame m ρ, fun m ρ _ => Cert.NormBwdIdeal.Gen.frame m ρ, Cert.NormBwdValue.frame_reference,
  trivial, @gradients facts_finite,
  trivial, Cert.UpDwValue.value,
  trivial, Cert.UpDxValue.value,
  trivial, Cert.UpDxAddValue.value,
  trivial, Cert.DownDwValue.value,
  trivial, Cert.DownDxValue.value,
  trivial, Cert.QkvDwValue.value,
  trivial, Cert.QkvDxValue.value,
  trivial, Cert.UpFwdValue.value,
  trivial, Cert.DownFwdValue.value,
  trivial, Cert.QkvFwdValue.value,
  trivial, Cert.GbrFwdValue.value,
  trivial, Cert.GbrDwValue.value,
  trivial, Cert.GbrDxValue.value,
  trivial, Cert.MixDwValue.value,
  trivial, Cert.MixDxValue.value,
  trivial, Cert.OutFwdValue.value,
  trivial, Cert.OutDwValue.value,
  trivial, Cert.OutDxValue.value,
  trivial, Cert.GaFwdValue.value,
  trivial, Cert.GaDxValue.value,
  trivial, Cert.SmallFwdValue.value,
  trivial, Cert.SmallDwValue.value,
  trivial, Cert.SmallDxValue.value,
  trivial, Cert.UqFwdValue.value,
  trivial, Cert.UqDwValue.value,
  trivial, Cert.UqDxValue.value,
  trivial, Cert.UkvFwdValue.value,
  trivial, Cert.UkvDwValue.value,
  trivial, Cert.UkvDxValue.value,
  trivial, Cert.UkvDxAddValue.value,
  trivial, Cert.MergeFwdValue.value,
  trivial, Cert.MergeBwdValue.value,
  trivial, Cert.NormFwdValue.value,
  trivial, Cert.AbFwdValue.value,
  trivial, Cert.AbDwValue.value,
  trivial, Cert.AbDxValue.value,
  trivial, Cert.QpFwdValue.value,
  trivial, Cert.UqDxAddValue.value,
  trivial, Cert.AdamInValue.value,
  trivial, Cert.AdamQValue.value,
  trivial, Cert.AdamCValue.value,
  trivial, Cert.AdamVValue.value,
  trivial, Cert.AdamSmallValue.value,
  trivial, Cert.RopeFwdValue.value,
  trivial, Cert.RopeBwdValue.value,
  trivial, Cert.PrepFwdValue.value,
  trivial, Cert.GdnOutFwdValue.value,
  trivial, Cert.NormBwdValue.value⟩

end Cert.Proof

end
